-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DactK (m : (ℓ : Loc Cert.DactK.nD Cert.DactK.τ Cert.DactK.sig) → Buf (Elt Bits) ℓ) : Prop :=
  True

def Pre_DactKIdeal (m : (ℓ : Loc Cert.DactKIdeal.nD Cert.DactKIdeal.τ Cert.DactKIdeal.sig) → Buf (Elt Ideal) ℓ) : Prop :=
  True

def Pre_DactRIdeal (m : (ℓ : Loc Cert.DactRIdeal.nD Cert.DactRIdeal.τ Cert.DactRIdeal.sig) → Buf (Elt Ideal) ℓ) : Prop :=
  True

def Pre_GupK (m : (ℓ : Loc Cert.GupK.nD Cert.GupK.τ Cert.GupK.sig) → Buf (Elt Bits) ℓ) : Prop :=
  True

def Pre_GupKIdeal (m : (ℓ : Loc Cert.GupKIdeal.nD Cert.GupKIdeal.τ Cert.GupKIdeal.sig) → Buf (Elt Ideal) ℓ) : Prop :=
  True

def Pre_GupRIdeal (m : (ℓ : Loc Cert.GupRIdeal.nD Cert.GupRIdeal.τ Cert.GupRIdeal.sig) → Buf (Elt Ideal) ℓ) : Prop :=
  True

def Pre_DuTwoK (m : (ℓ : Loc Cert.DuTwoK.nD Cert.DuTwoK.τ Cert.DuTwoK.sig) → Buf (Elt Bits) ℓ) : Prop :=
  True

def Pre_DuTwoKIdeal (m : (ℓ : Loc Cert.DuTwoKIdeal.nD Cert.DuTwoKIdeal.τ Cert.DuTwoKIdeal.sig) → Buf (Elt Ideal) ℓ) : Prop :=
  True

def Pre_DuTwoRIdeal (m : (ℓ : Loc Cert.DuTwoRIdeal.nD Cert.DuTwoRIdeal.τ Cert.DuTwoRIdeal.sig) → Buf (Elt Ideal) ℓ) : Prop :=
  True

def Pre_GdownK (m : (ℓ : Loc Cert.GdownK.nD Cert.GdownK.τ Cert.GdownK.sig) → Buf (Elt Bits) ℓ) : Prop :=
  True

def Pre_GdownKIdeal (m : (ℓ : Loc Cert.GdownKIdeal.nD Cert.GdownKIdeal.τ Cert.GdownKIdeal.sig) → Buf (Elt Ideal) ℓ) : Prop :=
  True

def Pre_GdownRIdeal (m : (ℓ : Loc Cert.GdownRIdeal.nD Cert.GdownRIdeal.τ Cert.GdownRIdeal.sig) → Buf (Elt Ideal) ℓ) : Prop :=
  True

def Pre_GoutK (m : (ℓ : Loc Cert.GoutK.nD Cert.GoutK.τ Cert.GoutK.sig) → Buf (Elt Bits) ℓ) : Prop :=
  True

def Pre_GoutKIdeal (m : (ℓ : Loc Cert.GoutKIdeal.nD Cert.GoutKIdeal.τ Cert.GoutKIdeal.sig) → Buf (Elt Ideal) ℓ) : Prop :=
  True

def Pre_GoutRIdeal (m : (ℓ : Loc Cert.GoutRIdeal.nD Cert.GoutRIdeal.τ Cert.GoutRIdeal.sig) → Buf (Elt Ideal) ℓ) : Prop :=
  True

def Pre_GraK (m : (ℓ : Loc Cert.GraK.nD Cert.GraK.τ Cert.GraK.sig) → Buf (Elt Bits) ℓ) : Prop :=
  True

def Pre_GraKIdeal (m : (ℓ : Loc Cert.GraKIdeal.nD Cert.GraKIdeal.τ Cert.GraKIdeal.sig) → Buf (Elt Ideal) ℓ) : Prop :=
  True

def Pre_GraRIdeal (m : (ℓ : Loc Cert.GraRIdeal.nD Cert.GraRIdeal.τ Cert.GraRIdeal.sig) → Buf (Elt Ideal) ℓ) : Prop :=
  True

def Pre_UpK (m : (ℓ : Loc Cert.UpK.nD Cert.UpK.τ Cert.UpK.sig) → Buf (Elt Bits) ℓ) : Prop :=
  True

def Pre_UpKIdeal (m : (ℓ : Loc Cert.UpKIdeal.nD Cert.UpKIdeal.τ Cert.UpKIdeal.sig) → Buf (Elt Ideal) ℓ) : Prop :=
  True

def Pre_UpRIdeal (m : (ℓ : Loc Cert.UpRIdeal.nD Cert.UpRIdeal.τ Cert.UpRIdeal.sig) → Buf (Elt Ideal) ℓ) : Prop :=
  True

def Pre_InRwkvK (m : (ℓ : Loc Cert.InRwkvK.nD Cert.InRwkvK.τ Cert.InRwkvK.sig) → Buf (Elt Bits) ℓ) : Prop :=
  True

def Pre_InRwkvKIdeal (m : (ℓ : Loc Cert.InRwkvKIdeal.nD Cert.InRwkvKIdeal.τ Cert.InRwkvKIdeal.sig) → Buf (Elt Ideal) ℓ) : Prop :=
  True

def Pre_InRwkvRIdeal (m : (ℓ : Loc Cert.InRwkvRIdeal.nD Cert.InRwkvRIdeal.τ Cert.InRwkvRIdeal.sig) → Buf (Elt Ideal) ℓ) : Prop :=
  True

def Pre_InQkvK (m : (ℓ : Loc Cert.InQkvK.nD Cert.InQkvK.τ Cert.InQkvK.sig) → Buf (Elt Bits) ℓ) : Prop :=
  True

def Pre_InQkvKIdeal (m : (ℓ : Loc Cert.InQkvKIdeal.nD Cert.InQkvKIdeal.τ Cert.InQkvKIdeal.sig) → Buf (Elt Ideal) ℓ) : Prop :=
  True

def Pre_InQkvRIdeal (m : (ℓ : Loc Cert.InQkvRIdeal.nD Cert.InQkvRIdeal.τ Cert.InQkvRIdeal.sig) → Buf (Elt Ideal) ℓ) : Prop :=
  True

def Pre_InZzK (m : (ℓ : Loc Cert.InZzK.nD Cert.InZzK.τ Cert.InZzK.sig) → Buf (Elt Bits) ℓ) : Prop :=
  True

def Pre_InZzKIdeal (m : (ℓ : Loc Cert.InZzKIdeal.nD Cert.InZzKIdeal.τ Cert.InZzKIdeal.sig) → Buf (Elt Ideal) ℓ) : Prop :=
  True

def Pre_InZzRIdeal (m : (ℓ : Loc Cert.InZzRIdeal.nD Cert.InZzRIdeal.τ Cert.InZzRIdeal.sig) → Buf (Elt Ideal) ℓ) : Prop :=
  True

def Pre_InGatesK (m : (ℓ : Loc Cert.InGatesK.nD Cert.InGatesK.τ Cert.InGatesK.sig) → Buf (Elt Bits) ℓ) : Prop :=
  True

def Pre_InGatesKIdeal (m : (ℓ : Loc Cert.InGatesKIdeal.nD Cert.InGatesKIdeal.τ Cert.InGatesKIdeal.sig) → Buf (Elt Ideal) ℓ) : Prop :=
  True

def Pre_InGatesRIdeal (m : (ℓ : Loc Cert.InGatesRIdeal.nD Cert.InGatesRIdeal.τ Cert.InGatesRIdeal.sig) → Buf (Elt Ideal) ℓ) : Prop :=
  True

def Pre_InAbK (m : (ℓ : Loc Cert.InAbK.nD Cert.InAbK.τ Cert.InAbK.sig) → Buf (Elt Bits) ℓ) : Prop :=
  True

def Pre_InAbKIdeal (m : (ℓ : Loc Cert.InAbKIdeal.nD Cert.InAbKIdeal.τ Cert.InAbKIdeal.sig) → Buf (Elt Ideal) ℓ) : Prop :=
  True

def Pre_InAbRIdeal (m : (ℓ : Loc Cert.InAbRIdeal.nD Cert.InAbRIdeal.τ Cert.InAbRIdeal.sig) → Buf (Elt Ideal) ℓ) : Prop :=
  True

def Pre_DuK (m : (ℓ : Loc Cert.DuK.nD Cert.DuK.τ Cert.DuK.sig) → Buf (Elt Bits) ℓ) : Prop :=
  True

def Pre_DuKIdeal (m : (ℓ : Loc Cert.DuKIdeal.nD Cert.DuKIdeal.τ Cert.DuKIdeal.sig) → Buf (Elt Ideal) ℓ) : Prop :=
  True

def Pre_DuRIdeal (m : (ℓ : Loc Cert.DuRIdeal.nD Cert.DuRIdeal.τ Cert.DuRIdeal.sig) → Buf (Elt Ideal) ℓ) : Prop :=
  True

def Pre_GwaK (m : (ℓ : Loc Cert.GwaK.nD Cert.GwaK.τ Cert.GwaK.sig) → Buf (Elt Bits) ℓ) : Prop :=
  True

def Pre_GwaKIdeal (m : (ℓ : Loc Cert.GwaKIdeal.nD Cert.GwaKIdeal.τ Cert.GwaKIdeal.sig) → Buf (Elt Ideal) ℓ) : Prop :=
  True

def Pre_GwaRIdeal (m : (ℓ : Loc Cert.GwaRIdeal.nD Cert.GwaRIdeal.τ Cert.GwaRIdeal.sig) → Buf (Elt Ideal) ℓ) : Prop :=
  True

def Pre_GwbK (m : (ℓ : Loc Cert.GwbK.nD Cert.GwbK.τ Cert.GwbK.sig) → Buf (Elt Bits) ℓ) : Prop :=
  True

def Pre_GwbKIdeal (m : (ℓ : Loc Cert.GwbKIdeal.nD Cert.GwbKIdeal.τ Cert.GwbKIdeal.sig) → Buf (Elt Ideal) ℓ) : Prop :=
  True

def Pre_GwbRIdeal (m : (ℓ : Loc Cert.GwbRIdeal.nD Cert.GwbRIdeal.τ Cert.GwbRIdeal.sig) → Buf (Elt Ideal) ℓ) : Prop :=
  True

def Pre_Norm1K (m : (ℓ : Loc Cert.Norm1K.nD Cert.Norm1K.τ Cert.Norm1K.sig) → Buf (Elt Bits) ℓ) : Prop :=
  True

def Pre_Norm1KIdeal (m : (ℓ : Loc Cert.Norm1KIdeal.nD Cert.Norm1KIdeal.τ Cert.Norm1KIdeal.sig) → Buf (Elt Ideal) ℓ) : Prop :=
  True

def Pre_Norm1RIdeal (m : (ℓ : Loc Cert.Norm1RIdeal.nD Cert.Norm1RIdeal.τ Cert.Norm1RIdeal.sig) → Buf (Elt Ideal) ℓ) : Prop :=
  True

def Pre_AdWinK (m : (ℓ : Loc Cert.AdWinK.nD Cert.AdWinK.τ Cert.AdWinK.sig) → Buf (Elt Bits) ℓ) : Prop :=
  True

def Pre_AdWinKIdeal (m : (ℓ : Loc Cert.AdWinKIdeal.nD Cert.AdWinKIdeal.τ Cert.AdWinKIdeal.sig) → Buf (Elt Ideal) ℓ) : Prop :=
  True

def Pre_AdWinRIdeal (m : (ℓ : Loc Cert.AdWinRIdeal.nD Cert.AdWinRIdeal.τ Cert.AdWinRIdeal.sig) → Buf (Elt Ideal) ℓ) : Prop :=
  True

def Pre_AdProjK (m : (ℓ : Loc Cert.AdProjK.nD Cert.AdProjK.τ Cert.AdProjK.sig) → Buf (Elt Bits) ℓ) : Prop :=
  True

def Pre_AdProjKIdeal (m : (ℓ : Loc Cert.AdProjKIdeal.nD Cert.AdProjKIdeal.τ Cert.AdProjKIdeal.sig) → Buf (Elt Ideal) ℓ) : Prop :=
  True

def Pre_AdProjRIdeal (m : (ℓ : Loc Cert.AdProjRIdeal.nD Cert.AdProjRIdeal.τ Cert.AdProjRIdeal.sig) → Buf (Elt Ideal) ℓ) : Prop :=
  True

def Pre_AdOutK (m : (ℓ : Loc Cert.AdOutK.nD Cert.AdOutK.τ Cert.AdOutK.sig) → Buf (Elt Bits) ℓ) : Prop :=
  True

def Pre_AdOutKIdeal (m : (ℓ : Loc Cert.AdOutKIdeal.nD Cert.AdOutKIdeal.τ Cert.AdOutKIdeal.sig) → Buf (Elt Ideal) ℓ) : Prop :=
  True

def Pre_AdOutRIdeal (m : (ℓ : Loc Cert.AdOutRIdeal.nD Cert.AdOutRIdeal.τ Cert.AdOutRIdeal.sig) → Buf (Elt Ideal) ℓ) : Prop :=
  True

def Pre_AdUpK (m : (ℓ : Loc Cert.AdUpK.nD Cert.AdUpK.τ Cert.AdUpK.sig) → Buf (Elt Bits) ℓ) : Prop :=
  True

def Pre_AdUpKIdeal (m : (ℓ : Loc Cert.AdUpKIdeal.nD Cert.AdUpKIdeal.τ Cert.AdUpKIdeal.sig) → Buf (Elt Ideal) ℓ) : Prop :=
  True

def Pre_AdUpRIdeal (m : (ℓ : Loc Cert.AdUpRIdeal.nD Cert.AdUpRIdeal.τ Cert.AdUpRIdeal.sig) → Buf (Elt Ideal) ℓ) : Prop :=
  True

def Pre_AdDownK (m : (ℓ : Loc Cert.AdDownK.nD Cert.AdDownK.τ Cert.AdDownK.sig) → Buf (Elt Bits) ℓ) : Prop :=
  True

def Pre_AdDownKIdeal (m : (ℓ : Loc Cert.AdDownKIdeal.nD Cert.AdDownKIdeal.τ Cert.AdDownKIdeal.sig) → Buf (Elt Ideal) ℓ) : Prop :=
  True

def Pre_AdDownRIdeal (m : (ℓ : Loc Cert.AdDownRIdeal.nD Cert.AdDownRIdeal.τ Cert.AdDownRIdeal.sig) → Buf (Elt Ideal) ℓ) : Prop :=
  True

def Pre_AdSmallK (m : (ℓ : Loc Cert.AdSmallK.nD Cert.AdSmallK.τ Cert.AdSmallK.sig) → Buf (Elt Bits) ℓ) : Prop :=
  True

def Pre_AdSmallKIdeal (m : (ℓ : Loc Cert.AdSmallKIdeal.nD Cert.AdSmallKIdeal.τ Cert.AdSmallKIdeal.sig) → Buf (Elt Ideal) ℓ) : Prop :=
  True

def Pre_AdSmallRIdeal (m : (ℓ : Loc Cert.AdSmallRIdeal.nD Cert.AdSmallRIdeal.τ Cert.AdSmallRIdeal.sig) → Buf (Elt Ideal) ℓ) : Prop :=
  True

def Pre_FdownK (m : (ℓ : Loc Cert.FdownK.nD Cert.FdownK.τ Cert.FdownK.sig) → Buf (Elt Bits) ℓ) : Prop :=
  True

def Pre_FdownKIdeal (m : (ℓ : Loc Cert.FdownKIdeal.nD Cert.FdownKIdeal.τ Cert.FdownKIdeal.sig) → Buf (Elt Ideal) ℓ) : Prop :=
  True

def Pre_FdownRIdeal (m : (ℓ : Loc Cert.FdownRIdeal.nD Cert.FdownRIdeal.τ Cert.FdownRIdeal.sig) → Buf (Elt Ideal) ℓ) : Prop :=
  True

def Pre_WoutK (m : (ℓ : Loc Cert.WoutK.nD Cert.WoutK.τ Cert.WoutK.sig) → Buf (Elt Bits) ℓ) : Prop :=
  True

def Pre_WoutKIdeal (m : (ℓ : Loc Cert.WoutKIdeal.nD Cert.WoutKIdeal.τ Cert.WoutKIdeal.sig) → Buf (Elt Ideal) ℓ) : Prop :=
  True

def Pre_WoutRIdeal (m : (ℓ : Loc Cert.WoutRIdeal.nD Cert.WoutRIdeal.τ Cert.WoutRIdeal.sig) → Buf (Elt Ideal) ℓ) : Prop :=
  True

def Pre_GdgK (m : (ℓ : Loc Cert.GdgK.nD Cert.GdgK.τ Cert.GdgK.sig) → Buf (Elt Bits) ℓ) : Prop :=
  True

def Pre_GdgKIdeal (m : (ℓ : Loc Cert.GdgKIdeal.nD Cert.GdgKIdeal.τ Cert.GdgKIdeal.sig) → Buf (Elt Ideal) ℓ) : Prop :=
  True

def Pre_GdgKIdeal_finite_gate [hPre_finite_gate : Cert.Pre_finite_gate.Facts] (m : (ℓ : Loc Cert.GdgKIdeal.nD Cert.GdgKIdeal.τ Cert.GdgKIdeal.sig) → Buf (Elt Ideal) ℓ) : Prop :=
  ∀ c : Dev Cert.GdgKIdeal.nD,
    (Cert.Pre_finite_gate.fn (F := Ideal) (m ((c.tc : Thread Cert.GdgKIdeal.nD Cert.GdgKIdeal.τ).loc Cert.GdgKIdeal.main_arg0)) (m ((c.tc : Thread Cert.GdgKIdeal.nD Cert.GdgKIdeal.τ).loc Cert.GdgKIdeal.main_arg1)) (m ((c.tc : Thread Cert.GdgKIdeal.nD Cert.GdgKIdeal.τ).loc Cert.GdgKIdeal.main_arg2)) (m ((c.tc : Thread Cert.GdgKIdeal.nD Cert.GdgKIdeal.τ).loc Cert.GdgKIdeal.main_arg3))).1 = (fun _ => 1#1)
    ∧ (Cert.Pre_finite_gate.fn (F := Ideal) (m ((c.tc : Thread Cert.GdgKIdeal.nD Cert.GdgKIdeal.τ).loc Cert.GdgKIdeal.main_arg0)) (m ((c.tc : Thread Cert.GdgKIdeal.nD Cert.GdgKIdeal.τ).loc Cert.GdgKIdeal.main_arg1)) (m ((c.tc : Thread Cert.GdgKIdeal.nD Cert.GdgKIdeal.τ).loc Cert.GdgKIdeal.main_arg2)) (m ((c.tc : Thread Cert.GdgKIdeal.nD Cert.GdgKIdeal.τ).loc Cert.GdgKIdeal.main_arg3))).2.1 = (fun _ => 1#1)
    ∧ (Cert.Pre_finite_gate.fn (F := Ideal) (m ((c.tc : Thread Cert.GdgKIdeal.nD Cert.GdgKIdeal.τ).loc Cert.GdgKIdeal.main_arg0)) (m ((c.tc : Thread Cert.GdgKIdeal.nD Cert.GdgKIdeal.τ).loc Cert.GdgKIdeal.main_arg1)) (m ((c.tc : Thread Cert.GdgKIdeal.nD Cert.GdgKIdeal.τ).loc Cert.GdgKIdeal.main_arg2)) (m ((c.tc : Thread Cert.GdgKIdeal.nD Cert.GdgKIdeal.τ).loc Cert.GdgKIdeal.main_arg3))).2.2.1 = (fun _ => 1#1)
    ∧ (Cert.Pre_finite_gate.fn (F := Ideal) (m ((c.tc : Thread Cert.GdgKIdeal.nD Cert.GdgKIdeal.τ).loc Cert.GdgKIdeal.main_arg0)) (m ((c.tc : Thread Cert.GdgKIdeal.nD Cert.GdgKIdeal.τ).loc Cert.GdgKIdeal.main_arg1)) (m ((c.tc : Thread Cert.GdgKIdeal.nD Cert.GdgKIdeal.τ).loc Cert.GdgKIdeal.main_arg2)) (m ((c.tc : Thread Cert.GdgKIdeal.nD Cert.GdgKIdeal.τ).loc Cert.GdgKIdeal.main_arg3))).2.2.2 = (fun _ => 1#1)

def Pre_GdgRIdeal (m : (ℓ : Loc Cert.GdgRIdeal.nD Cert.GdgRIdeal.τ Cert.GdgRIdeal.sig) → Buf (Elt Ideal) ℓ) : Prop :=
  True

def Pre_GdgRIdeal_finite_gate [hPre_finite_gate : Cert.Pre_finite_gate.Facts] (m : (ℓ : Loc Cert.GdgRIdeal.nD Cert.GdgRIdeal.τ Cert.GdgRIdeal.sig) → Buf (Elt Ideal) ℓ) : Prop :=
  ∀ c : Dev Cert.GdgRIdeal.nD,
    (Cert.Pre_finite_gate.fn (F := Ideal) (m ((c.tc : Thread Cert.GdgRIdeal.nD Cert.GdgRIdeal.τ).loc Cert.GdgRIdeal.main_arg0)) (m ((c.tc : Thread Cert.GdgRIdeal.nD Cert.GdgRIdeal.τ).loc Cert.GdgRIdeal.main_arg1)) (m ((c.tc : Thread Cert.GdgRIdeal.nD Cert.GdgRIdeal.τ).loc Cert.GdgRIdeal.main_arg2)) (m ((c.tc : Thread Cert.GdgRIdeal.nD Cert.GdgRIdeal.τ).loc Cert.GdgRIdeal.main_arg3))).1 = (fun _ => 1#1)
    ∧ (Cert.Pre_finite_gate.fn (F := Ideal) (m ((c.tc : Thread Cert.GdgRIdeal.nD Cert.GdgRIdeal.τ).loc Cert.GdgRIdeal.main_arg0)) (m ((c.tc : Thread Cert.GdgRIdeal.nD Cert.GdgRIdeal.τ).loc Cert.GdgRIdeal.main_arg1)) (m ((c.tc : Thread Cert.GdgRIdeal.nD Cert.GdgRIdeal.τ).loc Cert.GdgRIdeal.main_arg2)) (m ((c.tc : Thread Cert.GdgRIdeal.nD Cert.GdgRIdeal.τ).loc Cert.GdgRIdeal.main_arg3))).2.1 = (fun _ => 1#1)
    ∧ (Cert.Pre_finite_gate.fn (F := Ideal) (m ((c.tc : Thread Cert.GdgRIdeal.nD Cert.GdgRIdeal.τ).loc Cert.GdgRIdeal.main_arg0)) (m ((c.tc : Thread Cert.GdgRIdeal.nD Cert.GdgRIdeal.τ).loc Cert.GdgRIdeal.main_arg1)) (m ((c.tc : Thread Cert.GdgRIdeal.nD Cert.GdgRIdeal.τ).loc Cert.GdgRIdeal.main_arg2)) (m ((c.tc : Thread Cert.GdgRIdeal.nD Cert.GdgRIdeal.τ).loc Cert.GdgRIdeal.main_arg3))).2.2.1 = (fun _ => 1#1)
    ∧ (Cert.Pre_finite_gate.fn (F := Ideal) (m ((c.tc : Thread Cert.GdgRIdeal.nD Cert.GdgRIdeal.τ).loc Cert.GdgRIdeal.main_arg0)) (m ((c.tc : Thread Cert.GdgRIdeal.nD Cert.GdgRIdeal.τ).loc Cert.GdgRIdeal.main_arg1)) (m ((c.tc : Thread Cert.GdgRIdeal.nD Cert.GdgRIdeal.τ).loc Cert.GdgRIdeal.main_arg2)) (m ((c.tc : Thread Cert.GdgRIdeal.nD Cert.GdgRIdeal.τ).loc Cert.GdgRIdeal.main_arg3))).2.2.2 = (fun _ => 1#1)

def Pre_GprepK (m : (ℓ : Loc Cert.GprepK.nD Cert.GprepK.τ Cert.GprepK.sig) → Buf (Elt Bits) ℓ) : Prop :=
  True

def Pre_GprepKIdeal (m : (ℓ : Loc Cert.GprepKIdeal.nD Cert.GprepKIdeal.τ Cert.GprepKIdeal.sig) → Buf (Elt Ideal) ℓ) : Prop :=
  True

def Pre_GprepRIdeal (m : (ℓ : Loc Cert.GprepRIdeal.nD Cert.GprepRIdeal.τ Cert.GprepRIdeal.sig) → Buf (Elt Ideal) ℓ) : Prop :=
  True

def Pre_FactK (m : (ℓ : Loc Cert.FactK.nD Cert.FactK.τ Cert.FactK.sig) → Buf (Elt Bits) ℓ) : Prop :=
  True

def Pre_FactKIdeal (m : (ℓ : Loc Cert.FactKIdeal.nD Cert.FactKIdeal.τ Cert.FactKIdeal.sig) → Buf (Elt Ideal) ℓ) : Prop :=
  True

def Pre_FactRIdeal (m : (ℓ : Loc Cert.FactRIdeal.nD Cert.FactRIdeal.τ Cert.FactRIdeal.sig) → Buf (Elt Ideal) ℓ) : Prop :=
  True

def Pre_GdnK (m : (ℓ : Loc Cert.GdnK.nD Cert.GdnK.τ Cert.GdnK.sig) → Buf (Elt Bits) ℓ) : Prop :=
  True

def Pre_GdnKIdeal (m : (ℓ : Loc Cert.GdnKIdeal.nD Cert.GdnKIdeal.τ Cert.GdnKIdeal.sig) → Buf (Elt Ideal) ℓ) : Prop :=
  True

def Pre_DybK (m : (ℓ : Loc Cert.DybK.nD Cert.DybK.τ Cert.DybK.sig) → Buf (Elt Bits) ℓ) : Prop :=
  True

def Pre_DybKIdeal (m : (ℓ : Loc Cert.DybKIdeal.nD Cert.DybKIdeal.τ Cert.DybKIdeal.sig) → Buf (Elt Ideal) ℓ) : Prop :=
  True

def Pre_DybKIdeal_finite_dybin [hPre_finite_dybin : Cert.Pre_finite_dybin.Facts] (m : (ℓ : Loc Cert.DybKIdeal.nD Cert.DybKIdeal.τ Cert.DybKIdeal.sig) → Buf (Elt Ideal) ℓ) : Prop :=
  ∀ c : Dev Cert.DybKIdeal.nD,
    (Cert.Pre_finite_dybin.fn (F := Ideal) (m ((c.tc : Thread Cert.DybKIdeal.nD Cert.DybKIdeal.τ).loc Cert.DybKIdeal.main_arg0)) (m ((c.tc : Thread Cert.DybKIdeal.nD Cert.DybKIdeal.τ).loc Cert.DybKIdeal.main_arg1)) (m ((c.tc : Thread Cert.DybKIdeal.nD Cert.DybKIdeal.τ).loc Cert.DybKIdeal.main_arg2)) (m ((c.tc : Thread Cert.DybKIdeal.nD Cert.DybKIdeal.τ).loc Cert.DybKIdeal.main_arg3)) (m ((c.tc : Thread Cert.DybKIdeal.nD Cert.DybKIdeal.τ).loc Cert.DybKIdeal.main_arg4))).1 = (fun _ => 1#1)
    ∧ (Cert.Pre_finite_dybin.fn (F := Ideal) (m ((c.tc : Thread Cert.DybKIdeal.nD Cert.DybKIdeal.τ).loc Cert.DybKIdeal.main_arg0)) (m ((c.tc : Thread Cert.DybKIdeal.nD Cert.DybKIdeal.τ).loc Cert.DybKIdeal.main_arg1)) (m ((c.tc : Thread Cert.DybKIdeal.nD Cert.DybKIdeal.τ).loc Cert.DybKIdeal.main_arg2)) (m ((c.tc : Thread Cert.DybKIdeal.nD Cert.DybKIdeal.τ).loc Cert.DybKIdeal.main_arg3)) (m ((c.tc : Thread Cert.DybKIdeal.nD Cert.DybKIdeal.τ).loc Cert.DybKIdeal.main_arg4))).2.1 = (fun _ => 1#1)
    ∧ (Cert.Pre_finite_dybin.fn (F := Ideal) (m ((c.tc : Thread Cert.DybKIdeal.nD Cert.DybKIdeal.τ).loc Cert.DybKIdeal.main_arg0)) (m ((c.tc : Thread Cert.DybKIdeal.nD Cert.DybKIdeal.τ).loc Cert.DybKIdeal.main_arg1)) (m ((c.tc : Thread Cert.DybKIdeal.nD Cert.DybKIdeal.τ).loc Cert.DybKIdeal.main_arg2)) (m ((c.tc : Thread Cert.DybKIdeal.nD Cert.DybKIdeal.τ).loc Cert.DybKIdeal.main_arg3)) (m ((c.tc : Thread Cert.DybKIdeal.nD Cert.DybKIdeal.τ).loc Cert.DybKIdeal.main_arg4))).2.2.1 = (fun _ => 1#1)
    ∧ (Cert.Pre_finite_dybin.fn (F := Ideal) (m ((c.tc : Thread Cert.DybKIdeal.nD Cert.DybKIdeal.τ).loc Cert.DybKIdeal.main_arg0)) (m ((c.tc : Thread Cert.DybKIdeal.nD Cert.DybKIdeal.τ).loc Cert.DybKIdeal.main_arg1)) (m ((c.tc : Thread Cert.DybKIdeal.nD Cert.DybKIdeal.τ).loc Cert.DybKIdeal.main_arg2)) (m ((c.tc : Thread Cert.DybKIdeal.nD Cert.DybKIdeal.τ).loc Cert.DybKIdeal.main_arg3)) (m ((c.tc : Thread Cert.DybKIdeal.nD Cert.DybKIdeal.τ).loc Cert.DybKIdeal.main_arg4))).2.2.2.1 = (fun _ => 1#1)
    ∧ (Cert.Pre_finite_dybin.fn (F := Ideal) (m ((c.tc : Thread Cert.DybKIdeal.nD Cert.DybKIdeal.τ).loc Cert.DybKIdeal.main_arg0)) (m ((c.tc : Thread Cert.DybKIdeal.nD Cert.DybKIdeal.τ).loc Cert.DybKIdeal.main_arg1)) (m ((c.tc : Thread Cert.DybKIdeal.nD Cert.DybKIdeal.τ).loc Cert.DybKIdeal.main_arg2)) (m ((c.tc : Thread Cert.DybKIdeal.nD Cert.DybKIdeal.τ).loc Cert.DybKIdeal.main_arg3)) (m ((c.tc : Thread Cert.DybKIdeal.nD Cert.DybKIdeal.τ).loc Cert.DybKIdeal.main_arg4))).2.2.2.2 = (fun _ => 1#1)

def Pre_DybRIdeal (m : (ℓ : Loc Cert.DybRIdeal.nD Cert.DybRIdeal.τ Cert.DybRIdeal.sig) → Buf (Elt Ideal) ℓ) : Prop :=
  True

def Pre_DybRIdeal_finite_dybin [hPre_finite_dybin : Cert.Pre_finite_dybin.Facts] (m : (ℓ : Loc Cert.DybRIdeal.nD Cert.DybRIdeal.τ Cert.DybRIdeal.sig) → Buf (Elt Ideal) ℓ) : Prop :=
  ∀ c : Dev Cert.DybRIdeal.nD,
    (Cert.Pre_finite_dybin.fn (F := Ideal) (m ((c.tc : Thread Cert.DybRIdeal.nD Cert.DybRIdeal.τ).loc Cert.DybRIdeal.main_arg0)) (m ((c.tc : Thread Cert.DybRIdeal.nD Cert.DybRIdeal.τ).loc Cert.DybRIdeal.main_arg1)) (m ((c.tc : Thread Cert.DybRIdeal.nD Cert.DybRIdeal.τ).loc Cert.DybRIdeal.main_arg2)) (m ((c.tc : Thread Cert.DybRIdeal.nD Cert.DybRIdeal.τ).loc Cert.DybRIdeal.main_arg3)) (m ((c.tc : Thread Cert.DybRIdeal.nD Cert.DybRIdeal.τ).loc Cert.DybRIdeal.main_arg4))).1 = (fun _ => 1#1)
    ∧ (Cert.Pre_finite_dybin.fn (F := Ideal) (m ((c.tc : Thread Cert.DybRIdeal.nD Cert.DybRIdeal.τ).loc Cert.DybRIdeal.main_arg0)) (m ((c.tc : Thread Cert.DybRIdeal.nD Cert.DybRIdeal.τ).loc Cert.DybRIdeal.main_arg1)) (m ((c.tc : Thread Cert.DybRIdeal.nD Cert.DybRIdeal.τ).loc Cert.DybRIdeal.main_arg2)) (m ((c.tc : Thread Cert.DybRIdeal.nD Cert.DybRIdeal.τ).loc Cert.DybRIdeal.main_arg3)) (m ((c.tc : Thread Cert.DybRIdeal.nD Cert.DybRIdeal.τ).loc Cert.DybRIdeal.main_arg4))).2.1 = (fun _ => 1#1)
    ∧ (Cert.Pre_finite_dybin.fn (F := Ideal) (m ((c.tc : Thread Cert.DybRIdeal.nD Cert.DybRIdeal.τ).loc Cert.DybRIdeal.main_arg0)) (m ((c.tc : Thread Cert.DybRIdeal.nD Cert.DybRIdeal.τ).loc Cert.DybRIdeal.main_arg1)) (m ((c.tc : Thread Cert.DybRIdeal.nD Cert.DybRIdeal.τ).loc Cert.DybRIdeal.main_arg2)) (m ((c.tc : Thread Cert.DybRIdeal.nD Cert.DybRIdeal.τ).loc Cert.DybRIdeal.main_arg3)) (m ((c.tc : Thread Cert.DybRIdeal.nD Cert.DybRIdeal.τ).loc Cert.DybRIdeal.main_arg4))).2.2.1 = (fun _ => 1#1)
    ∧ (Cert.Pre_finite_dybin.fn (F := Ideal) (m ((c.tc : Thread Cert.DybRIdeal.nD Cert.DybRIdeal.τ).loc Cert.DybRIdeal.main_arg0)) (m ((c.tc : Thread Cert.DybRIdeal.nD Cert.DybRIdeal.τ).loc Cert.DybRIdeal.main_arg1)) (m ((c.tc : Thread Cert.DybRIdeal.nD Cert.DybRIdeal.τ).loc Cert.DybRIdeal.main_arg2)) (m ((c.tc : Thread Cert.DybRIdeal.nD Cert.DybRIdeal.τ).loc Cert.DybRIdeal.main_arg3)) (m ((c.tc : Thread Cert.DybRIdeal.nD Cert.DybRIdeal.τ).loc Cert.DybRIdeal.main_arg4))).2.2.2.1 = (fun _ => 1#1)
    ∧ (Cert.Pre_finite_dybin.fn (F := Ideal) (m ((c.tc : Thread Cert.DybRIdeal.nD Cert.DybRIdeal.τ).loc Cert.DybRIdeal.main_arg0)) (m ((c.tc : Thread Cert.DybRIdeal.nD Cert.DybRIdeal.τ).loc Cert.DybRIdeal.main_arg1)) (m ((c.tc : Thread Cert.DybRIdeal.nD Cert.DybRIdeal.τ).loc Cert.DybRIdeal.main_arg2)) (m ((c.tc : Thread Cert.DybRIdeal.nD Cert.DybRIdeal.τ).loc Cert.DybRIdeal.main_arg3)) (m ((c.tc : Thread Cert.DybRIdeal.nD Cert.DybRIdeal.τ).loc Cert.DybRIdeal.main_arg4))).2.2.2.2 = (fun _ => 1#1)

def Pre_DyaK (m : (ℓ : Loc Cert.DyaK.nD Cert.DyaK.τ Cert.DyaK.sig) → Buf (Elt Bits) ℓ) : Prop :=
  True

def Pre_DyaKIdeal (m : (ℓ : Loc Cert.DyaKIdeal.nD Cert.DyaKIdeal.τ Cert.DyaKIdeal.sig) → Buf (Elt Ideal) ℓ) : Prop :=
  True

def Pre_DyaKIdeal_finite_dyain [hPre_finite_dyain : Cert.Pre_finite_dyain.Facts] (m : (ℓ : Loc Cert.DyaKIdeal.nD Cert.DyaKIdeal.τ Cert.DyaKIdeal.sig) → Buf (Elt Ideal) ℓ) : Prop :=
  ∀ c : Dev Cert.DyaKIdeal.nD,
    (Cert.Pre_finite_dyain.fn (F := Ideal) (m ((c.tc : Thread Cert.DyaKIdeal.nD Cert.DyaKIdeal.τ).loc Cert.DyaKIdeal.main_arg0)) (m ((c.tc : Thread Cert.DyaKIdeal.nD Cert.DyaKIdeal.τ).loc Cert.DyaKIdeal.main_arg1)) (m ((c.tc : Thread Cert.DyaKIdeal.nD Cert.DyaKIdeal.τ).loc Cert.DyaKIdeal.main_arg2)) (m ((c.tc : Thread Cert.DyaKIdeal.nD Cert.DyaKIdeal.τ).loc Cert.DyaKIdeal.main_arg3)) (m ((c.tc : Thread Cert.DyaKIdeal.nD Cert.DyaKIdeal.τ).loc Cert.DyaKIdeal.main_arg4)) (m ((c.tc : Thread Cert.DyaKIdeal.nD Cert.DyaKIdeal.τ).loc Cert.DyaKIdeal.main_arg5)) (m ((c.tc : Thread Cert.DyaKIdeal.nD Cert.DyaKIdeal.τ).loc Cert.DyaKIdeal.main_arg6)) (m ((c.tc : Thread Cert.DyaKIdeal.nD Cert.DyaKIdeal.τ).loc Cert.DyaKIdeal.main_arg7)) (m ((c.tc : Thread Cert.DyaKIdeal.nD Cert.DyaKIdeal.τ).loc Cert.DyaKIdeal.main_arg8)) (m ((c.tc : Thread Cert.DyaKIdeal.nD Cert.DyaKIdeal.τ).loc Cert.DyaKIdeal.main_arg9))).1 = (fun _ => 1#1)
    ∧ (Cert.Pre_finite_dyain.fn (F := Ideal) (m ((c.tc : Thread Cert.DyaKIdeal.nD Cert.DyaKIdeal.τ).loc Cert.DyaKIdeal.main_arg0)) (m ((c.tc : Thread Cert.DyaKIdeal.nD Cert.DyaKIdeal.τ).loc Cert.DyaKIdeal.main_arg1)) (m ((c.tc : Thread Cert.DyaKIdeal.nD Cert.DyaKIdeal.τ).loc Cert.DyaKIdeal.main_arg2)) (m ((c.tc : Thread Cert.DyaKIdeal.nD Cert.DyaKIdeal.τ).loc Cert.DyaKIdeal.main_arg3)) (m ((c.tc : Thread Cert.DyaKIdeal.nD Cert.DyaKIdeal.τ).loc Cert.DyaKIdeal.main_arg4)) (m ((c.tc : Thread Cert.DyaKIdeal.nD Cert.DyaKIdeal.τ).loc Cert.DyaKIdeal.main_arg5)) (m ((c.tc : Thread Cert.DyaKIdeal.nD Cert.DyaKIdeal.τ).loc Cert.DyaKIdeal.main_arg6)) (m ((c.tc : Thread Cert.DyaKIdeal.nD Cert.DyaKIdeal.τ).loc Cert.DyaKIdeal.main_arg7)) (m ((c.tc : Thread Cert.DyaKIdeal.nD Cert.DyaKIdeal.τ).loc Cert.DyaKIdeal.main_arg8)) (m ((c.tc : Thread Cert.DyaKIdeal.nD Cert.DyaKIdeal.τ).loc Cert.DyaKIdeal.main_arg9))).2.1 = (fun _ => 1#1)
    ∧ (Cert.Pre_finite_dyain.fn (F := Ideal) (m ((c.tc : Thread Cert.DyaKIdeal.nD Cert.DyaKIdeal.τ).loc Cert.DyaKIdeal.main_arg0)) (m ((c.tc : Thread Cert.DyaKIdeal.nD Cert.DyaKIdeal.τ).loc Cert.DyaKIdeal.main_arg1)) (m ((c.tc : Thread Cert.DyaKIdeal.nD Cert.DyaKIdeal.τ).loc Cert.DyaKIdeal.main_arg2)) (m ((c.tc : Thread Cert.DyaKIdeal.nD Cert.DyaKIdeal.τ).loc Cert.DyaKIdeal.main_arg3)) (m ((c.tc : Thread Cert.DyaKIdeal.nD Cert.DyaKIdeal.τ).loc Cert.DyaKIdeal.main_arg4)) (m ((c.tc : Thread Cert.DyaKIdeal.nD Cert.DyaKIdeal.τ).loc Cert.DyaKIdeal.main_arg5)) (m ((c.tc : Thread Cert.DyaKIdeal.nD Cert.DyaKIdeal.τ).loc Cert.DyaKIdeal.main_arg6)) (m ((c.tc : Thread Cert.DyaKIdeal.nD Cert.DyaKIdeal.τ).loc Cert.DyaKIdeal.main_arg7)) (m ((c.tc : Thread Cert.DyaKIdeal.nD Cert.DyaKIdeal.τ).loc Cert.DyaKIdeal.main_arg8)) (m ((c.tc : Thread Cert.DyaKIdeal.nD Cert.DyaKIdeal.τ).loc Cert.DyaKIdeal.main_arg9))).2.2.1 = (fun _ => 1#1)
    ∧ (Cert.Pre_finite_dyain.fn (F := Ideal) (m ((c.tc : Thread Cert.DyaKIdeal.nD Cert.DyaKIdeal.τ).loc Cert.DyaKIdeal.main_arg0)) (m ((c.tc : Thread Cert.DyaKIdeal.nD Cert.DyaKIdeal.τ).loc Cert.DyaKIdeal.main_arg1)) (m ((c.tc : Thread Cert.DyaKIdeal.nD Cert.DyaKIdeal.τ).loc Cert.DyaKIdeal.main_arg2)) (m ((c.tc : Thread Cert.DyaKIdeal.nD Cert.DyaKIdeal.τ).loc Cert.DyaKIdeal.main_arg3)) (m ((c.tc : Thread Cert.DyaKIdeal.nD Cert.DyaKIdeal.τ).loc Cert.DyaKIdeal.main_arg4)) (m ((c.tc : Thread Cert.DyaKIdeal.nD Cert.DyaKIdeal.τ).loc Cert.DyaKIdeal.main_arg5)) (m ((c.tc : Thread Cert.DyaKIdeal.nD Cert.DyaKIdeal.τ).loc Cert.DyaKIdeal.main_arg6)) (m ((c.tc : Thread Cert.DyaKIdeal.nD Cert.DyaKIdeal.τ).loc Cert.DyaKIdeal.main_arg7)) (m ((c.tc : Thread Cert.DyaKIdeal.nD Cert.DyaKIdeal.τ).loc Cert.DyaKIdeal.main_arg8)) (m ((c.tc : Thread Cert.DyaKIdeal.nD Cert.DyaKIdeal.τ).loc Cert.DyaKIdeal.main_arg9))).2.2.2.1 = (fun _ => 1#1)
    ∧ (Cert.Pre_finite_dyain.fn (F := Ideal) (m ((c.tc : Thread Cert.DyaKIdeal.nD Cert.DyaKIdeal.τ).loc Cert.DyaKIdeal.main_arg0)) (m ((c.tc : Thread Cert.DyaKIdeal.nD Cert.DyaKIdeal.τ).loc Cert.DyaKIdeal.main_arg1)) (m ((c.tc : Thread Cert.DyaKIdeal.nD Cert.DyaKIdeal.τ).loc Cert.DyaKIdeal.main_arg2)) (m ((c.tc : Thread Cert.DyaKIdeal.nD Cert.DyaKIdeal.τ).loc Cert.DyaKIdeal.main_arg3)) (m ((c.tc : Thread Cert.DyaKIdeal.nD Cert.DyaKIdeal.τ).loc Cert.DyaKIdeal.main_arg4)) (m ((c.tc : Thread Cert.DyaKIdeal.nD Cert.DyaKIdeal.τ).loc Cert.DyaKIdeal.main_arg5)) (m ((c.tc : Thread Cert.DyaKIdeal.nD Cert.DyaKIdeal.τ).loc Cert.DyaKIdeal.main_arg6)) (m ((c.tc : Thread Cert.DyaKIdeal.nD Cert.DyaKIdeal.τ).loc Cert.DyaKIdeal.main_arg7)) (m ((c.tc : Thread Cert.DyaKIdeal.nD Cert.DyaKIdeal.τ).loc Cert.DyaKIdeal.main_arg8)) (m ((c.tc : Thread Cert.DyaKIdeal.nD Cert.DyaKIdeal.τ).loc Cert.DyaKIdeal.main_arg9))).2.2.2.2.1 = (fun _ => 1#1)
    ∧ (Cert.Pre_finite_dyain.fn (F := Ideal) (m ((c.tc : Thread Cert.DyaKIdeal.nD Cert.DyaKIdeal.τ).loc Cert.DyaKIdeal.main_arg0)) (m ((c.tc : Thread Cert.DyaKIdeal.nD Cert.DyaKIdeal.τ).loc Cert.DyaKIdeal.main_arg1)) (m ((c.tc : Thread Cert.DyaKIdeal.nD Cert.DyaKIdeal.τ).loc Cert.DyaKIdeal.main_arg2)) (m ((c.tc : Thread Cert.DyaKIdeal.nD Cert.DyaKIdeal.τ).loc Cert.DyaKIdeal.main_arg3)) (m ((c.tc : Thread Cert.DyaKIdeal.nD Cert.DyaKIdeal.τ).loc Cert.DyaKIdeal.main_arg4)) (m ((c.tc : Thread Cert.DyaKIdeal.nD Cert.DyaKIdeal.τ).loc Cert.DyaKIdeal.main_arg5)) (m ((c.tc : Thread Cert.DyaKIdeal.nD Cert.DyaKIdeal.τ).loc Cert.DyaKIdeal.main_arg6)) (m ((c.tc : Thread Cert.DyaKIdeal.nD Cert.DyaKIdeal.τ).loc Cert.DyaKIdeal.main_arg7)) (m ((c.tc : Thread Cert.DyaKIdeal.nD Cert.DyaKIdeal.τ).loc Cert.DyaKIdeal.main_arg8)) (m ((c.tc : Thread Cert.DyaKIdeal.nD Cert.DyaKIdeal.τ).loc Cert.DyaKIdeal.main_arg9))).2.2.2.2.2.1 = (fun _ => 1#1)
    ∧ (Cert.Pre_finite_dyain.fn (F := Ideal) (m ((c.tc : Thread Cert.DyaKIdeal.nD Cert.DyaKIdeal.τ).loc Cert.DyaKIdeal.main_arg0)) (m ((c.tc : Thread Cert.DyaKIdeal.nD Cert.DyaKIdeal.τ).loc Cert.DyaKIdeal.main_arg1)) (m ((c.tc : Thread Cert.DyaKIdeal.nD Cert.DyaKIdeal.τ).loc Cert.DyaKIdeal.main_arg2)) (m ((c.tc : Thread Cert.DyaKIdeal.nD Cert.DyaKIdeal.τ).loc Cert.DyaKIdeal.main_arg3)) (m ((c.tc : Thread Cert.DyaKIdeal.nD Cert.DyaKIdeal.τ).loc Cert.DyaKIdeal.main_arg4)) (m ((c.tc : Thread Cert.DyaKIdeal.nD Cert.DyaKIdeal.τ).loc Cert.DyaKIdeal.main_arg5)) (m ((c.tc : Thread Cert.DyaKIdeal.nD Cert.DyaKIdeal.τ).loc Cert.DyaKIdeal.main_arg6)) (m ((c.tc : Thread Cert.DyaKIdeal.nD Cert.DyaKIdeal.τ).loc Cert.DyaKIdeal.main_arg7)) (m ((c.tc : Thread Cert.DyaKIdeal.nD Cert.DyaKIdeal.τ).loc Cert.DyaKIdeal.main_arg8)) (m ((c.tc : Thread Cert.DyaKIdeal.nD Cert.DyaKIdeal.τ).loc Cert.DyaKIdeal.main_arg9))).2.2.2.2.2.2.1 = (fun _ => 1#1)
    ∧ (Cert.Pre_finite_dyain.fn (F := Ideal) (m ((c.tc : Thread Cert.DyaKIdeal.nD Cert.DyaKIdeal.τ).loc Cert.DyaKIdeal.main_arg0)) (m ((c.tc : Thread Cert.DyaKIdeal.nD Cert.DyaKIdeal.τ).loc Cert.DyaKIdeal.main_arg1)) (m ((c.tc : Thread Cert.DyaKIdeal.nD Cert.DyaKIdeal.τ).loc Cert.DyaKIdeal.main_arg2)) (m ((c.tc : Thread Cert.DyaKIdeal.nD Cert.DyaKIdeal.τ).loc Cert.DyaKIdeal.main_arg3)) (m ((c.tc : Thread Cert.DyaKIdeal.nD Cert.DyaKIdeal.τ).loc Cert.DyaKIdeal.main_arg4)) (m ((c.tc : Thread Cert.DyaKIdeal.nD Cert.DyaKIdeal.τ).loc Cert.DyaKIdeal.main_arg5)) (m ((c.tc : Thread Cert.DyaKIdeal.nD Cert.DyaKIdeal.τ).loc Cert.DyaKIdeal.main_arg6)) (m ((c.tc : Thread Cert.DyaKIdeal.nD Cert.DyaKIdeal.τ).loc Cert.DyaKIdeal.main_arg7)) (m ((c.tc : Thread Cert.DyaKIdeal.nD Cert.DyaKIdeal.τ).loc Cert.DyaKIdeal.main_arg8)) (m ((c.tc : Thread Cert.DyaKIdeal.nD Cert.DyaKIdeal.τ).loc Cert.DyaKIdeal.main_arg9))).2.2.2.2.2.2.2.1 = (fun _ => 1#1)
    ∧ (Cert.Pre_finite_dyain.fn (F := Ideal) (m ((c.tc : Thread Cert.DyaKIdeal.nD Cert.DyaKIdeal.τ).loc Cert.DyaKIdeal.main_arg0)) (m ((c.tc : Thread Cert.DyaKIdeal.nD Cert.DyaKIdeal.τ).loc Cert.DyaKIdeal.main_arg1)) (m ((c.tc : Thread Cert.DyaKIdeal.nD Cert.DyaKIdeal.τ).loc Cert.DyaKIdeal.main_arg2)) (m ((c.tc : Thread Cert.DyaKIdeal.nD Cert.DyaKIdeal.τ).loc Cert.DyaKIdeal.main_arg3)) (m ((c.tc : Thread Cert.DyaKIdeal.nD Cert.DyaKIdeal.τ).loc Cert.DyaKIdeal.main_arg4)) (m ((c.tc : Thread Cert.DyaKIdeal.nD Cert.DyaKIdeal.τ).loc Cert.DyaKIdeal.main_arg5)) (m ((c.tc : Thread Cert.DyaKIdeal.nD Cert.DyaKIdeal.τ).loc Cert.DyaKIdeal.main_arg6)) (m ((c.tc : Thread Cert.DyaKIdeal.nD Cert.DyaKIdeal.τ).loc Cert.DyaKIdeal.main_arg7)) (m ((c.tc : Thread Cert.DyaKIdeal.nD Cert.DyaKIdeal.τ).loc Cert.DyaKIdeal.main_arg8)) (m ((c.tc : Thread Cert.DyaKIdeal.nD Cert.DyaKIdeal.τ).loc Cert.DyaKIdeal.main_arg9))).2.2.2.2.2.2.2.2.1 = (fun _ => 1#1)
    ∧ (Cert.Pre_finite_dyain.fn (F := Ideal) (m ((c.tc : Thread Cert.DyaKIdeal.nD Cert.DyaKIdeal.τ).loc Cert.DyaKIdeal.main_arg0)) (m ((c.tc : Thread Cert.DyaKIdeal.nD Cert.DyaKIdeal.τ).loc Cert.DyaKIdeal.main_arg1)) (m ((c.tc : Thread Cert.DyaKIdeal.nD Cert.DyaKIdeal.τ).loc Cert.DyaKIdeal.main_arg2)) (m ((c.tc : Thread Cert.DyaKIdeal.nD Cert.DyaKIdeal.τ).loc Cert.DyaKIdeal.main_arg3)) (m ((c.tc : Thread Cert.DyaKIdeal.nD Cert.DyaKIdeal.τ).loc Cert.DyaKIdeal.main_arg4)) (m ((c.tc : Thread Cert.DyaKIdeal.nD Cert.DyaKIdeal.τ).loc Cert.DyaKIdeal.main_arg5)) (m ((c.tc : Thread Cert.DyaKIdeal.nD Cert.DyaKIdeal.τ).loc Cert.DyaKIdeal.main_arg6)) (m ((c.tc : Thread Cert.DyaKIdeal.nD Cert.DyaKIdeal.τ).loc Cert.DyaKIdeal.main_arg7)) (m ((c.tc : Thread Cert.DyaKIdeal.nD Cert.DyaKIdeal.τ).loc Cert.DyaKIdeal.main_arg8)) (m ((c.tc : Thread Cert.DyaKIdeal.nD Cert.DyaKIdeal.τ).loc Cert.DyaKIdeal.main_arg9))).2.2.2.2.2.2.2.2.2 = (fun _ => 1#1)

def Pre_DyaRIdeal (m : (ℓ : Loc Cert.DyaRIdeal.nD Cert.DyaRIdeal.τ Cert.DyaRIdeal.sig) → Buf (Elt Ideal) ℓ) : Prop :=
  True

def Pre_DyaRIdeal_finite_dyain [hPre_finite_dyain : Cert.Pre_finite_dyain.Facts] (m : (ℓ : Loc Cert.DyaRIdeal.nD Cert.DyaRIdeal.τ Cert.DyaRIdeal.sig) → Buf (Elt Ideal) ℓ) : Prop :=
  ∀ c : Dev Cert.DyaRIdeal.nD,
    (Cert.Pre_finite_dyain.fn (F := Ideal) (m ((c.tc : Thread Cert.DyaRIdeal.nD Cert.DyaRIdeal.τ).loc Cert.DyaRIdeal.main_arg0)) (m ((c.tc : Thread Cert.DyaRIdeal.nD Cert.DyaRIdeal.τ).loc Cert.DyaRIdeal.main_arg1)) (m ((c.tc : Thread Cert.DyaRIdeal.nD Cert.DyaRIdeal.τ).loc Cert.DyaRIdeal.main_arg2)) (m ((c.tc : Thread Cert.DyaRIdeal.nD Cert.DyaRIdeal.τ).loc Cert.DyaRIdeal.main_arg3)) (m ((c.tc : Thread Cert.DyaRIdeal.nD Cert.DyaRIdeal.τ).loc Cert.DyaRIdeal.main_arg4)) (m ((c.tc : Thread Cert.DyaRIdeal.nD Cert.DyaRIdeal.τ).loc Cert.DyaRIdeal.main_arg5)) (m ((c.tc : Thread Cert.DyaRIdeal.nD Cert.DyaRIdeal.τ).loc Cert.DyaRIdeal.main_arg6)) (m ((c.tc : Thread Cert.DyaRIdeal.nD Cert.DyaRIdeal.τ).loc Cert.DyaRIdeal.main_arg7)) (m ((c.tc : Thread Cert.DyaRIdeal.nD Cert.DyaRIdeal.τ).loc Cert.DyaRIdeal.main_arg8)) (m ((c.tc : Thread Cert.DyaRIdeal.nD Cert.DyaRIdeal.τ).loc Cert.DyaRIdeal.main_arg9))).1 = (fun _ => 1#1)
    ∧ (Cert.Pre_finite_dyain.fn (F := Ideal) (m ((c.tc : Thread Cert.DyaRIdeal.nD Cert.DyaRIdeal.τ).loc Cert.DyaRIdeal.main_arg0)) (m ((c.tc : Thread Cert.DyaRIdeal.nD Cert.DyaRIdeal.τ).loc Cert.DyaRIdeal.main_arg1)) (m ((c.tc : Thread Cert.DyaRIdeal.nD Cert.DyaRIdeal.τ).loc Cert.DyaRIdeal.main_arg2)) (m ((c.tc : Thread Cert.DyaRIdeal.nD Cert.DyaRIdeal.τ).loc Cert.DyaRIdeal.main_arg3)) (m ((c.tc : Thread Cert.DyaRIdeal.nD Cert.DyaRIdeal.τ).loc Cert.DyaRIdeal.main_arg4)) (m ((c.tc : Thread Cert.DyaRIdeal.nD Cert.DyaRIdeal.τ).loc Cert.DyaRIdeal.main_arg5)) (m ((c.tc : Thread Cert.DyaRIdeal.nD Cert.DyaRIdeal.τ).loc Cert.DyaRIdeal.main_arg6)) (m ((c.tc : Thread Cert.DyaRIdeal.nD Cert.DyaRIdeal.τ).loc Cert.DyaRIdeal.main_arg7)) (m ((c.tc : Thread Cert.DyaRIdeal.nD Cert.DyaRIdeal.τ).loc Cert.DyaRIdeal.main_arg8)) (m ((c.tc : Thread Cert.DyaRIdeal.nD Cert.DyaRIdeal.τ).loc Cert.DyaRIdeal.main_arg9))).2.1 = (fun _ => 1#1)
    ∧ (Cert.Pre_finite_dyain.fn (F := Ideal) (m ((c.tc : Thread Cert.DyaRIdeal.nD Cert.DyaRIdeal.τ).loc Cert.DyaRIdeal.main_arg0)) (m ((c.tc : Thread Cert.DyaRIdeal.nD Cert.DyaRIdeal.τ).loc Cert.DyaRIdeal.main_arg1)) (m ((c.tc : Thread Cert.DyaRIdeal.nD Cert.DyaRIdeal.τ).loc Cert.DyaRIdeal.main_arg2)) (m ((c.tc : Thread Cert.DyaRIdeal.nD Cert.DyaRIdeal.τ).loc Cert.DyaRIdeal.main_arg3)) (m ((c.tc : Thread Cert.DyaRIdeal.nD Cert.DyaRIdeal.τ).loc Cert.DyaRIdeal.main_arg4)) (m ((c.tc : Thread Cert.DyaRIdeal.nD Cert.DyaRIdeal.τ).loc Cert.DyaRIdeal.main_arg5)) (m ((c.tc : Thread Cert.DyaRIdeal.nD Cert.DyaRIdeal.τ).loc Cert.DyaRIdeal.main_arg6)) (m ((c.tc : Thread Cert.DyaRIdeal.nD Cert.DyaRIdeal.τ).loc Cert.DyaRIdeal.main_arg7)) (m ((c.tc : Thread Cert.DyaRIdeal.nD Cert.DyaRIdeal.τ).loc Cert.DyaRIdeal.main_arg8)) (m ((c.tc : Thread Cert.DyaRIdeal.nD Cert.DyaRIdeal.τ).loc Cert.DyaRIdeal.main_arg9))).2.2.1 = (fun _ => 1#1)
    ∧ (Cert.Pre_finite_dyain.fn (F := Ideal) (m ((c.tc : Thread Cert.DyaRIdeal.nD Cert.DyaRIdeal.τ).loc Cert.DyaRIdeal.main_arg0)) (m ((c.tc : Thread Cert.DyaRIdeal.nD Cert.DyaRIdeal.τ).loc Cert.DyaRIdeal.main_arg1)) (m ((c.tc : Thread Cert.DyaRIdeal.nD Cert.DyaRIdeal.τ).loc Cert.DyaRIdeal.main_arg2)) (m ((c.tc : Thread Cert.DyaRIdeal.nD Cert.DyaRIdeal.τ).loc Cert.DyaRIdeal.main_arg3)) (m ((c.tc : Thread Cert.DyaRIdeal.nD Cert.DyaRIdeal.τ).loc Cert.DyaRIdeal.main_arg4)) (m ((c.tc : Thread Cert.DyaRIdeal.nD Cert.DyaRIdeal.τ).loc Cert.DyaRIdeal.main_arg5)) (m ((c.tc : Thread Cert.DyaRIdeal.nD Cert.DyaRIdeal.τ).loc Cert.DyaRIdeal.main_arg6)) (m ((c.tc : Thread Cert.DyaRIdeal.nD Cert.DyaRIdeal.τ).loc Cert.DyaRIdeal.main_arg7)) (m ((c.tc : Thread Cert.DyaRIdeal.nD Cert.DyaRIdeal.τ).loc Cert.DyaRIdeal.main_arg8)) (m ((c.tc : Thread Cert.DyaRIdeal.nD Cert.DyaRIdeal.τ).loc Cert.DyaRIdeal.main_arg9))).2.2.2.1 = (fun _ => 1#1)
    ∧ (Cert.Pre_finite_dyain.fn (F := Ideal) (m ((c.tc : Thread Cert.DyaRIdeal.nD Cert.DyaRIdeal.τ).loc Cert.DyaRIdeal.main_arg0)) (m ((c.tc : Thread Cert.DyaRIdeal.nD Cert.DyaRIdeal.τ).loc Cert.DyaRIdeal.main_arg1)) (m ((c.tc : Thread Cert.DyaRIdeal.nD Cert.DyaRIdeal.τ).loc Cert.DyaRIdeal.main_arg2)) (m ((c.tc : Thread Cert.DyaRIdeal.nD Cert.DyaRIdeal.τ).loc Cert.DyaRIdeal.main_arg3)) (m ((c.tc : Thread Cert.DyaRIdeal.nD Cert.DyaRIdeal.τ).loc Cert.DyaRIdeal.main_arg4)) (m ((c.tc : Thread Cert.DyaRIdeal.nD Cert.DyaRIdeal.τ).loc Cert.DyaRIdeal.main_arg5)) (m ((c.tc : Thread Cert.DyaRIdeal.nD Cert.DyaRIdeal.τ).loc Cert.DyaRIdeal.main_arg6)) (m ((c.tc : Thread Cert.DyaRIdeal.nD Cert.DyaRIdeal.τ).loc Cert.DyaRIdeal.main_arg7)) (m ((c.tc : Thread Cert.DyaRIdeal.nD Cert.DyaRIdeal.τ).loc Cert.DyaRIdeal.main_arg8)) (m ((c.tc : Thread Cert.DyaRIdeal.nD Cert.DyaRIdeal.τ).loc Cert.DyaRIdeal.main_arg9))).2.2.2.2.1 = (fun _ => 1#1)
    ∧ (Cert.Pre_finite_dyain.fn (F := Ideal) (m ((c.tc : Thread Cert.DyaRIdeal.nD Cert.DyaRIdeal.τ).loc Cert.DyaRIdeal.main_arg0)) (m ((c.tc : Thread Cert.DyaRIdeal.nD Cert.DyaRIdeal.τ).loc Cert.DyaRIdeal.main_arg1)) (m ((c.tc : Thread Cert.DyaRIdeal.nD Cert.DyaRIdeal.τ).loc Cert.DyaRIdeal.main_arg2)) (m ((c.tc : Thread Cert.DyaRIdeal.nD Cert.DyaRIdeal.τ).loc Cert.DyaRIdeal.main_arg3)) (m ((c.tc : Thread Cert.DyaRIdeal.nD Cert.DyaRIdeal.τ).loc Cert.DyaRIdeal.main_arg4)) (m ((c.tc : Thread Cert.DyaRIdeal.nD Cert.DyaRIdeal.τ).loc Cert.DyaRIdeal.main_arg5)) (m ((c.tc : Thread Cert.DyaRIdeal.nD Cert.DyaRIdeal.τ).loc Cert.DyaRIdeal.main_arg6)) (m ((c.tc : Thread Cert.DyaRIdeal.nD Cert.DyaRIdeal.τ).loc Cert.DyaRIdeal.main_arg7)) (m ((c.tc : Thread Cert.DyaRIdeal.nD Cert.DyaRIdeal.τ).loc Cert.DyaRIdeal.main_arg8)) (m ((c.tc : Thread Cert.DyaRIdeal.nD Cert.DyaRIdeal.τ).loc Cert.DyaRIdeal.main_arg9))).2.2.2.2.2.1 = (fun _ => 1#1)
    ∧ (Cert.Pre_finite_dyain.fn (F := Ideal) (m ((c.tc : Thread Cert.DyaRIdeal.nD Cert.DyaRIdeal.τ).loc Cert.DyaRIdeal.main_arg0)) (m ((c.tc : Thread Cert.DyaRIdeal.nD Cert.DyaRIdeal.τ).loc Cert.DyaRIdeal.main_arg1)) (m ((c.tc : Thread Cert.DyaRIdeal.nD Cert.DyaRIdeal.τ).loc Cert.DyaRIdeal.main_arg2)) (m ((c.tc : Thread Cert.DyaRIdeal.nD Cert.DyaRIdeal.τ).loc Cert.DyaRIdeal.main_arg3)) (m ((c.tc : Thread Cert.DyaRIdeal.nD Cert.DyaRIdeal.τ).loc Cert.DyaRIdeal.main_arg4)) (m ((c.tc : Thread Cert.DyaRIdeal.nD Cert.DyaRIdeal.τ).loc Cert.DyaRIdeal.main_arg5)) (m ((c.tc : Thread Cert.DyaRIdeal.nD Cert.DyaRIdeal.τ).loc Cert.DyaRIdeal.main_arg6)) (m ((c.tc : Thread Cert.DyaRIdeal.nD Cert.DyaRIdeal.τ).loc Cert.DyaRIdeal.main_arg7)) (m ((c.tc : Thread Cert.DyaRIdeal.nD Cert.DyaRIdeal.τ).loc Cert.DyaRIdeal.main_arg8)) (m ((c.tc : Thread Cert.DyaRIdeal.nD Cert.DyaRIdeal.τ).loc Cert.DyaRIdeal.main_arg9))).2.2.2.2.2.2.1 = (fun _ => 1#1)
    ∧ (Cert.Pre_finite_dyain.fn (F := Ideal) (m ((c.tc : Thread Cert.DyaRIdeal.nD Cert.DyaRIdeal.τ).loc Cert.DyaRIdeal.main_arg0)) (m ((c.tc : Thread Cert.DyaRIdeal.nD Cert.DyaRIdeal.τ).loc Cert.DyaRIdeal.main_arg1)) (m ((c.tc : Thread Cert.DyaRIdeal.nD Cert.DyaRIdeal.τ).loc Cert.DyaRIdeal.main_arg2)) (m ((c.tc : Thread Cert.DyaRIdeal.nD Cert.DyaRIdeal.τ).loc Cert.DyaRIdeal.main_arg3)) (m ((c.tc : Thread Cert.DyaRIdeal.nD Cert.DyaRIdeal.τ).loc Cert.DyaRIdeal.main_arg4)) (m ((c.tc : Thread Cert.DyaRIdeal.nD Cert.DyaRIdeal.τ).loc Cert.DyaRIdeal.main_arg5)) (m ((c.tc : Thread Cert.DyaRIdeal.nD Cert.DyaRIdeal.τ).loc Cert.DyaRIdeal.main_arg6)) (m ((c.tc : Thread Cert.DyaRIdeal.nD Cert.DyaRIdeal.τ).loc Cert.DyaRIdeal.main_arg7)) (m ((c.tc : Thread Cert.DyaRIdeal.nD Cert.DyaRIdeal.τ).loc Cert.DyaRIdeal.main_arg8)) (m ((c.tc : Thread Cert.DyaRIdeal.nD Cert.DyaRIdeal.τ).loc Cert.DyaRIdeal.main_arg9))).2.2.2.2.2.2.2.1 = (fun _ => 1#1)
    ∧ (Cert.Pre_finite_dyain.fn (F := Ideal) (m ((c.tc : Thread Cert.DyaRIdeal.nD Cert.DyaRIdeal.τ).loc Cert.DyaRIdeal.main_arg0)) (m ((c.tc : Thread Cert.DyaRIdeal.nD Cert.DyaRIdeal.τ).loc Cert.DyaRIdeal.main_arg1)) (m ((c.tc : Thread Cert.DyaRIdeal.nD Cert.DyaRIdeal.τ).loc Cert.DyaRIdeal.main_arg2)) (m ((c.tc : Thread Cert.DyaRIdeal.nD Cert.DyaRIdeal.τ).loc Cert.DyaRIdeal.main_arg3)) (m ((c.tc : Thread Cert.DyaRIdeal.nD Cert.DyaRIdeal.τ).loc Cert.DyaRIdeal.main_arg4)) (m ((c.tc : Thread Cert.DyaRIdeal.nD Cert.DyaRIdeal.τ).loc Cert.DyaRIdeal.main_arg5)) (m ((c.tc : Thread Cert.DyaRIdeal.nD Cert.DyaRIdeal.τ).loc Cert.DyaRIdeal.main_arg6)) (m ((c.tc : Thread Cert.DyaRIdeal.nD Cert.DyaRIdeal.τ).loc Cert.DyaRIdeal.main_arg7)) (m ((c.tc : Thread Cert.DyaRIdeal.nD Cert.DyaRIdeal.τ).loc Cert.DyaRIdeal.main_arg8)) (m ((c.tc : Thread Cert.DyaRIdeal.nD Cert.DyaRIdeal.τ).loc Cert.DyaRIdeal.main_arg9))).2.2.2.2.2.2.2.2.1 = (fun _ => 1#1)
    ∧ (Cert.Pre_finite_dyain.fn (F := Ideal) (m ((c.tc : Thread Cert.DyaRIdeal.nD Cert.DyaRIdeal.τ).loc Cert.DyaRIdeal.main_arg0)) (m ((c.tc : Thread Cert.DyaRIdeal.nD Cert.DyaRIdeal.τ).loc Cert.DyaRIdeal.main_arg1)) (m ((c.tc : Thread Cert.DyaRIdeal.nD Cert.DyaRIdeal.τ).loc Cert.DyaRIdeal.main_arg2)) (m ((c.tc : Thread Cert.DyaRIdeal.nD Cert.DyaRIdeal.τ).loc Cert.DyaRIdeal.main_arg3)) (m ((c.tc : Thread Cert.DyaRIdeal.nD Cert.DyaRIdeal.τ).loc Cert.DyaRIdeal.main_arg4)) (m ((c.tc : Thread Cert.DyaRIdeal.nD Cert.DyaRIdeal.τ).loc Cert.DyaRIdeal.main_arg5)) (m ((c.tc : Thread Cert.DyaRIdeal.nD Cert.DyaRIdeal.τ).loc Cert.DyaRIdeal.main_arg6)) (m ((c.tc : Thread Cert.DyaRIdeal.nD Cert.DyaRIdeal.τ).loc Cert.DyaRIdeal.main_arg7)) (m ((c.tc : Thread Cert.DyaRIdeal.nD Cert.DyaRIdeal.τ).loc Cert.DyaRIdeal.main_arg8)) (m ((c.tc : Thread Cert.DyaRIdeal.nD Cert.DyaRIdeal.τ).loc Cert.DyaRIdeal.main_arg9))).2.2.2.2.2.2.2.2.2 = (fun _ => 1#1)

def Pre_RprojK (m : (ℓ : Loc Cert.RprojK.nD Cert.RprojK.τ Cert.RprojK.sig) → Buf (Elt Bits) ℓ) : Prop :=
  True

def Pre_RprojKIdeal (m : (ℓ : Loc Cert.RprojKIdeal.nD Cert.RprojKIdeal.τ Cert.RprojKIdeal.sig) → Buf (Elt Ideal) ℓ) : Prop :=
  True

def Pre_RprojKIdeal_finite_rproj [hPre_finite_rproj : Cert.Pre_finite_rproj.Facts] (m : (ℓ : Loc Cert.RprojKIdeal.nD Cert.RprojKIdeal.τ Cert.RprojKIdeal.sig) → Buf (Elt Ideal) ℓ) : Prop :=
  ∀ c : Dev Cert.RprojKIdeal.nD,
    (Cert.Pre_finite_rproj.fn (F := Ideal) (m ((c.tc : Thread Cert.RprojKIdeal.nD Cert.RprojKIdeal.τ).loc Cert.RprojKIdeal.main_arg0)) (m ((c.tc : Thread Cert.RprojKIdeal.nD Cert.RprojKIdeal.τ).loc Cert.RprojKIdeal.main_arg1)) (m ((c.tc : Thread Cert.RprojKIdeal.nD Cert.RprojKIdeal.τ).loc Cert.RprojKIdeal.main_arg2)) (m ((c.tc : Thread Cert.RprojKIdeal.nD Cert.RprojKIdeal.τ).loc Cert.RprojKIdeal.main_arg3)) (m ((c.tc : Thread Cert.RprojKIdeal.nD Cert.RprojKIdeal.τ).loc Cert.RprojKIdeal.main_arg4)) (m ((c.tc : Thread Cert.RprojKIdeal.nD Cert.RprojKIdeal.τ).loc Cert.RprojKIdeal.main_arg5)) (m ((c.tc : Thread Cert.RprojKIdeal.nD Cert.RprojKIdeal.τ).loc Cert.RprojKIdeal.main_arg6)) (m ((c.tc : Thread Cert.RprojKIdeal.nD Cert.RprojKIdeal.τ).loc Cert.RprojKIdeal.main_arg7)) (m ((c.tc : Thread Cert.RprojKIdeal.nD Cert.RprojKIdeal.τ).loc Cert.RprojKIdeal.main_arg8))).1 = (fun _ => 1#1)
    ∧ (Cert.Pre_finite_rproj.fn (F := Ideal) (m ((c.tc : Thread Cert.RprojKIdeal.nD Cert.RprojKIdeal.τ).loc Cert.RprojKIdeal.main_arg0)) (m ((c.tc : Thread Cert.RprojKIdeal.nD Cert.RprojKIdeal.τ).loc Cert.RprojKIdeal.main_arg1)) (m ((c.tc : Thread Cert.RprojKIdeal.nD Cert.RprojKIdeal.τ).loc Cert.RprojKIdeal.main_arg2)) (m ((c.tc : Thread Cert.RprojKIdeal.nD Cert.RprojKIdeal.τ).loc Cert.RprojKIdeal.main_arg3)) (m ((c.tc : Thread Cert.RprojKIdeal.nD Cert.RprojKIdeal.τ).loc Cert.RprojKIdeal.main_arg4)) (m ((c.tc : Thread Cert.RprojKIdeal.nD Cert.RprojKIdeal.τ).loc Cert.RprojKIdeal.main_arg5)) (m ((c.tc : Thread Cert.RprojKIdeal.nD Cert.RprojKIdeal.τ).loc Cert.RprojKIdeal.main_arg6)) (m ((c.tc : Thread Cert.RprojKIdeal.nD Cert.RprojKIdeal.τ).loc Cert.RprojKIdeal.main_arg7)) (m ((c.tc : Thread Cert.RprojKIdeal.nD Cert.RprojKIdeal.τ).loc Cert.RprojKIdeal.main_arg8))).2.1 = (fun _ => 1#1)
    ∧ (Cert.Pre_finite_rproj.fn (F := Ideal) (m ((c.tc : Thread Cert.RprojKIdeal.nD Cert.RprojKIdeal.τ).loc Cert.RprojKIdeal.main_arg0)) (m ((c.tc : Thread Cert.RprojKIdeal.nD Cert.RprojKIdeal.τ).loc Cert.RprojKIdeal.main_arg1)) (m ((c.tc : Thread Cert.RprojKIdeal.nD Cert.RprojKIdeal.τ).loc Cert.RprojKIdeal.main_arg2)) (m ((c.tc : Thread Cert.RprojKIdeal.nD Cert.RprojKIdeal.τ).loc Cert.RprojKIdeal.main_arg3)) (m ((c.tc : Thread Cert.RprojKIdeal.nD Cert.RprojKIdeal.τ).loc Cert.RprojKIdeal.main_arg4)) (m ((c.tc : Thread Cert.RprojKIdeal.nD Cert.RprojKIdeal.τ).loc Cert.RprojKIdeal.main_arg5)) (m ((c.tc : Thread Cert.RprojKIdeal.nD Cert.RprojKIdeal.τ).loc Cert.RprojKIdeal.main_arg6)) (m ((c.tc : Thread Cert.RprojKIdeal.nD Cert.RprojKIdeal.τ).loc Cert.RprojKIdeal.main_arg7)) (m ((c.tc : Thread Cert.RprojKIdeal.nD Cert.RprojKIdeal.τ).loc Cert.RprojKIdeal.main_arg8))).2.2.1 = (fun _ => 1#1)
    ∧ (Cert.Pre_finite_rproj.fn (F := Ideal) (m ((c.tc : Thread Cert.RprojKIdeal.nD Cert.RprojKIdeal.τ).loc Cert.RprojKIdeal.main_arg0)) (m ((c.tc : Thread Cert.RprojKIdeal.nD Cert.RprojKIdeal.τ).loc Cert.RprojKIdeal.main_arg1)) (m ((c.tc : Thread Cert.RprojKIdeal.nD Cert.RprojKIdeal.τ).loc Cert.RprojKIdeal.main_arg2)) (m ((c.tc : Thread Cert.RprojKIdeal.nD Cert.RprojKIdeal.τ).loc Cert.RprojKIdeal.main_arg3)) (m ((c.tc : Thread Cert.RprojKIdeal.nD Cert.RprojKIdeal.τ).loc Cert.RprojKIdeal.main_arg4)) (m ((c.tc : Thread Cert.RprojKIdeal.nD Cert.RprojKIdeal.τ).loc Cert.RprojKIdeal.main_arg5)) (m ((c.tc : Thread Cert.RprojKIdeal.nD Cert.RprojKIdeal.τ).loc Cert.RprojKIdeal.main_arg6)) (m ((c.tc : Thread Cert.RprojKIdeal.nD Cert.RprojKIdeal.τ).loc Cert.RprojKIdeal.main_arg7)) (m ((c.tc : Thread Cert.RprojKIdeal.nD Cert.RprojKIdeal.τ).loc Cert.RprojKIdeal.main_arg8))).2.2.2 = (fun _ => 1#1)

def Pre_RprojRIdeal (m : (ℓ : Loc Cert.RprojRIdeal.nD Cert.RprojRIdeal.τ Cert.RprojRIdeal.sig) → Buf (Elt Ideal) ℓ) : Prop :=
  True

def Pre_RprojRIdeal_finite_rproj [hPre_finite_rproj : Cert.Pre_finite_rproj.Facts] (m : (ℓ : Loc Cert.RprojRIdeal.nD Cert.RprojRIdeal.τ Cert.RprojRIdeal.sig) → Buf (Elt Ideal) ℓ) : Prop :=
  ∀ c : Dev Cert.RprojRIdeal.nD,
    (Cert.Pre_finite_rproj.fn (F := Ideal) (m ((c.tc : Thread Cert.RprojRIdeal.nD Cert.RprojRIdeal.τ).loc Cert.RprojRIdeal.main_arg0)) (m ((c.tc : Thread Cert.RprojRIdeal.nD Cert.RprojRIdeal.τ).loc Cert.RprojRIdeal.main_arg1)) (m ((c.tc : Thread Cert.RprojRIdeal.nD Cert.RprojRIdeal.τ).loc Cert.RprojRIdeal.main_arg2)) (m ((c.tc : Thread Cert.RprojRIdeal.nD Cert.RprojRIdeal.τ).loc Cert.RprojRIdeal.main_arg3)) (m ((c.tc : Thread Cert.RprojRIdeal.nD Cert.RprojRIdeal.τ).loc Cert.RprojRIdeal.main_arg4)) (m ((c.tc : Thread Cert.RprojRIdeal.nD Cert.RprojRIdeal.τ).loc Cert.RprojRIdeal.main_arg5)) (m ((c.tc : Thread Cert.RprojRIdeal.nD Cert.RprojRIdeal.τ).loc Cert.RprojRIdeal.main_arg6)) (m ((c.tc : Thread Cert.RprojRIdeal.nD Cert.RprojRIdeal.τ).loc Cert.RprojRIdeal.main_arg7)) (m ((c.tc : Thread Cert.RprojRIdeal.nD Cert.RprojRIdeal.τ).loc Cert.RprojRIdeal.main_arg8))).1 = (fun _ => 1#1)
    ∧ (Cert.Pre_finite_rproj.fn (F := Ideal) (m ((c.tc : Thread Cert.RprojRIdeal.nD Cert.RprojRIdeal.τ).loc Cert.RprojRIdeal.main_arg0)) (m ((c.tc : Thread Cert.RprojRIdeal.nD Cert.RprojRIdeal.τ).loc Cert.RprojRIdeal.main_arg1)) (m ((c.tc : Thread Cert.RprojRIdeal.nD Cert.RprojRIdeal.τ).loc Cert.RprojRIdeal.main_arg2)) (m ((c.tc : Thread Cert.RprojRIdeal.nD Cert.RprojRIdeal.τ).loc Cert.RprojRIdeal.main_arg3)) (m ((c.tc : Thread Cert.RprojRIdeal.nD Cert.RprojRIdeal.τ).loc Cert.RprojRIdeal.main_arg4)) (m ((c.tc : Thread Cert.RprojRIdeal.nD Cert.RprojRIdeal.τ).loc Cert.RprojRIdeal.main_arg5)) (m ((c.tc : Thread Cert.RprojRIdeal.nD Cert.RprojRIdeal.τ).loc Cert.RprojRIdeal.main_arg6)) (m ((c.tc : Thread Cert.RprojRIdeal.nD Cert.RprojRIdeal.τ).loc Cert.RprojRIdeal.main_arg7)) (m ((c.tc : Thread Cert.RprojRIdeal.nD Cert.RprojRIdeal.τ).loc Cert.RprojRIdeal.main_arg8))).2.1 = (fun _ => 1#1)
    ∧ (Cert.Pre_finite_rproj.fn (F := Ideal) (m ((c.tc : Thread Cert.RprojRIdeal.nD Cert.RprojRIdeal.τ).loc Cert.RprojRIdeal.main_arg0)) (m ((c.tc : Thread Cert.RprojRIdeal.nD Cert.RprojRIdeal.τ).loc Cert.RprojRIdeal.main_arg1)) (m ((c.tc : Thread Cert.RprojRIdeal.nD Cert.RprojRIdeal.τ).loc Cert.RprojRIdeal.main_arg2)) (m ((c.tc : Thread Cert.RprojRIdeal.nD Cert.RprojRIdeal.τ).loc Cert.RprojRIdeal.main_arg3)) (m ((c.tc : Thread Cert.RprojRIdeal.nD Cert.RprojRIdeal.τ).loc Cert.RprojRIdeal.main_arg4)) (m ((c.tc : Thread Cert.RprojRIdeal.nD Cert.RprojRIdeal.τ).loc Cert.RprojRIdeal.main_arg5)) (m ((c.tc : Thread Cert.RprojRIdeal.nD Cert.RprojRIdeal.τ).loc Cert.RprojRIdeal.main_arg6)) (m ((c.tc : Thread Cert.RprojRIdeal.nD Cert.RprojRIdeal.τ).loc Cert.RprojRIdeal.main_arg7)) (m ((c.tc : Thread Cert.RprojRIdeal.nD Cert.RprojRIdeal.τ).loc Cert.RprojRIdeal.main_arg8))).2.2.1 = (fun _ => 1#1)
    ∧ (Cert.Pre_finite_rproj.fn (F := Ideal) (m ((c.tc : Thread Cert.RprojRIdeal.nD Cert.RprojRIdeal.τ).loc Cert.RprojRIdeal.main_arg0)) (m ((c.tc : Thread Cert.RprojRIdeal.nD Cert.RprojRIdeal.τ).loc Cert.RprojRIdeal.main_arg1)) (m ((c.tc : Thread Cert.RprojRIdeal.nD Cert.RprojRIdeal.τ).loc Cert.RprojRIdeal.main_arg2)) (m ((c.tc : Thread Cert.RprojRIdeal.nD Cert.RprojRIdeal.τ).loc Cert.RprojRIdeal.main_arg3)) (m ((c.tc : Thread Cert.RprojRIdeal.nD Cert.RprojRIdeal.τ).loc Cert.RprojRIdeal.main_arg4)) (m ((c.tc : Thread Cert.RprojRIdeal.nD Cert.RprojRIdeal.τ).loc Cert.RprojRIdeal.main_arg5)) (m ((c.tc : Thread Cert.RprojRIdeal.nD Cert.RprojRIdeal.τ).loc Cert.RprojRIdeal.main_arg6)) (m ((c.tc : Thread Cert.RprojRIdeal.nD Cert.RprojRIdeal.τ).loc Cert.RprojRIdeal.main_arg7)) (m ((c.tc : Thread Cert.RprojRIdeal.nD Cert.RprojRIdeal.τ).loc Cert.RprojRIdeal.main_arg8))).2.2.2 = (fun _ => 1#1)

def Pre_DprojK (m : (ℓ : Loc Cert.DprojK.nD Cert.DprojK.τ Cert.DprojK.sig) → Buf (Elt Bits) ℓ) : Prop :=
  True

def Pre_DprojKIdeal (m : (ℓ : Loc Cert.DprojKIdeal.nD Cert.DprojKIdeal.τ Cert.DprojKIdeal.sig) → Buf (Elt Ideal) ℓ) : Prop :=
  True

def Pre_DprojKIdeal_finite_dproj [hPre_finite_dproj : Cert.Pre_finite_dproj.Facts] (m : (ℓ : Loc Cert.DprojKIdeal.nD Cert.DprojKIdeal.τ Cert.DprojKIdeal.sig) → Buf (Elt Ideal) ℓ) : Prop :=
  ∀ c : Dev Cert.DprojKIdeal.nD,
    (Cert.Pre_finite_dproj.fn (F := Ideal) (m ((c.tc : Thread Cert.DprojKIdeal.nD Cert.DprojKIdeal.τ).loc Cert.DprojKIdeal.main_arg0)) (m ((c.tc : Thread Cert.DprojKIdeal.nD Cert.DprojKIdeal.τ).loc Cert.DprojKIdeal.main_arg1)) (m ((c.tc : Thread Cert.DprojKIdeal.nD Cert.DprojKIdeal.τ).loc Cert.DprojKIdeal.main_arg2)) (m ((c.tc : Thread Cert.DprojKIdeal.nD Cert.DprojKIdeal.τ).loc Cert.DprojKIdeal.main_arg3)) (m ((c.tc : Thread Cert.DprojKIdeal.nD Cert.DprojKIdeal.τ).loc Cert.DprojKIdeal.main_arg4)) (m ((c.tc : Thread Cert.DprojKIdeal.nD Cert.DprojKIdeal.τ).loc Cert.DprojKIdeal.main_arg5))) = (fun _ => 1#1)

def Pre_DprojRIdeal (m : (ℓ : Loc Cert.DprojRIdeal.nD Cert.DprojRIdeal.τ Cert.DprojRIdeal.sig) → Buf (Elt Ideal) ℓ) : Prop :=
  True

def Pre_DprojRIdeal_finite_dproj [hPre_finite_dproj : Cert.Pre_finite_dproj.Facts] (m : (ℓ : Loc Cert.DprojRIdeal.nD Cert.DprojRIdeal.τ Cert.DprojRIdeal.sig) → Buf (Elt Ideal) ℓ) : Prop :=
  ∀ c : Dev Cert.DprojRIdeal.nD,
    (Cert.Pre_finite_dproj.fn (F := Ideal) (m ((c.tc : Thread Cert.DprojRIdeal.nD Cert.DprojRIdeal.τ).loc Cert.DprojRIdeal.main_arg0)) (m ((c.tc : Thread Cert.DprojRIdeal.nD Cert.DprojRIdeal.τ).loc Cert.DprojRIdeal.main_arg1)) (m ((c.tc : Thread Cert.DprojRIdeal.nD Cert.DprojRIdeal.τ).loc Cert.DprojRIdeal.main_arg2)) (m ((c.tc : Thread Cert.DprojRIdeal.nD Cert.DprojRIdeal.τ).loc Cert.DprojRIdeal.main_arg3)) (m ((c.tc : Thread Cert.DprojRIdeal.nD Cert.DprojRIdeal.τ).loc Cert.DprojRIdeal.main_arg4)) (m ((c.tc : Thread Cert.DprojRIdeal.nD Cert.DprojRIdeal.τ).loc Cert.DprojRIdeal.main_arg5))) = (fun _ => 1#1)

def Pre_RmsK (m : (ℓ : Loc Cert.RmsK.nD Cert.RmsK.τ Cert.RmsK.sig) → Buf (Elt Bits) ℓ) : Prop :=
  True

def Pre_RmsKIdeal (m : (ℓ : Loc Cert.RmsKIdeal.nD Cert.RmsKIdeal.τ Cert.RmsKIdeal.sig) → Buf (Elt Ideal) ℓ) : Prop :=
  True

def Pre_RmsRIdeal (m : (ℓ : Loc Cert.RmsRIdeal.nD Cert.RmsRIdeal.τ Cert.RmsRIdeal.sig) → Buf (Elt Ideal) ℓ) : Prop :=
  True

def Pre_BetaK (m : (ℓ : Loc Cert.BetaK.nD Cert.BetaK.τ Cert.BetaK.sig) → Buf (Elt Bits) ℓ) : Prop :=
  True

def Pre_BetaKIdeal (m : (ℓ : Loc Cert.BetaKIdeal.nD Cert.BetaKIdeal.τ Cert.BetaKIdeal.sig) → Buf (Elt Ideal) ℓ) : Prop :=
  True

def Pre_BetaRIdeal (m : (ℓ : Loc Cert.BetaRIdeal.nD Cert.BetaRIdeal.τ Cert.BetaRIdeal.sig) → Buf (Elt Ideal) ℓ) : Prop :=
  True

def Pre_PrepK (m : (ℓ : Loc Cert.PrepK.nD Cert.PrepK.τ Cert.PrepK.sig) → Buf (Elt Bits) ℓ) : Prop :=
  True

def Pre_PrepKIdeal (m : (ℓ : Loc Cert.PrepKIdeal.nD Cert.PrepKIdeal.τ Cert.PrepKIdeal.sig) → Buf (Elt Ideal) ℓ) : Prop :=
  True

def Pre_PrepKIdeal_finite_prep [hPre_finite_prep : Cert.Pre_finite_prep.Facts] (m : (ℓ : Loc Cert.PrepKIdeal.nD Cert.PrepKIdeal.τ Cert.PrepKIdeal.sig) → Buf (Elt Ideal) ℓ) : Prop :=
  ∀ c : Dev Cert.PrepKIdeal.nD,
    (Cert.Pre_finite_prep.fn (F := Ideal) (m ((c.tc : Thread Cert.PrepKIdeal.nD Cert.PrepKIdeal.τ).loc Cert.PrepKIdeal.main_arg0)) (m ((c.tc : Thread Cert.PrepKIdeal.nD Cert.PrepKIdeal.τ).loc Cert.PrepKIdeal.main_arg1)) (m ((c.tc : Thread Cert.PrepKIdeal.nD Cert.PrepKIdeal.τ).loc Cert.PrepKIdeal.main_arg2)) (m ((c.tc : Thread Cert.PrepKIdeal.nD Cert.PrepKIdeal.τ).loc Cert.PrepKIdeal.main_arg3)) (m ((c.tc : Thread Cert.PrepKIdeal.nD Cert.PrepKIdeal.τ).loc Cert.PrepKIdeal.main_arg4)) (m ((c.tc : Thread Cert.PrepKIdeal.nD Cert.PrepKIdeal.τ).loc Cert.PrepKIdeal.main_arg5)) (m ((c.tc : Thread Cert.PrepKIdeal.nD Cert.PrepKIdeal.τ).loc Cert.PrepKIdeal.main_arg6)) (m ((c.tc : Thread Cert.PrepKIdeal.nD Cert.PrepKIdeal.τ).loc Cert.PrepKIdeal.main_arg7)) (m ((c.tc : Thread Cert.PrepKIdeal.nD Cert.PrepKIdeal.τ).loc Cert.PrepKIdeal.main_arg8))).1 = (fun _ => 1#1)
    ∧ (Cert.Pre_finite_prep.fn (F := Ideal) (m ((c.tc : Thread Cert.PrepKIdeal.nD Cert.PrepKIdeal.τ).loc Cert.PrepKIdeal.main_arg0)) (m ((c.tc : Thread Cert.PrepKIdeal.nD Cert.PrepKIdeal.τ).loc Cert.PrepKIdeal.main_arg1)) (m ((c.tc : Thread Cert.PrepKIdeal.nD Cert.PrepKIdeal.τ).loc Cert.PrepKIdeal.main_arg2)) (m ((c.tc : Thread Cert.PrepKIdeal.nD Cert.PrepKIdeal.τ).loc Cert.PrepKIdeal.main_arg3)) (m ((c.tc : Thread Cert.PrepKIdeal.nD Cert.PrepKIdeal.τ).loc Cert.PrepKIdeal.main_arg4)) (m ((c.tc : Thread Cert.PrepKIdeal.nD Cert.PrepKIdeal.τ).loc Cert.PrepKIdeal.main_arg5)) (m ((c.tc : Thread Cert.PrepKIdeal.nD Cert.PrepKIdeal.τ).loc Cert.PrepKIdeal.main_arg6)) (m ((c.tc : Thread Cert.PrepKIdeal.nD Cert.PrepKIdeal.τ).loc Cert.PrepKIdeal.main_arg7)) (m ((c.tc : Thread Cert.PrepKIdeal.nD Cert.PrepKIdeal.τ).loc Cert.PrepKIdeal.main_arg8))).2.1 = (fun _ => 1#1)
    ∧ (Cert.Pre_finite_prep.fn (F := Ideal) (m ((c.tc : Thread Cert.PrepKIdeal.nD Cert.PrepKIdeal.τ).loc Cert.PrepKIdeal.main_arg0)) (m ((c.tc : Thread Cert.PrepKIdeal.nD Cert.PrepKIdeal.τ).loc Cert.PrepKIdeal.main_arg1)) (m ((c.tc : Thread Cert.PrepKIdeal.nD Cert.PrepKIdeal.τ).loc Cert.PrepKIdeal.main_arg2)) (m ((c.tc : Thread Cert.PrepKIdeal.nD Cert.PrepKIdeal.τ).loc Cert.PrepKIdeal.main_arg3)) (m ((c.tc : Thread Cert.PrepKIdeal.nD Cert.PrepKIdeal.τ).loc Cert.PrepKIdeal.main_arg4)) (m ((c.tc : Thread Cert.PrepKIdeal.nD Cert.PrepKIdeal.τ).loc Cert.PrepKIdeal.main_arg5)) (m ((c.tc : Thread Cert.PrepKIdeal.nD Cert.PrepKIdeal.τ).loc Cert.PrepKIdeal.main_arg6)) (m ((c.tc : Thread Cert.PrepKIdeal.nD Cert.PrepKIdeal.τ).loc Cert.PrepKIdeal.main_arg7)) (m ((c.tc : Thread Cert.PrepKIdeal.nD Cert.PrepKIdeal.τ).loc Cert.PrepKIdeal.main_arg8))).2.2 = (fun _ => 1#1)

def Pre_PrepRIdeal (m : (ℓ : Loc Cert.PrepRIdeal.nD Cert.PrepRIdeal.τ Cert.PrepRIdeal.sig) → Buf (Elt Ideal) ℓ) : Prop :=
  True

def Pre_PrepRIdeal_finite_prep [hPre_finite_prep : Cert.Pre_finite_prep.Facts] (m : (ℓ : Loc Cert.PrepRIdeal.nD Cert.PrepRIdeal.τ Cert.PrepRIdeal.sig) → Buf (Elt Ideal) ℓ) : Prop :=
  ∀ c : Dev Cert.PrepRIdeal.nD,
    (Cert.Pre_finite_prep.fn (F := Ideal) (m ((c.tc : Thread Cert.PrepRIdeal.nD Cert.PrepRIdeal.τ).loc Cert.PrepRIdeal.main_arg0)) (m ((c.tc : Thread Cert.PrepRIdeal.nD Cert.PrepRIdeal.τ).loc Cert.PrepRIdeal.main_arg1)) (m ((c.tc : Thread Cert.PrepRIdeal.nD Cert.PrepRIdeal.τ).loc Cert.PrepRIdeal.main_arg2)) (m ((c.tc : Thread Cert.PrepRIdeal.nD Cert.PrepRIdeal.τ).loc Cert.PrepRIdeal.main_arg3)) (m ((c.tc : Thread Cert.PrepRIdeal.nD Cert.PrepRIdeal.τ).loc Cert.PrepRIdeal.main_arg4)) (m ((c.tc : Thread Cert.PrepRIdeal.nD Cert.PrepRIdeal.τ).loc Cert.PrepRIdeal.main_arg5)) (m ((c.tc : Thread Cert.PrepRIdeal.nD Cert.PrepRIdeal.τ).loc Cert.PrepRIdeal.main_arg6)) (m ((c.tc : Thread Cert.PrepRIdeal.nD Cert.PrepRIdeal.τ).loc Cert.PrepRIdeal.main_arg7)) (m ((c.tc : Thread Cert.PrepRIdeal.nD Cert.PrepRIdeal.τ).loc Cert.PrepRIdeal.main_arg8))).1 = (fun _ => 1#1)
    ∧ (Cert.Pre_finite_prep.fn (F := Ideal) (m ((c.tc : Thread Cert.PrepRIdeal.nD Cert.PrepRIdeal.τ).loc Cert.PrepRIdeal.main_arg0)) (m ((c.tc : Thread Cert.PrepRIdeal.nD Cert.PrepRIdeal.τ).loc Cert.PrepRIdeal.main_arg1)) (m ((c.tc : Thread Cert.PrepRIdeal.nD Cert.PrepRIdeal.τ).loc Cert.PrepRIdeal.main_arg2)) (m ((c.tc : Thread Cert.PrepRIdeal.nD Cert.PrepRIdeal.τ).loc Cert.PrepRIdeal.main_arg3)) (m ((c.tc : Thread Cert.PrepRIdeal.nD Cert.PrepRIdeal.τ).loc Cert.PrepRIdeal.main_arg4)) (m ((c.tc : Thread Cert.PrepRIdeal.nD Cert.PrepRIdeal.τ).loc Cert.PrepRIdeal.main_arg5)) (m ((c.tc : Thread Cert.PrepRIdeal.nD Cert.PrepRIdeal.τ).loc Cert.PrepRIdeal.main_arg6)) (m ((c.tc : Thread Cert.PrepRIdeal.nD Cert.PrepRIdeal.τ).loc Cert.PrepRIdeal.main_arg7)) (m ((c.tc : Thread Cert.PrepRIdeal.nD Cert.PrepRIdeal.τ).loc Cert.PrepRIdeal.main_arg8))).2.1 = (fun _ => 1#1)
    ∧ (Cert.Pre_finite_prep.fn (F := Ideal) (m ((c.tc : Thread Cert.PrepRIdeal.nD Cert.PrepRIdeal.τ).loc Cert.PrepRIdeal.main_arg0)) (m ((c.tc : Thread Cert.PrepRIdeal.nD Cert.PrepRIdeal.τ).loc Cert.PrepRIdeal.main_arg1)) (m ((c.tc : Thread Cert.PrepRIdeal.nD Cert.PrepRIdeal.τ).loc Cert.PrepRIdeal.main_arg2)) (m ((c.tc : Thread Cert.PrepRIdeal.nD Cert.PrepRIdeal.τ).loc Cert.PrepRIdeal.main_arg3)) (m ((c.tc : Thread Cert.PrepRIdeal.nD Cert.PrepRIdeal.τ).loc Cert.PrepRIdeal.main_arg4)) (m ((c.tc : Thread Cert.PrepRIdeal.nD Cert.PrepRIdeal.τ).loc Cert.PrepRIdeal.main_arg5)) (m ((c.tc : Thread Cert.PrepRIdeal.nD Cert.PrepRIdeal.τ).loc Cert.PrepRIdeal.main_arg6)) (m ((c.tc : Thread Cert.PrepRIdeal.nD Cert.PrepRIdeal.τ).loc Cert.PrepRIdeal.main_arg7)) (m ((c.tc : Thread Cert.PrepRIdeal.nD Cert.PrepRIdeal.τ).loc Cert.PrepRIdeal.main_arg8))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DactK [hDactK : Cert.DactK.Facts] : Prop :=
  ∀ (m : (ℓ : Loc Cert.DactK.nD Cert.DactK.τ Cert.DactK.sig) → Buf (Elt Bits) ℓ) (g : Dev Cert.DactK.nD → PrngReg), Pre_DactK m →
    θ_run (Cert.DactK.defs (F := Bits)) (onTc (τ := Cert.DactK.τ) (Cert.DactK.main (F := Bits))) ⟨m, fun _ => 0, g⟩ (fun r => (∀ c : Dev Cert.DactK.nD,
      r.2.mem ((c.tc : Thread Cert.DactK.nD Cert.DactK.τ).loc Cert.DactK.main_arg0) = m ((c.tc : Thread Cert.DactK.nD Cert.DactK.τ).loc Cert.DactK.main_arg0)
      ∧ r.2.mem ((c.tc : Thread Cert.DactK.nD Cert.DactK.τ).loc Cert.DactK.main_arg1) = m ((c.tc : Thread Cert.DactK.nD Cert.DactK.τ).loc Cert.DactK.main_arg1))
      ∧ r.2.sem = fun _ => 0)

def quiescent_DactKIdeal [hDactKIdeal : Cert.DactKIdeal.Facts] : Prop :=
  ∀ (m : (ℓ : Loc Cert.DactKIdeal.nD Cert.DactKIdeal.τ Cert.DactKIdeal.sig) → Buf (Elt Ideal) ℓ) (g : Dev Cert.DactKIdeal.nD → PrngReg), Pre_DactKIdeal m →
    θ_run (Cert.DactKIdeal.defs (F := Ideal)) (onTc (τ := Cert.DactKIdeal.τ) (Cert.DactKIdeal.main (F := Ideal))) ⟨m, fun _ => 0, g⟩ (fun r => (∀ c : Dev Cert.DactKIdeal.nD,
      r.2.mem ((c.tc : Thread Cert.DactKIdeal.nD Cert.DactKIdeal.τ).loc Cert.DactKIdeal.main_arg0) = m ((c.tc : Thread Cert.DactKIdeal.nD Cert.DactKIdeal.τ).loc Cert.DactKIdeal.main_arg0)
      ∧ r.2.mem ((c.tc : Thread Cert.DactKIdeal.nD Cert.DactKIdeal.τ).loc Cert.DactKIdeal.main_arg1) = m ((c.tc : Thread Cert.DactKIdeal.nD Cert.DactKIdeal.τ).loc Cert.DactKIdeal.main_arg1))
      ∧ r.2.sem = fun _ => 0)

def quiescent_DactRIdeal [hDactRIdeal : Cert.DactRIdeal.Facts] : Prop :=
  ∀ (m : (ℓ : Loc Cert.DactRIdeal.nD Cert.DactRIdeal.τ Cert.DactRIdeal.sig) → Buf (Elt Ideal) ℓ) (g : Dev Cert.DactRIdeal.nD → PrngReg), Pre_DactRIdeal m →
    θ_run (Cert.DactRIdeal.defs (F := Ideal)) (onTc (τ := Cert.DactRIdeal.τ) (Cert.DactRIdeal.main (F := Ideal))) ⟨m, fun _ => 0, g⟩ (fun r => (∀ c : Dev Cert.DactRIdeal.nD,
      r.2.mem ((c.tc : Thread Cert.DactRIdeal.nD Cert.DactRIdeal.τ).loc Cert.DactRIdeal.main_arg0) = m ((c.tc : Thread Cert.DactRIdeal.nD Cert.DactRIdeal.τ).loc Cert.DactRIdeal.main_arg0)
      ∧ r.2.mem ((c.tc : Thread Cert.DactRIdeal.nD Cert.DactRIdeal.τ).loc Cert.DactRIdeal.main_arg1) = m ((c.tc : Thread Cert.DactRIdeal.nD Cert.DactRIdeal.τ).loc Cert.DactRIdeal.main_arg1))
      ∧ r.2.sem = fun _ => 0)

def quiescent_GupK [hGupK : Cert.GupK.Facts] : Prop :=
  ∀ (m : (ℓ : Loc Cert.GupK.nD Cert.GupK.τ Cert.GupK.sig) → Buf (Elt Bits) ℓ) (g : Dev Cert.GupK.nD → PrngReg), Pre_GupK m →
    θ_run (Cert.GupK.defs (F := Bits)) (onTc (τ := Cert.GupK.τ) (Cert.GupK.main (F := Bits))) ⟨m, fun _ => 0, g⟩ (fun r => (∀ c : Dev Cert.GupK.nD,
      r.2.mem ((c.tc : Thread Cert.GupK.nD Cert.GupK.τ).loc Cert.GupK.main_arg0) = m ((c.tc : Thread Cert.GupK.nD Cert.GupK.τ).loc Cert.GupK.main_arg0)
      ∧ r.2.mem ((c.tc : Thread Cert.GupK.nD Cert.GupK.τ).loc Cert.GupK.main_arg1) = m ((c.tc : Thread Cert.GupK.nD Cert.GupK.τ).loc Cert.GupK.main_arg1))
      ∧ r.2.sem = fun _ => 0)

def quiescent_GupKIdeal [hGupKIdeal : Cert.GupKIdeal.Facts] : Prop :=
  ∀ (m : (ℓ : Loc Cert.GupKIdeal.nD Cert.GupKIdeal.τ Cert.GupKIdeal.sig) → Buf (Elt Ideal) ℓ) (g : Dev Cert.GupKIdeal.nD → PrngReg), Pre_GupKIdeal m →
    θ_run (Cert.GupKIdeal.defs (F := Ideal)) (onTc (τ := Cert.GupKIdeal.τ) (Cert.GupKIdeal.main (F := Ideal))) ⟨m, fun _ => 0, g⟩ (fun r => (∀ c : Dev Cert.GupKIdeal.nD,
      r.2.mem ((c.tc : Thread Cert.GupKIdeal.nD Cert.GupKIdeal.τ).loc Cert.GupKIdeal.main_arg0) = m ((c.tc : Thread Cert.GupKIdeal.nD Cert.GupKIdeal.τ).loc Cert.GupKIdeal.main_arg0)
      ∧ r.2.mem ((c.tc : Thread Cert.GupKIdeal.nD Cert.GupKIdeal.τ).loc Cert.GupKIdeal.main_arg1) = m ((c.tc : Thread Cert.GupKIdeal.nD Cert.GupKIdeal.τ).loc Cert.GupKIdeal.main_arg1))
      ∧ r.2.sem = fun _ => 0)

def quiescent_GupRIdeal [hGupRIdeal : Cert.GupRIdeal.Facts] : Prop :=
  ∀ (m : (ℓ : Loc Cert.GupRIdeal.nD Cert.GupRIdeal.τ Cert.GupRIdeal.sig) → Buf (Elt Ideal) ℓ) (g : Dev Cert.GupRIdeal.nD → PrngReg), Pre_GupRIdeal m →
    θ_run (Cert.GupRIdeal.defs (F := Ideal)) (onTc (τ := Cert.GupRIdeal.τ) (Cert.GupRIdeal.main (F := Ideal))) ⟨m, fun _ => 0, g⟩ (fun r => (∀ c : Dev Cert.GupRIdeal.nD,
      r.2.mem ((c.tc : Thread Cert.GupRIdeal.nD Cert.GupRIdeal.τ).loc Cert.GupRIdeal.main_arg0) = m ((c.tc : Thread Cert.GupRIdeal.nD Cert.GupRIdeal.τ).loc Cert.GupRIdeal.main_arg0)
      ∧ r.2.mem ((c.tc : Thread Cert.GupRIdeal.nD Cert.GupRIdeal.τ).loc Cert.GupRIdeal.main_arg1) = m ((c.tc : Thread Cert.GupRIdeal.nD Cert.GupRIdeal.τ).loc Cert.GupRIdeal.main_arg1))
      ∧ r.2.sem = fun _ => 0)

def quiescent_DuTwoK [hDuTwoK : Cert.DuTwoK.Facts] : Prop :=
  ∀ (m : (ℓ : Loc Cert.DuTwoK.nD Cert.DuTwoK.τ Cert.DuTwoK.sig) → Buf (Elt Bits) ℓ) (g : Dev Cert.DuTwoK.nD → PrngReg), Pre_DuTwoK m →
    θ_run (Cert.DuTwoK.defs (F := Bits)) (onTc (τ := Cert.DuTwoK.τ) (Cert.DuTwoK.main (F := Bits))) ⟨m, fun _ => 0, g⟩ (fun r => (∀ c : Dev Cert.DuTwoK.nD,
      r.2.mem ((c.tc : Thread Cert.DuTwoK.nD Cert.DuTwoK.τ).loc Cert.DuTwoK.main_arg0) = m ((c.tc : Thread Cert.DuTwoK.nD Cert.DuTwoK.τ).loc Cert.DuTwoK.main_arg0)
      ∧ r.2.mem ((c.tc : Thread Cert.DuTwoK.nD Cert.DuTwoK.τ).loc Cert.DuTwoK.main_arg1) = m ((c.tc : Thread Cert.DuTwoK.nD Cert.DuTwoK.τ).loc Cert.DuTwoK.main_arg1))
      ∧ r.2.sem = fun _ => 0)

def quiescent_DuTwoKIdeal [hDuTwoKIdeal : Cert.DuTwoKIdeal.Facts] : Prop :=
  ∀ (m : (ℓ : Loc Cert.DuTwoKIdeal.nD Cert.DuTwoKIdeal.τ Cert.DuTwoKIdeal.sig) → Buf (Elt Ideal) ℓ) (g : Dev Cert.DuTwoKIdeal.nD → PrngReg), Pre_DuTwoKIdeal m →
    θ_run (Cert.DuTwoKIdeal.defs (F := Ideal)) (onTc (τ := Cert.DuTwoKIdeal.τ) (Cert.DuTwoKIdeal.main (F := Ideal))) ⟨m, fun _ => 0, g⟩ (fun r => (∀ c : Dev Cert.DuTwoKIdeal.nD,
      r.2.mem ((c.tc : Thread Cert.DuTwoKIdeal.nD Cert.DuTwoKIdeal.τ).loc Cert.DuTwoKIdeal.main_arg0) = m ((c.tc : Thread Cert.DuTwoKIdeal.nD Cert.DuTwoKIdeal.τ).loc Cert.DuTwoKIdeal.main_arg0)
      ∧ r.2.mem ((c.tc : Thread Cert.DuTwoKIdeal.nD Cert.DuTwoKIdeal.τ).loc Cert.DuTwoKIdeal.main_arg1) = m ((c.tc : Thread Cert.DuTwoKIdeal.nD Cert.DuTwoKIdeal.τ).loc Cert.DuTwoKIdeal.main_arg1))
      ∧ r.2.sem = fun _ => 0)

def quiescent_DuTwoRIdeal [hDuTwoRIdeal : Cert.DuTwoRIdeal.Facts] : Prop :=
  ∀ (m : (ℓ : Loc Cert.DuTwoRIdeal.nD Cert.DuTwoRIdeal.τ Cert.DuTwoRIdeal.sig) → Buf (Elt Ideal) ℓ) (g : Dev Cert.DuTwoRIdeal.nD → PrngReg), Pre_DuTwoRIdeal m →
    θ_run (Cert.DuTwoRIdeal.defs (F := Ideal)) (onTc (τ := Cert.DuTwoRIdeal.τ) (Cert.DuTwoRIdeal.main (F := Ideal))) ⟨m, fun _ => 0, g⟩ (fun r => (∀ c : Dev Cert.DuTwoRIdeal.nD,
      r.2.mem ((c.tc : Thread Cert.DuTwoRIdeal.nD Cert.DuTwoRIdeal.τ).loc Cert.DuTwoRIdeal.main_arg0) = m ((c.tc : Thread Cert.DuTwoRIdeal.nD Cert.DuTwoRIdeal.τ).loc Cert.DuTwoRIdeal.main_arg0)
      ∧ r.2.mem ((c.tc : Thread Cert.DuTwoRIdeal.nD Cert.DuTwoRIdeal.τ).loc Cert.DuTwoRIdeal.main_arg1) = m ((c.tc : Thread Cert.DuTwoRIdeal.nD Cert.DuTwoRIdeal.τ).loc Cert.DuTwoRIdeal.main_arg1))
      ∧ r.2.sem = fun _ => 0)

def quiescent_GdownK [hGdownK : Cert.GdownK.Facts] : Prop :=
  ∀ (m : (ℓ : Loc Cert.GdownK.nD Cert.GdownK.τ Cert.GdownK.sig) → Buf (Elt Bits) ℓ) (g : Dev Cert.GdownK.nD → PrngReg), Pre_GdownK m →
    θ_run (Cert.GdownK.defs (F := Bits)) (onTc (τ := Cert.GdownK.τ) (Cert.GdownK.main (F := Bits))) ⟨m, fun _ => 0, g⟩ (fun r => (∀ c : Dev Cert.GdownK.nD,
      r.2.mem ((c.tc : Thread Cert.GdownK.nD Cert.GdownK.τ).loc Cert.GdownK.main_arg0) = m ((c.tc : Thread Cert.GdownK.nD Cert.GdownK.τ).loc Cert.GdownK.main_arg0)
      ∧ r.2.mem ((c.tc : Thread Cert.GdownK.nD Cert.GdownK.τ).loc Cert.GdownK.main_arg1) = m ((c.tc : Thread Cert.GdownK.nD Cert.GdownK.τ).loc Cert.GdownK.main_arg1))
      ∧ r.2.sem = fun _ => 0)

def quiescent_GdownKIdeal [hGdownKIdeal : Cert.GdownKIdeal.Facts] : Prop :=
  ∀ (m : (ℓ : Loc Cert.GdownKIdeal.nD Cert.GdownKIdeal.τ Cert.GdownKIdeal.sig) → Buf (Elt Ideal) ℓ) (g : Dev Cert.GdownKIdeal.nD → PrngReg), Pre_GdownKIdeal m →
    θ_run (Cert.GdownKIdeal.defs (F := Ideal)) (onTc (τ := Cert.GdownKIdeal.τ) (Cert.GdownKIdeal.main (F := Ideal))) ⟨m, fun _ => 0, g⟩ (fun r => (∀ c : Dev Cert.GdownKIdeal.nD,
      r.2.mem ((c.tc : Thread Cert.GdownKIdeal.nD Cert.GdownKIdeal.τ).loc Cert.GdownKIdeal.main_arg0) = m ((c.tc : Thread Cert.GdownKIdeal.nD Cert.GdownKIdeal.τ).loc Cert.GdownKIdeal.main_arg0)
      ∧ r.2.mem ((c.tc : Thread Cert.GdownKIdeal.nD Cert.GdownKIdeal.τ).loc Cert.GdownKIdeal.main_arg1) = m ((c.tc : Thread Cert.GdownKIdeal.nD Cert.GdownKIdeal.τ).loc Cert.GdownKIdeal.main_arg1))
      ∧ r.2.sem = fun _ => 0)

def quiescent_GdownRIdeal [hGdownRIdeal : Cert.GdownRIdeal.Facts] : Prop :=
  ∀ (m : (ℓ : Loc Cert.GdownRIdeal.nD Cert.GdownRIdeal.τ Cert.GdownRIdeal.sig) → Buf (Elt Ideal) ℓ) (g : Dev Cert.GdownRIdeal.nD → PrngReg), Pre_GdownRIdeal m →
    θ_run (Cert.GdownRIdeal.defs (F := Ideal)) (onTc (τ := Cert.GdownRIdeal.τ) (Cert.GdownRIdeal.main (F := Ideal))) ⟨m, fun _ => 0, g⟩ (fun r => (∀ c : Dev Cert.GdownRIdeal.nD,
      r.2.mem ((c.tc : Thread Cert.GdownRIdeal.nD Cert.GdownRIdeal.τ).loc Cert.GdownRIdeal.main_arg0) = m ((c.tc : Thread Cert.GdownRIdeal.nD Cert.GdownRIdeal.τ).loc Cert.GdownRIdeal.main_arg0)
      ∧ r.2.mem ((c.tc : Thread Cert.GdownRIdeal.nD Cert.GdownRIdeal.τ).loc Cert.GdownRIdeal.main_arg1) = m ((c.tc : Thread Cert.GdownRIdeal.nD Cert.GdownRIdeal.τ).loc Cert.GdownRIdeal.main_arg1))
      ∧ r.2.sem = fun _ => 0)

def quiescent_GoutK [hGoutK : Cert.GoutK.Facts] : Prop :=
  ∀ (m : (ℓ : Loc Cert.GoutK.nD Cert.GoutK.τ Cert.GoutK.sig) → Buf (Elt Bits) ℓ) (g : Dev Cert.GoutK.nD → PrngReg), Pre_GoutK m →
    θ_run (Cert.GoutK.defs (F := Bits)) (onTc (τ := Cert.GoutK.τ) (Cert.GoutK.main (F := Bits))) ⟨m, fun _ => 0, g⟩ (fun r => (∀ c : Dev Cert.GoutK.nD,
      r.2.mem ((c.tc : Thread Cert.GoutK.nD Cert.GoutK.τ).loc Cert.GoutK.main_arg0) = m ((c.tc : Thread Cert.GoutK.nD Cert.GoutK.τ).loc Cert.GoutK.main_arg0)
      ∧ r.2.mem ((c.tc : Thread Cert.GoutK.nD Cert.GoutK.τ).loc Cert.GoutK.main_arg1) = m ((c.tc : Thread Cert.GoutK.nD Cert.GoutK.τ).loc Cert.GoutK.main_arg1))
      ∧ r.2.sem = fun _ => 0)

def quiescent_GoutKIdeal [hGoutKIdeal : Cert.GoutKIdeal.Facts] : Prop :=
  ∀ (m : (ℓ : Loc Cert.GoutKIdeal.nD Cert.GoutKIdeal.τ Cert.GoutKIdeal.sig) → Buf (Elt Ideal) ℓ) (g : Dev Cert.GoutKIdeal.nD → PrngReg), Pre_GoutKIdeal m →
    θ_run (Cert.GoutKIdeal.defs (F := Ideal)) (onTc (τ := Cert.GoutKIdeal.τ) (Cert.GoutKIdeal.main (F := Ideal))) ⟨m, fun _ => 0, g⟩ (fun r => (∀ c : Dev Cert.GoutKIdeal.nD,
      r.2.mem ((c.tc : Thread Cert.GoutKIdeal.nD Cert.GoutKIdeal.τ).loc Cert.GoutKIdeal.main_arg0) = m ((c.tc : Thread Cert.GoutKIdeal.nD Cert.GoutKIdeal.τ).loc Cert.GoutKIdeal.main_arg0)
      ∧ r.2.mem ((c.tc : Thread Cert.GoutKIdeal.nD Cert.GoutKIdeal.τ).loc Cert.GoutKIdeal.main_arg1) = m ((c.tc : Thread Cert.GoutKIdeal.nD Cert.GoutKIdeal.τ).loc Cert.GoutKIdeal.main_arg1))
      ∧ r.2.sem = fun _ => 0)

def quiescent_GoutRIdeal [hGoutRIdeal : Cert.GoutRIdeal.Facts] : Prop :=
  ∀ (m : (ℓ : Loc Cert.GoutRIdeal.nD Cert.GoutRIdeal.τ Cert.GoutRIdeal.sig) → Buf (Elt Ideal) ℓ) (g : Dev Cert.GoutRIdeal.nD → PrngReg), Pre_GoutRIdeal m →
    θ_run (Cert.GoutRIdeal.defs (F := Ideal)) (onTc (τ := Cert.GoutRIdeal.τ) (Cert.GoutRIdeal.main (F := Ideal))) ⟨m, fun _ => 0, g⟩ (fun r => (∀ c : Dev Cert.GoutRIdeal.nD,
      r.2.mem ((c.tc : Thread Cert.GoutRIdeal.nD Cert.GoutRIdeal.τ).loc Cert.GoutRIdeal.main_arg0) = m ((c.tc : Thread Cert.GoutRIdeal.nD Cert.GoutRIdeal.τ).loc Cert.GoutRIdeal.main_arg0)
      ∧ r.2.mem ((c.tc : Thread Cert.GoutRIdeal.nD Cert.GoutRIdeal.τ).loc Cert.GoutRIdeal.main_arg1) = m ((c.tc : Thread Cert.GoutRIdeal.nD Cert.GoutRIdeal.τ).loc Cert.GoutRIdeal.main_arg1))
      ∧ r.2.sem = fun _ => 0)

def quiescent_GraK [hGraK : Cert.GraK.Facts] : Prop :=
  ∀ (m : (ℓ : Loc Cert.GraK.nD Cert.GraK.τ Cert.GraK.sig) → Buf (Elt Bits) ℓ) (g : Dev Cert.GraK.nD → PrngReg), Pre_GraK m →
    θ_run (Cert.GraK.defs (F := Bits)) (onTc (τ := Cert.GraK.τ) (Cert.GraK.main (F := Bits))) ⟨m, fun _ => 0, g⟩ (fun r => (∀ c : Dev Cert.GraK.nD,
      r.2.mem ((c.tc : Thread Cert.GraK.nD Cert.GraK.τ).loc Cert.GraK.main_arg0) = m ((c.tc : Thread Cert.GraK.nD Cert.GraK.τ).loc Cert.GraK.main_arg0)
      ∧ r.2.mem ((c.tc : Thread Cert.GraK.nD Cert.GraK.τ).loc Cert.GraK.main_arg1) = m ((c.tc : Thread Cert.GraK.nD Cert.GraK.τ).loc Cert.GraK.main_arg1))
      ∧ r.2.sem = fun _ => 0)

def quiescent_GraKIdeal [hGraKIdeal : Cert.GraKIdeal.Facts] : Prop :=
  ∀ (m : (ℓ : Loc Cert.GraKIdeal.nD Cert.GraKIdeal.τ Cert.GraKIdeal.sig) → Buf (Elt Ideal) ℓ) (g : Dev Cert.GraKIdeal.nD → PrngReg), Pre_GraKIdeal m →
    θ_run (Cert.GraKIdeal.defs (F := Ideal)) (onTc (τ := Cert.GraKIdeal.τ) (Cert.GraKIdeal.main (F := Ideal))) ⟨m, fun _ => 0, g⟩ (fun r => (∀ c : Dev Cert.GraKIdeal.nD,
      r.2.mem ((c.tc : Thread Cert.GraKIdeal.nD Cert.GraKIdeal.τ).loc Cert.GraKIdeal.main_arg0) = m ((c.tc : Thread Cert.GraKIdeal.nD Cert.GraKIdeal.τ).loc Cert.GraKIdeal.main_arg0)
      ∧ r.2.mem ((c.tc : Thread Cert.GraKIdeal.nD Cert.GraKIdeal.τ).loc Cert.GraKIdeal.main_arg1) = m ((c.tc : Thread Cert.GraKIdeal.nD Cert.GraKIdeal.τ).loc Cert.GraKIdeal.main_arg1))
      ∧ r.2.sem = fun _ => 0)

def quiescent_GraRIdeal [hGraRIdeal : Cert.GraRIdeal.Facts] : Prop :=
  ∀ (m : (ℓ : Loc Cert.GraRIdeal.nD Cert.GraRIdeal.τ Cert.GraRIdeal.sig) → Buf (Elt Ideal) ℓ) (g : Dev Cert.GraRIdeal.nD → PrngReg), Pre_GraRIdeal m →
    θ_run (Cert.GraRIdeal.defs (F := Ideal)) (onTc (τ := Cert.GraRIdeal.τ) (Cert.GraRIdeal.main (F := Ideal))) ⟨m, fun _ => 0, g⟩ (fun r => (∀ c : Dev Cert.GraRIdeal.nD,
      r.2.mem ((c.tc : Thread Cert.GraRIdeal.nD Cert.GraRIdeal.τ).loc Cert.GraRIdeal.main_arg0) = m ((c.tc : Thread Cert.GraRIdeal.nD Cert.GraRIdeal.τ).loc Cert.GraRIdeal.main_arg0)
      ∧ r.2.mem ((c.tc : Thread Cert.GraRIdeal.nD Cert.GraRIdeal.τ).loc Cert.GraRIdeal.main_arg1) = m ((c.tc : Thread Cert.GraRIdeal.nD Cert.GraRIdeal.τ).loc Cert.GraRIdeal.main_arg1))
      ∧ r.2.sem = fun _ => 0)

def quiescent_UpK [hUpK : Cert.UpK.Facts] : Prop :=
  ∀ (m : (ℓ : Loc Cert.UpK.nD Cert.UpK.τ Cert.UpK.sig) → Buf (Elt Bits) ℓ) (g : Dev Cert.UpK.nD → PrngReg), Pre_UpK m →
    θ_run (Cert.UpK.defs (F := Bits)) (onTc (τ := Cert.UpK.τ) (Cert.UpK.main (F := Bits))) ⟨m, fun _ => 0, g⟩ (fun r => (∀ c : Dev Cert.UpK.nD,
      r.2.mem ((c.tc : Thread Cert.UpK.nD Cert.UpK.τ).loc Cert.UpK.main_arg0) = m ((c.tc : Thread Cert.UpK.nD Cert.UpK.τ).loc Cert.UpK.main_arg0)
      ∧ r.2.mem ((c.tc : Thread Cert.UpK.nD Cert.UpK.τ).loc Cert.UpK.main_arg1) = m ((c.tc : Thread Cert.UpK.nD Cert.UpK.τ).loc Cert.UpK.main_arg1))
      ∧ r.2.sem = fun _ => 0)

def quiescent_UpKIdeal [hUpKIdeal : Cert.UpKIdeal.Facts] : Prop :=
  ∀ (m : (ℓ : Loc Cert.UpKIdeal.nD Cert.UpKIdeal.τ Cert.UpKIdeal.sig) → Buf (Elt Ideal) ℓ) (g : Dev Cert.UpKIdeal.nD → PrngReg), Pre_UpKIdeal m →
    θ_run (Cert.UpKIdeal.defs (F := Ideal)) (onTc (τ := Cert.UpKIdeal.τ) (Cert.UpKIdeal.main (F := Ideal))) ⟨m, fun _ => 0, g⟩ (fun r => (∀ c : Dev Cert.UpKIdeal.nD,
      r.2.mem ((c.tc : Thread Cert.UpKIdeal.nD Cert.UpKIdeal.τ).loc Cert.UpKIdeal.main_arg0) = m ((c.tc : Thread Cert.UpKIdeal.nD Cert.UpKIdeal.τ).loc Cert.UpKIdeal.main_arg0)
      ∧ r.2.mem ((c.tc : Thread Cert.UpKIdeal.nD Cert.UpKIdeal.τ).loc Cert.UpKIdeal.main_arg1) = m ((c.tc : Thread Cert.UpKIdeal.nD Cert.UpKIdeal.τ).loc Cert.UpKIdeal.main_arg1))
      ∧ r.2.sem = fun _ => 0)

def quiescent_UpRIdeal [hUpRIdeal : Cert.UpRIdeal.Facts] : Prop :=
  ∀ (m : (ℓ : Loc Cert.UpRIdeal.nD Cert.UpRIdeal.τ Cert.UpRIdeal.sig) → Buf (Elt Ideal) ℓ) (g : Dev Cert.UpRIdeal.nD → PrngReg), Pre_UpRIdeal m →
    θ_run (Cert.UpRIdeal.defs (F := Ideal)) (onTc (τ := Cert.UpRIdeal.τ) (Cert.UpRIdeal.main (F := Ideal))) ⟨m, fun _ => 0, g⟩ (fun r => (∀ c : Dev Cert.UpRIdeal.nD,
      r.2.mem ((c.tc : Thread Cert.UpRIdeal.nD Cert.UpRIdeal.τ).loc Cert.UpRIdeal.main_arg0) = m ((c.tc : Thread Cert.UpRIdeal.nD Cert.UpRIdeal.τ).loc Cert.UpRIdeal.main_arg0)
      ∧ r.2.mem ((c.tc : Thread Cert.UpRIdeal.nD Cert.UpRIdeal.τ).loc Cert.UpRIdeal.main_arg1) = m ((c.tc : Thread Cert.UpRIdeal.nD Cert.UpRIdeal.τ).loc Cert.UpRIdeal.main_arg1))
      ∧ r.2.sem = fun _ => 0)

def quiescent_InRwkvK [hInRwkvK : Cert.InRwkvK.Facts] : Prop :=
  ∀ (m : (ℓ : Loc Cert.InRwkvK.nD Cert.InRwkvK.τ Cert.InRwkvK.sig) → Buf (Elt Bits) ℓ) (g : Dev Cert.InRwkvK.nD → PrngReg), Pre_InRwkvK m →
    θ_run (Cert.InRwkvK.defs (F := Bits)) (onTc (τ := Cert.InRwkvK.τ) (Cert.InRwkvK.main (F := Bits))) ⟨m, fun _ => 0, g⟩ (fun r => (∀ c : Dev Cert.InRwkvK.nD,
      r.2.mem ((c.tc : Thread Cert.InRwkvK.nD Cert.InRwkvK.τ).loc Cert.InRwkvK.main_arg0) = m ((c.tc : Thread Cert.InRwkvK.nD Cert.InRwkvK.τ).loc Cert.InRwkvK.main_arg0)
      ∧ r.2.mem ((c.tc : Thread Cert.InRwkvK.nD Cert.InRwkvK.τ).loc Cert.InRwkvK.main_arg1) = m ((c.tc : Thread Cert.InRwkvK.nD Cert.InRwkvK.τ).loc Cert.InRwkvK.main_arg1))
      ∧ r.2.sem = fun _ => 0)

def quiescent_InRwkvKIdeal [hInRwkvKIdeal : Cert.InRwkvKIdeal.Facts] : Prop :=
  ∀ (m : (ℓ : Loc Cert.InRwkvKIdeal.nD Cert.InRwkvKIdeal.τ Cert.InRwkvKIdeal.sig) → Buf (Elt Ideal) ℓ) (g : Dev Cert.InRwkvKIdeal.nD → PrngReg), Pre_InRwkvKIdeal m →
    θ_run (Cert.InRwkvKIdeal.defs (F := Ideal)) (onTc (τ := Cert.InRwkvKIdeal.τ) (Cert.InRwkvKIdeal.main (F := Ideal))) ⟨m, fun _ => 0, g⟩ (fun r => (∀ c : Dev Cert.InRwkvKIdeal.nD,
      r.2.mem ((c.tc : Thread Cert.InRwkvKIdeal.nD Cert.InRwkvKIdeal.τ).loc Cert.InRwkvKIdeal.main_arg0) = m ((c.tc : Thread Cert.InRwkvKIdeal.nD Cert.InRwkvKIdeal.τ).loc Cert.InRwkvKIdeal.main_arg0)
      ∧ r.2.mem ((c.tc : Thread Cert.InRwkvKIdeal.nD Cert.InRwkvKIdeal.τ).loc Cert.InRwkvKIdeal.main_arg1) = m ((c.tc : Thread Cert.InRwkvKIdeal.nD Cert.InRwkvKIdeal.τ).loc Cert.InRwkvKIdeal.main_arg1))
      ∧ r.2.sem = fun _ => 0)

def quiescent_InRwkvRIdeal [hInRwkvRIdeal : Cert.InRwkvRIdeal.Facts] : Prop :=
  ∀ (m : (ℓ : Loc Cert.InRwkvRIdeal.nD Cert.InRwkvRIdeal.τ Cert.InRwkvRIdeal.sig) → Buf (Elt Ideal) ℓ) (g : Dev Cert.InRwkvRIdeal.nD → PrngReg), Pre_InRwkvRIdeal m →
    θ_run (Cert.InRwkvRIdeal.defs (F := Ideal)) (onTc (τ := Cert.InRwkvRIdeal.τ) (Cert.InRwkvRIdeal.main (F := Ideal))) ⟨m, fun _ => 0, g⟩ (fun r => (∀ c : Dev Cert.InRwkvRIdeal.nD,
      r.2.mem ((c.tc : Thread Cert.InRwkvRIdeal.nD Cert.InRwkvRIdeal.τ).loc Cert.InRwkvRIdeal.main_arg0) = m ((c.tc : Thread Cert.InRwkvRIdeal.nD Cert.InRwkvRIdeal.τ).loc Cert.InRwkvRIdeal.main_arg0)
      ∧ r.2.mem ((c.tc : Thread Cert.InRwkvRIdeal.nD Cert.InRwkvRIdeal.τ).loc Cert.InRwkvRIdeal.main_arg1) = m ((c.tc : Thread Cert.InRwkvRIdeal.nD Cert.InRwkvRIdeal.τ).loc Cert.InRwkvRIdeal.main_arg1))
      ∧ r.2.sem = fun _ => 0)

def quiescent_InQkvK [hInQkvK : Cert.InQkvK.Facts] : Prop :=
  ∀ (m : (ℓ : Loc Cert.InQkvK.nD Cert.InQkvK.τ Cert.InQkvK.sig) → Buf (Elt Bits) ℓ) (g : Dev Cert.InQkvK.nD → PrngReg), Pre_InQkvK m →
    θ_run (Cert.InQkvK.defs (F := Bits)) (onTc (τ := Cert.InQkvK.τ) (Cert.InQkvK.main (F := Bits))) ⟨m, fun _ => 0, g⟩ (fun r => (∀ c : Dev Cert.InQkvK.nD,
      r.2.mem ((c.tc : Thread Cert.InQkvK.nD Cert.InQkvK.τ).loc Cert.InQkvK.main_arg0) = m ((c.tc : Thread Cert.InQkvK.nD Cert.InQkvK.τ).loc Cert.InQkvK.main_arg0)
      ∧ r.2.mem ((c.tc : Thread Cert.InQkvK.nD Cert.InQkvK.τ).loc Cert.InQkvK.main_arg1) = m ((c.tc : Thread Cert.InQkvK.nD Cert.InQkvK.τ).loc Cert.InQkvK.main_arg1))
      ∧ r.2.sem = fun _ => 0)

def quiescent_InQkvKIdeal [hInQkvKIdeal : Cert.InQkvKIdeal.Facts] : Prop :=
  ∀ (m : (ℓ : Loc Cert.InQkvKIdeal.nD Cert.InQkvKIdeal.τ Cert.InQkvKIdeal.sig) → Buf (Elt Ideal) ℓ) (g : Dev Cert.InQkvKIdeal.nD → PrngReg), Pre_InQkvKIdeal m →
    θ_run (Cert.InQkvKIdeal.defs (F := Ideal)) (onTc (τ := Cert.InQkvKIdeal.τ) (Cert.InQkvKIdeal.main (F := Ideal))) ⟨m, fun _ => 0, g⟩ (fun r => (∀ c : Dev Cert.InQkvKIdeal.nD,
      r.2.mem ((c.tc : Thread Cert.InQkvKIdeal.nD Cert.InQkvKIdeal.τ).loc Cert.InQkvKIdeal.main_arg0) = m ((c.tc : Thread Cert.InQkvKIdeal.nD Cert.InQkvKIdeal.τ).loc Cert.InQkvKIdeal.main_arg0)
      ∧ r.2.mem ((c.tc : Thread Cert.InQkvKIdeal.nD Cert.InQkvKIdeal.τ).loc Cert.InQkvKIdeal.main_arg1) = m ((c.tc : Thread Cert.InQkvKIdeal.nD Cert.InQkvKIdeal.τ).loc Cert.InQkvKIdeal.main_arg1))
      ∧ r.2.sem = fun _ => 0)

def quiescent_InQkvRIdeal [hInQkvRIdeal : Cert.InQkvRIdeal.Facts] : Prop :=
  ∀ (m : (ℓ : Loc Cert.InQkvRIdeal.nD Cert.InQkvRIdeal.τ Cert.InQkvRIdeal.sig) → Buf (Elt Ideal) ℓ) (g : Dev Cert.InQkvRIdeal.nD → PrngReg), Pre_InQkvRIdeal m →
    θ_run (Cert.InQkvRIdeal.defs (F := Ideal)) (onTc (τ := Cert.InQkvRIdeal.τ) (Cert.InQkvRIdeal.main (F := Ideal))) ⟨m, fun _ => 0, g⟩ (fun r => (∀ c : Dev Cert.InQkvRIdeal.nD,
      r.2.mem ((c.tc : Thread Cert.InQkvRIdeal.nD Cert.InQkvRIdeal.τ).loc Cert.InQkvRIdeal.main_arg0) = m ((c.tc : Thread Cert.InQkvRIdeal.nD Cert.InQkvRIdeal.τ).loc Cert.InQkvRIdeal.main_arg0)
      ∧ r.2.mem ((c.tc : Thread Cert.InQkvRIdeal.nD Cert.InQkvRIdeal.τ).loc Cert.InQkvRIdeal.main_arg1) = m ((c.tc : Thread Cert.InQkvRIdeal.nD Cert.InQkvRIdeal.τ).loc Cert.InQkvRIdeal.main_arg1))
      ∧ r.2.sem = fun _ => 0)

def quiescent_InZzK [hInZzK : Cert.InZzK.Facts] : Prop :=
  ∀ (m : (ℓ : Loc Cert.InZzK.nD Cert.InZzK.τ Cert.InZzK.sig) → Buf (Elt Bits) ℓ) (g : Dev Cert.InZzK.nD → PrngReg), Pre_InZzK m →
    θ_run (Cert.InZzK.defs (F := Bits)) (onTc (τ := Cert.InZzK.τ) (Cert.InZzK.main (F := Bits))) ⟨m, fun _ => 0, g⟩ (fun r => (∀ c : Dev Cert.InZzK.nD,
      r.2.mem ((c.tc : Thread Cert.InZzK.nD Cert.InZzK.τ).loc Cert.InZzK.main_arg0) = m ((c.tc : Thread Cert.InZzK.nD Cert.InZzK.τ).loc Cert.InZzK.main_arg0)
      ∧ r.2.mem ((c.tc : Thread Cert.InZzK.nD Cert.InZzK.τ).loc Cert.InZzK.main_arg1) = m ((c.tc : Thread Cert.InZzK.nD Cert.InZzK.τ).loc Cert.InZzK.main_arg1))
      ∧ r.2.sem = fun _ => 0)

def quiescent_InZzKIdeal [hInZzKIdeal : Cert.InZzKIdeal.Facts] : Prop :=
  ∀ (m : (ℓ : Loc Cert.InZzKIdeal.nD Cert.InZzKIdeal.τ Cert.InZzKIdeal.sig) → Buf (Elt Ideal) ℓ) (g : Dev Cert.InZzKIdeal.nD → PrngReg), Pre_InZzKIdeal m →
    θ_run (Cert.InZzKIdeal.defs (F := Ideal)) (onTc (τ := Cert.InZzKIdeal.τ) (Cert.InZzKIdeal.main (F := Ideal))) ⟨m, fun _ => 0, g⟩ (fun r => (∀ c : Dev Cert.InZzKIdeal.nD,
      r.2.mem ((c.tc : Thread Cert.InZzKIdeal.nD Cert.InZzKIdeal.τ).loc Cert.InZzKIdeal.main_arg0) = m ((c.tc : Thread Cert.InZzKIdeal.nD Cert.InZzKIdeal.τ).loc Cert.InZzKIdeal.main_arg0)
      ∧ r.2.mem ((c.tc : Thread Cert.InZzKIdeal.nD Cert.InZzKIdeal.τ).loc Cert.InZzKIdeal.main_arg1) = m ((c.tc : Thread Cert.InZzKIdeal.nD Cert.InZzKIdeal.τ).loc Cert.InZzKIdeal.main_arg1))
      ∧ r.2.sem = fun _ => 0)

def quiescent_InZzRIdeal [hInZzRIdeal : Cert.InZzRIdeal.Facts] : Prop :=
  ∀ (m : (ℓ : Loc Cert.InZzRIdeal.nD Cert.InZzRIdeal.τ Cert.InZzRIdeal.sig) → Buf (Elt Ideal) ℓ) (g : Dev Cert.InZzRIdeal.nD → PrngReg), Pre_InZzRIdeal m →
    θ_run (Cert.InZzRIdeal.defs (F := Ideal)) (onTc (τ := Cert.InZzRIdeal.τ) (Cert.InZzRIdeal.main (F := Ideal))) ⟨m, fun _ => 0, g⟩ (fun r => (∀ c : Dev Cert.InZzRIdeal.nD,
      r.2.mem ((c.tc : Thread Cert.InZzRIdeal.nD Cert.InZzRIdeal.τ).loc Cert.InZzRIdeal.main_arg0) = m ((c.tc : Thread Cert.InZzRIdeal.nD Cert.InZzRIdeal.τ).loc Cert.InZzRIdeal.main_arg0)
      ∧ r.2.mem ((c.tc : Thread Cert.InZzRIdeal.nD Cert.InZzRIdeal.τ).loc Cert.InZzRIdeal.main_arg1) = m ((c.tc : Thread Cert.InZzRIdeal.nD Cert.InZzRIdeal.τ).loc Cert.InZzRIdeal.main_arg1))
      ∧ r.2.sem = fun _ => 0)

def quiescent_InGatesK [hInGatesK : Cert.InGatesK.Facts] : Prop :=
  ∀ (m : (ℓ : Loc Cert.InGatesK.nD Cert.InGatesK.τ Cert.InGatesK.sig) → Buf (Elt Bits) ℓ) (g : Dev Cert.InGatesK.nD → PrngReg), Pre_InGatesK m →
    θ_run (Cert.InGatesK.defs (F := Bits)) (onTc (τ := Cert.InGatesK.τ) (Cert.InGatesK.main (F := Bits))) ⟨m, fun _ => 0, g⟩ (fun r => (∀ c : Dev Cert.InGatesK.nD,
      r.2.mem ((c.tc : Thread Cert.InGatesK.nD Cert.InGatesK.τ).loc Cert.InGatesK.main_arg0) = m ((c.tc : Thread Cert.InGatesK.nD Cert.InGatesK.τ).loc Cert.InGatesK.main_arg0)
      ∧ r.2.mem ((c.tc : Thread Cert.InGatesK.nD Cert.InGatesK.τ).loc Cert.InGatesK.main_arg1) = m ((c.tc : Thread Cert.InGatesK.nD Cert.InGatesK.τ).loc Cert.InGatesK.main_arg1))
      ∧ r.2.sem = fun _ => 0)

def quiescent_InGatesKIdeal [hInGatesKIdeal : Cert.InGatesKIdeal.Facts] : Prop :=
  ∀ (m : (ℓ : Loc Cert.InGatesKIdeal.nD Cert.InGatesKIdeal.τ Cert.InGatesKIdeal.sig) → Buf (Elt Ideal) ℓ) (g : Dev Cert.InGatesKIdeal.nD → PrngReg), Pre_InGatesKIdeal m →
    θ_run (Cert.InGatesKIdeal.defs (F := Ideal)) (onTc (τ := Cert.InGatesKIdeal.τ) (Cert.InGatesKIdeal.main (F := Ideal))) ⟨m, fun _ => 0, g⟩ (fun r => (∀ c : Dev Cert.InGatesKIdeal.nD,
      r.2.mem ((c.tc : Thread Cert.InGatesKIdeal.nD Cert.InGatesKIdeal.τ).loc Cert.InGatesKIdeal.main_arg0) = m ((c.tc : Thread Cert.InGatesKIdeal.nD Cert.InGatesKIdeal.τ).loc Cert.InGatesKIdeal.main_arg0)
      ∧ r.2.mem ((c.tc : Thread Cert.InGatesKIdeal.nD Cert.InGatesKIdeal.τ).loc Cert.InGatesKIdeal.main_arg1) = m ((c.tc : Thread Cert.InGatesKIdeal.nD Cert.InGatesKIdeal.τ).loc Cert.InGatesKIdeal.main_arg1))
      ∧ r.2.sem = fun _ => 0)

def quiescent_InGatesRIdeal [hInGatesRIdeal : Cert.InGatesRIdeal.Facts] : Prop :=
  ∀ (m : (ℓ : Loc Cert.InGatesRIdeal.nD Cert.InGatesRIdeal.τ Cert.InGatesRIdeal.sig) → Buf (Elt Ideal) ℓ) (g : Dev Cert.InGatesRIdeal.nD → PrngReg), Pre_InGatesRIdeal m →
    θ_run (Cert.InGatesRIdeal.defs (F := Ideal)) (onTc (τ := Cert.InGatesRIdeal.τ) (Cert.InGatesRIdeal.main (F := Ideal))) ⟨m, fun _ => 0, g⟩ (fun r => (∀ c : Dev Cert.InGatesRIdeal.nD,
      r.2.mem ((c.tc : Thread Cert.InGatesRIdeal.nD Cert.InGatesRIdeal.τ).loc Cert.InGatesRIdeal.main_arg0) = m ((c.tc : Thread Cert.InGatesRIdeal.nD Cert.InGatesRIdeal.τ).loc Cert.InGatesRIdeal.main_arg0)
      ∧ r.2.mem ((c.tc : Thread Cert.InGatesRIdeal.nD Cert.InGatesRIdeal.τ).loc Cert.InGatesRIdeal.main_arg1) = m ((c.tc : Thread Cert.InGatesRIdeal.nD Cert.InGatesRIdeal.τ).loc Cert.InGatesRIdeal.main_arg1))
      ∧ r.2.sem = fun _ => 0)

def quiescent_InAbK [hInAbK : Cert.InAbK.Facts] : Prop :=
  ∀ (m : (ℓ : Loc Cert.InAbK.nD Cert.InAbK.τ Cert.InAbK.sig) → Buf (Elt Bits) ℓ) (g : Dev Cert.InAbK.nD → PrngReg), Pre_InAbK m →
    θ_run (Cert.InAbK.defs (F := Bits)) (onTc (τ := Cert.InAbK.τ) (Cert.InAbK.main (F := Bits))) ⟨m, fun _ => 0, g⟩ (fun r => (∀ c : Dev Cert.InAbK.nD,
      r.2.mem ((c.tc : Thread Cert.InAbK.nD Cert.InAbK.τ).loc Cert.InAbK.main_arg0) = m ((c.tc : Thread Cert.InAbK.nD Cert.InAbK.τ).loc Cert.InAbK.main_arg0)
      ∧ r.2.mem ((c.tc : Thread Cert.InAbK.nD Cert.InAbK.τ).loc Cert.InAbK.main_arg1) = m ((c.tc : Thread Cert.InAbK.nD Cert.InAbK.τ).loc Cert.InAbK.main_arg1))
      ∧ r.2.sem = fun _ => 0)

def quiescent_InAbKIdeal [hInAbKIdeal : Cert.InAbKIdeal.Facts] : Prop :=
  ∀ (m : (ℓ : Loc Cert.InAbKIdeal.nD Cert.InAbKIdeal.τ Cert.InAbKIdeal.sig) → Buf (Elt Ideal) ℓ) (g : Dev Cert.InAbKIdeal.nD → PrngReg), Pre_InAbKIdeal m →
    θ_run (Cert.InAbKIdeal.defs (F := Ideal)) (onTc (τ := Cert.InAbKIdeal.τ) (Cert.InAbKIdeal.main (F := Ideal))) ⟨m, fun _ => 0, g⟩ (fun r => (∀ c : Dev Cert.InAbKIdeal.nD,
      r.2.mem ((c.tc : Thread Cert.InAbKIdeal.nD Cert.InAbKIdeal.τ).loc Cert.InAbKIdeal.main_arg0) = m ((c.tc : Thread Cert.InAbKIdeal.nD Cert.InAbKIdeal.τ).loc Cert.InAbKIdeal.main_arg0)
      ∧ r.2.mem ((c.tc : Thread Cert.InAbKIdeal.nD Cert.InAbKIdeal.τ).loc Cert.InAbKIdeal.main_arg1) = m ((c.tc : Thread Cert.InAbKIdeal.nD Cert.InAbKIdeal.τ).loc Cert.InAbKIdeal.main_arg1))
      ∧ r.2.sem = fun _ => 0)

def quiescent_InAbRIdeal [hInAbRIdeal : Cert.InAbRIdeal.Facts] : Prop :=
  ∀ (m : (ℓ : Loc Cert.InAbRIdeal.nD Cert.InAbRIdeal.τ Cert.InAbRIdeal.sig) → Buf (Elt Ideal) ℓ) (g : Dev Cert.InAbRIdeal.nD → PrngReg), Pre_InAbRIdeal m →
    θ_run (Cert.InAbRIdeal.defs (F := Ideal)) (onTc (τ := Cert.InAbRIdeal.τ) (Cert.InAbRIdeal.main (F := Ideal))) ⟨m, fun _ => 0, g⟩ (fun r => (∀ c : Dev Cert.InAbRIdeal.nD,
      r.2.mem ((c.tc : Thread Cert.InAbRIdeal.nD Cert.InAbRIdeal.τ).loc Cert.InAbRIdeal.main_arg0) = m ((c.tc : Thread Cert.InAbRIdeal.nD Cert.InAbRIdeal.τ).loc Cert.InAbRIdeal.main_arg0)
      ∧ r.2.mem ((c.tc : Thread Cert.InAbRIdeal.nD Cert.InAbRIdeal.τ).loc Cert.InAbRIdeal.main_arg1) = m ((c.tc : Thread Cert.InAbRIdeal.nD Cert.InAbRIdeal.τ).loc Cert.InAbRIdeal.main_arg1))
      ∧ r.2.sem = fun _ => 0)

def quiescent_DuK [hDuK : Cert.DuK.Facts] : Prop :=
  ∀ (m : (ℓ : Loc Cert.DuK.nD Cert.DuK.τ Cert.DuK.sig) → Buf (Elt Bits) ℓ) (g : Dev Cert.DuK.nD → PrngReg), Pre_DuK m →
    θ_run (Cert.DuK.defs (F := Bits)) (onTc (τ := Cert.DuK.τ) (Cert.DuK.main (F := Bits))) ⟨m, fun _ => 0, g⟩ (fun r => (∀ c : Dev Cert.DuK.nD,
      r.2.mem ((c.tc : Thread Cert.DuK.nD Cert.DuK.τ).loc Cert.DuK.main_arg0) = m ((c.tc : Thread Cert.DuK.nD Cert.DuK.τ).loc Cert.DuK.main_arg0)
      ∧ r.2.mem ((c.tc : Thread Cert.DuK.nD Cert.DuK.τ).loc Cert.DuK.main_arg1) = m ((c.tc : Thread Cert.DuK.nD Cert.DuK.τ).loc Cert.DuK.main_arg1)
      ∧ r.2.mem ((c.tc : Thread Cert.DuK.nD Cert.DuK.τ).loc Cert.DuK.main_arg2) = m ((c.tc : Thread Cert.DuK.nD Cert.DuK.τ).loc Cert.DuK.main_arg2)
      ∧ r.2.mem ((c.tc : Thread Cert.DuK.nD Cert.DuK.τ).loc Cert.DuK.main_arg3) = m ((c.tc : Thread Cert.DuK.nD Cert.DuK.τ).loc Cert.DuK.main_arg3)
      ∧ r.2.mem ((c.tc : Thread Cert.DuK.nD Cert.DuK.τ).loc Cert.DuK.main_arg4) = m ((c.tc : Thread Cert.DuK.nD Cert.DuK.τ).loc Cert.DuK.main_arg4)
      ∧ r.2.mem ((c.tc : Thread Cert.DuK.nD Cert.DuK.τ).loc Cert.DuK.main_arg5) = m ((c.tc : Thread Cert.DuK.nD Cert.DuK.τ).loc Cert.DuK.main_arg5)
      ∧ r.2.mem ((c.tc : Thread Cert.DuK.nD Cert.DuK.τ).loc Cert.DuK.main_arg6) = m ((c.tc : Thread Cert.DuK.nD Cert.DuK.τ).loc Cert.DuK.main_arg6))
      ∧ r.2.sem = fun _ => 0)

def quiescent_DuKIdeal [hDuKIdeal : Cert.DuKIdeal.Facts] : Prop :=
  ∀ (m : (ℓ : Loc Cert.DuKIdeal.nD Cert.DuKIdeal.τ Cert.DuKIdeal.sig) → Buf (Elt Ideal) ℓ) (g : Dev Cert.DuKIdeal.nD → PrngReg), Pre_DuKIdeal m →
    θ_run (Cert.DuKIdeal.defs (F := Ideal)) (onTc (τ := Cert.DuKIdeal.τ) (Cert.DuKIdeal.main (F := Ideal))) ⟨m, fun _ => 0, g⟩ (fun r => (∀ c : Dev Cert.DuKIdeal.nD,
      r.2.mem ((c.tc : Thread Cert.DuKIdeal.nD Cert.DuKIdeal.τ).loc Cert.DuKIdeal.main_arg0) = m ((c.tc : Thread Cert.DuKIdeal.nD Cert.DuKIdeal.τ).loc Cert.DuKIdeal.main_arg0)
      ∧ r.2.mem ((c.tc : Thread Cert.DuKIdeal.nD Cert.DuKIdeal.τ).loc Cert.DuKIdeal.main_arg1) = m ((c.tc : Thread Cert.DuKIdeal.nD Cert.DuKIdeal.τ).loc Cert.DuKIdeal.main_arg1)
      ∧ r.2.mem ((c.tc : Thread Cert.DuKIdeal.nD Cert.DuKIdeal.τ).loc Cert.DuKIdeal.main_arg2) = m ((c.tc : Thread Cert.DuKIdeal.nD Cert.DuKIdeal.τ).loc Cert.DuKIdeal.main_arg2)
      ∧ r.2.mem ((c.tc : Thread Cert.DuKIdeal.nD Cert.DuKIdeal.τ).loc Cert.DuKIdeal.main_arg3) = m ((c.tc : Thread Cert.DuKIdeal.nD Cert.DuKIdeal.τ).loc Cert.DuKIdeal.main_arg3)
      ∧ r.2.mem ((c.tc : Thread Cert.DuKIdeal.nD Cert.DuKIdeal.τ).loc Cert.DuKIdeal.main_arg4) = m ((c.tc : Thread Cert.DuKIdeal.nD Cert.DuKIdeal.τ).loc Cert.DuKIdeal.main_arg4)
      ∧ r.2.mem ((c.tc : Thread Cert.DuKIdeal.nD Cert.DuKIdeal.τ).loc Cert.DuKIdeal.main_arg5) = m ((c.tc : Thread Cert.DuKIdeal.nD Cert.DuKIdeal.τ).loc Cert.DuKIdeal.main_arg5)
      ∧ r.2.mem ((c.tc : Thread Cert.DuKIdeal.nD Cert.DuKIdeal.τ).loc Cert.DuKIdeal.main_arg6) = m ((c.tc : Thread Cert.DuKIdeal.nD Cert.DuKIdeal.τ).loc Cert.DuKIdeal.main_arg6))
      ∧ r.2.sem = fun _ => 0)

def quiescent_DuRIdeal [hDuRIdeal : Cert.DuRIdeal.Facts] : Prop :=
  ∀ (m : (ℓ : Loc Cert.DuRIdeal.nD Cert.DuRIdeal.τ Cert.DuRIdeal.sig) → Buf (Elt Ideal) ℓ) (g : Dev Cert.DuRIdeal.nD → PrngReg), Pre_DuRIdeal m →
    θ_run (Cert.DuRIdeal.defs (F := Ideal)) (onTc (τ := Cert.DuRIdeal.τ) (Cert.DuRIdeal.main (F := Ideal))) ⟨m, fun _ => 0, g⟩ (fun r => (∀ c : Dev Cert.DuRIdeal.nD,
      r.2.mem ((c.tc : Thread Cert.DuRIdeal.nD Cert.DuRIdeal.τ).loc Cert.DuRIdeal.main_arg0) = m ((c.tc : Thread Cert.DuRIdeal.nD Cert.DuRIdeal.τ).loc Cert.DuRIdeal.main_arg0)
      ∧ r.2.mem ((c.tc : Thread Cert.DuRIdeal.nD Cert.DuRIdeal.τ).loc Cert.DuRIdeal.main_arg1) = m ((c.tc : Thread Cert.DuRIdeal.nD Cert.DuRIdeal.τ).loc Cert.DuRIdeal.main_arg1)
      ∧ r.2.mem ((c.tc : Thread Cert.DuRIdeal.nD Cert.DuRIdeal.τ).loc Cert.DuRIdeal.main_arg2) = m ((c.tc : Thread Cert.DuRIdeal.nD Cert.DuRIdeal.τ).loc Cert.DuRIdeal.main_arg2)
      ∧ r.2.mem ((c.tc : Thread Cert.DuRIdeal.nD Cert.DuRIdeal.τ).loc Cert.DuRIdeal.main_arg3) = m ((c.tc : Thread Cert.DuRIdeal.nD Cert.DuRIdeal.τ).loc Cert.DuRIdeal.main_arg3)
      ∧ r.2.mem ((c.tc : Thread Cert.DuRIdeal.nD Cert.DuRIdeal.τ).loc Cert.DuRIdeal.main_arg4) = m ((c.tc : Thread Cert.DuRIdeal.nD Cert.DuRIdeal.τ).loc Cert.DuRIdeal.main_arg4)
      ∧ r.2.mem ((c.tc : Thread Cert.DuRIdeal.nD Cert.DuRIdeal.τ).loc Cert.DuRIdeal.main_arg5) = m ((c.tc : Thread Cert.DuRIdeal.nD Cert.DuRIdeal.τ).loc Cert.DuRIdeal.main_arg5)
      ∧ r.2.mem ((c.tc : Thread Cert.DuRIdeal.nD Cert.DuRIdeal.τ).loc Cert.DuRIdeal.main_arg6) = m ((c.tc : Thread Cert.DuRIdeal.nD Cert.DuRIdeal.τ).loc Cert.DuRIdeal.main_arg6))
      ∧ r.2.sem = fun _ => 0)

def quiescent_GwaK [hGwaK : Cert.GwaK.Facts] : Prop :=
  ∀ (m : (ℓ : Loc Cert.GwaK.nD Cert.GwaK.τ Cert.GwaK.sig) → Buf (Elt Bits) ℓ) (g : Dev Cert.GwaK.nD → PrngReg), Pre_GwaK m →
    θ_run (Cert.GwaK.defs (F := Bits)) (onTc (τ := Cert.GwaK.τ) (Cert.GwaK.main (F := Bits))) ⟨m, fun _ => 0, g⟩ (fun r => (∀ c : Dev Cert.GwaK.nD,
      r.2.mem ((c.tc : Thread Cert.GwaK.nD Cert.GwaK.τ).loc Cert.GwaK.main_arg0) = m ((c.tc : Thread Cert.GwaK.nD Cert.GwaK.τ).loc Cert.GwaK.main_arg0)
      ∧ r.2.mem ((c.tc : Thread Cert.GwaK.nD Cert.GwaK.τ).loc Cert.GwaK.main_arg1) = m ((c.tc : Thread Cert.GwaK.nD Cert.GwaK.τ).loc Cert.GwaK.main_arg1)
      ∧ r.2.mem ((c.tc : Thread Cert.GwaK.nD Cert.GwaK.τ).loc Cert.GwaK.main_arg2) = m ((c.tc : Thread Cert.GwaK.nD Cert.GwaK.τ).loc Cert.GwaK.main_arg2))
      ∧ r.2.sem = fun _ => 0)

def quiescent_GwaKIdeal [hGwaKIdeal : Cert.GwaKIdeal.Facts] : Prop :=
  ∀ (m : (ℓ : Loc Cert.GwaKIdeal.nD Cert.GwaKIdeal.τ Cert.GwaKIdeal.sig) → Buf (Elt Ideal) ℓ) (g : Dev Cert.GwaKIdeal.nD → PrngReg), Pre_GwaKIdeal m →
    θ_run (Cert.GwaKIdeal.defs (F := Ideal)) (onTc (τ := Cert.GwaKIdeal.τ) (Cert.GwaKIdeal.main (F := Ideal))) ⟨m, fun _ => 0, g⟩ (fun r => (∀ c : Dev Cert.GwaKIdeal.nD,
      r.2.mem ((c.tc : Thread Cert.GwaKIdeal.nD Cert.GwaKIdeal.τ).loc Cert.GwaKIdeal.main_arg0) = m ((c.tc : Thread Cert.GwaKIdeal.nD Cert.GwaKIdeal.τ).loc Cert.GwaKIdeal.main_arg0)
      ∧ r.2.mem ((c.tc : Thread Cert.GwaKIdeal.nD Cert.GwaKIdeal.τ).loc Cert.GwaKIdeal.main_arg1) = m ((c.tc : Thread Cert.GwaKIdeal.nD Cert.GwaKIdeal.τ).loc Cert.GwaKIdeal.main_arg1)
      ∧ r.2.mem ((c.tc : Thread Cert.GwaKIdeal.nD Cert.GwaKIdeal.τ).loc Cert.GwaKIdeal.main_arg2) = m ((c.tc : Thread Cert.GwaKIdeal.nD Cert.GwaKIdeal.τ).loc Cert.GwaKIdeal.main_arg2))
      ∧ r.2.sem = fun _ => 0)

def quiescent_GwaRIdeal [hGwaRIdeal : Cert.GwaRIdeal.Facts] : Prop :=
  ∀ (m : (ℓ : Loc Cert.GwaRIdeal.nD Cert.GwaRIdeal.τ Cert.GwaRIdeal.sig) → Buf (Elt Ideal) ℓ) (g : Dev Cert.GwaRIdeal.nD → PrngReg), Pre_GwaRIdeal m →
    θ_run (Cert.GwaRIdeal.defs (F := Ideal)) (onTc (τ := Cert.GwaRIdeal.τ) (Cert.GwaRIdeal.main (F := Ideal))) ⟨m, fun _ => 0, g⟩ (fun r => (∀ c : Dev Cert.GwaRIdeal.nD,
      r.2.mem ((c.tc : Thread Cert.GwaRIdeal.nD Cert.GwaRIdeal.τ).loc Cert.GwaRIdeal.main_arg0) = m ((c.tc : Thread Cert.GwaRIdeal.nD Cert.GwaRIdeal.τ).loc Cert.GwaRIdeal.main_arg0)
      ∧ r.2.mem ((c.tc : Thread Cert.GwaRIdeal.nD Cert.GwaRIdeal.τ).loc Cert.GwaRIdeal.main_arg1) = m ((c.tc : Thread Cert.GwaRIdeal.nD Cert.GwaRIdeal.τ).loc Cert.GwaRIdeal.main_arg1)
      ∧ r.2.mem ((c.tc : Thread Cert.GwaRIdeal.nD Cert.GwaRIdeal.τ).loc Cert.GwaRIdeal.main_arg2) = m ((c.tc : Thread Cert.GwaRIdeal.nD Cert.GwaRIdeal.τ).loc Cert.GwaRIdeal.main_arg2))
      ∧ r.2.sem = fun _ => 0)

def quiescent_GwbK [hGwbK : Cert.GwbK.Facts] : Prop :=
  ∀ (m : (ℓ : Loc Cert.GwbK.nD Cert.GwbK.τ Cert.GwbK.sig) → Buf (Elt Bits) ℓ) (g : Dev Cert.GwbK.nD → PrngReg), Pre_GwbK m →
    θ_run (Cert.GwbK.defs (F := Bits)) (onTc (τ := Cert.GwbK.τ) (Cert.GwbK.main (F := Bits))) ⟨m, fun _ => 0, g⟩ (fun r => (∀ c : Dev Cert.GwbK.nD,
      r.2.mem ((c.tc : Thread Cert.GwbK.nD Cert.GwbK.τ).loc Cert.GwbK.main_arg0) = m ((c.tc : Thread Cert.GwbK.nD Cert.GwbK.τ).loc Cert.GwbK.main_arg0)
      ∧ r.2.mem ((c.tc : Thread Cert.GwbK.nD Cert.GwbK.τ).loc Cert.GwbK.main_arg1) = m ((c.tc : Thread Cert.GwbK.nD Cert.GwbK.τ).loc Cert.GwbK.main_arg1)
      ∧ r.2.mem ((c.tc : Thread Cert.GwbK.nD Cert.GwbK.τ).loc Cert.GwbK.main_arg2) = m ((c.tc : Thread Cert.GwbK.nD Cert.GwbK.τ).loc Cert.GwbK.main_arg2)
      ∧ r.2.mem ((c.tc : Thread Cert.GwbK.nD Cert.GwbK.τ).loc Cert.GwbK.main_arg3) = m ((c.tc : Thread Cert.GwbK.nD Cert.GwbK.τ).loc Cert.GwbK.main_arg3)
      ∧ r.2.mem ((c.tc : Thread Cert.GwbK.nD Cert.GwbK.τ).loc Cert.GwbK.main_arg4) = m ((c.tc : Thread Cert.GwbK.nD Cert.GwbK.τ).loc Cert.GwbK.main_arg4))
      ∧ r.2.sem = fun _ => 0)

def quiescent_GwbKIdeal [hGwbKIdeal : Cert.GwbKIdeal.Facts] : Prop :=
  ∀ (m : (ℓ : Loc Cert.GwbKIdeal.nD Cert.GwbKIdeal.τ Cert.GwbKIdeal.sig) → Buf (Elt Ideal) ℓ) (g : Dev Cert.GwbKIdeal.nD → PrngReg), Pre_GwbKIdeal m →
    θ_run (Cert.GwbKIdeal.defs (F := Ideal)) (onTc (τ := Cert.GwbKIdeal.τ) (Cert.GwbKIdeal.main (F := Ideal))) ⟨m, fun _ => 0, g⟩ (fun r => (∀ c : Dev Cert.GwbKIdeal.nD,
      r.2.mem ((c.tc : Thread Cert.GwbKIdeal.nD Cert.GwbKIdeal.τ).loc Cert.GwbKIdeal.main_arg0) = m ((c.tc : Thread Cert.GwbKIdeal.nD Cert.GwbKIdeal.τ).loc Cert.GwbKIdeal.main_arg0)
      ∧ r.2.mem ((c.tc : Thread Cert.GwbKIdeal.nD Cert.GwbKIdeal.τ).loc Cert.GwbKIdeal.main_arg1) = m ((c.tc : Thread Cert.GwbKIdeal.nD Cert.GwbKIdeal.τ).loc Cert.GwbKIdeal.main_arg1)
      ∧ r.2.mem ((c.tc : Thread Cert.GwbKIdeal.nD Cert.GwbKIdeal.τ).loc Cert.GwbKIdeal.main_arg2) = m ((c.tc : Thread Cert.GwbKIdeal.nD Cert.GwbKIdeal.τ).loc Cert.GwbKIdeal.main_arg2)
      ∧ r.2.mem ((c.tc : Thread Cert.GwbKIdeal.nD Cert.GwbKIdeal.τ).loc Cert.GwbKIdeal.main_arg3) = m ((c.tc : Thread Cert.GwbKIdeal.nD Cert.GwbKIdeal.τ).loc Cert.GwbKIdeal.main_arg3)
      ∧ r.2.mem ((c.tc : Thread Cert.GwbKIdeal.nD Cert.GwbKIdeal.τ).loc Cert.GwbKIdeal.main_arg4) = m ((c.tc : Thread Cert.GwbKIdeal.nD Cert.GwbKIdeal.τ).loc Cert.GwbKIdeal.main_arg4))
      ∧ r.2.sem = fun _ => 0)

def quiescent_GwbRIdeal [hGwbRIdeal : Cert.GwbRIdeal.Facts] : Prop :=
  ∀ (m : (ℓ : Loc Cert.GwbRIdeal.nD Cert.GwbRIdeal.τ Cert.GwbRIdeal.sig) → Buf (Elt Ideal) ℓ) (g : Dev Cert.GwbRIdeal.nD → PrngReg), Pre_GwbRIdeal m →
    θ_run (Cert.GwbRIdeal.defs (F := Ideal)) (onTc (τ := Cert.GwbRIdeal.τ) (Cert.GwbRIdeal.main (F := Ideal))) ⟨m, fun _ => 0, g⟩ (fun r => (∀ c : Dev Cert.GwbRIdeal.nD,
      r.2.mem ((c.tc : Thread Cert.GwbRIdeal.nD Cert.GwbRIdeal.τ).loc Cert.GwbRIdeal.main_arg0) = m ((c.tc : Thread Cert.GwbRIdeal.nD Cert.GwbRIdeal.τ).loc Cert.GwbRIdeal.main_arg0)
      ∧ r.2.mem ((c.tc : Thread Cert.GwbRIdeal.nD Cert.GwbRIdeal.τ).loc Cert.GwbRIdeal.main_arg1) = m ((c.tc : Thread Cert.GwbRIdeal.nD Cert.GwbRIdeal.τ).loc Cert.GwbRIdeal.main_arg1)
      ∧ r.2.mem ((c.tc : Thread Cert.GwbRIdeal.nD Cert.GwbRIdeal.τ).loc Cert.GwbRIdeal.main_arg2) = m ((c.tc : Thread Cert.GwbRIdeal.nD Cert.GwbRIdeal.τ).loc Cert.GwbRIdeal.main_arg2)
      ∧ r.2.mem ((c.tc : Thread Cert.GwbRIdeal.nD Cert.GwbRIdeal.τ).loc Cert.GwbRIdeal.main_arg3) = m ((c.tc : Thread Cert.GwbRIdeal.nD Cert.GwbRIdeal.τ).loc Cert.GwbRIdeal.main_arg3)
      ∧ r.2.mem ((c.tc : Thread Cert.GwbRIdeal.nD Cert.GwbRIdeal.τ).loc Cert.GwbRIdeal.main_arg4) = m ((c.tc : Thread Cert.GwbRIdeal.nD Cert.GwbRIdeal.τ).loc Cert.GwbRIdeal.main_arg4))
      ∧ r.2.sem = fun _ => 0)

def quiescent_Norm1K [hNorm1K : Cert.Norm1K.Facts] : Prop :=
  ∀ (m : (ℓ : Loc Cert.Norm1K.nD Cert.Norm1K.τ Cert.Norm1K.sig) → Buf (Elt Bits) ℓ) (g : Dev Cert.Norm1K.nD → PrngReg), Pre_Norm1K m →
    θ_run (Cert.Norm1K.defs (F := Bits)) (onTc (τ := Cert.Norm1K.τ) (Cert.Norm1K.main (F := Bits))) ⟨m, fun _ => 0, g⟩ (fun r => (∀ c : Dev Cert.Norm1K.nD,
      r.2.mem ((c.tc : Thread Cert.Norm1K.nD Cert.Norm1K.τ).loc Cert.Norm1K.main_arg0) = m ((c.tc : Thread Cert.Norm1K.nD Cert.Norm1K.τ).loc Cert.Norm1K.main_arg0)
      ∧ r.2.mem ((c.tc : Thread Cert.Norm1K.nD Cert.Norm1K.τ).loc Cert.Norm1K.main_arg1) = m ((c.tc : Thread Cert.Norm1K.nD Cert.Norm1K.τ).loc Cert.Norm1K.main_arg1)
      ∧ r.2.mem ((c.tc : Thread Cert.Norm1K.nD Cert.Norm1K.τ).loc Cert.Norm1K.main_arg2) = m ((c.tc : Thread Cert.Norm1K.nD Cert.Norm1K.τ).loc Cert.Norm1K.main_arg2)
      ∧ r.2.mem ((c.tc : Thread Cert.Norm1K.nD Cert.Norm1K.τ).loc Cert.Norm1K.main_arg3) = m ((c.tc : Thread Cert.Norm1K.nD Cert.Norm1K.τ).loc Cert.Norm1K.main_arg3))
      ∧ r.2.sem = fun _ => 0)

def quiescent_Norm1KIdeal [hNorm1KIdeal : Cert.Norm1KIdeal.Facts] : Prop :=
  ∀ (m : (ℓ : Loc Cert.Norm1KIdeal.nD Cert.Norm1KIdeal.τ Cert.Norm1KIdeal.sig) → Buf (Elt Ideal) ℓ) (g : Dev Cert.Norm1KIdeal.nD → PrngReg), Pre_Norm1KIdeal m →
    θ_run (Cert.Norm1KIdeal.defs (F := Ideal)) (onTc (τ := Cert.Norm1KIdeal.τ) (Cert.Norm1KIdeal.main (F := Ideal))) ⟨m, fun _ => 0, g⟩ (fun r => (∀ c : Dev Cert.Norm1KIdeal.nD,
      r.2.mem ((c.tc : Thread Cert.Norm1KIdeal.nD Cert.Norm1KIdeal.τ).loc Cert.Norm1KIdeal.main_arg0) = m ((c.tc : Thread Cert.Norm1KIdeal.nD Cert.Norm1KIdeal.τ).loc Cert.Norm1KIdeal.main_arg0)
      ∧ r.2.mem ((c.tc : Thread Cert.Norm1KIdeal.nD Cert.Norm1KIdeal.τ).loc Cert.Norm1KIdeal.main_arg1) = m ((c.tc : Thread Cert.Norm1KIdeal.nD Cert.Norm1KIdeal.τ).loc Cert.Norm1KIdeal.main_arg1)
      ∧ r.2.mem ((c.tc : Thread Cert.Norm1KIdeal.nD Cert.Norm1KIdeal.τ).loc Cert.Norm1KIdeal.main_arg2) = m ((c.tc : Thread Cert.Norm1KIdeal.nD Cert.Norm1KIdeal.τ).loc Cert.Norm1KIdeal.main_arg2)
      ∧ r.2.mem ((c.tc : Thread Cert.Norm1KIdeal.nD Cert.Norm1KIdeal.τ).loc Cert.Norm1KIdeal.main_arg3) = m ((c.tc : Thread Cert.Norm1KIdeal.nD Cert.Norm1KIdeal.τ).loc Cert.Norm1KIdeal.main_arg3))
      ∧ r.2.sem = fun _ => 0)

def quiescent_Norm1RIdeal [hNorm1RIdeal : Cert.Norm1RIdeal.Facts] : Prop :=
  ∀ (m : (ℓ : Loc Cert.Norm1RIdeal.nD Cert.Norm1RIdeal.τ Cert.Norm1RIdeal.sig) → Buf (Elt Ideal) ℓ) (g : Dev Cert.Norm1RIdeal.nD → PrngReg), Pre_Norm1RIdeal m →
    θ_run (Cert.Norm1RIdeal.defs (F := Ideal)) (onTc (τ := Cert.Norm1RIdeal.τ) (Cert.Norm1RIdeal.main (F := Ideal))) ⟨m, fun _ => 0, g⟩ (fun r => (∀ c : Dev Cert.Norm1RIdeal.nD,
      r.2.mem ((c.tc : Thread Cert.Norm1RIdeal.nD Cert.Norm1RIdeal.τ).loc Cert.Norm1RIdeal.main_arg0) = m ((c.tc : Thread Cert.Norm1RIdeal.nD Cert.Norm1RIdeal.τ).loc Cert.Norm1RIdeal.main_arg0)
      ∧ r.2.mem ((c.tc : Thread Cert.Norm1RIdeal.nD Cert.Norm1RIdeal.τ).loc Cert.Norm1RIdeal.main_arg1) = m ((c.tc : Thread Cert.Norm1RIdeal.nD Cert.Norm1RIdeal.τ).loc Cert.Norm1RIdeal.main_arg1)
      ∧ r.2.mem ((c.tc : Thread Cert.Norm1RIdeal.nD Cert.Norm1RIdeal.τ).loc Cert.Norm1RIdeal.main_arg2) = m ((c.tc : Thread Cert.Norm1RIdeal.nD Cert.Norm1RIdeal.τ).loc Cert.Norm1RIdeal.main_arg2)
      ∧ r.2.mem ((c.tc : Thread Cert.Norm1RIdeal.nD Cert.Norm1RIdeal.τ).loc Cert.Norm1RIdeal.main_arg3) = m ((c.tc : Thread Cert.Norm1RIdeal.nD Cert.Norm1RIdeal.τ).loc Cert.Norm1RIdeal.main_arg3))
      ∧ r.2.sem = fun _ => 0)

def quiescent_AdWinK [hAdWinK : Cert.AdWinK.Facts] : Prop :=
  ∀ (m : (ℓ : Loc Cert.AdWinK.nD Cert.AdWinK.τ Cert.AdWinK.sig) → Buf (Elt Bits) ℓ) (g : Dev Cert.AdWinK.nD → PrngReg), Pre_AdWinK m →
    θ_run (Cert.AdWinK.defs (F := Bits)) (onTc (τ := Cert.AdWinK.τ) (Cert.AdWinK.main (F := Bits))) ⟨m, fun _ => 0, g⟩ (fun r => (∀ c : Dev Cert.AdWinK.nD,
      r.2.mem ((c.tc : Thread Cert.AdWinK.nD Cert.AdWinK.τ).loc Cert.AdWinK.main_arg0) = m ((c.tc : Thread Cert.AdWinK.nD Cert.AdWinK.τ).loc Cert.AdWinK.main_arg0)
      ∧ r.2.mem ((c.tc : Thread Cert.AdWinK.nD Cert.AdWinK.τ).loc Cert.AdWinK.main_arg1) = m ((c.tc : Thread Cert.AdWinK.nD Cert.AdWinK.τ).loc Cert.AdWinK.main_arg1)
      ∧ r.2.mem ((c.tc : Thread Cert.AdWinK.nD Cert.AdWinK.τ).loc Cert.AdWinK.main_arg2) = m ((c.tc : Thread Cert.AdWinK.nD Cert.AdWinK.τ).loc Cert.AdWinK.main_arg2)
      ∧ r.2.mem ((c.tc : Thread Cert.AdWinK.nD Cert.AdWinK.τ).loc Cert.AdWinK.main_arg3) = m ((c.tc : Thread Cert.AdWinK.nD Cert.AdWinK.τ).loc Cert.AdWinK.main_arg3)
      ∧ r.2.mem ((c.tc : Thread Cert.AdWinK.nD Cert.AdWinK.τ).loc Cert.AdWinK.main_arg4) = m ((c.tc : Thread Cert.AdWinK.nD Cert.AdWinK.τ).loc Cert.AdWinK.main_arg4))
      ∧ r.2.sem = fun _ => 0)

def quiescent_AdWinKIdeal [hAdWinKIdeal : Cert.AdWinKIdeal.Facts] : Prop :=
  ∀ (m : (ℓ : Loc Cert.AdWinKIdeal.nD Cert.AdWinKIdeal.τ Cert.AdWinKIdeal.sig) → Buf (Elt Ideal) ℓ) (g : Dev Cert.AdWinKIdeal.nD → PrngReg), Pre_AdWinKIdeal m →
    θ_run (Cert.AdWinKIdeal.defs (F := Ideal)) (onTc (τ := Cert.AdWinKIdeal.τ) (Cert.AdWinKIdeal.main (F := Ideal))) ⟨m, fun _ => 0, g⟩ (fun r => (∀ c : Dev Cert.AdWinKIdeal.nD,
      r.2.mem ((c.tc : Thread Cert.AdWinKIdeal.nD Cert.AdWinKIdeal.τ).loc Cert.AdWinKIdeal.main_arg0) = m ((c.tc : Thread Cert.AdWinKIdeal.nD Cert.AdWinKIdeal.τ).loc Cert.AdWinKIdeal.main_arg0)
      ∧ r.2.mem ((c.tc : Thread Cert.AdWinKIdeal.nD Cert.AdWinKIdeal.τ).loc Cert.AdWinKIdeal.main_arg1) = m ((c.tc : Thread Cert.AdWinKIdeal.nD Cert.AdWinKIdeal.τ).loc Cert.AdWinKIdeal.main_arg1)
      ∧ r.2.mem ((c.tc : Thread Cert.AdWinKIdeal.nD Cert.AdWinKIdeal.τ).loc Cert.AdWinKIdeal.main_arg2) = m ((c.tc : Thread Cert.AdWinKIdeal.nD Cert.AdWinKIdeal.τ).loc Cert.AdWinKIdeal.main_arg2)
      ∧ r.2.mem ((c.tc : Thread Cert.AdWinKIdeal.nD Cert.AdWinKIdeal.τ).loc Cert.AdWinKIdeal.main_arg3) = m ((c.tc : Thread Cert.AdWinKIdeal.nD Cert.AdWinKIdeal.τ).loc Cert.AdWinKIdeal.main_arg3)
      ∧ r.2.mem ((c.tc : Thread Cert.AdWinKIdeal.nD Cert.AdWinKIdeal.τ).loc Cert.AdWinKIdeal.main_arg4) = m ((c.tc : Thread Cert.AdWinKIdeal.nD Cert.AdWinKIdeal.τ).loc Cert.AdWinKIdeal.main_arg4))
      ∧ r.2.sem = fun _ => 0)

def quiescent_AdWinRIdeal [hAdWinRIdeal : Cert.AdWinRIdeal.Facts] : Prop :=
  ∀ (m : (ℓ : Loc Cert.AdWinRIdeal.nD Cert.AdWinRIdeal.τ Cert.AdWinRIdeal.sig) → Buf (Elt Ideal) ℓ) (g : Dev Cert.AdWinRIdeal.nD → PrngReg), Pre_AdWinRIdeal m →
    θ_run (Cert.AdWinRIdeal.defs (F := Ideal)) (onTc (τ := Cert.AdWinRIdeal.τ) (Cert.AdWinRIdeal.main (F := Ideal))) ⟨m, fun _ => 0, g⟩ (fun r => (∀ c : Dev Cert.AdWinRIdeal.nD,
      r.2.mem ((c.tc : Thread Cert.AdWinRIdeal.nD Cert.AdWinRIdeal.τ).loc Cert.AdWinRIdeal.main_arg0) = m ((c.tc : Thread Cert.AdWinRIdeal.nD Cert.AdWinRIdeal.τ).loc Cert.AdWinRIdeal.main_arg0)
      ∧ r.2.mem ((c.tc : Thread Cert.AdWinRIdeal.nD Cert.AdWinRIdeal.τ).loc Cert.AdWinRIdeal.main_arg1) = m ((c.tc : Thread Cert.AdWinRIdeal.nD Cert.AdWinRIdeal.τ).loc Cert.AdWinRIdeal.main_arg1)
      ∧ r.2.mem ((c.tc : Thread Cert.AdWinRIdeal.nD Cert.AdWinRIdeal.τ).loc Cert.AdWinRIdeal.main_arg2) = m ((c.tc : Thread Cert.AdWinRIdeal.nD Cert.AdWinRIdeal.τ).loc Cert.AdWinRIdeal.main_arg2)
      ∧ r.2.mem ((c.tc : Thread Cert.AdWinRIdeal.nD Cert.AdWinRIdeal.τ).loc Cert.AdWinRIdeal.main_arg3) = m ((c.tc : Thread Cert.AdWinRIdeal.nD Cert.AdWinRIdeal.τ).loc Cert.AdWinRIdeal.main_arg3)
      ∧ r.2.mem ((c.tc : Thread Cert.AdWinRIdeal.nD Cert.AdWinRIdeal.τ).loc Cert.AdWinRIdeal.main_arg4) = m ((c.tc : Thread Cert.AdWinRIdeal.nD Cert.AdWinRIdeal.τ).loc Cert.AdWinRIdeal.main_arg4))
      ∧ r.2.sem = fun _ => 0)

def quiescent_AdProjK [hAdProjK : Cert.AdProjK.Facts] : Prop :=
  ∀ (m : (ℓ : Loc Cert.AdProjK.nD Cert.AdProjK.τ Cert.AdProjK.sig) → Buf (Elt Bits) ℓ) (g : Dev Cert.AdProjK.nD → PrngReg), Pre_AdProjK m →
    θ_run (Cert.AdProjK.defs (F := Bits)) (onTc (τ := Cert.AdProjK.τ) (Cert.AdProjK.main (F := Bits))) ⟨m, fun _ => 0, g⟩ (fun r => (∀ c : Dev Cert.AdProjK.nD,
      r.2.mem ((c.tc : Thread Cert.AdProjK.nD Cert.AdProjK.τ).loc Cert.AdProjK.main_arg0) = m ((c.tc : Thread Cert.AdProjK.nD Cert.AdProjK.τ).loc Cert.AdProjK.main_arg0)
      ∧ r.2.mem ((c.tc : Thread Cert.AdProjK.nD Cert.AdProjK.τ).loc Cert.AdProjK.main_arg1) = m ((c.tc : Thread Cert.AdProjK.nD Cert.AdProjK.τ).loc Cert.AdProjK.main_arg1)
      ∧ r.2.mem ((c.tc : Thread Cert.AdProjK.nD Cert.AdProjK.τ).loc Cert.AdProjK.main_arg2) = m ((c.tc : Thread Cert.AdProjK.nD Cert.AdProjK.τ).loc Cert.AdProjK.main_arg2)
      ∧ r.2.mem ((c.tc : Thread Cert.AdProjK.nD Cert.AdProjK.τ).loc Cert.AdProjK.main_arg3) = m ((c.tc : Thread Cert.AdProjK.nD Cert.AdProjK.τ).loc Cert.AdProjK.main_arg3)
      ∧ r.2.mem ((c.tc : Thread Cert.AdProjK.nD Cert.AdProjK.τ).loc Cert.AdProjK.main_arg4) = m ((c.tc : Thread Cert.AdProjK.nD Cert.AdProjK.τ).loc Cert.AdProjK.main_arg4))
      ∧ r.2.sem = fun _ => 0)

def quiescent_AdProjKIdeal [hAdProjKIdeal : Cert.AdProjKIdeal.Facts] : Prop :=
  ∀ (m : (ℓ : Loc Cert.AdProjKIdeal.nD Cert.AdProjKIdeal.τ Cert.AdProjKIdeal.sig) → Buf (Elt Ideal) ℓ) (g : Dev Cert.AdProjKIdeal.nD → PrngReg), Pre_AdProjKIdeal m →
    θ_run (Cert.AdProjKIdeal.defs (F := Ideal)) (onTc (τ := Cert.AdProjKIdeal.τ) (Cert.AdProjKIdeal.main (F := Ideal))) ⟨m, fun _ => 0, g⟩ (fun r => (∀ c : Dev Cert.AdProjKIdeal.nD,
      r.2.mem ((c.tc : Thread Cert.AdProjKIdeal.nD Cert.AdProjKIdeal.τ).loc Cert.AdProjKIdeal.main_arg0) = m ((c.tc : Thread Cert.AdProjKIdeal.nD Cert.AdProjKIdeal.τ).loc Cert.AdProjKIdeal.main_arg0)
      ∧ r.2.mem ((c.tc : Thread Cert.AdProjKIdeal.nD Cert.AdProjKIdeal.τ).loc Cert.AdProjKIdeal.main_arg1) = m ((c.tc : Thread Cert.AdProjKIdeal.nD Cert.AdProjKIdeal.τ).loc Cert.AdProjKIdeal.main_arg1)
      ∧ r.2.mem ((c.tc : Thread Cert.AdProjKIdeal.nD Cert.AdProjKIdeal.τ).loc Cert.AdProjKIdeal.main_arg2) = m ((c.tc : Thread Cert.AdProjKIdeal.nD Cert.AdProjKIdeal.τ).loc Cert.AdProjKIdeal.main_arg2)
      ∧ r.2.mem ((c.tc : Thread Cert.AdProjKIdeal.nD Cert.AdProjKIdeal.τ).loc Cert.AdProjKIdeal.main_arg3) = m ((c.tc : Thread Cert.AdProjKIdeal.nD Cert.AdProjKIdeal.τ).loc Cert.AdProjKIdeal.main_arg3)
      ∧ r.2.mem ((c.tc : Thread Cert.AdProjKIdeal.nD Cert.AdProjKIdeal.τ).loc Cert.AdProjKIdeal.main_arg4) = m ((c.tc : Thread Cert.AdProjKIdeal.nD Cert.AdProjKIdeal.τ).loc Cert.AdProjKIdeal.main_arg4))
      ∧ r.2.sem = fun _ => 0)

def quiescent_AdProjRIdeal [hAdProjRIdeal : Cert.AdProjRIdeal.Facts] : Prop :=
  ∀ (m : (ℓ : Loc Cert.AdProjRIdeal.nD Cert.AdProjRIdeal.τ Cert.AdProjRIdeal.sig) → Buf (Elt Ideal) ℓ) (g : Dev Cert.AdProjRIdeal.nD → PrngReg), Pre_AdProjRIdeal m →
    θ_run (Cert.AdProjRIdeal.defs (F := Ideal)) (onTc (τ := Cert.AdProjRIdeal.τ) (Cert.AdProjRIdeal.main (F := Ideal))) ⟨m, fun _ => 0, g⟩ (fun r => (∀ c : Dev Cert.AdProjRIdeal.nD,
      r.2.mem ((c.tc : Thread Cert.AdProjRIdeal.nD Cert.AdProjRIdeal.τ).loc Cert.AdProjRIdeal.main_arg0) = m ((c.tc : Thread Cert.AdProjRIdeal.nD Cert.AdProjRIdeal.τ).loc Cert.AdProjRIdeal.main_arg0)
      ∧ r.2.mem ((c.tc : Thread Cert.AdProjRIdeal.nD Cert.AdProjRIdeal.τ).loc Cert.AdProjRIdeal.main_arg1) = m ((c.tc : Thread Cert.AdProjRIdeal.nD Cert.AdProjRIdeal.τ).loc Cert.AdProjRIdeal.main_arg1)
      ∧ r.2.mem ((c.tc : Thread Cert.AdProjRIdeal.nD Cert.AdProjRIdeal.τ).loc Cert.AdProjRIdeal.main_arg2) = m ((c.tc : Thread Cert.AdProjRIdeal.nD Cert.AdProjRIdeal.τ).loc Cert.AdProjRIdeal.main_arg2)
      ∧ r.2.mem ((c.tc : Thread Cert.AdProjRIdeal.nD Cert.AdProjRIdeal.τ).loc Cert.AdProjRIdeal.main_arg3) = m ((c.tc : Thread Cert.AdProjRIdeal.nD Cert.AdProjRIdeal.τ).loc Cert.AdProjRIdeal.main_arg3)
      ∧ r.2.mem ((c.tc : Thread Cert.AdProjRIdeal.nD Cert.AdProjRIdeal.τ).loc Cert.AdProjRIdeal.main_arg4) = m ((c.tc : Thread Cert.AdProjRIdeal.nD Cert.AdProjRIdeal.τ).loc Cert.AdProjRIdeal.main_arg4))
      ∧ r.2.sem = fun _ => 0)

def quiescent_AdOutK [hAdOutK : Cert.AdOutK.Facts] : Prop :=
  ∀ (m : (ℓ : Loc Cert.AdOutK.nD Cert.AdOutK.τ Cert.AdOutK.sig) → Buf (Elt Bits) ℓ) (g : Dev Cert.AdOutK.nD → PrngReg), Pre_AdOutK m →
    θ_run (Cert.AdOutK.defs (F := Bits)) (onTc (τ := Cert.AdOutK.τ) (Cert.AdOutK.main (F := Bits))) ⟨m, fun _ => 0, g⟩ (fun r => (∀ c : Dev Cert.AdOutK.nD,
      r.2.mem ((c.tc : Thread Cert.AdOutK.nD Cert.AdOutK.τ).loc Cert.AdOutK.main_arg0) = m ((c.tc : Thread Cert.AdOutK.nD Cert.AdOutK.τ).loc Cert.AdOutK.main_arg0)
      ∧ r.2.mem ((c.tc : Thread Cert.AdOutK.nD Cert.AdOutK.τ).loc Cert.AdOutK.main_arg1) = m ((c.tc : Thread Cert.AdOutK.nD Cert.AdOutK.τ).loc Cert.AdOutK.main_arg1)
      ∧ r.2.mem ((c.tc : Thread Cert.AdOutK.nD Cert.AdOutK.τ).loc Cert.AdOutK.main_arg2) = m ((c.tc : Thread Cert.AdOutK.nD Cert.AdOutK.τ).loc Cert.AdOutK.main_arg2)
      ∧ r.2.mem ((c.tc : Thread Cert.AdOutK.nD Cert.AdOutK.τ).loc Cert.AdOutK.main_arg3) = m ((c.tc : Thread Cert.AdOutK.nD Cert.AdOutK.τ).loc Cert.AdOutK.main_arg3)
      ∧ r.2.mem ((c.tc : Thread Cert.AdOutK.nD Cert.AdOutK.τ).loc Cert.AdOutK.main_arg4) = m ((c.tc : Thread Cert.AdOutK.nD Cert.AdOutK.τ).loc Cert.AdOutK.main_arg4))
      ∧ r.2.sem = fun _ => 0)

def quiescent_AdOutKIdeal [hAdOutKIdeal : Cert.AdOutKIdeal.Facts] : Prop :=
  ∀ (m : (ℓ : Loc Cert.AdOutKIdeal.nD Cert.AdOutKIdeal.τ Cert.AdOutKIdeal.sig) → Buf (Elt Ideal) ℓ) (g : Dev Cert.AdOutKIdeal.nD → PrngReg), Pre_AdOutKIdeal m →
    θ_run (Cert.AdOutKIdeal.defs (F := Ideal)) (onTc (τ := Cert.AdOutKIdeal.τ) (Cert.AdOutKIdeal.main (F := Ideal))) ⟨m, fun _ => 0, g⟩ (fun r => (∀ c : Dev Cert.AdOutKIdeal.nD,
      r.2.mem ((c.tc : Thread Cert.AdOutKIdeal.nD Cert.AdOutKIdeal.τ).loc Cert.AdOutKIdeal.main_arg0) = m ((c.tc : Thread Cert.AdOutKIdeal.nD Cert.AdOutKIdeal.τ).loc Cert.AdOutKIdeal.main_arg0)
      ∧ r.2.mem ((c.tc : Thread Cert.AdOutKIdeal.nD Cert.AdOutKIdeal.τ).loc Cert.AdOutKIdeal.main_arg1) = m ((c.tc : Thread Cert.AdOutKIdeal.nD Cert.AdOutKIdeal.τ).loc Cert.AdOutKIdeal.main_arg1)
      ∧ r.2.mem ((c.tc : Thread Cert.AdOutKIdeal.nD Cert.AdOutKIdeal.τ).loc Cert.AdOutKIdeal.main_arg2) = m ((c.tc : Thread Cert.AdOutKIdeal.nD Cert.AdOutKIdeal.τ).loc Cert.AdOutKIdeal.main_arg2)
      ∧ r.2.mem ((c.tc : Thread Cert.AdOutKIdeal.nD Cert.AdOutKIdeal.τ).loc Cert.AdOutKIdeal.main_arg3) = m ((c.tc : Thread Cert.AdOutKIdeal.nD Cert.AdOutKIdeal.τ).loc Cert.AdOutKIdeal.main_arg3)
      ∧ r.2.mem ((c.tc : Thread Cert.AdOutKIdeal.nD Cert.AdOutKIdeal.τ).loc Cert.AdOutKIdeal.main_arg4) = m ((c.tc : Thread Cert.AdOutKIdeal.nD Cert.AdOutKIdeal.τ).loc Cert.AdOutKIdeal.main_arg4))
      ∧ r.2.sem = fun _ => 0)

def quiescent_AdOutRIdeal [hAdOutRIdeal : Cert.AdOutRIdeal.Facts] : Prop :=
  ∀ (m : (ℓ : Loc Cert.AdOutRIdeal.nD Cert.AdOutRIdeal.τ Cert.AdOutRIdeal.sig) → Buf (Elt Ideal) ℓ) (g : Dev Cert.AdOutRIdeal.nD → PrngReg), Pre_AdOutRIdeal m →
    θ_run (Cert.AdOutRIdeal.defs (F := Ideal)) (onTc (τ := Cert.AdOutRIdeal.τ) (Cert.AdOutRIdeal.main (F := Ideal))) ⟨m, fun _ => 0, g⟩ (fun r => (∀ c : Dev Cert.AdOutRIdeal.nD,
      r.2.mem ((c.tc : Thread Cert.AdOutRIdeal.nD Cert.AdOutRIdeal.τ).loc Cert.AdOutRIdeal.main_arg0) = m ((c.tc : Thread Cert.AdOutRIdeal.nD Cert.AdOutRIdeal.τ).loc Cert.AdOutRIdeal.main_arg0)
      ∧ r.2.mem ((c.tc : Thread Cert.AdOutRIdeal.nD Cert.AdOutRIdeal.τ).loc Cert.AdOutRIdeal.main_arg1) = m ((c.tc : Thread Cert.AdOutRIdeal.nD Cert.AdOutRIdeal.τ).loc Cert.AdOutRIdeal.main_arg1)
      ∧ r.2.mem ((c.tc : Thread Cert.AdOutRIdeal.nD Cert.AdOutRIdeal.τ).loc Cert.AdOutRIdeal.main_arg2) = m ((c.tc : Thread Cert.AdOutRIdeal.nD Cert.AdOutRIdeal.τ).loc Cert.AdOutRIdeal.main_arg2)
      ∧ r.2.mem ((c.tc : Thread Cert.AdOutRIdeal.nD Cert.AdOutRIdeal.τ).loc Cert.AdOutRIdeal.main_arg3) = m ((c.tc : Thread Cert.AdOutRIdeal.nD Cert.AdOutRIdeal.τ).loc Cert.AdOutRIdeal.main_arg3)
      ∧ r.2.mem ((c.tc : Thread Cert.AdOutRIdeal.nD Cert.AdOutRIdeal.τ).loc Cert.AdOutRIdeal.main_arg4) = m ((c.tc : Thread Cert.AdOutRIdeal.nD Cert.AdOutRIdeal.τ).loc Cert.AdOutRIdeal.main_arg4))
      ∧ r.2.sem = fun _ => 0)

def quiescent_AdUpK [hAdUpK : Cert.AdUpK.Facts] : Prop :=
  ∀ (m : (ℓ : Loc Cert.AdUpK.nD Cert.AdUpK.τ Cert.AdUpK.sig) → Buf (Elt Bits) ℓ) (g : Dev Cert.AdUpK.nD → PrngReg), Pre_AdUpK m →
    θ_run (Cert.AdUpK.defs (F := Bits)) (onTc (τ := Cert.AdUpK.τ) (Cert.AdUpK.main (F := Bits))) ⟨m, fun _ => 0, g⟩ (fun r => (∀ c : Dev Cert.AdUpK.nD,
      r.2.mem ((c.tc : Thread Cert.AdUpK.nD Cert.AdUpK.τ).loc Cert.AdUpK.main_arg0) = m ((c.tc : Thread Cert.AdUpK.nD Cert.AdUpK.τ).loc Cert.AdUpK.main_arg0)
      ∧ r.2.mem ((c.tc : Thread Cert.AdUpK.nD Cert.AdUpK.τ).loc Cert.AdUpK.main_arg1) = m ((c.tc : Thread Cert.AdUpK.nD Cert.AdUpK.τ).loc Cert.AdUpK.main_arg1)
      ∧ r.2.mem ((c.tc : Thread Cert.AdUpK.nD Cert.AdUpK.τ).loc Cert.AdUpK.main_arg2) = m ((c.tc : Thread Cert.AdUpK.nD Cert.AdUpK.τ).loc Cert.AdUpK.main_arg2)
      ∧ r.2.mem ((c.tc : Thread Cert.AdUpK.nD Cert.AdUpK.τ).loc Cert.AdUpK.main_arg3) = m ((c.tc : Thread Cert.AdUpK.nD Cert.AdUpK.τ).loc Cert.AdUpK.main_arg3)
      ∧ r.2.mem ((c.tc : Thread Cert.AdUpK.nD Cert.AdUpK.τ).loc Cert.AdUpK.main_arg4) = m ((c.tc : Thread Cert.AdUpK.nD Cert.AdUpK.τ).loc Cert.AdUpK.main_arg4))
      ∧ r.2.sem = fun _ => 0)

def quiescent_AdUpKIdeal [hAdUpKIdeal : Cert.AdUpKIdeal.Facts] : Prop :=
  ∀ (m : (ℓ : Loc Cert.AdUpKIdeal.nD Cert.AdUpKIdeal.τ Cert.AdUpKIdeal.sig) → Buf (Elt Ideal) ℓ) (g : Dev Cert.AdUpKIdeal.nD → PrngReg), Pre_AdUpKIdeal m →
    θ_run (Cert.AdUpKIdeal.defs (F := Ideal)) (onTc (τ := Cert.AdUpKIdeal.τ) (Cert.AdUpKIdeal.main (F := Ideal))) ⟨m, fun _ => 0, g⟩ (fun r => (∀ c : Dev Cert.AdUpKIdeal.nD,
      r.2.mem ((c.tc : Thread Cert.AdUpKIdeal.nD Cert.AdUpKIdeal.τ).loc Cert.AdUpKIdeal.main_arg0) = m ((c.tc : Thread Cert.AdUpKIdeal.nD Cert.AdUpKIdeal.τ).loc Cert.AdUpKIdeal.main_arg0)
      ∧ r.2.mem ((c.tc : Thread Cert.AdUpKIdeal.nD Cert.AdUpKIdeal.τ).loc Cert.AdUpKIdeal.main_arg1) = m ((c.tc : Thread Cert.AdUpKIdeal.nD Cert.AdUpKIdeal.τ).loc Cert.AdUpKIdeal.main_arg1)
      ∧ r.2.mem ((c.tc : Thread Cert.AdUpKIdeal.nD Cert.AdUpKIdeal.τ).loc Cert.AdUpKIdeal.main_arg2) = m ((c.tc : Thread Cert.AdUpKIdeal.nD Cert.AdUpKIdeal.τ).loc Cert.AdUpKIdeal.main_arg2)
      ∧ r.2.mem ((c.tc : Thread Cert.AdUpKIdeal.nD Cert.AdUpKIdeal.τ).loc Cert.AdUpKIdeal.main_arg3) = m ((c.tc : Thread Cert.AdUpKIdeal.nD Cert.AdUpKIdeal.τ).loc Cert.AdUpKIdeal.main_arg3)
      ∧ r.2.mem ((c.tc : Thread Cert.AdUpKIdeal.nD Cert.AdUpKIdeal.τ).loc Cert.AdUpKIdeal.main_arg4) = m ((c.tc : Thread Cert.AdUpKIdeal.nD Cert.AdUpKIdeal.τ).loc Cert.AdUpKIdeal.main_arg4))
      ∧ r.2.sem = fun _ => 0)

def quiescent_AdUpRIdeal [hAdUpRIdeal : Cert.AdUpRIdeal.Facts] : Prop :=
  ∀ (m : (ℓ : Loc Cert.AdUpRIdeal.nD Cert.AdUpRIdeal.τ Cert.AdUpRIdeal.sig) → Buf (Elt Ideal) ℓ) (g : Dev Cert.AdUpRIdeal.nD → PrngReg), Pre_AdUpRIdeal m →
    θ_run (Cert.AdUpRIdeal.defs (F := Ideal)) (onTc (τ := Cert.AdUpRIdeal.τ) (Cert.AdUpRIdeal.main (F := Ideal))) ⟨m, fun _ => 0, g⟩ (fun r => (∀ c : Dev Cert.AdUpRIdeal.nD,
      r.2.mem ((c.tc : Thread Cert.AdUpRIdeal.nD Cert.AdUpRIdeal.τ).loc Cert.AdUpRIdeal.main_arg0) = m ((c.tc : Thread Cert.AdUpRIdeal.nD Cert.AdUpRIdeal.τ).loc Cert.AdUpRIdeal.main_arg0)
      ∧ r.2.mem ((c.tc : Thread Cert.AdUpRIdeal.nD Cert.AdUpRIdeal.τ).loc Cert.AdUpRIdeal.main_arg1) = m ((c.tc : Thread Cert.AdUpRIdeal.nD Cert.AdUpRIdeal.τ).loc Cert.AdUpRIdeal.main_arg1)
      ∧ r.2.mem ((c.tc : Thread Cert.AdUpRIdeal.nD Cert.AdUpRIdeal.τ).loc Cert.AdUpRIdeal.main_arg2) = m ((c.tc : Thread Cert.AdUpRIdeal.nD Cert.AdUpRIdeal.τ).loc Cert.AdUpRIdeal.main_arg2)
      ∧ r.2.mem ((c.tc : Thread Cert.AdUpRIdeal.nD Cert.AdUpRIdeal.τ).loc Cert.AdUpRIdeal.main_arg3) = m ((c.tc : Thread Cert.AdUpRIdeal.nD Cert.AdUpRIdeal.τ).loc Cert.AdUpRIdeal.main_arg3)
      ∧ r.2.mem ((c.tc : Thread Cert.AdUpRIdeal.nD Cert.AdUpRIdeal.τ).loc Cert.AdUpRIdeal.main_arg4) = m ((c.tc : Thread Cert.AdUpRIdeal.nD Cert.AdUpRIdeal.τ).loc Cert.AdUpRIdeal.main_arg4))
      ∧ r.2.sem = fun _ => 0)

def quiescent_AdDownK [hAdDownK : Cert.AdDownK.Facts] : Prop :=
  ∀ (m : (ℓ : Loc Cert.AdDownK.nD Cert.AdDownK.τ Cert.AdDownK.sig) → Buf (Elt Bits) ℓ) (g : Dev Cert.AdDownK.nD → PrngReg), Pre_AdDownK m →
    θ_run (Cert.AdDownK.defs (F := Bits)) (onTc (τ := Cert.AdDownK.τ) (Cert.AdDownK.main (F := Bits))) ⟨m, fun _ => 0, g⟩ (fun r => (∀ c : Dev Cert.AdDownK.nD,
      r.2.mem ((c.tc : Thread Cert.AdDownK.nD Cert.AdDownK.τ).loc Cert.AdDownK.main_arg0) = m ((c.tc : Thread Cert.AdDownK.nD Cert.AdDownK.τ).loc Cert.AdDownK.main_arg0)
      ∧ r.2.mem ((c.tc : Thread Cert.AdDownK.nD Cert.AdDownK.τ).loc Cert.AdDownK.main_arg1) = m ((c.tc : Thread Cert.AdDownK.nD Cert.AdDownK.τ).loc Cert.AdDownK.main_arg1)
      ∧ r.2.mem ((c.tc : Thread Cert.AdDownK.nD Cert.AdDownK.τ).loc Cert.AdDownK.main_arg2) = m ((c.tc : Thread Cert.AdDownK.nD Cert.AdDownK.τ).loc Cert.AdDownK.main_arg2)
      ∧ r.2.mem ((c.tc : Thread Cert.AdDownK.nD Cert.AdDownK.τ).loc Cert.AdDownK.main_arg3) = m ((c.tc : Thread Cert.AdDownK.nD Cert.AdDownK.τ).loc Cert.AdDownK.main_arg3)
      ∧ r.2.mem ((c.tc : Thread Cert.AdDownK.nD Cert.AdDownK.τ).loc Cert.AdDownK.main_arg4) = m ((c.tc : Thread Cert.AdDownK.nD Cert.AdDownK.τ).loc Cert.AdDownK.main_arg4))
      ∧ r.2.sem = fun _ => 0)

def quiescent_AdDownKIdeal [hAdDownKIdeal : Cert.AdDownKIdeal.Facts] : Prop :=
  ∀ (m : (ℓ : Loc Cert.AdDownKIdeal.nD Cert.AdDownKIdeal.τ Cert.AdDownKIdeal.sig) → Buf (Elt Ideal) ℓ) (g : Dev Cert.AdDownKIdeal.nD → PrngReg), Pre_AdDownKIdeal m →
    θ_run (Cert.AdDownKIdeal.defs (F := Ideal)) (onTc (τ := Cert.AdDownKIdeal.τ) (Cert.AdDownKIdeal.main (F := Ideal))) ⟨m, fun _ => 0, g⟩ (fun r => (∀ c : Dev Cert.AdDownKIdeal.nD,
      r.2.mem ((c.tc : Thread Cert.AdDownKIdeal.nD Cert.AdDownKIdeal.τ).loc Cert.AdDownKIdeal.main_arg0) = m ((c.tc : Thread Cert.AdDownKIdeal.nD Cert.AdDownKIdeal.τ).loc Cert.AdDownKIdeal.main_arg0)
      ∧ r.2.mem ((c.tc : Thread Cert.AdDownKIdeal.nD Cert.AdDownKIdeal.τ).loc Cert.AdDownKIdeal.main_arg1) = m ((c.tc : Thread Cert.AdDownKIdeal.nD Cert.AdDownKIdeal.τ).loc Cert.AdDownKIdeal.main_arg1)
      ∧ r.2.mem ((c.tc : Thread Cert.AdDownKIdeal.nD Cert.AdDownKIdeal.τ).loc Cert.AdDownKIdeal.main_arg2) = m ((c.tc : Thread Cert.AdDownKIdeal.nD Cert.AdDownKIdeal.τ).loc Cert.AdDownKIdeal.main_arg2)
      ∧ r.2.mem ((c.tc : Thread Cert.AdDownKIdeal.nD Cert.AdDownKIdeal.τ).loc Cert.AdDownKIdeal.main_arg3) = m ((c.tc : Thread Cert.AdDownKIdeal.nD Cert.AdDownKIdeal.τ).loc Cert.AdDownKIdeal.main_arg3)
      ∧ r.2.mem ((c.tc : Thread Cert.AdDownKIdeal.nD Cert.AdDownKIdeal.τ).loc Cert.AdDownKIdeal.main_arg4) = m ((c.tc : Thread Cert.AdDownKIdeal.nD Cert.AdDownKIdeal.τ).loc Cert.AdDownKIdeal.main_arg4))
      ∧ r.2.sem = fun _ => 0)

def quiescent_AdDownRIdeal [hAdDownRIdeal : Cert.AdDownRIdeal.Facts] : Prop :=
  ∀ (m : (ℓ : Loc Cert.AdDownRIdeal.nD Cert.AdDownRIdeal.τ Cert.AdDownRIdeal.sig) → Buf (Elt Ideal) ℓ) (g : Dev Cert.AdDownRIdeal.nD → PrngReg), Pre_AdDownRIdeal m →
    θ_run (Cert.AdDownRIdeal.defs (F := Ideal)) (onTc (τ := Cert.AdDownRIdeal.τ) (Cert.AdDownRIdeal.main (F := Ideal))) ⟨m, fun _ => 0, g⟩ (fun r => (∀ c : Dev Cert.AdDownRIdeal.nD,
      r.2.mem ((c.tc : Thread Cert.AdDownRIdeal.nD Cert.AdDownRIdeal.τ).loc Cert.AdDownRIdeal.main_arg0) = m ((c.tc : Thread Cert.AdDownRIdeal.nD Cert.AdDownRIdeal.τ).loc Cert.AdDownRIdeal.main_arg0)
      ∧ r.2.mem ((c.tc : Thread Cert.AdDownRIdeal.nD Cert.AdDownRIdeal.τ).loc Cert.AdDownRIdeal.main_arg1) = m ((c.tc : Thread Cert.AdDownRIdeal.nD Cert.AdDownRIdeal.τ).loc Cert.AdDownRIdeal.main_arg1)
      ∧ r.2.mem ((c.tc : Thread Cert.AdDownRIdeal.nD Cert.AdDownRIdeal.τ).loc Cert.AdDownRIdeal.main_arg2) = m ((c.tc : Thread Cert.AdDownRIdeal.nD Cert.AdDownRIdeal.τ).loc Cert.AdDownRIdeal.main_arg2)
      ∧ r.2.mem ((c.tc : Thread Cert.AdDownRIdeal.nD Cert.AdDownRIdeal.τ).loc Cert.AdDownRIdeal.main_arg3) = m ((c.tc : Thread Cert.AdDownRIdeal.nD Cert.AdDownRIdeal.τ).loc Cert.AdDownRIdeal.main_arg3)
      ∧ r.2.mem ((c.tc : Thread Cert.AdDownRIdeal.nD Cert.AdDownRIdeal.τ).loc Cert.AdDownRIdeal.main_arg4) = m ((c.tc : Thread Cert.AdDownRIdeal.nD Cert.AdDownRIdeal.τ).loc Cert.AdDownRIdeal.main_arg4))
      ∧ r.2.sem = fun _ => 0)

def quiescent_AdSmallK [hAdSmallK : Cert.AdSmallK.Facts] : Prop :=
  ∀ (m : (ℓ : Loc Cert.AdSmallK.nD Cert.AdSmallK.τ Cert.AdSmallK.sig) → Buf (Elt Bits) ℓ) (g : Dev Cert.AdSmallK.nD → PrngReg), Pre_AdSmallK m →
    θ_run (Cert.AdSmallK.defs (F := Bits)) (onTc (τ := Cert.AdSmallK.τ) (Cert.AdSmallK.main (F := Bits))) ⟨m, fun _ => 0, g⟩ (fun r => (∀ c : Dev Cert.AdSmallK.nD,
      r.2.mem ((c.tc : Thread Cert.AdSmallK.nD Cert.AdSmallK.τ).loc Cert.AdSmallK.main_arg0) = m ((c.tc : Thread Cert.AdSmallK.nD Cert.AdSmallK.τ).loc Cert.AdSmallK.main_arg0)
      ∧ r.2.mem ((c.tc : Thread Cert.AdSmallK.nD Cert.AdSmallK.τ).loc Cert.AdSmallK.main_arg1) = m ((c.tc : Thread Cert.AdSmallK.nD Cert.AdSmallK.τ).loc Cert.AdSmallK.main_arg1)
      ∧ r.2.mem ((c.tc : Thread Cert.AdSmallK.nD Cert.AdSmallK.τ).loc Cert.AdSmallK.main_arg2) = m ((c.tc : Thread Cert.AdSmallK.nD Cert.AdSmallK.τ).loc Cert.AdSmallK.main_arg2)
      ∧ r.2.mem ((c.tc : Thread Cert.AdSmallK.nD Cert.AdSmallK.τ).loc Cert.AdSmallK.main_arg3) = m ((c.tc : Thread Cert.AdSmallK.nD Cert.AdSmallK.τ).loc Cert.AdSmallK.main_arg3)
      ∧ r.2.mem ((c.tc : Thread Cert.AdSmallK.nD Cert.AdSmallK.τ).loc Cert.AdSmallK.main_arg4) = m ((c.tc : Thread Cert.AdSmallK.nD Cert.AdSmallK.τ).loc Cert.AdSmallK.main_arg4))
      ∧ r.2.sem = fun _ => 0)

def quiescent_AdSmallKIdeal [hAdSmallKIdeal : Cert.AdSmallKIdeal.Facts] : Prop :=
  ∀ (m : (ℓ : Loc Cert.AdSmallKIdeal.nD Cert.AdSmallKIdeal.τ Cert.AdSmallKIdeal.sig) → Buf (Elt Ideal) ℓ) (g : Dev Cert.AdSmallKIdeal.nD → PrngReg), Pre_AdSmallKIdeal m →
    θ_run (Cert.AdSmallKIdeal.defs (F := Ideal)) (onTc (τ := Cert.AdSmallKIdeal.τ) (Cert.AdSmallKIdeal.main (F := Ideal))) ⟨m, fun _ => 0, g⟩ (fun r => (∀ c : Dev Cert.AdSmallKIdeal.nD,
      r.2.mem ((c.tc : Thread Cert.AdSmallKIdeal.nD Cert.AdSmallKIdeal.τ).loc Cert.AdSmallKIdeal.main_arg0) = m ((c.tc : Thread Cert.AdSmallKIdeal.nD Cert.AdSmallKIdeal.τ).loc Cert.AdSmallKIdeal.main_arg0)
      ∧ r.2.mem ((c.tc : Thread Cert.AdSmallKIdeal.nD Cert.AdSmallKIdeal.τ).loc Cert.AdSmallKIdeal.main_arg1) = m ((c.tc : Thread Cert.AdSmallKIdeal.nD Cert.AdSmallKIdeal.τ).loc Cert.AdSmallKIdeal.main_arg1)
      ∧ r.2.mem ((c.tc : Thread Cert.AdSmallKIdeal.nD Cert.AdSmallKIdeal.τ).loc Cert.AdSmallKIdeal.main_arg2) = m ((c.tc : Thread Cert.AdSmallKIdeal.nD Cert.AdSmallKIdeal.τ).loc Cert.AdSmallKIdeal.main_arg2)
      ∧ r.2.mem ((c.tc : Thread Cert.AdSmallKIdeal.nD Cert.AdSmallKIdeal.τ).loc Cert.AdSmallKIdeal.main_arg3) = m ((c.tc : Thread Cert.AdSmallKIdeal.nD Cert.AdSmallKIdeal.τ).loc Cert.AdSmallKIdeal.main_arg3)
      ∧ r.2.mem ((c.tc : Thread Cert.AdSmallKIdeal.nD Cert.AdSmallKIdeal.τ).loc Cert.AdSmallKIdeal.main_arg4) = m ((c.tc : Thread Cert.AdSmallKIdeal.nD Cert.AdSmallKIdeal.τ).loc Cert.AdSmallKIdeal.main_arg4))
      ∧ r.2.sem = fun _ => 0)

def quiescent_AdSmallRIdeal [hAdSmallRIdeal : Cert.AdSmallRIdeal.Facts] : Prop :=
  ∀ (m : (ℓ : Loc Cert.AdSmallRIdeal.nD Cert.AdSmallRIdeal.τ Cert.AdSmallRIdeal.sig) → Buf (Elt Ideal) ℓ) (g : Dev Cert.AdSmallRIdeal.nD → PrngReg), Pre_AdSmallRIdeal m →
    θ_run (Cert.AdSmallRIdeal.defs (F := Ideal)) (onTc (τ := Cert.AdSmallRIdeal.τ) (Cert.AdSmallRIdeal.main (F := Ideal))) ⟨m, fun _ => 0, g⟩ (fun r => (∀ c : Dev Cert.AdSmallRIdeal.nD,
      r.2.mem ((c.tc : Thread Cert.AdSmallRIdeal.nD Cert.AdSmallRIdeal.τ).loc Cert.AdSmallRIdeal.main_arg0) = m ((c.tc : Thread Cert.AdSmallRIdeal.nD Cert.AdSmallRIdeal.τ).loc Cert.AdSmallRIdeal.main_arg0)
      ∧ r.2.mem ((c.tc : Thread Cert.AdSmallRIdeal.nD Cert.AdSmallRIdeal.τ).loc Cert.AdSmallRIdeal.main_arg1) = m ((c.tc : Thread Cert.AdSmallRIdeal.nD Cert.AdSmallRIdeal.τ).loc Cert.AdSmallRIdeal.main_arg1)
      ∧ r.2.mem ((c.tc : Thread Cert.AdSmallRIdeal.nD Cert.AdSmallRIdeal.τ).loc Cert.AdSmallRIdeal.main_arg2) = m ((c.tc : Thread Cert.AdSmallRIdeal.nD Cert.AdSmallRIdeal.τ).loc Cert.AdSmallRIdeal.main_arg2)
      ∧ r.2.mem ((c.tc : Thread Cert.AdSmallRIdeal.nD Cert.AdSmallRIdeal.τ).loc Cert.AdSmallRIdeal.main_arg3) = m ((c.tc : Thread Cert.AdSmallRIdeal.nD Cert.AdSmallRIdeal.τ).loc Cert.AdSmallRIdeal.main_arg3)
      ∧ r.2.mem ((c.tc : Thread Cert.AdSmallRIdeal.nD Cert.AdSmallRIdeal.τ).loc Cert.AdSmallRIdeal.main_arg4) = m ((c.tc : Thread Cert.AdSmallRIdeal.nD Cert.AdSmallRIdeal.τ).loc Cert.AdSmallRIdeal.main_arg4))
      ∧ r.2.sem = fun _ => 0)

def quiescent_FdownK [hFdownK : Cert.FdownK.Facts] : Prop :=
  ∀ (m : (ℓ : Loc Cert.FdownK.nD Cert.FdownK.τ Cert.FdownK.sig) → Buf (Elt Bits) ℓ) (g : Dev Cert.FdownK.nD → PrngReg), Pre_FdownK m →
    θ_run (Cert.FdownK.defs (F := Bits)) (onTc (τ := Cert.FdownK.τ) (Cert.FdownK.main (F := Bits))) ⟨m, fun _ => 0, g⟩ (fun r => (∀ c : Dev Cert.FdownK.nD,
      r.2.mem ((c.tc : Thread Cert.FdownK.nD Cert.FdownK.τ).loc Cert.FdownK.main_arg0) = m ((c.tc : Thread Cert.FdownK.nD Cert.FdownK.τ).loc Cert.FdownK.main_arg0)
      ∧ r.2.mem ((c.tc : Thread Cert.FdownK.nD Cert.FdownK.τ).loc Cert.FdownK.main_arg1) = m ((c.tc : Thread Cert.FdownK.nD Cert.FdownK.τ).loc Cert.FdownK.main_arg1)
      ∧ r.2.mem ((c.tc : Thread Cert.FdownK.nD Cert.FdownK.τ).loc Cert.FdownK.main_arg2) = m ((c.tc : Thread Cert.FdownK.nD Cert.FdownK.τ).loc Cert.FdownK.main_arg2)
      ∧ r.2.mem ((c.tc : Thread Cert.FdownK.nD Cert.FdownK.τ).loc Cert.FdownK.main_arg3) = m ((c.tc : Thread Cert.FdownK.nD Cert.FdownK.τ).loc Cert.FdownK.main_arg3)
      ∧ r.2.mem ((c.tc : Thread Cert.FdownK.nD Cert.FdownK.τ).loc Cert.FdownK.main_arg4) = m ((c.tc : Thread Cert.FdownK.nD Cert.FdownK.τ).loc Cert.FdownK.main_arg4))
      ∧ r.2.sem = fun _ => 0)

def quiescent_FdownKIdeal [hFdownKIdeal : Cert.FdownKIdeal.Facts] : Prop :=
  ∀ (m : (ℓ : Loc Cert.FdownKIdeal.nD Cert.FdownKIdeal.τ Cert.FdownKIdeal.sig) → Buf (Elt Ideal) ℓ) (g : Dev Cert.FdownKIdeal.nD → PrngReg), Pre_FdownKIdeal m →
    θ_run (Cert.FdownKIdeal.defs (F := Ideal)) (onTc (τ := Cert.FdownKIdeal.τ) (Cert.FdownKIdeal.main (F := Ideal))) ⟨m, fun _ => 0, g⟩ (fun r => (∀ c : Dev Cert.FdownKIdeal.nD,
      r.2.mem ((c.tc : Thread Cert.FdownKIdeal.nD Cert.FdownKIdeal.τ).loc Cert.FdownKIdeal.main_arg0) = m ((c.tc : Thread Cert.FdownKIdeal.nD Cert.FdownKIdeal.τ).loc Cert.FdownKIdeal.main_arg0)
      ∧ r.2.mem ((c.tc : Thread Cert.FdownKIdeal.nD Cert.FdownKIdeal.τ).loc Cert.FdownKIdeal.main_arg1) = m ((c.tc : Thread Cert.FdownKIdeal.nD Cert.FdownKIdeal.τ).loc Cert.FdownKIdeal.main_arg1)
      ∧ r.2.mem ((c.tc : Thread Cert.FdownKIdeal.nD Cert.FdownKIdeal.τ).loc Cert.FdownKIdeal.main_arg2) = m ((c.tc : Thread Cert.FdownKIdeal.nD Cert.FdownKIdeal.τ).loc Cert.FdownKIdeal.main_arg2)
      ∧ r.2.mem ((c.tc : Thread Cert.FdownKIdeal.nD Cert.FdownKIdeal.τ).loc Cert.FdownKIdeal.main_arg3) = m ((c.tc : Thread Cert.FdownKIdeal.nD Cert.FdownKIdeal.τ).loc Cert.FdownKIdeal.main_arg3)
      ∧ r.2.mem ((c.tc : Thread Cert.FdownKIdeal.nD Cert.FdownKIdeal.τ).loc Cert.FdownKIdeal.main_arg4) = m ((c.tc : Thread Cert.FdownKIdeal.nD Cert.FdownKIdeal.τ).loc Cert.FdownKIdeal.main_arg4))
      ∧ r.2.sem = fun _ => 0)

def quiescent_FdownRIdeal [hFdownRIdeal : Cert.FdownRIdeal.Facts] : Prop :=
  ∀ (m : (ℓ : Loc Cert.FdownRIdeal.nD Cert.FdownRIdeal.τ Cert.FdownRIdeal.sig) → Buf (Elt Ideal) ℓ) (g : Dev Cert.FdownRIdeal.nD → PrngReg), Pre_FdownRIdeal m →
    θ_run (Cert.FdownRIdeal.defs (F := Ideal)) (onTc (τ := Cert.FdownRIdeal.τ) (Cert.FdownRIdeal.main (F := Ideal))) ⟨m, fun _ => 0, g⟩ (fun r => (∀ c : Dev Cert.FdownRIdeal.nD,
      r.2.mem ((c.tc : Thread Cert.FdownRIdeal.nD Cert.FdownRIdeal.τ).loc Cert.FdownRIdeal.main_arg0) = m ((c.tc : Thread Cert.FdownRIdeal.nD Cert.FdownRIdeal.τ).loc Cert.FdownRIdeal.main_arg0)
      ∧ r.2.mem ((c.tc : Thread Cert.FdownRIdeal.nD Cert.FdownRIdeal.τ).loc Cert.FdownRIdeal.main_arg1) = m ((c.tc : Thread Cert.FdownRIdeal.nD Cert.FdownRIdeal.τ).loc Cert.FdownRIdeal.main_arg1)
      ∧ r.2.mem ((c.tc : Thread Cert.FdownRIdeal.nD Cert.FdownRIdeal.τ).loc Cert.FdownRIdeal.main_arg2) = m ((c.tc : Thread Cert.FdownRIdeal.nD Cert.FdownRIdeal.τ).loc Cert.FdownRIdeal.main_arg2)
      ∧ r.2.mem ((c.tc : Thread Cert.FdownRIdeal.nD Cert.FdownRIdeal.τ).loc Cert.FdownRIdeal.main_arg3) = m ((c.tc : Thread Cert.FdownRIdeal.nD Cert.FdownRIdeal.τ).loc Cert.FdownRIdeal.main_arg3)
      ∧ r.2.mem ((c.tc : Thread Cert.FdownRIdeal.nD Cert.FdownRIdeal.τ).loc Cert.FdownRIdeal.main_arg4) = m ((c.tc : Thread Cert.FdownRIdeal.nD Cert.FdownRIdeal.τ).loc Cert.FdownRIdeal.main_arg4))
      ∧ r.2.sem = fun _ => 0)

def quiescent_WoutK [hWoutK : Cert.WoutK.Facts] : Prop :=
  ∀ (m : (ℓ : Loc Cert.WoutK.nD Cert.WoutK.τ Cert.WoutK.sig) → Buf (Elt Bits) ℓ) (g : Dev Cert.WoutK.nD → PrngReg), Pre_WoutK m →
    θ_run (Cert.WoutK.defs (F := Bits)) (onTc (τ := Cert.WoutK.τ) (Cert.WoutK.main (F := Bits))) ⟨m, fun _ => 0, g⟩ (fun r => (∀ c : Dev Cert.WoutK.nD,
      r.2.mem ((c.tc : Thread Cert.WoutK.nD Cert.WoutK.τ).loc Cert.WoutK.main_arg0) = m ((c.tc : Thread Cert.WoutK.nD Cert.WoutK.τ).loc Cert.WoutK.main_arg0)
      ∧ r.2.mem ((c.tc : Thread Cert.WoutK.nD Cert.WoutK.τ).loc Cert.WoutK.main_arg1) = m ((c.tc : Thread Cert.WoutK.nD Cert.WoutK.τ).loc Cert.WoutK.main_arg1)
      ∧ r.2.mem ((c.tc : Thread Cert.WoutK.nD Cert.WoutK.τ).loc Cert.WoutK.main_arg2) = m ((c.tc : Thread Cert.WoutK.nD Cert.WoutK.τ).loc Cert.WoutK.main_arg2)
      ∧ r.2.mem ((c.tc : Thread Cert.WoutK.nD Cert.WoutK.τ).loc Cert.WoutK.main_arg3) = m ((c.tc : Thread Cert.WoutK.nD Cert.WoutK.τ).loc Cert.WoutK.main_arg3))
      ∧ r.2.sem = fun _ => 0)

def quiescent_WoutKIdeal [hWoutKIdeal : Cert.WoutKIdeal.Facts] : Prop :=
  ∀ (m : (ℓ : Loc Cert.WoutKIdeal.nD Cert.WoutKIdeal.τ Cert.WoutKIdeal.sig) → Buf (Elt Ideal) ℓ) (g : Dev Cert.WoutKIdeal.nD → PrngReg), Pre_WoutKIdeal m →
    θ_run (Cert.WoutKIdeal.defs (F := Ideal)) (onTc (τ := Cert.WoutKIdeal.τ) (Cert.WoutKIdeal.main (F := Ideal))) ⟨m, fun _ => 0, g⟩ (fun r => (∀ c : Dev Cert.WoutKIdeal.nD,
      r.2.mem ((c.tc : Thread Cert.WoutKIdeal.nD Cert.WoutKIdeal.τ).loc Cert.WoutKIdeal.main_arg0) = m ((c.tc : Thread Cert.WoutKIdeal.nD Cert.WoutKIdeal.τ).loc Cert.WoutKIdeal.main_arg0)
      ∧ r.2.mem ((c.tc : Thread Cert.WoutKIdeal.nD Cert.WoutKIdeal.τ).loc Cert.WoutKIdeal.main_arg1) = m ((c.tc : Thread Cert.WoutKIdeal.nD Cert.WoutKIdeal.τ).loc Cert.WoutKIdeal.main_arg1)
      ∧ r.2.mem ((c.tc : Thread Cert.WoutKIdeal.nD Cert.WoutKIdeal.τ).loc Cert.WoutKIdeal.main_arg2) = m ((c.tc : Thread Cert.WoutKIdeal.nD Cert.WoutKIdeal.τ).loc Cert.WoutKIdeal.main_arg2)
      ∧ r.2.mem ((c.tc : Thread Cert.WoutKIdeal.nD Cert.WoutKIdeal.τ).loc Cert.WoutKIdeal.main_arg3) = m ((c.tc : Thread Cert.WoutKIdeal.nD Cert.WoutKIdeal.τ).loc Cert.WoutKIdeal.main_arg3))
      ∧ r.2.sem = fun _ => 0)

def quiescent_WoutRIdeal [hWoutRIdeal : Cert.WoutRIdeal.Facts] : Prop :=
  ∀ (m : (ℓ : Loc Cert.WoutRIdeal.nD Cert.WoutRIdeal.τ Cert.WoutRIdeal.sig) → Buf (Elt Ideal) ℓ) (g : Dev Cert.WoutRIdeal.nD → PrngReg), Pre_WoutRIdeal m →
    θ_run (Cert.WoutRIdeal.defs (F := Ideal)) (onTc (τ := Cert.WoutRIdeal.τ) (Cert.WoutRIdeal.main (F := Ideal))) ⟨m, fun _ => 0, g⟩ (fun r => (∀ c : Dev Cert.WoutRIdeal.nD,
      r.2.mem ((c.tc : Thread Cert.WoutRIdeal.nD Cert.WoutRIdeal.τ).loc Cert.WoutRIdeal.main_arg0) = m ((c.tc : Thread Cert.WoutRIdeal.nD Cert.WoutRIdeal.τ).loc Cert.WoutRIdeal.main_arg0)
      ∧ r.2.mem ((c.tc : Thread Cert.WoutRIdeal.nD Cert.WoutRIdeal.τ).loc Cert.WoutRIdeal.main_arg1) = m ((c.tc : Thread Cert.WoutRIdeal.nD Cert.WoutRIdeal.τ).loc Cert.WoutRIdeal.main_arg1)
      ∧ r.2.mem ((c.tc : Thread Cert.WoutRIdeal.nD Cert.WoutRIdeal.τ).loc Cert.WoutRIdeal.main_arg2) = m ((c.tc : Thread Cert.WoutRIdeal.nD Cert.WoutRIdeal.τ).loc Cert.WoutRIdeal.main_arg2)
      ∧ r.2.mem ((c.tc : Thread Cert.WoutRIdeal.nD Cert.WoutRIdeal.τ).loc Cert.WoutRIdeal.main_arg3) = m ((c.tc : Thread Cert.WoutRIdeal.nD Cert.WoutRIdeal.τ).loc Cert.WoutRIdeal.main_arg3))
      ∧ r.2.sem = fun _ => 0)

def quiescent_GdgK [hGdgK : Cert.GdgK.Facts] : Prop :=
  ∀ (m : (ℓ : Loc Cert.GdgK.nD Cert.GdgK.τ Cert.GdgK.sig) → Buf (Elt Bits) ℓ) (g : Dev Cert.GdgK.nD → PrngReg), Pre_GdgK m →
    θ_run (Cert.GdgK.defs (F := Bits)) (onTc (τ := Cert.GdgK.τ) (Cert.GdgK.main (F := Bits))) ⟨m, fun _ => 0, g⟩ (fun r => (∀ c : Dev Cert.GdgK.nD,
      r.2.mem ((c.tc : Thread Cert.GdgK.nD Cert.GdgK.τ).loc Cert.GdgK.main_arg0) = m ((c.tc : Thread Cert.GdgK.nD Cert.GdgK.τ).loc Cert.GdgK.main_arg0)
      ∧ r.2.mem ((c.tc : Thread Cert.GdgK.nD Cert.GdgK.τ).loc Cert.GdgK.main_arg1) = m ((c.tc : Thread Cert.GdgK.nD Cert.GdgK.τ).loc Cert.GdgK.main_arg1)
      ∧ r.2.mem ((c.tc : Thread Cert.GdgK.nD Cert.GdgK.τ).loc Cert.GdgK.main_arg2) = m ((c.tc : Thread Cert.GdgK.nD Cert.GdgK.τ).loc Cert.GdgK.main_arg2)
      ∧ r.2.mem ((c.tc : Thread Cert.GdgK.nD Cert.GdgK.τ).loc Cert.GdgK.main_arg3) = m ((c.tc : Thread Cert.GdgK.nD Cert.GdgK.τ).loc Cert.GdgK.main_arg3))
      ∧ r.2.sem = fun _ => 0)

def quiescent_GdgKIdeal [hGdgKIdeal : Cert.GdgKIdeal.Facts] : Prop :=
  ∀ (m : (ℓ : Loc Cert.GdgKIdeal.nD Cert.GdgKIdeal.τ Cert.GdgKIdeal.sig) → Buf (Elt Ideal) ℓ) (g : Dev Cert.GdgKIdeal.nD → PrngReg), Pre_GdgKIdeal m →
    θ_run (Cert.GdgKIdeal.defs (F := Ideal)) (onTc (τ := Cert.GdgKIdeal.τ) (Cert.GdgKIdeal.main (F := Ideal))) ⟨m, fun _ => 0, g⟩ (fun r => (∀ c : Dev Cert.GdgKIdeal.nD,
      r.2.mem ((c.tc : Thread Cert.GdgKIdeal.nD Cert.GdgKIdeal.τ).loc Cert.GdgKIdeal.main_arg0) = m ((c.tc : Thread Cert.GdgKIdeal.nD Cert.GdgKIdeal.τ).loc Cert.GdgKIdeal.main_arg0)
      ∧ r.2.mem ((c.tc : Thread Cert.GdgKIdeal.nD Cert.GdgKIdeal.τ).loc Cert.GdgKIdeal.main_arg1) = m ((c.tc : Thread Cert.GdgKIdeal.nD Cert.GdgKIdeal.τ).loc Cert.GdgKIdeal.main_arg1)
      ∧ r.2.mem ((c.tc : Thread Cert.GdgKIdeal.nD Cert.GdgKIdeal.τ).loc Cert.GdgKIdeal.main_arg2) = m ((c.tc : Thread Cert.GdgKIdeal.nD Cert.GdgKIdeal.τ).loc Cert.GdgKIdeal.main_arg2)
      ∧ r.2.mem ((c.tc : Thread Cert.GdgKIdeal.nD Cert.GdgKIdeal.τ).loc Cert.GdgKIdeal.main_arg3) = m ((c.tc : Thread Cert.GdgKIdeal.nD Cert.GdgKIdeal.τ).loc Cert.GdgKIdeal.main_arg3))
      ∧ r.2.sem = fun _ => 0)

def quiescent_GdgKIdeal_pre_finite_gate [hGdgKIdeal : Cert.GdgKIdeal.Facts] [hPre_finite_gate : Cert.Pre_finite_gate.Facts] : Prop :=
  ∀ (m : (ℓ : Loc Cert.GdgKIdeal.nD Cert.GdgKIdeal.τ Cert.GdgKIdeal.sig) → Buf (Elt Ideal) ℓ) (g : Dev Cert.GdgKIdeal.nD → PrngReg), Pre_GdgKIdeal_finite_gate m →
    θ_run (Cert.GdgKIdeal.defs (F := Ideal)) (onTc (τ := Cert.GdgKIdeal.τ) (Cert.GdgKIdeal.main (F := Ideal))) ⟨m, fun _ => 0, g⟩ (fun r => (∀ c : Dev Cert.GdgKIdeal.nD,
      r.2.mem ((c.tc : Thread Cert.GdgKIdeal.nD Cert.GdgKIdeal.τ).loc Cert.GdgKIdeal.main_arg0) = m ((c.tc : Thread Cert.GdgKIdeal.nD Cert.GdgKIdeal.τ).loc Cert.GdgKIdeal.main_arg0)
      ∧ r.2.mem ((c.tc : Thread Cert.GdgKIdeal.nD Cert.GdgKIdeal.τ).loc Cert.GdgKIdeal.main_arg1) = m ((c.tc : Thread Cert.GdgKIdeal.nD Cert.GdgKIdeal.τ).loc Cert.GdgKIdeal.main_arg1)
      ∧ r.2.mem ((c.tc : Thread Cert.GdgKIdeal.nD Cert.GdgKIdeal.τ).loc Cert.GdgKIdeal.main_arg2) = m ((c.tc : Thread Cert.GdgKIdeal.nD Cert.GdgKIdeal.τ).loc Cert.GdgKIdeal.main_arg2)
      ∧ r.2.mem ((c.tc : Thread Cert.GdgKIdeal.nD Cert.GdgKIdeal.τ).loc Cert.GdgKIdeal.main_arg3) = m ((c.tc : Thread Cert.GdgKIdeal.nD Cert.GdgKIdeal.τ).loc Cert.GdgKIdeal.main_arg3))
      ∧ r.2.sem = fun _ => 0)

def quiescent_GdgRIdeal [hGdgRIdeal : Cert.GdgRIdeal.Facts] : Prop :=
  ∀ (m : (ℓ : Loc Cert.GdgRIdeal.nD Cert.GdgRIdeal.τ Cert.GdgRIdeal.sig) → Buf (Elt Ideal) ℓ) (g : Dev Cert.GdgRIdeal.nD → PrngReg), Pre_GdgRIdeal m →
    θ_run (Cert.GdgRIdeal.defs (F := Ideal)) (onTc (τ := Cert.GdgRIdeal.τ) (Cert.GdgRIdeal.main (F := Ideal))) ⟨m, fun _ => 0, g⟩ (fun r => (∀ c : Dev Cert.GdgRIdeal.nD,
      r.2.mem ((c.tc : Thread Cert.GdgRIdeal.nD Cert.GdgRIdeal.τ).loc Cert.GdgRIdeal.main_arg0) = m ((c.tc : Thread Cert.GdgRIdeal.nD Cert.GdgRIdeal.τ).loc Cert.GdgRIdeal.main_arg0)
      ∧ r.2.mem ((c.tc : Thread Cert.GdgRIdeal.nD Cert.GdgRIdeal.τ).loc Cert.GdgRIdeal.main_arg1) = m ((c.tc : Thread Cert.GdgRIdeal.nD Cert.GdgRIdeal.τ).loc Cert.GdgRIdeal.main_arg1)
      ∧ r.2.mem ((c.tc : Thread Cert.GdgRIdeal.nD Cert.GdgRIdeal.τ).loc Cert.GdgRIdeal.main_arg2) = m ((c.tc : Thread Cert.GdgRIdeal.nD Cert.GdgRIdeal.τ).loc Cert.GdgRIdeal.main_arg2)
      ∧ r.2.mem ((c.tc : Thread Cert.GdgRIdeal.nD Cert.GdgRIdeal.τ).loc Cert.GdgRIdeal.main_arg3) = m ((c.tc : Thread Cert.GdgRIdeal.nD Cert.GdgRIdeal.τ).loc Cert.GdgRIdeal.main_arg3))
      ∧ r.2.sem = fun _ => 0)

def quiescent_GdgRIdeal_pre_finite_gate [hGdgRIdeal : Cert.GdgRIdeal.Facts] [hPre_finite_gate : Cert.Pre_finite_gate.Facts] : Prop :=
  ∀ (m : (ℓ : Loc Cert.GdgRIdeal.nD Cert.GdgRIdeal.τ Cert.GdgRIdeal.sig) → Buf (Elt Ideal) ℓ) (g : Dev Cert.GdgRIdeal.nD → PrngReg), Pre_GdgRIdeal_finite_gate m →
    θ_run (Cert.GdgRIdeal.defs (F := Ideal)) (onTc (τ := Cert.GdgRIdeal.τ) (Cert.GdgRIdeal.main (F := Ideal))) ⟨m, fun _ => 0, g⟩ (fun r => (∀ c : Dev Cert.GdgRIdeal.nD,
      r.2.mem ((c.tc : Thread Cert.GdgRIdeal.nD Cert.GdgRIdeal.τ).loc Cert.GdgRIdeal.main_arg0) = m ((c.tc : Thread Cert.GdgRIdeal.nD Cert.GdgRIdeal.τ).loc Cert.GdgRIdeal.main_arg0)
      ∧ r.2.mem ((c.tc : Thread Cert.GdgRIdeal.nD Cert.GdgRIdeal.τ).loc Cert.GdgRIdeal.main_arg1) = m ((c.tc : Thread Cert.GdgRIdeal.nD Cert.GdgRIdeal.τ).loc Cert.GdgRIdeal.main_arg1)
      ∧ r.2.mem ((c.tc : Thread Cert.GdgRIdeal.nD Cert.GdgRIdeal.τ).loc Cert.GdgRIdeal.main_arg2) = m ((c.tc : Thread Cert.GdgRIdeal.nD Cert.GdgRIdeal.τ).loc Cert.GdgRIdeal.main_arg2)
      ∧ r.2.mem ((c.tc : Thread Cert.GdgRIdeal.nD Cert.GdgRIdeal.τ).loc Cert.GdgRIdeal.main_arg3) = m ((c.tc : Thread Cert.GdgRIdeal.nD Cert.GdgRIdeal.τ).loc Cert.GdgRIdeal.main_arg3))
      ∧ r.2.sem = fun _ => 0)

def quiescent_GprepK [hGprepK : Cert.GprepK.Facts] : Prop :=
  ∀ (m : (ℓ : Loc Cert.GprepK.nD Cert.GprepK.τ Cert.GprepK.sig) → Buf (Elt Bits) ℓ) (g : Dev Cert.GprepK.nD → PrngReg), Pre_GprepK m →
    θ_run (Cert.GprepK.defs (F := Bits)) (onTc (τ := Cert.GprepK.τ) (Cert.GprepK.main (F := Bits))) ⟨m, fun _ => 0, g⟩ (fun r => (∀ c : Dev Cert.GprepK.nD,
      r.2.mem ((c.tc : Thread Cert.GprepK.nD Cert.GprepK.τ).loc Cert.GprepK.main_arg0) = m ((c.tc : Thread Cert.GprepK.nD Cert.GprepK.τ).loc Cert.GprepK.main_arg0)
      ∧ r.2.mem ((c.tc : Thread Cert.GprepK.nD Cert.GprepK.τ).loc Cert.GprepK.main_arg1) = m ((c.tc : Thread Cert.GprepK.nD Cert.GprepK.τ).loc Cert.GprepK.main_arg1))
      ∧ r.2.sem = fun _ => 0)

def quiescent_GprepKIdeal [hGprepKIdeal : Cert.GprepKIdeal.Facts] : Prop :=
  ∀ (m : (ℓ : Loc Cert.GprepKIdeal.nD Cert.GprepKIdeal.τ Cert.GprepKIdeal.sig) → Buf (Elt Ideal) ℓ) (g : Dev Cert.GprepKIdeal.nD → PrngReg), Pre_GprepKIdeal m →
    θ_run (Cert.GprepKIdeal.defs (F := Ideal)) (onTc (τ := Cert.GprepKIdeal.τ) (Cert.GprepKIdeal.main (F := Ideal))) ⟨m, fun _ => 0, g⟩ (fun r => (∀ c : Dev Cert.GprepKIdeal.nD,
      r.2.mem ((c.tc : Thread Cert.GprepKIdeal.nD Cert.GprepKIdeal.τ).loc Cert.GprepKIdeal.main_arg0) = m ((c.tc : Thread Cert.GprepKIdeal.nD Cert.GprepKIdeal.τ).loc Cert.GprepKIdeal.main_arg0)
      ∧ r.2.mem ((c.tc : Thread Cert.GprepKIdeal.nD Cert.GprepKIdeal.τ).loc Cert.GprepKIdeal.main_arg1) = m ((c.tc : Thread Cert.GprepKIdeal.nD Cert.GprepKIdeal.τ).loc Cert.GprepKIdeal.main_arg1))
      ∧ r.2.sem = fun _ => 0)

def quiescent_GprepRIdeal [hGprepRIdeal : Cert.GprepRIdeal.Facts] : Prop :=
  ∀ (m : (ℓ : Loc Cert.GprepRIdeal.nD Cert.GprepRIdeal.τ Cert.GprepRIdeal.sig) → Buf (Elt Ideal) ℓ) (g : Dev Cert.GprepRIdeal.nD → PrngReg), Pre_GprepRIdeal m →
    θ_run (Cert.GprepRIdeal.defs (F := Ideal)) (onTc (τ := Cert.GprepRIdeal.τ) (Cert.GprepRIdeal.main (F := Ideal))) ⟨m, fun _ => 0, g⟩ (fun r => (∀ c : Dev Cert.GprepRIdeal.nD,
      r.2.mem ((c.tc : Thread Cert.GprepRIdeal.nD Cert.GprepRIdeal.τ).loc Cert.GprepRIdeal.main_arg0) = m ((c.tc : Thread Cert.GprepRIdeal.nD Cert.GprepRIdeal.τ).loc Cert.GprepRIdeal.main_arg0)
      ∧ r.2.mem ((c.tc : Thread Cert.GprepRIdeal.nD Cert.GprepRIdeal.τ).loc Cert.GprepRIdeal.main_arg1) = m ((c.tc : Thread Cert.GprepRIdeal.nD Cert.GprepRIdeal.τ).loc Cert.GprepRIdeal.main_arg1))
      ∧ r.2.sem = fun _ => 0)

def quiescent_FactK [hFactK : Cert.FactK.Facts] : Prop :=
  ∀ (m : (ℓ : Loc Cert.FactK.nD Cert.FactK.τ Cert.FactK.sig) → Buf (Elt Bits) ℓ) (g : Dev Cert.FactK.nD → PrngReg), Pre_FactK m →
    θ_run (Cert.FactK.defs (F := Bits)) (onTc (τ := Cert.FactK.τ) (Cert.FactK.main (F := Bits))) ⟨m, fun _ => 0, g⟩ (fun r => (∀ c : Dev Cert.FactK.nD,
      r.2.mem ((c.tc : Thread Cert.FactK.nD Cert.FactK.τ).loc Cert.FactK.main_arg0) = m ((c.tc : Thread Cert.FactK.nD Cert.FactK.τ).loc Cert.FactK.main_arg0)
      ∧ r.2.mem ((c.tc : Thread Cert.FactK.nD Cert.FactK.τ).loc Cert.FactK.main_arg1) = m ((c.tc : Thread Cert.FactK.nD Cert.FactK.τ).loc Cert.FactK.main_arg1))
      ∧ r.2.sem = fun _ => 0)

def quiescent_FactKIdeal [hFactKIdeal : Cert.FactKIdeal.Facts] : Prop :=
  ∀ (m : (ℓ : Loc Cert.FactKIdeal.nD Cert.FactKIdeal.τ Cert.FactKIdeal.sig) → Buf (Elt Ideal) ℓ) (g : Dev Cert.FactKIdeal.nD → PrngReg), Pre_FactKIdeal m →
    θ_run (Cert.FactKIdeal.defs (F := Ideal)) (onTc (τ := Cert.FactKIdeal.τ) (Cert.FactKIdeal.main (F := Ideal))) ⟨m, fun _ => 0, g⟩ (fun r => (∀ c : Dev Cert.FactKIdeal.nD,
      r.2.mem ((c.tc : Thread Cert.FactKIdeal.nD Cert.FactKIdeal.τ).loc Cert.FactKIdeal.main_arg0) = m ((c.tc : Thread Cert.FactKIdeal.nD Cert.FactKIdeal.τ).loc Cert.FactKIdeal.main_arg0)
      ∧ r.2.mem ((c.tc : Thread Cert.FactKIdeal.nD Cert.FactKIdeal.τ).loc Cert.FactKIdeal.main_arg1) = m ((c.tc : Thread Cert.FactKIdeal.nD Cert.FactKIdeal.τ).loc Cert.FactKIdeal.main_arg1))
      ∧ r.2.sem = fun _ => 0)

def quiescent_FactRIdeal [hFactRIdeal : Cert.FactRIdeal.Facts] : Prop :=
  ∀ (m : (ℓ : Loc Cert.FactRIdeal.nD Cert.FactRIdeal.τ Cert.FactRIdeal.sig) → Buf (Elt Ideal) ℓ) (g : Dev Cert.FactRIdeal.nD → PrngReg), Pre_FactRIdeal m →
    θ_run (Cert.FactRIdeal.defs (F := Ideal)) (onTc (τ := Cert.FactRIdeal.τ) (Cert.FactRIdeal.main (F := Ideal))) ⟨m, fun _ => 0, g⟩ (fun r => (∀ c : Dev Cert.FactRIdeal.nD,
      r.2.mem ((c.tc : Thread Cert.FactRIdeal.nD Cert.FactRIdeal.τ).loc Cert.FactRIdeal.main_arg0) = m ((c.tc : Thread Cert.FactRIdeal.nD Cert.FactRIdeal.τ).loc Cert.FactRIdeal.main_arg0)
      ∧ r.2.mem ((c.tc : Thread Cert.FactRIdeal.nD Cert.FactRIdeal.τ).loc Cert.FactRIdeal.main_arg1) = m ((c.tc : Thread Cert.FactRIdeal.nD Cert.FactRIdeal.τ).loc Cert.FactRIdeal.main_arg1))
      ∧ r.2.sem = fun _ => 0)

def quiescent_GdnK [hGdnK : Cert.GdnK.Facts] : Prop :=
  ∀ (m : (ℓ : Loc Cert.GdnK.nD Cert.GdnK.τ Cert.GdnK.sig) → Buf (Elt Bits) ℓ) (g : Dev Cert.GdnK.nD → PrngReg), Pre_GdnK m →
    θ_run (Cert.GdnK.defs (F := Bits)) (onTc (τ := Cert.GdnK.τ) (Cert.GdnK.main (F := Bits))) ⟨m, fun _ => 0, g⟩ (fun r => (∀ c : Dev Cert.GdnK.nD,
      r.2.mem ((c.tc : Thread Cert.GdnK.nD Cert.GdnK.τ).loc Cert.GdnK.main_arg0) = m ((c.tc : Thread Cert.GdnK.nD Cert.GdnK.τ).loc Cert.GdnK.main_arg0)
      ∧ r.2.mem ((c.tc : Thread Cert.GdnK.nD Cert.GdnK.τ).loc Cert.GdnK.main_arg1) = m ((c.tc : Thread Cert.GdnK.nD Cert.GdnK.τ).loc Cert.GdnK.main_arg1)
      ∧ r.2.mem ((c.tc : Thread Cert.GdnK.nD Cert.GdnK.τ).loc Cert.GdnK.main_arg2) = m ((c.tc : Thread Cert.GdnK.nD Cert.GdnK.τ).loc Cert.GdnK.main_arg2)
      ∧ r.2.mem ((c.tc : Thread Cert.GdnK.nD Cert.GdnK.τ).loc Cert.GdnK.main_arg3) = m ((c.tc : Thread Cert.GdnK.nD Cert.GdnK.τ).loc Cert.GdnK.main_arg3)
      ∧ r.2.mem ((c.tc : Thread Cert.GdnK.nD Cert.GdnK.τ).loc Cert.GdnK.main_arg4) = m ((c.tc : Thread Cert.GdnK.nD Cert.GdnK.τ).loc Cert.GdnK.main_arg4)
      ∧ r.2.mem ((c.tc : Thread Cert.GdnK.nD Cert.GdnK.τ).loc Cert.GdnK.main_arg5) = m ((c.tc : Thread Cert.GdnK.nD Cert.GdnK.τ).loc Cert.GdnK.main_arg5)
      ∧ r.2.mem ((c.tc : Thread Cert.GdnK.nD Cert.GdnK.τ).loc Cert.GdnK.main_arg6) = m ((c.tc : Thread Cert.GdnK.nD Cert.GdnK.τ).loc Cert.GdnK.main_arg6))
      ∧ r.2.sem = fun _ => 0)

def quiescent_GdnKIdeal [hGdnKIdeal : Cert.GdnKIdeal.Facts] : Prop :=
  ∀ (m : (ℓ : Loc Cert.GdnKIdeal.nD Cert.GdnKIdeal.τ Cert.GdnKIdeal.sig) → Buf (Elt Ideal) ℓ) (g : Dev Cert.GdnKIdeal.nD → PrngReg), Pre_GdnKIdeal m →
    θ_run (Cert.GdnKIdeal.defs (F := Ideal)) (onTc (τ := Cert.GdnKIdeal.τ) (Cert.GdnKIdeal.main (F := Ideal))) ⟨m, fun _ => 0, g⟩ (fun r => (∀ c : Dev Cert.GdnKIdeal.nD,
      r.2.mem ((c.tc : Thread Cert.GdnKIdeal.nD Cert.GdnKIdeal.τ).loc Cert.GdnKIdeal.main_arg0) = m ((c.tc : Thread Cert.GdnKIdeal.nD Cert.GdnKIdeal.τ).loc Cert.GdnKIdeal.main_arg0)
      ∧ r.2.mem ((c.tc : Thread Cert.GdnKIdeal.nD Cert.GdnKIdeal.τ).loc Cert.GdnKIdeal.main_arg1) = m ((c.tc : Thread Cert.GdnKIdeal.nD Cert.GdnKIdeal.τ).loc Cert.GdnKIdeal.main_arg1)
      ∧ r.2.mem ((c.tc : Thread Cert.GdnKIdeal.nD Cert.GdnKIdeal.τ).loc Cert.GdnKIdeal.main_arg2) = m ((c.tc : Thread Cert.GdnKIdeal.nD Cert.GdnKIdeal.τ).loc Cert.GdnKIdeal.main_arg2)
      ∧ r.2.mem ((c.tc : Thread Cert.GdnKIdeal.nD Cert.GdnKIdeal.τ).loc Cert.GdnKIdeal.main_arg3) = m ((c.tc : Thread Cert.GdnKIdeal.nD Cert.GdnKIdeal.τ).loc Cert.GdnKIdeal.main_arg3)
      ∧ r.2.mem ((c.tc : Thread Cert.GdnKIdeal.nD Cert.GdnKIdeal.τ).loc Cert.GdnKIdeal.main_arg4) = m ((c.tc : Thread Cert.GdnKIdeal.nD Cert.GdnKIdeal.τ).loc Cert.GdnKIdeal.main_arg4)
      ∧ r.2.mem ((c.tc : Thread Cert.GdnKIdeal.nD Cert.GdnKIdeal.τ).loc Cert.GdnKIdeal.main_arg5) = m ((c.tc : Thread Cert.GdnKIdeal.nD Cert.GdnKIdeal.τ).loc Cert.GdnKIdeal.main_arg5)
      ∧ r.2.mem ((c.tc : Thread Cert.GdnKIdeal.nD Cert.GdnKIdeal.τ).loc Cert.GdnKIdeal.main_arg6) = m ((c.tc : Thread Cert.GdnKIdeal.nD Cert.GdnKIdeal.τ).loc Cert.GdnKIdeal.main_arg6))
      ∧ r.2.sem = fun _ => 0)

def quiescent_DybK [hDybK : Cert.DybK.Facts] : Prop :=
  ∀ (m : (ℓ : Loc Cert.DybK.nD Cert.DybK.τ Cert.DybK.sig) → Buf (Elt Bits) ℓ) (g : Dev Cert.DybK.nD → PrngReg), Pre_DybK m →
    θ_run (Cert.DybK.defs (F := Bits)) (onTc (τ := Cert.DybK.τ) (Cert.DybK.main (F := Bits))) ⟨m, fun _ => 0, g⟩ (fun r => (∀ c : Dev Cert.DybK.nD,
      r.2.mem ((c.tc : Thread Cert.DybK.nD Cert.DybK.τ).loc Cert.DybK.main_arg0) = m ((c.tc : Thread Cert.DybK.nD Cert.DybK.τ).loc Cert.DybK.main_arg0)
      ∧ r.2.mem ((c.tc : Thread Cert.DybK.nD Cert.DybK.τ).loc Cert.DybK.main_arg1) = m ((c.tc : Thread Cert.DybK.nD Cert.DybK.τ).loc Cert.DybK.main_arg1)
      ∧ r.2.mem ((c.tc : Thread Cert.DybK.nD Cert.DybK.τ).loc Cert.DybK.main_arg2) = m ((c.tc : Thread Cert.DybK.nD Cert.DybK.τ).loc Cert.DybK.main_arg2)
      ∧ r.2.mem ((c.tc : Thread Cert.DybK.nD Cert.DybK.τ).loc Cert.DybK.main_arg3) = m ((c.tc : Thread Cert.DybK.nD Cert.DybK.τ).loc Cert.DybK.main_arg3)
      ∧ r.2.mem ((c.tc : Thread Cert.DybK.nD Cert.DybK.τ).loc Cert.DybK.main_arg4) = m ((c.tc : Thread Cert.DybK.nD Cert.DybK.τ).loc Cert.DybK.main_arg4))
      ∧ r.2.sem = fun _ => 0)

def quiescent_DybKIdeal [hDybKIdeal : Cert.DybKIdeal.Facts] : Prop :=
  ∀ (m : (ℓ : Loc Cert.DybKIdeal.nD Cert.DybKIdeal.τ Cert.DybKIdeal.sig) → Buf (Elt Ideal) ℓ) (g : Dev Cert.DybKIdeal.nD → PrngReg), Pre_DybKIdeal m →
    θ_run (Cert.DybKIdeal.defs (F := Ideal)) (onTc (τ := Cert.DybKIdeal.τ) (Cert.DybKIdeal.main (F := Ideal))) ⟨m, fun _ => 0, g⟩ (fun r => (∀ c : Dev Cert.DybKIdeal.nD,
      r.2.mem ((c.tc : Thread Cert.DybKIdeal.nD Cert.DybKIdeal.τ).loc Cert.DybKIdeal.main_arg0) = m ((c.tc : Thread Cert.DybKIdeal.nD Cert.DybKIdeal.τ).loc Cert.DybKIdeal.main_arg0)
      ∧ r.2.mem ((c.tc : Thread Cert.DybKIdeal.nD Cert.DybKIdeal.τ).loc Cert.DybKIdeal.main_arg1) = m ((c.tc : Thread Cert.DybKIdeal.nD Cert.DybKIdeal.τ).loc Cert.DybKIdeal.main_arg1)
      ∧ r.2.mem ((c.tc : Thread Cert.DybKIdeal.nD Cert.DybKIdeal.τ).loc Cert.DybKIdeal.main_arg2) = m ((c.tc : Thread Cert.DybKIdeal.nD Cert.DybKIdeal.τ).loc Cert.DybKIdeal.main_arg2)
      ∧ r.2.mem ((c.tc : Thread Cert.DybKIdeal.nD Cert.DybKIdeal.τ).loc Cert.DybKIdeal.main_arg3) = m ((c.tc : Thread Cert.DybKIdeal.nD Cert.DybKIdeal.τ).loc Cert.DybKIdeal.main_arg3)
      ∧ r.2.mem ((c.tc : Thread Cert.DybKIdeal.nD Cert.DybKIdeal.τ).loc Cert.DybKIdeal.main_arg4) = m ((c.tc : Thread Cert.DybKIdeal.nD Cert.DybKIdeal.τ).loc Cert.DybKIdeal.main_arg4))
      ∧ r.2.sem = fun _ => 0)

def quiescent_DybKIdeal_pre_finite_dybin [hDybKIdeal : Cert.DybKIdeal.Facts] [hPre_finite_dybin : Cert.Pre_finite_dybin.Facts] : Prop :=
  ∀ (m : (ℓ : Loc Cert.DybKIdeal.nD Cert.DybKIdeal.τ Cert.DybKIdeal.sig) → Buf (Elt Ideal) ℓ) (g : Dev Cert.DybKIdeal.nD → PrngReg), Pre_DybKIdeal_finite_dybin m →
    θ_run (Cert.DybKIdeal.defs (F := Ideal)) (onTc (τ := Cert.DybKIdeal.τ) (Cert.DybKIdeal.main (F := Ideal))) ⟨m, fun _ => 0, g⟩ (fun r => (∀ c : Dev Cert.DybKIdeal.nD,
      r.2.mem ((c.tc : Thread Cert.DybKIdeal.nD Cert.DybKIdeal.τ).loc Cert.DybKIdeal.main_arg0) = m ((c.tc : Thread Cert.DybKIdeal.nD Cert.DybKIdeal.τ).loc Cert.DybKIdeal.main_arg0)
      ∧ r.2.mem ((c.tc : Thread Cert.DybKIdeal.nD Cert.DybKIdeal.τ).loc Cert.DybKIdeal.main_arg1) = m ((c.tc : Thread Cert.DybKIdeal.nD Cert.DybKIdeal.τ).loc Cert.DybKIdeal.main_arg1)
      ∧ r.2.mem ((c.tc : Thread Cert.DybKIdeal.nD Cert.DybKIdeal.τ).loc Cert.DybKIdeal.main_arg2) = m ((c.tc : Thread Cert.DybKIdeal.nD Cert.DybKIdeal.τ).loc Cert.DybKIdeal.main_arg2)
      ∧ r.2.mem ((c.tc : Thread Cert.DybKIdeal.nD Cert.DybKIdeal.τ).loc Cert.DybKIdeal.main_arg3) = m ((c.tc : Thread Cert.DybKIdeal.nD Cert.DybKIdeal.τ).loc Cert.DybKIdeal.main_arg3)
      ∧ r.2.mem ((c.tc : Thread Cert.DybKIdeal.nD Cert.DybKIdeal.τ).loc Cert.DybKIdeal.main_arg4) = m ((c.tc : Thread Cert.DybKIdeal.nD Cert.DybKIdeal.τ).loc Cert.DybKIdeal.main_arg4))
      ∧ r.2.sem = fun _ => 0)

def quiescent_DybRIdeal [hDybRIdeal : Cert.DybRIdeal.Facts] : Prop :=
  ∀ (m : (ℓ : Loc Cert.DybRIdeal.nD Cert.DybRIdeal.τ Cert.DybRIdeal.sig) → Buf (Elt Ideal) ℓ) (g : Dev Cert.DybRIdeal.nD → PrngReg), Pre_DybRIdeal m →
    θ_run (Cert.DybRIdeal.defs (F := Ideal)) (onTc (τ := Cert.DybRIdeal.τ) (Cert.DybRIdeal.main (F := Ideal))) ⟨m, fun _ => 0, g⟩ (fun r => (∀ c : Dev Cert.DybRIdeal.nD,
      r.2.mem ((c.tc : Thread Cert.DybRIdeal.nD Cert.DybRIdeal.τ).loc Cert.DybRIdeal.main_arg0) = m ((c.tc : Thread Cert.DybRIdeal.nD Cert.DybRIdeal.τ).loc Cert.DybRIdeal.main_arg0)
      ∧ r.2.mem ((c.tc : Thread Cert.DybRIdeal.nD Cert.DybRIdeal.τ).loc Cert.DybRIdeal.main_arg1) = m ((c.tc : Thread Cert.DybRIdeal.nD Cert.DybRIdeal.τ).loc Cert.DybRIdeal.main_arg1)
      ∧ r.2.mem ((c.tc : Thread Cert.DybRIdeal.nD Cert.DybRIdeal.τ).loc Cert.DybRIdeal.main_arg2) = m ((c.tc : Thread Cert.DybRIdeal.nD Cert.DybRIdeal.τ).loc Cert.DybRIdeal.main_arg2)
      ∧ r.2.mem ((c.tc : Thread Cert.DybRIdeal.nD Cert.DybRIdeal.τ).loc Cert.DybRIdeal.main_arg3) = m ((c.tc : Thread Cert.DybRIdeal.nD Cert.DybRIdeal.τ).loc Cert.DybRIdeal.main_arg3)
      ∧ r.2.mem ((c.tc : Thread Cert.DybRIdeal.nD Cert.DybRIdeal.τ).loc Cert.DybRIdeal.main_arg4) = m ((c.tc : Thread Cert.DybRIdeal.nD Cert.DybRIdeal.τ).loc Cert.DybRIdeal.main_arg4))
      ∧ r.2.sem = fun _ => 0)

def quiescent_DybRIdeal_pre_finite_dybin [hDybRIdeal : Cert.DybRIdeal.Facts] [hPre_finite_dybin : Cert.Pre_finite_dybin.Facts] : Prop :=
  ∀ (m : (ℓ : Loc Cert.DybRIdeal.nD Cert.DybRIdeal.τ Cert.DybRIdeal.sig) → Buf (Elt Ideal) ℓ) (g : Dev Cert.DybRIdeal.nD → PrngReg), Pre_DybRIdeal_finite_dybin m →
    θ_run (Cert.DybRIdeal.defs (F := Ideal)) (onTc (τ := Cert.DybRIdeal.τ) (Cert.DybRIdeal.main (F := Ideal))) ⟨m, fun _ => 0, g⟩ (fun r => (∀ c : Dev Cert.DybRIdeal.nD,
      r.2.mem ((c.tc : Thread Cert.DybRIdeal.nD Cert.DybRIdeal.τ).loc Cert.DybRIdeal.main_arg0) = m ((c.tc : Thread Cert.DybRIdeal.nD Cert.DybRIdeal.τ).loc Cert.DybRIdeal.main_arg0)
      ∧ r.2.mem ((c.tc : Thread Cert.DybRIdeal.nD Cert.DybRIdeal.τ).loc Cert.DybRIdeal.main_arg1) = m ((c.tc : Thread Cert.DybRIdeal.nD Cert.DybRIdeal.τ).loc Cert.DybRIdeal.main_arg1)
      ∧ r.2.mem ((c.tc : Thread Cert.DybRIdeal.nD Cert.DybRIdeal.τ).loc Cert.DybRIdeal.main_arg2) = m ((c.tc : Thread Cert.DybRIdeal.nD Cert.DybRIdeal.τ).loc Cert.DybRIdeal.main_arg2)
      ∧ r.2.mem ((c.tc : Thread Cert.DybRIdeal.nD Cert.DybRIdeal.τ).loc Cert.DybRIdeal.main_arg3) = m ((c.tc : Thread Cert.DybRIdeal.nD Cert.DybRIdeal.τ).loc Cert.DybRIdeal.main_arg3)
      ∧ r.2.mem ((c.tc : Thread Cert.DybRIdeal.nD Cert.DybRIdeal.τ).loc Cert.DybRIdeal.main_arg4) = m ((c.tc : Thread Cert.DybRIdeal.nD Cert.DybRIdeal.τ).loc Cert.DybRIdeal.main_arg4))
      ∧ r.2.sem = fun _ => 0)

def quiescent_DyaK [hDyaK : Cert.DyaK.Facts] : Prop :=
  ∀ (m : (ℓ : Loc Cert.DyaK.nD Cert.DyaK.τ Cert.DyaK.sig) → Buf (Elt Bits) ℓ) (g : Dev Cert.DyaK.nD → PrngReg), Pre_DyaK m →
    θ_run (Cert.DyaK.defs (F := Bits)) (onTc (τ := Cert.DyaK.τ) (Cert.DyaK.main (F := Bits))) ⟨m, fun _ => 0, g⟩ (fun r => (∀ c : Dev Cert.DyaK.nD,
      r.2.mem ((c.tc : Thread Cert.DyaK.nD Cert.DyaK.τ).loc Cert.DyaK.main_arg0) = m ((c.tc : Thread Cert.DyaK.nD Cert.DyaK.τ).loc Cert.DyaK.main_arg0)
      ∧ r.2.mem ((c.tc : Thread Cert.DyaK.nD Cert.DyaK.τ).loc Cert.DyaK.main_arg1) = m ((c.tc : Thread Cert.DyaK.nD Cert.DyaK.τ).loc Cert.DyaK.main_arg1)
      ∧ r.2.mem ((c.tc : Thread Cert.DyaK.nD Cert.DyaK.τ).loc Cert.DyaK.main_arg2) = m ((c.tc : Thread Cert.DyaK.nD Cert.DyaK.τ).loc Cert.DyaK.main_arg2)
      ∧ r.2.mem ((c.tc : Thread Cert.DyaK.nD Cert.DyaK.τ).loc Cert.DyaK.main_arg3) = m ((c.tc : Thread Cert.DyaK.nD Cert.DyaK.τ).loc Cert.DyaK.main_arg3)
      ∧ r.2.mem ((c.tc : Thread Cert.DyaK.nD Cert.DyaK.τ).loc Cert.DyaK.main_arg4) = m ((c.tc : Thread Cert.DyaK.nD Cert.DyaK.τ).loc Cert.DyaK.main_arg4)
      ∧ r.2.mem ((c.tc : Thread Cert.DyaK.nD Cert.DyaK.τ).loc Cert.DyaK.main_arg5) = m ((c.tc : Thread Cert.DyaK.nD Cert.DyaK.τ).loc Cert.DyaK.main_arg5)
      ∧ r.2.mem ((c.tc : Thread Cert.DyaK.nD Cert.DyaK.τ).loc Cert.DyaK.main_arg6) = m ((c.tc : Thread Cert.DyaK.nD Cert.DyaK.τ).loc Cert.DyaK.main_arg6)
      ∧ r.2.mem ((c.tc : Thread Cert.DyaK.nD Cert.DyaK.τ).loc Cert.DyaK.main_arg7) = m ((c.tc : Thread Cert.DyaK.nD Cert.DyaK.τ).loc Cert.DyaK.main_arg7)
      ∧ r.2.mem ((c.tc : Thread Cert.DyaK.nD Cert.DyaK.τ).loc Cert.DyaK.main_arg8) = m ((c.tc : Thread Cert.DyaK.nD Cert.DyaK.τ).loc Cert.DyaK.main_arg8)
      ∧ r.2.mem ((c.tc : Thread Cert.DyaK.nD Cert.DyaK.τ).loc Cert.DyaK.main_arg9) = m ((c.tc : Thread Cert.DyaK.nD Cert.DyaK.τ).loc Cert.DyaK.main_arg9))
      ∧ r.2.sem = fun _ => 0)

def quiescent_DyaKIdeal [hDyaKIdeal : Cert.DyaKIdeal.Facts] : Prop :=
  ∀ (m : (ℓ : Loc Cert.DyaKIdeal.nD Cert.DyaKIdeal.τ Cert.DyaKIdeal.sig) → Buf (Elt Ideal) ℓ) (g : Dev Cert.DyaKIdeal.nD → PrngReg), Pre_DyaKIdeal m →
    θ_run (Cert.DyaKIdeal.defs (F := Ideal)) (onTc (τ := Cert.DyaKIdeal.τ) (Cert.DyaKIdeal.main (F := Ideal))) ⟨m, fun _ => 0, g⟩ (fun r => (∀ c : Dev Cert.DyaKIdeal.nD,
      r.2.mem ((c.tc : Thread Cert.DyaKIdeal.nD Cert.DyaKIdeal.τ).loc Cert.DyaKIdeal.main_arg0) = m ((c.tc : Thread Cert.DyaKIdeal.nD Cert.DyaKIdeal.τ).loc Cert.DyaKIdeal.main_arg0)
      ∧ r.2.mem ((c.tc : Thread Cert.DyaKIdeal.nD Cert.DyaKIdeal.τ).loc Cert.DyaKIdeal.main_arg1) = m ((c.tc : Thread Cert.DyaKIdeal.nD Cert.DyaKIdeal.τ).loc Cert.DyaKIdeal.main_arg1)
      ∧ r.2.mem ((c.tc : Thread Cert.DyaKIdeal.nD Cert.DyaKIdeal.τ).loc Cert.DyaKIdeal.main_arg2) = m ((c.tc : Thread Cert.DyaKIdeal.nD Cert.DyaKIdeal.τ).loc Cert.DyaKIdeal.main_arg2)
      ∧ r.2.mem ((c.tc : Thread Cert.DyaKIdeal.nD Cert.DyaKIdeal.τ).loc Cert.DyaKIdeal.main_arg3) = m ((c.tc : Thread Cert.DyaKIdeal.nD Cert.DyaKIdeal.τ).loc Cert.DyaKIdeal.main_arg3)
      ∧ r.2.mem ((c.tc : Thread Cert.DyaKIdeal.nD Cert.DyaKIdeal.τ).loc Cert.DyaKIdeal.main_arg4) = m ((c.tc : Thread Cert.DyaKIdeal.nD Cert.DyaKIdeal.τ).loc Cert.DyaKIdeal.main_arg4)
      ∧ r.2.mem ((c.tc : Thread Cert.DyaKIdeal.nD Cert.DyaKIdeal.τ).loc Cert.DyaKIdeal.main_arg5) = m ((c.tc : Thread Cert.DyaKIdeal.nD Cert.DyaKIdeal.τ).loc Cert.DyaKIdeal.main_arg5)
      ∧ r.2.mem ((c.tc : Thread Cert.DyaKIdeal.nD Cert.DyaKIdeal.τ).loc Cert.DyaKIdeal.main_arg6) = m ((c.tc : Thread Cert.DyaKIdeal.nD Cert.DyaKIdeal.τ).loc Cert.DyaKIdeal.main_arg6)
      ∧ r.2.mem ((c.tc : Thread Cert.DyaKIdeal.nD Cert.DyaKIdeal.τ).loc Cert.DyaKIdeal.main_arg7) = m ((c.tc : Thread Cert.DyaKIdeal.nD Cert.DyaKIdeal.τ).loc Cert.DyaKIdeal.main_arg7)
      ∧ r.2.mem ((c.tc : Thread Cert.DyaKIdeal.nD Cert.DyaKIdeal.τ).loc Cert.DyaKIdeal.main_arg8) = m ((c.tc : Thread Cert.DyaKIdeal.nD Cert.DyaKIdeal.τ).loc Cert.DyaKIdeal.main_arg8)
      ∧ r.2.mem ((c.tc : Thread Cert.DyaKIdeal.nD Cert.DyaKIdeal.τ).loc Cert.DyaKIdeal.main_arg9) = m ((c.tc : Thread Cert.DyaKIdeal.nD Cert.DyaKIdeal.τ).loc Cert.DyaKIdeal.main_arg9))
      ∧ r.2.sem = fun _ => 0)

def quiescent_DyaKIdeal_pre_finite_dyain [hDyaKIdeal : Cert.DyaKIdeal.Facts] [hPre_finite_dyain : Cert.Pre_finite_dyain.Facts] : Prop :=
  ∀ (m : (ℓ : Loc Cert.DyaKIdeal.nD Cert.DyaKIdeal.τ Cert.DyaKIdeal.sig) → Buf (Elt Ideal) ℓ) (g : Dev Cert.DyaKIdeal.nD → PrngReg), Pre_DyaKIdeal_finite_dyain m →
    θ_run (Cert.DyaKIdeal.defs (F := Ideal)) (onTc (τ := Cert.DyaKIdeal.τ) (Cert.DyaKIdeal.main (F := Ideal))) ⟨m, fun _ => 0, g⟩ (fun r => (∀ c : Dev Cert.DyaKIdeal.nD,
      r.2.mem ((c.tc : Thread Cert.DyaKIdeal.nD Cert.DyaKIdeal.τ).loc Cert.DyaKIdeal.main_arg0) = m ((c.tc : Thread Cert.DyaKIdeal.nD Cert.DyaKIdeal.τ).loc Cert.DyaKIdeal.main_arg0)
      ∧ r.2.mem ((c.tc : Thread Cert.DyaKIdeal.nD Cert.DyaKIdeal.τ).loc Cert.DyaKIdeal.main_arg1) = m ((c.tc : Thread Cert.DyaKIdeal.nD Cert.DyaKIdeal.τ).loc Cert.DyaKIdeal.main_arg1)
      ∧ r.2.mem ((c.tc : Thread Cert.DyaKIdeal.nD Cert.DyaKIdeal.τ).loc Cert.DyaKIdeal.main_arg2) = m ((c.tc : Thread Cert.DyaKIdeal.nD Cert.DyaKIdeal.τ).loc Cert.DyaKIdeal.main_arg2)
      ∧ r.2.mem ((c.tc : Thread Cert.DyaKIdeal.nD Cert.DyaKIdeal.τ).loc Cert.DyaKIdeal.main_arg3) = m ((c.tc : Thread Cert.DyaKIdeal.nD Cert.DyaKIdeal.τ).loc Cert.DyaKIdeal.main_arg3)
      ∧ r.2.mem ((c.tc : Thread Cert.DyaKIdeal.nD Cert.DyaKIdeal.τ).loc Cert.DyaKIdeal.main_arg4) = m ((c.tc : Thread Cert.DyaKIdeal.nD Cert.DyaKIdeal.τ).loc Cert.DyaKIdeal.main_arg4)
      ∧ r.2.mem ((c.tc : Thread Cert.DyaKIdeal.nD Cert.DyaKIdeal.τ).loc Cert.DyaKIdeal.main_arg5) = m ((c.tc : Thread Cert.DyaKIdeal.nD Cert.DyaKIdeal.τ).loc Cert.DyaKIdeal.main_arg5)
      ∧ r.2.mem ((c.tc : Thread Cert.DyaKIdeal.nD Cert.DyaKIdeal.τ).loc Cert.DyaKIdeal.main_arg6) = m ((c.tc : Thread Cert.DyaKIdeal.nD Cert.DyaKIdeal.τ).loc Cert.DyaKIdeal.main_arg6)
      ∧ r.2.mem ((c.tc : Thread Cert.DyaKIdeal.nD Cert.DyaKIdeal.τ).loc Cert.DyaKIdeal.main_arg7) = m ((c.tc : Thread Cert.DyaKIdeal.nD Cert.DyaKIdeal.τ).loc Cert.DyaKIdeal.main_arg7)
      ∧ r.2.mem ((c.tc : Thread Cert.DyaKIdeal.nD Cert.DyaKIdeal.τ).loc Cert.DyaKIdeal.main_arg8) = m ((c.tc : Thread Cert.DyaKIdeal.nD Cert.DyaKIdeal.τ).loc Cert.DyaKIdeal.main_arg8)
      ∧ r.2.mem ((c.tc : Thread Cert.DyaKIdeal.nD Cert.DyaKIdeal.τ).loc Cert.DyaKIdeal.main_arg9) = m ((c.tc : Thread Cert.DyaKIdeal.nD Cert.DyaKIdeal.τ).loc Cert.DyaKIdeal.main_arg9))
      ∧ r.2.sem = fun _ => 0)

def quiescent_DyaRIdeal [hDyaRIdeal : Cert.DyaRIdeal.Facts] : Prop :=
  ∀ (m : (ℓ : Loc Cert.DyaRIdeal.nD Cert.DyaRIdeal.τ Cert.DyaRIdeal.sig) → Buf (Elt Ideal) ℓ) (g : Dev Cert.DyaRIdeal.nD → PrngReg), Pre_DyaRIdeal m →
    θ_run (Cert.DyaRIdeal.defs (F := Ideal)) (onTc (τ := Cert.DyaRIdeal.τ) (Cert.DyaRIdeal.main (F := Ideal))) ⟨m, fun _ => 0, g⟩ (fun r => (∀ c : Dev Cert.DyaRIdeal.nD,
      r.2.mem ((c.tc : Thread Cert.DyaRIdeal.nD Cert.DyaRIdeal.τ).loc Cert.DyaRIdeal.main_arg0) = m ((c.tc : Thread Cert.DyaRIdeal.nD Cert.DyaRIdeal.τ).loc Cert.DyaRIdeal.main_arg0)
      ∧ r.2.mem ((c.tc : Thread Cert.DyaRIdeal.nD Cert.DyaRIdeal.τ).loc Cert.DyaRIdeal.main_arg1) = m ((c.tc : Thread Cert.DyaRIdeal.nD Cert.DyaRIdeal.τ).loc Cert.DyaRIdeal.main_arg1)
      ∧ r.2.mem ((c.tc : Thread Cert.DyaRIdeal.nD Cert.DyaRIdeal.τ).loc Cert.DyaRIdeal.main_arg2) = m ((c.tc : Thread Cert.DyaRIdeal.nD Cert.DyaRIdeal.τ).loc Cert.DyaRIdeal.main_arg2)
      ∧ r.2.mem ((c.tc : Thread Cert.DyaRIdeal.nD Cert.DyaRIdeal.τ).loc Cert.DyaRIdeal.main_arg3) = m ((c.tc : Thread Cert.DyaRIdeal.nD Cert.DyaRIdeal.τ).loc Cert.DyaRIdeal.main_arg3)
      ∧ r.2.mem ((c.tc : Thread Cert.DyaRIdeal.nD Cert.DyaRIdeal.τ).loc Cert.DyaRIdeal.main_arg4) = m ((c.tc : Thread Cert.DyaRIdeal.nD Cert.DyaRIdeal.τ).loc Cert.DyaRIdeal.main_arg4)
      ∧ r.2.mem ((c.tc : Thread Cert.DyaRIdeal.nD Cert.DyaRIdeal.τ).loc Cert.DyaRIdeal.main_arg5) = m ((c.tc : Thread Cert.DyaRIdeal.nD Cert.DyaRIdeal.τ).loc Cert.DyaRIdeal.main_arg5)
      ∧ r.2.mem ((c.tc : Thread Cert.DyaRIdeal.nD Cert.DyaRIdeal.τ).loc Cert.DyaRIdeal.main_arg6) = m ((c.tc : Thread Cert.DyaRIdeal.nD Cert.DyaRIdeal.τ).loc Cert.DyaRIdeal.main_arg6)
      ∧ r.2.mem ((c.tc : Thread Cert.DyaRIdeal.nD Cert.DyaRIdeal.τ).loc Cert.DyaRIdeal.main_arg7) = m ((c.tc : Thread Cert.DyaRIdeal.nD Cert.DyaRIdeal.τ).loc Cert.DyaRIdeal.main_arg7)
      ∧ r.2.mem ((c.tc : Thread Cert.DyaRIdeal.nD Cert.DyaRIdeal.τ).loc Cert.DyaRIdeal.main_arg8) = m ((c.tc : Thread Cert.DyaRIdeal.nD Cert.DyaRIdeal.τ).loc Cert.DyaRIdeal.main_arg8)
      ∧ r.2.mem ((c.tc : Thread Cert.DyaRIdeal.nD Cert.DyaRIdeal.τ).loc Cert.DyaRIdeal.main_arg9) = m ((c.tc : Thread Cert.DyaRIdeal.nD Cert.DyaRIdeal.τ).loc Cert.DyaRIdeal.main_arg9))
      ∧ r.2.sem = fun _ => 0)

def quiescent_DyaRIdeal_pre_finite_dyain [hDyaRIdeal : Cert.DyaRIdeal.Facts] [hPre_finite_dyain : Cert.Pre_finite_dyain.Facts] : Prop :=
  ∀ (m : (ℓ : Loc Cert.DyaRIdeal.nD Cert.DyaRIdeal.τ Cert.DyaRIdeal.sig) → Buf (Elt Ideal) ℓ) (g : Dev Cert.DyaRIdeal.nD → PrngReg), Pre_DyaRIdeal_finite_dyain m →
    θ_run (Cert.DyaRIdeal.defs (F := Ideal)) (onTc (τ := Cert.DyaRIdeal.τ) (Cert.DyaRIdeal.main (F := Ideal))) ⟨m, fun _ => 0, g⟩ (fun r => (∀ c : Dev Cert.DyaRIdeal.nD,
      r.2.mem ((c.tc : Thread Cert.DyaRIdeal.nD Cert.DyaRIdeal.τ).loc Cert.DyaRIdeal.main_arg0) = m ((c.tc : Thread Cert.DyaRIdeal.nD Cert.DyaRIdeal.τ).loc Cert.DyaRIdeal.main_arg0)
      ∧ r.2.mem ((c.tc : Thread Cert.DyaRIdeal.nD Cert.DyaRIdeal.τ).loc Cert.DyaRIdeal.main_arg1) = m ((c.tc : Thread Cert.DyaRIdeal.nD Cert.DyaRIdeal.τ).loc Cert.DyaRIdeal.main_arg1)
      ∧ r.2.mem ((c.tc : Thread Cert.DyaRIdeal.nD Cert.DyaRIdeal.τ).loc Cert.DyaRIdeal.main_arg2) = m ((c.tc : Thread Cert.DyaRIdeal.nD Cert.DyaRIdeal.τ).loc Cert.DyaRIdeal.main_arg2)
      ∧ r.2.mem ((c.tc : Thread Cert.DyaRIdeal.nD Cert.DyaRIdeal.τ).loc Cert.DyaRIdeal.main_arg3) = m ((c.tc : Thread Cert.DyaRIdeal.nD Cert.DyaRIdeal.τ).loc Cert.DyaRIdeal.main_arg3)
      ∧ r.2.mem ((c.tc : Thread Cert.DyaRIdeal.nD Cert.DyaRIdeal.τ).loc Cert.DyaRIdeal.main_arg4) = m ((c.tc : Thread Cert.DyaRIdeal.nD Cert.DyaRIdeal.τ).loc Cert.DyaRIdeal.main_arg4)
      ∧ r.2.mem ((c.tc : Thread Cert.DyaRIdeal.nD Cert.DyaRIdeal.τ).loc Cert.DyaRIdeal.main_arg5) = m ((c.tc : Thread Cert.DyaRIdeal.nD Cert.DyaRIdeal.τ).loc Cert.DyaRIdeal.main_arg5)
      ∧ r.2.mem ((c.tc : Thread Cert.DyaRIdeal.nD Cert.DyaRIdeal.τ).loc Cert.DyaRIdeal.main_arg6) = m ((c.tc : Thread Cert.DyaRIdeal.nD Cert.DyaRIdeal.τ).loc Cert.DyaRIdeal.main_arg6)
      ∧ r.2.mem ((c.tc : Thread Cert.DyaRIdeal.nD Cert.DyaRIdeal.τ).loc Cert.DyaRIdeal.main_arg7) = m ((c.tc : Thread Cert.DyaRIdeal.nD Cert.DyaRIdeal.τ).loc Cert.DyaRIdeal.main_arg7)
      ∧ r.2.mem ((c.tc : Thread Cert.DyaRIdeal.nD Cert.DyaRIdeal.τ).loc Cert.DyaRIdeal.main_arg8) = m ((c.tc : Thread Cert.DyaRIdeal.nD Cert.DyaRIdeal.τ).loc Cert.DyaRIdeal.main_arg8)
      ∧ r.2.mem ((c.tc : Thread Cert.DyaRIdeal.nD Cert.DyaRIdeal.τ).loc Cert.DyaRIdeal.main_arg9) = m ((c.tc : Thread Cert.DyaRIdeal.nD Cert.DyaRIdeal.τ).loc Cert.DyaRIdeal.main_arg9))
      ∧ r.2.sem = fun _ => 0)

def quiescent_RprojK [hRprojK : Cert.RprojK.Facts] : Prop :=
  ∀ (m : (ℓ : Loc Cert.RprojK.nD Cert.RprojK.τ Cert.RprojK.sig) → Buf (Elt Bits) ℓ) (g : Dev Cert.RprojK.nD → PrngReg), Pre_RprojK m →
    θ_run (Cert.RprojK.defs (F := Bits)) (onTc (τ := Cert.RprojK.τ) (Cert.RprojK.main (F := Bits))) ⟨m, fun _ => 0, g⟩ (fun r => (∀ c : Dev Cert.RprojK.nD,
      r.2.mem ((c.tc : Thread Cert.RprojK.nD Cert.RprojK.τ).loc Cert.RprojK.main_arg0) = m ((c.tc : Thread Cert.RprojK.nD Cert.RprojK.τ).loc Cert.RprojK.main_arg0)
      ∧ r.2.mem ((c.tc : Thread Cert.RprojK.nD Cert.RprojK.τ).loc Cert.RprojK.main_arg1) = m ((c.tc : Thread Cert.RprojK.nD Cert.RprojK.τ).loc Cert.RprojK.main_arg1)
      ∧ r.2.mem ((c.tc : Thread Cert.RprojK.nD Cert.RprojK.τ).loc Cert.RprojK.main_arg2) = m ((c.tc : Thread Cert.RprojK.nD Cert.RprojK.τ).loc Cert.RprojK.main_arg2)
      ∧ r.2.mem ((c.tc : Thread Cert.RprojK.nD Cert.RprojK.τ).loc Cert.RprojK.main_arg3) = m ((c.tc : Thread Cert.RprojK.nD Cert.RprojK.τ).loc Cert.RprojK.main_arg3)
      ∧ r.2.mem ((c.tc : Thread Cert.RprojK.nD Cert.RprojK.τ).loc Cert.RprojK.main_arg4) = m ((c.tc : Thread Cert.RprojK.nD Cert.RprojK.τ).loc Cert.RprojK.main_arg4)
      ∧ r.2.mem ((c.tc : Thread Cert.RprojK.nD Cert.RprojK.τ).loc Cert.RprojK.main_arg5) = m ((c.tc : Thread Cert.RprojK.nD Cert.RprojK.τ).loc Cert.RprojK.main_arg5)
      ∧ r.2.mem ((c.tc : Thread Cert.RprojK.nD Cert.RprojK.τ).loc Cert.RprojK.main_arg6) = m ((c.tc : Thread Cert.RprojK.nD Cert.RprojK.τ).loc Cert.RprojK.main_arg6)
      ∧ r.2.mem ((c.tc : Thread Cert.RprojK.nD Cert.RprojK.τ).loc Cert.RprojK.main_arg7) = m ((c.tc : Thread Cert.RprojK.nD Cert.RprojK.τ).loc Cert.RprojK.main_arg7)
      ∧ r.2.mem ((c.tc : Thread Cert.RprojK.nD Cert.RprojK.τ).loc Cert.RprojK.main_arg8) = m ((c.tc : Thread Cert.RprojK.nD Cert.RprojK.τ).loc Cert.RprojK.main_arg8))
      ∧ r.2.sem = fun _ => 0)

def quiescent_RprojKIdeal [hRprojKIdeal : Cert.RprojKIdeal.Facts] : Prop :=
  ∀ (m : (ℓ : Loc Cert.RprojKIdeal.nD Cert.RprojKIdeal.τ Cert.RprojKIdeal.sig) → Buf (Elt Ideal) ℓ) (g : Dev Cert.RprojKIdeal.nD → PrngReg), Pre_RprojKIdeal m →
    θ_run (Cert.RprojKIdeal.defs (F := Ideal)) (onTc (τ := Cert.RprojKIdeal.τ) (Cert.RprojKIdeal.main (F := Ideal))) ⟨m, fun _ => 0, g⟩ (fun r => (∀ c : Dev Cert.RprojKIdeal.nD,
      r.2.mem ((c.tc : Thread Cert.RprojKIdeal.nD Cert.RprojKIdeal.τ).loc Cert.RprojKIdeal.main_arg0) = m ((c.tc : Thread Cert.RprojKIdeal.nD Cert.RprojKIdeal.τ).loc Cert.RprojKIdeal.main_arg0)
      ∧ r.2.mem ((c.tc : Thread Cert.RprojKIdeal.nD Cert.RprojKIdeal.τ).loc Cert.RprojKIdeal.main_arg1) = m ((c.tc : Thread Cert.RprojKIdeal.nD Cert.RprojKIdeal.τ).loc Cert.RprojKIdeal.main_arg1)
      ∧ r.2.mem ((c.tc : Thread Cert.RprojKIdeal.nD Cert.RprojKIdeal.τ).loc Cert.RprojKIdeal.main_arg2) = m ((c.tc : Thread Cert.RprojKIdeal.nD Cert.RprojKIdeal.τ).loc Cert.RprojKIdeal.main_arg2)
      ∧ r.2.mem ((c.tc : Thread Cert.RprojKIdeal.nD Cert.RprojKIdeal.τ).loc Cert.RprojKIdeal.main_arg3) = m ((c.tc : Thread Cert.RprojKIdeal.nD Cert.RprojKIdeal.τ).loc Cert.RprojKIdeal.main_arg3)
      ∧ r.2.mem ((c.tc : Thread Cert.RprojKIdeal.nD Cert.RprojKIdeal.τ).loc Cert.RprojKIdeal.main_arg4) = m ((c.tc : Thread Cert.RprojKIdeal.nD Cert.RprojKIdeal.τ).loc Cert.RprojKIdeal.main_arg4)
      ∧ r.2.mem ((c.tc : Thread Cert.RprojKIdeal.nD Cert.RprojKIdeal.τ).loc Cert.RprojKIdeal.main_arg5) = m ((c.tc : Thread Cert.RprojKIdeal.nD Cert.RprojKIdeal.τ).loc Cert.RprojKIdeal.main_arg5)
      ∧ r.2.mem ((c.tc : Thread Cert.RprojKIdeal.nD Cert.RprojKIdeal.τ).loc Cert.RprojKIdeal.main_arg6) = m ((c.tc : Thread Cert.RprojKIdeal.nD Cert.RprojKIdeal.τ).loc Cert.RprojKIdeal.main_arg6)
      ∧ r.2.mem ((c.tc : Thread Cert.RprojKIdeal.nD Cert.RprojKIdeal.τ).loc Cert.RprojKIdeal.main_arg7) = m ((c.tc : Thread Cert.RprojKIdeal.nD Cert.RprojKIdeal.τ).loc Cert.RprojKIdeal.main_arg7)
      ∧ r.2.mem ((c.tc : Thread Cert.RprojKIdeal.nD Cert.RprojKIdeal.τ).loc Cert.RprojKIdeal.main_arg8) = m ((c.tc : Thread Cert.RprojKIdeal.nD Cert.RprojKIdeal.τ).loc Cert.RprojKIdeal.main_arg8))
      ∧ r.2.sem = fun _ => 0)

def quiescent_RprojKIdeal_pre_finite_rproj [hRprojKIdeal : Cert.RprojKIdeal.Facts] [hPre_finite_rproj : Cert.Pre_finite_rproj.Facts] : Prop :=
  ∀ (m : (ℓ : Loc Cert.RprojKIdeal.nD Cert.RprojKIdeal.τ Cert.RprojKIdeal.sig) → Buf (Elt Ideal) ℓ) (g : Dev Cert.RprojKIdeal.nD → PrngReg), Pre_RprojKIdeal_finite_rproj m →
    θ_run (Cert.RprojKIdeal.defs (F := Ideal)) (onTc (τ := Cert.RprojKIdeal.τ) (Cert.RprojKIdeal.main (F := Ideal))) ⟨m, fun _ => 0, g⟩ (fun r => (∀ c : Dev Cert.RprojKIdeal.nD,
      r.2.mem ((c.tc : Thread Cert.RprojKIdeal.nD Cert.RprojKIdeal.τ).loc Cert.RprojKIdeal.main_arg0) = m ((c.tc : Thread Cert.RprojKIdeal.nD Cert.RprojKIdeal.τ).loc Cert.RprojKIdeal.main_arg0)
      ∧ r.2.mem ((c.tc : Thread Cert.RprojKIdeal.nD Cert.RprojKIdeal.τ).loc Cert.RprojKIdeal.main_arg1) = m ((c.tc : Thread Cert.RprojKIdeal.nD Cert.RprojKIdeal.τ).loc Cert.RprojKIdeal.main_arg1)
      ∧ r.2.mem ((c.tc : Thread Cert.RprojKIdeal.nD Cert.RprojKIdeal.τ).loc Cert.RprojKIdeal.main_arg2) = m ((c.tc : Thread Cert.RprojKIdeal.nD Cert.RprojKIdeal.τ).loc Cert.RprojKIdeal.main_arg2)
      ∧ r.2.mem ((c.tc : Thread Cert.RprojKIdeal.nD Cert.RprojKIdeal.τ).loc Cert.RprojKIdeal.main_arg3) = m ((c.tc : Thread Cert.RprojKIdeal.nD Cert.RprojKIdeal.τ).loc Cert.RprojKIdeal.main_arg3)
      ∧ r.2.mem ((c.tc : Thread Cert.RprojKIdeal.nD Cert.RprojKIdeal.τ).loc Cert.RprojKIdeal.main_arg4) = m ((c.tc : Thread Cert.RprojKIdeal.nD Cert.RprojKIdeal.τ).loc Cert.RprojKIdeal.main_arg4)
      ∧ r.2.mem ((c.tc : Thread Cert.RprojKIdeal.nD Cert.RprojKIdeal.τ).loc Cert.RprojKIdeal.main_arg5) = m ((c.tc : Thread Cert.RprojKIdeal.nD Cert.RprojKIdeal.τ).loc Cert.RprojKIdeal.main_arg5)
      ∧ r.2.mem ((c.tc : Thread Cert.RprojKIdeal.nD Cert.RprojKIdeal.τ).loc Cert.RprojKIdeal.main_arg6) = m ((c.tc : Thread Cert.RprojKIdeal.nD Cert.RprojKIdeal.τ).loc Cert.RprojKIdeal.main_arg6)
      ∧ r.2.mem ((c.tc : Thread Cert.RprojKIdeal.nD Cert.RprojKIdeal.τ).loc Cert.RprojKIdeal.main_arg7) = m ((c.tc : Thread Cert.RprojKIdeal.nD Cert.RprojKIdeal.τ).loc Cert.RprojKIdeal.main_arg7)
      ∧ r.2.mem ((c.tc : Thread Cert.RprojKIdeal.nD Cert.RprojKIdeal.τ).loc Cert.RprojKIdeal.main_arg8) = m ((c.tc : Thread Cert.RprojKIdeal.nD Cert.RprojKIdeal.τ).loc Cert.RprojKIdeal.main_arg8))
      ∧ r.2.sem = fun _ => 0)

def quiescent_RprojRIdeal [hRprojRIdeal : Cert.RprojRIdeal.Facts] : Prop :=
  ∀ (m : (ℓ : Loc Cert.RprojRIdeal.nD Cert.RprojRIdeal.τ Cert.RprojRIdeal.sig) → Buf (Elt Ideal) ℓ) (g : Dev Cert.RprojRIdeal.nD → PrngReg), Pre_RprojRIdeal m →
    θ_run (Cert.RprojRIdeal.defs (F := Ideal)) (onTc (τ := Cert.RprojRIdeal.τ) (Cert.RprojRIdeal.main (F := Ideal))) ⟨m, fun _ => 0, g⟩ (fun r => (∀ c : Dev Cert.RprojRIdeal.nD,
      r.2.mem ((c.tc : Thread Cert.RprojRIdeal.nD Cert.RprojRIdeal.τ).loc Cert.RprojRIdeal.main_arg0) = m ((c.tc : Thread Cert.RprojRIdeal.nD Cert.RprojRIdeal.τ).loc Cert.RprojRIdeal.main_arg0)
      ∧ r.2.mem ((c.tc : Thread Cert.RprojRIdeal.nD Cert.RprojRIdeal.τ).loc Cert.RprojRIdeal.main_arg1) = m ((c.tc : Thread Cert.RprojRIdeal.nD Cert.RprojRIdeal.τ).loc Cert.RprojRIdeal.main_arg1)
      ∧ r.2.mem ((c.tc : Thread Cert.RprojRIdeal.nD Cert.RprojRIdeal.τ).loc Cert.RprojRIdeal.main_arg2) = m ((c.tc : Thread Cert.RprojRIdeal.nD Cert.RprojRIdeal.τ).loc Cert.RprojRIdeal.main_arg2)
      ∧ r.2.mem ((c.tc : Thread Cert.RprojRIdeal.nD Cert.RprojRIdeal.τ).loc Cert.RprojRIdeal.main_arg3) = m ((c.tc : Thread Cert.RprojRIdeal.nD Cert.RprojRIdeal.τ).loc Cert.RprojRIdeal.main_arg3)
      ∧ r.2.mem ((c.tc : Thread Cert.RprojRIdeal.nD Cert.RprojRIdeal.τ).loc Cert.RprojRIdeal.main_arg4) = m ((c.tc : Thread Cert.RprojRIdeal.nD Cert.RprojRIdeal.τ).loc Cert.RprojRIdeal.main_arg4)
      ∧ r.2.mem ((c.tc : Thread Cert.RprojRIdeal.nD Cert.RprojRIdeal.τ).loc Cert.RprojRIdeal.main_arg5) = m ((c.tc : Thread Cert.RprojRIdeal.nD Cert.RprojRIdeal.τ).loc Cert.RprojRIdeal.main_arg5)
      ∧ r.2.mem ((c.tc : Thread Cert.RprojRIdeal.nD Cert.RprojRIdeal.τ).loc Cert.RprojRIdeal.main_arg6) = m ((c.tc : Thread Cert.RprojRIdeal.nD Cert.RprojRIdeal.τ).loc Cert.RprojRIdeal.main_arg6)
      ∧ r.2.mem ((c.tc : Thread Cert.RprojRIdeal.nD Cert.RprojRIdeal.τ).loc Cert.RprojRIdeal.main_arg7) = m ((c.tc : Thread Cert.RprojRIdeal.nD Cert.RprojRIdeal.τ).loc Cert.RprojRIdeal.main_arg7)
      ∧ r.2.mem ((c.tc : Thread Cert.RprojRIdeal.nD Cert.RprojRIdeal.τ).loc Cert.RprojRIdeal.main_arg8) = m ((c.tc : Thread Cert.RprojRIdeal.nD Cert.RprojRIdeal.τ).loc Cert.RprojRIdeal.main_arg8))
      ∧ r.2.sem = fun _ => 0)

def quiescent_RprojRIdeal_pre_finite_rproj [hRprojRIdeal : Cert.RprojRIdeal.Facts] [hPre_finite_rproj : Cert.Pre_finite_rproj.Facts] : Prop :=
  ∀ (m : (ℓ : Loc Cert.RprojRIdeal.nD Cert.RprojRIdeal.τ Cert.RprojRIdeal.sig) → Buf (Elt Ideal) ℓ) (g : Dev Cert.RprojRIdeal.nD → PrngReg), Pre_RprojRIdeal_finite_rproj m →
    θ_run (Cert.RprojRIdeal.defs (F := Ideal)) (onTc (τ := Cert.RprojRIdeal.τ) (Cert.RprojRIdeal.main (F := Ideal))) ⟨m, fun _ => 0, g⟩ (fun r => (∀ c : Dev Cert.RprojRIdeal.nD,
      r.2.mem ((c.tc : Thread Cert.RprojRIdeal.nD Cert.RprojRIdeal.τ).loc Cert.RprojRIdeal.main_arg0) = m ((c.tc : Thread Cert.RprojRIdeal.nD Cert.RprojRIdeal.τ).loc Cert.RprojRIdeal.main_arg0)
      ∧ r.2.mem ((c.tc : Thread Cert.RprojRIdeal.nD Cert.RprojRIdeal.τ).loc Cert.RprojRIdeal.main_arg1) = m ((c.tc : Thread Cert.RprojRIdeal.nD Cert.RprojRIdeal.τ).loc Cert.RprojRIdeal.main_arg1)
      ∧ r.2.mem ((c.tc : Thread Cert.RprojRIdeal.nD Cert.RprojRIdeal.τ).loc Cert.RprojRIdeal.main_arg2) = m ((c.tc : Thread Cert.RprojRIdeal.nD Cert.RprojRIdeal.τ).loc Cert.RprojRIdeal.main_arg2)
      ∧ r.2.mem ((c.tc : Thread Cert.RprojRIdeal.nD Cert.RprojRIdeal.τ).loc Cert.RprojRIdeal.main_arg3) = m ((c.tc : Thread Cert.RprojRIdeal.nD Cert.RprojRIdeal.τ).loc Cert.RprojRIdeal.main_arg3)
      ∧ r.2.mem ((c.tc : Thread Cert.RprojRIdeal.nD Cert.RprojRIdeal.τ).loc Cert.RprojRIdeal.main_arg4) = m ((c.tc : Thread Cert.RprojRIdeal.nD Cert.RprojRIdeal.τ).loc Cert.RprojRIdeal.main_arg4)
      ∧ r.2.mem ((c.tc : Thread Cert.RprojRIdeal.nD Cert.RprojRIdeal.τ).loc Cert.RprojRIdeal.main_arg5) = m ((c.tc : Thread Cert.RprojRIdeal.nD Cert.RprojRIdeal.τ).loc Cert.RprojRIdeal.main_arg5)
      ∧ r.2.mem ((c.tc : Thread Cert.RprojRIdeal.nD Cert.RprojRIdeal.τ).loc Cert.RprojRIdeal.main_arg6) = m ((c.tc : Thread Cert.RprojRIdeal.nD Cert.RprojRIdeal.τ).loc Cert.RprojRIdeal.main_arg6)
      ∧ r.2.mem ((c.tc : Thread Cert.RprojRIdeal.nD Cert.RprojRIdeal.τ).loc Cert.RprojRIdeal.main_arg7) = m ((c.tc : Thread Cert.RprojRIdeal.nD Cert.RprojRIdeal.τ).loc Cert.RprojRIdeal.main_arg7)
      ∧ r.2.mem ((c.tc : Thread Cert.RprojRIdeal.nD Cert.RprojRIdeal.τ).loc Cert.RprojRIdeal.main_arg8) = m ((c.tc : Thread Cert.RprojRIdeal.nD Cert.RprojRIdeal.τ).loc Cert.RprojRIdeal.main_arg8))
      ∧ r.2.sem = fun _ => 0)

def quiescent_DprojK [hDprojK : Cert.DprojK.Facts] : Prop :=
  ∀ (m : (ℓ : Loc Cert.DprojK.nD Cert.DprojK.τ Cert.DprojK.sig) → Buf (Elt Bits) ℓ) (g : Dev Cert.DprojK.nD → PrngReg), Pre_DprojK m →
    θ_run (Cert.DprojK.defs (F := Bits)) (onTc (τ := Cert.DprojK.τ) (Cert.DprojK.main (F := Bits))) ⟨m, fun _ => 0, g⟩ (fun r => (∀ c : Dev Cert.DprojK.nD,
      r.2.mem ((c.tc : Thread Cert.DprojK.nD Cert.DprojK.τ).loc Cert.DprojK.main_arg0) = m ((c.tc : Thread Cert.DprojK.nD Cert.DprojK.τ).loc Cert.DprojK.main_arg0)
      ∧ r.2.mem ((c.tc : Thread Cert.DprojK.nD Cert.DprojK.τ).loc Cert.DprojK.main_arg1) = m ((c.tc : Thread Cert.DprojK.nD Cert.DprojK.τ).loc Cert.DprojK.main_arg1)
      ∧ r.2.mem ((c.tc : Thread Cert.DprojK.nD Cert.DprojK.τ).loc Cert.DprojK.main_arg2) = m ((c.tc : Thread Cert.DprojK.nD Cert.DprojK.τ).loc Cert.DprojK.main_arg2)
      ∧ r.2.mem ((c.tc : Thread Cert.DprojK.nD Cert.DprojK.τ).loc Cert.DprojK.main_arg3) = m ((c.tc : Thread Cert.DprojK.nD Cert.DprojK.τ).loc Cert.DprojK.main_arg3)
      ∧ r.2.mem ((c.tc : Thread Cert.DprojK.nD Cert.DprojK.τ).loc Cert.DprojK.main_arg4) = m ((c.tc : Thread Cert.DprojK.nD Cert.DprojK.τ).loc Cert.DprojK.main_arg4)
      ∧ r.2.mem ((c.tc : Thread Cert.DprojK.nD Cert.DprojK.τ).loc Cert.DprojK.main_arg5) = m ((c.tc : Thread Cert.DprojK.nD Cert.DprojK.τ).loc Cert.DprojK.main_arg5))
      ∧ r.2.sem = fun _ => 0)

def quiescent_DprojKIdeal [hDprojKIdeal : Cert.DprojKIdeal.Facts] : Prop :=
  ∀ (m : (ℓ : Loc Cert.DprojKIdeal.nD Cert.DprojKIdeal.τ Cert.DprojKIdeal.sig) → Buf (Elt Ideal) ℓ) (g : Dev Cert.DprojKIdeal.nD → PrngReg), Pre_DprojKIdeal m →
    θ_run (Cert.DprojKIdeal.defs (F := Ideal)) (onTc (τ := Cert.DprojKIdeal.τ) (Cert.DprojKIdeal.main (F := Ideal))) ⟨m, fun _ => 0, g⟩ (fun r => (∀ c : Dev Cert.DprojKIdeal.nD,
      r.2.mem ((c.tc : Thread Cert.DprojKIdeal.nD Cert.DprojKIdeal.τ).loc Cert.DprojKIdeal.main_arg0) = m ((c.tc : Thread Cert.DprojKIdeal.nD Cert.DprojKIdeal.τ).loc Cert.DprojKIdeal.main_arg0)
      ∧ r.2.mem ((c.tc : Thread Cert.DprojKIdeal.nD Cert.DprojKIdeal.τ).loc Cert.DprojKIdeal.main_arg1) = m ((c.tc : Thread Cert.DprojKIdeal.nD Cert.DprojKIdeal.τ).loc Cert.DprojKIdeal.main_arg1)
      ∧ r.2.mem ((c.tc : Thread Cert.DprojKIdeal.nD Cert.DprojKIdeal.τ).loc Cert.DprojKIdeal.main_arg2) = m ((c.tc : Thread Cert.DprojKIdeal.nD Cert.DprojKIdeal.τ).loc Cert.DprojKIdeal.main_arg2)
      ∧ r.2.mem ((c.tc : Thread Cert.DprojKIdeal.nD Cert.DprojKIdeal.τ).loc Cert.DprojKIdeal.main_arg3) = m ((c.tc : Thread Cert.DprojKIdeal.nD Cert.DprojKIdeal.τ).loc Cert.DprojKIdeal.main_arg3)
      ∧ r.2.mem ((c.tc : Thread Cert.DprojKIdeal.nD Cert.DprojKIdeal.τ).loc Cert.DprojKIdeal.main_arg4) = m ((c.tc : Thread Cert.DprojKIdeal.nD Cert.DprojKIdeal.τ).loc Cert.DprojKIdeal.main_arg4)
      ∧ r.2.mem ((c.tc : Thread Cert.DprojKIdeal.nD Cert.DprojKIdeal.τ).loc Cert.DprojKIdeal.main_arg5) = m ((c.tc : Thread Cert.DprojKIdeal.nD Cert.DprojKIdeal.τ).loc Cert.DprojKIdeal.main_arg5))
      ∧ r.2.sem = fun _ => 0)

def quiescent_DprojKIdeal_pre_finite_dproj [hDprojKIdeal : Cert.DprojKIdeal.Facts] [hPre_finite_dproj : Cert.Pre_finite_dproj.Facts] : Prop :=
  ∀ (m : (ℓ : Loc Cert.DprojKIdeal.nD Cert.DprojKIdeal.τ Cert.DprojKIdeal.sig) → Buf (Elt Ideal) ℓ) (g : Dev Cert.DprojKIdeal.nD → PrngReg), Pre_DprojKIdeal_finite_dproj m →
    θ_run (Cert.DprojKIdeal.defs (F := Ideal)) (onTc (τ := Cert.DprojKIdeal.τ) (Cert.DprojKIdeal.main (F := Ideal))) ⟨m, fun _ => 0, g⟩ (fun r => (∀ c : Dev Cert.DprojKIdeal.nD,
      r.2.mem ((c.tc : Thread Cert.DprojKIdeal.nD Cert.DprojKIdeal.τ).loc Cert.DprojKIdeal.main_arg0) = m ((c.tc : Thread Cert.DprojKIdeal.nD Cert.DprojKIdeal.τ).loc Cert.DprojKIdeal.main_arg0)
      ∧ r.2.mem ((c.tc : Thread Cert.DprojKIdeal.nD Cert.DprojKIdeal.τ).loc Cert.DprojKIdeal.main_arg1) = m ((c.tc : Thread Cert.DprojKIdeal.nD Cert.DprojKIdeal.τ).loc Cert.DprojKIdeal.main_arg1)
      ∧ r.2.mem ((c.tc : Thread Cert.DprojKIdeal.nD Cert.DprojKIdeal.τ).loc Cert.DprojKIdeal.main_arg2) = m ((c.tc : Thread Cert.DprojKIdeal.nD Cert.DprojKIdeal.τ).loc Cert.DprojKIdeal.main_arg2)
      ∧ r.2.mem ((c.tc : Thread Cert.DprojKIdeal.nD Cert.DprojKIdeal.τ).loc Cert.DprojKIdeal.main_arg3) = m ((c.tc : Thread Cert.DprojKIdeal.nD Cert.DprojKIdeal.τ).loc Cert.DprojKIdeal.main_arg3)
      ∧ r.2.mem ((c.tc : Thread Cert.DprojKIdeal.nD Cert.DprojKIdeal.τ).loc Cert.DprojKIdeal.main_arg4) = m ((c.tc : Thread Cert.DprojKIdeal.nD Cert.DprojKIdeal.τ).loc Cert.DprojKIdeal.main_arg4)
      ∧ r.2.mem ((c.tc : Thread Cert.DprojKIdeal.nD Cert.DprojKIdeal.τ).loc Cert.DprojKIdeal.main_arg5) = m ((c.tc : Thread Cert.DprojKIdeal.nD Cert.DprojKIdeal.τ).loc Cert.DprojKIdeal.main_arg5))
      ∧ r.2.sem = fun _ => 0)

def quiescent_DprojRIdeal [hDprojRIdeal : Cert.DprojRIdeal.Facts] : Prop :=
  ∀ (m : (ℓ : Loc Cert.DprojRIdeal.nD Cert.DprojRIdeal.τ Cert.DprojRIdeal.sig) → Buf (Elt Ideal) ℓ) (g : Dev Cert.DprojRIdeal.nD → PrngReg), Pre_DprojRIdeal m →
    θ_run (Cert.DprojRIdeal.defs (F := Ideal)) (onTc (τ := Cert.DprojRIdeal.τ) (Cert.DprojRIdeal.main (F := Ideal))) ⟨m, fun _ => 0, g⟩ (fun r => (∀ c : Dev Cert.DprojRIdeal.nD,
      r.2.mem ((c.tc : Thread Cert.DprojRIdeal.nD Cert.DprojRIdeal.τ).loc Cert.DprojRIdeal.main_arg0) = m ((c.tc : Thread Cert.DprojRIdeal.nD Cert.DprojRIdeal.τ).loc Cert.DprojRIdeal.main_arg0)
      ∧ r.2.mem ((c.tc : Thread Cert.DprojRIdeal.nD Cert.DprojRIdeal.τ).loc Cert.DprojRIdeal.main_arg1) = m ((c.tc : Thread Cert.DprojRIdeal.nD Cert.DprojRIdeal.τ).loc Cert.DprojRIdeal.main_arg1)
      ∧ r.2.mem ((c.tc : Thread Cert.DprojRIdeal.nD Cert.DprojRIdeal.τ).loc Cert.DprojRIdeal.main_arg2) = m ((c.tc : Thread Cert.DprojRIdeal.nD Cert.DprojRIdeal.τ).loc Cert.DprojRIdeal.main_arg2)
      ∧ r.2.mem ((c.tc : Thread Cert.DprojRIdeal.nD Cert.DprojRIdeal.τ).loc Cert.DprojRIdeal.main_arg3) = m ((c.tc : Thread Cert.DprojRIdeal.nD Cert.DprojRIdeal.τ).loc Cert.DprojRIdeal.main_arg3)
      ∧ r.2.mem ((c.tc : Thread Cert.DprojRIdeal.nD Cert.DprojRIdeal.τ).loc Cert.DprojRIdeal.main_arg4) = m ((c.tc : Thread Cert.DprojRIdeal.nD Cert.DprojRIdeal.τ).loc Cert.DprojRIdeal.main_arg4)
      ∧ r.2.mem ((c.tc : Thread Cert.DprojRIdeal.nD Cert.DprojRIdeal.τ).loc Cert.DprojRIdeal.main_arg5) = m ((c.tc : Thread Cert.DprojRIdeal.nD Cert.DprojRIdeal.τ).loc Cert.DprojRIdeal.main_arg5))
      ∧ r.2.sem = fun _ => 0)

def quiescent_DprojRIdeal_pre_finite_dproj [hDprojRIdeal : Cert.DprojRIdeal.Facts] [hPre_finite_dproj : Cert.Pre_finite_dproj.Facts] : Prop :=
  ∀ (m : (ℓ : Loc Cert.DprojRIdeal.nD Cert.DprojRIdeal.τ Cert.DprojRIdeal.sig) → Buf (Elt Ideal) ℓ) (g : Dev Cert.DprojRIdeal.nD → PrngReg), Pre_DprojRIdeal_finite_dproj m →
    θ_run (Cert.DprojRIdeal.defs (F := Ideal)) (onTc (τ := Cert.DprojRIdeal.τ) (Cert.DprojRIdeal.main (F := Ideal))) ⟨m, fun _ => 0, g⟩ (fun r => (∀ c : Dev Cert.DprojRIdeal.nD,
      r.2.mem ((c.tc : Thread Cert.DprojRIdeal.nD Cert.DprojRIdeal.τ).loc Cert.DprojRIdeal.main_arg0) = m ((c.tc : Thread Cert.DprojRIdeal.nD Cert.DprojRIdeal.τ).loc Cert.DprojRIdeal.main_arg0)
      ∧ r.2.mem ((c.tc : Thread Cert.DprojRIdeal.nD Cert.DprojRIdeal.τ).loc Cert.DprojRIdeal.main_arg1) = m ((c.tc : Thread Cert.DprojRIdeal.nD Cert.DprojRIdeal.τ).loc Cert.DprojRIdeal.main_arg1)
      ∧ r.2.mem ((c.tc : Thread Cert.DprojRIdeal.nD Cert.DprojRIdeal.τ).loc Cert.DprojRIdeal.main_arg2) = m ((c.tc : Thread Cert.DprojRIdeal.nD Cert.DprojRIdeal.τ).loc Cert.DprojRIdeal.main_arg2)
      ∧ r.2.mem ((c.tc : Thread Cert.DprojRIdeal.nD Cert.DprojRIdeal.τ).loc Cert.DprojRIdeal.main_arg3) = m ((c.tc : Thread Cert.DprojRIdeal.nD Cert.DprojRIdeal.τ).loc Cert.DprojRIdeal.main_arg3)
      ∧ r.2.mem ((c.tc : Thread Cert.DprojRIdeal.nD Cert.DprojRIdeal.τ).loc Cert.DprojRIdeal.main_arg4) = m ((c.tc : Thread Cert.DprojRIdeal.nD Cert.DprojRIdeal.τ).loc Cert.DprojRIdeal.main_arg4)
      ∧ r.2.mem ((c.tc : Thread Cert.DprojRIdeal.nD Cert.DprojRIdeal.τ).loc Cert.DprojRIdeal.main_arg5) = m ((c.tc : Thread Cert.DprojRIdeal.nD Cert.DprojRIdeal.τ).loc Cert.DprojRIdeal.main_arg5))
      ∧ r.2.sem = fun _ => 0)

def quiescent_RmsK [hRmsK : Cert.RmsK.Facts] : Prop :=
  ∀ (m : (ℓ : Loc Cert.RmsK.nD Cert.RmsK.τ Cert.RmsK.sig) → Buf (Elt Bits) ℓ) (g : Dev Cert.RmsK.nD → PrngReg), Pre_RmsK m →
    θ_run (Cert.RmsK.defs (F := Bits)) (onTc (τ := Cert.RmsK.τ) (Cert.RmsK.main (F := Bits))) ⟨m, fun _ => 0, g⟩ (fun r => (∀ c : Dev Cert.RmsK.nD,
      r.2.mem ((c.tc : Thread Cert.RmsK.nD Cert.RmsK.τ).loc Cert.RmsK.main_arg0) = m ((c.tc : Thread Cert.RmsK.nD Cert.RmsK.τ).loc Cert.RmsK.main_arg0)
      ∧ r.2.mem ((c.tc : Thread Cert.RmsK.nD Cert.RmsK.τ).loc Cert.RmsK.main_arg1) = m ((c.tc : Thread Cert.RmsK.nD Cert.RmsK.τ).loc Cert.RmsK.main_arg1))
      ∧ r.2.sem = fun _ => 0)

def quiescent_RmsKIdeal [hRmsKIdeal : Cert.RmsKIdeal.Facts] : Prop :=
  ∀ (m : (ℓ : Loc Cert.RmsKIdeal.nD Cert.RmsKIdeal.τ Cert.RmsKIdeal.sig) → Buf (Elt Ideal) ℓ) (g : Dev Cert.RmsKIdeal.nD → PrngReg), Pre_RmsKIdeal m →
    θ_run (Cert.RmsKIdeal.defs (F := Ideal)) (onTc (τ := Cert.RmsKIdeal.τ) (Cert.RmsKIdeal.main (F := Ideal))) ⟨m, fun _ => 0, g⟩ (fun r => (∀ c : Dev Cert.RmsKIdeal.nD,
      r.2.mem ((c.tc : Thread Cert.RmsKIdeal.nD Cert.RmsKIdeal.τ).loc Cert.RmsKIdeal.main_arg0) = m ((c.tc : Thread Cert.RmsKIdeal.nD Cert.RmsKIdeal.τ).loc Cert.RmsKIdeal.main_arg0)
      ∧ r.2.mem ((c.tc : Thread Cert.RmsKIdeal.nD Cert.RmsKIdeal.τ).loc Cert.RmsKIdeal.main_arg1) = m ((c.tc : Thread Cert.RmsKIdeal.nD Cert.RmsKIdeal.τ).loc Cert.RmsKIdeal.main_arg1))
      ∧ r.2.sem = fun _ => 0)

def quiescent_RmsRIdeal [hRmsRIdeal : Cert.RmsRIdeal.Facts] : Prop :=
  ∀ (m : (ℓ : Loc Cert.RmsRIdeal.nD Cert.RmsRIdeal.τ Cert.RmsRIdeal.sig) → Buf (Elt Ideal) ℓ) (g : Dev Cert.RmsRIdeal.nD → PrngReg), Pre_RmsRIdeal m →
    θ_run (Cert.RmsRIdeal.defs (F := Ideal)) (onTc (τ := Cert.RmsRIdeal.τ) (Cert.RmsRIdeal.main (F := Ideal))) ⟨m, fun _ => 0, g⟩ (fun r => (∀ c : Dev Cert.RmsRIdeal.nD,
      r.2.mem ((c.tc : Thread Cert.RmsRIdeal.nD Cert.RmsRIdeal.τ).loc Cert.RmsRIdeal.main_arg0) = m ((c.tc : Thread Cert.RmsRIdeal.nD Cert.RmsRIdeal.τ).loc Cert.RmsRIdeal.main_arg0)
      ∧ r.2.mem ((c.tc : Thread Cert.RmsRIdeal.nD Cert.RmsRIdeal.τ).loc Cert.RmsRIdeal.main_arg1) = m ((c.tc : Thread Cert.RmsRIdeal.nD Cert.RmsRIdeal.τ).loc Cert.RmsRIdeal.main_arg1))
      ∧ r.2.sem = fun _ => 0)

def quiescent_BetaK [hBetaK : Cert.BetaK.Facts] : Prop :=
  ∀ (m : (ℓ : Loc Cert.BetaK.nD Cert.BetaK.τ Cert.BetaK.sig) → Buf (Elt Bits) ℓ) (g : Dev Cert.BetaK.nD → PrngReg), Pre_BetaK m →
    θ_run (Cert.BetaK.defs (F := Bits)) (onTc (τ := Cert.BetaK.τ) (Cert.BetaK.main (F := Bits))) ⟨m, fun _ => 0, g⟩ (fun r => (∀ c : Dev Cert.BetaK.nD,
      r.2.mem ((c.tc : Thread Cert.BetaK.nD Cert.BetaK.τ).loc Cert.BetaK.main_arg0) = m ((c.tc : Thread Cert.BetaK.nD Cert.BetaK.τ).loc Cert.BetaK.main_arg0)
      ∧ r.2.mem ((c.tc : Thread Cert.BetaK.nD Cert.BetaK.τ).loc Cert.BetaK.main_arg1) = m ((c.tc : Thread Cert.BetaK.nD Cert.BetaK.τ).loc Cert.BetaK.main_arg1)
      ∧ r.2.mem ((c.tc : Thread Cert.BetaK.nD Cert.BetaK.τ).loc Cert.BetaK.main_arg2) = m ((c.tc : Thread Cert.BetaK.nD Cert.BetaK.τ).loc Cert.BetaK.main_arg2))
      ∧ r.2.sem = fun _ => 0)

def quiescent_BetaKIdeal [hBetaKIdeal : Cert.BetaKIdeal.Facts] : Prop :=
  ∀ (m : (ℓ : Loc Cert.BetaKIdeal.nD Cert.BetaKIdeal.τ Cert.BetaKIdeal.sig) → Buf (Elt Ideal) ℓ) (g : Dev Cert.BetaKIdeal.nD → PrngReg), Pre_BetaKIdeal m →
    θ_run (Cert.BetaKIdeal.defs (F := Ideal)) (onTc (τ := Cert.BetaKIdeal.τ) (Cert.BetaKIdeal.main (F := Ideal))) ⟨m, fun _ => 0, g⟩ (fun r => (∀ c : Dev Cert.BetaKIdeal.nD,
      r.2.mem ((c.tc : Thread Cert.BetaKIdeal.nD Cert.BetaKIdeal.τ).loc Cert.BetaKIdeal.main_arg0) = m ((c.tc : Thread Cert.BetaKIdeal.nD Cert.BetaKIdeal.τ).loc Cert.BetaKIdeal.main_arg0)
      ∧ r.2.mem ((c.tc : Thread Cert.BetaKIdeal.nD Cert.BetaKIdeal.τ).loc Cert.BetaKIdeal.main_arg1) = m ((c.tc : Thread Cert.BetaKIdeal.nD Cert.BetaKIdeal.τ).loc Cert.BetaKIdeal.main_arg1)
      ∧ r.2.mem ((c.tc : Thread Cert.BetaKIdeal.nD Cert.BetaKIdeal.τ).loc Cert.BetaKIdeal.main_arg2) = m ((c.tc : Thread Cert.BetaKIdeal.nD Cert.BetaKIdeal.τ).loc Cert.BetaKIdeal.main_arg2))
      ∧ r.2.sem = fun _ => 0)

def quiescent_BetaRIdeal [hBetaRIdeal : Cert.BetaRIdeal.Facts] : Prop :=
  ∀ (m : (ℓ : Loc Cert.BetaRIdeal.nD Cert.BetaRIdeal.τ Cert.BetaRIdeal.sig) → Buf (Elt Ideal) ℓ) (g : Dev Cert.BetaRIdeal.nD → PrngReg), Pre_BetaRIdeal m →
    θ_run (Cert.BetaRIdeal.defs (F := Ideal)) (onTc (τ := Cert.BetaRIdeal.τ) (Cert.BetaRIdeal.main (F := Ideal))) ⟨m, fun _ => 0, g⟩ (fun r => (∀ c : Dev Cert.BetaRIdeal.nD,
      r.2.mem ((c.tc : Thread Cert.BetaRIdeal.nD Cert.BetaRIdeal.τ).loc Cert.BetaRIdeal.main_arg0) = m ((c.tc : Thread Cert.BetaRIdeal.nD Cert.BetaRIdeal.τ).loc Cert.BetaRIdeal.main_arg0)
      ∧ r.2.mem ((c.tc : Thread Cert.BetaRIdeal.nD Cert.BetaRIdeal.τ).loc Cert.BetaRIdeal.main_arg1) = m ((c.tc : Thread Cert.BetaRIdeal.nD Cert.BetaRIdeal.τ).loc Cert.BetaRIdeal.main_arg1)
      ∧ r.2.mem ((c.tc : Thread Cert.BetaRIdeal.nD Cert.BetaRIdeal.τ).loc Cert.BetaRIdeal.main_arg2) = m ((c.tc : Thread Cert.BetaRIdeal.nD Cert.BetaRIdeal.τ).loc Cert.BetaRIdeal.main_arg2))
      ∧ r.2.sem = fun _ => 0)

def quiescent_PrepK [hPrepK : Cert.PrepK.Facts] : Prop :=
  ∀ (m : (ℓ : Loc Cert.PrepK.nD Cert.PrepK.τ Cert.PrepK.sig) → Buf (Elt Bits) ℓ) (g : Dev Cert.PrepK.nD → PrngReg), Pre_PrepK m →
    θ_run (Cert.PrepK.defs (F := Bits)) (onTc (τ := Cert.PrepK.τ) (Cert.PrepK.main (F := Bits))) ⟨m, fun _ => 0, g⟩ (fun r => (∀ c : Dev Cert.PrepK.nD,
      r.2.mem ((c.tc : Thread Cert.PrepK.nD Cert.PrepK.τ).loc Cert.PrepK.main_arg0) = m ((c.tc : Thread Cert.PrepK.nD Cert.PrepK.τ).loc Cert.PrepK.main_arg0)
      ∧ r.2.mem ((c.tc : Thread Cert.PrepK.nD Cert.PrepK.τ).loc Cert.PrepK.main_arg1) = m ((c.tc : Thread Cert.PrepK.nD Cert.PrepK.τ).loc Cert.PrepK.main_arg1)
      ∧ r.2.mem ((c.tc : Thread Cert.PrepK.nD Cert.PrepK.τ).loc Cert.PrepK.main_arg2) = m ((c.tc : Thread Cert.PrepK.nD Cert.PrepK.τ).loc Cert.PrepK.main_arg2)
      ∧ r.2.mem ((c.tc : Thread Cert.PrepK.nD Cert.PrepK.τ).loc Cert.PrepK.main_arg3) = m ((c.tc : Thread Cert.PrepK.nD Cert.PrepK.τ).loc Cert.PrepK.main_arg3)
      ∧ r.2.mem ((c.tc : Thread Cert.PrepK.nD Cert.PrepK.τ).loc Cert.PrepK.main_arg4) = m ((c.tc : Thread Cert.PrepK.nD Cert.PrepK.τ).loc Cert.PrepK.main_arg4)
      ∧ r.2.mem ((c.tc : Thread Cert.PrepK.nD Cert.PrepK.τ).loc Cert.PrepK.main_arg5) = m ((c.tc : Thread Cert.PrepK.nD Cert.PrepK.τ).loc Cert.PrepK.main_arg5)
      ∧ r.2.mem ((c.tc : Thread Cert.PrepK.nD Cert.PrepK.τ).loc Cert.PrepK.main_arg6) = m ((c.tc : Thread Cert.PrepK.nD Cert.PrepK.τ).loc Cert.PrepK.main_arg6)
      ∧ r.2.mem ((c.tc : Thread Cert.PrepK.nD Cert.PrepK.τ).loc Cert.PrepK.main_arg7) = m ((c.tc : Thread Cert.PrepK.nD Cert.PrepK.τ).loc Cert.PrepK.main_arg7)
      ∧ r.2.mem ((c.tc : Thread Cert.PrepK.nD Cert.PrepK.τ).loc Cert.PrepK.main_arg8) = m ((c.tc : Thread Cert.PrepK.nD Cert.PrepK.τ).loc Cert.PrepK.main_arg8))
      ∧ r.2.sem = fun _ => 0)

def quiescent_PrepKIdeal [hPrepKIdeal : Cert.PrepKIdeal.Facts] : Prop :=
  ∀ (m : (ℓ : Loc Cert.PrepKIdeal.nD Cert.PrepKIdeal.τ Cert.PrepKIdeal.sig) → Buf (Elt Ideal) ℓ) (g : Dev Cert.PrepKIdeal.nD → PrngReg), Pre_PrepKIdeal m →
    θ_run (Cert.PrepKIdeal.defs (F := Ideal)) (onTc (τ := Cert.PrepKIdeal.τ) (Cert.PrepKIdeal.main (F := Ideal))) ⟨m, fun _ => 0, g⟩ (fun r => (∀ c : Dev Cert.PrepKIdeal.nD,
      r.2.mem ((c.tc : Thread Cert.PrepKIdeal.nD Cert.PrepKIdeal.τ).loc Cert.PrepKIdeal.main_arg0) = m ((c.tc : Thread Cert.PrepKIdeal.nD Cert.PrepKIdeal.τ).loc Cert.PrepKIdeal.main_arg0)
      ∧ r.2.mem ((c.tc : Thread Cert.PrepKIdeal.nD Cert.PrepKIdeal.τ).loc Cert.PrepKIdeal.main_arg1) = m ((c.tc : Thread Cert.PrepKIdeal.nD Cert.PrepKIdeal.τ).loc Cert.PrepKIdeal.main_arg1)
      ∧ r.2.mem ((c.tc : Thread Cert.PrepKIdeal.nD Cert.PrepKIdeal.τ).loc Cert.PrepKIdeal.main_arg2) = m ((c.tc : Thread Cert.PrepKIdeal.nD Cert.PrepKIdeal.τ).loc Cert.PrepKIdeal.main_arg2)
      ∧ r.2.mem ((c.tc : Thread Cert.PrepKIdeal.nD Cert.PrepKIdeal.τ).loc Cert.PrepKIdeal.main_arg3) = m ((c.tc : Thread Cert.PrepKIdeal.nD Cert.PrepKIdeal.τ).loc Cert.PrepKIdeal.main_arg3)
      ∧ r.2.mem ((c.tc : Thread Cert.PrepKIdeal.nD Cert.PrepKIdeal.τ).loc Cert.PrepKIdeal.main_arg4) = m ((c.tc : Thread Cert.PrepKIdeal.nD Cert.PrepKIdeal.τ).loc Cert.PrepKIdeal.main_arg4)
      ∧ r.2.mem ((c.tc : Thread Cert.PrepKIdeal.nD Cert.PrepKIdeal.τ).loc Cert.PrepKIdeal.main_arg5) = m ((c.tc : Thread Cert.PrepKIdeal.nD Cert.PrepKIdeal.τ).loc Cert.PrepKIdeal.main_arg5)
      ∧ r.2.mem ((c.tc : Thread Cert.PrepKIdeal.nD Cert.PrepKIdeal.τ).loc Cert.PrepKIdeal.main_arg6) = m ((c.tc : Thread Cert.PrepKIdeal.nD Cert.PrepKIdeal.τ).loc Cert.PrepKIdeal.main_arg6)
      ∧ r.2.mem ((c.tc : Thread Cert.PrepKIdeal.nD Cert.PrepKIdeal.τ).loc Cert.PrepKIdeal.main_arg7) = m ((c.tc : Thread Cert.PrepKIdeal.nD Cert.PrepKIdeal.τ).loc Cert.PrepKIdeal.main_arg7)
      ∧ r.2.mem ((c.tc : Thread Cert.PrepKIdeal.nD Cert.PrepKIdeal.τ).loc Cert.PrepKIdeal.main_arg8) = m ((c.tc : Thread Cert.PrepKIdeal.nD Cert.PrepKIdeal.τ).loc Cert.PrepKIdeal.main_arg8))
      ∧ r.2.sem = fun _ => 0)

def quiescent_PrepKIdeal_pre_finite_prep [hPrepKIdeal : Cert.PrepKIdeal.Facts] [hPre_finite_prep : Cert.Pre_finite_prep.Facts] : Prop :=
  ∀ (m : (ℓ : Loc Cert.PrepKIdeal.nD Cert.PrepKIdeal.τ Cert.PrepKIdeal.sig) → Buf (Elt Ideal) ℓ) (g : Dev Cert.PrepKIdeal.nD → PrngReg), Pre_PrepKIdeal_finite_prep m →
    θ_run (Cert.PrepKIdeal.defs (F := Ideal)) (onTc (τ := Cert.PrepKIdeal.τ) (Cert.PrepKIdeal.main (F := Ideal))) ⟨m, fun _ => 0, g⟩ (fun r => (∀ c : Dev Cert.PrepKIdeal.nD,
      r.2.mem ((c.tc : Thread Cert.PrepKIdeal.nD Cert.PrepKIdeal.τ).loc Cert.PrepKIdeal.main_arg0) = m ((c.tc : Thread Cert.PrepKIdeal.nD Cert.PrepKIdeal.τ).loc Cert.PrepKIdeal.main_arg0)
      ∧ r.2.mem ((c.tc : Thread Cert.PrepKIdeal.nD Cert.PrepKIdeal.τ).loc Cert.PrepKIdeal.main_arg1) = m ((c.tc : Thread Cert.PrepKIdeal.nD Cert.PrepKIdeal.τ).loc Cert.PrepKIdeal.main_arg1)
      ∧ r.2.mem ((c.tc : Thread Cert.PrepKIdeal.nD Cert.PrepKIdeal.τ).loc Cert.PrepKIdeal.main_arg2) = m ((c.tc : Thread Cert.PrepKIdeal.nD Cert.PrepKIdeal.τ).loc Cert.PrepKIdeal.main_arg2)
      ∧ r.2.mem ((c.tc : Thread Cert.PrepKIdeal.nD Cert.PrepKIdeal.τ).loc Cert.PrepKIdeal.main_arg3) = m ((c.tc : Thread Cert.PrepKIdeal.nD Cert.PrepKIdeal.τ).loc Cert.PrepKIdeal.main_arg3)
      ∧ r.2.mem ((c.tc : Thread Cert.PrepKIdeal.nD Cert.PrepKIdeal.τ).loc Cert.PrepKIdeal.main_arg4) = m ((c.tc : Thread Cert.PrepKIdeal.nD Cert.PrepKIdeal.τ).loc Cert.PrepKIdeal.main_arg4)
      ∧ r.2.mem ((c.tc : Thread Cert.PrepKIdeal.nD Cert.PrepKIdeal.τ).loc Cert.PrepKIdeal.main_arg5) = m ((c.tc : Thread Cert.PrepKIdeal.nD Cert.PrepKIdeal.τ).loc Cert.PrepKIdeal.main_arg5)
      ∧ r.2.mem ((c.tc : Thread Cert.PrepKIdeal.nD Cert.PrepKIdeal.τ).loc Cert.PrepKIdeal.main_arg6) = m ((c.tc : Thread Cert.PrepKIdeal.nD Cert.PrepKIdeal.τ).loc Cert.PrepKIdeal.main_arg6)
      ∧ r.2.mem ((c.tc : Thread Cert.PrepKIdeal.nD Cert.PrepKIdeal.τ).loc Cert.PrepKIdeal.main_arg7) = m ((c.tc : Thread Cert.PrepKIdeal.nD Cert.PrepKIdeal.τ).loc Cert.PrepKIdeal.main_arg7)
      ∧ r.2.mem ((c.tc : Thread Cert.PrepKIdeal.nD Cert.PrepKIdeal.τ).loc Cert.PrepKIdeal.main_arg8) = m ((c.tc : Thread Cert.PrepKIdeal.nD Cert.PrepKIdeal.τ).loc Cert.PrepKIdeal.main_arg8))
      ∧ r.2.sem = fun _ => 0)

def quiescent_PrepRIdeal [hPrepRIdeal : Cert.PrepRIdeal.Facts] : Prop :=
  ∀ (m : (ℓ : Loc Cert.PrepRIdeal.nD Cert.PrepRIdeal.τ Cert.PrepRIdeal.sig) → Buf (Elt Ideal) ℓ) (g : Dev Cert.PrepRIdeal.nD → PrngReg), Pre_PrepRIdeal m →
    θ_run (Cert.PrepRIdeal.defs (F := Ideal)) (onTc (τ := Cert.PrepRIdeal.τ) (Cert.PrepRIdeal.main (F := Ideal))) ⟨m, fun _ => 0, g⟩ (fun r => (∀ c : Dev Cert.PrepRIdeal.nD,
      r.2.mem ((c.tc : Thread Cert.PrepRIdeal.nD Cert.PrepRIdeal.τ).loc Cert.PrepRIdeal.main_arg0) = m ((c.tc : Thread Cert.PrepRIdeal.nD Cert.PrepRIdeal.τ).loc Cert.PrepRIdeal.main_arg0)
      ∧ r.2.mem ((c.tc : Thread Cert.PrepRIdeal.nD Cert.PrepRIdeal.τ).loc Cert.PrepRIdeal.main_arg1) = m ((c.tc : Thread Cert.PrepRIdeal.nD Cert.PrepRIdeal.τ).loc Cert.PrepRIdeal.main_arg1)
      ∧ r.2.mem ((c.tc : Thread Cert.PrepRIdeal.nD Cert.PrepRIdeal.τ).loc Cert.PrepRIdeal.main_arg2) = m ((c.tc : Thread Cert.PrepRIdeal.nD Cert.PrepRIdeal.τ).loc Cert.PrepRIdeal.main_arg2)
      ∧ r.2.mem ((c.tc : Thread Cert.PrepRIdeal.nD Cert.PrepRIdeal.τ).loc Cert.PrepRIdeal.main_arg3) = m ((c.tc : Thread Cert.PrepRIdeal.nD Cert.PrepRIdeal.τ).loc Cert.PrepRIdeal.main_arg3)
      ∧ r.2.mem ((c.tc : Thread Cert.PrepRIdeal.nD Cert.PrepRIdeal.τ).loc Cert.PrepRIdeal.main_arg4) = m ((c.tc : Thread Cert.PrepRIdeal.nD Cert.PrepRIdeal.τ).loc Cert.PrepRIdeal.main_arg4)
      ∧ r.2.mem ((c.tc : Thread Cert.PrepRIdeal.nD Cert.PrepRIdeal.τ).loc Cert.PrepRIdeal.main_arg5) = m ((c.tc : Thread Cert.PrepRIdeal.nD Cert.PrepRIdeal.τ).loc Cert.PrepRIdeal.main_arg5)
      ∧ r.2.mem ((c.tc : Thread Cert.PrepRIdeal.nD Cert.PrepRIdeal.τ).loc Cert.PrepRIdeal.main_arg6) = m ((c.tc : Thread Cert.PrepRIdeal.nD Cert.PrepRIdeal.τ).loc Cert.PrepRIdeal.main_arg6)
      ∧ r.2.mem ((c.tc : Thread Cert.PrepRIdeal.nD Cert.PrepRIdeal.τ).loc Cert.PrepRIdeal.main_arg7) = m ((c.tc : Thread Cert.PrepRIdeal.nD Cert.PrepRIdeal.τ).loc Cert.PrepRIdeal.main_arg7)
      ∧ r.2.mem ((c.tc : Thread Cert.PrepRIdeal.nD Cert.PrepRIdeal.τ).loc Cert.PrepRIdeal.main_arg8) = m ((c.tc : Thread Cert.PrepRIdeal.nD Cert.PrepRIdeal.τ).loc Cert.PrepRIdeal.main_arg8))
      ∧ r.2.sem = fun _ => 0)

def quiescent_PrepRIdeal_pre_finite_prep [hPrepRIdeal : Cert.PrepRIdeal.Facts] [hPre_finite_prep : Cert.Pre_finite_prep.Facts] : Prop :=
  ∀ (m : (ℓ : Loc Cert.PrepRIdeal.nD Cert.PrepRIdeal.τ Cert.PrepRIdeal.sig) → Buf (Elt Ideal) ℓ) (g : Dev Cert.PrepRIdeal.nD → PrngReg), Pre_PrepRIdeal_finite_prep m →
    θ_run (Cert.PrepRIdeal.defs (F := Ideal)) (onTc (τ := Cert.PrepRIdeal.τ) (Cert.PrepRIdeal.main (F := Ideal))) ⟨m, fun _ => 0, g⟩ (fun r => (∀ c : Dev Cert.PrepRIdeal.nD,
      r.2.mem ((c.tc : Thread Cert.PrepRIdeal.nD Cert.PrepRIdeal.τ).loc Cert.PrepRIdeal.main_arg0) = m ((c.tc : Thread Cert.PrepRIdeal.nD Cert.PrepRIdeal.τ).loc Cert.PrepRIdeal.main_arg0)
      ∧ r.2.mem ((c.tc : Thread Cert.PrepRIdeal.nD Cert.PrepRIdeal.τ).loc Cert.PrepRIdeal.main_arg1) = m ((c.tc : Thread Cert.PrepRIdeal.nD Cert.PrepRIdeal.τ).loc Cert.PrepRIdeal.main_arg1)
      ∧ r.2.mem ((c.tc : Thread Cert.PrepRIdeal.nD Cert.PrepRIdeal.τ).loc Cert.PrepRIdeal.main_arg2) = m ((c.tc : Thread Cert.PrepRIdeal.nD Cert.PrepRIdeal.τ).loc Cert.PrepRIdeal.main_arg2)
      ∧ r.2.mem ((c.tc : Thread Cert.PrepRIdeal.nD Cert.PrepRIdeal.τ).loc Cert.PrepRIdeal.main_arg3) = m ((c.tc : Thread Cert.PrepRIdeal.nD Cert.PrepRIdeal.τ).loc Cert.PrepRIdeal.main_arg3)
      ∧ r.2.mem ((c.tc : Thread Cert.PrepRIdeal.nD Cert.PrepRIdeal.τ).loc Cert.PrepRIdeal.main_arg4) = m ((c.tc : Thread Cert.PrepRIdeal.nD Cert.PrepRIdeal.τ).loc Cert.PrepRIdeal.main_arg4)
      ∧ r.2.mem ((c.tc : Thread Cert.PrepRIdeal.nD Cert.PrepRIdeal.τ).loc Cert.PrepRIdeal.main_arg5) = m ((c.tc : Thread Cert.PrepRIdeal.nD Cert.PrepRIdeal.τ).loc Cert.PrepRIdeal.main_arg5)
      ∧ r.2.mem ((c.tc : Thread Cert.PrepRIdeal.nD Cert.PrepRIdeal.τ).loc Cert.PrepRIdeal.main_arg6) = m ((c.tc : Thread Cert.PrepRIdeal.nD Cert.PrepRIdeal.τ).loc Cert.PrepRIdeal.main_arg6)
      ∧ r.2.mem ((c.tc : Thread Cert.PrepRIdeal.nD Cert.PrepRIdeal.τ).loc Cert.PrepRIdeal.main_arg7) = m ((c.tc : Thread Cert.PrepRIdeal.nD Cert.PrepRIdeal.τ).loc Cert.PrepRIdeal.main_arg7)
      ∧ r.2.mem ((c.tc : Thread Cert.PrepRIdeal.nD Cert.PrepRIdeal.τ).loc Cert.PrepRIdeal.main_arg8) = m ((c.tc : Thread Cert.PrepRIdeal.nD Cert.PrepRIdeal.τ).loc Cert.PrepRIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DactK_DactKIdeal : Prop :=
  True

def algebraic_DactKIdeal_DactRIdeal [hDactKIdeal : Cert.DactKIdeal.Facts] [hDactRIdeal : Cert.DactRIdeal.Facts] : Prop :=
  ∀ (m : (ℓ : Loc Cert.DactKIdeal.nD Cert.DactKIdeal.τ Cert.DactKIdeal.sig) → Buf (Elt Ideal) ℓ) (g : Dev Cert.DactKIdeal.nD → PrngReg)
    (m' : (ℓ : Loc Cert.DactRIdeal.nD Cert.DactRIdeal.τ Cert.DactRIdeal.sig) → Buf (Elt Ideal) ℓ) (g' : Dev Cert.DactRIdeal.nD → PrngReg), Pre_DactKIdeal m →
    (∀ c : Dev Cert.DactKIdeal.nD,
      m' ((c.tc : Thread Cert.DactRIdeal.nD Cert.DactRIdeal.τ).loc Cert.DactRIdeal.main_arg0) = m ((c.tc : Thread Cert.DactKIdeal.nD Cert.DactKIdeal.τ).loc Cert.DactKIdeal.main_arg0)
      ∧ m' ((c.tc : Thread Cert.DactRIdeal.nD Cert.DactRIdeal.τ).loc Cert.DactRIdeal.main_arg1) = m ((c.tc : Thread Cert.DactKIdeal.nD Cert.DactKIdeal.τ).loc Cert.DactKIdeal.main_arg1)) →
    ∃ (v0 : (c : Dev Cert.DactKIdeal.nD) → Buf (Elt Ideal) ((c.tc : Thread Cert.DactKIdeal.nD Cert.DactKIdeal.τ).loc Cert.DactKIdeal.main_v0)),
      θ_run (Cert.DactKIdeal.defs (F := Ideal)) (onTc (τ := Cert.DactKIdeal.τ) (Cert.DactKIdeal.main (F := Ideal))) ⟨m, fun _ => 0, g⟩ (fun r => ∀ c : Dev Cert.DactKIdeal.nD,
          r.2.mem ((c.tc : Thread Cert.DactKIdeal.nD Cert.DactKIdeal.τ).loc Cert.DactKIdeal.main_v0) = v0 c
          ∧ r.2.mem ((c.tc : Thread Cert.DactKIdeal.nD Cert.DactKIdeal.τ).loc Cert.DactKIdeal.main_arg0) = m ((c.tc : Thread Cert.DactKIdeal.nD Cert.DactKIdeal.τ).loc Cert.DactKIdeal.main_arg0)
          ∧ r.2.mem ((c.tc : Thread Cert.DactKIdeal.nD Cert.DactKIdeal.τ).loc Cert.DactKIdeal.main_arg1) = m ((c.tc : Thread Cert.DactKIdeal.nD Cert.DactKIdeal.τ).loc Cert.DactKIdeal.main_arg1))
      ∧ θ_run (Cert.DactRIdeal.defs (F := Ideal)) (onTc (τ := Cert.DactRIdeal.τ) (Cert.DactRIdeal.main (F := Ideal))) ⟨m', fun _ => 0, g'⟩ (fun r => ∀ c : Dev Cert.DactRIdeal.nD,
          r.2.mem ((c.tc : Thread Cert.DactRIdeal.nD Cert.DactRIdeal.τ).loc Cert.DactRIdeal.main_v3) = v0 c
          ∧ r.2.mem ((c.tc : Thread Cert.DactRIdeal.nD Cert.DactRIdeal.τ).loc Cert.DactRIdeal.main_arg0) = m' ((c.tc : Thread Cert.DactRIdeal.nD Cert.DactRIdeal.τ).loc Cert.DactRIdeal.main_arg0)
          ∧ r.2.mem ((c.tc : Thread Cert.DactRIdeal.nD Cert.DactRIdeal.τ).loc Cert.DactRIdeal.main_arg1) = m' ((c.tc : Thread Cert.DactRIdeal.nD Cert.DactRIdeal.τ).loc Cert.DactRIdeal.main_arg1))

def preserves_GupK_GupKIdeal : Prop :=
  True

def algebraic_GupKIdeal_GupRIdeal [hGupKIdeal : Cert.GupKIdeal.Facts] [hGupRIdeal : Cert.GupRIdeal.Facts] : Prop :=
  ∀ (m : (ℓ : Loc Cert.GupKIdeal.nD Cert.GupKIdeal.τ Cert.GupKIdeal.sig) → Buf (Elt Ideal) ℓ) (g : Dev Cert.GupKIdeal.nD → PrngReg)
    (m' : (ℓ : Loc Cert.GupRIdeal.nD Cert.GupRIdeal.τ Cert.GupRIdeal.sig) → Buf (Elt Ideal) ℓ) (g' : Dev Cert.GupRIdeal.nD → PrngReg), Pre_GupKIdeal m →
    (∀ c : Dev Cert.GupKIdeal.nD,
      m' ((c.tc : Thread Cert.GupRIdeal.nD Cert.GupRIdeal.τ).loc Cert.GupRIdeal.main_arg0) = m ((c.tc : Thread Cert.GupKIdeal.nD Cert.GupKIdeal.τ).loc Cert.GupKIdeal.main_arg0)
      ∧ m' ((c.tc : Thread Cert.GupRIdeal.nD Cert.GupRIdeal.τ).loc Cert.GupRIdeal.main_arg1) = m ((c.tc : Thread Cert.GupKIdeal.nD Cert.GupKIdeal.τ).loc Cert.GupKIdeal.main_arg1)) →
    ∃ (v0 : (c : Dev Cert.GupKIdeal.nD) → Buf (Elt Ideal) ((c.tc : Thread Cert.GupKIdeal.nD Cert.GupKIdeal.τ).loc Cert.GupKIdeal.main_v0)),
      θ_run (Cert.GupKIdeal.defs (F := Ideal)) (onTc (τ := Cert.GupKIdeal.τ) (Cert.GupKIdeal.main (F := Ideal))) ⟨m, fun _ => 0, g⟩ (fun r => ∀ c : Dev Cert.GupKIdeal.nD,
          r.2.mem ((c.tc : Thread Cert.GupKIdeal.nD Cert.GupKIdeal.τ).loc Cert.GupKIdeal.main_v0) = v0 c
          ∧ r.2.mem ((c.tc : Thread Cert.GupKIdeal.nD Cert.GupKIdeal.τ).loc Cert.GupKIdeal.main_arg0) = m ((c.tc : Thread Cert.GupKIdeal.nD Cert.GupKIdeal.τ).loc Cert.GupKIdeal.main_arg0)
          ∧ r.2.mem ((c.tc : Thread Cert.GupKIdeal.nD Cert.GupKIdeal.τ).loc Cert.GupKIdeal.main_arg1) = m ((c.tc : Thread Cert.GupKIdeal.nD Cert.GupKIdeal.τ).loc Cert.GupKIdeal.main_arg1))
      ∧ θ_run (Cert.GupRIdeal.defs (F := Ideal)) (onTc (τ := Cert.GupRIdeal.τ) (Cert.GupRIdeal.main (F := Ideal))) ⟨m', fun _ => 0, g'⟩ (fun r => ∀ c : Dev Cert.GupRIdeal.nD,
          r.2.mem ((c.tc : Thread Cert.GupRIdeal.nD Cert.GupRIdeal.τ).loc Cert.GupRIdeal.main_v15) = v0 c
          ∧ r.2.mem ((c.tc : Thread Cert.GupRIdeal.nD Cert.GupRIdeal.τ).loc Cert.GupRIdeal.main_arg0) = m' ((c.tc : Thread Cert.GupRIdeal.nD Cert.GupRIdeal.τ).loc Cert.GupRIdeal.main_arg0)
          ∧ r.2.mem ((c.tc : Thread Cert.GupRIdeal.nD Cert.GupRIdeal.τ).loc Cert.GupRIdeal.main_arg1) = m' ((c.tc : Thread Cert.GupRIdeal.nD Cert.GupRIdeal.τ).loc Cert.GupRIdeal.main_arg1))

def preserves_DuTwoK_DuTwoKIdeal : Prop :=
  True

def algebraic_DuTwoKIdeal_DuTwoRIdeal [hDuTwoKIdeal : Cert.DuTwoKIdeal.Facts] [hDuTwoRIdeal : Cert.DuTwoRIdeal.Facts] : Prop :=
  ∀ (m : (ℓ : Loc Cert.DuTwoKIdeal.nD Cert.DuTwoKIdeal.τ Cert.DuTwoKIdeal.sig) → Buf (Elt Ideal) ℓ) (g : Dev Cert.DuTwoKIdeal.nD → PrngReg)
    (m' : (ℓ : Loc Cert.DuTwoRIdeal.nD Cert.DuTwoRIdeal.τ Cert.DuTwoRIdeal.sig) → Buf (Elt Ideal) ℓ) (g' : Dev Cert.DuTwoRIdeal.nD → PrngReg), Pre_DuTwoKIdeal m →
    (∀ c : Dev Cert.DuTwoKIdeal.nD,
      m' ((c.tc : Thread Cert.DuTwoRIdeal.nD Cert.DuTwoRIdeal.τ).loc Cert.DuTwoRIdeal.main_arg0) = m ((c.tc : Thread Cert.DuTwoKIdeal.nD Cert.DuTwoKIdeal.τ).loc Cert.DuTwoKIdeal.main_arg0)
      ∧ m' ((c.tc : Thread Cert.DuTwoRIdeal.nD Cert.DuTwoRIdeal.τ).loc Cert.DuTwoRIdeal.main_arg1) = m ((c.tc : Thread Cert.DuTwoKIdeal.nD Cert.DuTwoKIdeal.τ).loc Cert.DuTwoKIdeal.main_arg1)) →
    ∃ (v0 : (c : Dev Cert.DuTwoKIdeal.nD) → Buf (Elt Ideal) ((c.tc : Thread Cert.DuTwoKIdeal.nD Cert.DuTwoKIdeal.τ).loc Cert.DuTwoKIdeal.main_v0)),
      θ_run (Cert.DuTwoKIdeal.defs (F := Ideal)) (onTc (τ := Cert.DuTwoKIdeal.τ) (Cert.DuTwoKIdeal.main (F := Ideal))) ⟨m, fun _ => 0, g⟩ (fun r => ∀ c : Dev Cert.DuTwoKIdeal.nD,
          r.2.mem ((c.tc : Thread Cert.DuTwoKIdeal.nD Cert.DuTwoKIdeal.τ).loc Cert.DuTwoKIdeal.main_v0) = v0 c
          ∧ r.2.mem ((c.tc : Thread Cert.DuTwoKIdeal.nD Cert.DuTwoKIdeal.τ).loc Cert.DuTwoKIdeal.main_arg0) = m ((c.tc : Thread Cert.DuTwoKIdeal.nD Cert.DuTwoKIdeal.τ).loc Cert.DuTwoKIdeal.main_arg0)
          ∧ r.2.mem ((c.tc : Thread Cert.DuTwoKIdeal.nD Cert.DuTwoKIdeal.τ).loc Cert.DuTwoKIdeal.main_arg1) = m ((c.tc : Thread Cert.DuTwoKIdeal.nD Cert.DuTwoKIdeal.τ).loc Cert.DuTwoKIdeal.main_arg1))
      ∧ θ_run (Cert.DuTwoRIdeal.defs (F := Ideal)) (onTc (τ := Cert.DuTwoRIdeal.τ) (Cert.DuTwoRIdeal.main (F := Ideal))) ⟨m', fun _ => 0, g'⟩ (fun r => ∀ c : Dev Cert.DuTwoRIdeal.nD,
          r.2.mem ((c.tc : Thread Cert.DuTwoRIdeal.nD Cert.DuTwoRIdeal.τ).loc Cert.DuTwoRIdeal.main_v4) = v0 c
          ∧ r.2.mem ((c.tc : Thread Cert.DuTwoRIdeal.nD Cert.DuTwoRIdeal.τ).loc Cert.DuTwoRIdeal.main_arg0) = m' ((c.tc : Thread Cert.DuTwoRIdeal.nD Cert.DuTwoRIdeal.τ).loc Cert.DuTwoRIdeal.main_arg0)
          ∧ r.2.mem ((c.tc : Thread Cert.DuTwoRIdeal.nD Cert.DuTwoRIdeal.τ).loc Cert.DuTwoRIdeal.main_arg1) = m' ((c.tc : Thread Cert.DuTwoRIdeal.nD Cert.DuTwoRIdeal.τ).loc Cert.DuTwoRIdeal.main_arg1))

def preserves_GdownK_GdownKIdeal : Prop :=
  True

def algebraic_GdownKIdeal_GdownRIdeal [hGdownKIdeal : Cert.GdownKIdeal.Facts] [hGdownRIdeal : Cert.GdownRIdeal.Facts] : Prop :=
  ∀ (m : (ℓ : Loc Cert.GdownKIdeal.nD Cert.GdownKIdeal.τ Cert.GdownKIdeal.sig) → Buf (Elt Ideal) ℓ) (g : Dev Cert.GdownKIdeal.nD → PrngReg)
    (m' : (ℓ : Loc Cert.GdownRIdeal.nD Cert.GdownRIdeal.τ Cert.GdownRIdeal.sig) → Buf (Elt Ideal) ℓ) (g' : Dev Cert.GdownRIdeal.nD → PrngReg), Pre_GdownKIdeal m →
    (∀ c : Dev Cert.GdownKIdeal.nD,
      m' ((c.tc : Thread Cert.GdownRIdeal.nD Cert.GdownRIdeal.τ).loc Cert.GdownRIdeal.main_arg0) = m ((c.tc : Thread Cert.GdownKIdeal.nD Cert.GdownKIdeal.τ).loc Cert.GdownKIdeal.main_arg0)
      ∧ m' ((c.tc : Thread Cert.GdownRIdeal.nD Cert.GdownRIdeal.τ).loc Cert.GdownRIdeal.main_arg1) = m ((c.tc : Thread Cert.GdownKIdeal.nD Cert.GdownKIdeal.τ).loc Cert.GdownKIdeal.main_arg1)) →
    ∃ (v0 : (c : Dev Cert.GdownKIdeal.nD) → Buf (Elt Ideal) ((c.tc : Thread Cert.GdownKIdeal.nD Cert.GdownKIdeal.τ).loc Cert.GdownKIdeal.main_v0)),
      θ_run (Cert.GdownKIdeal.defs (F := Ideal)) (onTc (τ := Cert.GdownKIdeal.τ) (Cert.GdownKIdeal.main (F := Ideal))) ⟨m, fun _ => 0, g⟩ (fun r => ∀ c : Dev Cert.GdownKIdeal.nD,
          r.2.mem ((c.tc : Thread Cert.GdownKIdeal.nD Cert.GdownKIdeal.τ).loc Cert.GdownKIdeal.main_v0) = v0 c
          ∧ r.2.mem ((c.tc : Thread Cert.GdownKIdeal.nD Cert.GdownKIdeal.τ).loc Cert.GdownKIdeal.main_arg0) = m ((c.tc : Thread Cert.GdownKIdeal.nD Cert.GdownKIdeal.τ).loc Cert.GdownKIdeal.main_arg0)
          ∧ r.2.mem ((c.tc : Thread Cert.GdownKIdeal.nD Cert.GdownKIdeal.τ).loc Cert.GdownKIdeal.main_arg1) = m ((c.tc : Thread Cert.GdownKIdeal.nD Cert.GdownKIdeal.τ).loc Cert.GdownKIdeal.main_arg1))
      ∧ θ_run (Cert.GdownRIdeal.defs (F := Ideal)) (onTc (τ := Cert.GdownRIdeal.τ) (Cert.GdownRIdeal.main (F := Ideal))) ⟨m', fun _ => 0, g'⟩ (fun r => ∀ c : Dev Cert.GdownRIdeal.nD,
          r.2.mem ((c.tc : Thread Cert.GdownRIdeal.nD Cert.GdownRIdeal.τ).loc Cert.GdownRIdeal.main_v5) = v0 c
          ∧ r.2.mem ((c.tc : Thread Cert.GdownRIdeal.nD Cert.GdownRIdeal.τ).loc Cert.GdownRIdeal.main_arg0) = m' ((c.tc : Thread Cert.GdownRIdeal.nD Cert.GdownRIdeal.τ).loc Cert.GdownRIdeal.main_arg0)
          ∧ r.2.mem ((c.tc : Thread Cert.GdownRIdeal.nD Cert.GdownRIdeal.τ).loc Cert.GdownRIdeal.main_arg1) = m' ((c.tc : Thread Cert.GdownRIdeal.nD Cert.GdownRIdeal.τ).loc Cert.GdownRIdeal.main_arg1))

def preserves_GoutK_GoutKIdeal : Prop :=
  True

def algebraic_GoutKIdeal_GoutRIdeal [hGoutKIdeal : Cert.GoutKIdeal.Facts] [hGoutRIdeal : Cert.GoutRIdeal.Facts] : Prop :=
  ∀ (m : (ℓ : Loc Cert.GoutKIdeal.nD Cert.GoutKIdeal.τ Cert.GoutKIdeal.sig) → Buf (Elt Ideal) ℓ) (g : Dev Cert.GoutKIdeal.nD → PrngReg)
    (m' : (ℓ : Loc Cert.GoutRIdeal.nD Cert.GoutRIdeal.τ Cert.GoutRIdeal.sig) → Buf (Elt Ideal) ℓ) (g' : Dev Cert.GoutRIdeal.nD → PrngReg), Pre_GoutKIdeal m →
    (∀ c : Dev Cert.GoutKIdeal.nD,
      m' ((c.tc : Thread Cert.GoutRIdeal.nD Cert.GoutRIdeal.τ).loc Cert.GoutRIdeal.main_arg0) = m ((c.tc : Thread Cert.GoutKIdeal.nD Cert.GoutKIdeal.τ).loc Cert.GoutKIdeal.main_arg0)
      ∧ m' ((c.tc : Thread Cert.GoutRIdeal.nD Cert.GoutRIdeal.τ).loc Cert.GoutRIdeal.main_arg1) = m ((c.tc : Thread Cert.GoutKIdeal.nD Cert.GoutKIdeal.τ).loc Cert.GoutKIdeal.main_arg1)) →
    ∃ (v0 : (c : Dev Cert.GoutKIdeal.nD) → Buf (Elt Ideal) ((c.tc : Thread Cert.GoutKIdeal.nD Cert.GoutKIdeal.τ).loc Cert.GoutKIdeal.main_v0)),
      θ_run (Cert.GoutKIdeal.defs (F := Ideal)) (onTc (τ := Cert.GoutKIdeal.τ) (Cert.GoutKIdeal.main (F := Ideal))) ⟨m, fun _ => 0, g⟩ (fun r => ∀ c : Dev Cert.GoutKIdeal.nD,
          r.2.mem ((c.tc : Thread Cert.GoutKIdeal.nD Cert.GoutKIdeal.τ).loc Cert.GoutKIdeal.main_v0) = v0 c
          ∧ r.2.mem ((c.tc : Thread Cert.GoutKIdeal.nD Cert.GoutKIdeal.τ).loc Cert.GoutKIdeal.main_arg0) = m ((c.tc : Thread Cert.GoutKIdeal.nD Cert.GoutKIdeal.τ).loc Cert.GoutKIdeal.main_arg0)
          ∧ r.2.mem ((c.tc : Thread Cert.GoutKIdeal.nD Cert.GoutKIdeal.τ).loc Cert.GoutKIdeal.main_arg1) = m ((c.tc : Thread Cert.GoutKIdeal.nD Cert.GoutKIdeal.τ).loc Cert.GoutKIdeal.main_arg1))
      ∧ θ_run (Cert.GoutRIdeal.defs (F := Ideal)) (onTc (τ := Cert.GoutRIdeal.τ) (Cert.GoutRIdeal.main (F := Ideal))) ⟨m', fun _ => 0, g'⟩ (fun r => ∀ c : Dev Cert.GoutRIdeal.nD,
          r.2.mem ((c.tc : Thread Cert.GoutRIdeal.nD Cert.GoutRIdeal.τ).loc Cert.GoutRIdeal.main_v5) = v0 c
          ∧ r.2.mem ((c.tc : Thread Cert.GoutRIdeal.nD Cert.GoutRIdeal.τ).loc Cert.GoutRIdeal.main_arg0) = m' ((c.tc : Thread Cert.GoutRIdeal.nD Cert.GoutRIdeal.τ).loc Cert.GoutRIdeal.main_arg0)
          ∧ r.2.mem ((c.tc : Thread Cert.GoutRIdeal.nD Cert.GoutRIdeal.τ).loc Cert.GoutRIdeal.main_arg1) = m' ((c.tc : Thread Cert.GoutRIdeal.nD Cert.GoutRIdeal.τ).loc Cert.GoutRIdeal.main_arg1))

def preserves_GraK_GraKIdeal : Prop :=
  True

def algebraic_GraKIdeal_GraRIdeal [hGraKIdeal : Cert.GraKIdeal.Facts] [hGraRIdeal : Cert.GraRIdeal.Facts] : Prop :=
  ∀ (m : (ℓ : Loc Cert.GraKIdeal.nD Cert.GraKIdeal.τ Cert.GraKIdeal.sig) → Buf (Elt Ideal) ℓ) (g : Dev Cert.GraKIdeal.nD → PrngReg)
    (m' : (ℓ : Loc Cert.GraRIdeal.nD Cert.GraRIdeal.τ Cert.GraRIdeal.sig) → Buf (Elt Ideal) ℓ) (g' : Dev Cert.GraRIdeal.nD → PrngReg), Pre_GraKIdeal m →
    (∀ c : Dev Cert.GraKIdeal.nD,
      m' ((c.tc : Thread Cert.GraRIdeal.nD Cert.GraRIdeal.τ).loc Cert.GraRIdeal.main_arg0) = m ((c.tc : Thread Cert.GraKIdeal.nD Cert.GraKIdeal.τ).loc Cert.GraKIdeal.main_arg0)
      ∧ m' ((c.tc : Thread Cert.GraRIdeal.nD Cert.GraRIdeal.τ).loc Cert.GraRIdeal.main_arg1) = m ((c.tc : Thread Cert.GraKIdeal.nD Cert.GraKIdeal.τ).loc Cert.GraKIdeal.main_arg1)) →
    ∃ (v0 : (c : Dev Cert.GraKIdeal.nD) → Buf (Elt Ideal) ((c.tc : Thread Cert.GraKIdeal.nD Cert.GraKIdeal.τ).loc Cert.GraKIdeal.main_v0)),
      θ_run (Cert.GraKIdeal.defs (F := Ideal)) (onTc (τ := Cert.GraKIdeal.τ) (Cert.GraKIdeal.main (F := Ideal))) ⟨m, fun _ => 0, g⟩ (fun r => ∀ c : Dev Cert.GraKIdeal.nD,
          r.2.mem ((c.tc : Thread Cert.GraKIdeal.nD Cert.GraKIdeal.τ).loc Cert.GraKIdeal.main_v0) = v0 c
          ∧ r.2.mem ((c.tc : Thread Cert.GraKIdeal.nD Cert.GraKIdeal.τ).loc Cert.GraKIdeal.main_arg0) = m ((c.tc : Thread Cert.GraKIdeal.nD Cert.GraKIdeal.τ).loc Cert.GraKIdeal.main_arg0)
          ∧ r.2.mem ((c.tc : Thread Cert.GraKIdeal.nD Cert.GraKIdeal.τ).loc Cert.GraKIdeal.main_arg1) = m ((c.tc : Thread Cert.GraKIdeal.nD Cert.GraKIdeal.τ).loc Cert.GraKIdeal.main_arg1))
      ∧ θ_run (Cert.GraRIdeal.defs (F := Ideal)) (onTc (τ := Cert.GraRIdeal.τ) (Cert.GraRIdeal.main (F := Ideal))) ⟨m', fun _ => 0, g'⟩ (fun r => ∀ c : Dev Cert.GraRIdeal.nD,
          r.2.mem ((c.tc : Thread Cert.GraRIdeal.nD Cert.GraRIdeal.τ).loc Cert.GraRIdeal.main_v15) = v0 c
          ∧ r.2.mem ((c.tc : Thread Cert.GraRIdeal.nD Cert.GraRIdeal.τ).loc Cert.GraRIdeal.main_arg0) = m' ((c.tc : Thread Cert.GraRIdeal.nD Cert.GraRIdeal.τ).loc Cert.GraRIdeal.main_arg0)
          ∧ r.2.mem ((c.tc : Thread Cert.GraRIdeal.nD Cert.GraRIdeal.τ).loc Cert.GraRIdeal.main_arg1) = m' ((c.tc : Thread Cert.GraRIdeal.nD Cert.GraRIdeal.τ).loc Cert.GraRIdeal.main_arg1))

def preserves_UpK_UpKIdeal : Prop :=
  True

def algebraic_UpKIdeal_UpRIdeal [hUpKIdeal : Cert.UpKIdeal.Facts] [hUpRIdeal : Cert.UpRIdeal.Facts] : Prop :=
  ∀ (m : (ℓ : Loc Cert.UpKIdeal.nD Cert.UpKIdeal.τ Cert.UpKIdeal.sig) → Buf (Elt Ideal) ℓ) (g : Dev Cert.UpKIdeal.nD → PrngReg)
    (m' : (ℓ : Loc Cert.UpRIdeal.nD Cert.UpRIdeal.τ Cert.UpRIdeal.sig) → Buf (Elt Ideal) ℓ) (g' : Dev Cert.UpRIdeal.nD → PrngReg), Pre_UpKIdeal m →
    (∀ c : Dev Cert.UpKIdeal.nD,
      m' ((c.tc : Thread Cert.UpRIdeal.nD Cert.UpRIdeal.τ).loc Cert.UpRIdeal.main_arg0) = m ((c.tc : Thread Cert.UpKIdeal.nD Cert.UpKIdeal.τ).loc Cert.UpKIdeal.main_arg0)
      ∧ m' ((c.tc : Thread Cert.UpRIdeal.nD Cert.UpRIdeal.τ).loc Cert.UpRIdeal.main_arg1) = m ((c.tc : Thread Cert.UpKIdeal.nD Cert.UpKIdeal.τ).loc Cert.UpKIdeal.main_arg1)) →
    ∃ (v0 : (c : Dev Cert.UpKIdeal.nD) → Buf (Elt Ideal) ((c.tc : Thread Cert.UpKIdeal.nD Cert.UpKIdeal.τ).loc Cert.UpKIdeal.main_v0)),
      θ_run (Cert.UpKIdeal.defs (F := Ideal)) (onTc (τ := Cert.UpKIdeal.τ) (Cert.UpKIdeal.main (F := Ideal))) ⟨m, fun _ => 0, g⟩ (fun r => ∀ c : Dev Cert.UpKIdeal.nD,
          r.2.mem ((c.tc : Thread Cert.UpKIdeal.nD Cert.UpKIdeal.τ).loc Cert.UpKIdeal.main_v0) = v0 c
          ∧ r.2.mem ((c.tc : Thread Cert.UpKIdeal.nD Cert.UpKIdeal.τ).loc Cert.UpKIdeal.main_arg0) = m ((c.tc : Thread Cert.UpKIdeal.nD Cert.UpKIdeal.τ).loc Cert.UpKIdeal.main_arg0)
          ∧ r.2.mem ((c.tc : Thread Cert.UpKIdeal.nD Cert.UpKIdeal.τ).loc Cert.UpKIdeal.main_arg1) = m ((c.tc : Thread Cert.UpKIdeal.nD Cert.UpKIdeal.τ).loc Cert.UpKIdeal.main_arg1))
      ∧ θ_run (Cert.UpRIdeal.defs (F := Ideal)) (onTc (τ := Cert.UpRIdeal.τ) (Cert.UpRIdeal.main (F := Ideal))) ⟨m', fun _ => 0, g'⟩ (fun r => ∀ c : Dev Cert.UpRIdeal.nD,
          r.2.mem ((c.tc : Thread Cert.UpRIdeal.nD Cert.UpRIdeal.τ).loc Cert.UpRIdeal.main_v2) = v0 c
          ∧ r.2.mem ((c.tc : Thread Cert.UpRIdeal.nD Cert.UpRIdeal.τ).loc Cert.UpRIdeal.main_arg0) = m' ((c.tc : Thread Cert.UpRIdeal.nD Cert.UpRIdeal.τ).loc Cert.UpRIdeal.main_arg0)
          ∧ r.2.mem ((c.tc : Thread Cert.UpRIdeal.nD Cert.UpRIdeal.τ).loc Cert.UpRIdeal.main_arg1) = m' ((c.tc : Thread Cert.UpRIdeal.nD Cert.UpRIdeal.τ).loc Cert.UpRIdeal.main_arg1))

def preserves_InRwkvK_InRwkvKIdeal : Prop :=
  True

def algebraic_InRwkvKIdeal_InRwkvRIdeal [hInRwkvKIdeal : Cert.InRwkvKIdeal.Facts] [hInRwkvRIdeal : Cert.InRwkvRIdeal.Facts] : Prop :=
  ∀ (m : (ℓ : Loc Cert.InRwkvKIdeal.nD Cert.InRwkvKIdeal.τ Cert.InRwkvKIdeal.sig) → Buf (Elt Ideal) ℓ) (g : Dev Cert.InRwkvKIdeal.nD → PrngReg)
    (m' : (ℓ : Loc Cert.InRwkvRIdeal.nD Cert.InRwkvRIdeal.τ Cert.InRwkvRIdeal.sig) → Buf (Elt Ideal) ℓ) (g' : Dev Cert.InRwkvRIdeal.nD → PrngReg), Pre_InRwkvKIdeal m →
    (∀ c : Dev Cert.InRwkvKIdeal.nD,
      m' ((c.tc : Thread Cert.InRwkvRIdeal.nD Cert.InRwkvRIdeal.τ).loc Cert.InRwkvRIdeal.main_arg0) = m ((c.tc : Thread Cert.InRwkvKIdeal.nD Cert.InRwkvKIdeal.τ).loc Cert.InRwkvKIdeal.main_arg0)
      ∧ m' ((c.tc : Thread Cert.InRwkvRIdeal.nD Cert.InRwkvRIdeal.τ).loc Cert.InRwkvRIdeal.main_arg1) = m ((c.tc : Thread Cert.InRwkvKIdeal.nD Cert.InRwkvKIdeal.τ).loc Cert.InRwkvKIdeal.main_arg1)) →
    ∃ (v0 : (c : Dev Cert.InRwkvKIdeal.nD) → Buf (Elt Ideal) ((c.tc : Thread Cert.InRwkvKIdeal.nD Cert.InRwkvKIdeal.τ).loc Cert.InRwkvKIdeal.main_v1)),
      θ_run (Cert.InRwkvKIdeal.defs (F := Ideal)) (onTc (τ := Cert.InRwkvKIdeal.τ) (Cert.InRwkvKIdeal.main (F := Ideal))) ⟨m, fun _ => 0, g⟩ (fun r => ∀ c : Dev Cert.InRwkvKIdeal.nD,
          r.2.mem ((c.tc : Thread Cert.InRwkvKIdeal.nD Cert.InRwkvKIdeal.τ).loc Cert.InRwkvKIdeal.main_v1) = v0 c
          ∧ r.2.mem ((c.tc : Thread Cert.InRwkvKIdeal.nD Cert.InRwkvKIdeal.τ).loc Cert.InRwkvKIdeal.main_arg0) = m ((c.tc : Thread Cert.InRwkvKIdeal.nD Cert.InRwkvKIdeal.τ).loc Cert.InRwkvKIdeal.main_arg0)
          ∧ r.2.mem ((c.tc : Thread Cert.InRwkvKIdeal.nD Cert.InRwkvKIdeal.τ).loc Cert.InRwkvKIdeal.main_arg1) = m ((c.tc : Thread Cert.InRwkvKIdeal.nD Cert.InRwkvKIdeal.τ).loc Cert.InRwkvKIdeal.main_arg1))
      ∧ θ_run (Cert.InRwkvRIdeal.defs (F := Ideal)) (onTc (τ := Cert.InRwkvRIdeal.τ) (Cert.InRwkvRIdeal.main (F := Ideal))) ⟨m', fun _ => 0, g'⟩ (fun r => ∀ c : Dev Cert.InRwkvRIdeal.nD,
          r.2.mem ((c.tc : Thread Cert.InRwkvRIdeal.nD Cert.InRwkvRIdeal.τ).loc Cert.InRwkvRIdeal.main_v3) = v0 c
          ∧ r.2.mem ((c.tc : Thread Cert.InRwkvRIdeal.nD Cert.InRwkvRIdeal.τ).loc Cert.InRwkvRIdeal.main_arg0) = m' ((c.tc : Thread Cert.InRwkvRIdeal.nD Cert.InRwkvRIdeal.τ).loc Cert.InRwkvRIdeal.main_arg0)
          ∧ r.2.mem ((c.tc : Thread Cert.InRwkvRIdeal.nD Cert.InRwkvRIdeal.τ).loc Cert.InRwkvRIdeal.main_arg1) = m' ((c.tc : Thread Cert.InRwkvRIdeal.nD Cert.InRwkvRIdeal.τ).loc Cert.InRwkvRIdeal.main_arg1))

def preserves_InQkvK_InQkvKIdeal : Prop :=
  True

def algebraic_InQkvKIdeal_InQkvRIdeal [hInQkvKIdeal : Cert.InQkvKIdeal.Facts] [hInQkvRIdeal : Cert.InQkvRIdeal.Facts] : Prop :=
  ∀ (m : (ℓ : Loc Cert.InQkvKIdeal.nD Cert.InQkvKIdeal.τ Cert.InQkvKIdeal.sig) → Buf (Elt Ideal) ℓ) (g : Dev Cert.InQkvKIdeal.nD → PrngReg)
    (m' : (ℓ : Loc Cert.InQkvRIdeal.nD Cert.InQkvRIdeal.τ Cert.InQkvRIdeal.sig) → Buf (Elt Ideal) ℓ) (g' : Dev Cert.InQkvRIdeal.nD → PrngReg), Pre_InQkvKIdeal m →
    (∀ c : Dev Cert.InQkvKIdeal.nD,
      m' ((c.tc : Thread Cert.InQkvRIdeal.nD Cert.InQkvRIdeal.τ).loc Cert.InQkvRIdeal.main_arg0) = m ((c.tc : Thread Cert.InQkvKIdeal.nD Cert.InQkvKIdeal.τ).loc Cert.InQkvKIdeal.main_arg0)
      ∧ m' ((c.tc : Thread Cert.InQkvRIdeal.nD Cert.InQkvRIdeal.τ).loc Cert.InQkvRIdeal.main_arg1) = m ((c.tc : Thread Cert.InQkvKIdeal.nD Cert.InQkvKIdeal.τ).loc Cert.InQkvKIdeal.main_arg1)) →
    ∃ (v0 : (c : Dev Cert.InQkvKIdeal.nD) → Buf (Elt Ideal) ((c.tc : Thread Cert.InQkvKIdeal.nD Cert.InQkvKIdeal.τ).loc Cert.InQkvKIdeal.main_v1)),
      θ_run (Cert.InQkvKIdeal.defs (F := Ideal)) (onTc (τ := Cert.InQkvKIdeal.τ) (Cert.InQkvKIdeal.main (F := Ideal))) ⟨m, fun _ => 0, g⟩ (fun r => ∀ c : Dev Cert.InQkvKIdeal.nD,
          r.2.mem ((c.tc : Thread Cert.InQkvKIdeal.nD Cert.InQkvKIdeal.τ).loc Cert.InQkvKIdeal.main_v1) = v0 c
          ∧ r.2.mem ((c.tc : Thread Cert.InQkvKIdeal.nD Cert.InQkvKIdeal.τ).loc Cert.InQkvKIdeal.main_arg0) = m ((c.tc : Thread Cert.InQkvKIdeal.nD Cert.InQkvKIdeal.τ).loc Cert.InQkvKIdeal.main_arg0)
          ∧ r.2.mem ((c.tc : Thread Cert.InQkvKIdeal.nD Cert.InQkvKIdeal.τ).loc Cert.InQkvKIdeal.main_arg1) = m ((c.tc : Thread Cert.InQkvKIdeal.nD Cert.InQkvKIdeal.τ).loc Cert.InQkvKIdeal.main_arg1))
      ∧ θ_run (Cert.InQkvRIdeal.defs (F := Ideal)) (onTc (τ := Cert.InQkvRIdeal.τ) (Cert.InQkvRIdeal.main (F := Ideal))) ⟨m', fun _ => 0, g'⟩ (fun r => ∀ c : Dev Cert.InQkvRIdeal.nD,
          r.2.mem ((c.tc : Thread Cert.InQkvRIdeal.nD Cert.InQkvRIdeal.τ).loc Cert.InQkvRIdeal.main_v3) = v0 c
          ∧ r.2.mem ((c.tc : Thread Cert.InQkvRIdeal.nD Cert.InQkvRIdeal.τ).loc Cert.InQkvRIdeal.main_arg0) = m' ((c.tc : Thread Cert.InQkvRIdeal.nD Cert.InQkvRIdeal.τ).loc Cert.InQkvRIdeal.main_arg0)
          ∧ r.2.mem ((c.tc : Thread Cert.InQkvRIdeal.nD Cert.InQkvRIdeal.τ).loc Cert.InQkvRIdeal.main_arg1) = m' ((c.tc : Thread Cert.InQkvRIdeal.nD Cert.InQkvRIdeal.τ).loc Cert.InQkvRIdeal.main_arg1))

def preserves_InZzK_InZzKIdeal : Prop :=
  True

def algebraic_InZzKIdeal_InZzRIdeal [hInZzKIdeal : Cert.InZzKIdeal.Facts] [hInZzRIdeal : Cert.InZzRIdeal.Facts] : Prop :=
  ∀ (m : (ℓ : Loc Cert.InZzKIdeal.nD Cert.InZzKIdeal.τ Cert.InZzKIdeal.sig) → Buf (Elt Ideal) ℓ) (g : Dev Cert.InZzKIdeal.nD → PrngReg)
    (m' : (ℓ : Loc Cert.InZzRIdeal.nD Cert.InZzRIdeal.τ Cert.InZzRIdeal.sig) → Buf (Elt Ideal) ℓ) (g' : Dev Cert.InZzRIdeal.nD → PrngReg), Pre_InZzKIdeal m →
    (∀ c : Dev Cert.InZzKIdeal.nD,
      m' ((c.tc : Thread Cert.InZzRIdeal.nD Cert.InZzRIdeal.τ).loc Cert.InZzRIdeal.main_arg0) = m ((c.tc : Thread Cert.InZzKIdeal.nD Cert.InZzKIdeal.τ).loc Cert.InZzKIdeal.main_arg0)
      ∧ m' ((c.tc : Thread Cert.InZzRIdeal.nD Cert.InZzRIdeal.τ).loc Cert.InZzRIdeal.main_arg1) = m ((c.tc : Thread Cert.InZzKIdeal.nD Cert.InZzKIdeal.τ).loc Cert.InZzKIdeal.main_arg1)) →
    ∃ (v0 : (c : Dev Cert.InZzKIdeal.nD) → Buf (Elt Ideal) ((c.tc : Thread Cert.InZzKIdeal.nD Cert.InZzKIdeal.τ).loc Cert.InZzKIdeal.main_v1)),
      θ_run (Cert.InZzKIdeal.defs (F := Ideal)) (onTc (τ := Cert.InZzKIdeal.τ) (Cert.InZzKIdeal.main (F := Ideal))) ⟨m, fun _ => 0, g⟩ (fun r => ∀ c : Dev Cert.InZzKIdeal.nD,
          r.2.mem ((c.tc : Thread Cert.InZzKIdeal.nD Cert.InZzKIdeal.τ).loc Cert.InZzKIdeal.main_v1) = v0 c
          ∧ r.2.mem ((c.tc : Thread Cert.InZzKIdeal.nD Cert.InZzKIdeal.τ).loc Cert.InZzKIdeal.main_arg0) = m ((c.tc : Thread Cert.InZzKIdeal.nD Cert.InZzKIdeal.τ).loc Cert.InZzKIdeal.main_arg0)
          ∧ r.2.mem ((c.tc : Thread Cert.InZzKIdeal.nD Cert.InZzKIdeal.τ).loc Cert.InZzKIdeal.main_arg1) = m ((c.tc : Thread Cert.InZzKIdeal.nD Cert.InZzKIdeal.τ).loc Cert.InZzKIdeal.main_arg1))
      ∧ θ_run (Cert.InZzRIdeal.defs (F := Ideal)) (onTc (τ := Cert.InZzRIdeal.τ) (Cert.InZzRIdeal.main (F := Ideal))) ⟨m', fun _ => 0, g'⟩ (fun r => ∀ c : Dev Cert.InZzRIdeal.nD,
          r.2.mem ((c.tc : Thread Cert.InZzRIdeal.nD Cert.InZzRIdeal.τ).loc Cert.InZzRIdeal.main_v3) = v0 c
          ∧ r.2.mem ((c.tc : Thread Cert.InZzRIdeal.nD Cert.InZzRIdeal.τ).loc Cert.InZzRIdeal.main_arg0) = m' ((c.tc : Thread Cert.InZzRIdeal.nD Cert.InZzRIdeal.τ).loc Cert.InZzRIdeal.main_arg0)
          ∧ r.2.mem ((c.tc : Thread Cert.InZzRIdeal.nD Cert.InZzRIdeal.τ).loc Cert.InZzRIdeal.main_arg1) = m' ((c.tc : Thread Cert.InZzRIdeal.nD Cert.InZzRIdeal.τ).loc Cert.InZzRIdeal.main_arg1))

def preserves_InGatesK_InGatesKIdeal : Prop :=
  True

def algebraic_InGatesKIdeal_InGatesRIdeal [hInGatesKIdeal : Cert.InGatesKIdeal.Facts] [hInGatesRIdeal : Cert.InGatesRIdeal.Facts] : Prop :=
  ∀ (m : (ℓ : Loc Cert.InGatesKIdeal.nD Cert.InGatesKIdeal.τ Cert.InGatesKIdeal.sig) → Buf (Elt Ideal) ℓ) (g : Dev Cert.InGatesKIdeal.nD → PrngReg)
    (m' : (ℓ : Loc Cert.InGatesRIdeal.nD Cert.InGatesRIdeal.τ Cert.InGatesRIdeal.sig) → Buf (Elt Ideal) ℓ) (g' : Dev Cert.InGatesRIdeal.nD → PrngReg), Pre_InGatesKIdeal m →
    (∀ c : Dev Cert.InGatesKIdeal.nD,
      m' ((c.tc : Thread Cert.InGatesRIdeal.nD Cert.InGatesRIdeal.τ).loc Cert.InGatesRIdeal.main_arg0) = m ((c.tc : Thread Cert.InGatesKIdeal.nD Cert.InGatesKIdeal.τ).loc Cert.InGatesKIdeal.main_arg0)
      ∧ m' ((c.tc : Thread Cert.InGatesRIdeal.nD Cert.InGatesRIdeal.τ).loc Cert.InGatesRIdeal.main_arg1) = m ((c.tc : Thread Cert.InGatesKIdeal.nD Cert.InGatesKIdeal.τ).loc Cert.InGatesKIdeal.main_arg1)) →
    ∃ (v0 : (c : Dev Cert.InGatesKIdeal.nD) → Buf (Elt Ideal) ((c.tc : Thread Cert.InGatesKIdeal.nD Cert.InGatesKIdeal.τ).loc Cert.InGatesKIdeal.main_v1)),
      θ_run (Cert.InGatesKIdeal.defs (F := Ideal)) (onTc (τ := Cert.InGatesKIdeal.τ) (Cert.InGatesKIdeal.main (F := Ideal))) ⟨m, fun _ => 0, g⟩ (fun r => ∀ c : Dev Cert.InGatesKIdeal.nD,
          r.2.mem ((c.tc : Thread Cert.InGatesKIdeal.nD Cert.InGatesKIdeal.τ).loc Cert.InGatesKIdeal.main_v1) = v0 c
          ∧ r.2.mem ((c.tc : Thread Cert.InGatesKIdeal.nD Cert.InGatesKIdeal.τ).loc Cert.InGatesKIdeal.main_arg0) = m ((c.tc : Thread Cert.InGatesKIdeal.nD Cert.InGatesKIdeal.τ).loc Cert.InGatesKIdeal.main_arg0)
          ∧ r.2.mem ((c.tc : Thread Cert.InGatesKIdeal.nD Cert.InGatesKIdeal.τ).loc Cert.InGatesKIdeal.main_arg1) = m ((c.tc : Thread Cert.InGatesKIdeal.nD Cert.InGatesKIdeal.τ).loc Cert.InGatesKIdeal.main_arg1))
      ∧ θ_run (Cert.InGatesRIdeal.defs (F := Ideal)) (onTc (τ := Cert.InGatesRIdeal.τ) (Cert.InGatesRIdeal.main (F := Ideal))) ⟨m', fun _ => 0, g'⟩ (fun r => ∀ c : Dev Cert.InGatesRIdeal.nD,
          r.2.mem ((c.tc : Thread Cert.InGatesRIdeal.nD Cert.InGatesRIdeal.τ).loc Cert.InGatesRIdeal.main_v3) = v0 c
          ∧ r.2.mem ((c.tc : Thread Cert.InGatesRIdeal.nD Cert.InGatesRIdeal.τ).loc Cert.InGatesRIdeal.main_arg0) = m' ((c.tc : Thread Cert.InGatesRIdeal.nD Cert.InGatesRIdeal.τ).loc Cert.InGatesRIdeal.main_arg0)
          ∧ r.2.mem ((c.tc : Thread Cert.InGatesRIdeal.nD Cert.InGatesRIdeal.τ).loc Cert.InGatesRIdeal.main_arg1) = m' ((c.tc : Thread Cert.InGatesRIdeal.nD Cert.InGatesRIdeal.τ).loc Cert.InGatesRIdeal.main_arg1))

def preserves_InAbK_InAbKIdeal : Prop :=
  True

def algebraic_InAbKIdeal_InAbRIdeal [hInAbKIdeal : Cert.InAbKIdeal.Facts] [hInAbRIdeal : Cert.InAbRIdeal.Facts] : Prop :=
  ∀ (m : (ℓ : Loc Cert.InAbKIdeal.nD Cert.InAbKIdeal.τ Cert.InAbKIdeal.sig) → Buf (Elt Ideal) ℓ) (g : Dev Cert.InAbKIdeal.nD → PrngReg)
    (m' : (ℓ : Loc Cert.InAbRIdeal.nD Cert.InAbRIdeal.τ Cert.InAbRIdeal.sig) → Buf (Elt Ideal) ℓ) (g' : Dev Cert.InAbRIdeal.nD → PrngReg), Pre_InAbKIdeal m →
    (∀ c : Dev Cert.InAbKIdeal.nD,
      m' ((c.tc : Thread Cert.InAbRIdeal.nD Cert.InAbRIdeal.τ).loc Cert.InAbRIdeal.main_arg0) = m ((c.tc : Thread Cert.InAbKIdeal.nD Cert.InAbKIdeal.τ).loc Cert.InAbKIdeal.main_arg0)
      ∧ m' ((c.tc : Thread Cert.InAbRIdeal.nD Cert.InAbRIdeal.τ).loc Cert.InAbRIdeal.main_arg1) = m ((c.tc : Thread Cert.InAbKIdeal.nD Cert.InAbKIdeal.τ).loc Cert.InAbKIdeal.main_arg1)) →
    ∃ (v0 : (c : Dev Cert.InAbKIdeal.nD) → Buf (Elt Ideal) ((c.tc : Thread Cert.InAbKIdeal.nD Cert.InAbKIdeal.τ).loc Cert.InAbKIdeal.main_v1)),
      θ_run (Cert.InAbKIdeal.defs (F := Ideal)) (onTc (τ := Cert.InAbKIdeal.τ) (Cert.InAbKIdeal.main (F := Ideal))) ⟨m, fun _ => 0, g⟩ (fun r => ∀ c : Dev Cert.InAbKIdeal.nD,
          r.2.mem ((c.tc : Thread Cert.InAbKIdeal.nD Cert.InAbKIdeal.τ).loc Cert.InAbKIdeal.main_v1) = v0 c
          ∧ r.2.mem ((c.tc : Thread Cert.InAbKIdeal.nD Cert.InAbKIdeal.τ).loc Cert.InAbKIdeal.main_arg0) = m ((c.tc : Thread Cert.InAbKIdeal.nD Cert.InAbKIdeal.τ).loc Cert.InAbKIdeal.main_arg0)
          ∧ r.2.mem ((c.tc : Thread Cert.InAbKIdeal.nD Cert.InAbKIdeal.τ).loc Cert.InAbKIdeal.main_arg1) = m ((c.tc : Thread Cert.InAbKIdeal.nD Cert.InAbKIdeal.τ).loc Cert.InAbKIdeal.main_arg1))
      ∧ θ_run (Cert.InAbRIdeal.defs (F := Ideal)) (onTc (τ := Cert.InAbRIdeal.τ) (Cert.InAbRIdeal.main (F := Ideal))) ⟨m', fun _ => 0, g'⟩ (fun r => ∀ c : Dev Cert.InAbRIdeal.nD,
          r.2.mem ((c.tc : Thread Cert.InAbRIdeal.nD Cert.InAbRIdeal.τ).loc Cert.InAbRIdeal.main_v3) = v0 c
          ∧ r.2.mem ((c.tc : Thread Cert.InAbRIdeal.nD Cert.InAbRIdeal.τ).loc Cert.InAbRIdeal.main_arg0) = m' ((c.tc : Thread Cert.InAbRIdeal.nD Cert.InAbRIdeal.τ).loc Cert.InAbRIdeal.main_arg0)
          ∧ r.2.mem ((c.tc : Thread Cert.InAbRIdeal.nD Cert.InAbRIdeal.τ).loc Cert.InAbRIdeal.main_arg1) = m' ((c.tc : Thread Cert.InAbRIdeal.nD Cert.InAbRIdeal.τ).loc Cert.InAbRIdeal.main_arg1))

def preserves_DuK_DuKIdeal : Prop :=
  True

def algebraic_DuKIdeal_DuRIdeal [hDuKIdeal : Cert.DuKIdeal.Facts] [hDuRIdeal : Cert.DuRIdeal.Facts] : Prop :=
  ∀ (m : (ℓ : Loc Cert.DuKIdeal.nD Cert.DuKIdeal.τ Cert.DuKIdeal.sig) → Buf (Elt Ideal) ℓ) (g : Dev Cert.DuKIdeal.nD → PrngReg)
    (m' : (ℓ : Loc Cert.DuRIdeal.nD Cert.DuRIdeal.τ Cert.DuRIdeal.sig) → Buf (Elt Ideal) ℓ) (g' : Dev Cert.DuRIdeal.nD → PrngReg), Pre_DuKIdeal m →
    (∀ c : Dev Cert.DuKIdeal.nD,
      m' ((c.tc : Thread Cert.DuRIdeal.nD Cert.DuRIdeal.τ).loc Cert.DuRIdeal.main_arg0) = m ((c.tc : Thread Cert.DuKIdeal.nD Cert.DuKIdeal.τ).loc Cert.DuKIdeal.main_arg0)
      ∧ m' ((c.tc : Thread Cert.DuRIdeal.nD Cert.DuRIdeal.τ).loc Cert.DuRIdeal.main_arg1) = m ((c.tc : Thread Cert.DuKIdeal.nD Cert.DuKIdeal.τ).loc Cert.DuKIdeal.main_arg1)
      ∧ m' ((c.tc : Thread Cert.DuRIdeal.nD Cert.DuRIdeal.τ).loc Cert.DuRIdeal.main_arg2) = m ((c.tc : Thread Cert.DuKIdeal.nD Cert.DuKIdeal.τ).loc Cert.DuKIdeal.main_arg2)
      ∧ m' ((c.tc : Thread Cert.DuRIdeal.nD Cert.DuRIdeal.τ).loc Cert.DuRIdeal.main_arg3) = m ((c.tc : Thread Cert.DuKIdeal.nD Cert.DuKIdeal.τ).loc Cert.DuKIdeal.main_arg3)
      ∧ m' ((c.tc : Thread Cert.DuRIdeal.nD Cert.DuRIdeal.τ).loc Cert.DuRIdeal.main_arg4) = m ((c.tc : Thread Cert.DuKIdeal.nD Cert.DuKIdeal.τ).loc Cert.DuKIdeal.main_arg4)
      ∧ m' ((c.tc : Thread Cert.DuRIdeal.nD Cert.DuRIdeal.τ).loc Cert.DuRIdeal.main_arg5) = m ((c.tc : Thread Cert.DuKIdeal.nD Cert.DuKIdeal.τ).loc Cert.DuKIdeal.main_arg5)
      ∧ m' ((c.tc : Thread Cert.DuRIdeal.nD Cert.DuRIdeal.τ).loc Cert.DuRIdeal.main_arg6) = m ((c.tc : Thread Cert.DuKIdeal.nD Cert.DuKIdeal.τ).loc Cert.DuKIdeal.main_arg6)) →
    ∃ (v0 : (c : Dev Cert.DuKIdeal.nD) → Buf (Elt Ideal) ((c.tc : Thread Cert.DuKIdeal.nD Cert.DuKIdeal.τ).loc Cert.DuKIdeal.main_v5)),
      θ_run (Cert.DuKIdeal.defs (F := Ideal)) (onTc (τ := Cert.DuKIdeal.τ) (Cert.DuKIdeal.main (F := Ideal))) ⟨m, fun _ => 0, g⟩ (fun r => ∀ c : Dev Cert.DuKIdeal.nD,
          r.2.mem ((c.tc : Thread Cert.DuKIdeal.nD Cert.DuKIdeal.τ).loc Cert.DuKIdeal.main_v5) = v0 c
          ∧ r.2.mem ((c.tc : Thread Cert.DuKIdeal.nD Cert.DuKIdeal.τ).loc Cert.DuKIdeal.main_arg0) = m ((c.tc : Thread Cert.DuKIdeal.nD Cert.DuKIdeal.τ).loc Cert.DuKIdeal.main_arg0)
          ∧ r.2.mem ((c.tc : Thread Cert.DuKIdeal.nD Cert.DuKIdeal.τ).loc Cert.DuKIdeal.main_arg1) = m ((c.tc : Thread Cert.DuKIdeal.nD Cert.DuKIdeal.τ).loc Cert.DuKIdeal.main_arg1)
          ∧ r.2.mem ((c.tc : Thread Cert.DuKIdeal.nD Cert.DuKIdeal.τ).loc Cert.DuKIdeal.main_arg2) = m ((c.tc : Thread Cert.DuKIdeal.nD Cert.DuKIdeal.τ).loc Cert.DuKIdeal.main_arg2)
          ∧ r.2.mem ((c.tc : Thread Cert.DuKIdeal.nD Cert.DuKIdeal.τ).loc Cert.DuKIdeal.main_arg3) = m ((c.tc : Thread Cert.DuKIdeal.nD Cert.DuKIdeal.τ).loc Cert.DuKIdeal.main_arg3)
          ∧ r.2.mem ((c.tc : Thread Cert.DuKIdeal.nD Cert.DuKIdeal.τ).loc Cert.DuKIdeal.main_arg4) = m ((c.tc : Thread Cert.DuKIdeal.nD Cert.DuKIdeal.τ).loc Cert.DuKIdeal.main_arg4)
          ∧ r.2.mem ((c.tc : Thread Cert.DuKIdeal.nD Cert.DuKIdeal.τ).loc Cert.DuKIdeal.main_arg5) = m ((c.tc : Thread Cert.DuKIdeal.nD Cert.DuKIdeal.τ).loc Cert.DuKIdeal.main_arg5)
          ∧ r.2.mem ((c.tc : Thread Cert.DuKIdeal.nD Cert.DuKIdeal.τ).loc Cert.DuKIdeal.main_arg6) = m ((c.tc : Thread Cert.DuKIdeal.nD Cert.DuKIdeal.τ).loc Cert.DuKIdeal.main_arg6))
      ∧ θ_run (Cert.DuRIdeal.defs (F := Ideal)) (onTc (τ := Cert.DuRIdeal.τ) (Cert.DuRIdeal.main (F := Ideal))) ⟨m', fun _ => 0, g'⟩ (fun r => ∀ c : Dev Cert.DuRIdeal.nD,
          r.2.mem ((c.tc : Thread Cert.DuRIdeal.nD Cert.DuRIdeal.τ).loc Cert.DuRIdeal.main_v10) = v0 c
          ∧ r.2.mem ((c.tc : Thread Cert.DuRIdeal.nD Cert.DuRIdeal.τ).loc Cert.DuRIdeal.main_arg0) = m' ((c.tc : Thread Cert.DuRIdeal.nD Cert.DuRIdeal.τ).loc Cert.DuRIdeal.main_arg0)
          ∧ r.2.mem ((c.tc : Thread Cert.DuRIdeal.nD Cert.DuRIdeal.τ).loc Cert.DuRIdeal.main_arg1) = m' ((c.tc : Thread Cert.DuRIdeal.nD Cert.DuRIdeal.τ).loc Cert.DuRIdeal.main_arg1)
          ∧ r.2.mem ((c.tc : Thread Cert.DuRIdeal.nD Cert.DuRIdeal.τ).loc Cert.DuRIdeal.main_arg2) = m' ((c.tc : Thread Cert.DuRIdeal.nD Cert.DuRIdeal.τ).loc Cert.DuRIdeal.main_arg2)
          ∧ r.2.mem ((c.tc : Thread Cert.DuRIdeal.nD Cert.DuRIdeal.τ).loc Cert.DuRIdeal.main_arg3) = m' ((c.tc : Thread Cert.DuRIdeal.nD Cert.DuRIdeal.τ).loc Cert.DuRIdeal.main_arg3)
          ∧ r.2.mem ((c.tc : Thread Cert.DuRIdeal.nD Cert.DuRIdeal.τ).loc Cert.DuRIdeal.main_arg4) = m' ((c.tc : Thread Cert.DuRIdeal.nD Cert.DuRIdeal.τ).loc Cert.DuRIdeal.main_arg4)
          ∧ r.2.mem ((c.tc : Thread Cert.DuRIdeal.nD Cert.DuRIdeal.τ).loc Cert.DuRIdeal.main_arg5) = m' ((c.tc : Thread Cert.DuRIdeal.nD Cert.DuRIdeal.τ).loc Cert.DuRIdeal.main_arg5)
          ∧ r.2.mem ((c.tc : Thread Cert.DuRIdeal.nD Cert.DuRIdeal.τ).loc Cert.DuRIdeal.main_arg6) = m' ((c.tc : Thread Cert.DuRIdeal.nD Cert.DuRIdeal.τ).loc Cert.DuRIdeal.main_arg6))

def preserves_GwaK_GwaKIdeal : Prop :=
  True

def algebraic_GwaKIdeal_GwaRIdeal [hGwaKIdeal : Cert.GwaKIdeal.Facts] [hGwaRIdeal : Cert.GwaRIdeal.Facts] : Prop :=
  ∀ (m : (ℓ : Loc Cert.GwaKIdeal.nD Cert.GwaKIdeal.τ Cert.GwaKIdeal.sig) → Buf (Elt Ideal) ℓ) (g : Dev Cert.GwaKIdeal.nD → PrngReg)
    (m' : (ℓ : Loc Cert.GwaRIdeal.nD Cert.GwaRIdeal.τ Cert.GwaRIdeal.sig) → Buf (Elt Ideal) ℓ) (g' : Dev Cert.GwaRIdeal.nD → PrngReg), Pre_GwaKIdeal m →
    (∀ c : Dev Cert.GwaKIdeal.nD,
      m' ((c.tc : Thread Cert.GwaRIdeal.nD Cert.GwaRIdeal.τ).loc Cert.GwaRIdeal.main_arg0) = m ((c.tc : Thread Cert.GwaKIdeal.nD Cert.GwaKIdeal.τ).loc Cert.GwaKIdeal.main_arg0)
      ∧ m' ((c.tc : Thread Cert.GwaRIdeal.nD Cert.GwaRIdeal.τ).loc Cert.GwaRIdeal.main_arg1) = m ((c.tc : Thread Cert.GwaKIdeal.nD Cert.GwaKIdeal.τ).loc Cert.GwaKIdeal.main_arg1)
      ∧ m' ((c.tc : Thread Cert.GwaRIdeal.nD Cert.GwaRIdeal.τ).loc Cert.GwaRIdeal.main_arg2) = m ((c.tc : Thread Cert.GwaKIdeal.nD Cert.GwaKIdeal.τ).loc Cert.GwaKIdeal.main_arg2)) →
    ∃ (v0 : (c : Dev Cert.GwaKIdeal.nD) → Buf (Elt Ideal) ((c.tc : Thread Cert.GwaKIdeal.nD Cert.GwaKIdeal.τ).loc Cert.GwaKIdeal.main_v0_0)) (v1 : (c : Dev Cert.GwaKIdeal.nD) → Buf (Elt Ideal) ((c.tc : Thread Cert.GwaKIdeal.nD Cert.GwaKIdeal.τ).loc Cert.GwaKIdeal.main_v0_1)),
      θ_run (Cert.GwaKIdeal.defs (F := Ideal)) (onTc (τ := Cert.GwaKIdeal.τ) (Cert.GwaKIdeal.main (F := Ideal))) ⟨m, fun _ => 0, g⟩ (fun r => ∀ c : Dev Cert.GwaKIdeal.nD,
          r.2.mem ((c.tc : Thread Cert.GwaKIdeal.nD Cert.GwaKIdeal.τ).loc Cert.GwaKIdeal.main_v0_0) = v0 c
          ∧ r.2.mem ((c.tc : Thread Cert.GwaKIdeal.nD Cert.GwaKIdeal.τ).loc Cert.GwaKIdeal.main_v0_1) = v1 c
          ∧ r.2.mem ((c.tc : Thread Cert.GwaKIdeal.nD Cert.GwaKIdeal.τ).loc Cert.GwaKIdeal.main_arg0) = m ((c.tc : Thread Cert.GwaKIdeal.nD Cert.GwaKIdeal.τ).loc Cert.GwaKIdeal.main_arg0)
          ∧ r.2.mem ((c.tc : Thread Cert.GwaKIdeal.nD Cert.GwaKIdeal.τ).loc Cert.GwaKIdeal.main_arg1) = m ((c.tc : Thread Cert.GwaKIdeal.nD Cert.GwaKIdeal.τ).loc Cert.GwaKIdeal.main_arg1)
          ∧ r.2.mem ((c.tc : Thread Cert.GwaKIdeal.nD Cert.GwaKIdeal.τ).loc Cert.GwaKIdeal.main_arg2) = m ((c.tc : Thread Cert.GwaKIdeal.nD Cert.GwaKIdeal.τ).loc Cert.GwaKIdeal.main_arg2))
      ∧ θ_run (Cert.GwaRIdeal.defs (F := Ideal)) (onTc (τ := Cert.GwaRIdeal.τ) (Cert.GwaRIdeal.main (F := Ideal))) ⟨m', fun _ => 0, g'⟩ (fun r => ∀ c : Dev Cert.GwaRIdeal.nD,
          r.2.mem ((c.tc : Thread Cert.GwaRIdeal.nD Cert.GwaRIdeal.τ).loc Cert.GwaRIdeal.main_v6) = v0 c
          ∧ r.2.mem ((c.tc : Thread Cert.GwaRIdeal.nD Cert.GwaRIdeal.τ).loc Cert.GwaRIdeal.main_v13) = v1 c
          ∧ r.2.mem ((c.tc : Thread Cert.GwaRIdeal.nD Cert.GwaRIdeal.τ).loc Cert.GwaRIdeal.main_arg0) = m' ((c.tc : Thread Cert.GwaRIdeal.nD Cert.GwaRIdeal.τ).loc Cert.GwaRIdeal.main_arg0)
          ∧ r.2.mem ((c.tc : Thread Cert.GwaRIdeal.nD Cert.GwaRIdeal.τ).loc Cert.GwaRIdeal.main_arg1) = m' ((c.tc : Thread Cert.GwaRIdeal.nD Cert.GwaRIdeal.τ).loc Cert.GwaRIdeal.main_arg1)
          ∧ r.2.mem ((c.tc : Thread Cert.GwaRIdeal.nD Cert.GwaRIdeal.τ).loc Cert.GwaRIdeal.main_arg2) = m' ((c.tc : Thread Cert.GwaRIdeal.nD Cert.GwaRIdeal.τ).loc Cert.GwaRIdeal.main_arg2))

def preserves_GwbK_GwbKIdeal : Prop :=
  True

def algebraic_GwbKIdeal_GwbRIdeal [hGwbKIdeal : Cert.GwbKIdeal.Facts] [hGwbRIdeal : Cert.GwbRIdeal.Facts] : Prop :=
  ∀ (m : (ℓ : Loc Cert.GwbKIdeal.nD Cert.GwbKIdeal.τ Cert.GwbKIdeal.sig) → Buf (Elt Ideal) ℓ) (g : Dev Cert.GwbKIdeal.nD → PrngReg)
    (m' : (ℓ : Loc Cert.GwbRIdeal.nD Cert.GwbRIdeal.τ Cert.GwbRIdeal.sig) → Buf (Elt Ideal) ℓ) (g' : Dev Cert.GwbRIdeal.nD → PrngReg), Pre_GwbKIdeal m →
    (∀ c : Dev Cert.GwbKIdeal.nD,
      m' ((c.tc : Thread Cert.GwbRIdeal.nD Cert.GwbRIdeal.τ).loc Cert.GwbRIdeal.main_arg0) = m ((c.tc : Thread Cert.GwbKIdeal.nD Cert.GwbKIdeal.τ).loc Cert.GwbKIdeal.main_arg0)
      ∧ m' ((c.tc : Thread Cert.GwbRIdeal.nD Cert.GwbRIdeal.τ).loc Cert.GwbRIdeal.main_arg1) = m ((c.tc : Thread Cert.GwbKIdeal.nD Cert.GwbKIdeal.τ).loc Cert.GwbKIdeal.main_arg1)
      ∧ m' ((c.tc : Thread Cert.GwbRIdeal.nD Cert.GwbRIdeal.τ).loc Cert.GwbRIdeal.main_arg2) = m ((c.tc : Thread Cert.GwbKIdeal.nD Cert.GwbKIdeal.τ).loc Cert.GwbKIdeal.main_arg2)
      ∧ m' ((c.tc : Thread Cert.GwbRIdeal.nD Cert.GwbRIdeal.τ).loc Cert.GwbRIdeal.main_arg3) = m ((c.tc : Thread Cert.GwbKIdeal.nD Cert.GwbKIdeal.τ).loc Cert.GwbKIdeal.main_arg3)
      ∧ m' ((c.tc : Thread Cert.GwbRIdeal.nD Cert.GwbRIdeal.τ).loc Cert.GwbRIdeal.main_arg4) = m ((c.tc : Thread Cert.GwbKIdeal.nD Cert.GwbKIdeal.τ).loc Cert.GwbKIdeal.main_arg4)) →
    ∃ (v0 : (c : Dev Cert.GwbKIdeal.nD) → Buf (Elt Ideal) ((c.tc : Thread Cert.GwbKIdeal.nD Cert.GwbKIdeal.τ).loc Cert.GwbKIdeal.main_v0_0)) (v1 : (c : Dev Cert.GwbKIdeal.nD) → Buf (Elt Ideal) ((c.tc : Thread Cert.GwbKIdeal.nD Cert.GwbKIdeal.τ).loc Cert.GwbKIdeal.main_v0_1)) (v2 : (c : Dev Cert.GwbKIdeal.nD) → Buf (Elt Ideal) ((c.tc : Thread Cert.GwbKIdeal.nD Cert.GwbKIdeal.τ).loc Cert.GwbKIdeal.main_v0_2)) (v3 : (c : Dev Cert.GwbKIdeal.nD) → Buf (Elt Ideal) ((c.tc : Thread Cert.GwbKIdeal.nD Cert.GwbKIdeal.τ).loc Cert.GwbKIdeal.main_v0_3)),
      θ_run (Cert.GwbKIdeal.defs (F := Ideal)) (onTc (τ := Cert.GwbKIdeal.τ) (Cert.GwbKIdeal.main (F := Ideal))) ⟨m, fun _ => 0, g⟩ (fun r => ∀ c : Dev Cert.GwbKIdeal.nD,
          r.2.mem ((c.tc : Thread Cert.GwbKIdeal.nD Cert.GwbKIdeal.τ).loc Cert.GwbKIdeal.main_v0_0) = v0 c
          ∧ r.2.mem ((c.tc : Thread Cert.GwbKIdeal.nD Cert.GwbKIdeal.τ).loc Cert.GwbKIdeal.main_v0_1) = v1 c
          ∧ r.2.mem ((c.tc : Thread Cert.GwbKIdeal.nD Cert.GwbKIdeal.τ).loc Cert.GwbKIdeal.main_v0_2) = v2 c
          ∧ r.2.mem ((c.tc : Thread Cert.GwbKIdeal.nD Cert.GwbKIdeal.τ).loc Cert.GwbKIdeal.main_v0_3) = v3 c
          ∧ r.2.mem ((c.tc : Thread Cert.GwbKIdeal.nD Cert.GwbKIdeal.τ).loc Cert.GwbKIdeal.main_arg0) = m ((c.tc : Thread Cert.GwbKIdeal.nD Cert.GwbKIdeal.τ).loc Cert.GwbKIdeal.main_arg0)
          ∧ r.2.mem ((c.tc : Thread Cert.GwbKIdeal.nD Cert.GwbKIdeal.τ).loc Cert.GwbKIdeal.main_arg1) = m ((c.tc : Thread Cert.GwbKIdeal.nD Cert.GwbKIdeal.τ).loc Cert.GwbKIdeal.main_arg1)
          ∧ r.2.mem ((c.tc : Thread Cert.GwbKIdeal.nD Cert.GwbKIdeal.τ).loc Cert.GwbKIdeal.main_arg2) = m ((c.tc : Thread Cert.GwbKIdeal.nD Cert.GwbKIdeal.τ).loc Cert.GwbKIdeal.main_arg2)
          ∧ r.2.mem ((c.tc : Thread Cert.GwbKIdeal.nD Cert.GwbKIdeal.τ).loc Cert.GwbKIdeal.main_arg3) = m ((c.tc : Thread Cert.GwbKIdeal.nD Cert.GwbKIdeal.τ).loc Cert.GwbKIdeal.main_arg3)
          ∧ r.2.mem ((c.tc : Thread Cert.GwbKIdeal.nD Cert.GwbKIdeal.τ).loc Cert.GwbKIdeal.main_arg4) = m ((c.tc : Thread Cert.GwbKIdeal.nD Cert.GwbKIdeal.τ).loc Cert.GwbKIdeal.main_arg4))
      ∧ θ_run (Cert.GwbRIdeal.defs (F := Ideal)) (onTc (τ := Cert.GwbRIdeal.τ) (Cert.GwbRIdeal.main (F := Ideal))) ⟨m', fun _ => 0, g'⟩ (fun r => ∀ c : Dev Cert.GwbRIdeal.nD,
          r.2.mem ((c.tc : Thread Cert.GwbRIdeal.nD Cert.GwbRIdeal.τ).loc Cert.GwbRIdeal.main_v6) = v0 c
          ∧ r.2.mem ((c.tc : Thread Cert.GwbRIdeal.nD Cert.GwbRIdeal.τ).loc Cert.GwbRIdeal.main_v13) = v1 c
          ∧ r.2.mem ((c.tc : Thread Cert.GwbRIdeal.nD Cert.GwbRIdeal.τ).loc Cert.GwbRIdeal.main_v20) = v2 c
          ∧ r.2.mem ((c.tc : Thread Cert.GwbRIdeal.nD Cert.GwbRIdeal.τ).loc Cert.GwbRIdeal.main_v27) = v3 c
          ∧ r.2.mem ((c.tc : Thread Cert.GwbRIdeal.nD Cert.GwbRIdeal.τ).loc Cert.GwbRIdeal.main_arg0) = m' ((c.tc : Thread Cert.GwbRIdeal.nD Cert.GwbRIdeal.τ).loc Cert.GwbRIdeal.main_arg0)
          ∧ r.2.mem ((c.tc : Thread Cert.GwbRIdeal.nD Cert.GwbRIdeal.τ).loc Cert.GwbRIdeal.main_arg1) = m' ((c.tc : Thread Cert.GwbRIdeal.nD Cert.GwbRIdeal.τ).loc Cert.GwbRIdeal.main_arg1)
          ∧ r.2.mem ((c.tc : Thread Cert.GwbRIdeal.nD Cert.GwbRIdeal.τ).loc Cert.GwbRIdeal.main_arg2) = m' ((c.tc : Thread Cert.GwbRIdeal.nD Cert.GwbRIdeal.τ).loc Cert.GwbRIdeal.main_arg2)
          ∧ r.2.mem ((c.tc : Thread Cert.GwbRIdeal.nD Cert.GwbRIdeal.τ).loc Cert.GwbRIdeal.main_arg3) = m' ((c.tc : Thread Cert.GwbRIdeal.nD Cert.GwbRIdeal.τ).loc Cert.GwbRIdeal.main_arg3)
          ∧ r.2.mem ((c.tc : Thread Cert.GwbRIdeal.nD Cert.GwbRIdeal.τ).loc Cert.GwbRIdeal.main_arg4) = m' ((c.tc : Thread Cert.GwbRIdeal.nD Cert.GwbRIdeal.τ).loc Cert.GwbRIdeal.main_arg4))

def preserves_Norm1K_Norm1KIdeal : Prop :=
  True

def algebraic_Norm1KIdeal_Norm1RIdeal [hNorm1KIdeal : Cert.Norm1KIdeal.Facts] [hNorm1RIdeal : Cert.Norm1RIdeal.Facts] : Prop :=
  ∀ (m : (ℓ : Loc Cert.Norm1KIdeal.nD Cert.Norm1KIdeal.τ Cert.Norm1KIdeal.sig) → Buf (Elt Ideal) ℓ) (g : Dev Cert.Norm1KIdeal.nD → PrngReg)
    (m' : (ℓ : Loc Cert.Norm1RIdeal.nD Cert.Norm1RIdeal.τ Cert.Norm1RIdeal.sig) → Buf (Elt Ideal) ℓ) (g' : Dev Cert.Norm1RIdeal.nD → PrngReg), Pre_Norm1KIdeal m →
    (∀ c : Dev Cert.Norm1KIdeal.nD,
      m' ((c.tc : Thread Cert.Norm1RIdeal.nD Cert.Norm1RIdeal.τ).loc Cert.Norm1RIdeal.main_arg0) = m ((c.tc : Thread Cert.Norm1KIdeal.nD Cert.Norm1KIdeal.τ).loc Cert.Norm1KIdeal.main_arg0)
      ∧ m' ((c.tc : Thread Cert.Norm1RIdeal.nD Cert.Norm1RIdeal.τ).loc Cert.Norm1RIdeal.main_arg1) = m ((c.tc : Thread Cert.Norm1KIdeal.nD Cert.Norm1KIdeal.τ).loc Cert.Norm1KIdeal.main_arg1)
      ∧ m' ((c.tc : Thread Cert.Norm1RIdeal.nD Cert.Norm1RIdeal.τ).loc Cert.Norm1RIdeal.main_arg2) = m ((c.tc : Thread Cert.Norm1KIdeal.nD Cert.Norm1KIdeal.τ).loc Cert.Norm1KIdeal.main_arg2)
      ∧ m' ((c.tc : Thread Cert.Norm1RIdeal.nD Cert.Norm1RIdeal.τ).loc Cert.Norm1RIdeal.main_arg3) = m ((c.tc : Thread Cert.Norm1KIdeal.nD Cert.Norm1KIdeal.τ).loc Cert.Norm1KIdeal.main_arg3)) →
    ∃ (v0 : (c : Dev Cert.Norm1KIdeal.nD) → Buf (Elt Ideal) ((c.tc : Thread Cert.Norm1KIdeal.nD Cert.Norm1KIdeal.τ).loc Cert.Norm1KIdeal.main_v1_0)) (v1 : (c : Dev Cert.Norm1KIdeal.nD) → Buf (Elt Ideal) ((c.tc : Thread Cert.Norm1KIdeal.nD Cert.Norm1KIdeal.τ).loc Cert.Norm1KIdeal.main_v1_1)),
      θ_run (Cert.Norm1KIdeal.defs (F := Ideal)) (onTc (τ := Cert.Norm1KIdeal.τ) (Cert.Norm1KIdeal.main (F := Ideal))) ⟨m, fun _ => 0, g⟩ (fun r => ∀ c : Dev Cert.Norm1KIdeal.nD,
          r.2.mem ((c.tc : Thread Cert.Norm1KIdeal.nD Cert.Norm1KIdeal.τ).loc Cert.Norm1KIdeal.main_v1_0) = v0 c
          ∧ r.2.mem ((c.tc : Thread Cert.Norm1KIdeal.nD Cert.Norm1KIdeal.τ).loc Cert.Norm1KIdeal.main_v1_1) = v1 c
          ∧ r.2.mem ((c.tc : Thread Cert.Norm1KIdeal.nD Cert.Norm1KIdeal.τ).loc Cert.Norm1KIdeal.main_arg0) = m ((c.tc : Thread Cert.Norm1KIdeal.nD Cert.Norm1KIdeal.τ).loc Cert.Norm1KIdeal.main_arg0)
          ∧ r.2.mem ((c.tc : Thread Cert.Norm1KIdeal.nD Cert.Norm1KIdeal.τ).loc Cert.Norm1KIdeal.main_arg1) = m ((c.tc : Thread Cert.Norm1KIdeal.nD Cert.Norm1KIdeal.τ).loc Cert.Norm1KIdeal.main_arg1)
          ∧ r.2.mem ((c.tc : Thread Cert.Norm1KIdeal.nD Cert.Norm1KIdeal.τ).loc Cert.Norm1KIdeal.main_arg2) = m ((c.tc : Thread Cert.Norm1KIdeal.nD Cert.Norm1KIdeal.τ).loc Cert.Norm1KIdeal.main_arg2)
          ∧ r.2.mem ((c.tc : Thread Cert.Norm1KIdeal.nD Cert.Norm1KIdeal.τ).loc Cert.Norm1KIdeal.main_arg3) = m ((c.tc : Thread Cert.Norm1KIdeal.nD Cert.Norm1KIdeal.τ).loc Cert.Norm1KIdeal.main_arg3))
      ∧ θ_run (Cert.Norm1RIdeal.defs (F := Ideal)) (onTc (τ := Cert.Norm1RIdeal.τ) (Cert.Norm1RIdeal.main (F := Ideal))) ⟨m', fun _ => 0, g'⟩ (fun r => ∀ c : Dev Cert.Norm1RIdeal.nD,
          r.2.mem ((c.tc : Thread Cert.Norm1RIdeal.nD Cert.Norm1RIdeal.τ).loc Cert.Norm1RIdeal.main_v36) = v0 c
          ∧ r.2.mem ((c.tc : Thread Cert.Norm1RIdeal.nD Cert.Norm1RIdeal.τ).loc Cert.Norm1RIdeal.main_v37) = v1 c
          ∧ r.2.mem ((c.tc : Thread Cert.Norm1RIdeal.nD Cert.Norm1RIdeal.τ).loc Cert.Norm1RIdeal.main_arg0) = m' ((c.tc : Thread Cert.Norm1RIdeal.nD Cert.Norm1RIdeal.τ).loc Cert.Norm1RIdeal.main_arg0)
          ∧ r.2.mem ((c.tc : Thread Cert.Norm1RIdeal.nD Cert.Norm1RIdeal.τ).loc Cert.Norm1RIdeal.main_arg1) = m' ((c.tc : Thread Cert.Norm1RIdeal.nD Cert.Norm1RIdeal.τ).loc Cert.Norm1RIdeal.main_arg1)
          ∧ r.2.mem ((c.tc : Thread Cert.Norm1RIdeal.nD Cert.Norm1RIdeal.τ).loc Cert.Norm1RIdeal.main_arg2) = m' ((c.tc : Thread Cert.Norm1RIdeal.nD Cert.Norm1RIdeal.τ).loc Cert.Norm1RIdeal.main_arg2)
          ∧ r.2.mem ((c.tc : Thread Cert.Norm1RIdeal.nD Cert.Norm1RIdeal.τ).loc Cert.Norm1RIdeal.main_arg3) = m' ((c.tc : Thread Cert.Norm1RIdeal.nD Cert.Norm1RIdeal.τ).loc Cert.Norm1RIdeal.main_arg3))

def preserves_AdWinK_AdWinKIdeal : Prop :=
  IdealRules.named_const.Statement Cert.AdWinKIdeal.κ "bc1" .f32 0x3FC48605#32 ((8388608 / 5463681 : ℝ) : EReal)
  ∧ IdealRules.named_const.Statement Cert.AdWinKIdeal.κ "bc2" .f32 0x42C8E6D3#32 ((268435456 / 2672307 : ℝ) : EReal)

def algebraic_AdWinKIdeal_AdWinRIdeal [hAdWinKIdeal : Cert.AdWinKIdeal.Facts] [hAdWinRIdeal : Cert.AdWinRIdeal.Facts] : Prop :=
  ∀ (m : (ℓ : Loc Cert.AdWinKIdeal.nD Cert.AdWinKIdeal.τ Cert.AdWinKIdeal.sig) → Buf (Elt Ideal) ℓ) (g : Dev Cert.AdWinKIdeal.nD → PrngReg)
    (m' : (ℓ : Loc Cert.AdWinRIdeal.nD Cert.AdWinRIdeal.τ Cert.AdWinRIdeal.sig) → Buf (Elt Ideal) ℓ) (g' : Dev Cert.AdWinRIdeal.nD → PrngReg), Pre_AdWinKIdeal m →
    (∀ c : Dev Cert.AdWinKIdeal.nD,
      m' ((c.tc : Thread Cert.AdWinRIdeal.nD Cert.AdWinRIdeal.τ).loc Cert.AdWinRIdeal.main_arg0) = m ((c.tc : Thread Cert.AdWinKIdeal.nD Cert.AdWinKIdeal.τ).loc Cert.AdWinKIdeal.main_arg0)
      ∧ m' ((c.tc : Thread Cert.AdWinRIdeal.nD Cert.AdWinRIdeal.τ).loc Cert.AdWinRIdeal.main_arg1) = m ((c.tc : Thread Cert.AdWinKIdeal.nD Cert.AdWinKIdeal.τ).loc Cert.AdWinKIdeal.main_arg1)
      ∧ m' ((c.tc : Thread Cert.AdWinRIdeal.nD Cert.AdWinRIdeal.τ).loc Cert.AdWinRIdeal.main_arg2) = m ((c.tc : Thread Cert.AdWinKIdeal.nD Cert.AdWinKIdeal.τ).loc Cert.AdWinKIdeal.main_arg2)
      ∧ m' ((c.tc : Thread Cert.AdWinRIdeal.nD Cert.AdWinRIdeal.τ).loc Cert.AdWinRIdeal.main_arg3) = m ((c.tc : Thread Cert.AdWinKIdeal.nD Cert.AdWinKIdeal.τ).loc Cert.AdWinKIdeal.main_arg3)
      ∧ m' ((c.tc : Thread Cert.AdWinRIdeal.nD Cert.AdWinRIdeal.τ).loc Cert.AdWinRIdeal.main_arg4) = m ((c.tc : Thread Cert.AdWinKIdeal.nD Cert.AdWinKIdeal.τ).loc Cert.AdWinKIdeal.main_arg4)) →
    ∃ (v0 : (c : Dev Cert.AdWinKIdeal.nD) → Buf (Elt Ideal) ((c.tc : Thread Cert.AdWinKIdeal.nD Cert.AdWinKIdeal.τ).loc Cert.AdWinKIdeal.main_v5_0)) (v1 : (c : Dev Cert.AdWinKIdeal.nD) → Buf (Elt Ideal) ((c.tc : Thread Cert.AdWinKIdeal.nD Cert.AdWinKIdeal.τ).loc Cert.AdWinKIdeal.main_v5_1)) (v2 : (c : Dev Cert.AdWinKIdeal.nD) → Buf (Elt Ideal) ((c.tc : Thread Cert.AdWinKIdeal.nD Cert.AdWinKIdeal.τ).loc Cert.AdWinKIdeal.main_v5_2)) (v3 : (c : Dev Cert.AdWinKIdeal.nD) → Buf (Elt Ideal) ((c.tc : Thread Cert.AdWinKIdeal.nD Cert.AdWinKIdeal.τ).loc Cert.AdWinKIdeal.main_v5_3)),
      θ_run (Cert.AdWinKIdeal.defs (F := Ideal)) (onTc (τ := Cert.AdWinKIdeal.τ) (Cert.AdWinKIdeal.main (F := Ideal))) ⟨m, fun _ => 0, g⟩ (fun r => ∀ c : Dev Cert.AdWinKIdeal.nD,
          r.2.mem ((c.tc : Thread Cert.AdWinKIdeal.nD Cert.AdWinKIdeal.τ).loc Cert.AdWinKIdeal.main_v5_0) = v0 c
          ∧ r.2.mem ((c.tc : Thread Cert.AdWinKIdeal.nD Cert.AdWinKIdeal.τ).loc Cert.AdWinKIdeal.main_v5_1) = v1 c
          ∧ r.2.mem ((c.tc : Thread Cert.AdWinKIdeal.nD Cert.AdWinKIdeal.τ).loc Cert.AdWinKIdeal.main_v5_2) = v2 c
          ∧ r.2.mem ((c.tc : Thread Cert.AdWinKIdeal.nD Cert.AdWinKIdeal.τ).loc Cert.AdWinKIdeal.main_v5_3) = v3 c
          ∧ r.2.mem ((c.tc : Thread Cert.AdWinKIdeal.nD Cert.AdWinKIdeal.τ).loc Cert.AdWinKIdeal.main_arg0) = m ((c.tc : Thread Cert.AdWinKIdeal.nD Cert.AdWinKIdeal.τ).loc Cert.AdWinKIdeal.main_arg0)
          ∧ r.2.mem ((c.tc : Thread Cert.AdWinKIdeal.nD Cert.AdWinKIdeal.τ).loc Cert.AdWinKIdeal.main_arg1) = m ((c.tc : Thread Cert.AdWinKIdeal.nD Cert.AdWinKIdeal.τ).loc Cert.AdWinKIdeal.main_arg1)
          ∧ r.2.mem ((c.tc : Thread Cert.AdWinKIdeal.nD Cert.AdWinKIdeal.τ).loc Cert.AdWinKIdeal.main_arg2) = m ((c.tc : Thread Cert.AdWinKIdeal.nD Cert.AdWinKIdeal.τ).loc Cert.AdWinKIdeal.main_arg2)
          ∧ r.2.mem ((c.tc : Thread Cert.AdWinKIdeal.nD Cert.AdWinKIdeal.τ).loc Cert.AdWinKIdeal.main_arg3) = m ((c.tc : Thread Cert.AdWinKIdeal.nD Cert.AdWinKIdeal.τ).loc Cert.AdWinKIdeal.main_arg3)
          ∧ r.2.mem ((c.tc : Thread Cert.AdWinKIdeal.nD Cert.AdWinKIdeal.τ).loc Cert.AdWinKIdeal.main_arg4) = m ((c.tc : Thread Cert.AdWinKIdeal.nD Cert.AdWinKIdeal.τ).loc Cert.AdWinKIdeal.main_arg4))
      ∧ θ_run (Cert.AdWinRIdeal.defs (F := Ideal)) (onTc (τ := Cert.AdWinRIdeal.τ) (Cert.AdWinRIdeal.main (F := Ideal))) ⟨m', fun _ => 0, g'⟩ (fun r => ∀ c : Dev Cert.AdWinRIdeal.nD,
          r.2.mem ((c.tc : Thread Cert.AdWinRIdeal.nD Cert.AdWinRIdeal.τ).loc Cert.AdWinRIdeal.main_v25) = v0 c
          ∧ r.2.mem ((c.tc : Thread Cert.AdWinRIdeal.nD Cert.AdWinRIdeal.τ).loc Cert.AdWinRIdeal.main_v26) = v1 c
          ∧ r.2.mem ((c.tc : Thread Cert.AdWinRIdeal.nD Cert.AdWinRIdeal.τ).loc Cert.AdWinRIdeal.main_v27) = v2 c
          ∧ r.2.mem ((c.tc : Thread Cert.AdWinRIdeal.nD Cert.AdWinRIdeal.τ).loc Cert.AdWinRIdeal.main_v28) = v3 c
          ∧ r.2.mem ((c.tc : Thread Cert.AdWinRIdeal.nD Cert.AdWinRIdeal.τ).loc Cert.AdWinRIdeal.main_arg0) = m' ((c.tc : Thread Cert.AdWinRIdeal.nD Cert.AdWinRIdeal.τ).loc Cert.AdWinRIdeal.main_arg0)
          ∧ r.2.mem ((c.tc : Thread Cert.AdWinRIdeal.nD Cert.AdWinRIdeal.τ).loc Cert.AdWinRIdeal.main_arg1) = m' ((c.tc : Thread Cert.AdWinRIdeal.nD Cert.AdWinRIdeal.τ).loc Cert.AdWinRIdeal.main_arg1)
          ∧ r.2.mem ((c.tc : Thread Cert.AdWinRIdeal.nD Cert.AdWinRIdeal.τ).loc Cert.AdWinRIdeal.main_arg2) = m' ((c.tc : Thread Cert.AdWinRIdeal.nD Cert.AdWinRIdeal.τ).loc Cert.AdWinRIdeal.main_arg2)
          ∧ r.2.mem ((c.tc : Thread Cert.AdWinRIdeal.nD Cert.AdWinRIdeal.τ).loc Cert.AdWinRIdeal.main_arg3) = m' ((c.tc : Thread Cert.AdWinRIdeal.nD Cert.AdWinRIdeal.τ).loc Cert.AdWinRIdeal.main_arg3)
          ∧ r.2.mem ((c.tc : Thread Cert.AdWinRIdeal.nD Cert.AdWinRIdeal.τ).loc Cert.AdWinRIdeal.main_arg4) = m' ((c.tc : Thread Cert.AdWinRIdeal.nD Cert.AdWinRIdeal.τ).loc Cert.AdWinRIdeal.main_arg4))

def preserves_AdProjK_AdProjKIdeal : Prop :=
  IdealRules.named_const.Statement Cert.AdProjKIdeal.κ "bc1" .f32 0x3FC48605#32 ((8388608 / 5463681 : ℝ) : EReal)
  ∧ IdealRules.named_const.Statement Cert.AdProjKIdeal.κ "bc2" .f32 0x42C8E6D3#32 ((268435456 / 2672307 : ℝ) : EReal)

def algebraic_AdProjKIdeal_AdProjRIdeal [hAdProjKIdeal : Cert.AdProjKIdeal.Facts] [hAdProjRIdeal : Cert.AdProjRIdeal.Facts] : Prop :=
  ∀ (m : (ℓ : Loc Cert.AdProjKIdeal.nD Cert.AdProjKIdeal.τ Cert.AdProjKIdeal.sig) → Buf (Elt Ideal) ℓ) (g : Dev Cert.AdProjKIdeal.nD → PrngReg)
    (m' : (ℓ : Loc Cert.AdProjRIdeal.nD Cert.AdProjRIdeal.τ Cert.AdProjRIdeal.sig) → Buf (Elt Ideal) ℓ) (g' : Dev Cert.AdProjRIdeal.nD → PrngReg), Pre_AdProjKIdeal m →
    (∀ c : Dev Cert.AdProjKIdeal.nD,
      m' ((c.tc : Thread Cert.AdProjRIdeal.nD Cert.AdProjRIdeal.τ).loc Cert.AdProjRIdeal.main_arg0) = m ((c.tc : Thread Cert.AdProjKIdeal.nD Cert.AdProjKIdeal.τ).loc Cert.AdProjKIdeal.main_arg0)
      ∧ m' ((c.tc : Thread Cert.AdProjRIdeal.nD Cert.AdProjRIdeal.τ).loc Cert.AdProjRIdeal.main_arg1) = m ((c.tc : Thread Cert.AdProjKIdeal.nD Cert.AdProjKIdeal.τ).loc Cert.AdProjKIdeal.main_arg1)
      ∧ m' ((c.tc : Thread Cert.AdProjRIdeal.nD Cert.AdProjRIdeal.τ).loc Cert.AdProjRIdeal.main_arg2) = m ((c.tc : Thread Cert.AdProjKIdeal.nD Cert.AdProjKIdeal.τ).loc Cert.AdProjKIdeal.main_arg2)
      ∧ m' ((c.tc : Thread Cert.AdProjRIdeal.nD Cert.AdProjRIdeal.τ).loc Cert.AdProjRIdeal.main_arg3) = m ((c.tc : Thread Cert.AdProjKIdeal.nD Cert.AdProjKIdeal.τ).loc Cert.AdProjKIdeal.main_arg3)
      ∧ m' ((c.tc : Thread Cert.AdProjRIdeal.nD Cert.AdProjRIdeal.τ).loc Cert.AdProjRIdeal.main_arg4) = m ((c.tc : Thread Cert.AdProjKIdeal.nD Cert.AdProjKIdeal.τ).loc Cert.AdProjKIdeal.main_arg4)) →
    ∃ (v0 : (c : Dev Cert.AdProjKIdeal.nD) → Buf (Elt Ideal) ((c.tc : Thread Cert.AdProjKIdeal.nD Cert.AdProjKIdeal.τ).loc Cert.AdProjKIdeal.main_v0_0)) (v1 : (c : Dev Cert.AdProjKIdeal.nD) → Buf (Elt Ideal) ((c.tc : Thread Cert.AdProjKIdeal.nD Cert.AdProjKIdeal.τ).loc Cert.AdProjKIdeal.main_v0_1)) (v2 : (c : Dev Cert.AdProjKIdeal.nD) → Buf (Elt Ideal) ((c.tc : Thread Cert.AdProjKIdeal.nD Cert.AdProjKIdeal.τ).loc Cert.AdProjKIdeal.main_v0_2)) (v3 : (c : Dev Cert.AdProjKIdeal.nD) → Buf (Elt Ideal) ((c.tc : Thread Cert.AdProjKIdeal.nD Cert.AdProjKIdeal.τ).loc Cert.AdProjKIdeal.main_v0_3)),
      θ_run (Cert.AdProjKIdeal.defs (F := Ideal)) (onTc (τ := Cert.AdProjKIdeal.τ) (Cert.AdProjKIdeal.main (F := Ideal))) ⟨m, fun _ => 0, g⟩ (fun r => ∀ c : Dev Cert.AdProjKIdeal.nD,
          r.2.mem ((c.tc : Thread Cert.AdProjKIdeal.nD Cert.AdProjKIdeal.τ).loc Cert.AdProjKIdeal.main_v0_0) = v0 c
          ∧ r.2.mem ((c.tc : Thread Cert.AdProjKIdeal.nD Cert.AdProjKIdeal.τ).loc Cert.AdProjKIdeal.main_v0_1) = v1 c
          ∧ r.2.mem ((c.tc : Thread Cert.AdProjKIdeal.nD Cert.AdProjKIdeal.τ).loc Cert.AdProjKIdeal.main_v0_2) = v2 c
          ∧ r.2.mem ((c.tc : Thread Cert.AdProjKIdeal.nD Cert.AdProjKIdeal.τ).loc Cert.AdProjKIdeal.main_v0_3) = v3 c
          ∧ r.2.mem ((c.tc : Thread Cert.AdProjKIdeal.nD Cert.AdProjKIdeal.τ).loc Cert.AdProjKIdeal.main_arg0) = m ((c.tc : Thread Cert.AdProjKIdeal.nD Cert.AdProjKIdeal.τ).loc Cert.AdProjKIdeal.main_arg0)
          ∧ r.2.mem ((c.tc : Thread Cert.AdProjKIdeal.nD Cert.AdProjKIdeal.τ).loc Cert.AdProjKIdeal.main_arg1) = m ((c.tc : Thread Cert.AdProjKIdeal.nD Cert.AdProjKIdeal.τ).loc Cert.AdProjKIdeal.main_arg1)
          ∧ r.2.mem ((c.tc : Thread Cert.AdProjKIdeal.nD Cert.AdProjKIdeal.τ).loc Cert.AdProjKIdeal.main_arg2) = m ((c.tc : Thread Cert.AdProjKIdeal.nD Cert.AdProjKIdeal.τ).loc Cert.AdProjKIdeal.main_arg2)
          ∧ r.2.mem ((c.tc : Thread Cert.AdProjKIdeal.nD Cert.AdProjKIdeal.τ).loc Cert.AdProjKIdeal.main_arg3) = m ((c.tc : Thread Cert.AdProjKIdeal.nD Cert.AdProjKIdeal.τ).loc Cert.AdProjKIdeal.main_arg3)
          ∧ r.2.mem ((c.tc : Thread Cert.AdProjKIdeal.nD Cert.AdProjKIdeal.τ).loc Cert.AdProjKIdeal.main_arg4) = m ((c.tc : Thread Cert.AdProjKIdeal.nD Cert.AdProjKIdeal.τ).loc Cert.AdProjKIdeal.main_arg4))
      ∧ θ_run (Cert.AdProjRIdeal.defs (F := Ideal)) (onTc (τ := Cert.AdProjRIdeal.τ) (Cert.AdProjRIdeal.main (F := Ideal))) ⟨m', fun _ => 0, g'⟩ (fun r => ∀ c : Dev Cert.AdProjRIdeal.nD,
          r.2.mem ((c.tc : Thread Cert.AdProjRIdeal.nD Cert.AdProjRIdeal.τ).loc Cert.AdProjRIdeal.main_v0) = v0 c
          ∧ r.2.mem ((c.tc : Thread Cert.AdProjRIdeal.nD Cert.AdProjRIdeal.τ).loc Cert.AdProjRIdeal.main_v24) = v1 c
          ∧ r.2.mem ((c.tc : Thread Cert.AdProjRIdeal.nD Cert.AdProjRIdeal.τ).loc Cert.AdProjRIdeal.main_v5) = v2 c
          ∧ r.2.mem ((c.tc : Thread Cert.AdProjRIdeal.nD Cert.AdProjRIdeal.τ).loc Cert.AdProjRIdeal.main_v11) = v3 c
          ∧ r.2.mem ((c.tc : Thread Cert.AdProjRIdeal.nD Cert.AdProjRIdeal.τ).loc Cert.AdProjRIdeal.main_arg0) = m' ((c.tc : Thread Cert.AdProjRIdeal.nD Cert.AdProjRIdeal.τ).loc Cert.AdProjRIdeal.main_arg0)
          ∧ r.2.mem ((c.tc : Thread Cert.AdProjRIdeal.nD Cert.AdProjRIdeal.τ).loc Cert.AdProjRIdeal.main_arg1) = m' ((c.tc : Thread Cert.AdProjRIdeal.nD Cert.AdProjRIdeal.τ).loc Cert.AdProjRIdeal.main_arg1)
          ∧ r.2.mem ((c.tc : Thread Cert.AdProjRIdeal.nD Cert.AdProjRIdeal.τ).loc Cert.AdProjRIdeal.main_arg2) = m' ((c.tc : Thread Cert.AdProjRIdeal.nD Cert.AdProjRIdeal.τ).loc Cert.AdProjRIdeal.main_arg2)
          ∧ r.2.mem ((c.tc : Thread Cert.AdProjRIdeal.nD Cert.AdProjRIdeal.τ).loc Cert.AdProjRIdeal.main_arg3) = m' ((c.tc : Thread Cert.AdProjRIdeal.nD Cert.AdProjRIdeal.τ).loc Cert.AdProjRIdeal.main_arg3)
          ∧ r.2.mem ((c.tc : Thread Cert.AdProjRIdeal.nD Cert.AdProjRIdeal.τ).loc Cert.AdProjRIdeal.main_arg4) = m' ((c.tc : Thread Cert.AdProjRIdeal.nD Cert.AdProjRIdeal.τ).loc Cert.AdProjRIdeal.main_arg4))

def preserves_AdOutK_AdOutKIdeal : Prop :=
  IdealRules.named_const.Statement Cert.AdOutKIdeal.κ "bc1" .f32 0x3FC48605#32 ((8388608 / 5463681 : ℝ) : EReal)
  ∧ IdealRules.named_const.Statement Cert.AdOutKIdeal.κ "bc2" .f32 0x42C8E6D3#32 ((268435456 / 2672307 : ℝ) : EReal)

def algebraic_AdOutKIdeal_AdOutRIdeal [hAdOutKIdeal : Cert.AdOutKIdeal.Facts] [hAdOutRIdeal : Cert.AdOutRIdeal.Facts] : Prop :=
  ∀ (m : (ℓ : Loc Cert.AdOutKIdeal.nD Cert.AdOutKIdeal.τ Cert.AdOutKIdeal.sig) → Buf (Elt Ideal) ℓ) (g : Dev Cert.AdOutKIdeal.nD → PrngReg)
    (m' : (ℓ : Loc Cert.AdOutRIdeal.nD Cert.AdOutRIdeal.τ Cert.AdOutRIdeal.sig) → Buf (Elt Ideal) ℓ) (g' : Dev Cert.AdOutRIdeal.nD → PrngReg), Pre_AdOutKIdeal m →
    (∀ c : Dev Cert.AdOutKIdeal.nD,
      m' ((c.tc : Thread Cert.AdOutRIdeal.nD Cert.AdOutRIdeal.τ).loc Cert.AdOutRIdeal.main_arg0) = m ((c.tc : Thread Cert.AdOutKIdeal.nD Cert.AdOutKIdeal.τ).loc Cert.AdOutKIdeal.main_arg0)
      ∧ m' ((c.tc : Thread Cert.AdOutRIdeal.nD Cert.AdOutRIdeal.τ).loc Cert.AdOutRIdeal.main_arg1) = m ((c.tc : Thread Cert.AdOutKIdeal.nD Cert.AdOutKIdeal.τ).loc Cert.AdOutKIdeal.main_arg1)
      ∧ m' ((c.tc : Thread Cert.AdOutRIdeal.nD Cert.AdOutRIdeal.τ).loc Cert.AdOutRIdeal.main_arg2) = m ((c.tc : Thread Cert.AdOutKIdeal.nD Cert.AdOutKIdeal.τ).loc Cert.AdOutKIdeal.main_arg2)
      ∧ m' ((c.tc : Thread Cert.AdOutRIdeal.nD Cert.AdOutRIdeal.τ).loc Cert.AdOutRIdeal.main_arg3) = m ((c.tc : Thread Cert.AdOutKIdeal.nD Cert.AdOutKIdeal.τ).loc Cert.AdOutKIdeal.main_arg3)
      ∧ m' ((c.tc : Thread Cert.AdOutRIdeal.nD Cert.AdOutRIdeal.τ).loc Cert.AdOutRIdeal.main_arg4) = m ((c.tc : Thread Cert.AdOutKIdeal.nD Cert.AdOutKIdeal.τ).loc Cert.AdOutKIdeal.main_arg4)) →
    ∃ (v0 : (c : Dev Cert.AdOutKIdeal.nD) → Buf (Elt Ideal) ((c.tc : Thread Cert.AdOutKIdeal.nD Cert.AdOutKIdeal.τ).loc Cert.AdOutKIdeal.main_v0_0)) (v1 : (c : Dev Cert.AdOutKIdeal.nD) → Buf (Elt Ideal) ((c.tc : Thread Cert.AdOutKIdeal.nD Cert.AdOutKIdeal.τ).loc Cert.AdOutKIdeal.main_v0_1)) (v2 : (c : Dev Cert.AdOutKIdeal.nD) → Buf (Elt Ideal) ((c.tc : Thread Cert.AdOutKIdeal.nD Cert.AdOutKIdeal.τ).loc Cert.AdOutKIdeal.main_v0_2)) (v3 : (c : Dev Cert.AdOutKIdeal.nD) → Buf (Elt Ideal) ((c.tc : Thread Cert.AdOutKIdeal.nD Cert.AdOutKIdeal.τ).loc Cert.AdOutKIdeal.main_v0_3)),
      θ_run (Cert.AdOutKIdeal.defs (F := Ideal)) (onTc (τ := Cert.AdOutKIdeal.τ) (Cert.AdOutKIdeal.main (F := Ideal))) ⟨m, fun _ => 0, g⟩ (fun r => ∀ c : Dev Cert.AdOutKIdeal.nD,
          r.2.mem ((c.tc : Thread Cert.AdOutKIdeal.nD Cert.AdOutKIdeal.τ).loc Cert.AdOutKIdeal.main_v0_0) = v0 c
          ∧ r.2.mem ((c.tc : Thread Cert.AdOutKIdeal.nD Cert.AdOutKIdeal.τ).loc Cert.AdOutKIdeal.main_v0_1) = v1 c
          ∧ r.2.mem ((c.tc : Thread Cert.AdOutKIdeal.nD Cert.AdOutKIdeal.τ).loc Cert.AdOutKIdeal.main_v0_2) = v2 c
          ∧ r.2.mem ((c.tc : Thread Cert.AdOutKIdeal.nD Cert.AdOutKIdeal.τ).loc Cert.AdOutKIdeal.main_v0_3) = v3 c
          ∧ r.2.mem ((c.tc : Thread Cert.AdOutKIdeal.nD Cert.AdOutKIdeal.τ).loc Cert.AdOutKIdeal.main_arg0) = m ((c.tc : Thread Cert.AdOutKIdeal.nD Cert.AdOutKIdeal.τ).loc Cert.AdOutKIdeal.main_arg0)
          ∧ r.2.mem ((c.tc : Thread Cert.AdOutKIdeal.nD Cert.AdOutKIdeal.τ).loc Cert.AdOutKIdeal.main_arg1) = m ((c.tc : Thread Cert.AdOutKIdeal.nD Cert.AdOutKIdeal.τ).loc Cert.AdOutKIdeal.main_arg1)
          ∧ r.2.mem ((c.tc : Thread Cert.AdOutKIdeal.nD Cert.AdOutKIdeal.τ).loc Cert.AdOutKIdeal.main_arg2) = m ((c.tc : Thread Cert.AdOutKIdeal.nD Cert.AdOutKIdeal.τ).loc Cert.AdOutKIdeal.main_arg2)
          ∧ r.2.mem ((c.tc : Thread Cert.AdOutKIdeal.nD Cert.AdOutKIdeal.τ).loc Cert.AdOutKIdeal.main_arg3) = m ((c.tc : Thread Cert.AdOutKIdeal.nD Cert.AdOutKIdeal.τ).loc Cert.AdOutKIdeal.main_arg3)
          ∧ r.2.mem ((c.tc : Thread Cert.AdOutKIdeal.nD Cert.AdOutKIdeal.τ).loc Cert.AdOutKIdeal.main_arg4) = m ((c.tc : Thread Cert.AdOutKIdeal.nD Cert.AdOutKIdeal.τ).loc Cert.AdOutKIdeal.main_arg4))
      ∧ θ_run (Cert.AdOutRIdeal.defs (F := Ideal)) (onTc (τ := Cert.AdOutRIdeal.τ) (Cert.AdOutRIdeal.main (F := Ideal))) ⟨m', fun _ => 0, g'⟩ (fun r => ∀ c : Dev Cert.AdOutRIdeal.nD,
          r.2.mem ((c.tc : Thread Cert.AdOutRIdeal.nD Cert.AdOutRIdeal.τ).loc Cert.AdOutRIdeal.main_v0) = v0 c
          ∧ r.2.mem ((c.tc : Thread Cert.AdOutRIdeal.nD Cert.AdOutRIdeal.τ).loc Cert.AdOutRIdeal.main_v24) = v1 c
          ∧ r.2.mem ((c.tc : Thread Cert.AdOutRIdeal.nD Cert.AdOutRIdeal.τ).loc Cert.AdOutRIdeal.main_v5) = v2 c
          ∧ r.2.mem ((c.tc : Thread Cert.AdOutRIdeal.nD Cert.AdOutRIdeal.τ).loc Cert.AdOutRIdeal.main_v11) = v3 c
          ∧ r.2.mem ((c.tc : Thread Cert.AdOutRIdeal.nD Cert.AdOutRIdeal.τ).loc Cert.AdOutRIdeal.main_arg0) = m' ((c.tc : Thread Cert.AdOutRIdeal.nD Cert.AdOutRIdeal.τ).loc Cert.AdOutRIdeal.main_arg0)
          ∧ r.2.mem ((c.tc : Thread Cert.AdOutRIdeal.nD Cert.AdOutRIdeal.τ).loc Cert.AdOutRIdeal.main_arg1) = m' ((c.tc : Thread Cert.AdOutRIdeal.nD Cert.AdOutRIdeal.τ).loc Cert.AdOutRIdeal.main_arg1)
          ∧ r.2.mem ((c.tc : Thread Cert.AdOutRIdeal.nD Cert.AdOutRIdeal.τ).loc Cert.AdOutRIdeal.main_arg2) = m' ((c.tc : Thread Cert.AdOutRIdeal.nD Cert.AdOutRIdeal.τ).loc Cert.AdOutRIdeal.main_arg2)
          ∧ r.2.mem ((c.tc : Thread Cert.AdOutRIdeal.nD Cert.AdOutRIdeal.τ).loc Cert.AdOutRIdeal.main_arg3) = m' ((c.tc : Thread Cert.AdOutRIdeal.nD Cert.AdOutRIdeal.τ).loc Cert.AdOutRIdeal.main_arg3)
          ∧ r.2.mem ((c.tc : Thread Cert.AdOutRIdeal.nD Cert.AdOutRIdeal.τ).loc Cert.AdOutRIdeal.main_arg4) = m' ((c.tc : Thread Cert.AdOutRIdeal.nD Cert.AdOutRIdeal.τ).loc Cert.AdOutRIdeal.main_arg4))

def preserves_AdUpK_AdUpKIdeal : Prop :=
  IdealRules.named_const.Statement Cert.AdUpKIdeal.κ "bc1" .f32 0x3FC48605#32 ((8388608 / 5463681 : ℝ) : EReal)
  ∧ IdealRules.named_const.Statement Cert.AdUpKIdeal.κ "bc2" .f32 0x42C8E6D3#32 ((268435456 / 2672307 : ℝ) : EReal)

def algebraic_AdUpKIdeal_AdUpRIdeal [hAdUpKIdeal : Cert.AdUpKIdeal.Facts] [hAdUpRIdeal : Cert.AdUpRIdeal.Facts] : Prop :=
  ∀ (m : (ℓ : Loc Cert.AdUpKIdeal.nD Cert.AdUpKIdeal.τ Cert.AdUpKIdeal.sig) → Buf (Elt Ideal) ℓ) (g : Dev Cert.AdUpKIdeal.nD → PrngReg)
    (m' : (ℓ : Loc Cert.AdUpRIdeal.nD Cert.AdUpRIdeal.τ Cert.AdUpRIdeal.sig) → Buf (Elt Ideal) ℓ) (g' : Dev Cert.AdUpRIdeal.nD → PrngReg), Pre_AdUpKIdeal m →
    (∀ c : Dev Cert.AdUpKIdeal.nD,
      m' ((c.tc : Thread Cert.AdUpRIdeal.nD Cert.AdUpRIdeal.τ).loc Cert.AdUpRIdeal.main_arg0) = m ((c.tc : Thread Cert.AdUpKIdeal.nD Cert.AdUpKIdeal.τ).loc Cert.AdUpKIdeal.main_arg0)
      ∧ m' ((c.tc : Thread Cert.AdUpRIdeal.nD Cert.AdUpRIdeal.τ).loc Cert.AdUpRIdeal.main_arg1) = m ((c.tc : Thread Cert.AdUpKIdeal.nD Cert.AdUpKIdeal.τ).loc Cert.AdUpKIdeal.main_arg1)
      ∧ m' ((c.tc : Thread Cert.AdUpRIdeal.nD Cert.AdUpRIdeal.τ).loc Cert.AdUpRIdeal.main_arg2) = m ((c.tc : Thread Cert.AdUpKIdeal.nD Cert.AdUpKIdeal.τ).loc Cert.AdUpKIdeal.main_arg2)
      ∧ m' ((c.tc : Thread Cert.AdUpRIdeal.nD Cert.AdUpRIdeal.τ).loc Cert.AdUpRIdeal.main_arg3) = m ((c.tc : Thread Cert.AdUpKIdeal.nD Cert.AdUpKIdeal.τ).loc Cert.AdUpKIdeal.main_arg3)
      ∧ m' ((c.tc : Thread Cert.AdUpRIdeal.nD Cert.AdUpRIdeal.τ).loc Cert.AdUpRIdeal.main_arg4) = m ((c.tc : Thread Cert.AdUpKIdeal.nD Cert.AdUpKIdeal.τ).loc Cert.AdUpKIdeal.main_arg4)) →
    ∃ (v0 : (c : Dev Cert.AdUpKIdeal.nD) → Buf (Elt Ideal) ((c.tc : Thread Cert.AdUpKIdeal.nD Cert.AdUpKIdeal.τ).loc Cert.AdUpKIdeal.main_v0_0)) (v1 : (c : Dev Cert.AdUpKIdeal.nD) → Buf (Elt Ideal) ((c.tc : Thread Cert.AdUpKIdeal.nD Cert.AdUpKIdeal.τ).loc Cert.AdUpKIdeal.main_v0_1)) (v2 : (c : Dev Cert.AdUpKIdeal.nD) → Buf (Elt Ideal) ((c.tc : Thread Cert.AdUpKIdeal.nD Cert.AdUpKIdeal.τ).loc Cert.AdUpKIdeal.main_v0_2)) (v3 : (c : Dev Cert.AdUpKIdeal.nD) → Buf (Elt Ideal) ((c.tc : Thread Cert.AdUpKIdeal.nD Cert.AdUpKIdeal.τ).loc Cert.AdUpKIdeal.main_v0_3)),
      θ_run (Cert.AdUpKIdeal.defs (F := Ideal)) (onTc (τ := Cert.AdUpKIdeal.τ) (Cert.AdUpKIdeal.main (F := Ideal))) ⟨m, fun _ => 0, g⟩ (fun r => ∀ c : Dev Cert.AdUpKIdeal.nD,
          r.2.mem ((c.tc : Thread Cert.AdUpKIdeal.nD Cert.AdUpKIdeal.τ).loc Cert.AdUpKIdeal.main_v0_0) = v0 c
          ∧ r.2.mem ((c.tc : Thread Cert.AdUpKIdeal.nD Cert.AdUpKIdeal.τ).loc Cert.AdUpKIdeal.main_v0_1) = v1 c
          ∧ r.2.mem ((c.tc : Thread Cert.AdUpKIdeal.nD Cert.AdUpKIdeal.τ).loc Cert.AdUpKIdeal.main_v0_2) = v2 c
          ∧ r.2.mem ((c.tc : Thread Cert.AdUpKIdeal.nD Cert.AdUpKIdeal.τ).loc Cert.AdUpKIdeal.main_v0_3) = v3 c
          ∧ r.2.mem ((c.tc : Thread Cert.AdUpKIdeal.nD Cert.AdUpKIdeal.τ).loc Cert.AdUpKIdeal.main_arg0) = m ((c.tc : Thread Cert.AdUpKIdeal.nD Cert.AdUpKIdeal.τ).loc Cert.AdUpKIdeal.main_arg0)
          ∧ r.2.mem ((c.tc : Thread Cert.AdUpKIdeal.nD Cert.AdUpKIdeal.τ).loc Cert.AdUpKIdeal.main_arg1) = m ((c.tc : Thread Cert.AdUpKIdeal.nD Cert.AdUpKIdeal.τ).loc Cert.AdUpKIdeal.main_arg1)
          ∧ r.2.mem ((c.tc : Thread Cert.AdUpKIdeal.nD Cert.AdUpKIdeal.τ).loc Cert.AdUpKIdeal.main_arg2) = m ((c.tc : Thread Cert.AdUpKIdeal.nD Cert.AdUpKIdeal.τ).loc Cert.AdUpKIdeal.main_arg2)
          ∧ r.2.mem ((c.tc : Thread Cert.AdUpKIdeal.nD Cert.AdUpKIdeal.τ).loc Cert.AdUpKIdeal.main_arg3) = m ((c.tc : Thread Cert.AdUpKIdeal.nD Cert.AdUpKIdeal.τ).loc Cert.AdUpKIdeal.main_arg3)
          ∧ r.2.mem ((c.tc : Thread Cert.AdUpKIdeal.nD Cert.AdUpKIdeal.τ).loc Cert.AdUpKIdeal.main_arg4) = m ((c.tc : Thread Cert.AdUpKIdeal.nD Cert.AdUpKIdeal.τ).loc Cert.AdUpKIdeal.main_arg4))
      ∧ θ_run (Cert.AdUpRIdeal.defs (F := Ideal)) (onTc (τ := Cert.AdUpRIdeal.τ) (Cert.AdUpRIdeal.main (F := Ideal))) ⟨m', fun _ => 0, g'⟩ (fun r => ∀ c : Dev Cert.AdUpRIdeal.nD,
          r.2.mem ((c.tc : Thread Cert.AdUpRIdeal.nD Cert.AdUpRIdeal.τ).loc Cert.AdUpRIdeal.main_v0) = v0 c
          ∧ r.2.mem ((c.tc : Thread Cert.AdUpRIdeal.nD Cert.AdUpRIdeal.τ).loc Cert.AdUpRIdeal.main_v24) = v1 c
          ∧ r.2.mem ((c.tc : Thread Cert.AdUpRIdeal.nD Cert.AdUpRIdeal.τ).loc Cert.AdUpRIdeal.main_v5) = v2 c
          ∧ r.2.mem ((c.tc : Thread Cert.AdUpRIdeal.nD Cert.AdUpRIdeal.τ).loc Cert.AdUpRIdeal.main_v11) = v3 c
          ∧ r.2.mem ((c.tc : Thread Cert.AdUpRIdeal.nD Cert.AdUpRIdeal.τ).loc Cert.AdUpRIdeal.main_arg0) = m' ((c.tc : Thread Cert.AdUpRIdeal.nD Cert.AdUpRIdeal.τ).loc Cert.AdUpRIdeal.main_arg0)
          ∧ r.2.mem ((c.tc : Thread Cert.AdUpRIdeal.nD Cert.AdUpRIdeal.τ).loc Cert.AdUpRIdeal.main_arg1) = m' ((c.tc : Thread Cert.AdUpRIdeal.nD Cert.AdUpRIdeal.τ).loc Cert.AdUpRIdeal.main_arg1)
          ∧ r.2.mem ((c.tc : Thread Cert.AdUpRIdeal.nD Cert.AdUpRIdeal.τ).loc Cert.AdUpRIdeal.main_arg2) = m' ((c.tc : Thread Cert.AdUpRIdeal.nD Cert.AdUpRIdeal.τ).loc Cert.AdUpRIdeal.main_arg2)
          ∧ r.2.mem ((c.tc : Thread Cert.AdUpRIdeal.nD Cert.AdUpRIdeal.τ).loc Cert.AdUpRIdeal.main_arg3) = m' ((c.tc : Thread Cert.AdUpRIdeal.nD Cert.AdUpRIdeal.τ).loc Cert.AdUpRIdeal.main_arg3)
          ∧ r.2.mem ((c.tc : Thread Cert.AdUpRIdeal.nD Cert.AdUpRIdeal.τ).loc Cert.AdUpRIdeal.main_arg4) = m' ((c.tc : Thread Cert.AdUpRIdeal.nD Cert.AdUpRIdeal.τ).loc Cert.AdUpRIdeal.main_arg4))

def preserves_AdDownK_AdDownKIdeal : Prop :=
  IdealRules.named_const.Statement Cert.AdDownKIdeal.κ "bc1" .f32 0x3FC48605#32 ((8388608 / 5463681 : ℝ) : EReal)
  ∧ IdealRules.named_const.Statement Cert.AdDownKIdeal.κ "bc2" .f32 0x42C8E6D3#32 ((268435456 / 2672307 : ℝ) : EReal)

def algebraic_AdDownKIdeal_AdDownRIdeal [hAdDownKIdeal : Cert.AdDownKIdeal.Facts] [hAdDownRIdeal : Cert.AdDownRIdeal.Facts] : Prop :=
  ∀ (m : (ℓ : Loc Cert.AdDownKIdeal.nD Cert.AdDownKIdeal.τ Cert.AdDownKIdeal.sig) → Buf (Elt Ideal) ℓ) (g : Dev Cert.AdDownKIdeal.nD → PrngReg)
    (m' : (ℓ : Loc Cert.AdDownRIdeal.nD Cert.AdDownRIdeal.τ Cert.AdDownRIdeal.sig) → Buf (Elt Ideal) ℓ) (g' : Dev Cert.AdDownRIdeal.nD → PrngReg), Pre_AdDownKIdeal m →
    (∀ c : Dev Cert.AdDownKIdeal.nD,
      m' ((c.tc : Thread Cert.AdDownRIdeal.nD Cert.AdDownRIdeal.τ).loc Cert.AdDownRIdeal.main_arg0) = m ((c.tc : Thread Cert.AdDownKIdeal.nD Cert.AdDownKIdeal.τ).loc Cert.AdDownKIdeal.main_arg0)
      ∧ m' ((c.tc : Thread Cert.AdDownRIdeal.nD Cert.AdDownRIdeal.τ).loc Cert.AdDownRIdeal.main_arg1) = m ((c.tc : Thread Cert.AdDownKIdeal.nD Cert.AdDownKIdeal.τ).loc Cert.AdDownKIdeal.main_arg1)
      ∧ m' ((c.tc : Thread Cert.AdDownRIdeal.nD Cert.AdDownRIdeal.τ).loc Cert.AdDownRIdeal.main_arg2) = m ((c.tc : Thread Cert.AdDownKIdeal.nD Cert.AdDownKIdeal.τ).loc Cert.AdDownKIdeal.main_arg2)
      ∧ m' ((c.tc : Thread Cert.AdDownRIdeal.nD Cert.AdDownRIdeal.τ).loc Cert.AdDownRIdeal.main_arg3) = m ((c.tc : Thread Cert.AdDownKIdeal.nD Cert.AdDownKIdeal.τ).loc Cert.AdDownKIdeal.main_arg3)
      ∧ m' ((c.tc : Thread Cert.AdDownRIdeal.nD Cert.AdDownRIdeal.τ).loc Cert.AdDownRIdeal.main_arg4) = m ((c.tc : Thread Cert.AdDownKIdeal.nD Cert.AdDownKIdeal.τ).loc Cert.AdDownKIdeal.main_arg4)) →
    ∃ (v0 : (c : Dev Cert.AdDownKIdeal.nD) → Buf (Elt Ideal) ((c.tc : Thread Cert.AdDownKIdeal.nD Cert.AdDownKIdeal.τ).loc Cert.AdDownKIdeal.main_v0_0)) (v1 : (c : Dev Cert.AdDownKIdeal.nD) → Buf (Elt Ideal) ((c.tc : Thread Cert.AdDownKIdeal.nD Cert.AdDownKIdeal.τ).loc Cert.AdDownKIdeal.main_v0_1)) (v2 : (c : Dev Cert.AdDownKIdeal.nD) → Buf (Elt Ideal) ((c.tc : Thread Cert.AdDownKIdeal.nD Cert.AdDownKIdeal.τ).loc Cert.AdDownKIdeal.main_v0_2)) (v3 : (c : Dev Cert.AdDownKIdeal.nD) → Buf (Elt Ideal) ((c.tc : Thread Cert.AdDownKIdeal.nD Cert.AdDownKIdeal.τ).loc Cert.AdDownKIdeal.main_v0_3)),
      θ_run (Cert.AdDownKIdeal.defs (F := Ideal)) (onTc (τ := Cert.AdDownKIdeal.τ) (Cert.AdDownKIdeal.main (F := Ideal))) ⟨m, fun _ => 0, g⟩ (fun r => ∀ c : Dev Cert.AdDownKIdeal.nD,
          r.2.mem ((c.tc : Thread Cert.AdDownKIdeal.nD Cert.AdDownKIdeal.τ).loc Cert.AdDownKIdeal.main_v0_0) = v0 c
          ∧ r.2.mem ((c.tc : Thread Cert.AdDownKIdeal.nD Cert.AdDownKIdeal.τ).loc Cert.AdDownKIdeal.main_v0_1) = v1 c
          ∧ r.2.mem ((c.tc : Thread Cert.AdDownKIdeal.nD Cert.AdDownKIdeal.τ).loc Cert.AdDownKIdeal.main_v0_2) = v2 c
          ∧ r.2.mem ((c.tc : Thread Cert.AdDownKIdeal.nD Cert.AdDownKIdeal.τ).loc Cert.AdDownKIdeal.main_v0_3) = v3 c
          ∧ r.2.mem ((c.tc : Thread Cert.AdDownKIdeal.nD Cert.AdDownKIdeal.τ).loc Cert.AdDownKIdeal.main_arg0) = m ((c.tc : Thread Cert.AdDownKIdeal.nD Cert.AdDownKIdeal.τ).loc Cert.AdDownKIdeal.main_arg0)
          ∧ r.2.mem ((c.tc : Thread Cert.AdDownKIdeal.nD Cert.AdDownKIdeal.τ).loc Cert.AdDownKIdeal.main_arg1) = m ((c.tc : Thread Cert.AdDownKIdeal.nD Cert.AdDownKIdeal.τ).loc Cert.AdDownKIdeal.main_arg1)
          ∧ r.2.mem ((c.tc : Thread Cert.AdDownKIdeal.nD Cert.AdDownKIdeal.τ).loc Cert.AdDownKIdeal.main_arg2) = m ((c.tc : Thread Cert.AdDownKIdeal.nD Cert.AdDownKIdeal.τ).loc Cert.AdDownKIdeal.main_arg2)
          ∧ r.2.mem ((c.tc : Thread Cert.AdDownKIdeal.nD Cert.AdDownKIdeal.τ).loc Cert.AdDownKIdeal.main_arg3) = m ((c.tc : Thread Cert.AdDownKIdeal.nD Cert.AdDownKIdeal.τ).loc Cert.AdDownKIdeal.main_arg3)
          ∧ r.2.mem ((c.tc : Thread Cert.AdDownKIdeal.nD Cert.AdDownKIdeal.τ).loc Cert.AdDownKIdeal.main_arg4) = m ((c.tc : Thread Cert.AdDownKIdeal.nD Cert.AdDownKIdeal.τ).loc Cert.AdDownKIdeal.main_arg4))
      ∧ θ_run (Cert.AdDownRIdeal.defs (F := Ideal)) (onTc (τ := Cert.AdDownRIdeal.τ) (Cert.AdDownRIdeal.main (F := Ideal))) ⟨m', fun _ => 0, g'⟩ (fun r => ∀ c : Dev Cert.AdDownRIdeal.nD,
          r.2.mem ((c.tc : Thread Cert.AdDownRIdeal.nD Cert.AdDownRIdeal.τ).loc Cert.AdDownRIdeal.main_v0) = v0 c
          ∧ r.2.mem ((c.tc : Thread Cert.AdDownRIdeal.nD Cert.AdDownRIdeal.τ).loc Cert.AdDownRIdeal.main_v24) = v1 c
          ∧ r.2.mem ((c.tc : Thread Cert.AdDownRIdeal.nD Cert.AdDownRIdeal.τ).loc Cert.AdDownRIdeal.main_v5) = v2 c
          ∧ r.2.mem ((c.tc : Thread Cert.AdDownRIdeal.nD Cert.AdDownRIdeal.τ).loc Cert.AdDownRIdeal.main_v11) = v3 c
          ∧ r.2.mem ((c.tc : Thread Cert.AdDownRIdeal.nD Cert.AdDownRIdeal.τ).loc Cert.AdDownRIdeal.main_arg0) = m' ((c.tc : Thread Cert.AdDownRIdeal.nD Cert.AdDownRIdeal.τ).loc Cert.AdDownRIdeal.main_arg0)
          ∧ r.2.mem ((c.tc : Thread Cert.AdDownRIdeal.nD Cert.AdDownRIdeal.τ).loc Cert.AdDownRIdeal.main_arg1) = m' ((c.tc : Thread Cert.AdDownRIdeal.nD Cert.AdDownRIdeal.τ).loc Cert.AdDownRIdeal.main_arg1)
          ∧ r.2.mem ((c.tc : Thread Cert.AdDownRIdeal.nD Cert.AdDownRIdeal.τ).loc Cert.AdDownRIdeal.main_arg2) = m' ((c.tc : Thread Cert.AdDownRIdeal.nD Cert.AdDownRIdeal.τ).loc Cert.AdDownRIdeal.main_arg2)
          ∧ r.2.mem ((c.tc : Thread Cert.AdDownRIdeal.nD Cert.AdDownRIdeal.τ).loc Cert.AdDownRIdeal.main_arg3) = m' ((c.tc : Thread Cert.AdDownRIdeal.nD Cert.AdDownRIdeal.τ).loc Cert.AdDownRIdeal.main_arg3)
          ∧ r.2.mem ((c.tc : Thread Cert.AdDownRIdeal.nD Cert.AdDownRIdeal.τ).loc Cert.AdDownRIdeal.main_arg4) = m' ((c.tc : Thread Cert.AdDownRIdeal.nD Cert.AdDownRIdeal.τ).loc Cert.AdDownRIdeal.main_arg4))

def preserves_AdSmallK_AdSmallKIdeal : Prop :=
  IdealRules.named_const.Statement Cert.AdSmallKIdeal.κ "bc1" .f32 0x3FC48605#32 ((8388608 / 5463681 : ℝ) : EReal)
  ∧ IdealRules.named_const.Statement Cert.AdSmallKIdeal.κ "bc2" .f32 0x42C8E6D3#32 ((268435456 / 2672307 : ℝ) : EReal)

def algebraic_AdSmallKIdeal_AdSmallRIdeal [hAdSmallKIdeal : Cert.AdSmallKIdeal.Facts] [hAdSmallRIdeal : Cert.AdSmallRIdeal.Facts] : Prop :=
  ∀ (m : (ℓ : Loc Cert.AdSmallKIdeal.nD Cert.AdSmallKIdeal.τ Cert.AdSmallKIdeal.sig) → Buf (Elt Ideal) ℓ) (g : Dev Cert.AdSmallKIdeal.nD → PrngReg)
    (m' : (ℓ : Loc Cert.AdSmallRIdeal.nD Cert.AdSmallRIdeal.τ Cert.AdSmallRIdeal.sig) → Buf (Elt Ideal) ℓ) (g' : Dev Cert.AdSmallRIdeal.nD → PrngReg), Pre_AdSmallKIdeal m →
    (∀ c : Dev Cert.AdSmallKIdeal.nD,
      m' ((c.tc : Thread Cert.AdSmallRIdeal.nD Cert.AdSmallRIdeal.τ).loc Cert.AdSmallRIdeal.main_arg0) = m ((c.tc : Thread Cert.AdSmallKIdeal.nD Cert.AdSmallKIdeal.τ).loc Cert.AdSmallKIdeal.main_arg0)
      ∧ m' ((c.tc : Thread Cert.AdSmallRIdeal.nD Cert.AdSmallRIdeal.τ).loc Cert.AdSmallRIdeal.main_arg1) = m ((c.tc : Thread Cert.AdSmallKIdeal.nD Cert.AdSmallKIdeal.τ).loc Cert.AdSmallKIdeal.main_arg1)
      ∧ m' ((c.tc : Thread Cert.AdSmallRIdeal.nD Cert.AdSmallRIdeal.τ).loc Cert.AdSmallRIdeal.main_arg2) = m ((c.tc : Thread Cert.AdSmallKIdeal.nD Cert.AdSmallKIdeal.τ).loc Cert.AdSmallKIdeal.main_arg2)
      ∧ m' ((c.tc : Thread Cert.AdSmallRIdeal.nD Cert.AdSmallRIdeal.τ).loc Cert.AdSmallRIdeal.main_arg3) = m ((c.tc : Thread Cert.AdSmallKIdeal.nD Cert.AdSmallKIdeal.τ).loc Cert.AdSmallKIdeal.main_arg3)
      ∧ m' ((c.tc : Thread Cert.AdSmallRIdeal.nD Cert.AdSmallRIdeal.τ).loc Cert.AdSmallRIdeal.main_arg4) = m ((c.tc : Thread Cert.AdSmallKIdeal.nD Cert.AdSmallKIdeal.τ).loc Cert.AdSmallKIdeal.main_arg4)) →
    ∃ (v0 : (c : Dev Cert.AdSmallKIdeal.nD) → Buf (Elt Ideal) ((c.tc : Thread Cert.AdSmallKIdeal.nD Cert.AdSmallKIdeal.τ).loc Cert.AdSmallKIdeal.main_v0_0)) (v1 : (c : Dev Cert.AdSmallKIdeal.nD) → Buf (Elt Ideal) ((c.tc : Thread Cert.AdSmallKIdeal.nD Cert.AdSmallKIdeal.τ).loc Cert.AdSmallKIdeal.main_v0_1)) (v2 : (c : Dev Cert.AdSmallKIdeal.nD) → Buf (Elt Ideal) ((c.tc : Thread Cert.AdSmallKIdeal.nD Cert.AdSmallKIdeal.τ).loc Cert.AdSmallKIdeal.main_v0_2)) (v3 : (c : Dev Cert.AdSmallKIdeal.nD) → Buf (Elt Ideal) ((c.tc : Thread Cert.AdSmallKIdeal.nD Cert.AdSmallKIdeal.τ).loc Cert.AdSmallKIdeal.main_v0_3)),
      θ_run (Cert.AdSmallKIdeal.defs (F := Ideal)) (onTc (τ := Cert.AdSmallKIdeal.τ) (Cert.AdSmallKIdeal.main (F := Ideal))) ⟨m, fun _ => 0, g⟩ (fun r => ∀ c : Dev Cert.AdSmallKIdeal.nD,
          r.2.mem ((c.tc : Thread Cert.AdSmallKIdeal.nD Cert.AdSmallKIdeal.τ).loc Cert.AdSmallKIdeal.main_v0_0) = v0 c
          ∧ r.2.mem ((c.tc : Thread Cert.AdSmallKIdeal.nD Cert.AdSmallKIdeal.τ).loc Cert.AdSmallKIdeal.main_v0_1) = v1 c
          ∧ r.2.mem ((c.tc : Thread Cert.AdSmallKIdeal.nD Cert.AdSmallKIdeal.τ).loc Cert.AdSmallKIdeal.main_v0_2) = v2 c
          ∧ r.2.mem ((c.tc : Thread Cert.AdSmallKIdeal.nD Cert.AdSmallKIdeal.τ).loc Cert.AdSmallKIdeal.main_v0_3) = v3 c
          ∧ r.2.mem ((c.tc : Thread Cert.AdSmallKIdeal.nD Cert.AdSmallKIdeal.τ).loc Cert.AdSmallKIdeal.main_arg0) = m ((c.tc : Thread Cert.AdSmallKIdeal.nD Cert.AdSmallKIdeal.τ).loc Cert.AdSmallKIdeal.main_arg0)
          ∧ r.2.mem ((c.tc : Thread Cert.AdSmallKIdeal.nD Cert.AdSmallKIdeal.τ).loc Cert.AdSmallKIdeal.main_arg1) = m ((c.tc : Thread Cert.AdSmallKIdeal.nD Cert.AdSmallKIdeal.τ).loc Cert.AdSmallKIdeal.main_arg1)
          ∧ r.2.mem ((c.tc : Thread Cert.AdSmallKIdeal.nD Cert.AdSmallKIdeal.τ).loc Cert.AdSmallKIdeal.main_arg2) = m ((c.tc : Thread Cert.AdSmallKIdeal.nD Cert.AdSmallKIdeal.τ).loc Cert.AdSmallKIdeal.main_arg2)
          ∧ r.2.mem ((c.tc : Thread Cert.AdSmallKIdeal.nD Cert.AdSmallKIdeal.τ).loc Cert.AdSmallKIdeal.main_arg3) = m ((c.tc : Thread Cert.AdSmallKIdeal.nD Cert.AdSmallKIdeal.τ).loc Cert.AdSmallKIdeal.main_arg3)
          ∧ r.2.mem ((c.tc : Thread Cert.AdSmallKIdeal.nD Cert.AdSmallKIdeal.τ).loc Cert.AdSmallKIdeal.main_arg4) = m ((c.tc : Thread Cert.AdSmallKIdeal.nD Cert.AdSmallKIdeal.τ).loc Cert.AdSmallKIdeal.main_arg4))
      ∧ θ_run (Cert.AdSmallRIdeal.defs (F := Ideal)) (onTc (τ := Cert.AdSmallRIdeal.τ) (Cert.AdSmallRIdeal.main (F := Ideal))) ⟨m', fun _ => 0, g'⟩ (fun r => ∀ c : Dev Cert.AdSmallRIdeal.nD,
          r.2.mem ((c.tc : Thread Cert.AdSmallRIdeal.nD Cert.AdSmallRIdeal.τ).loc Cert.AdSmallRIdeal.main_v0) = v0 c
          ∧ r.2.mem ((c.tc : Thread Cert.AdSmallRIdeal.nD Cert.AdSmallRIdeal.τ).loc Cert.AdSmallRIdeal.main_v24) = v1 c
          ∧ r.2.mem ((c.tc : Thread Cert.AdSmallRIdeal.nD Cert.AdSmallRIdeal.τ).loc Cert.AdSmallRIdeal.main_v5) = v2 c
          ∧ r.2.mem ((c.tc : Thread Cert.AdSmallRIdeal.nD Cert.AdSmallRIdeal.τ).loc Cert.AdSmallRIdeal.main_v11) = v3 c
          ∧ r.2.mem ((c.tc : Thread Cert.AdSmallRIdeal.nD Cert.AdSmallRIdeal.τ).loc Cert.AdSmallRIdeal.main_arg0) = m' ((c.tc : Thread Cert.AdSmallRIdeal.nD Cert.AdSmallRIdeal.τ).loc Cert.AdSmallRIdeal.main_arg0)
          ∧ r.2.mem ((c.tc : Thread Cert.AdSmallRIdeal.nD Cert.AdSmallRIdeal.τ).loc Cert.AdSmallRIdeal.main_arg1) = m' ((c.tc : Thread Cert.AdSmallRIdeal.nD Cert.AdSmallRIdeal.τ).loc Cert.AdSmallRIdeal.main_arg1)
          ∧ r.2.mem ((c.tc : Thread Cert.AdSmallRIdeal.nD Cert.AdSmallRIdeal.τ).loc Cert.AdSmallRIdeal.main_arg2) = m' ((c.tc : Thread Cert.AdSmallRIdeal.nD Cert.AdSmallRIdeal.τ).loc Cert.AdSmallRIdeal.main_arg2)
          ∧ r.2.mem ((c.tc : Thread Cert.AdSmallRIdeal.nD Cert.AdSmallRIdeal.τ).loc Cert.AdSmallRIdeal.main_arg3) = m' ((c.tc : Thread Cert.AdSmallRIdeal.nD Cert.AdSmallRIdeal.τ).loc Cert.AdSmallRIdeal.main_arg3)
          ∧ r.2.mem ((c.tc : Thread Cert.AdSmallRIdeal.nD Cert.AdSmallRIdeal.τ).loc Cert.AdSmallRIdeal.main_arg4) = m' ((c.tc : Thread Cert.AdSmallRIdeal.nD Cert.AdSmallRIdeal.τ).loc Cert.AdSmallRIdeal.main_arg4))

def preserves_FdownK_FdownKIdeal : Prop :=
  True

def algebraic_FdownKIdeal_FdownRIdeal [hFdownKIdeal : Cert.FdownKIdeal.Facts] [hFdownRIdeal : Cert.FdownRIdeal.Facts] : Prop :=
  ∀ (m : (ℓ : Loc Cert.FdownKIdeal.nD Cert.FdownKIdeal.τ Cert.FdownKIdeal.sig) → Buf (Elt Ideal) ℓ) (g : Dev Cert.FdownKIdeal.nD → PrngReg)
    (m' : (ℓ : Loc Cert.FdownRIdeal.nD Cert.FdownRIdeal.τ Cert.FdownRIdeal.sig) → Buf (Elt Ideal) ℓ) (g' : Dev Cert.FdownRIdeal.nD → PrngReg), Pre_FdownKIdeal m →
    (∀ c : Dev Cert.FdownKIdeal.nD,
      m' ((c.tc : Thread Cert.FdownRIdeal.nD Cert.FdownRIdeal.τ).loc Cert.FdownRIdeal.main_arg0) = m ((c.tc : Thread Cert.FdownKIdeal.nD Cert.FdownKIdeal.τ).loc Cert.FdownKIdeal.main_arg0)
      ∧ m' ((c.tc : Thread Cert.FdownRIdeal.nD Cert.FdownRIdeal.τ).loc Cert.FdownRIdeal.main_arg1) = m ((c.tc : Thread Cert.FdownKIdeal.nD Cert.FdownKIdeal.τ).loc Cert.FdownKIdeal.main_arg1)
      ∧ m' ((c.tc : Thread Cert.FdownRIdeal.nD Cert.FdownRIdeal.τ).loc Cert.FdownRIdeal.main_arg2) = m ((c.tc : Thread Cert.FdownKIdeal.nD Cert.FdownKIdeal.τ).loc Cert.FdownKIdeal.main_arg2)
      ∧ m' ((c.tc : Thread Cert.FdownRIdeal.nD Cert.FdownRIdeal.τ).loc Cert.FdownRIdeal.main_arg3) = m ((c.tc : Thread Cert.FdownKIdeal.nD Cert.FdownKIdeal.τ).loc Cert.FdownKIdeal.main_arg3)
      ∧ m' ((c.tc : Thread Cert.FdownRIdeal.nD Cert.FdownRIdeal.τ).loc Cert.FdownRIdeal.main_arg4) = m ((c.tc : Thread Cert.FdownKIdeal.nD Cert.FdownKIdeal.τ).loc Cert.FdownKIdeal.main_arg4)) →
    ∃ (v0 : (c : Dev Cert.FdownKIdeal.nD) → Buf (Elt Ideal) ((c.tc : Thread Cert.FdownKIdeal.nD Cert.FdownKIdeal.τ).loc Cert.FdownKIdeal.main_v1_0)) (v1 : (c : Dev Cert.FdownKIdeal.nD) → Buf (Elt Ideal) ((c.tc : Thread Cert.FdownKIdeal.nD Cert.FdownKIdeal.τ).loc Cert.FdownKIdeal.main_v1_1)) (v2 : (c : Dev Cert.FdownKIdeal.nD) → Buf (Elt Ideal) ((c.tc : Thread Cert.FdownKIdeal.nD Cert.FdownKIdeal.τ).loc Cert.FdownKIdeal.main_v1_2)),
      θ_run (Cert.FdownKIdeal.defs (F := Ideal)) (onTc (τ := Cert.FdownKIdeal.τ) (Cert.FdownKIdeal.main (F := Ideal))) ⟨m, fun _ => 0, g⟩ (fun r => ∀ c : Dev Cert.FdownKIdeal.nD,
          r.2.mem ((c.tc : Thread Cert.FdownKIdeal.nD Cert.FdownKIdeal.τ).loc Cert.FdownKIdeal.main_v1_0) = v0 c
          ∧ r.2.mem ((c.tc : Thread Cert.FdownKIdeal.nD Cert.FdownKIdeal.τ).loc Cert.FdownKIdeal.main_v1_1) = v1 c
          ∧ r.2.mem ((c.tc : Thread Cert.FdownKIdeal.nD Cert.FdownKIdeal.τ).loc Cert.FdownKIdeal.main_v1_2) = v2 c
          ∧ r.2.mem ((c.tc : Thread Cert.FdownKIdeal.nD Cert.FdownKIdeal.τ).loc Cert.FdownKIdeal.main_arg0) = m ((c.tc : Thread Cert.FdownKIdeal.nD Cert.FdownKIdeal.τ).loc Cert.FdownKIdeal.main_arg0)
          ∧ r.2.mem ((c.tc : Thread Cert.FdownKIdeal.nD Cert.FdownKIdeal.τ).loc Cert.FdownKIdeal.main_arg1) = m ((c.tc : Thread Cert.FdownKIdeal.nD Cert.FdownKIdeal.τ).loc Cert.FdownKIdeal.main_arg1)
          ∧ r.2.mem ((c.tc : Thread Cert.FdownKIdeal.nD Cert.FdownKIdeal.τ).loc Cert.FdownKIdeal.main_arg2) = m ((c.tc : Thread Cert.FdownKIdeal.nD Cert.FdownKIdeal.τ).loc Cert.FdownKIdeal.main_arg2)
          ∧ r.2.mem ((c.tc : Thread Cert.FdownKIdeal.nD Cert.FdownKIdeal.τ).loc Cert.FdownKIdeal.main_arg3) = m ((c.tc : Thread Cert.FdownKIdeal.nD Cert.FdownKIdeal.τ).loc Cert.FdownKIdeal.main_arg3)
          ∧ r.2.mem ((c.tc : Thread Cert.FdownKIdeal.nD Cert.FdownKIdeal.τ).loc Cert.FdownKIdeal.main_arg4) = m ((c.tc : Thread Cert.FdownKIdeal.nD Cert.FdownKIdeal.τ).loc Cert.FdownKIdeal.main_arg4))
      ∧ θ_run (Cert.FdownRIdeal.defs (F := Ideal)) (onTc (τ := Cert.FdownRIdeal.τ) (Cert.FdownRIdeal.main (F := Ideal))) ⟨m', fun _ => 0, g'⟩ (fun r => ∀ c : Dev Cert.FdownRIdeal.nD,
          r.2.mem ((c.tc : Thread Cert.FdownRIdeal.nD Cert.FdownRIdeal.τ).loc Cert.FdownRIdeal.main_v54) = v0 c
          ∧ r.2.mem ((c.tc : Thread Cert.FdownRIdeal.nD Cert.FdownRIdeal.τ).loc Cert.FdownRIdeal.main_v55) = v1 c
          ∧ r.2.mem ((c.tc : Thread Cert.FdownRIdeal.nD Cert.FdownRIdeal.τ).loc Cert.FdownRIdeal.main_v56) = v2 c
          ∧ r.2.mem ((c.tc : Thread Cert.FdownRIdeal.nD Cert.FdownRIdeal.τ).loc Cert.FdownRIdeal.main_arg0) = m' ((c.tc : Thread Cert.FdownRIdeal.nD Cert.FdownRIdeal.τ).loc Cert.FdownRIdeal.main_arg0)
          ∧ r.2.mem ((c.tc : Thread Cert.FdownRIdeal.nD Cert.FdownRIdeal.τ).loc Cert.FdownRIdeal.main_arg1) = m' ((c.tc : Thread Cert.FdownRIdeal.nD Cert.FdownRIdeal.τ).loc Cert.FdownRIdeal.main_arg1)
          ∧ r.2.mem ((c.tc : Thread Cert.FdownRIdeal.nD Cert.FdownRIdeal.τ).loc Cert.FdownRIdeal.main_arg2) = m' ((c.tc : Thread Cert.FdownRIdeal.nD Cert.FdownRIdeal.τ).loc Cert.FdownRIdeal.main_arg2)
          ∧ r.2.mem ((c.tc : Thread Cert.FdownRIdeal.nD Cert.FdownRIdeal.τ).loc Cert.FdownRIdeal.main_arg3) = m' ((c.tc : Thread Cert.FdownRIdeal.nD Cert.FdownRIdeal.τ).loc Cert.FdownRIdeal.main_arg3)
          ∧ r.2.mem ((c.tc : Thread Cert.FdownRIdeal.nD Cert.FdownRIdeal.τ).loc Cert.FdownRIdeal.main_arg4) = m' ((c.tc : Thread Cert.FdownRIdeal.nD Cert.FdownRIdeal.τ).loc Cert.FdownRIdeal.main_arg4))

def preserves_WoutK_WoutKIdeal : Prop :=
  True

def algebraic_WoutKIdeal_WoutRIdeal [hWoutKIdeal : Cert.WoutKIdeal.Facts] [hWoutRIdeal : Cert.WoutRIdeal.Facts] : Prop :=
  ∀ (m : (ℓ : Loc Cert.WoutKIdeal.nD Cert.WoutKIdeal.τ Cert.WoutKIdeal.sig) → Buf (Elt Ideal) ℓ) (g : Dev Cert.WoutKIdeal.nD → PrngReg)
    (m' : (ℓ : Loc Cert.WoutRIdeal.nD Cert.WoutRIdeal.τ Cert.WoutRIdeal.sig) → Buf (Elt Ideal) ℓ) (g' : Dev Cert.WoutRIdeal.nD → PrngReg), Pre_WoutKIdeal m →
    (∀ c : Dev Cert.WoutKIdeal.nD,
      m' ((c.tc : Thread Cert.WoutRIdeal.nD Cert.WoutRIdeal.τ).loc Cert.WoutRIdeal.main_arg0) = m ((c.tc : Thread Cert.WoutKIdeal.nD Cert.WoutKIdeal.τ).loc Cert.WoutKIdeal.main_arg0)
      ∧ m' ((c.tc : Thread Cert.WoutRIdeal.nD Cert.WoutRIdeal.τ).loc Cert.WoutRIdeal.main_arg1) = m ((c.tc : Thread Cert.WoutKIdeal.nD Cert.WoutKIdeal.τ).loc Cert.WoutKIdeal.main_arg1)
      ∧ m' ((c.tc : Thread Cert.WoutRIdeal.nD Cert.WoutRIdeal.τ).loc Cert.WoutRIdeal.main_arg2) = m ((c.tc : Thread Cert.WoutKIdeal.nD Cert.WoutKIdeal.τ).loc Cert.WoutKIdeal.main_arg2)
      ∧ m' ((c.tc : Thread Cert.WoutRIdeal.nD Cert.WoutRIdeal.τ).loc Cert.WoutRIdeal.main_arg3) = m ((c.tc : Thread Cert.WoutKIdeal.nD Cert.WoutKIdeal.τ).loc Cert.WoutKIdeal.main_arg3)) →
    ∃ (v0 : (c : Dev Cert.WoutKIdeal.nD) → Buf (Elt Ideal) ((c.tc : Thread Cert.WoutKIdeal.nD Cert.WoutKIdeal.τ).loc Cert.WoutKIdeal.main_v1_0)) (v1 : (c : Dev Cert.WoutKIdeal.nD) → Buf (Elt Ideal) ((c.tc : Thread Cert.WoutKIdeal.nD Cert.WoutKIdeal.τ).loc Cert.WoutKIdeal.main_v1_1)),
      θ_run (Cert.WoutKIdeal.defs (F := Ideal)) (onTc (τ := Cert.WoutKIdeal.τ) (Cert.WoutKIdeal.main (F := Ideal))) ⟨m, fun _ => 0, g⟩ (fun r => ∀ c : Dev Cert.WoutKIdeal.nD,
          r.2.mem ((c.tc : Thread Cert.WoutKIdeal.nD Cert.WoutKIdeal.τ).loc Cert.WoutKIdeal.main_v1_0) = v0 c
          ∧ r.2.mem ((c.tc : Thread Cert.WoutKIdeal.nD Cert.WoutKIdeal.τ).loc Cert.WoutKIdeal.main_v1_1) = v1 c
          ∧ r.2.mem ((c.tc : Thread Cert.WoutKIdeal.nD Cert.WoutKIdeal.τ).loc Cert.WoutKIdeal.main_arg0) = m ((c.tc : Thread Cert.WoutKIdeal.nD Cert.WoutKIdeal.τ).loc Cert.WoutKIdeal.main_arg0)
          ∧ r.2.mem ((c.tc : Thread Cert.WoutKIdeal.nD Cert.WoutKIdeal.τ).loc Cert.WoutKIdeal.main_arg1) = m ((c.tc : Thread Cert.WoutKIdeal.nD Cert.WoutKIdeal.τ).loc Cert.WoutKIdeal.main_arg1)
          ∧ r.2.mem ((c.tc : Thread Cert.WoutKIdeal.nD Cert.WoutKIdeal.τ).loc Cert.WoutKIdeal.main_arg2) = m ((c.tc : Thread Cert.WoutKIdeal.nD Cert.WoutKIdeal.τ).loc Cert.WoutKIdeal.main_arg2)
          ∧ r.2.mem ((c.tc : Thread Cert.WoutKIdeal.nD Cert.WoutKIdeal.τ).loc Cert.WoutKIdeal.main_arg3) = m ((c.tc : Thread Cert.WoutKIdeal.nD Cert.WoutKIdeal.τ).loc Cert.WoutKIdeal.main_arg3))
      ∧ θ_run (Cert.WoutRIdeal.defs (F := Ideal)) (onTc (τ := Cert.WoutRIdeal.τ) (Cert.WoutRIdeal.main (F := Ideal))) ⟨m', fun _ => 0, g'⟩ (fun r => ∀ c : Dev Cert.WoutRIdeal.nD,
          r.2.mem ((c.tc : Thread Cert.WoutRIdeal.nD Cert.WoutRIdeal.τ).loc Cert.WoutRIdeal.main_v3) = v0 c
          ∧ r.2.mem ((c.tc : Thread Cert.WoutRIdeal.nD Cert.WoutRIdeal.τ).loc Cert.WoutRIdeal.main_v17) = v1 c
          ∧ r.2.mem ((c.tc : Thread Cert.WoutRIdeal.nD Cert.WoutRIdeal.τ).loc Cert.WoutRIdeal.main_arg0) = m' ((c.tc : Thread Cert.WoutRIdeal.nD Cert.WoutRIdeal.τ).loc Cert.WoutRIdeal.main_arg0)
          ∧ r.2.mem ((c.tc : Thread Cert.WoutRIdeal.nD Cert.WoutRIdeal.τ).loc Cert.WoutRIdeal.main_arg1) = m' ((c.tc : Thread Cert.WoutRIdeal.nD Cert.WoutRIdeal.τ).loc Cert.WoutRIdeal.main_arg1)
          ∧ r.2.mem ((c.tc : Thread Cert.WoutRIdeal.nD Cert.WoutRIdeal.τ).loc Cert.WoutRIdeal.main_arg2) = m' ((c.tc : Thread Cert.WoutRIdeal.nD Cert.WoutRIdeal.τ).loc Cert.WoutRIdeal.main_arg2)
          ∧ r.2.mem ((c.tc : Thread Cert.WoutRIdeal.nD Cert.WoutRIdeal.τ).loc Cert.WoutRIdeal.main_arg3) = m' ((c.tc : Thread Cert.WoutRIdeal.nD Cert.WoutRIdeal.τ).loc Cert.WoutRIdeal.main_arg3))

def preserves_GdgK_GdgKIdeal : Prop :=
  True

def algebraic_GdgKIdeal_GdgRIdeal_pre_finite_gate [hGdgKIdeal : Cert.GdgKIdeal.Facts] [hGdgRIdeal : Cert.GdgRIdeal.Facts] [hPre_finite_gate : Cert.Pre_finite_gate.Facts] : Prop :=
  ∀ (m : (ℓ : Loc Cert.GdgKIdeal.nD Cert.GdgKIdeal.τ Cert.GdgKIdeal.sig) → Buf (Elt Ideal) ℓ) (g : Dev Cert.GdgKIdeal.nD → PrngReg)
    (m' : (ℓ : Loc Cert.GdgRIdeal.nD Cert.GdgRIdeal.τ Cert.GdgRIdeal.sig) → Buf (Elt Ideal) ℓ) (g' : Dev Cert.GdgRIdeal.nD → PrngReg), Pre_GdgKIdeal_finite_gate m →
    (∀ c : Dev Cert.GdgKIdeal.nD,
      m' ((c.tc : Thread Cert.GdgRIdeal.nD Cert.GdgRIdeal.τ).loc Cert.GdgRIdeal.main_arg0) = m ((c.tc : Thread Cert.GdgKIdeal.nD Cert.GdgKIdeal.τ).loc Cert.GdgKIdeal.main_arg0)
      ∧ m' ((c.tc : Thread Cert.GdgRIdeal.nD Cert.GdgRIdeal.τ).loc Cert.GdgRIdeal.main_arg1) = m ((c.tc : Thread Cert.GdgKIdeal.nD Cert.GdgKIdeal.τ).loc Cert.GdgKIdeal.main_arg1)
      ∧ m' ((c.tc : Thread Cert.GdgRIdeal.nD Cert.GdgRIdeal.τ).loc Cert.GdgRIdeal.main_arg2) = m ((c.tc : Thread Cert.GdgKIdeal.nD Cert.GdgKIdeal.τ).loc Cert.GdgKIdeal.main_arg2)
      ∧ m' ((c.tc : Thread Cert.GdgRIdeal.nD Cert.GdgRIdeal.τ).loc Cert.GdgRIdeal.main_arg3) = m ((c.tc : Thread Cert.GdgKIdeal.nD Cert.GdgKIdeal.τ).loc Cert.GdgKIdeal.main_arg3)) →
    ∃ (v0 : (c : Dev Cert.GdgKIdeal.nD) → Buf (Elt Ideal) ((c.tc : Thread Cert.GdgKIdeal.nD Cert.GdgKIdeal.τ).loc Cert.GdgKIdeal.main_v4_0)) (v1 : (c : Dev Cert.GdgKIdeal.nD) → Buf (Elt Ideal) ((c.tc : Thread Cert.GdgKIdeal.nD Cert.GdgKIdeal.τ).loc Cert.GdgKIdeal.main_v4_1)) (v2 : (c : Dev Cert.GdgKIdeal.nD) → Buf (Elt Ideal) ((c.tc : Thread Cert.GdgKIdeal.nD Cert.GdgKIdeal.τ).loc Cert.GdgKIdeal.main_v4_2)),
      θ_run (Cert.GdgKIdeal.defs (F := Ideal)) (onTc (τ := Cert.GdgKIdeal.τ) (Cert.GdgKIdeal.main (F := Ideal))) ⟨m, fun _ => 0, g⟩ (fun r => ∀ c : Dev Cert.GdgKIdeal.nD,
          r.2.mem ((c.tc : Thread Cert.GdgKIdeal.nD Cert.GdgKIdeal.τ).loc Cert.GdgKIdeal.main_v4_0) = v0 c
          ∧ r.2.mem ((c.tc : Thread Cert.GdgKIdeal.nD Cert.GdgKIdeal.τ).loc Cert.GdgKIdeal.main_v4_1) = v1 c
          ∧ r.2.mem ((c.tc : Thread Cert.GdgKIdeal.nD Cert.GdgKIdeal.τ).loc Cert.GdgKIdeal.main_v4_2) = v2 c
          ∧ r.2.mem ((c.tc : Thread Cert.GdgKIdeal.nD Cert.GdgKIdeal.τ).loc Cert.GdgKIdeal.main_arg0) = m ((c.tc : Thread Cert.GdgKIdeal.nD Cert.GdgKIdeal.τ).loc Cert.GdgKIdeal.main_arg0)
          ∧ r.2.mem ((c.tc : Thread Cert.GdgKIdeal.nD Cert.GdgKIdeal.τ).loc Cert.GdgKIdeal.main_arg1) = m ((c.tc : Thread Cert.GdgKIdeal.nD Cert.GdgKIdeal.τ).loc Cert.GdgKIdeal.main_arg1)
          ∧ r.2.mem ((c.tc : Thread Cert.GdgKIdeal.nD Cert.GdgKIdeal.τ).loc Cert.GdgKIdeal.main_arg2) = m ((c.tc : Thread Cert.GdgKIdeal.nD Cert.GdgKIdeal.τ).loc Cert.GdgKIdeal.main_arg2)
          ∧ r.2.mem ((c.tc : Thread Cert.GdgKIdeal.nD Cert.GdgKIdeal.τ).loc Cert.GdgKIdeal.main_arg3) = m ((c.tc : Thread Cert.GdgKIdeal.nD Cert.GdgKIdeal.τ).loc Cert.GdgKIdeal.main_arg3))
      ∧ θ_run (Cert.GdgRIdeal.defs (F := Ideal)) (onTc (τ := Cert.GdgRIdeal.τ) (Cert.GdgRIdeal.main (F := Ideal))) ⟨m', fun _ => 0, g'⟩ (fun r => ∀ c : Dev Cert.GdgRIdeal.nD,
          r.2.mem ((c.tc : Thread Cert.GdgRIdeal.nD Cert.GdgRIdeal.τ).loc Cert.GdgRIdeal.main_v37) = v0 c
          ∧ r.2.mem ((c.tc : Thread Cert.GdgRIdeal.nD Cert.GdgRIdeal.τ).loc Cert.GdgRIdeal.main_v39) = v1 c
          ∧ r.2.mem ((c.tc : Thread Cert.GdgRIdeal.nD Cert.GdgRIdeal.τ).loc Cert.GdgRIdeal.main_v41) = v2 c
          ∧ r.2.mem ((c.tc : Thread Cert.GdgRIdeal.nD Cert.GdgRIdeal.τ).loc Cert.GdgRIdeal.main_arg0) = m' ((c.tc : Thread Cert.GdgRIdeal.nD Cert.GdgRIdeal.τ).loc Cert.GdgRIdeal.main_arg0)
          ∧ r.2.mem ((c.tc : Thread Cert.GdgRIdeal.nD Cert.GdgRIdeal.τ).loc Cert.GdgRIdeal.main_arg1) = m' ((c.tc : Thread Cert.GdgRIdeal.nD Cert.GdgRIdeal.τ).loc Cert.GdgRIdeal.main_arg1)
          ∧ r.2.mem ((c.tc : Thread Cert.GdgRIdeal.nD Cert.GdgRIdeal.τ).loc Cert.GdgRIdeal.main_arg2) = m' ((c.tc : Thread Cert.GdgRIdeal.nD Cert.GdgRIdeal.τ).loc Cert.GdgRIdeal.main_arg2)
          ∧ r.2.mem ((c.tc : Thread Cert.GdgRIdeal.nD Cert.GdgRIdeal.τ).loc Cert.GdgRIdeal.main_arg3) = m' ((c.tc : Thread Cert.GdgRIdeal.nD Cert.GdgRIdeal.τ).loc Cert.GdgRIdeal.main_arg3))

def preserves_GprepK_GprepKIdeal : Prop :=
  True

def algebraic_GprepKIdeal_GprepRIdeal [hGprepKIdeal : Cert.GprepKIdeal.Facts] [hGprepRIdeal : Cert.GprepRIdeal.Facts] : Prop :=
  ∀ (m : (ℓ : Loc Cert.GprepKIdeal.nD Cert.GprepKIdeal.τ Cert.GprepKIdeal.sig) → Buf (Elt Ideal) ℓ) (g : Dev Cert.GprepKIdeal.nD → PrngReg)
    (m' : (ℓ : Loc Cert.GprepRIdeal.nD Cert.GprepRIdeal.τ Cert.GprepRIdeal.sig) → Buf (Elt Ideal) ℓ) (g' : Dev Cert.GprepRIdeal.nD → PrngReg), Pre_GprepKIdeal m →
    (∀ c : Dev Cert.GprepKIdeal.nD,
      m' ((c.tc : Thread Cert.GprepRIdeal.nD Cert.GprepRIdeal.τ).loc Cert.GprepRIdeal.main_arg0) = m ((c.tc : Thread Cert.GprepKIdeal.nD Cert.GprepKIdeal.τ).loc Cert.GprepKIdeal.main_arg0)
      ∧ m' ((c.tc : Thread Cert.GprepRIdeal.nD Cert.GprepRIdeal.τ).loc Cert.GprepRIdeal.main_arg1) = m ((c.tc : Thread Cert.GprepKIdeal.nD Cert.GprepKIdeal.τ).loc Cert.GprepKIdeal.main_arg1)) →
    ∃ (v0 : (c : Dev Cert.GprepKIdeal.nD) → Buf (Elt Ideal) ((c.tc : Thread Cert.GprepKIdeal.nD Cert.GprepKIdeal.τ).loc Cert.GprepKIdeal.main_v0_0)) (v1 : (c : Dev Cert.GprepKIdeal.nD) → Buf (Elt Ideal) ((c.tc : Thread Cert.GprepKIdeal.nD Cert.GprepKIdeal.τ).loc Cert.GprepKIdeal.main_v0_1)) (v2 : (c : Dev Cert.GprepKIdeal.nD) → Buf (Elt Ideal) ((c.tc : Thread Cert.GprepKIdeal.nD Cert.GprepKIdeal.τ).loc Cert.GprepKIdeal.main_v0_2)),
      θ_run (Cert.GprepKIdeal.defs (F := Ideal)) (onTc (τ := Cert.GprepKIdeal.τ) (Cert.GprepKIdeal.main (F := Ideal))) ⟨m, fun _ => 0, g⟩ (fun r => ∀ c : Dev Cert.GprepKIdeal.nD,
          r.2.mem ((c.tc : Thread Cert.GprepKIdeal.nD Cert.GprepKIdeal.τ).loc Cert.GprepKIdeal.main_v0_0) = v0 c
          ∧ r.2.mem ((c.tc : Thread Cert.GprepKIdeal.nD Cert.GprepKIdeal.τ).loc Cert.GprepKIdeal.main_v0_1) = v1 c
          ∧ r.2.mem ((c.tc : Thread Cert.GprepKIdeal.nD Cert.GprepKIdeal.τ).loc Cert.GprepKIdeal.main_v0_2) = v2 c
          ∧ r.2.mem ((c.tc : Thread Cert.GprepKIdeal.nD Cert.GprepKIdeal.τ).loc Cert.GprepKIdeal.main_arg0) = m ((c.tc : Thread Cert.GprepKIdeal.nD Cert.GprepKIdeal.τ).loc Cert.GprepKIdeal.main_arg0)
          ∧ r.2.mem ((c.tc : Thread Cert.GprepKIdeal.nD Cert.GprepKIdeal.τ).loc Cert.GprepKIdeal.main_arg1) = m ((c.tc : Thread Cert.GprepKIdeal.nD Cert.GprepKIdeal.τ).loc Cert.GprepKIdeal.main_arg1))
      ∧ θ_run (Cert.GprepRIdeal.defs (F := Ideal)) (onTc (τ := Cert.GprepRIdeal.τ) (Cert.GprepRIdeal.main (F := Ideal))) ⟨m', fun _ => 0, g'⟩ (fun r => ∀ c : Dev Cert.GprepRIdeal.nD,
          r.2.mem ((c.tc : Thread Cert.GprepRIdeal.nD Cert.GprepRIdeal.τ).loc Cert.GprepRIdeal.main_v52) = v0 c
          ∧ r.2.mem ((c.tc : Thread Cert.GprepRIdeal.nD Cert.GprepRIdeal.τ).loc Cert.GprepRIdeal.main_v53) = v1 c
          ∧ r.2.mem ((c.tc : Thread Cert.GprepRIdeal.nD Cert.GprepRIdeal.τ).loc Cert.GprepRIdeal.main_v31) = v2 c
          ∧ r.2.mem ((c.tc : Thread Cert.GprepRIdeal.nD Cert.GprepRIdeal.τ).loc Cert.GprepRIdeal.main_arg0) = m' ((c.tc : Thread Cert.GprepRIdeal.nD Cert.GprepRIdeal.τ).loc Cert.GprepRIdeal.main_arg0)
          ∧ r.2.mem ((c.tc : Thread Cert.GprepRIdeal.nD Cert.GprepRIdeal.τ).loc Cert.GprepRIdeal.main_arg1) = m' ((c.tc : Thread Cert.GprepRIdeal.nD Cert.GprepRIdeal.τ).loc Cert.GprepRIdeal.main_arg1))

def preserves_FactK_FactKIdeal : Prop :=
  True

def algebraic_FactKIdeal_FactRIdeal [hFactKIdeal : Cert.FactKIdeal.Facts] [hFactRIdeal : Cert.FactRIdeal.Facts] : Prop :=
  ∀ (m : (ℓ : Loc Cert.FactKIdeal.nD Cert.FactKIdeal.τ Cert.FactKIdeal.sig) → Buf (Elt Ideal) ℓ) (g : Dev Cert.FactKIdeal.nD → PrngReg)
    (m' : (ℓ : Loc Cert.FactRIdeal.nD Cert.FactRIdeal.τ Cert.FactRIdeal.sig) → Buf (Elt Ideal) ℓ) (g' : Dev Cert.FactRIdeal.nD → PrngReg), Pre_FactKIdeal m →
    (∀ c : Dev Cert.FactKIdeal.nD,
      m' ((c.tc : Thread Cert.FactRIdeal.nD Cert.FactRIdeal.τ).loc Cert.FactRIdeal.main_arg0) = m ((c.tc : Thread Cert.FactKIdeal.nD Cert.FactKIdeal.τ).loc Cert.FactKIdeal.main_arg0)
      ∧ m' ((c.tc : Thread Cert.FactRIdeal.nD Cert.FactRIdeal.τ).loc Cert.FactRIdeal.main_arg1) = m ((c.tc : Thread Cert.FactKIdeal.nD Cert.FactKIdeal.τ).loc Cert.FactKIdeal.main_arg1)) →
    ∃ (v0 : (c : Dev Cert.FactKIdeal.nD) → Buf (Elt Ideal) ((c.tc : Thread Cert.FactKIdeal.nD Cert.FactKIdeal.τ).loc Cert.FactKIdeal.main_v0)),
      θ_run (Cert.FactKIdeal.defs (F := Ideal)) (onTc (τ := Cert.FactKIdeal.τ) (Cert.FactKIdeal.main (F := Ideal))) ⟨m, fun _ => 0, g⟩ (fun r => ∀ c : Dev Cert.FactKIdeal.nD,
          r.2.mem ((c.tc : Thread Cert.FactKIdeal.nD Cert.FactKIdeal.τ).loc Cert.FactKIdeal.main_v0) = v0 c
          ∧ r.2.mem ((c.tc : Thread Cert.FactKIdeal.nD Cert.FactKIdeal.τ).loc Cert.FactKIdeal.main_arg0) = m ((c.tc : Thread Cert.FactKIdeal.nD Cert.FactKIdeal.τ).loc Cert.FactKIdeal.main_arg0)
          ∧ r.2.mem ((c.tc : Thread Cert.FactKIdeal.nD Cert.FactKIdeal.τ).loc Cert.FactKIdeal.main_arg1) = m ((c.tc : Thread Cert.FactKIdeal.nD Cert.FactKIdeal.τ).loc Cert.FactKIdeal.main_arg1))
      ∧ θ_run (Cert.FactRIdeal.defs (F := Ideal)) (onTc (τ := Cert.FactRIdeal.τ) (Cert.FactRIdeal.main (F := Ideal))) ⟨m', fun _ => 0, g'⟩ (fun r => ∀ c : Dev Cert.FactRIdeal.nD,
          r.2.mem ((c.tc : Thread Cert.FactRIdeal.nD Cert.FactRIdeal.τ).loc Cert.FactRIdeal.main_v25) = v0 c
          ∧ r.2.mem ((c.tc : Thread Cert.FactRIdeal.nD Cert.FactRIdeal.τ).loc Cert.FactRIdeal.main_arg0) = m' ((c.tc : Thread Cert.FactRIdeal.nD Cert.FactRIdeal.τ).loc Cert.FactRIdeal.main_arg0)
          ∧ r.2.mem ((c.tc : Thread Cert.FactRIdeal.nD Cert.FactRIdeal.τ).loc Cert.FactRIdeal.main_arg1) = m' ((c.tc : Thread Cert.FactRIdeal.nD Cert.FactRIdeal.τ).loc Cert.FactRIdeal.main_arg1))

def preserves_GdnK_GdnKIdeal : Prop :=
  True

def preserves_DybK_DybKIdeal : Prop :=
  True

def algebraic_DybKIdeal_DybRIdeal_pre_finite_dybin [hDybKIdeal : Cert.DybKIdeal.Facts] [hDybRIdeal : Cert.DybRIdeal.Facts] [hPre_finite_dybin : Cert.Pre_finite_dybin.Facts] : Prop :=
  ∀ (m : (ℓ : Loc Cert.DybKIdeal.nD Cert.DybKIdeal.τ Cert.DybKIdeal.sig) → Buf (Elt Ideal) ℓ) (g : Dev Cert.DybKIdeal.nD → PrngReg)
    (m' : (ℓ : Loc Cert.DybRIdeal.nD Cert.DybRIdeal.τ Cert.DybRIdeal.sig) → Buf (Elt Ideal) ℓ) (g' : Dev Cert.DybRIdeal.nD → PrngReg), Pre_DybKIdeal_finite_dybin m →
    (∀ c : Dev Cert.DybKIdeal.nD,
      m' ((c.tc : Thread Cert.DybRIdeal.nD Cert.DybRIdeal.τ).loc Cert.DybRIdeal.main_arg0) = m ((c.tc : Thread Cert.DybKIdeal.nD Cert.DybKIdeal.τ).loc Cert.DybKIdeal.main_arg0)
      ∧ m' ((c.tc : Thread Cert.DybRIdeal.nD Cert.DybRIdeal.τ).loc Cert.DybRIdeal.main_arg1) = m ((c.tc : Thread Cert.DybKIdeal.nD Cert.DybKIdeal.τ).loc Cert.DybKIdeal.main_arg1)
      ∧ m' ((c.tc : Thread Cert.DybRIdeal.nD Cert.DybRIdeal.τ).loc Cert.DybRIdeal.main_arg2) = m ((c.tc : Thread Cert.DybKIdeal.nD Cert.DybKIdeal.τ).loc Cert.DybKIdeal.main_arg2)
      ∧ m' ((c.tc : Thread Cert.DybRIdeal.nD Cert.DybRIdeal.τ).loc Cert.DybRIdeal.main_arg3) = m ((c.tc : Thread Cert.DybKIdeal.nD Cert.DybKIdeal.τ).loc Cert.DybKIdeal.main_arg3)
      ∧ m' ((c.tc : Thread Cert.DybRIdeal.nD Cert.DybRIdeal.τ).loc Cert.DybRIdeal.main_arg4) = m ((c.tc : Thread Cert.DybKIdeal.nD Cert.DybKIdeal.τ).loc Cert.DybKIdeal.main_arg4)) →
    ∃ (v0 : (c : Dev Cert.DybKIdeal.nD) → Buf (Elt Ideal) ((c.tc : Thread Cert.DybKIdeal.nD Cert.DybKIdeal.τ).loc Cert.DybKIdeal.main_v5_0)) (v1 : (c : Dev Cert.DybKIdeal.nD) → Buf (Elt Ideal) ((c.tc : Thread Cert.DybKIdeal.nD Cert.DybKIdeal.τ).loc Cert.DybKIdeal.main_v5_1)) (v2 : (c : Dev Cert.DybKIdeal.nD) → Buf (Elt Ideal) ((c.tc : Thread Cert.DybKIdeal.nD Cert.DybKIdeal.τ).loc Cert.DybKIdeal.main_v5_2)),
      θ_run (Cert.DybKIdeal.defs (F := Ideal)) (onTc (τ := Cert.DybKIdeal.τ) (Cert.DybKIdeal.main (F := Ideal))) ⟨m, fun _ => 0, g⟩ (fun r => ∀ c : Dev Cert.DybKIdeal.nD,
          r.2.mem ((c.tc : Thread Cert.DybKIdeal.nD Cert.DybKIdeal.τ).loc Cert.DybKIdeal.main_v5_0) = v0 c
          ∧ r.2.mem ((c.tc : Thread Cert.DybKIdeal.nD Cert.DybKIdeal.τ).loc Cert.DybKIdeal.main_v5_1) = v1 c
          ∧ r.2.mem ((c.tc : Thread Cert.DybKIdeal.nD Cert.DybKIdeal.τ).loc Cert.DybKIdeal.main_v5_2) = v2 c
          ∧ r.2.mem ((c.tc : Thread Cert.DybKIdeal.nD Cert.DybKIdeal.τ).loc Cert.DybKIdeal.main_arg0) = m ((c.tc : Thread Cert.DybKIdeal.nD Cert.DybKIdeal.τ).loc Cert.DybKIdeal.main_arg0)
          ∧ r.2.mem ((c.tc : Thread Cert.DybKIdeal.nD Cert.DybKIdeal.τ).loc Cert.DybKIdeal.main_arg1) = m ((c.tc : Thread Cert.DybKIdeal.nD Cert.DybKIdeal.τ).loc Cert.DybKIdeal.main_arg1)
          ∧ r.2.mem ((c.tc : Thread Cert.DybKIdeal.nD Cert.DybKIdeal.τ).loc Cert.DybKIdeal.main_arg2) = m ((c.tc : Thread Cert.DybKIdeal.nD Cert.DybKIdeal.τ).loc Cert.DybKIdeal.main_arg2)
          ∧ r.2.mem ((c.tc : Thread Cert.DybKIdeal.nD Cert.DybKIdeal.τ).loc Cert.DybKIdeal.main_arg3) = m ((c.tc : Thread Cert.DybKIdeal.nD Cert.DybKIdeal.τ).loc Cert.DybKIdeal.main_arg3)
          ∧ r.2.mem ((c.tc : Thread Cert.DybKIdeal.nD Cert.DybKIdeal.τ).loc Cert.DybKIdeal.main_arg4) = m ((c.tc : Thread Cert.DybKIdeal.nD Cert.DybKIdeal.τ).loc Cert.DybKIdeal.main_arg4))
      ∧ θ_run (Cert.DybRIdeal.defs (F := Ideal)) (onTc (τ := Cert.DybRIdeal.τ) (Cert.DybRIdeal.main (F := Ideal))) ⟨m', fun _ => 0, g'⟩ (fun r => ∀ c : Dev Cert.DybRIdeal.nD,
          r.2.mem ((c.tc : Thread Cert.DybRIdeal.nD Cert.DybRIdeal.τ).loc Cert.DybRIdeal.main_v55) = v0 c
          ∧ r.2.mem ((c.tc : Thread Cert.DybRIdeal.nD Cert.DybRIdeal.τ).loc Cert.DybRIdeal.main_v56) = v1 c
          ∧ r.2.mem ((c.tc : Thread Cert.DybRIdeal.nD Cert.DybRIdeal.τ).loc Cert.DybRIdeal.main_v57) = v2 c
          ∧ r.2.mem ((c.tc : Thread Cert.DybRIdeal.nD Cert.DybRIdeal.τ).loc Cert.DybRIdeal.main_arg0) = m' ((c.tc : Thread Cert.DybRIdeal.nD Cert.DybRIdeal.τ).loc Cert.DybRIdeal.main_arg0)
          ∧ r.2.mem ((c.tc : Thread Cert.DybRIdeal.nD Cert.DybRIdeal.τ).loc Cert.DybRIdeal.main_arg1) = m' ((c.tc : Thread Cert.DybRIdeal.nD Cert.DybRIdeal.τ).loc Cert.DybRIdeal.main_arg1)
          ∧ r.2.mem ((c.tc : Thread Cert.DybRIdeal.nD Cert.DybRIdeal.τ).loc Cert.DybRIdeal.main_arg2) = m' ((c.tc : Thread Cert.DybRIdeal.nD Cert.DybRIdeal.τ).loc Cert.DybRIdeal.main_arg2)
          ∧ r.2.mem ((c.tc : Thread Cert.DybRIdeal.nD Cert.DybRIdeal.τ).loc Cert.DybRIdeal.main_arg3) = m' ((c.tc : Thread Cert.DybRIdeal.nD Cert.DybRIdeal.τ).loc Cert.DybRIdeal.main_arg3)
          ∧ r.2.mem ((c.tc : Thread Cert.DybRIdeal.nD Cert.DybRIdeal.τ).loc Cert.DybRIdeal.main_arg4) = m' ((c.tc : Thread Cert.DybRIdeal.nD Cert.DybRIdeal.τ).loc Cert.DybRIdeal.main_arg4))

def preserves_DyaK_DyaKIdeal : Prop :=
  True

def algebraic_DyaKIdeal_DyaRIdeal_pre_finite_dyain [hDyaKIdeal : Cert.DyaKIdeal.Facts] [hDyaRIdeal : Cert.DyaRIdeal.Facts] [hPre_finite_dyain : Cert.Pre_finite_dyain.Facts] : Prop :=
  ∀ (m : (ℓ : Loc Cert.DyaKIdeal.nD Cert.DyaKIdeal.τ Cert.DyaKIdeal.sig) → Buf (Elt Ideal) ℓ) (g : Dev Cert.DyaKIdeal.nD → PrngReg)
    (m' : (ℓ : Loc Cert.DyaRIdeal.nD Cert.DyaRIdeal.τ Cert.DyaRIdeal.sig) → Buf (Elt Ideal) ℓ) (g' : Dev Cert.DyaRIdeal.nD → PrngReg), Pre_DyaKIdeal_finite_dyain m →
    (∀ c : Dev Cert.DyaKIdeal.nD,
      m' ((c.tc : Thread Cert.DyaRIdeal.nD Cert.DyaRIdeal.τ).loc Cert.DyaRIdeal.main_arg0) = m ((c.tc : Thread Cert.DyaKIdeal.nD Cert.DyaKIdeal.τ).loc Cert.DyaKIdeal.main_arg0)
      ∧ m' ((c.tc : Thread Cert.DyaRIdeal.nD Cert.DyaRIdeal.τ).loc Cert.DyaRIdeal.main_arg1) = m ((c.tc : Thread Cert.DyaKIdeal.nD Cert.DyaKIdeal.τ).loc Cert.DyaKIdeal.main_arg1)
      ∧ m' ((c.tc : Thread Cert.DyaRIdeal.nD Cert.DyaRIdeal.τ).loc Cert.DyaRIdeal.main_arg2) = m ((c.tc : Thread Cert.DyaKIdeal.nD Cert.DyaKIdeal.τ).loc Cert.DyaKIdeal.main_arg2)
      ∧ m' ((c.tc : Thread Cert.DyaRIdeal.nD Cert.DyaRIdeal.τ).loc Cert.DyaRIdeal.main_arg3) = m ((c.tc : Thread Cert.DyaKIdeal.nD Cert.DyaKIdeal.τ).loc Cert.DyaKIdeal.main_arg3)
      ∧ m' ((c.tc : Thread Cert.DyaRIdeal.nD Cert.DyaRIdeal.τ).loc Cert.DyaRIdeal.main_arg4) = m ((c.tc : Thread Cert.DyaKIdeal.nD Cert.DyaKIdeal.τ).loc Cert.DyaKIdeal.main_arg4)
      ∧ m' ((c.tc : Thread Cert.DyaRIdeal.nD Cert.DyaRIdeal.τ).loc Cert.DyaRIdeal.main_arg5) = m ((c.tc : Thread Cert.DyaKIdeal.nD Cert.DyaKIdeal.τ).loc Cert.DyaKIdeal.main_arg5)
      ∧ m' ((c.tc : Thread Cert.DyaRIdeal.nD Cert.DyaRIdeal.τ).loc Cert.DyaRIdeal.main_arg6) = m ((c.tc : Thread Cert.DyaKIdeal.nD Cert.DyaKIdeal.τ).loc Cert.DyaKIdeal.main_arg6)
      ∧ m' ((c.tc : Thread Cert.DyaRIdeal.nD Cert.DyaRIdeal.τ).loc Cert.DyaRIdeal.main_arg7) = m ((c.tc : Thread Cert.DyaKIdeal.nD Cert.DyaKIdeal.τ).loc Cert.DyaKIdeal.main_arg7)
      ∧ m' ((c.tc : Thread Cert.DyaRIdeal.nD Cert.DyaRIdeal.τ).loc Cert.DyaRIdeal.main_arg8) = m ((c.tc : Thread Cert.DyaKIdeal.nD Cert.DyaKIdeal.τ).loc Cert.DyaKIdeal.main_arg8)
      ∧ m' ((c.tc : Thread Cert.DyaRIdeal.nD Cert.DyaRIdeal.τ).loc Cert.DyaRIdeal.main_arg9) = m ((c.tc : Thread Cert.DyaKIdeal.nD Cert.DyaKIdeal.τ).loc Cert.DyaKIdeal.main_arg9)) →
    ∃ (v0 : (c : Dev Cert.DyaKIdeal.nD) → Buf (Elt Ideal) ((c.tc : Thread Cert.DyaKIdeal.nD Cert.DyaKIdeal.τ).loc Cert.DyaKIdeal.main_v4_0)) (v1 : (c : Dev Cert.DyaKIdeal.nD) → Buf (Elt Ideal) ((c.tc : Thread Cert.DyaKIdeal.nD Cert.DyaKIdeal.τ).loc Cert.DyaKIdeal.main_v4_1)) (v2 : (c : Dev Cert.DyaKIdeal.nD) → Buf (Elt Ideal) ((c.tc : Thread Cert.DyaKIdeal.nD Cert.DyaKIdeal.τ).loc Cert.DyaKIdeal.main_v4_2)) (v3 : (c : Dev Cert.DyaKIdeal.nD) → Buf (Elt Ideal) ((c.tc : Thread Cert.DyaKIdeal.nD Cert.DyaKIdeal.τ).loc Cert.DyaKIdeal.main_v4_3)) (v4 : (c : Dev Cert.DyaKIdeal.nD) → Buf (Elt Ideal) ((c.tc : Thread Cert.DyaKIdeal.nD Cert.DyaKIdeal.τ).loc Cert.DyaKIdeal.main_v4_4)) (v5 : (c : Dev Cert.DyaKIdeal.nD) → Buf (Elt Ideal) ((c.tc : Thread Cert.DyaKIdeal.nD Cert.DyaKIdeal.τ).loc Cert.DyaKIdeal.main_v4_5)) (v6 : (c : Dev Cert.DyaKIdeal.nD) → Buf (Elt Ideal) ((c.tc : Thread Cert.DyaKIdeal.nD Cert.DyaKIdeal.τ).loc Cert.DyaKIdeal.main_v4_6)) (v7 : (c : Dev Cert.DyaKIdeal.nD) → Buf (Elt Ideal) ((c.tc : Thread Cert.DyaKIdeal.nD Cert.DyaKIdeal.τ).loc Cert.DyaKIdeal.main_v4_7)),
      θ_run (Cert.DyaKIdeal.defs (F := Ideal)) (onTc (τ := Cert.DyaKIdeal.τ) (Cert.DyaKIdeal.main (F := Ideal))) ⟨m, fun _ => 0, g⟩ (fun r => ∀ c : Dev Cert.DyaKIdeal.nD,
          r.2.mem ((c.tc : Thread Cert.DyaKIdeal.nD Cert.DyaKIdeal.τ).loc Cert.DyaKIdeal.main_v4_0) = v0 c
          ∧ r.2.mem ((c.tc : Thread Cert.DyaKIdeal.nD Cert.DyaKIdeal.τ).loc Cert.DyaKIdeal.main_v4_1) = v1 c
          ∧ r.2.mem ((c.tc : Thread Cert.DyaKIdeal.nD Cert.DyaKIdeal.τ).loc Cert.DyaKIdeal.main_v4_2) = v2 c
          ∧ r.2.mem ((c.tc : Thread Cert.DyaKIdeal.nD Cert.DyaKIdeal.τ).loc Cert.DyaKIdeal.main_v4_3) = v3 c
          ∧ r.2.mem ((c.tc : Thread Cert.DyaKIdeal.nD Cert.DyaKIdeal.τ).loc Cert.DyaKIdeal.main_v4_4) = v4 c
          ∧ r.2.mem ((c.tc : Thread Cert.DyaKIdeal.nD Cert.DyaKIdeal.τ).loc Cert.DyaKIdeal.main_v4_5) = v5 c
          ∧ r.2.mem ((c.tc : Thread Cert.DyaKIdeal.nD Cert.DyaKIdeal.τ).loc Cert.DyaKIdeal.main_v4_6) = v6 c
          ∧ r.2.mem ((c.tc : Thread Cert.DyaKIdeal.nD Cert.DyaKIdeal.τ).loc Cert.DyaKIdeal.main_v4_7) = v7 c
          ∧ r.2.mem ((c.tc : Thread Cert.DyaKIdeal.nD Cert.DyaKIdeal.τ).loc Cert.DyaKIdeal.main_arg0) = m ((c.tc : Thread Cert.DyaKIdeal.nD Cert.DyaKIdeal.τ).loc Cert.DyaKIdeal.main_arg0)
          ∧ r.2.mem ((c.tc : Thread Cert.DyaKIdeal.nD Cert.DyaKIdeal.τ).loc Cert.DyaKIdeal.main_arg1) = m ((c.tc : Thread Cert.DyaKIdeal.nD Cert.DyaKIdeal.τ).loc Cert.DyaKIdeal.main_arg1)
          ∧ r.2.mem ((c.tc : Thread Cert.DyaKIdeal.nD Cert.DyaKIdeal.τ).loc Cert.DyaKIdeal.main_arg2) = m ((c.tc : Thread Cert.DyaKIdeal.nD Cert.DyaKIdeal.τ).loc Cert.DyaKIdeal.main_arg2)
          ∧ r.2.mem ((c.tc : Thread Cert.DyaKIdeal.nD Cert.DyaKIdeal.τ).loc Cert.DyaKIdeal.main_arg3) = m ((c.tc : Thread Cert.DyaKIdeal.nD Cert.DyaKIdeal.τ).loc Cert.DyaKIdeal.main_arg3)
          ∧ r.2.mem ((c.tc : Thread Cert.DyaKIdeal.nD Cert.DyaKIdeal.τ).loc Cert.DyaKIdeal.main_arg4) = m ((c.tc : Thread Cert.DyaKIdeal.nD Cert.DyaKIdeal.τ).loc Cert.DyaKIdeal.main_arg4)
          ∧ r.2.mem ((c.tc : Thread Cert.DyaKIdeal.nD Cert.DyaKIdeal.τ).loc Cert.DyaKIdeal.main_arg5) = m ((c.tc : Thread Cert.DyaKIdeal.nD Cert.DyaKIdeal.τ).loc Cert.DyaKIdeal.main_arg5)
          ∧ r.2.mem ((c.tc : Thread Cert.DyaKIdeal.nD Cert.DyaKIdeal.τ).loc Cert.DyaKIdeal.main_arg6) = m ((c.tc : Thread Cert.DyaKIdeal.nD Cert.DyaKIdeal.τ).loc Cert.DyaKIdeal.main_arg6)
          ∧ r.2.mem ((c.tc : Thread Cert.DyaKIdeal.nD Cert.DyaKIdeal.τ).loc Cert.DyaKIdeal.main_arg7) = m ((c.tc : Thread Cert.DyaKIdeal.nD Cert.DyaKIdeal.τ).loc Cert.DyaKIdeal.main_arg7)
          ∧ r.2.mem ((c.tc : Thread Cert.DyaKIdeal.nD Cert.DyaKIdeal.τ).loc Cert.DyaKIdeal.main_arg8) = m ((c.tc : Thread Cert.DyaKIdeal.nD Cert.DyaKIdeal.τ).loc Cert.DyaKIdeal.main_arg8)
          ∧ r.2.mem ((c.tc : Thread Cert.DyaKIdeal.nD Cert.DyaKIdeal.τ).loc Cert.DyaKIdeal.main_arg9) = m ((c.tc : Thread Cert.DyaKIdeal.nD Cert.DyaKIdeal.τ).loc Cert.DyaKIdeal.main_arg9))
      ∧ θ_run (Cert.DyaRIdeal.defs (F := Ideal)) (onTc (τ := Cert.DyaRIdeal.τ) (Cert.DyaRIdeal.main (F := Ideal))) ⟨m', fun _ => 0, g'⟩ (fun r => ∀ c : Dev Cert.DyaRIdeal.nD,
          r.2.mem ((c.tc : Thread Cert.DyaRIdeal.nD Cert.DyaRIdeal.τ).loc Cert.DyaRIdeal.main_v106) = v0 c
          ∧ r.2.mem ((c.tc : Thread Cert.DyaRIdeal.nD Cert.DyaRIdeal.τ).loc Cert.DyaRIdeal.main_v105) = v1 c
          ∧ r.2.mem ((c.tc : Thread Cert.DyaRIdeal.nD Cert.DyaRIdeal.τ).loc Cert.DyaRIdeal.main_v104) = v2 c
          ∧ r.2.mem ((c.tc : Thread Cert.DyaRIdeal.nD Cert.DyaRIdeal.τ).loc Cert.DyaRIdeal.main_v103) = v3 c
          ∧ r.2.mem ((c.tc : Thread Cert.DyaRIdeal.nD Cert.DyaRIdeal.τ).loc Cert.DyaRIdeal.main_v50) = v4 c
          ∧ r.2.mem ((c.tc : Thread Cert.DyaRIdeal.nD Cert.DyaRIdeal.τ).loc Cert.DyaRIdeal.main_v107) = v5 c
          ∧ r.2.mem ((c.tc : Thread Cert.DyaRIdeal.nD Cert.DyaRIdeal.τ).loc Cert.DyaRIdeal.main_v108) = v6 c
          ∧ r.2.mem ((c.tc : Thread Cert.DyaRIdeal.nD Cert.DyaRIdeal.τ).loc Cert.DyaRIdeal.main_v109) = v7 c
          ∧ r.2.mem ((c.tc : Thread Cert.DyaRIdeal.nD Cert.DyaRIdeal.τ).loc Cert.DyaRIdeal.main_arg0) = m' ((c.tc : Thread Cert.DyaRIdeal.nD Cert.DyaRIdeal.τ).loc Cert.DyaRIdeal.main_arg0)
          ∧ r.2.mem ((c.tc : Thread Cert.DyaRIdeal.nD Cert.DyaRIdeal.τ).loc Cert.DyaRIdeal.main_arg1) = m' ((c.tc : Thread Cert.DyaRIdeal.nD Cert.DyaRIdeal.τ).loc Cert.DyaRIdeal.main_arg1)
          ∧ r.2.mem ((c.tc : Thread Cert.DyaRIdeal.nD Cert.DyaRIdeal.τ).loc Cert.DyaRIdeal.main_arg2) = m' ((c.tc : Thread Cert.DyaRIdeal.nD Cert.DyaRIdeal.τ).loc Cert.DyaRIdeal.main_arg2)
          ∧ r.2.mem ((c.tc : Thread Cert.DyaRIdeal.nD Cert.DyaRIdeal.τ).loc Cert.DyaRIdeal.main_arg3) = m' ((c.tc : Thread Cert.DyaRIdeal.nD Cert.DyaRIdeal.τ).loc Cert.DyaRIdeal.main_arg3)
          ∧ r.2.mem ((c.tc : Thread Cert.DyaRIdeal.nD Cert.DyaRIdeal.τ).loc Cert.DyaRIdeal.main_arg4) = m' ((c.tc : Thread Cert.DyaRIdeal.nD Cert.DyaRIdeal.τ).loc Cert.DyaRIdeal.main_arg4)
          ∧ r.2.mem ((c.tc : Thread Cert.DyaRIdeal.nD Cert.DyaRIdeal.τ).loc Cert.DyaRIdeal.main_arg5) = m' ((c.tc : Thread Cert.DyaRIdeal.nD Cert.DyaRIdeal.τ).loc Cert.DyaRIdeal.main_arg5)
          ∧ r.2.mem ((c.tc : Thread Cert.DyaRIdeal.nD Cert.DyaRIdeal.τ).loc Cert.DyaRIdeal.main_arg6) = m' ((c.tc : Thread Cert.DyaRIdeal.nD Cert.DyaRIdeal.τ).loc Cert.DyaRIdeal.main_arg6)
          ∧ r.2.mem ((c.tc : Thread Cert.DyaRIdeal.nD Cert.DyaRIdeal.τ).loc Cert.DyaRIdeal.main_arg7) = m' ((c.tc : Thread Cert.DyaRIdeal.nD Cert.DyaRIdeal.τ).loc Cert.DyaRIdeal.main_arg7)
          ∧ r.2.mem ((c.tc : Thread Cert.DyaRIdeal.nD Cert.DyaRIdeal.τ).loc Cert.DyaRIdeal.main_arg8) = m' ((c.tc : Thread Cert.DyaRIdeal.nD Cert.DyaRIdeal.τ).loc Cert.DyaRIdeal.main_arg8)
          ∧ r.2.mem ((c.tc : Thread Cert.DyaRIdeal.nD Cert.DyaRIdeal.τ).loc Cert.DyaRIdeal.main_arg9) = m' ((c.tc : Thread Cert.DyaRIdeal.nD Cert.DyaRIdeal.τ).loc Cert.DyaRIdeal.main_arg9))

def preserves_RprojK_RprojKIdeal : Prop :=
  True

def algebraic_RprojKIdeal_RprojRIdeal_pre_finite_rproj [hRprojKIdeal : Cert.RprojKIdeal.Facts] [hRprojRIdeal : Cert.RprojRIdeal.Facts] [hPre_finite_rproj : Cert.Pre_finite_rproj.Facts] : Prop :=
  ∀ (m : (ℓ : Loc Cert.RprojKIdeal.nD Cert.RprojKIdeal.τ Cert.RprojKIdeal.sig) → Buf (Elt Ideal) ℓ) (g : Dev Cert.RprojKIdeal.nD → PrngReg)
    (m' : (ℓ : Loc Cert.RprojRIdeal.nD Cert.RprojRIdeal.τ Cert.RprojRIdeal.sig) → Buf (Elt Ideal) ℓ) (g' : Dev Cert.RprojRIdeal.nD → PrngReg), Pre_RprojKIdeal_finite_rproj m →
    (∀ c : Dev Cert.RprojKIdeal.nD,
      m' ((c.tc : Thread Cert.RprojRIdeal.nD Cert.RprojRIdeal.τ).loc Cert.RprojRIdeal.main_arg0) = m ((c.tc : Thread Cert.RprojKIdeal.nD Cert.RprojKIdeal.τ).loc Cert.RprojKIdeal.main_arg0)
      ∧ m' ((c.tc : Thread Cert.RprojRIdeal.nD Cert.RprojRIdeal.τ).loc Cert.RprojRIdeal.main_arg1) = m ((c.tc : Thread Cert.RprojKIdeal.nD Cert.RprojKIdeal.τ).loc Cert.RprojKIdeal.main_arg1)
      ∧ m' ((c.tc : Thread Cert.RprojRIdeal.nD Cert.RprojRIdeal.τ).loc Cert.RprojRIdeal.main_arg2) = m ((c.tc : Thread Cert.RprojKIdeal.nD Cert.RprojKIdeal.τ).loc Cert.RprojKIdeal.main_arg2)
      ∧ m' ((c.tc : Thread Cert.RprojRIdeal.nD Cert.RprojRIdeal.τ).loc Cert.RprojRIdeal.main_arg3) = m ((c.tc : Thread Cert.RprojKIdeal.nD Cert.RprojKIdeal.τ).loc Cert.RprojKIdeal.main_arg3)
      ∧ m' ((c.tc : Thread Cert.RprojRIdeal.nD Cert.RprojRIdeal.τ).loc Cert.RprojRIdeal.main_arg4) = m ((c.tc : Thread Cert.RprojKIdeal.nD Cert.RprojKIdeal.τ).loc Cert.RprojKIdeal.main_arg4)
      ∧ m' ((c.tc : Thread Cert.RprojRIdeal.nD Cert.RprojRIdeal.τ).loc Cert.RprojRIdeal.main_arg5) = m ((c.tc : Thread Cert.RprojKIdeal.nD Cert.RprojKIdeal.τ).loc Cert.RprojKIdeal.main_arg5)
      ∧ m' ((c.tc : Thread Cert.RprojRIdeal.nD Cert.RprojRIdeal.τ).loc Cert.RprojRIdeal.main_arg6) = m ((c.tc : Thread Cert.RprojKIdeal.nD Cert.RprojKIdeal.τ).loc Cert.RprojKIdeal.main_arg6)
      ∧ m' ((c.tc : Thread Cert.RprojRIdeal.nD Cert.RprojRIdeal.τ).loc Cert.RprojRIdeal.main_arg7) = m ((c.tc : Thread Cert.RprojKIdeal.nD Cert.RprojKIdeal.τ).loc Cert.RprojKIdeal.main_arg7)
      ∧ m' ((c.tc : Thread Cert.RprojRIdeal.nD Cert.RprojRIdeal.τ).loc Cert.RprojRIdeal.main_arg8) = m ((c.tc : Thread Cert.RprojKIdeal.nD Cert.RprojKIdeal.τ).loc Cert.RprojKIdeal.main_arg8)) →
    ∃ (v0 : (c : Dev Cert.RprojKIdeal.nD) → Buf (Elt Ideal) ((c.tc : Thread Cert.RprojKIdeal.nD Cert.RprojKIdeal.τ).loc Cert.RprojKIdeal.main_v3_0)) (v1 : (c : Dev Cert.RprojKIdeal.nD) → Buf (Elt Ideal) ((c.tc : Thread Cert.RprojKIdeal.nD Cert.RprojKIdeal.τ).loc Cert.RprojKIdeal.main_v3_1)),
      θ_run (Cert.RprojKIdeal.defs (F := Ideal)) (onTc (τ := Cert.RprojKIdeal.τ) (Cert.RprojKIdeal.main (F := Ideal))) ⟨m, fun _ => 0, g⟩ (fun r => ∀ c : Dev Cert.RprojKIdeal.nD,
          r.2.mem ((c.tc : Thread Cert.RprojKIdeal.nD Cert.RprojKIdeal.τ).loc Cert.RprojKIdeal.main_v3_0) = v0 c
          ∧ r.2.mem ((c.tc : Thread Cert.RprojKIdeal.nD Cert.RprojKIdeal.τ).loc Cert.RprojKIdeal.main_v3_1) = v1 c
          ∧ r.2.mem ((c.tc : Thread Cert.RprojKIdeal.nD Cert.RprojKIdeal.τ).loc Cert.RprojKIdeal.main_arg0) = m ((c.tc : Thread Cert.RprojKIdeal.nD Cert.RprojKIdeal.τ).loc Cert.RprojKIdeal.main_arg0)
          ∧ r.2.mem ((c.tc : Thread Cert.RprojKIdeal.nD Cert.RprojKIdeal.τ).loc Cert.RprojKIdeal.main_arg1) = m ((c.tc : Thread Cert.RprojKIdeal.nD Cert.RprojKIdeal.τ).loc Cert.RprojKIdeal.main_arg1)
          ∧ r.2.mem ((c.tc : Thread Cert.RprojKIdeal.nD Cert.RprojKIdeal.τ).loc Cert.RprojKIdeal.main_arg2) = m ((c.tc : Thread Cert.RprojKIdeal.nD Cert.RprojKIdeal.τ).loc Cert.RprojKIdeal.main_arg2)
          ∧ r.2.mem ((c.tc : Thread Cert.RprojKIdeal.nD Cert.RprojKIdeal.τ).loc Cert.RprojKIdeal.main_arg3) = m ((c.tc : Thread Cert.RprojKIdeal.nD Cert.RprojKIdeal.τ).loc Cert.RprojKIdeal.main_arg3)
          ∧ r.2.mem ((c.tc : Thread Cert.RprojKIdeal.nD Cert.RprojKIdeal.τ).loc Cert.RprojKIdeal.main_arg4) = m ((c.tc : Thread Cert.RprojKIdeal.nD Cert.RprojKIdeal.τ).loc Cert.RprojKIdeal.main_arg4)
          ∧ r.2.mem ((c.tc : Thread Cert.RprojKIdeal.nD Cert.RprojKIdeal.τ).loc Cert.RprojKIdeal.main_arg5) = m ((c.tc : Thread Cert.RprojKIdeal.nD Cert.RprojKIdeal.τ).loc Cert.RprojKIdeal.main_arg5)
          ∧ r.2.mem ((c.tc : Thread Cert.RprojKIdeal.nD Cert.RprojKIdeal.τ).loc Cert.RprojKIdeal.main_arg6) = m ((c.tc : Thread Cert.RprojKIdeal.nD Cert.RprojKIdeal.τ).loc Cert.RprojKIdeal.main_arg6)
          ∧ r.2.mem ((c.tc : Thread Cert.RprojKIdeal.nD Cert.RprojKIdeal.τ).loc Cert.RprojKIdeal.main_arg7) = m ((c.tc : Thread Cert.RprojKIdeal.nD Cert.RprojKIdeal.τ).loc Cert.RprojKIdeal.main_arg7)
          ∧ r.2.mem ((c.tc : Thread Cert.RprojKIdeal.nD Cert.RprojKIdeal.τ).loc Cert.RprojKIdeal.main_arg8) = m ((c.tc : Thread Cert.RprojKIdeal.nD Cert.RprojKIdeal.τ).loc Cert.RprojKIdeal.main_arg8))
      ∧ θ_run (Cert.RprojRIdeal.defs (F := Ideal)) (onTc (τ := Cert.RprojRIdeal.τ) (Cert.RprojRIdeal.main (F := Ideal))) ⟨m', fun _ => 0, g'⟩ (fun r => ∀ c : Dev Cert.RprojRIdeal.nD,
          r.2.mem ((c.tc : Thread Cert.RprojRIdeal.nD Cert.RprojRIdeal.τ).loc Cert.RprojRIdeal.main_v41) = v0 c
          ∧ r.2.mem ((c.tc : Thread Cert.RprojRIdeal.nD Cert.RprojRIdeal.τ).loc Cert.RprojRIdeal.main_v43) = v1 c
          ∧ r.2.mem ((c.tc : Thread Cert.RprojRIdeal.nD Cert.RprojRIdeal.τ).loc Cert.RprojRIdeal.main_arg0) = m' ((c.tc : Thread Cert.RprojRIdeal.nD Cert.RprojRIdeal.τ).loc Cert.RprojRIdeal.main_arg0)
          ∧ r.2.mem ((c.tc : Thread Cert.RprojRIdeal.nD Cert.RprojRIdeal.τ).loc Cert.RprojRIdeal.main_arg1) = m' ((c.tc : Thread Cert.RprojRIdeal.nD Cert.RprojRIdeal.τ).loc Cert.RprojRIdeal.main_arg1)
          ∧ r.2.mem ((c.tc : Thread Cert.RprojRIdeal.nD Cert.RprojRIdeal.τ).loc Cert.RprojRIdeal.main_arg2) = m' ((c.tc : Thread Cert.RprojRIdeal.nD Cert.RprojRIdeal.τ).loc Cert.RprojRIdeal.main_arg2)
          ∧ r.2.mem ((c.tc : Thread Cert.RprojRIdeal.nD Cert.RprojRIdeal.τ).loc Cert.RprojRIdeal.main_arg3) = m' ((c.tc : Thread Cert.RprojRIdeal.nD Cert.RprojRIdeal.τ).loc Cert.RprojRIdeal.main_arg3)
          ∧ r.2.mem ((c.tc : Thread Cert.RprojRIdeal.nD Cert.RprojRIdeal.τ).loc Cert.RprojRIdeal.main_arg4) = m' ((c.tc : Thread Cert.RprojRIdeal.nD Cert.RprojRIdeal.τ).loc Cert.RprojRIdeal.main_arg4)
          ∧ r.2.mem ((c.tc : Thread Cert.RprojRIdeal.nD Cert.RprojRIdeal.τ).loc Cert.RprojRIdeal.main_arg5) = m' ((c.tc : Thread Cert.RprojRIdeal.nD Cert.RprojRIdeal.τ).loc Cert.RprojRIdeal.main_arg5)
          ∧ r.2.mem ((c.tc : Thread Cert.RprojRIdeal.nD Cert.RprojRIdeal.τ).loc Cert.RprojRIdeal.main_arg6) = m' ((c.tc : Thread Cert.RprojRIdeal.nD Cert.RprojRIdeal.τ).loc Cert.RprojRIdeal.main_arg6)
          ∧ r.2.mem ((c.tc : Thread Cert.RprojRIdeal.nD Cert.RprojRIdeal.τ).loc Cert.RprojRIdeal.main_arg7) = m' ((c.tc : Thread Cert.RprojRIdeal.nD Cert.RprojRIdeal.τ).loc Cert.RprojRIdeal.main_arg7)
          ∧ r.2.mem ((c.tc : Thread Cert.RprojRIdeal.nD Cert.RprojRIdeal.τ).loc Cert.RprojRIdeal.main_arg8) = m' ((c.tc : Thread Cert.RprojRIdeal.nD Cert.RprojRIdeal.τ).loc Cert.RprojRIdeal.main_arg8))

def preserves_DprojK_DprojKIdeal : Prop :=
  True

def algebraic_DprojKIdeal_DprojRIdeal_pre_finite_dproj [hDprojKIdeal : Cert.DprojKIdeal.Facts] [hDprojRIdeal : Cert.DprojRIdeal.Facts] [hPre_finite_dproj : Cert.Pre_finite_dproj.Facts] : Prop :=
  ∀ (m : (ℓ : Loc Cert.DprojKIdeal.nD Cert.DprojKIdeal.τ Cert.DprojKIdeal.sig) → Buf (Elt Ideal) ℓ) (g : Dev Cert.DprojKIdeal.nD → PrngReg)
    (m' : (ℓ : Loc Cert.DprojRIdeal.nD Cert.DprojRIdeal.τ Cert.DprojRIdeal.sig) → Buf (Elt Ideal) ℓ) (g' : Dev Cert.DprojRIdeal.nD → PrngReg), Pre_DprojKIdeal_finite_dproj m →
    (∀ c : Dev Cert.DprojKIdeal.nD,
      m' ((c.tc : Thread Cert.DprojRIdeal.nD Cert.DprojRIdeal.τ).loc Cert.DprojRIdeal.main_arg0) = m ((c.tc : Thread Cert.DprojKIdeal.nD Cert.DprojKIdeal.τ).loc Cert.DprojKIdeal.main_arg0)
      ∧ m' ((c.tc : Thread Cert.DprojRIdeal.nD Cert.DprojRIdeal.τ).loc Cert.DprojRIdeal.main_arg1) = m ((c.tc : Thread Cert.DprojKIdeal.nD Cert.DprojKIdeal.τ).loc Cert.DprojKIdeal.main_arg1)
      ∧ m' ((c.tc : Thread Cert.DprojRIdeal.nD Cert.DprojRIdeal.τ).loc Cert.DprojRIdeal.main_arg2) = m ((c.tc : Thread Cert.DprojKIdeal.nD Cert.DprojKIdeal.τ).loc Cert.DprojKIdeal.main_arg2)
      ∧ m' ((c.tc : Thread Cert.DprojRIdeal.nD Cert.DprojRIdeal.τ).loc Cert.DprojRIdeal.main_arg3) = m ((c.tc : Thread Cert.DprojKIdeal.nD Cert.DprojKIdeal.τ).loc Cert.DprojKIdeal.main_arg3)
      ∧ m' ((c.tc : Thread Cert.DprojRIdeal.nD Cert.DprojRIdeal.τ).loc Cert.DprojRIdeal.main_arg4) = m ((c.tc : Thread Cert.DprojKIdeal.nD Cert.DprojKIdeal.τ).loc Cert.DprojKIdeal.main_arg4)
      ∧ m' ((c.tc : Thread Cert.DprojRIdeal.nD Cert.DprojRIdeal.τ).loc Cert.DprojRIdeal.main_arg5) = m ((c.tc : Thread Cert.DprojKIdeal.nD Cert.DprojKIdeal.τ).loc Cert.DprojKIdeal.main_arg5)) →
    ∃ (v0 : (c : Dev Cert.DprojKIdeal.nD) → Buf (Elt Ideal) ((c.tc : Thread Cert.DprojKIdeal.nD Cert.DprojKIdeal.τ).loc Cert.DprojKIdeal.main_v4_0)) (v1 : (c : Dev Cert.DprojKIdeal.nD) → Buf (Elt Ideal) ((c.tc : Thread Cert.DprojKIdeal.nD Cert.DprojKIdeal.τ).loc Cert.DprojKIdeal.main_v4_1)) (v2 : (c : Dev Cert.DprojKIdeal.nD) → Buf (Elt Ideal) ((c.tc : Thread Cert.DprojKIdeal.nD Cert.DprojKIdeal.τ).loc Cert.DprojKIdeal.main_v4_2)),
      θ_run (Cert.DprojKIdeal.defs (F := Ideal)) (onTc (τ := Cert.DprojKIdeal.τ) (Cert.DprojKIdeal.main (F := Ideal))) ⟨m, fun _ => 0, g⟩ (fun r => ∀ c : Dev Cert.DprojKIdeal.nD,
          r.2.mem ((c.tc : Thread Cert.DprojKIdeal.nD Cert.DprojKIdeal.τ).loc Cert.DprojKIdeal.main_v4_0) = v0 c
          ∧ r.2.mem ((c.tc : Thread Cert.DprojKIdeal.nD Cert.DprojKIdeal.τ).loc Cert.DprojKIdeal.main_v4_1) = v1 c
          ∧ r.2.mem ((c.tc : Thread Cert.DprojKIdeal.nD Cert.DprojKIdeal.τ).loc Cert.DprojKIdeal.main_v4_2) = v2 c
          ∧ r.2.mem ((c.tc : Thread Cert.DprojKIdeal.nD Cert.DprojKIdeal.τ).loc Cert.DprojKIdeal.main_arg0) = m ((c.tc : Thread Cert.DprojKIdeal.nD Cert.DprojKIdeal.τ).loc Cert.DprojKIdeal.main_arg0)
          ∧ r.2.mem ((c.tc : Thread Cert.DprojKIdeal.nD Cert.DprojKIdeal.τ).loc Cert.DprojKIdeal.main_arg1) = m ((c.tc : Thread Cert.DprojKIdeal.nD Cert.DprojKIdeal.τ).loc Cert.DprojKIdeal.main_arg1)
          ∧ r.2.mem ((c.tc : Thread Cert.DprojKIdeal.nD Cert.DprojKIdeal.τ).loc Cert.DprojKIdeal.main_arg2) = m ((c.tc : Thread Cert.DprojKIdeal.nD Cert.DprojKIdeal.τ).loc Cert.DprojKIdeal.main_arg2)
          ∧ r.2.mem ((c.tc : Thread Cert.DprojKIdeal.nD Cert.DprojKIdeal.τ).loc Cert.DprojKIdeal.main_arg3) = m ((c.tc : Thread Cert.DprojKIdeal.nD Cert.DprojKIdeal.τ).loc Cert.DprojKIdeal.main_arg3)
          ∧ r.2.mem ((c.tc : Thread Cert.DprojKIdeal.nD Cert.DprojKIdeal.τ).loc Cert.DprojKIdeal.main_arg4) = m ((c.tc : Thread Cert.DprojKIdeal.nD Cert.DprojKIdeal.τ).loc Cert.DprojKIdeal.main_arg4)
          ∧ r.2.mem ((c.tc : Thread Cert.DprojKIdeal.nD Cert.DprojKIdeal.τ).loc Cert.DprojKIdeal.main_arg5) = m ((c.tc : Thread Cert.DprojKIdeal.nD Cert.DprojKIdeal.τ).loc Cert.DprojKIdeal.main_arg5))
      ∧ θ_run (Cert.DprojRIdeal.defs (F := Ideal)) (onTc (τ := Cert.DprojRIdeal.τ) (Cert.DprojRIdeal.main (F := Ideal))) ⟨m', fun _ => 0, g'⟩ (fun r => ∀ c : Dev Cert.DprojRIdeal.nD,
          r.2.mem ((c.tc : Thread Cert.DprojRIdeal.nD Cert.DprojRIdeal.τ).loc Cert.DprojRIdeal.main_v37) = v0 c
          ∧ r.2.mem ((c.tc : Thread Cert.DprojRIdeal.nD Cert.DprojRIdeal.τ).loc Cert.DprojRIdeal.main_v19) = v1 c
          ∧ r.2.mem ((c.tc : Thread Cert.DprojRIdeal.nD Cert.DprojRIdeal.τ).loc Cert.DprojRIdeal.main_v38) = v2 c
          ∧ r.2.mem ((c.tc : Thread Cert.DprojRIdeal.nD Cert.DprojRIdeal.τ).loc Cert.DprojRIdeal.main_arg0) = m' ((c.tc : Thread Cert.DprojRIdeal.nD Cert.DprojRIdeal.τ).loc Cert.DprojRIdeal.main_arg0)
          ∧ r.2.mem ((c.tc : Thread Cert.DprojRIdeal.nD Cert.DprojRIdeal.τ).loc Cert.DprojRIdeal.main_arg1) = m' ((c.tc : Thread Cert.DprojRIdeal.nD Cert.DprojRIdeal.τ).loc Cert.DprojRIdeal.main_arg1)
          ∧ r.2.mem ((c.tc : Thread Cert.DprojRIdeal.nD Cert.DprojRIdeal.τ).loc Cert.DprojRIdeal.main_arg2) = m' ((c.tc : Thread Cert.DprojRIdeal.nD Cert.DprojRIdeal.τ).loc Cert.DprojRIdeal.main_arg2)
          ∧ r.2.mem ((c.tc : Thread Cert.DprojRIdeal.nD Cert.DprojRIdeal.τ).loc Cert.DprojRIdeal.main_arg3) = m' ((c.tc : Thread Cert.DprojRIdeal.nD Cert.DprojRIdeal.τ).loc Cert.DprojRIdeal.main_arg3)
          ∧ r.2.mem ((c.tc : Thread Cert.DprojRIdeal.nD Cert.DprojRIdeal.τ).loc Cert.DprojRIdeal.main_arg4) = m' ((c.tc : Thread Cert.DprojRIdeal.nD Cert.DprojRIdeal.τ).loc Cert.DprojRIdeal.main_arg4)
          ∧ r.2.mem ((c.tc : Thread Cert.DprojRIdeal.nD Cert.DprojRIdeal.τ).loc Cert.DprojRIdeal.main_arg5) = m' ((c.tc : Thread Cert.DprojRIdeal.nD Cert.DprojRIdeal.τ).loc Cert.DprojRIdeal.main_arg5))

def preserves_RmsK_RmsKIdeal : Prop :=
  True

def algebraic_RmsKIdeal_RmsRIdeal [hRmsKIdeal : Cert.RmsKIdeal.Facts] [hRmsRIdeal : Cert.RmsRIdeal.Facts] : Prop :=
  ∀ (m : (ℓ : Loc Cert.RmsKIdeal.nD Cert.RmsKIdeal.τ Cert.RmsKIdeal.sig) → Buf (Elt Ideal) ℓ) (g : Dev Cert.RmsKIdeal.nD → PrngReg)
    (m' : (ℓ : Loc Cert.RmsRIdeal.nD Cert.RmsRIdeal.τ Cert.RmsRIdeal.sig) → Buf (Elt Ideal) ℓ) (g' : Dev Cert.RmsRIdeal.nD → PrngReg), Pre_RmsKIdeal m →
    (∀ c : Dev Cert.RmsKIdeal.nD,
      m' ((c.tc : Thread Cert.RmsRIdeal.nD Cert.RmsRIdeal.τ).loc Cert.RmsRIdeal.main_arg0) = m ((c.tc : Thread Cert.RmsKIdeal.nD Cert.RmsKIdeal.τ).loc Cert.RmsKIdeal.main_arg0)
      ∧ m' ((c.tc : Thread Cert.RmsRIdeal.nD Cert.RmsRIdeal.τ).loc Cert.RmsRIdeal.main_arg1) = m ((c.tc : Thread Cert.RmsKIdeal.nD Cert.RmsKIdeal.τ).loc Cert.RmsKIdeal.main_arg1)) →
    ∃ (v0 : (c : Dev Cert.RmsKIdeal.nD) → Buf (Elt Ideal) ((c.tc : Thread Cert.RmsKIdeal.nD Cert.RmsKIdeal.τ).loc Cert.RmsKIdeal.main_v1)),
      θ_run (Cert.RmsKIdeal.defs (F := Ideal)) (onTc (τ := Cert.RmsKIdeal.τ) (Cert.RmsKIdeal.main (F := Ideal))) ⟨m, fun _ => 0, g⟩ (fun r => ∀ c : Dev Cert.RmsKIdeal.nD,
          r.2.mem ((c.tc : Thread Cert.RmsKIdeal.nD Cert.RmsKIdeal.τ).loc Cert.RmsKIdeal.main_v1) = v0 c
          ∧ r.2.mem ((c.tc : Thread Cert.RmsKIdeal.nD Cert.RmsKIdeal.τ).loc Cert.RmsKIdeal.main_arg0) = m ((c.tc : Thread Cert.RmsKIdeal.nD Cert.RmsKIdeal.τ).loc Cert.RmsKIdeal.main_arg0)
          ∧ r.2.mem ((c.tc : Thread Cert.RmsKIdeal.nD Cert.RmsKIdeal.τ).loc Cert.RmsKIdeal.main_arg1) = m ((c.tc : Thread Cert.RmsKIdeal.nD Cert.RmsKIdeal.τ).loc Cert.RmsKIdeal.main_arg1))
      ∧ θ_run (Cert.RmsRIdeal.defs (F := Ideal)) (onTc (τ := Cert.RmsRIdeal.τ) (Cert.RmsRIdeal.main (F := Ideal))) ⟨m', fun _ => 0, g'⟩ (fun r => ∀ c : Dev Cert.RmsRIdeal.nD,
          r.2.mem ((c.tc : Thread Cert.RmsRIdeal.nD Cert.RmsRIdeal.τ).loc Cert.RmsRIdeal.main_v13) = v0 c
          ∧ r.2.mem ((c.tc : Thread Cert.RmsRIdeal.nD Cert.RmsRIdeal.τ).loc Cert.RmsRIdeal.main_arg0) = m' ((c.tc : Thread Cert.RmsRIdeal.nD Cert.RmsRIdeal.τ).loc Cert.RmsRIdeal.main_arg0)
          ∧ r.2.mem ((c.tc : Thread Cert.RmsRIdeal.nD Cert.RmsRIdeal.τ).loc Cert.RmsRIdeal.main_arg1) = m' ((c.tc : Thread Cert.RmsRIdeal.nD Cert.RmsRIdeal.τ).loc Cert.RmsRIdeal.main_arg1))

def preserves_BetaK_BetaKIdeal : Prop :=
  True

def algebraic_BetaKIdeal_BetaRIdeal [hBetaKIdeal : Cert.BetaKIdeal.Facts] [hBetaRIdeal : Cert.BetaRIdeal.Facts] : Prop :=
  ∀ (m : (ℓ : Loc Cert.BetaKIdeal.nD Cert.BetaKIdeal.τ Cert.BetaKIdeal.sig) → Buf (Elt Ideal) ℓ) (g : Dev Cert.BetaKIdeal.nD → PrngReg)
    (m' : (ℓ : Loc Cert.BetaRIdeal.nD Cert.BetaRIdeal.τ Cert.BetaRIdeal.sig) → Buf (Elt Ideal) ℓ) (g' : Dev Cert.BetaRIdeal.nD → PrngReg), Pre_BetaKIdeal m →
    (∀ c : Dev Cert.BetaKIdeal.nD,
      m' ((c.tc : Thread Cert.BetaRIdeal.nD Cert.BetaRIdeal.τ).loc Cert.BetaRIdeal.main_arg0) = m ((c.tc : Thread Cert.BetaKIdeal.nD Cert.BetaKIdeal.τ).loc Cert.BetaKIdeal.main_arg0)
      ∧ m' ((c.tc : Thread Cert.BetaRIdeal.nD Cert.BetaRIdeal.τ).loc Cert.BetaRIdeal.main_arg1) = m ((c.tc : Thread Cert.BetaKIdeal.nD Cert.BetaKIdeal.τ).loc Cert.BetaKIdeal.main_arg1)
      ∧ m' ((c.tc : Thread Cert.BetaRIdeal.nD Cert.BetaRIdeal.τ).loc Cert.BetaRIdeal.main_arg2) = m ((c.tc : Thread Cert.BetaKIdeal.nD Cert.BetaKIdeal.τ).loc Cert.BetaKIdeal.main_arg2)) →
    ∃ (v0 : (c : Dev Cert.BetaKIdeal.nD) → Buf (Elt Ideal) ((c.tc : Thread Cert.BetaKIdeal.nD Cert.BetaKIdeal.τ).loc Cert.BetaKIdeal.main_v4)),
      θ_run (Cert.BetaKIdeal.defs (F := Ideal)) (onTc (τ := Cert.BetaKIdeal.τ) (Cert.BetaKIdeal.main (F := Ideal))) ⟨m, fun _ => 0, g⟩ (fun r => ∀ c : Dev Cert.BetaKIdeal.nD,
          r.2.mem ((c.tc : Thread Cert.BetaKIdeal.nD Cert.BetaKIdeal.τ).loc Cert.BetaKIdeal.main_v4) = v0 c
          ∧ r.2.mem ((c.tc : Thread Cert.BetaKIdeal.nD Cert.BetaKIdeal.τ).loc Cert.BetaKIdeal.main_arg0) = m ((c.tc : Thread Cert.BetaKIdeal.nD Cert.BetaKIdeal.τ).loc Cert.BetaKIdeal.main_arg0)
          ∧ r.2.mem ((c.tc : Thread Cert.BetaKIdeal.nD Cert.BetaKIdeal.τ).loc Cert.BetaKIdeal.main_arg1) = m ((c.tc : Thread Cert.BetaKIdeal.nD Cert.BetaKIdeal.τ).loc Cert.BetaKIdeal.main_arg1)
          ∧ r.2.mem ((c.tc : Thread Cert.BetaKIdeal.nD Cert.BetaKIdeal.τ).loc Cert.BetaKIdeal.main_arg2) = m ((c.tc : Thread Cert.BetaKIdeal.nD Cert.BetaKIdeal.τ).loc Cert.BetaKIdeal.main_arg2))
      ∧ θ_run (Cert.BetaRIdeal.defs (F := Ideal)) (onTc (τ := Cert.BetaRIdeal.τ) (Cert.BetaRIdeal.main (F := Ideal))) ⟨m', fun _ => 0, g'⟩ (fun r => ∀ c : Dev Cert.BetaRIdeal.nD,
          r.2.mem ((c.tc : Thread Cert.BetaRIdeal.nD Cert.BetaRIdeal.τ).loc Cert.BetaRIdeal.main_v18) = v0 c
          ∧ r.2.mem ((c.tc : Thread Cert.BetaRIdeal.nD Cert.BetaRIdeal.τ).loc Cert.BetaRIdeal.main_arg0) = m' ((c.tc : Thread Cert.BetaRIdeal.nD Cert.BetaRIdeal.τ).loc Cert.BetaRIdeal.main_arg0)
          ∧ r.2.mem ((c.tc : Thread Cert.BetaRIdeal.nD Cert.BetaRIdeal.τ).loc Cert.BetaRIdeal.main_arg1) = m' ((c.tc : Thread Cert.BetaRIdeal.nD Cert.BetaRIdeal.τ).loc Cert.BetaRIdeal.main_arg1)
          ∧ r.2.mem ((c.tc : Thread Cert.BetaRIdeal.nD Cert.BetaRIdeal.τ).loc Cert.BetaRIdeal.main_arg2) = m' ((c.tc : Thread Cert.BetaRIdeal.nD Cert.BetaRIdeal.τ).loc Cert.BetaRIdeal.main_arg2))

def preserves_PrepK_PrepKIdeal : Prop :=
  True

def algebraic_PrepKIdeal_PrepRIdeal_pre_finite_prep [hPrepKIdeal : Cert.PrepKIdeal.Facts] [hPrepRIdeal : Cert.PrepRIdeal.Facts] [hPre_finite_prep : Cert.Pre_finite_prep.Facts] : Prop :=
  ∀ (m : (ℓ : Loc Cert.PrepKIdeal.nD Cert.PrepKIdeal.τ Cert.PrepKIdeal.sig) → Buf (Elt Ideal) ℓ) (g : Dev Cert.PrepKIdeal.nD → PrngReg)
    (m' : (ℓ : Loc Cert.PrepRIdeal.nD Cert.PrepRIdeal.τ Cert.PrepRIdeal.sig) → Buf (Elt Ideal) ℓ) (g' : Dev Cert.PrepRIdeal.nD → PrngReg), Pre_PrepKIdeal_finite_prep m →
    (∀ c : Dev Cert.PrepKIdeal.nD,
      m' ((c.tc : Thread Cert.PrepRIdeal.nD Cert.PrepRIdeal.τ).loc Cert.PrepRIdeal.main_arg0) = m ((c.tc : Thread Cert.PrepKIdeal.nD Cert.PrepKIdeal.τ).loc Cert.PrepKIdeal.main_arg0)
      ∧ m' ((c.tc : Thread Cert.PrepRIdeal.nD Cert.PrepRIdeal.τ).loc Cert.PrepRIdeal.main_arg1) = m ((c.tc : Thread Cert.PrepKIdeal.nD Cert.PrepKIdeal.τ).loc Cert.PrepKIdeal.main_arg1)
      ∧ m' ((c.tc : Thread Cert.PrepRIdeal.nD Cert.PrepRIdeal.τ).loc Cert.PrepRIdeal.main_arg2) = m ((c.tc : Thread Cert.PrepKIdeal.nD Cert.PrepKIdeal.τ).loc Cert.PrepKIdeal.main_arg2)
      ∧ m' ((c.tc : Thread Cert.PrepRIdeal.nD Cert.PrepRIdeal.τ).loc Cert.PrepRIdeal.main_arg3) = m ((c.tc : Thread Cert.PrepKIdeal.nD Cert.PrepKIdeal.τ).loc Cert.PrepKIdeal.main_arg3)
      ∧ m' ((c.tc : Thread Cert.PrepRIdeal.nD Cert.PrepRIdeal.τ).loc Cert.PrepRIdeal.main_arg4) = m ((c.tc : Thread Cert.PrepKIdeal.nD Cert.PrepKIdeal.τ).loc Cert.PrepKIdeal.main_arg4)
      ∧ m' ((c.tc : Thread Cert.PrepRIdeal.nD Cert.PrepRIdeal.τ).loc Cert.PrepRIdeal.main_arg5) = m ((c.tc : Thread Cert.PrepKIdeal.nD Cert.PrepKIdeal.τ).loc Cert.PrepKIdeal.main_arg5)
      ∧ m' ((c.tc : Thread Cert.PrepRIdeal.nD Cert.PrepRIdeal.τ).loc Cert.PrepRIdeal.main_arg6) = m ((c.tc : Thread Cert.PrepKIdeal.nD Cert.PrepKIdeal.τ).loc Cert.PrepKIdeal.main_arg6)
      ∧ m' ((c.tc : Thread Cert.PrepRIdeal.nD Cert.PrepRIdeal.τ).loc Cert.PrepRIdeal.main_arg7) = m ((c.tc : Thread Cert.PrepKIdeal.nD Cert.PrepKIdeal.τ).loc Cert.PrepKIdeal.main_arg7)
      ∧ m' ((c.tc : Thread Cert.PrepRIdeal.nD Cert.PrepRIdeal.τ).loc Cert.PrepRIdeal.main_arg8) = m ((c.tc : Thread Cert.PrepKIdeal.nD Cert.PrepKIdeal.τ).loc Cert.PrepKIdeal.main_arg8)) →
    ∃ (v0 : (c : Dev Cert.PrepKIdeal.nD) → Buf (Elt Ideal) ((c.tc : Thread Cert.PrepKIdeal.nD Cert.PrepKIdeal.τ).loc Cert.PrepKIdeal.main_v12_0)) (v1 : (c : Dev Cert.PrepKIdeal.nD) → Buf (Elt Ideal) ((c.tc : Thread Cert.PrepKIdeal.nD Cert.PrepKIdeal.τ).loc Cert.PrepKIdeal.main_v12_1)) (v2 : (c : Dev Cert.PrepKIdeal.nD) → Buf (Elt Ideal) ((c.tc : Thread Cert.PrepKIdeal.nD Cert.PrepKIdeal.τ).loc Cert.PrepKIdeal.main_v12_2)) (v3 : (c : Dev Cert.PrepKIdeal.nD) → Buf (Elt Ideal) ((c.tc : Thread Cert.PrepKIdeal.nD Cert.PrepKIdeal.τ).loc Cert.PrepKIdeal.main_v12_3)) (v4 : (c : Dev Cert.PrepKIdeal.nD) → Buf (Elt Ideal) ((c.tc : Thread Cert.PrepKIdeal.nD Cert.PrepKIdeal.τ).loc Cert.PrepKIdeal.main_v12_4)) (v5 : (c : Dev Cert.PrepKIdeal.nD) → Buf (Elt Ideal) ((c.tc : Thread Cert.PrepKIdeal.nD Cert.PrepKIdeal.τ).loc Cert.PrepKIdeal.main_v12_5)) (v6 : (c : Dev Cert.PrepKIdeal.nD) → Buf (Elt Ideal) ((c.tc : Thread Cert.PrepKIdeal.nD Cert.PrepKIdeal.τ).loc Cert.PrepKIdeal.main_v12_6)),
      θ_run (Cert.PrepKIdeal.defs (F := Ideal)) (onTc (τ := Cert.PrepKIdeal.τ) (Cert.PrepKIdeal.main (F := Ideal))) ⟨m, fun _ => 0, g⟩ (fun r => ∀ c : Dev Cert.PrepKIdeal.nD,
          r.2.mem ((c.tc : Thread Cert.PrepKIdeal.nD Cert.PrepKIdeal.τ).loc Cert.PrepKIdeal.main_v12_0) = v0 c
          ∧ r.2.mem ((c.tc : Thread Cert.PrepKIdeal.nD Cert.PrepKIdeal.τ).loc Cert.PrepKIdeal.main_v12_1) = v1 c
          ∧ r.2.mem ((c.tc : Thread Cert.PrepKIdeal.nD Cert.PrepKIdeal.τ).loc Cert.PrepKIdeal.main_v12_2) = v2 c
          ∧ r.2.mem ((c.tc : Thread Cert.PrepKIdeal.nD Cert.PrepKIdeal.τ).loc Cert.PrepKIdeal.main_v12_3) = v3 c
          ∧ r.2.mem ((c.tc : Thread Cert.PrepKIdeal.nD Cert.PrepKIdeal.τ).loc Cert.PrepKIdeal.main_v12_4) = v4 c
          ∧ r.2.mem ((c.tc : Thread Cert.PrepKIdeal.nD Cert.PrepKIdeal.τ).loc Cert.PrepKIdeal.main_v12_5) = v5 c
          ∧ r.2.mem ((c.tc : Thread Cert.PrepKIdeal.nD Cert.PrepKIdeal.τ).loc Cert.PrepKIdeal.main_v12_6) = v6 c
          ∧ r.2.mem ((c.tc : Thread Cert.PrepKIdeal.nD Cert.PrepKIdeal.τ).loc Cert.PrepKIdeal.main_arg0) = m ((c.tc : Thread Cert.PrepKIdeal.nD Cert.PrepKIdeal.τ).loc Cert.PrepKIdeal.main_arg0)
          ∧ r.2.mem ((c.tc : Thread Cert.PrepKIdeal.nD Cert.PrepKIdeal.τ).loc Cert.PrepKIdeal.main_arg1) = m ((c.tc : Thread Cert.PrepKIdeal.nD Cert.PrepKIdeal.τ).loc Cert.PrepKIdeal.main_arg1)
          ∧ r.2.mem ((c.tc : Thread Cert.PrepKIdeal.nD Cert.PrepKIdeal.τ).loc Cert.PrepKIdeal.main_arg2) = m ((c.tc : Thread Cert.PrepKIdeal.nD Cert.PrepKIdeal.τ).loc Cert.PrepKIdeal.main_arg2)
          ∧ r.2.mem ((c.tc : Thread Cert.PrepKIdeal.nD Cert.PrepKIdeal.τ).loc Cert.PrepKIdeal.main_arg3) = m ((c.tc : Thread Cert.PrepKIdeal.nD Cert.PrepKIdeal.τ).loc Cert.PrepKIdeal.main_arg3)
          ∧ r.2.mem ((c.tc : Thread Cert.PrepKIdeal.nD Cert.PrepKIdeal.τ).loc Cert.PrepKIdeal.main_arg4) = m ((c.tc : Thread Cert.PrepKIdeal.nD Cert.PrepKIdeal.τ).loc Cert.PrepKIdeal.main_arg4)
          ∧ r.2.mem ((c.tc : Thread Cert.PrepKIdeal.nD Cert.PrepKIdeal.τ).loc Cert.PrepKIdeal.main_arg5) = m ((c.tc : Thread Cert.PrepKIdeal.nD Cert.PrepKIdeal.τ).loc Cert.PrepKIdeal.main_arg5)
          ∧ r.2.mem ((c.tc : Thread Cert.PrepKIdeal.nD Cert.PrepKIdeal.τ).loc Cert.PrepKIdeal.main_arg6) = m ((c.tc : Thread Cert.PrepKIdeal.nD Cert.PrepKIdeal.τ).loc Cert.PrepKIdeal.main_arg6)
          ∧ r.2.mem ((c.tc : Thread Cert.PrepKIdeal.nD Cert.PrepKIdeal.τ).loc Cert.PrepKIdeal.main_arg7) = m ((c.tc : Thread Cert.PrepKIdeal.nD Cert.PrepKIdeal.τ).loc Cert.PrepKIdeal.main_arg7)
          ∧ r.2.mem ((c.tc : Thread Cert.PrepKIdeal.nD Cert.PrepKIdeal.τ).loc Cert.PrepKIdeal.main_arg8) = m ((c.tc : Thread Cert.PrepKIdeal.nD Cert.PrepKIdeal.τ).loc Cert.PrepKIdeal.main_arg8))
      ∧ θ_run (Cert.PrepRIdeal.defs (F := Ideal)) (onTc (τ := Cert.PrepRIdeal.τ) (Cert.PrepRIdeal.main (F := Ideal))) ⟨m', fun _ => 0, g'⟩ (fun r => ∀ c : Dev Cert.PrepRIdeal.nD,
          r.2.mem ((c.tc : Thread Cert.PrepRIdeal.nD Cert.PrepRIdeal.τ).loc Cert.PrepRIdeal.main_v7) = v0 c
          ∧ r.2.mem ((c.tc : Thread Cert.PrepRIdeal.nD Cert.PrepRIdeal.τ).loc Cert.PrepRIdeal.main_v62) = v1 c
          ∧ r.2.mem ((c.tc : Thread Cert.PrepRIdeal.nD Cert.PrepRIdeal.τ).loc Cert.PrepRIdeal.main_v60) = v2 c
          ∧ r.2.mem ((c.tc : Thread Cert.PrepRIdeal.nD Cert.PrepRIdeal.τ).loc Cert.PrepRIdeal.main_v9) = v3 c
          ∧ r.2.mem ((c.tc : Thread Cert.PrepRIdeal.nD Cert.PrepRIdeal.τ).loc Cert.PrepRIdeal.main_v63) = v4 c
          ∧ r.2.mem ((c.tc : Thread Cert.PrepRIdeal.nD Cert.PrepRIdeal.τ).loc Cert.PrepRIdeal.main_v64) = v5 c
          ∧ r.2.mem ((c.tc : Thread Cert.PrepRIdeal.nD Cert.PrepRIdeal.τ).loc Cert.PrepRIdeal.main_v39) = v6 c
          ∧ r.2.mem ((c.tc : Thread Cert.PrepRIdeal.nD Cert.PrepRIdeal.τ).loc Cert.PrepRIdeal.main_arg0) = m' ((c.tc : Thread Cert.PrepRIdeal.nD Cert.PrepRIdeal.τ).loc Cert.PrepRIdeal.main_arg0)
          ∧ r.2.mem ((c.tc : Thread Cert.PrepRIdeal.nD Cert.PrepRIdeal.τ).loc Cert.PrepRIdeal.main_arg1) = m' ((c.tc : Thread Cert.PrepRIdeal.nD Cert.PrepRIdeal.τ).loc Cert.PrepRIdeal.main_arg1)
          ∧ r.2.mem ((c.tc : Thread Cert.PrepRIdeal.nD Cert.PrepRIdeal.τ).loc Cert.PrepRIdeal.main_arg2) = m' ((c.tc : Thread Cert.PrepRIdeal.nD Cert.PrepRIdeal.τ).loc Cert.PrepRIdeal.main_arg2)
          ∧ r.2.mem ((c.tc : Thread Cert.PrepRIdeal.nD Cert.PrepRIdeal.τ).loc Cert.PrepRIdeal.main_arg3) = m' ((c.tc : Thread Cert.PrepRIdeal.nD Cert.PrepRIdeal.τ).loc Cert.PrepRIdeal.main_arg3)
          ∧ r.2.mem ((c.tc : Thread Cert.PrepRIdeal.nD Cert.PrepRIdeal.τ).loc Cert.PrepRIdeal.main_arg4) = m' ((c.tc : Thread Cert.PrepRIdeal.nD Cert.PrepRIdeal.τ).loc Cert.PrepRIdeal.main_arg4)
          ∧ r.2.mem ((c.tc : Thread Cert.PrepRIdeal.nD Cert.PrepRIdeal.τ).loc Cert.PrepRIdeal.main_arg5) = m' ((c.tc : Thread Cert.PrepRIdeal.nD Cert.PrepRIdeal.τ).loc Cert.PrepRIdeal.main_arg5)
          ∧ r.2.mem ((c.tc : Thread Cert.PrepRIdeal.nD Cert.PrepRIdeal.τ).loc Cert.PrepRIdeal.main_arg6) = m' ((c.tc : Thread Cert.PrepRIdeal.nD Cert.PrepRIdeal.τ).loc Cert.PrepRIdeal.main_arg6)
          ∧ r.2.mem ((c.tc : Thread Cert.PrepRIdeal.nD Cert.PrepRIdeal.τ).loc Cert.PrepRIdeal.main_arg7) = m' ((c.tc : Thread Cert.PrepRIdeal.nD Cert.PrepRIdeal.τ).loc Cert.PrepRIdeal.main_arg7)
          ∧ r.2.mem ((c.tc : Thread Cert.PrepRIdeal.nD Cert.PrepRIdeal.τ).loc Cert.PrepRIdeal.main_arg8) = m' ((c.tc : Thread Cert.PrepRIdeal.nD Cert.PrepRIdeal.τ).loc Cert.PrepRIdeal.main_arg8))

def Claim : Prop :=
  ∃ (hKernel : Cert.Kernel.Facts) (hKernelIdeal : Cert.KernelIdeal.Facts) (hReferenceIdeal : Cert.ReferenceIdeal.Facts) (hDactK : Cert.DactK.Facts) (hDactKIdeal : Cert.DactKIdeal.Facts) (hDactRIdeal : Cert.DactRIdeal.Facts) (hGupK : Cert.GupK.Facts) (hGupKIdeal : Cert.GupKIdeal.Facts) (hGupRIdeal : Cert.GupRIdeal.Facts) (hDuTwoK : Cert.DuTwoK.Facts) (hDuTwoKIdeal : Cert.DuTwoKIdeal.Facts) (hDuTwoRIdeal : Cert.DuTwoRIdeal.Facts) (hGdownK : Cert.GdownK.Facts) (hGdownKIdeal : Cert.GdownKIdeal.Facts) (hGdownRIdeal : Cert.GdownRIdeal.Facts) (hGoutK : Cert.GoutK.Facts) (hGoutKIdeal : Cert.GoutKIdeal.Facts) (hGoutRIdeal : Cert.GoutRIdeal.Facts) (hGraK : Cert.GraK.Facts) (hGraKIdeal : Cert.GraKIdeal.Facts) (hGraRIdeal : Cert.GraRIdeal.Facts) (hUpK : Cert.UpK.Facts) (hUpKIdeal : Cert.UpKIdeal.Facts) (hUpRIdeal : Cert.UpRIdeal.Facts) (hInRwkvK : Cert.InRwkvK.Facts) (hInRwkvKIdeal : Cert.InRwkvKIdeal.Facts) (hInRwkvRIdeal : Cert.InRwkvRIdeal.Facts) (hInQkvK : Cert.InQkvK.Facts) (hInQkvKIdeal : Cert.InQkvKIdeal.Facts) (hInQkvRIdeal : Cert.InQkvRIdeal.Facts) (hInZzK : Cert.InZzK.Facts) (hInZzKIdeal : Cert.InZzKIdeal.Facts) (hInZzRIdeal : Cert.InZzRIdeal.Facts) (hInGatesK : Cert.InGatesK.Facts) (hInGatesKIdeal : Cert.InGatesKIdeal.Facts) (hInGatesRIdeal : Cert.InGatesRIdeal.Facts) (hInAbK : Cert.InAbK.Facts) (hInAbKIdeal : Cert.InAbKIdeal.Facts) (hInAbRIdeal : Cert.InAbRIdeal.Facts) (hDuK : Cert.DuK.Facts) (hDuKIdeal : Cert.DuKIdeal.Facts) (hDuRIdeal : Cert.DuRIdeal.Facts) (hGwaK : Cert.GwaK.Facts) (hGwaKIdeal : Cert.GwaKIdeal.Facts) (hGwaRIdeal : Cert.GwaRIdeal.Facts) (hGwbK : Cert.GwbK.Facts) (hGwbKIdeal : Cert.GwbKIdeal.Facts) (hGwbRIdeal : Cert.GwbRIdeal.Facts) (hNorm1K : Cert.Norm1K.Facts) (hNorm1KIdeal : Cert.Norm1KIdeal.Facts) (hNorm1RIdeal : Cert.Norm1RIdeal.Facts) (hAdWinK : Cert.AdWinK.Facts) (hAdWinKIdeal : Cert.AdWinKIdeal.Facts) (hAdWinRIdeal : Cert.AdWinRIdeal.Facts) (hAdProjK : Cert.AdProjK.Facts) (hAdProjKIdeal : Cert.AdProjKIdeal.Facts) (hAdProjRIdeal : Cert.AdProjRIdeal.Facts) (hAdOutK : Cert.AdOutK.Facts) (hAdOutKIdeal : Cert.AdOutKIdeal.Facts) (hAdOutRIdeal : Cert.AdOutRIdeal.Facts) (hAdUpK : Cert.AdUpK.Facts) (hAdUpKIdeal : Cert.AdUpKIdeal.Facts) (hAdUpRIdeal : Cert.AdUpRIdeal.Facts) (hAdDownK : Cert.AdDownK.Facts) (hAdDownKIdeal : Cert.AdDownKIdeal.Facts) (hAdDownRIdeal : Cert.AdDownRIdeal.Facts) (hAdSmallK : Cert.AdSmallK.Facts) (hAdSmallKIdeal : Cert.AdSmallKIdeal.Facts) (hAdSmallRIdeal : Cert.AdSmallRIdeal.Facts) (hFdownK : Cert.FdownK.Facts) (hFdownKIdeal : Cert.FdownKIdeal.Facts) (hFdownRIdeal : Cert.FdownRIdeal.Facts) (hWoutK : Cert.WoutK.Facts) (hWoutKIdeal : Cert.WoutKIdeal.Facts) (hWoutRIdeal : Cert.WoutRIdeal.Facts) (hGdgK : Cert.GdgK.Facts) (hGdgKIdeal : Cert.GdgKIdeal.Facts) (hGdgRIdeal : Cert.GdgRIdeal.Facts) (hGprepK : Cert.GprepK.Facts) (hGprepKIdeal : Cert.GprepKIdeal.Facts) (hGprepRIdeal : Cert.GprepRIdeal.Facts) (hFactK : Cert.FactK.Facts) (hFactKIdeal : Cert.FactKIdeal.Facts) (hFactRIdeal : Cert.FactRIdeal.Facts) (hGdnK : Cert.GdnK.Facts) (hGdnKIdeal : Cert.GdnKIdeal.Facts) (hDybK : Cert.DybK.Facts) (hDybKIdeal : Cert.DybKIdeal.Facts) (hDybRIdeal : Cert.DybRIdeal.Facts) (hDyaK : Cert.DyaK.Facts) (hDyaKIdeal : Cert.DyaKIdeal.Facts) (hDyaRIdeal : Cert.DyaRIdeal.Facts) (hRprojK : Cert.RprojK.Facts) (hRprojKIdeal : Cert.RprojKIdeal.Facts) (hRprojRIdeal : Cert.RprojRIdeal.Facts) (hDprojK : Cert.DprojK.Facts) (hDprojKIdeal : Cert.DprojKIdeal.Facts) (hDprojRIdeal : Cert.DprojRIdeal.Facts) (hRmsK : Cert.RmsK.Facts) (hRmsKIdeal : Cert.RmsKIdeal.Facts) (hRmsRIdeal : Cert.RmsRIdeal.Facts) (hBetaK : Cert.BetaK.Facts) (hBetaKIdeal : Cert.BetaKIdeal.Facts) (hBetaRIdeal : Cert.BetaRIdeal.Facts) (hPrepK : Cert.PrepK.Facts) (hPrepKIdeal : Cert.PrepKIdeal.Facts) (hPrepRIdeal : Cert.PrepRIdeal.Facts) (hPre_finite_gate : Cert.Pre_finite_gate.Facts) (hPre_finite_dybin : Cert.Pre_finite_dybin.Facts) (hPre_finite_dyain : Cert.Pre_finite_dyain.Facts) (hPre_finite_rproj : Cert.Pre_finite_rproj.Facts) (hPre_finite_dproj : Cert.Pre_finite_dproj.Facts) (hPre_finite_prep : Cert.Pre_finite_prep.Facts),
    quiescent_Kernel (hKernel := hKernel)
    ∧ quiescent_KernelIdeal (hKernelIdeal := hKernelIdeal)
    ∧ quiescent_ReferenceIdeal (hReferenceIdeal := hReferenceIdeal)
    ∧ quiescent_DactK (hDactK := hDactK)
    ∧ quiescent_DactKIdeal (hDactKIdeal := hDactKIdeal)
    ∧ quiescent_DactRIdeal (hDactRIdeal := hDactRIdeal)
    ∧ quiescent_GupK (hGupK := hGupK)
    ∧ quiescent_GupKIdeal (hGupKIdeal := hGupKIdeal)
    ∧ quiescent_GupRIdeal (hGupRIdeal := hGupRIdeal)
    ∧ quiescent_DuTwoK (hDuTwoK := hDuTwoK)
    ∧ quiescent_DuTwoKIdeal (hDuTwoKIdeal := hDuTwoKIdeal)
    ∧ quiescent_DuTwoRIdeal (hDuTwoRIdeal := hDuTwoRIdeal)
    ∧ quiescent_GdownK (hGdownK := hGdownK)
    ∧ quiescent_GdownKIdeal (hGdownKIdeal := hGdownKIdeal)
    ∧ quiescent_GdownRIdeal (hGdownRIdeal := hGdownRIdeal)
    ∧ quiescent_GoutK (hGoutK := hGoutK)
    ∧ quiescent_GoutKIdeal (hGoutKIdeal := hGoutKIdeal)
    ∧ quiescent_GoutRIdeal (hGoutRIdeal := hGoutRIdeal)
    ∧ quiescent_GraK (hGraK := hGraK)
    ∧ quiescent_GraKIdeal (hGraKIdeal := hGraKIdeal)
    ∧ quiescent_GraRIdeal (hGraRIdeal := hGraRIdeal)
    ∧ quiescent_UpK (hUpK := hUpK)
    ∧ quiescent_UpKIdeal (hUpKIdeal := hUpKIdeal)
    ∧ quiescent_UpRIdeal (hUpRIdeal := hUpRIdeal)
    ∧ quiescent_InRwkvK (hInRwkvK := hInRwkvK)
    ∧ quiescent_InRwkvKIdeal (hInRwkvKIdeal := hInRwkvKIdeal)
    ∧ quiescent_InRwkvRIdeal (hInRwkvRIdeal := hInRwkvRIdeal)
    ∧ quiescent_InQkvK (hInQkvK := hInQkvK)
    ∧ quiescent_InQkvKIdeal (hInQkvKIdeal := hInQkvKIdeal)
    ∧ quiescent_InQkvRIdeal (hInQkvRIdeal := hInQkvRIdeal)
    ∧ quiescent_InZzK (hInZzK := hInZzK)
    ∧ quiescent_InZzKIdeal (hInZzKIdeal := hInZzKIdeal)
    ∧ quiescent_InZzRIdeal (hInZzRIdeal := hInZzRIdeal)
    ∧ quiescent_InGatesK (hInGatesK := hInGatesK)
    ∧ quiescent_InGatesKIdeal (hInGatesKIdeal := hInGatesKIdeal)
    ∧ quiescent_InGatesRIdeal (hInGatesRIdeal := hInGatesRIdeal)
    ∧ quiescent_InAbK (hInAbK := hInAbK)
    ∧ quiescent_InAbKIdeal (hInAbKIdeal := hInAbKIdeal)
    ∧ quiescent_InAbRIdeal (hInAbRIdeal := hInAbRIdeal)
    ∧ quiescent_DuK (hDuK := hDuK)
    ∧ quiescent_DuKIdeal (hDuKIdeal := hDuKIdeal)
    ∧ quiescent_DuRIdeal (hDuRIdeal := hDuRIdeal)
    ∧ quiescent_GwaK (hGwaK := hGwaK)
    ∧ quiescent_GwaKIdeal (hGwaKIdeal := hGwaKIdeal)
    ∧ quiescent_GwaRIdeal (hGwaRIdeal := hGwaRIdeal)
    ∧ quiescent_GwbK (hGwbK := hGwbK)
    ∧ quiescent_GwbKIdeal (hGwbKIdeal := hGwbKIdeal)
    ∧ quiescent_GwbRIdeal (hGwbRIdeal := hGwbRIdeal)
    ∧ quiescent_Norm1K (hNorm1K := hNorm1K)
    ∧ quiescent_Norm1KIdeal (hNorm1KIdeal := hNorm1KIdeal)
    ∧ quiescent_Norm1RIdeal (hNorm1RIdeal := hNorm1RIdeal)
    ∧ quiescent_AdWinK (hAdWinK := hAdWinK)
    ∧ quiescent_AdWinKIdeal (hAdWinKIdeal := hAdWinKIdeal)
    ∧ quiescent_AdWinRIdeal (hAdWinRIdeal := hAdWinRIdeal)
    ∧ quiescent_AdProjK (hAdProjK := hAdProjK)
    ∧ quiescent_AdProjKIdeal (hAdProjKIdeal := hAdProjKIdeal)
    ∧ quiescent_AdProjRIdeal (hAdProjRIdeal := hAdProjRIdeal)
    ∧ quiescent_AdOutK (hAdOutK := hAdOutK)
    ∧ quiescent_AdOutKIdeal (hAdOutKIdeal := hAdOutKIdeal)
    ∧ quiescent_AdOutRIdeal (hAdOutRIdeal := hAdOutRIdeal)
    ∧ quiescent_AdUpK (hAdUpK := hAdUpK)
    ∧ quiescent_AdUpKIdeal (hAdUpKIdeal := hAdUpKIdeal)
    ∧ quiescent_AdUpRIdeal (hAdUpRIdeal := hAdUpRIdeal)
    ∧ quiescent_AdDownK (hAdDownK := hAdDownK)
    ∧ quiescent_AdDownKIdeal (hAdDownKIdeal := hAdDownKIdeal)
    ∧ quiescent_AdDownRIdeal (hAdDownRIdeal := hAdDownRIdeal)
    ∧ quiescent_AdSmallK (hAdSmallK := hAdSmallK)
    ∧ quiescent_AdSmallKIdeal (hAdSmallKIdeal := hAdSmallKIdeal)
    ∧ quiescent_AdSmallRIdeal (hAdSmallRIdeal := hAdSmallRIdeal)
    ∧ quiescent_FdownK (hFdownK := hFdownK)
    ∧ quiescent_FdownKIdeal (hFdownKIdeal := hFdownKIdeal)
    ∧ quiescent_FdownRIdeal (hFdownRIdeal := hFdownRIdeal)
    ∧ quiescent_WoutK (hWoutK := hWoutK)
    ∧ quiescent_WoutKIdeal (hWoutKIdeal := hWoutKIdeal)
    ∧ quiescent_WoutRIdeal (hWoutRIdeal := hWoutRIdeal)
    ∧ quiescent_GdgK (hGdgK := hGdgK)
    ∧ quiescent_GdgKIdeal (hGdgKIdeal := hGdgKIdeal)
    ∧ quiescent_GdgKIdeal_pre_finite_gate (hGdgKIdeal := hGdgKIdeal) (hPre_finite_gate := hPre_finite_gate)
    ∧ quiescent_GdgRIdeal (hGdgRIdeal := hGdgRIdeal)
    ∧ quiescent_GdgRIdeal_pre_finite_gate (hGdgRIdeal := hGdgRIdeal) (hPre_finite_gate := hPre_finite_gate)
    ∧ quiescent_GprepK (hGprepK := hGprepK)
    ∧ quiescent_GprepKIdeal (hGprepKIdeal := hGprepKIdeal)
    ∧ quiescent_GprepRIdeal (hGprepRIdeal := hGprepRIdeal)
    ∧ quiescent_FactK (hFactK := hFactK)
    ∧ quiescent_FactKIdeal (hFactKIdeal := hFactKIdeal)
    ∧ quiescent_FactRIdeal (hFactRIdeal := hFactRIdeal)
    ∧ quiescent_GdnK (hGdnK := hGdnK)
    ∧ quiescent_GdnKIdeal (hGdnKIdeal := hGdnKIdeal)
    ∧ quiescent_DybK (hDybK := hDybK)
    ∧ quiescent_DybKIdeal (hDybKIdeal := hDybKIdeal)
    ∧ quiescent_DybKIdeal_pre_finite_dybin (hDybKIdeal := hDybKIdeal) (hPre_finite_dybin := hPre_finite_dybin)
    ∧ quiescent_DybRIdeal (hDybRIdeal := hDybRIdeal)
    ∧ quiescent_DybRIdeal_pre_finite_dybin (hDybRIdeal := hDybRIdeal) (hPre_finite_dybin := hPre_finite_dybin)
    ∧ quiescent_DyaK (hDyaK := hDyaK)
    ∧ quiescent_DyaKIdeal (hDyaKIdeal := hDyaKIdeal)
    ∧ quiescent_DyaKIdeal_pre_finite_dyain (hDyaKIdeal := hDyaKIdeal) (hPre_finite_dyain := hPre_finite_dyain)
    ∧ quiescent_DyaRIdeal (hDyaRIdeal := hDyaRIdeal)
    ∧ quiescent_DyaRIdeal_pre_finite_dyain (hDyaRIdeal := hDyaRIdeal) (hPre_finite_dyain := hPre_finite_dyain)
    ∧ quiescent_RprojK (hRprojK := hRprojK)
    ∧ quiescent_RprojKIdeal (hRprojKIdeal := hRprojKIdeal)
    ∧ quiescent_RprojKIdeal_pre_finite_rproj (hRprojKIdeal := hRprojKIdeal) (hPre_finite_rproj := hPre_finite_rproj)
    ∧ quiescent_RprojRIdeal (hRprojRIdeal := hRprojRIdeal)
    ∧ quiescent_RprojRIdeal_pre_finite_rproj (hRprojRIdeal := hRprojRIdeal) (hPre_finite_rproj := hPre_finite_rproj)
    ∧ quiescent_DprojK (hDprojK := hDprojK)
    ∧ quiescent_DprojKIdeal (hDprojKIdeal := hDprojKIdeal)
    ∧ quiescent_DprojKIdeal_pre_finite_dproj (hDprojKIdeal := hDprojKIdeal) (hPre_finite_dproj := hPre_finite_dproj)
    ∧ quiescent_DprojRIdeal (hDprojRIdeal := hDprojRIdeal)
    ∧ quiescent_DprojRIdeal_pre_finite_dproj (hDprojRIdeal := hDprojRIdeal) (hPre_finite_dproj := hPre_finite_dproj)
    ∧ quiescent_RmsK (hRmsK := hRmsK)
    ∧ quiescent_RmsKIdeal (hRmsKIdeal := hRmsKIdeal)
    ∧ quiescent_RmsRIdeal (hRmsRIdeal := hRmsRIdeal)
    ∧ quiescent_BetaK (hBetaK := hBetaK)
    ∧ quiescent_BetaKIdeal (hBetaKIdeal := hBetaKIdeal)
    ∧ quiescent_BetaRIdeal (hBetaRIdeal := hBetaRIdeal)
    ∧ quiescent_PrepK (hPrepK := hPrepK)
    ∧ quiescent_PrepKIdeal (hPrepKIdeal := hPrepKIdeal)
    ∧ quiescent_PrepKIdeal_pre_finite_prep (hPrepKIdeal := hPrepKIdeal) (hPre_finite_prep := hPre_finite_prep)
    ∧ quiescent_PrepRIdeal (hPrepRIdeal := hPrepRIdeal)
    ∧ quiescent_PrepRIdeal_pre_finite_prep (hPrepRIdeal := hPrepRIdeal) (hPre_finite_prep := hPre_finite_prep)
    ∧ preserves_Kernel_KernelIdeal
    ∧ algebraic_KernelIdeal_ReferenceIdeal (hKernelIdeal := hKernelIdeal) (hReferenceIdeal := hReferenceIdeal)
    ∧ preserves_DactK_DactKIdeal
    ∧ algebraic_DactKIdeal_DactRIdeal (hDactKIdeal := hDactKIdeal) (hDactRIdeal := hDactRIdeal)
    ∧ preserves_GupK_GupKIdeal
    ∧ algebraic_GupKIdeal_GupRIdeal (hGupKIdeal := hGupKIdeal) (hGupRIdeal := hGupRIdeal)
    ∧ preserves_DuTwoK_DuTwoKIdeal
    ∧ algebraic_DuTwoKIdeal_DuTwoRIdeal (hDuTwoKIdeal := hDuTwoKIdeal) (hDuTwoRIdeal := hDuTwoRIdeal)
    ∧ preserves_GdownK_GdownKIdeal
    ∧ algebraic_GdownKIdeal_GdownRIdeal (hGdownKIdeal := hGdownKIdeal) (hGdownRIdeal := hGdownRIdeal)
    ∧ preserves_GoutK_GoutKIdeal
    ∧ algebraic_GoutKIdeal_GoutRIdeal (hGoutKIdeal := hGoutKIdeal) (hGoutRIdeal := hGoutRIdeal)
    ∧ preserves_GraK_GraKIdeal
    ∧ algebraic_GraKIdeal_GraRIdeal (hGraKIdeal := hGraKIdeal) (hGraRIdeal := hGraRIdeal)
    ∧ preserves_UpK_UpKIdeal
    ∧ algebraic_UpKIdeal_UpRIdeal (hUpKIdeal := hUpKIdeal) (hUpRIdeal := hUpRIdeal)
    ∧ preserves_InRwkvK_InRwkvKIdeal
    ∧ algebraic_InRwkvKIdeal_InRwkvRIdeal (hInRwkvKIdeal := hInRwkvKIdeal) (hInRwkvRIdeal := hInRwkvRIdeal)
    ∧ preserves_InQkvK_InQkvKIdeal
    ∧ algebraic_InQkvKIdeal_InQkvRIdeal (hInQkvKIdeal := hInQkvKIdeal) (hInQkvRIdeal := hInQkvRIdeal)
    ∧ preserves_InZzK_InZzKIdeal
    ∧ algebraic_InZzKIdeal_InZzRIdeal (hInZzKIdeal := hInZzKIdeal) (hInZzRIdeal := hInZzRIdeal)
    ∧ preserves_InGatesK_InGatesKIdeal
    ∧ algebraic_InGatesKIdeal_InGatesRIdeal (hInGatesKIdeal := hInGatesKIdeal) (hInGatesRIdeal := hInGatesRIdeal)
    ∧ preserves_InAbK_InAbKIdeal
    ∧ algebraic_InAbKIdeal_InAbRIdeal (hInAbKIdeal := hInAbKIdeal) (hInAbRIdeal := hInAbRIdeal)
    ∧ preserves_DuK_DuKIdeal
    ∧ algebraic_DuKIdeal_DuRIdeal (hDuKIdeal := hDuKIdeal) (hDuRIdeal := hDuRIdeal)
    ∧ preserves_GwaK_GwaKIdeal
    ∧ algebraic_GwaKIdeal_GwaRIdeal (hGwaKIdeal := hGwaKIdeal) (hGwaRIdeal := hGwaRIdeal)
    ∧ preserves_GwbK_GwbKIdeal
    ∧ algebraic_GwbKIdeal_GwbRIdeal (hGwbKIdeal := hGwbKIdeal) (hGwbRIdeal := hGwbRIdeal)
    ∧ preserves_Norm1K_Norm1KIdeal
    ∧ algebraic_Norm1KIdeal_Norm1RIdeal (hNorm1KIdeal := hNorm1KIdeal) (hNorm1RIdeal := hNorm1RIdeal)
    ∧ preserves_AdWinK_AdWinKIdeal
    ∧ algebraic_AdWinKIdeal_AdWinRIdeal (hAdWinKIdeal := hAdWinKIdeal) (hAdWinRIdeal := hAdWinRIdeal)
    ∧ preserves_AdProjK_AdProjKIdeal
    ∧ algebraic_AdProjKIdeal_AdProjRIdeal (hAdProjKIdeal := hAdProjKIdeal) (hAdProjRIdeal := hAdProjRIdeal)
    ∧ preserves_AdOutK_AdOutKIdeal
    ∧ algebraic_AdOutKIdeal_AdOutRIdeal (hAdOutKIdeal := hAdOutKIdeal) (hAdOutRIdeal := hAdOutRIdeal)
    ∧ preserves_AdUpK_AdUpKIdeal
    ∧ algebraic_AdUpKIdeal_AdUpRIdeal (hAdUpKIdeal := hAdUpKIdeal) (hAdUpRIdeal := hAdUpRIdeal)
    ∧ preserves_AdDownK_AdDownKIdeal
    ∧ algebraic_AdDownKIdeal_AdDownRIdeal (hAdDownKIdeal := hAdDownKIdeal) (hAdDownRIdeal := hAdDownRIdeal)
    ∧ preserves_AdSmallK_AdSmallKIdeal
    ∧ algebraic_AdSmallKIdeal_AdSmallRIdeal (hAdSmallKIdeal := hAdSmallKIdeal) (hAdSmallRIdeal := hAdSmallRIdeal)
    ∧ preserves_FdownK_FdownKIdeal
    ∧ algebraic_FdownKIdeal_FdownRIdeal (hFdownKIdeal := hFdownKIdeal) (hFdownRIdeal := hFdownRIdeal)
    ∧ preserves_WoutK_WoutKIdeal
    ∧ algebraic_WoutKIdeal_WoutRIdeal (hWoutKIdeal := hWoutKIdeal) (hWoutRIdeal := hWoutRIdeal)
    ∧ preserves_GdgK_GdgKIdeal
    ∧ algebraic_GdgKIdeal_GdgRIdeal_pre_finite_gate (hGdgKIdeal := hGdgKIdeal) (hGdgRIdeal := hGdgRIdeal) (hPre_finite_gate := hPre_finite_gate)
    ∧ preserves_GprepK_GprepKIdeal
    ∧ algebraic_GprepKIdeal_GprepRIdeal (hGprepKIdeal := hGprepKIdeal) (hGprepRIdeal := hGprepRIdeal)
    ∧ preserves_FactK_FactKIdeal
    ∧ algebraic_FactKIdeal_FactRIdeal (hFactKIdeal := hFactKIdeal) (hFactRIdeal := hFactRIdeal)
    ∧ preserves_GdnK_GdnKIdeal
    ∧ preserves_DybK_DybKIdeal
    ∧ algebraic_DybKIdeal_DybRIdeal_pre_finite_dybin (hDybKIdeal := hDybKIdeal) (hDybRIdeal := hDybRIdeal) (hPre_finite_dybin := hPre_finite_dybin)
    ∧ preserves_DyaK_DyaKIdeal
    ∧ algebraic_DyaKIdeal_DyaRIdeal_pre_finite_dyain (hDyaKIdeal := hDyaKIdeal) (hDyaRIdeal := hDyaRIdeal) (hPre_finite_dyain := hPre_finite_dyain)
    ∧ preserves_RprojK_RprojKIdeal
    ∧ algebraic_RprojKIdeal_RprojRIdeal_pre_finite_rproj (hRprojKIdeal := hRprojKIdeal) (hRprojRIdeal := hRprojRIdeal) (hPre_finite_rproj := hPre_finite_rproj)
    ∧ preserves_DprojK_DprojKIdeal
    ∧ algebraic_DprojKIdeal_DprojRIdeal_pre_finite_dproj (hDprojKIdeal := hDprojKIdeal) (hDprojRIdeal := hDprojRIdeal) (hPre_finite_dproj := hPre_finite_dproj)
    ∧ preserves_RmsK_RmsKIdeal
    ∧ algebraic_RmsKIdeal_RmsRIdeal (hRmsKIdeal := hRmsKIdeal) (hRmsRIdeal := hRmsRIdeal)
    ∧ preserves_BetaK_BetaKIdeal
    ∧ algebraic_BetaKIdeal_BetaRIdeal (hBetaKIdeal := hBetaKIdeal) (hBetaRIdeal := hBetaRIdeal)
    ∧ preserves_PrepK_PrepKIdeal
    ∧ algebraic_PrepKIdeal_PrepRIdeal_pre_finite_prep (hPrepKIdeal := hPrepKIdeal) (hPrepRIdeal := hPrepRIdeal) (hPre_finite_prep := hPre_finite_prep)
-- ==== Pre_finite_dproj.lean ====
abbrev S4096x512 : Shape := ⟨2, ![4096, 512]⟩
abbrev S128 : Shape := ⟨1, ![128]⟩
abbrev S512x1024 : Shape := ⟨2, ![512, 1024]⟩
abbrev S4096x2048 : Shape := ⟨2, ![4096, 2048]⟩
abbrev S4096x1024 : Shape := ⟨2, ![4096, 1024]⟩
abbrev S_ : Shape := ⟨0, ![]⟩

class Facts : Prop where
  bcast_S_S4096x512 : S_.BroadcastsInDim S4096x512 (![] : Fin 0 → Fin S4096x512.rank)

variable [Facts]

def fn {F : FTy → Type} [FloatOps F] (main_arg0 : FVec F S4096x512 .f32) (main_arg1 : FVec F S4096x512 .f32) (main_arg2 : FVec F S128 .f32) (main_arg3 : FVec F S512x1024 .bf16) (main_arg4 : FVec F S4096x2048 .f32) (main_arg5 : FVec F S4096x1024 .f32) : IVec S4096x512 1 :=
  let main_v0 : FVec F S4096x512 .f32 := Host.absf main_arg0
  let main_cst : FVec F S_ .f32 := constant S_ .f32 0x7F7FFFFF#32
  let main_v1 : FVec F S4096x512 .f32 := broadcastInDim S4096x512 ![] bcast_S_S4096x512 main_cst
  let main_v2 : IVec S4096x512 1 := cmpf .ole main_v0 main_v1
  main_v2
-- ==== Pre_finite_dyain.lean ====
abbrev S4096x1024 : Shape := ⟨2, ![4096, 1024]⟩
abbrev S512x1024 : Shape := ⟨2, ![512, 1024]⟩
abbrev S4096x512 : Shape := ⟨2, ![4096, 512]⟩
abbrev S512 : Shape := ⟨1, ![512]⟩
abbrev S8x64 : Shape := ⟨2, ![8, 64]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S512x1024 : S_.BroadcastsInDim S512x1024 (![] : Fin 0 → Fin S512x1024.rank)
  bcast_S_S4096x512 : S_.BroadcastsInDim S4096x512 (![] : Fin 0 → Fin S4096x512.rank)
  bcast_S_S512 : S_.BroadcastsInDim S512 (![] : Fin 0 → Fin S512.rank)
  bcast_S_S8x64 : S_.BroadcastsInDim S8x64 (![] : Fin 0 → Fin S8x64.rank)

variable [Facts]

def fn_part1 {F : FTy → Type} [FloatOps F] (main_arg6 : FVec F S4096x512 .f32) (main_arg7 : FVec F S512 .f32) (main_arg8 : FVec F S512 .f32) (main_arg9 : FVec F S8x64 .f32) (main_v3 : IVec S4096x1024 1) (main_v7 : IVec S512x1024 1) (main_v10 : IVec S4096x512 1) (main_v13 : IVec S4096x512 1) (main_v16 : IVec S4096x512 1) (main_v17 : FVec F S4096x512 .f32) (main_cst_4 : FVec F S_ .f32) : IVec S4096x1024 1 × IVec S512x1024 1 × IVec S4096x512 1 × IVec S4096x512 1 × IVec S4096x512 1 × IVec S4096x512 1 × IVec S4096x512 1 × IVec S512 1 × IVec S512 1 × IVec S8x64 1 :=
  let main_v18 : FVec F S4096x512 .f32 := broadcastInDim S4096x512 ![] bcast_S_S4096x512 main_cst_4
  let main_v19 : IVec S4096x512 1 := cmpf .ole main_v17 main_v18
  let main_v20 : FVec F S4096x512 .f32 := Host.absf main_arg6
  let main_cst_5 : FVec F S_ .f32 := constant S_ .f32 0x7F7FFFFF#32
  let main_v21 : FVec F S4096x512 .f32 := broadcastInDim S4096x512 ![] bcast_S_S4096x512 main_cst_5
  let main_v22 : IVec S4096x512 1 := cmpf .ole main_v20 main_v21
  let main_v23 : FVec F S512 .f32 := Host.absf main_arg7
  let main_cst_6 : FVec F S_ .f32 := constant S_ .f32 0x7F7FFFFF#32
  let main_v24 : FVec F S512 .f32 := broadcastInDim S512 ![] bcast_S_S512 main_cst_6
  let main_v25 : IVec S512 1 := cmpf .ole main_v23 main_v24
  let main_v26 : FVec F S512 .f32 := Host.absf main_arg8
  let main_cst_7 : FVec F S_ .f32 := constant S_ .f32 0x7F7FFFFF#32
  let main_v27 : FVec F S512 .f32 := broadcastInDim S512 ![] bcast_S_S512 main_cst_7
  let main_v28 : IVec S512 1 := cmpf .ole main_v26 main_v27
  let main_v29 : FVec F S8x64 .f32 := Host.absf main_arg9
  let main_cst_8 : FVec F S_ .f32 := constant S_ .f32 0x7F7FFFFF#32
  let main_v30 : FVec F S8x64 .f32 := broadcastInDim S8x64 ![] bcast_S_S8x64 main_cst_8
  let main_v31 : IVec S8x64 1 := cmpf .ole main_v29 main_v30
  (main_v3, main_v7, main_v10, main_v13, main_v16, main_v19, main_v22, main_v25, main_v28, main_v31)

def fn {F : FTy → Type} [FloatOps F] (main_arg0 : FVec F S4096x1024 .bf16) (main_arg1 : FVec F S512x1024 .bf16) (main_arg2 : FVec F S4096x512 .f32) (main_arg3 : FVec F S4096x512 .f32) (main_arg4 : FVec F S4096x512 .f32) (main_arg5 : FVec F S4096x512 .f32) (main_arg6 : FVec F S4096x512 .f32) (main_arg7 : FVec F S512 .f32) (main_arg8 : FVec F S512 .f32) (main_arg9 : FVec F S8x64 .f32) : IVec S4096x1024 1 × IVec S512x1024 1 × IVec S4096x512 1 × IVec S4096x512 1 × IVec S4096x512 1 × IVec S4096x512 1 × IVec S4096x512 1 × IVec S512 1 × IVec S512 1 × IVec S8x64 1 :=
  let main_v0 : FVec F S4096x1024 .f32 := (extf .f32 · bitsLt_bf16_f32) main_arg0
  let main_v1 : FVec F S4096x1024 .f32 := Host.absf main_v0
  let main_cst : FVec F S_ .f32 := constant S_ .f32 0x7F7FFFFF#32
  let main_v2 : FVec F S4096x1024 .f32 := broadcastInDim S4096x1024 ![] bcast_S_S4096x1024 main_cst
  let main_v3 : IVec S4096x1024 1 := cmpf .ole main_v1 main_v2
  let main_v4 : FVec F S512x1024 .f32 := (extf .f32 · bitsLt_bf16_f32) main_arg1
  let main_v5 : FVec F S512x1024 .f32 := Host.absf main_v4
  let main_cst_0 : FVec F S_ .f32 := constant S_ .f32 0x7F7FFFFF#32
  let main_v6 : FVec F S512x1024 .f32 := broadcastInDim S512x1024 ![] bcast_S_S512x1024 main_cst_0
  let main_v7 : IVec S512x1024 1 := cmpf .ole main_v5 main_v6
  let main_v8 : FVec F S4096x512 .f32 := Host.absf main_arg2
  let main_cst_1 : FVec F S_ .f32 := constant S_ .f32 0x7F7FFFFF#32
  let main_v9 : FVec F S4096x512 .f32 := broadcastInDim S4096x512 ![] bcast_S_S4096x512 main_cst_1
  let main_v10 : IVec S4096x512 1 := cmpf .ole main_v8 main_v9
  let main_v11 : FVec F S4096x512 .f32 := Host.absf main_arg3
  let main_cst_2 : FVec F S_ .f32 := constant S_ .f32 0x7F7FFFFF#32
  let main_v12 : FVec F S4096x512 .f32 := broadcastInDim S4096x512 ![] bcast_S_S4096x512 main_cst_2
  let main_v13 : IVec S4096x512 1 := cmpf .ole main_v11 main_v12
  let main_v14 : FVec F S4096x512 .f32 := Host.absf main_arg4
  let main_cst_3 : FVec F S_ .f32 := constant S_ .f32 0x7F7FFFFF#32
  let main_v15 : FVec F S4096x512 .f32 := broadcastInDim S4096x512 ![] bcast_S_S4096x512 main_cst_3
  let main_v16 : IVec S4096x512 1 := cmpf .ole main_v14 main_v15
  let main_v17 : FVec F S4096x512 .f32 := Host.absf main_arg5
  let main_cst_4 : FVec F S_ .f32 := constant S_ .f32 0x7F7FFFFF#32
  fn_part1 (F := F) main_arg6 main_arg7 main_arg8 main_arg9 main_v3 main_v7 main_v10 main_v13 main_v16 main_v17 main_cst_4
-- ==== Pre_finite_dybin.lean ====
abbrev S4096x1024 : Shape := ⟨2, ![4096, 1024]⟩
abbrev S512x1024 : Shape := ⟨2, ![512, 1024]⟩
abbrev S4096x512 : Shape := ⟨2, ![4096, 512]⟩
abbrev S128 : Shape := ⟨1, ![128]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S512x1024 : S_.BroadcastsInDim S512x1024 (![] : Fin 0 → Fin S512x1024.rank)
  bcast_S_S4096x512 : S_.BroadcastsInDim S4096x512 (![] : Fin 0 → Fin S4096x512.rank)
  bcast_S_S128 : S_.BroadcastsInDim S128 (![] : Fin 0 → Fin S128.rank)

variable [Facts]

def fn {F : FTy → Type} [FloatOps F] (main_arg0 : FVec F S4096x1024 .bf16) (main_arg1 : FVec F S512x1024 .bf16) (main_arg2 : FVec F S4096x512 .f32) (main_arg3 : FVec F S4096x512 .f32) (main_arg4 : FVec F S128 .f32) : IVec S4096x1024 1 × IVec S512x1024 1 × IVec S4096x512 1 × IVec S4096x512 1 × IVec S128 1 :=
  let main_v0 : FVec F S4096x1024 .f32 := (extf .f32 · bitsLt_bf16_f32) main_arg0
  let main_v1 : FVec F S4096x1024 .f32 := Host.absf main_v0
  let main_cst : FVec F S_ .f32 := constant S_ .f32 0x7F7FFFFF#32
  let main_v2 : FVec F S4096x1024 .f32 := broadcastInDim S4096x1024 ![] bcast_S_S4096x1024 main_cst
  let main_v3 : IVec S4096x1024 1 := cmpf .ole main_v1 main_v2
  let main_v4 : FVec F S512x1024 .f32 := (extf .f32 · bitsLt_bf16_f32) main_arg1
  let main_v5 : FVec F S512x1024 .f32 := Host.absf main_v4
  let main_cst_0 : FVec F S_ .f32 := constant S_ .f32 0x7F7FFFFF#32
  let main_v6 : FVec F S512x1024 .f32 := broadcastInDim S512x1024 ![] bcast_S_S512x1024 main_cst_0
  let main_v7 : IVec S512x1024 1 := cmpf .ole main_v5 main_v6
  let main_v8 : FVec F S4096x512 .f32 := Host.absf main_arg2
  let main_cst_1 : FVec F S_ .f32 := constant S_ .f32 0x7F7FFFFF#32
  let main_v9 : FVec F S4096x512 .f32 := broadcastInDim S4096x512 ![] bcast_S_S4096x512 main_cst_1
  let main_v10 : IVec S4096x512 1 := cmpf .ole main_v8 main_v9
  let main_v11 : FVec F S4096x512 .f32 := Host.absf main_arg3
  let main_cst_2 : FVec F S_ .f32 := constant S_ .f32 0x7F7FFFFF#32
  let main_v12 : FVec F S4096x512 .f32 := broadcastInDim S4096x512 ![] bcast_S_S4096x512 main_cst_2
  let main_v13 : IVec S4096x512 1 := cmpf .ole main_v11 main_v12
  let main_v14 : FVec F S128 .f32 := Host.absf main_arg4
  let main_cst_3 : FVec F S_ .f32 := constant S_ .f32 0x7F7FFFFF#32
  let main_v15 : FVec F S128 .f32 := broadcastInDim S128 ![] bcast_S_S128 main_cst_3
  let main_v16 : IVec S128 1 := cmpf .ole main_v14 main_v15
  (main_v3, main_v7, main_v10, main_v13, main_v16)
-- ==== Pre_finite_gate.lean ====
abbrev S4096x256 : Shape := ⟨2, ![4096, 256]⟩
abbrev S4 : Shape := ⟨1, ![4]⟩
abbrev S_ : Shape := ⟨0, ![]⟩

class Facts : Prop where
  bcast_S_S4096x256 : S_.BroadcastsInDim S4096x256 (![] : Fin 0 → Fin S4096x256.rank)
  bcast_S_S4 : S_.BroadcastsInDim S4 (![] : Fin 0 → Fin S4.rank)

variable [Facts]

def fn {F : FTy → Type} [FloatOps F] (main_arg0 : FVec F S4096x256 .f32) (main_arg1 : FVec F S4 .f32) (main_arg2 : FVec F S4 .f32) (main_arg3 : FVec F S4096x256 .f32) : IVec S4096x256 1 × IVec S4 1 × IVec S4 1 × IVec S4096x256 1 :=
  let main_v0 : FVec F S4096x256 .f32 := Host.absf main_arg0
  let main_cst : FVec F S_ .f32 := constant S_ .f32 0x7F7FFFFF#32
  let main_v1 : FVec F S4096x256 .f32 := broadcastInDim S4096x256 ![] bcast_S_S4096x256 main_cst
  let main_v2 : IVec S4096x256 1 := cmpf .ole main_v0 main_v1
  let main_v3 : FVec F S4 .f32 := Host.absf main_arg1
  let main_cst_0 : FVec F S_ .f32 := constant S_ .f32 0x7F7FFFFF#32
  let main_v4 : FVec F S4 .f32 := broadcastInDim S4 ![] bcast_S_S4 main_cst_0
  let main_v5 : IVec S4 1 := cmpf .ole main_v3 main_v4
  let main_v6 : FVec F S4 .f32 := Host.absf main_arg2
  let main_cst_1 : FVec F S_ .f32 := constant S_ .f32 0x7F7FFFFF#32
  let main_v7 : FVec F S4 .f32 := broadcastInDim S4 ![] bcast_S_S4 main_cst_1
  let main_v8 : IVec S4 1 := cmpf .ole main_v6 main_v7
  let main_v9 : FVec F S4096x256 .f32 := Host.absf main_arg3
  let main_cst_2 : FVec F S_ .f32 := constant S_ .f32 0x7F7FFFFF#32
  let main_v10 : FVec F S4096x256 .f32 := broadcastInDim S4096x256 ![] bcast_S_S4096x256 main_cst_2
  let main_v11 : IVec S4096x256 1 := cmpf .ole main_v9 main_v10
  (main_v2, main_v5, main_v8, main_v11)
-- ==== Pre_finite_prep.lean ====
abbrev S4096x1792 : Shape := ⟨2, ![4096, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S_ : Shape := ⟨0, ![]⟩

class Facts : Prop where
  bcast_S_S4096x1792 : S_.BroadcastsInDim S4096x1792 (![] : Fin 0 → Fin S4096x1792.rank)
  bcast_S_S1792 : S_.BroadcastsInDim S1792 (![] : Fin 0 → Fin S1792.rank)
  bcast_S_S512 : S_.BroadcastsInDim S512 (![] : Fin 0 → Fin S512.rank)

variable [Facts]

def fn {F : FTy → Type} [FloatOps F] (main_arg0 : FVec F S4096x1792 .f32) (main_arg1 : FVec F S1792 .f32) (main_arg2 : FVec F S512 .f32) (main_arg3 : FVec F S64x512 .f32) (main_arg4 : FVec F S512 .f32) (main_arg5 : FVec F S64x512 .f32) (main_arg6 : FVec F S128x512 .f32) (main_arg7 : FVec F S512 .f32) (main_arg8 : FVec F S512 .f32) : IVec S4096x1792 1 × IVec S1792 1 × IVec S512 1 :=
  let main_v0 : FVec F S4096x1792 .f32 := Host.absf main_arg0
  let main_cst : FVec F S_ .f32 := constant S_ .f32 0x7F7FFFFF#32
  let main_v1 : FVec F S4096x1792 .f32 := broadcastInDim S4096x1792 ![] bcast_S_S4096x1792 main_cst
  let main_v2 : IVec S4096x1792 1 := cmpf .ole main_v0 main_v1
  let main_v3 : FVec F S1792 .f32 := Host.absf main_arg1
  let main_cst_0 : FVec F S_ .f32 := constant S_ .f32 0x7F7FFFFF#32
  let main_v4 : FVec F S1792 .f32 := broadcastInDim S1792 ![] bcast_S_S1792 main_cst_0
  let main_v5 : IVec S1792 1 := cmpf .ole main_v3 main_v4
  let main_v6 : FVec F S512 .f32 := Host.absf main_arg7
  let main_cst_1 : FVec F S_ .f32 := constant S_ .f32 0x7F7FFFFF#32
  let main_v7 : FVec F S512 .f32 := broadcastInDim S512 ![] bcast_S_S512 main_cst_1
  let main_v8 : IVec S512 1 := cmpf .ole main_v6 main_v7
  (main_v2, main_v5, main_v8)
-- ==== Pre_finite_rproj.lean ====
abbrev S4096x512 : Shape := ⟨2, ![4096, 512]⟩
abbrev S512 : Shape := ⟨1, ![512]⟩
abbrev S8x64 : Shape := ⟨2, ![8, 64]⟩
abbrev S512x1024 : Shape := ⟨2, ![512, 1024]⟩
abbrev S_ : Shape := ⟨0, ![]⟩

class Facts : Prop where
  bcast_S_S4096x512 : S_.BroadcastsInDim S4096x512 (![] : Fin 0 → Fin S4096x512.rank)
  bcast_S_S8x64 : S_.BroadcastsInDim S8x64 (![] : Fin 0 → Fin S8x64.rank)

variable [Facts]

def fn {F : FTy → Type} [FloatOps F] (main_arg0 : FVec F S4096x512 .f32) (main_arg1 : FVec F S4096x512 .f32) (main_arg2 : FVec F S4096x512 .f32) (main_arg3 : FVec F S4096x512 .f32) (main_arg4 : FVec F S4096x512 .f32) (main_arg5 : FVec F S512 .f32) (main_arg6 : FVec F S512 .f32) (main_arg7 : FVec F S8x64 .f32) (main_arg8 : FVec F S512x1024 .bf16) : IVec S4096x512 1 × IVec S4096x512 1 × IVec S4096x512 1 × IVec S8x64 1 :=
  let main_v0 : FVec F S4096x512 .f32 := Host.absf main_arg0
  let main_cst : FVec F S_ .f32 := constant S_ .f32 0x7F7FFFFF#32
  let main_v1 : FVec F S4096x512 .f32 := broadcastInDim S4096x512 ![] bcast_S_S4096x512 main_cst
  let main_v2 : IVec S4096x512 1 := cmpf .ole main_v0 main_v1
  let main_v3 : FVec F S4096x512 .f32 := Host.absf main_arg1
  let main_cst_0 : FVec F S_ .f32 := constant S_ .f32 0x7F7FFFFF#32
  let main_v4 : FVec F S4096x512 .f32 := broadcastInDim S4096x512 ![] bcast_S_S4096x512 main_cst_0
  let main_v5 : IVec S4096x512 1 := cmpf .ole main_v3 main_v4
  let main_v6 : FVec F S4096x512 .f32 := Host.absf main_arg2
  let main_cst_1 : FVec F S_ .f32 := constant S_ .f32 0x7F7FFFFF#32
  let main_v7 : FVec F S4096x512 .f32 := broadcastInDim S4096x512 ![] bcast_S_S4096x512 main_cst_1
  let main_v8 : IVec S4096x512 1 := cmpf .ole main_v6 main_v7
  let main_v9 : FVec F S8x64 .f32 := Host.absf main_arg7
  let main_cst_2 : FVec F S_ .f32 := constant S_ .f32 0x7F7FFFFF#32
  let main_v10 : FVec F S8x64 .f32 := broadcastInDim S8x64 ![] bcast_S_S8x64 main_cst_2
  let main_v11 : IVec S8x64 1 := cmpf .ole main_v9 main_v10
  (main_v2, main_v5, main_v8, main_v11)
-- ==== Kernel.lean ====
abbrev S4096x1024 : Shape := ⟨2, ![4096, 1024]⟩
abbrev S1024x1024 : Shape := ⟨2, ![1024, 1024]⟩
abbrev S4096x2048 : Shape := ⟨2, ![4096, 2048]⟩
abbrev S512x1024 : Shape := ⟨2, ![512, 1024]⟩

abbrev nBuf : Space → Nat
  | .hbm => 10
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x2048, .f32⟩
  | .hbm, ⟨3, _⟩ => ⟨S4096x1024, .f32⟩
  | .hbm, ⟨4, _⟩ => ⟨S4096x1024, .f32⟩
  | .hbm, ⟨5, _⟩ => ⟨S1024x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4096x1024 : Shape := ⟨2, ![4096, 1024]⟩
abbrev S1024x1024 : Shape := ⟨2, ![1024, 1024]⟩
abbrev S4096x2048 : Shape := ⟨2, ![4096, 2048]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x2048, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S1024x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .bf16⟩
  | .hbm, ⟨44, _⟩ => ⟨S4096x1024, .bf16⟩
  | .hbm, ⟨45, _⟩ => ⟨S4096x1024, .bf16⟩
  | .hbm, ⟨46, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== DactK.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactRIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GupK.lean ====
abbrev S4096x1024 : Shape := ⟨2, ![4096, 1024]⟩
abbrev S4096x5632 : Shape := ⟨2, ![4096, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GupRIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x1408, .f32⟩
  | .hbm, ⟨10, _⟩ => ⟨S1024x1408, .f32⟩
  | .hbm, ⟨11, _⟩ => ⟨S1024x1408, .f32⟩
  | .hbm, ⟨12, _⟩ => ⟨S1024x1408, .f32⟩
  | .hbm, ⟨13, _⟩ => ⟨S1x1024x1408, .f32⟩
  | .hbm, ⟨14, _⟩ => ⟨S1x1024x1408, .f32⟩
  | .hbm, ⟨15, _⟩ => ⟨S1x1024x1408, .f32⟩
  | .hbm, ⟨16, _⟩ => ⟨S1x1024x1408, .f32⟩
  | .hbm, ⟨17, _⟩ => ⟨S4x1024x1408, .f32⟩
  | .hbm, ⟨18, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== DuTwoK.lean ====
abbrev S4096x5632 : Shape := ⟨2, ![4096, 5632]⟩
abbrev S1024x5632 : Shape := ⟨2, ![1024, 5632]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DuTwoRIdeal.lean ====
abbrev S4096x5632 : Shape := ⟨2, ![4096, 5632]⟩
abbrev S1024x5632 : Shape := ⟨2, ![1024, 5632]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S_, .f32⟩
  | .hbm, ⟨3, _⟩ => ⟨S4096x1024, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GdownK.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .f32⟩
  | .local _ .vmem, ⟨3, _⟩ => ⟨S2048x512, .f32⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GdownRIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GoutK.lean ====
abbrev S4096x1024 : Shape := ⟨2, ![4096, 1024]⟩
abbrev S1024x1024 : Shape := ⟨2, ![1024, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GoutRIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GraK.lean ====
abbrev S4096x512 : Shape := ⟨2, ![4096, 512]⟩
abbrev S4096x1024 : Shape := ⟨2, ![4096, 1024]⟩
abbrev S4x512x256 : Shape := ⟨3, ![4, 512, 256]⟩
abbrev S2048x512 : Shape := ⟨2, ![2048, 512]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4x512x256, .bf16⟩
  | .local _ .vmem, ⟨0, _⟩ => ⟨S2048x512, .bf16⟩
  | .local _ .vmem, ⟨1, _⟩ => ⟨S2048x512, .bf16⟩
  | .local _ .vmem, ⟨2, _⟩ => ⟨S2048x256, .bf16⟩
  | .local _ .vmem, ⟨3, _⟩ => ⟨S2048x256, .bf16⟩
  | .local _ .vmem, ⟨4, _⟩ => ⟨S1x512x256, .bf16⟩
  | .local _ .vmem, ⟨5, _⟩ => ⟨S1x512x256, .bf16⟩
  | .local _ .vmem, ⟨6, _⟩ => ⟨S512x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GraRIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩
abbrev S512x256 : Shape := ⟨2, ![512, 256]⟩
abbrev S1x512x256 : Shape := ⟨3, ![1, 512, 256]⟩
abbrev S4x512x256 : Shape := ⟨3, ![4, 512, 256]⟩

abbrev nBuf : Space → Nat
  | .hbm => 19
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x256, .f32⟩
  | .hbm, ⟨10, _⟩ => ⟨S512x256, .f32⟩
  | .hbm, ⟨11, _⟩ => ⟨S512x256, .f32⟩
  | .hbm, ⟨12, _⟩ => ⟨S512x256, .f32⟩
  | .hbm, ⟨13, _⟩ => ⟨S1x512x256, .f32⟩
  | .hbm, ⟨14, _⟩ => ⟨S1x512x256, .f32⟩
  | .hbm, ⟨15, _⟩ => ⟨S1x512x256, .f32⟩
  | .hbm, ⟨16, _⟩ => ⟨S1x512x256, .f32⟩
  | .hbm, ⟨17, _⟩ => ⟨S4x512x256, .f32⟩
  | .hbm, ⟨18, _⟩ => ⟨S4x512x256, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== UpK.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InRwkvK.lean ====
abbrev S4096x1024 : Shape := ⟨2, ![4096, 1024]⟩
abbrev S1024x6144 : Shape := ⟨2, ![1024, 6144]⟩
abbrev S1024x1792 : Shape := ⟨2, ![1024, 1792]⟩
abbrev S4096x1792 : Shape := ⟨2, ![4096, 1792]⟩
abbrev S1024x1024 : Shape := ⟨2, ![1024, 1024]⟩
abbrev S1024x896 : Shape := ⟨2, ![1024, 896]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S1024x1792, .bf16⟩
  | .hbm, ⟨3, _⟩ => ⟨S4096x1792, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .f32⟩
  | .local _ .vmem, ⟨5, _⟩ => ⟨S1024x896, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRwkvRIdeal.lean ====
abbrev S4096x1024 : Shape := ⟨2, ![4096, 1024]⟩
abbrev S1024x6144 : Shape := ⟨2, ![1024, 6144]⟩
abbrev S4096x6144 : Shape := ⟨2, ![4096, 6144]⟩
abbrev S4096x1792 : Shape := ⟨2, ![4096, 1792]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x1024, .f32⟩
  | .hbm, ⟨3, _⟩ => ⟨S1024x6144, .f32⟩
  | .hbm, ⟨4, _⟩ => ⟨S4096x6144, .f32⟩
  | .hbm, ⟨5, _⟩ => ⟨S4096x1792, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InQkvK.lean ====
abbrev S4096x1024 : Shape := ⟨2, ![4096, 1024]⟩
abbrev S1024x6144 : Shape := ⟨2, ![1024, 6144]⟩
abbrev S1024x1536 : Shape := ⟨2, ![1024, 1536]⟩
abbrev S4096x1536 : Shape := ⟨2, ![4096, 1536]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S1024x1536, .bf16⟩
  | .hbm, ⟨3, _⟩ => ⟨S4096x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .f32⟩
  | .local _ .vmem, ⟨4, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InQkvRIdeal.lean ====
abbrev S4096x1024 : Shape := ⟨2, ![4096, 1024]⟩
abbrev S1024x6144 : Shape := ⟨2, ![1024, 6144]⟩
abbrev S4096x6144 : Shape := ⟨2, ![4096, 6144]⟩
abbrev S4096x1536 : Shape := ⟨2, ![4096, 1536]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x1024, .f32⟩
  | .hbm, ⟨3, _⟩ => ⟨S1024x6144, .f32⟩
  | .hbm, ⟨4, _⟩ => ⟨S4096x6144, .f32⟩
  | .hbm, ⟨5, _⟩ => ⟨S4096x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InZzK.lean ====
abbrev S4096x1024 : Shape := ⟨2, ![4096, 1024]⟩
abbrev S1024x6144 : Shape := ⟨2, ![1024, 6144]⟩
abbrev S1024x512 : Shape := ⟨2, ![1024, 512]⟩
abbrev S4096x512 : Shape := ⟨2, ![4096, 512]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S1024x512, .bf16⟩
  | .hbm, ⟨3, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InZzRIdeal.lean ====
abbrev S4096x1024 : Shape := ⟨2, ![4096, 1024]⟩
abbrev S1024x6144 : Shape := ⟨2, ![1024, 6144]⟩
abbrev S4096x6144 : Shape := ⟨2, ![4096, 6144]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x1024, .f32⟩
  | .hbm, ⟨3, _⟩ => ⟨S1024x6144, .f32⟩
  | .hbm, ⟨4, _⟩ => ⟨S4096x6144, .f32⟩
  | .hbm, ⟨5, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InGatesK.lean ====
abbrev S4096x1024 : Shape := ⟨2, ![4096, 1024]⟩
abbrev S1024x6144 : Shape := ⟨2, ![1024, 6144]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S1024x2048, .bf16⟩
  | .hbm, ⟨3, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGatesRIdeal.lean ====
abbrev S4096x1024 : Shape := ⟨2, ![4096, 1024]⟩
abbrev S1024x6144 : Shape := ⟨2, ![1024, 6144]⟩
abbrev S4096x6144 : Shape := ⟨2, ![4096, 6144]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x1024, .f32⟩
  | .hbm, ⟨3, _⟩ => ⟨S1024x6144, .f32⟩
  | .hbm, ⟨4, _⟩ => ⟨S4096x6144, .f32⟩
  | .hbm, ⟨5, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InAbK.lean ====
abbrev S4096x1024 : Shape := ⟨2, ![4096, 1024]⟩
abbrev S1024x6144 : Shape := ⟨2, ![1024, 6144]⟩
abbrev S1024x256 : Shape := ⟨2, ![1024, 256]⟩
abbrev S4096x256 : Shape := ⟨2, ![4096, 256]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S1024x256, .bf16⟩
  | .hbm, ⟨3, _⟩ => ⟨S4096x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .f32⟩
  | .local _ .vmem, ⟨4, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InAbRIdeal.lean ====
abbrev S4096x1024 : Shape := ⟨2, ![4096, 1024]⟩
abbrev S1024x6144 : Shape := ⟨2, ![1024, 6144]⟩
abbrev S4096x6144 : Shape := ⟨2, ![4096, 6144]⟩
abbrev S4096x256 : Shape := ⟨2, ![4096, 256]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x1024, .f32⟩
  | .hbm, ⟨3, _⟩ => ⟨S1024x6144, .f32⟩
  | .hbm, ⟨4, _⟩ => ⟨S4096x6144, .f32⟩
  | .hbm, ⟨5, _⟩ => ⟨S4096x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DuK.lean ====
abbrev S4096x1792 : Shape := ⟨2, ![4096, 1792]⟩
abbrev S4096x1536 : Shape := ⟨2, ![4096, 1536]⟩
abbrev S4096x512 : Shape := ⟨2, ![4096, 512]⟩
abbrev S4096x1024 : Shape := ⟨2, ![4096, 1024]⟩
abbrev S4096x256 : Shape := ⟨2, ![4096, 256]⟩
abbrev S1024x6144 : Shape := ⟨2, ![1024, 6144]⟩
abbrev S1024x1792 : Shape := ⟨2, ![1024, 1792]⟩
abbrev S1024x1536 : Shape := ⟨2, ![1024, 1536]⟩
abbrev S1024x512 : Shape := ⟨2, ![1024, 512]⟩
abbrev S1024x2048 : Shape := ⟨2, ![1024, 2048]⟩
abbrev S1024x256 : Shape := ⟨2, ![1024, 256]⟩
abbrev S512x1792 : Shape := ⟨2, ![512, 1792]⟩
abbrev S512x1536 : Shape := ⟨2, ![512, 1536]⟩
abbrev S512x512 : Shape := ⟨2, ![512, 512]⟩
abbrev S512x1024 : Shape := ⟨2, ![512, 1024]⟩
abbrev S512x256 : Shape := ⟨2, ![512, 256]⟩
abbrev S1024x1024 : Shape := ⟨2, ![1024, 1024]⟩

abbrev nBuf : Space → Nat
  | .hbm => 13
  | .vmem => 20
  | .smem => 0
  | _ => 0

abbrev bufTy : (tb : Table) → Fin (tcTables nBuf tb) → BufTy
  | .hbm, ⟨0, _⟩ => ⟨S4096x1792, .bf16⟩
  | .hbm, ⟨1, _⟩ => ⟨S4096x1536, .bf16⟩
  | .hbm, ⟨2, _⟩ => ⟨S4096x512, .bf16⟩
  | .hbm, ⟨3, _⟩ => ⟨S4096x1024, .bf16⟩
  | .hbm, ⟨4, _⟩ => ⟨S4096x1024, .bf16⟩
  | .hbm, ⟨5, _⟩ => ⟨S4096x256, .bf16⟩
  | .hbm, ⟨6, _⟩ => ⟨S1024x6144, .bf16⟩
  | .hbm, ⟨7, _⟩ => ⟨S1024x1792, .bf16⟩
  | .hbm, ⟨8, _⟩ => ⟨S1024x1536, .bf16⟩
  | .hbm, ⟨9, _⟩ => ⟨S1024x512, .bf16⟩
  | .hbm, ⟨10, _⟩ => ⟨S1024x2048, .bf16⟩
  | .hbm, ⟨11, _⟩ => ⟨S1024x256, .bf16⟩
  | .hbm, ⟨12, _⟩ => ⟨S4096x1024, .f32⟩
  | .local _ .vmem, ⟨0, _⟩ => ⟨S512x1792, .bf16⟩
  | .local _ .vmem, ⟨1, _⟩ => ⟨S512x1792, .bf16⟩
  | .local _ .vmem, ⟨2, _⟩ => ⟨S512x1536, .bf16⟩
  | .local _ .vmem, ⟨3, _⟩ => ⟨S512x1536, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x256, .bf16⟩
  | .local _ .vmem, ⟨11, _⟩ => ⟨S512x256, .bf16⟩
  | .local _ .vmem, ⟨12, _⟩ => ⟨S1024x1792, .bf16⟩
  | .local _ .vmem, ⟨13, _⟩ => ⟨S1024x1536, .bf16⟩
  | .local _ .vmem, ⟨14, _⟩ => ⟨S1024x512, .bf16⟩
  | .local _ .vmem, ⟨15, _⟩ => ⟨S1024x1024, .bf16⟩
  | .local _ .vmem, ⟨16, _⟩ => ⟨S1024x1024, .bf16⟩
  | .local _ .vmem, ⟨17, _⟩ => ⟨S1024x256, .bf16⟩
  | .local _ .vmem, ⟨18, _⟩ => ⟨S512x1024, .f32⟩
  | .local _ .vmem, ⟨19, _⟩ => ⟨S512x1024, .f32⟩
  | _, _ => ⟨S4096x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1792 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== DuRIdeal.lean ====
abbrev S4096x1792 : Shape := ⟨2, ![4096, 1792]⟩
abbrev S4096x1536 : Shape := ⟨2, ![4096, 1536]⟩
abbrev S4096x512 : Shape := ⟨2, ![4096, 512]⟩
abbrev S4096x1024 : Shape := ⟨2, ![4096, 1024]⟩
abbrev S4096x256 : Shape := ⟨2, ![4096, 256]⟩
abbrev S1024x6144 : Shape := ⟨2, ![1024, 6144]⟩
abbrev S_ : Shape := ⟨0, ![]⟩
abbrev S4096x6144 : Shape := ⟨2, ![4096, 6144]⟩

abbrev nBuf : Space → Nat
  | .hbm => 19
  | .vmem => 0
  | .smem => 0
  | _ => 0

abbrev bufTy : (tb : Table) → Fin (tcTables nBuf tb) → BufTy
  | .hbm, ⟨0, _⟩ => ⟨S4096x1792, .bf16⟩
  | .hbm, ⟨1, _⟩ => ⟨S4096x1536, .bf16⟩
  | .hbm, ⟨2, _⟩ => ⟨S4096x512, .bf16⟩
  | .hbm, ⟨3, _⟩ => ⟨S4096x1024, .bf16⟩
  | .hbm, ⟨4, _⟩ => ⟨S4096x1024, .bf16⟩
  | .hbm, ⟨5, _⟩ => ⟨S4096x256, .bf16⟩
  | .hbm, ⟨6, _⟩ => ⟨S1024x6144, .bf16⟩
  | .hbm, ⟨7, _⟩ => ⟨S_, .f32⟩
  | .hbm, ⟨8, _⟩ => ⟨S4096x1024, .f32⟩
  | .hbm, ⟨9, _⟩ => ⟨S4096x1792, .f32⟩
  | .hbm, ⟨10, _⟩ => ⟨S4096x1536, .f32⟩
  | .hbm, ⟨11, _⟩ => ⟨S4096x512, .f32⟩
  | .hbm, ⟨12, _⟩ => ⟨S4096x1024, .f32⟩
  | .hbm, ⟨13, _⟩ => ⟨S4096x1024, .f32⟩
  | .hbm, ⟨14, _⟩ => ⟨S4096x256, .f32⟩
  | .hbm, ⟨15, _⟩ => ⟨S4096x6144, .f32⟩
  | .hbm, ⟨16, _⟩ => ⟨S1024x6144, .f32⟩
  | .hbm, ⟨17, _⟩ => ⟨S4096x6144, .f32⟩
  | .hbm, ⟨18, _⟩ => ⟨S4096x1024, .f32⟩
  | _, _ => ⟨S4096x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== GwaK.lean ====
abbrev S4096x1024 : Shape := ⟨2, ![4096, 1024]⟩
abbrev S4096x1792 : Shape := ⟨2, ![4096, 1792]⟩
abbrev S4096x1536 : Shape := ⟨2, ![4096, 1536]⟩
abbrev S1024x1792 : Shape := ⟨2, ![1024, 1792]⟩
abbrev S1024x1536 : Shape := ⟨2, ![1024, 1536]⟩
abbrev S1024x512 : Shape := ⟨2, ![1024, 512]⟩
abbrev S512x1792 : Shape := ⟨2, ![512, 1792]⟩
abbrev S512x1536 : Shape := ⟨2, ![512, 1536]⟩
abbrev S512x3328 : Shape := ⟨2, ![512, 3328]⟩

abbrev nBuf : Space → Nat
  | .hbm => 5
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S4096x1792, .bf16⟩
  | .hbm, ⟨2, _⟩ => ⟨S4096x1536, .bf16⟩
  | .hbm, ⟨3, _⟩ => ⟨S1024x1792, .bf16⟩
  | .hbm, ⟨4, _⟩ => ⟨S1024x1536, .bf16⟩
  | .local _ .vmem, ⟨0, _⟩ => ⟨S1024x512, .bf16⟩
  | .local _ .vmem, ⟨1, _⟩ => ⟨S1024x512, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1536, .bf16⟩
  | .local _ .vmem, ⟨5, _⟩ => ⟨S1024x1536, .bf16⟩
  | .local _ .vmem, ⟨6, _⟩ => ⟨S512x1792, .bf16⟩
  | .local _ .vmem, ⟨7, _⟩ => ⟨S512x1792, .bf16⟩
  | .local _ .vmem, ⟨8, _⟩ => ⟨S512x1536, .bf16⟩
  | .local _ .vmem, ⟨9, _⟩ => ⟨S512x1536, .bf16⟩
  | .local _ .vmem, ⟨10, _⟩ => ⟨S512x3328, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def k0_cond6 (i : grid0.Coords) : BitVec 1 :=
  let arg1 : BitVec 32 := BitVec.ofNat 32 (i 1).val
  let c3_i32_14 : BitVec 32 := 3#32
  let v20 : BitVec 1 := Scalar.cmpi .eq arg1 c3_i32_14
  let v21 : BitVec 32 := Scalar.extui v20
  let c0_i32_15 : BitVec 32 := 0#32
  let v22 : BitVec 1 := Scalar.cmpi .ne v21 c0_i32_15
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== GwaRIdeal.lean ====
abbrev S4096x1024 : Shape := ⟨2, ![4096, 1024]⟩
abbrev S4096x1792 : Shape := ⟨2, ![4096, 1792]⟩
abbrev S4096x1536 : Shape := ⟨2, ![4096, 1536]⟩
abbrev S_ : Shape := ⟨0, ![]⟩
abbrev S1024x1792 : Shape := ⟨2, ![1024, 1792]⟩
abbrev S1792x1024 : Shape := ⟨2, ![1792, 1024]⟩
abbrev S1024x1536 : Shape := ⟨2, ![1024, 1536]⟩
abbrev S1536x1024 : Shape := ⟨2, ![1536, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1792, .bf16⟩
  | .hbm, ⟨2, _⟩ => ⟨S4096x1536, .bf16⟩
  | .hbm, ⟨3, _⟩ => ⟨S_, .f32⟩
  | .hbm, ⟨4, _⟩ => ⟨S1024x1792, .f32⟩
  | .hbm, ⟨5, _⟩ => ⟨S4096x1024, .f32⟩
  | .hbm, ⟨6, _⟩ => ⟨S4096x1792, .f32⟩
  | .hbm, ⟨7, _⟩ => ⟨S4096x1792, .f32⟩
  | .hbm, ⟨8, _⟩ => ⟨S1792x1024, .f32⟩
  | .hbm, ⟨9, _⟩ => ⟨S1024x1792, .f32⟩
  | .hbm, ⟨10, _⟩ => ⟨S1024x1792, .bf16⟩
  | .hbm, ⟨11, _⟩ => ⟨S_, .f32⟩
  | .hbm, ⟨12, _⟩ => ⟨S1024x1536, .f32⟩
  | .hbm, ⟨13, _⟩ => ⟨S4096x1024, .f32⟩
  | .hbm, ⟨14, _⟩ => ⟨S4096x1536, .f32⟩
  | .hbm, ⟨15, _⟩ => ⟨S4096x1536, .f32⟩
  | .hbm, ⟨16, _⟩ => ⟨S1536x1024, .f32⟩
  | .hbm, ⟨17, _⟩ => ⟨S1024x1536, .f32⟩
  | .hbm, ⟨18, _⟩ => ⟨S1024x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GwbK.lean ====
abbrev S4096x1024 : Shape := ⟨2, ![4096, 1024]⟩
abbrev S4096x512 : Shape := ⟨2, ![4096, 512]⟩
abbrev S4096x256 : Shape := ⟨2, ![4096, 256]⟩
abbrev S1024x512 : Shape := ⟨2, ![1024, 512]⟩
abbrev S1024x1024 : Shape := ⟨2, ![1024, 1024]⟩
abbrev S1024x256 : Shape := ⟨2, ![1024, 256]⟩
abbrev S512x512 : Shape := ⟨2, ![512, 512]⟩
abbrev S512x1024 : Shape := ⟨2, ![512, 1024]⟩
abbrev S512x256 : Shape := ⟨2, ![512, 256]⟩
abbrev S512x2816 : Shape := ⟨2, ![512, 2816]⟩

abbrev nBuf : Space → Nat
  | .hbm => 9
  | .vmem => 19
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x1024, .bf16⟩
  | .hbm, ⟨3, _⟩ => ⟨S4096x1024, .bf16⟩
  | .hbm, ⟨4, _⟩ => ⟨S4096x256, .bf16⟩
  | .hbm, ⟨5, _⟩ => ⟨S1024x512, .bf16⟩
  | .hbm, ⟨6, _⟩ => ⟨S1024x1024, .bf16⟩
  | .hbm, ⟨7, _⟩ => ⟨S1024x1024, .bf16⟩
  | .hbm, ⟨8, _⟩ => ⟨S1024x256, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x256, .bf16⟩
  | .local _ .vmem, ⟨9, _⟩ => ⟨S1024x256, .bf16⟩
  | .local _ .vmem, ⟨10, _⟩ => ⟨S512x512, .bf16⟩
  | .local _ .vmem, ⟨11, _⟩ => ⟨S512x512, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x256, .bf16⟩
  | .local _ .vmem, ⟨17, _⟩ => ⟨S512x256, .bf16⟩
  | .local _ .vmem, ⟨18, _⟩ => ⟨S512x2816, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def k0_cond6 (i : grid0.Coords) : BitVec 1 :=
  let arg1 : BitVec 32 := BitVec.ofNat 32 (i 1).val
  let c3_i32_14 : BitVec 32 := 3#32
  let v20 : BitVec 1 := Scalar.cmpi .eq arg1 c3_i32_14
  let v21 : BitVec 32 := Scalar.extui v20
  let c0_i32_15 : BitVec 32 := 0#32
  let v22 : BitVec 1 := Scalar.cmpi .ne v21 c0_i32_15
  v22

def k0_cond9 (i : grid0.Coords) : BitVec 1 :=
  let arg1 : BitVec 32 := BitVec.ofNat 32 (i 1).val
  let c3_i32_23 : BitVec 32 := 3#32
  let v31 : BitVec 1 := Scalar.cmpi .eq arg1 c3_i32_23
  let v32 : BitVec 32 := Scalar.extui v31
  let c0_i32_24 : BitVec 32 := 0#32
  let v33 : BitVec 1 := Scalar.cmpi .ne v32 c0_i32_24
  v33

def k0_cond12 (i : grid0.Coords) : BitVec 1 :=
  let arg1 : BitVec 32 := BitVec.ofNat 32 (i 1).val
  let c3_i32_32 : BitVec 32 := 3#32
  let v42 : BitVec 1 := Scalar.cmpi .eq arg1 c3_i32_32
  let v43 : BitVec 32 := Scalar.extui v42
  let c0_i32_33 : BitVec 32 := 0#32
  let v44 : BitVec 1 := Scalar.cmpi .ne v43 c0_i32_33
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== GwbRIdeal.lean ====
abbrev S4096x1024 : Shape := ⟨2, ![4096, 1024]⟩
abbrev S4096x512 : Shape := ⟨2, ![4096, 512]⟩
abbrev S4096x256 : Shape := ⟨2, ![4096, 256]⟩
abbrev S_ : Shape := ⟨0, ![]⟩
abbrev S1024x512 : Shape := ⟨2, ![1024, 512]⟩
abbrev S512x1024 : Shape := ⟨2, ![512, 1024]⟩
abbrev S1024x1024 : Shape := ⟨2, ![1024, 1024]⟩
abbrev S1024x256 : Shape := ⟨2, ![1024, 256]⟩
abbrev S256x1024 : Shape := ⟨2, ![256, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x1024, .bf16⟩
  | .hbm, ⟨3, _⟩ => ⟨S4096x1024, .bf16⟩
  | .hbm, ⟨4, _⟩ => ⟨S4096x256, .bf16⟩
  | .hbm, ⟨5, _⟩ => ⟨S_, .f32⟩
  | .hbm, ⟨6, _⟩ => ⟨S1024x512, .f32⟩
  | .hbm, ⟨7, _⟩ => ⟨S4096x1024, .f32⟩
  | .hbm, ⟨8, _⟩ => ⟨S4096x512, .f32⟩
  | .hbm, ⟨9, _⟩ => ⟨S4096x512, .f32⟩
  | .hbm, ⟨10, _⟩ => ⟨S512x1024, .f32⟩
  | .hbm, ⟨11, _⟩ => ⟨S1024x512, .f32⟩
  | .hbm, ⟨12, _⟩ => ⟨S1024x512, .bf16⟩
  | .hbm, ⟨13, _⟩ => ⟨S_, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x1024, .f32⟩
  | .hbm, ⟨19, _⟩ => ⟨S1024x1024, .f32⟩
  | .hbm, ⟨20, _⟩ => ⟨S1024x1024, .bf16⟩
  | .hbm, ⟨21, _⟩ => ⟨S_, .f32⟩
  | .hbm, ⟨22, _⟩ => ⟨S1024x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1024x1024, .f32⟩
  | .hbm, ⟨27, _⟩ => ⟨S1024x1024, .f32⟩
  | .hbm, ⟨28, _⟩ => ⟨S1024x1024, .bf16⟩
  | .hbm, ⟨29, _⟩ => ⟨S_, .f32⟩
  | .hbm, ⟨30, _⟩ => ⟨S1024x256, .f32⟩
  | .hbm, ⟨31, _⟩ => ⟨S4096x1024, .f32⟩
  | .hbm, ⟨32, _⟩ => ⟨S4096x256, .f32⟩
  | .hbm, ⟨33, _⟩ => ⟨S4096x256, .f32⟩
  | .hbm, ⟨34, _⟩ => ⟨S256x1024, .f32⟩
  | .hbm, ⟨35, _⟩ => ⟨S1024x256, .f32⟩
  | .hbm, ⟨36, _⟩ => ⟨S1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Norm1K.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Norm1RIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== AdWinK.lean ====
abbrev S1024x1474 : Shape := ⟨2, ![1024, 1474]⟩
abbrev S1474x1024 : Shape := ⟨2, ![1474, 1024]⟩
abbrev S1474x128 : Shape := ⟨2, ![1474, 128]⟩

abbrev nBuf : Space → Nat
  | .hbm => 14
  | .vmem => 18
  | .smem => 0
  | _ => 0

abbrev bufTy : (tb : Table) → Fin (tcTables nBuf tb) → BufTy
  | .hbm, ⟨0, _⟩ => ⟨S1024x1474, .f32⟩
  | .hbm, ⟨1, _⟩ => ⟨S1024x1474, .f32⟩
  | .hbm, ⟨2, _⟩ => ⟨S1024x1474, .f32⟩
  | .hbm, ⟨3, _⟩ => ⟨S1024x1474, .f32⟩
  | .hbm, ⟨4, _⟩ => ⟨S1024x1474, .f32⟩
  | .hbm, ⟨5, _⟩ => ⟨S1474x1024, .f32⟩
  | .hbm, ⟨6, _⟩ => ⟨S1474x1024, .f32⟩
  | .hbm, ⟨7, _⟩ => ⟨S1474x1024, .f32⟩
  | .hbm, ⟨8, _⟩ => ⟨S1474x1024, .f32⟩
  | .hbm, ⟨9, _⟩ => ⟨S1474x1024, .f32⟩
  | .hbm, ⟨10, _⟩ => ⟨S1474x1024, .f32⟩
  | .hbm, ⟨11, _⟩ => ⟨S1474x1024, .f32⟩
  | .hbm, ⟨12, _⟩ => ⟨S1474x1024, .f32⟩
  | .hbm, ⟨13, _⟩ => ⟨S1474x1024, .f32⟩
  | .local _ .vmem, ⟨0, _⟩ => ⟨S1474x128, .f32⟩
  | .local _ .vmem, ⟨1, _⟩ => ⟨S1474x128, .f32⟩
  | .local _ .vmem, ⟨2, _⟩ => ⟨S1474x128, .f32⟩
  | .local _ .vmem, ⟨3, _⟩ => ⟨S1474x128, .f32⟩
  | .local _ .vmem, ⟨4, _⟩ => ⟨S1474x128, .f32⟩
  | .local _ .vmem, ⟨5, _⟩ => ⟨S1474x128, .f32⟩
  | .local _ .vmem, ⟨6, _⟩ => ⟨S1474x128, .f32⟩
  | .local _ .vmem, ⟨7, _⟩ => ⟨S1474x128, .f32⟩
  | .local _ .vmem, ⟨8, _⟩ => ⟨S1474x128, .f32⟩
  | .local _ .vmem, ⟨9, _⟩ => ⟨S1474x128, .f32⟩
  | .local _ .vmem, ⟨10, _⟩ => ⟨S1474x128, .f32⟩
  | .local _ .vmem, ⟨11, _⟩ => ⟨S1474x128, .f32⟩
  | .local _ .vmem, ⟨12, _⟩ => ⟨S1474x128, .f32⟩
  | .local _ .vmem, ⟨13, _⟩ => ⟨S1474x128, .f32⟩
  | .local _ .vmem, ⟨14, _⟩ => ⟨S1474x128, .f32⟩
  | .local _ .vmem, ⟨15, _⟩ => ⟨S1474x128, .f32⟩
  | .local _ .vmem, ⟨16, _⟩ => ⟨S1474x128, .f32⟩
  | .local _ .vmem, ⟨17, _⟩ => ⟨S1474x128, .f32⟩
  | _, _ => ⟨S1024x1474, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1474x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1474x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1474x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1474x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1474x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1474x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1474x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1474x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1474x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdWinKIdeal.lean ====
variable {F : FTy → Type} [FloatOps F] [Named F]
def κ : String → Option EReal := fun
  | "bc1" => some ((8388608 / 5463681 : ℝ) : EReal)
  | "bc2" => some ((268435456 / 2672307 : ℝ) : EReal)
  | _ => none
-- ==== AdWinRIdeal.lean ====
abbrev S1024x1474 : Shape := ⟨2, ![1024, 1474]⟩
abbrev S_ : Shape := ⟨0, ![]⟩
abbrev S1474x1024 : Shape := ⟨2, ![1474, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1024x1474, .f32⟩
  | .hbm, ⟨1, _⟩ => ⟨S1024x1474, .f32⟩
  | .hbm, ⟨2, _⟩ => ⟨S1024x1474, .f32⟩
  | .hbm, ⟨3, _⟩ => ⟨S1024x1474, .f32⟩
  | .hbm, ⟨4, _⟩ => ⟨S1024x1474, .f32⟩
  | .hbm, ⟨5, _⟩ => ⟨S1024x1474, .f32⟩
  | .hbm, ⟨6, _⟩ => ⟨S_, .f32⟩
  | .hbm, ⟨7, _⟩ => ⟨S1024x1474, .f32⟩
  | .hbm, ⟨8, _⟩ => ⟨S1024x1474, .f32⟩
  | .hbm, ⟨9, _⟩ => ⟨S_, .f32⟩
  | .hbm, ⟨10, _⟩ => ⟨S1024x1474, .f32⟩
  | .hbm, ⟨11, _⟩ => ⟨S1024x1474, .f32⟩
  | .hbm, ⟨12, _⟩ => ⟨S1024x1474, .f32⟩
  | .hbm, ⟨13, _⟩ => ⟨S_, .f32⟩
  | .hbm, ⟨14, _⟩ => ⟨S1024x1474, .f32⟩
  | .hbm, ⟨15, _⟩ => ⟨S1024x1474, .f32⟩
  | .hbm, ⟨16, _⟩ => ⟨S1024x1474, .f32⟩
  | .hbm, ⟨17, _⟩ => ⟨S_, .f32⟩
  | .hbm, ⟨18, _⟩ => ⟨S1024x1474, .f32⟩
  | .hbm, ⟨19, _⟩ => ⟨S1024x1474, .f32⟩
  | .hbm, ⟨20, _⟩ => ⟨S1024x1474, .f32⟩
  | .hbm, ⟨21, _⟩ => ⟨S_, .f32⟩
  | .hbm, ⟨22, _⟩ => ⟨S1024x1474, .f32⟩
  | .hbm, ⟨23, _⟩ => ⟨S1024x1474, .f32⟩
  | .hbm, ⟨24, _⟩ => ⟨S_, .f32⟩
  | .hbm, ⟨25, _⟩ => ⟨S1024x1474, .f32⟩
  | .hbm, ⟨26, _⟩ => ⟨S1024x1474, .f32⟩
  | .hbm, ⟨27, _⟩ => ⟨S1024x1474, .f32⟩
  | .hbm, ⟨28, _⟩ => ⟨S_, .f32⟩
  | .hbm, ⟨29, _⟩ => ⟨S1024x1474, .f32⟩
  | .hbm, ⟨30, _⟩ => ⟨S1024x1474, .f32⟩
  | .hbm, ⟨31, _⟩ => ⟨S1024x1474, .f32⟩
  | .hbm, ⟨32, _⟩ => ⟨S_, .f32⟩
  | .hbm, ⟨33, _⟩ => ⟨S1024x1474, .f32⟩
  | .hbm, ⟨34, _⟩ => ⟨S1024x1474, .f32⟩
  | .hbm, ⟨35, _⟩ => ⟨S1024x1474, .f32⟩
  | .hbm, ⟨36, _⟩ => ⟨S_, .f32⟩
  | .hbm, ⟨37, _⟩ => ⟨S1024x1474, .f32⟩
  | .hbm, ⟨38, _⟩ => ⟨S1024x1474, .f32⟩
  | .hbm, ⟨39, _⟩ => ⟨S1474x1024, .f32⟩
  | .hbm, ⟨40, _⟩ => ⟨S1474x1024, .f32⟩
  | .hbm, ⟨41, _⟩ => ⟨S1474x1024, .f32⟩
  | .hbm, ⟨42, _⟩ => ⟨S1474x1024, .f32⟩
  | _, _ => ⟨S1024x1474, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== AdProjK.lean ====
abbrev S512x256 : Shape := ⟨2, ![512, 256]⟩

abbrev nBuf : Space → Nat
  | .hbm => 9
  | .vmem => 9
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdProjKIdeal.lean ====
variable {F : FTy → Type} [FloatOps F] [Named F]
def κ : String → Option EReal := fun
  | "bc1" => some ((8388608 / 5463681 : ℝ) : EReal)
  | "bc2" => some ((268435456 / 2672307 : ℝ) : EReal)
  | _ => none
-- ==== AdProjRIdeal.lean ====
abbrev S512x256 : Shape := ⟨2, ![512, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S_, .f32⟩
  | .hbm, ⟨7, _⟩ => ⟨S512x256, .f32⟩
  | .hbm, ⟨8, _⟩ => ⟨S512x256, .f32⟩
  | .hbm, ⟨9, _⟩ => ⟨S_, .f32⟩
  | .hbm, ⟨10, _⟩ => ⟨S512x256, .f32⟩
  | .hbm, ⟨11, _⟩ => ⟨S512x256, .f32⟩
  | .hbm, ⟨12, _⟩ => ⟨S512x256, .f32⟩
  | .hbm, ⟨13, _⟩ => ⟨S_, .f32⟩
  | .hbm, ⟨14, _⟩ => ⟨S512x256, .f32⟩
  | .hbm, ⟨15, _⟩ => ⟨S512x256, .f32⟩
  | .hbm, ⟨16, _⟩ => ⟨S512x256, .f32⟩
  | .hbm, ⟨17, _⟩ => ⟨S_, .f32⟩
  | .hbm, ⟨18, _⟩ => ⟨S512x256, .f32⟩
  | .hbm, ⟨19, _⟩ => ⟨S512x256, .f32⟩
  | .hbm, ⟨20, _⟩ => ⟨S512x256, .f32⟩
  | .hbm, ⟨21, _⟩ => ⟨S_, .f32⟩
  | .hbm, ⟨22, _⟩ => ⟨S512x256, .f32⟩
  | .hbm, ⟨23, _⟩ => ⟨S512x256, .f32⟩
  | .hbm, ⟨24, _⟩ => ⟨S_, .f32⟩
  | .hbm, ⟨25, _⟩ => ⟨S512x256, .f32⟩
  | .hbm, ⟨26, _⟩ => ⟨S512x256, .f32⟩
  | .hbm, ⟨27, _⟩ => ⟨S512x256, .f32⟩
  | .hbm, ⟨28, _⟩ => ⟨S_, .f32⟩
  | .hbm, ⟨29, _⟩ => ⟨S512x256, .f32⟩
  | .hbm, ⟨30, _⟩ => ⟨S512x256, .f32⟩
  | .hbm, ⟨31, _⟩ => ⟨S512x256, .f32⟩
  | .hbm, ⟨32, _⟩ => ⟨S_, .f32⟩
  | .hbm, ⟨33, _⟩ => ⟨S512x256, .f32⟩
  | .hbm, ⟨34, _⟩ => ⟨S512x256, .f32⟩
  | .hbm, ⟨35, _⟩ => ⟨S512x256, .f32⟩
  | .hbm, ⟨36, _⟩ => ⟨S_, .f32⟩
  | .hbm, ⟨37, _⟩ => ⟨S512x256, .f32⟩
  | .hbm, ⟨38, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdOutK.lean ====
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdOutKIdeal.lean ====
variable {F : FTy → Type} [FloatOps F] [Named F]
def κ : String → Option EReal := fun
  | "bc1" => some ((8388608 / 5463681 : ℝ) : EReal)
  | "bc2" => some ((268435456 / 2672307 : ℝ) : EReal)
  | _ => none
-- ==== AdOutRIdeal.lean ====
abbrev S256x1024 : Shape := ⟨2, ![256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S_, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdUpK.lean ====
abbrev S1024x1408 : Shape := ⟨2, ![1024, 1408]⟩
abbrev S128x1408 : Shape := ⟨2, ![128, 1408]⟩

abbrev nBuf : Space → Nat
  | .hbm => 9
  | .vmem => 18
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | .local _ .vmem, ⟨16, _⟩ => ⟨S128x1408, .f32⟩
  | .local _ .vmem, ⟨17, _⟩ => ⟨S128x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdUpKIdeal.lean ====
variable {F : FTy → Type} [FloatOps F] [Named F]
def κ : String → Option EReal := fun
  | "bc1" => some ((8388608 / 5463681 : ℝ) : EReal)
  | "bc2" => some ((268435456 / 2672307 : ℝ) : EReal)
  | _ => none
-- ==== AdUpRIdeal.lean ====
abbrev S1024x1408 : Shape := ⟨2, ![1024, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S_, .f32⟩
  | .hbm, ⟨7, _⟩ => ⟨S1024x1408, .f32⟩
  | .hbm, ⟨8, _⟩ => ⟨S1024x1408, .f32⟩
  | .hbm, ⟨9, _⟩ => ⟨S_, .f32⟩
  | .hbm, ⟨10, _⟩ => ⟨S1024x1408, .f32⟩
  | .hbm, ⟨11, _⟩ => ⟨S1024x1408, .f32⟩
  | .hbm, ⟨12, _⟩ => ⟨S1024x1408, .f32⟩
  | .hbm, ⟨13, _⟩ => ⟨S_, .f32⟩
  | .hbm, ⟨14, _⟩ => ⟨S1024x1408, .f32⟩
  | .hbm, ⟨15, _⟩ => ⟨S1024x1408, .f32⟩
  | .hbm, ⟨16, _⟩ => ⟨S1024x1408, .f32⟩
  | .hbm, ⟨17, _⟩ => ⟨S_, .f32⟩
  | .hbm, ⟨18, _⟩ => ⟨S1024x1408, .f32⟩
  | .hbm, ⟨19, _⟩ => ⟨S1024x1408, .f32⟩
  | .hbm, ⟨20, _⟩ => ⟨S1024x1408, .f32⟩
  | .hbm, ⟨21, _⟩ => ⟨S_, .f32⟩
  | .hbm, ⟨22, _⟩ => ⟨S1024x1408, .f32⟩
  | .hbm, ⟨23, _⟩ => ⟨S1024x1408, .f32⟩
  | .hbm, ⟨24, _⟩ => ⟨S_, .f32⟩
  | .hbm, ⟨25, _⟩ => ⟨S1024x1408, .f32⟩
  | .hbm, ⟨26, _⟩ => ⟨S1024x1408, .f32⟩
  | .hbm, ⟨27, _⟩ => ⟨S1024x1408, .f32⟩
  | .hbm, ⟨28, _⟩ => ⟨S_, .f32⟩
  | .hbm, ⟨29, _⟩ => ⟨S1024x1408, .f32⟩
  | .hbm, ⟨30, _⟩ => ⟨S1024x1408, .f32⟩
  | .hbm, ⟨31, _⟩ => ⟨S1024x1408, .f32⟩
  | .hbm, ⟨32, _⟩ => ⟨S_, .f32⟩
  | .hbm, ⟨33, _⟩ => ⟨S1024x1408, .f32⟩
  | .hbm, ⟨34, _⟩ => ⟨S1024x1408, .f32⟩
  | .hbm, ⟨35, _⟩ => ⟨S1024x1408, .f32⟩
  | .hbm, ⟨36, _⟩ => ⟨S_, .f32⟩
  | .hbm, ⟨37, _⟩ => ⟨S1024x1408, .f32⟩
  | .hbm, ⟨38, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdDownK.lean ====
abbrev S704x1024 : Shape := ⟨2, ![704, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdDownKIdeal.lean ====
variable {F : FTy → Type} [FloatOps F] [Named F]
def κ : String → Option EReal := fun
  | "bc1" => some ((8388608 / 5463681 : ℝ) : EReal)
  | "bc2" => some ((268435456 / 2672307 : ℝ) : EReal)
  | _ => none
-- ==== AdDownRIdeal.lean ====
abbrev S704x1024 : Shape := ⟨2, ![704, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S_, .f32⟩
  | .hbm, ⟨7, _⟩ => ⟨S704x1024, .f32⟩
  | .hbm, ⟨8, _⟩ => ⟨S704x1024, .f32⟩
  | .hbm, ⟨9, _⟩ => ⟨S_, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S_, .f32⟩
  | .hbm, ⟨14, _⟩ => ⟨S704x1024, .f32⟩
  | .hbm, ⟨15, _⟩ => ⟨S704x1024, .f32⟩
  | .hbm, ⟨16, _⟩ => ⟨S704x1024, .f32⟩
  | .hbm, ⟨17, _⟩ => ⟨S_, .f32⟩
  | .hbm, ⟨18, _⟩ => ⟨S704x1024, .f32⟩
  | .hbm, ⟨19, _⟩ => ⟨S704x1024, .f32⟩
  | .hbm, ⟨20, _⟩ => ⟨S704x1024, .f32⟩
  | .hbm, ⟨21, _⟩ => ⟨S_, .f32⟩
  | .hbm, ⟨22, _⟩ => ⟨S704x1024, .f32⟩
  | .hbm, ⟨23, _⟩ => ⟨S704x1024, .f32⟩
  | .hbm, ⟨24, _⟩ => ⟨S_, .f32⟩
  | .hbm, ⟨25, _⟩ => ⟨S704x1024, .f32⟩
  | .hbm, ⟨26, _⟩ => ⟨S704x1024, .f32⟩
  | .hbm, ⟨27, _⟩ => ⟨S704x1024, .f32⟩
  | .hbm, ⟨28, _⟩ => ⟨S_, .f32⟩
  | .hbm, ⟨29, _⟩ => ⟨S704x1024, .f32⟩
  | .hbm, ⟨30, _⟩ => ⟨S704x1024, .f32⟩
  | .hbm, ⟨31, _⟩ => ⟨S704x1024, .f32⟩
  | .hbm, ⟨32, _⟩ => ⟨S_, .f32⟩
  | .hbm, ⟨33, _⟩ => ⟨S704x1024, .f32⟩
  | .hbm, ⟨34, _⟩ => ⟨S704x1024, .f32⟩
  | .hbm, ⟨35, _⟩ => ⟨S704x1024, .f32⟩
  | .hbm, ⟨36, _⟩ => ⟨S_, .f32⟩
  | .hbm, ⟨37, _⟩ => ⟨S704x1024, .f32⟩
  | .hbm, ⟨38, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdSmallK.lean ====
abbrev S376x128 : Shape := ⟨2, ![376, 128]⟩

abbrev nBuf : Space → Nat
  | .hbm => 9
  | .vmem => 9
  | .smem => 0
  | _ => 0

abbrev bufTy : (tb : Table) → Fin (tcTables nBuf tb) → BufTy
  | .hbm, ⟨0, _⟩ => ⟨S376x128, .f32⟩
  | .hbm, ⟨1, _⟩ => ⟨S376x128, .f32⟩
  | .hbm, ⟨2, _⟩ => ⟨S376x128, .f32⟩
  | .hbm, ⟨3, _⟩ => ⟨S376x128, .f32⟩
  | .hbm, ⟨4, _⟩ => ⟨S376x128, .f32⟩
  | .hbm, ⟨5, _⟩ => ⟨S376x128, .f32⟩
  | .hbm, ⟨6, _⟩ => ⟨S376x128, .f32⟩
  | .hbm, ⟨7, _⟩ => ⟨S376x128, .f32⟩
  | .hbm, ⟨8, _⟩ => ⟨S376x128, .f32⟩
  | .local _ .vmem, ⟨0, _⟩ => ⟨S376x128, .f32⟩
  | .local _ .vmem, ⟨1, _⟩ => ⟨S376x128, .f32⟩
  | .local _ .vmem, ⟨2, _⟩ => ⟨S376x128, .f32⟩
  | .local _ .vmem, ⟨3, _⟩ => ⟨S376x128, .f32⟩
  | .local _ .vmem, ⟨4, _⟩ => ⟨S376x128, .f32⟩
  | .local _ .vmem, ⟨5, _⟩ => ⟨S376x128, .f32⟩
  | .local _ .vmem, ⟨6, _⟩ => ⟨S376x128, .f32⟩
  | .local _ .vmem, ⟨7, _⟩ => ⟨S376x128, .f32⟩
  | .local _ .vmem, ⟨8, _⟩ => ⟨S376x128, .f32⟩
  | _, _ => ⟨S376x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S376x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S376x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S376x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S376x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S376x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S376x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S376x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S376x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S376x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdSmallKIdeal.lean ====
variable {F : FTy → Type} [FloatOps F] [Named F]
def κ : String → Option EReal := fun
  | "bc1" => some ((8388608 / 5463681 : ℝ) : EReal)
  | "bc2" => some ((268435456 / 2672307 : ℝ) : EReal)
  | _ => none
-- ==== AdSmallRIdeal.lean ====
abbrev S376x128 : Shape := ⟨2, ![376, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S376x128, .f32⟩
  | .hbm, ⟨1, _⟩ => ⟨S376x128, .f32⟩
  | .hbm, ⟨2, _⟩ => ⟨S376x128, .f32⟩
  | .hbm, ⟨3, _⟩ => ⟨S376x128, .f32⟩
  | .hbm, ⟨4, _⟩ => ⟨S376x128, .f32⟩
  | .hbm, ⟨5, _⟩ => ⟨S376x128, .f32⟩
  | .hbm, ⟨6, _⟩ => ⟨S_, .f32⟩
  | .hbm, ⟨7, _⟩ => ⟨S376x128, .f32⟩
  | .hbm, ⟨8, _⟩ => ⟨S376x128, .f32⟩
  | .hbm, ⟨9, _⟩ => ⟨S_, .f32⟩
  | .hbm, ⟨10, _⟩ => ⟨S376x128, .f32⟩
  | .hbm, ⟨11, _⟩ => ⟨S376x128, .f32⟩
  | .hbm, ⟨12, _⟩ => ⟨S376x128, .f32⟩
  | .hbm, ⟨13, _⟩ => ⟨S_, .f32⟩
  | .hbm, ⟨14, _⟩ => ⟨S376x128, .f32⟩
  | .hbm, ⟨15, _⟩ => ⟨S376x128, .f32⟩
  | .hbm, ⟨16, _⟩ => ⟨S376x128, .f32⟩
  | .hbm, ⟨17, _⟩ => ⟨S_, .f32⟩
  | .hbm, ⟨18, _⟩ => ⟨S376x128, .f32⟩
  | .hbm, ⟨19, _⟩ => ⟨S376x128, .f32⟩
  | .hbm, ⟨20, _⟩ => ⟨S376x128, .f32⟩
  | .hbm, ⟨21, _⟩ => ⟨S_, .f32⟩
  | .hbm, ⟨22, _⟩ => ⟨S376x128, .f32⟩
  | .hbm, ⟨23, _⟩ => ⟨S376x128, .f32⟩
  | .hbm, ⟨24, _⟩ => ⟨S_, .f32⟩
  | .hbm, ⟨25, _⟩ => ⟨S376x128, .f32⟩
  | .hbm, ⟨26, _⟩ => ⟨S376x128, .f32⟩
  | .hbm, ⟨27, _⟩ => ⟨S376x128, .f32⟩
  | .hbm, ⟨28, _⟩ => ⟨S_, .f32⟩
  | .hbm, ⟨29, _⟩ => ⟨S376x128, .f32⟩
  | .hbm, ⟨30, _⟩ => ⟨S376x128, .f32⟩
  | .hbm, ⟨31, _⟩ => ⟨S376x128, .f32⟩
  | .hbm, ⟨32, _⟩ => ⟨S_, .f32⟩
  | .hbm, ⟨33, _⟩ => ⟨S376x128, .f32⟩
  | .hbm, ⟨34, _⟩ => ⟨S376x128, .f32⟩
  | .hbm, ⟨35, _⟩ => ⟨S376x128, .f32⟩
  | .hbm, ⟨36, _⟩ => ⟨S_, .f32⟩
  | .hbm, ⟨37, _⟩ => ⟨S376x128, .f32⟩
  | .hbm, ⟨38, _⟩ => ⟨S376x128, .f32⟩
  | _, _ => ⟨S376x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== FdownK.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 9
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S4096x1024, .f32⟩
  | .hbm, ⟨7, _⟩ => ⟨S1x1024, .f32⟩
  | .hbm, ⟨8, _⟩ => ⟨S1x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FdownRIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S1x1024, .f32⟩
  | .hbm, ⟨78, _⟩ => ⟨S1x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== WoutK.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== WoutRIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== GdgK.lean ====
abbrev S4096x256 : Shape := ⟨2, ![4096, 256]⟩
abbrev S4 : Shape := ⟨1, ![4]⟩
abbrev S1x4 : Shape := ⟨2, ![1, 4]⟩
abbrev S_ : Shape := ⟨0, ![]⟩
abbrev S1x256 : Shape := ⟨2, ![1, 256]⟩
abbrev S512x256 : Shape := ⟨2, ![512, 256]⟩
abbrev S256 : Shape := ⟨1, ![256]⟩

abbrev nBuf : Space → Nat
  | .hbm => 15
  | .vmem => 10
  | .smem => 0
  | _ => 0

abbrev bufTy : (tb : Table) → Fin (tcTables nBuf tb) → BufTy
  | .hbm, ⟨0, _⟩ => ⟨S4096x256, .f32⟩
  | .hbm, ⟨1, _⟩ => ⟨S4, .f32⟩
  | .hbm, ⟨2, _⟩ => ⟨S4, .f32⟩
  | .hbm, ⟨3, _⟩ => ⟨S4096x256, .f32⟩
  | .hbm, ⟨4, _⟩ => ⟨S1x4, .f32⟩
  | .hbm, ⟨5, _⟩ => ⟨S_, .i32⟩
  | .hbm, ⟨6, _⟩ => ⟨S_, .f32⟩
  | .hbm, ⟨7, _⟩ => ⟨S1x256, .f32⟩
  | .hbm, ⟨8, _⟩ => ⟨S1x4, .f32⟩
  | .hbm, ⟨9, _⟩ => ⟨S_, .i32⟩
  | .hbm, ⟨10, _⟩ => ⟨S_, .f32⟩
  | .hbm, ⟨11, _⟩ => ⟨S1x256, .f32⟩
  | .hbm, ⟨12, _⟩ => ⟨S4096x256, .bf16⟩
  | .hbm, ⟨13, _⟩ => ⟨S1x256, .f32⟩
  | .hbm, ⟨14, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S1x256, .f32⟩
  | .local _ .vmem, ⟨4, _⟩ => ⟨S512x256, .f32⟩
  | .local _ .vmem, ⟨5, _⟩ => ⟨S512x256, .f32⟩
  | .local _ .vmem, ⟨6, _⟩ => ⟨S512x256, .bf16⟩
  | .local _ .vmem, ⟨7, _⟩ => ⟨S512x256, .bf16⟩
  | .local _ .vmem, ⟨8, _⟩ => ⟨S1x256, .f32⟩
  | .local _ .vmem, ⟨9, _⟩ => ⟨S1x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GdgRIdeal.lean ====
abbrev S4096x256 : Shape := ⟨2, ![4096, 256]⟩
abbrev S4 : Shape := ⟨1, ![4]⟩
abbrev S4096x4 : Shape := ⟨2, ![4096, 4]⟩
abbrev S1x4 : Shape := ⟨2, ![1, 4]⟩
abbrev S_ : Shape := ⟨0, ![]⟩
abbrev S4096x248 : Shape := ⟨2, ![4096, 248]⟩
abbrev S1x256 : Shape := ⟨2, ![1, 256]⟩

abbrev nBuf : Space → Nat
  | .hbm => 103
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4, .f32⟩
  | .hbm, ⟨2, _⟩ => ⟨S4, .f32⟩
  | .hbm, ⟨3, _⟩ => ⟨S4096x256, .f32⟩
  | .hbm, ⟨4, _⟩ => ⟨S4096x4, .f32⟩
  | .hbm, ⟨5, _⟩ => ⟨S4096x4, .f32⟩
  | .hbm, ⟨6, _⟩ => ⟨S4, .f32⟩
  | .hbm, ⟨7, _⟩ => ⟨S4, .f32⟩
  | .hbm, ⟨8, _⟩ => ⟨S1x4, .f32⟩
  | .hbm, ⟨9, _⟩ => ⟨S4096x4, .f32⟩
  | .hbm, ⟨10, _⟩ => ⟨S4096x4, .f32⟩
  | .hbm, ⟨11, _⟩ => ⟨S_, .f32⟩
  | .hbm, ⟨12, _⟩ => ⟨S4096x4, .f32⟩
  | .hbm, ⟨13, _⟩ => ⟨S4096x4, .f32⟩
  | .hbm, ⟨14, _⟩ => ⟨S4096x4, .f32⟩
  | .hbm, ⟨15, _⟩ => ⟨S4096x4, .f32⟩
  | .hbm, ⟨16, _⟩ => ⟨S4096x4, .i1⟩
  | .hbm, ⟨17, _⟩ => ⟨S4096x4, .f32⟩
  | .hbm, ⟨18, _⟩ => ⟨S4096x4, .f32⟩
  | .hbm, ⟨19, _⟩ => ⟨S4096x4, .f32⟩
  | .hbm, ⟨20, _⟩ => ⟨S4096x4, .f32⟩
  | .hbm, ⟨21, _⟩ => ⟨S4096x4, .f32⟩
  | .hbm, ⟨22, _⟩ => ⟨S4096x4, .f32⟩
  | .hbm, ⟨23, _⟩ => ⟨S4096x4, .f32⟩
  | .hbm, ⟨24, _⟩ => ⟨S4096x4, .f32⟩
  | .hbm, ⟨25, _⟩ => ⟨S_, .f32⟩
  | .hbm, ⟨26, _⟩ => ⟨S4096x4, .f32⟩
  | .hbm, ⟨27, _⟩ => ⟨S4096x4, .i1⟩
  | .hbm, ⟨28, _⟩ => ⟨S_, .f32⟩
  | .hbm, ⟨29, _⟩ => ⟨S4096x4, .f32⟩
  | .hbm, ⟨30, _⟩ => ⟨S4096x4, .f32⟩
  | .hbm, ⟨31, _⟩ => ⟨S_, .f32⟩
  | .hbm, ⟨32, _⟩ => ⟨S4096x4, .f32⟩
  | .hbm, ⟨33, _⟩ => ⟨S4096x4, .i1⟩
  | .hbm, ⟨34, _⟩ => ⟨S_, .f32⟩
  | .hbm, ⟨35, _⟩ => ⟨S4096x4, .f32⟩
  | .hbm, ⟨36, _⟩ => ⟨S4096x4, .f32⟩
  | .hbm, ⟨37, _⟩ => ⟨S4096x4, .f32⟩
  | .hbm, ⟨38, _⟩ => ⟨S4096x4, .f32⟩
  | .hbm, ⟨39, _⟩ => ⟨S_, .f32⟩
  | .hbm, ⟨40, _⟩ => ⟨S_, .f32⟩
  | .hbm, ⟨41, _⟩ => ⟨S_, .i1⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096x4, .f32⟩
  | .hbm, ⟨47, _⟩ => ⟨S4096x4, .i1⟩
  | .hbm, ⟨48, _⟩ => ⟨S_, .f32⟩
  | .hbm, ⟨49, _⟩ => ⟨S4096x4, .f32⟩
  | .hbm, ⟨50, _⟩ => ⟨S4096x4, .f32⟩
  | .hbm, ⟨51, _⟩ => ⟨S4096x4, .f32⟩
  | .hbm, ⟨52, _⟩ => ⟨S4096x4, .f32⟩
  | .hbm, ⟨53, _⟩ => ⟨S4096x4, .f32⟩
  | .hbm, ⟨54, _⟩ => ⟨S_, .f32⟩
  | .hbm, ⟨55, _⟩ => ⟨S4096x4, .f32⟩
  | .hbm, ⟨56, _⟩ => ⟨S4096x4, .f32⟩
  | .hbm, ⟨57, _⟩ => ⟨S1x4, .f32⟩
  | .hbm, ⟨58, _⟩ => ⟨S4096x4, .f32⟩
  | .hbm, ⟨59, _⟩ => ⟨S4096x4, .f32⟩
  | .hbm, ⟨60, _⟩ => ⟨S4096x4, .f32⟩
  | .hbm, ⟨61, _⟩ => ⟨S4096x4, .f32⟩
  | .hbm, ⟨62, _⟩ => ⟨S_, .f32⟩
  | .hbm, ⟨63, _⟩ => ⟨S4096x4, .f32⟩
  | .hbm, ⟨64, _⟩ => ⟨S4096x4, .f32⟩
  | .hbm, ⟨65, _⟩ => ⟨S_, .f32⟩
  | .hbm, ⟨66, _⟩ => ⟨S4096x4, .f32⟩
  | .hbm, ⟨67, _⟩ => ⟨S4096x4, .f32⟩
  | .hbm, ⟨68, _⟩ => ⟨S_, .f32⟩
  | .hbm, ⟨69, _⟩ => ⟨S4096x4, .f32⟩
  | .hbm, ⟨70, _⟩ => ⟨S4096x4, .f32⟩
  | .hbm, ⟨71, _⟩ => ⟨S4096x4, .f32⟩
  | .hbm, ⟨72, _⟩ => ⟨S4096x4, .f32⟩
  | .hbm, ⟨73, _⟩ => ⟨S4096x4, .f32⟩
  | .hbm, ⟨74, _⟩ => ⟨S4096x4, .f32⟩
  | .hbm, ⟨75, _⟩ => ⟨S4096x4, .f32⟩
  | .hbm, ⟨76, _⟩ => ⟨S4096x4, .f32⟩
  | .hbm, ⟨77, _⟩ => ⟨S4096x4, .f32⟩
  | .hbm, ⟨78, _⟩ => ⟨S_, .f32⟩
  | .hbm, ⟨79, _⟩ => ⟨S4, .f32⟩
  | .hbm, ⟨80, _⟩ => ⟨S1x4, .f32⟩
  | .hbm, ⟨81, _⟩ => ⟨S_, .f32⟩
  | .hbm, ⟨82, _⟩ => ⟨S4, .f32⟩
  | .hbm, ⟨83, _⟩ => ⟨S4096x4, .f32⟩
  | .hbm, ⟨84, _⟩ => ⟨S_, .f32⟩
  | .hbm, ⟨85, _⟩ => ⟨S4, .f32⟩
  | .hbm, ⟨86, _⟩ => ⟨S1x4, .f32⟩
  | .hbm, ⟨87, _⟩ => ⟨S_, .f32⟩
  | .hbm, ⟨88, _⟩ => ⟨S4, .f32⟩
  | .hbm, ⟨89, _⟩ => ⟨S4, .f32⟩
  | .hbm, ⟨90, _⟩ => ⟨S4, .f32⟩
  | .hbm, ⟨91, _⟩ => ⟨S_, .f32⟩
  | .hbm, ⟨92, _⟩ => ⟨S4096x248, .f32⟩
  | .hbm, ⟨93, _⟩ => ⟨S4096x256, .f32⟩
  | .hbm, ⟨94, _⟩ => ⟨S4096x256, .bf16⟩
  | .hbm, ⟨95, _⟩ => ⟨S1x4, .f32⟩
  | .hbm, ⟨96, _⟩ => ⟨S_, .i32⟩
  | .hbm, ⟨97, _⟩ => ⟨S_, .f32⟩
  | .hbm, ⟨98, _⟩ => ⟨S1x256, .f32⟩
  | .hbm, ⟨99, _⟩ => ⟨S1x4, .f32⟩
  | .hbm, ⟨100, _⟩ => ⟨S_, .i32⟩
  | .hbm, ⟨101, _⟩ => ⟨S_, .f32⟩
  | .hbm, ⟨102, _⟩ => ⟨S1x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v7_0 : Ref sig .tc := ⟨.hbm, 24, rfl⟩
abbrev main_call0_cst_0 : Ref sig .tc := ⟨.hbm, 25, rfl⟩
abbrev main_call0_v13 : Ref sig .tc := ⟨.hbm, 26, rfl⟩
abbrev main_call0_v14 : Ref sig .tc := ⟨.hbm, 27, rfl⟩
abbrev main_call0_cst_1 : Ref sig .tc := ⟨.hbm, 28, rfl⟩
abbrev main_call0_v15 : Ref sig .tc := ⟨.hbm, 29, rfl⟩
abbrev main_call0_v16 : Ref sig .tc := ⟨.hbm, 30, rfl⟩
abbrev main_call0_cst_2 : Ref sig .tc := ⟨.hbm, 31, rfl⟩
abbrev main_call0_v17 : Ref sig .tc := ⟨.hbm, 32, rfl⟩
abbrev main_call0_v18 : Ref sig .tc := ⟨.hbm, 33, rfl⟩
abbrev main_call0_cst_3 : Ref sig .tc := ⟨.hbm, 34, rfl⟩
abbrev main_call0_v19 : Ref sig .tc := ⟨.hbm, 35, rfl⟩
abbrev main_call0_v20 : Ref sig .tc := ⟨.hbm, 36, rfl⟩
abbrev main_call0_v21 : Ref sig .tc := ⟨.hbm, 37, rfl⟩
abbrev main_v7_1 : Ref sig .tc := ⟨.hbm, 38, rfl⟩
abbrev main_call0_cst_4 : Ref sig .tc := ⟨.hbm, 39, rfl⟩
abbrev main_call0_cst_5 : Ref sig .tc := ⟨.hbm, 40, rfl⟩
abbrev main_call0_v23 : Ref sig .tc := ⟨.hbm, 41, rfl⟩
abbrev main_call0_cst_6 : Ref sig .tc := ⟨.hbm, 42, rfl⟩
abbrev main_call0_cst_7 : Ref sig .tc := ⟨.hbm, 43, rfl⟩
abbrev main_call0_v24 : Ref sig .tc := ⟨.hbm, 44, rfl⟩
abbrev main_call0_cst_8 : Ref sig .tc := ⟨.hbm, 45, rfl⟩
abbrev main_call0_v25 : Ref sig .tc := ⟨.hbm, 46, rfl⟩
abbrev main_call0_v26 : Ref sig .tc := ⟨.hbm, 47, rfl⟩
abbrev main_call0_cst_9 : Ref sig .tc := ⟨.hbm, 48, rfl⟩
abbrev main_call0_v27 : Ref sig .tc := ⟨.hbm, 49, rfl⟩
abbrev main_call0_v28 : Ref sig .tc := ⟨.hbm, 50, rfl⟩
abbrev main_call0_v29 : Ref sig .tc := ⟨.hbm, 51, rfl⟩
abbrev main_call0_v30 : Ref sig .tc := ⟨.hbm, 52, rfl⟩
abbrev main_call0_v31 : Ref sig .tc := ⟨.hbm, 53, rfl⟩
abbrev main_call0_cst_10 : Ref sig .tc := ⟨.hbm, 54, rfl⟩
abbrev main_call0_v32 : Ref sig .tc := ⟨.hbm, 55, rfl⟩
abbrev main_v7_2 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_cst : Ref sig .tc := ⟨.hbm, 62, rfl⟩
abbrev main_v13 : Ref sig .tc := ⟨.hbm, 63, rfl⟩
abbrev main_v14 : Ref sig .tc := ⟨.hbm, 64, rfl⟩
abbrev main_cst_0 : Ref sig .tc := ⟨.hbm, 65, rfl⟩
abbrev main_v15 : Ref sig .tc := ⟨.hbm, 66, rfl⟩
abbrev main_v16 : Ref sig .tc := ⟨.hbm, 67, rfl⟩
abbrev main_cst_1 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_cst_2 : Ref sig .tc := ⟨.hbm, 78, rfl⟩
abbrev main_v26 : Ref sig .tc := ⟨.hbm, 79, rfl⟩
abbrev main_v27 : Ref sig .tc := ⟨.hbm, 80, rfl⟩
abbrev main_cst_3 : Ref sig .tc := ⟨.hbm, 81, rfl⟩
abbrev main_v28 : Ref sig .tc := ⟨.hbm, 82, rfl⟩
abbrev main_v29 : Ref sig .tc := ⟨.hbm, 83, rfl⟩
abbrev main_cst_4 : Ref sig .tc := ⟨.hbm, 84, rfl⟩
abbrev main_v30 : Ref sig .tc := ⟨.hbm, 85, rfl⟩
abbrev main_v31 : Ref sig .tc := ⟨.hbm, 86, rfl⟩
abbrev main_cst_5 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_cst_6 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_c : Ref sig .tc := ⟨.hbm, 96, rfl⟩
abbrev main_call2_v0 : Ref sig .tc := ⟨.hbm, 97, rfl⟩
abbrev main_v39 : Ref sig .tc := ⟨.hbm, 98, rfl⟩
abbrev main_v40 : Ref sig .tc := ⟨.hbm, 99, rfl⟩
abbrev main_c_7 : Ref sig .tc := ⟨.hbm, 100, rfl⟩
abbrev main_call3_v0 : Ref sig .tc := ⟨.hbm, 101, rfl⟩
abbrev main_v41 : Ref sig .tc := ⟨.hbm, 102, rfl⟩

abbrev nD : Nat := 1
abbrev τ : Topo := Topo.v7x

variable {F : FTy → Type} [FloatOps F]
-- ==== GprepK.lean ====
abbrev S4096x1536 : Shape := ⟨2, ![4096, 1536]⟩
abbrev S4x1536 : Shape := ⟨2, ![4, 1536]⟩
abbrev S4096x512 : Shape := ⟨2, ![4096, 512]⟩
abbrev S256x1536 : Shape := ⟨2, ![256, 1536]⟩
abbrev S8x1536 : Shape := ⟨2, ![8, 1536]⟩
abbrev S256x512 : Shape := ⟨2, ![256, 512]⟩
abbrev S256x128 : Shape := ⟨2, ![256, 128]⟩
abbrev S8x128 : Shape := ⟨2, ![8, 128]⟩
abbrev S264x128 : Shape := ⟨2, ![264, 128]⟩
abbrev S1x128 : Shape := ⟨2, ![1, 128]⟩
abbrev S256 : Shape := ⟨1, ![256]⟩
abbrev S256x1 : Shape := ⟨2, ![256, 1]⟩

abbrev nBuf : Space → Nat
  | .hbm => 5
  | .vmem => 11
  | .smem => 0
  | _ => 0

abbrev bufTy : (tb : Table) → Fin (tcTables nBuf tb) → BufTy
  | .hbm, ⟨0, _⟩ => ⟨S4096x1536, .f32⟩
  | .hbm, ⟨1, _⟩ => ⟨S4x1536, .f32⟩
  | .hbm, ⟨2, _⟩ => ⟨S4096x512, .f32⟩
  | .hbm, ⟨3, _⟩ => ⟨S4096x512, .f32⟩
  | .hbm, ⟨4, _⟩ => ⟨S4096x512, .f32⟩
  | .local _ .vmem, ⟨0, _⟩ => ⟨S256x1536, .f32⟩
  | .local _ .vmem, ⟨1, _⟩ => ⟨S256x1536, .f32⟩
  | .local _ .vmem, ⟨2, _⟩ => ⟨S8x1536, .f32⟩
  | .local _ .vmem, ⟨3, _⟩ => ⟨S8x1536, .f32⟩
  | .local _ .vmem, ⟨4, _⟩ => ⟨S4x1536, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GprepRIdeal.lean ====
abbrev S4096x1536 : Shape := ⟨2, ![4096, 1536]⟩
abbrev S4x1536 : Shape := ⟨2, ![4, 1536]⟩
abbrev S_ : Shape := ⟨0, ![]⟩
abbrev S4099x1536 : Shape := ⟨2, ![4099, 1536]⟩
abbrev S1x1536 : Shape := ⟨2, ![1, 1536]⟩
abbrev S1536 : Shape := ⟨1, ![1536]⟩
abbrev S4096x512 : Shape := ⟨2, ![4096, 512]⟩
abbrev S4096x4x128 : Shape := ⟨3, ![4096, 4, 128]⟩
abbrev S4096x4 : Shape := ⟨2, ![4096, 4]⟩
abbrev S4096x4x1 : Shape := ⟨3, ![4096, 4, 1]⟩

abbrev nBuf : Space → Nat
  | .hbm => 71
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4x1536, .f32⟩
  | .hbm, ⟨2, _⟩ => ⟨S_, .i32⟩
  | .hbm, ⟨3, _⟩ => ⟨S_, .f32⟩
  | .hbm, ⟨4, _⟩ => ⟨S4099x1536, .f32⟩
  | .hbm, ⟨5, _⟩ => ⟨S4096x1536, .f32⟩
  | .hbm, ⟨6, _⟩ => ⟨S1x1536, .f32⟩
  | .hbm, ⟨7, _⟩ => ⟨S1536, .f32⟩
  | .hbm, ⟨8, _⟩ => ⟨S1x1536, .f32⟩
  | .hbm, ⟨9, _⟩ => ⟨S4096x1536, .f32⟩
  | .hbm, ⟨10, _⟩ => ⟨S4096x1536, .f32⟩
  | .hbm, ⟨11, _⟩ => ⟨S4096x1536, .f32⟩
  | .hbm, ⟨12, _⟩ => ⟨S1x1536, .f32⟩
  | .hbm, ⟨13, _⟩ => ⟨S1536, .f32⟩
  | .hbm, ⟨14, _⟩ => ⟨S1x1536, .f32⟩
  | .hbm, ⟨15, _⟩ => ⟨S4096x1536, .f32⟩
  | .hbm, ⟨16, _⟩ => ⟨S4096x1536, .f32⟩
  | .hbm, ⟨17, _⟩ => ⟨S4096x1536, .f32⟩
  | .hbm, ⟨18, _⟩ => ⟨S4096x1536, .f32⟩
  | .hbm, ⟨19, _⟩ => ⟨S1x1536, .f32⟩
  | .hbm, ⟨20, _⟩ => ⟨S1536, .f32⟩
  | .hbm, ⟨21, _⟩ => ⟨S1x1536, .f32⟩
  | .hbm, ⟨22, _⟩ => ⟨S4096x1536, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S1x1536, .f32⟩
  | .hbm, ⟨27, _⟩ => ⟨S1536, .f32⟩
  | .hbm, ⟨28, _⟩ => ⟨S1x1536, .f32⟩
  | .hbm, ⟨29, _⟩ => ⟨S4096x1536, .f32⟩
  | .hbm, ⟨30, _⟩ => ⟨S4096x1536, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S_, .f32⟩
  | .hbm, ⟨35, _⟩ => ⟨S4096x1536, .f32⟩
  | .hbm, ⟨36, _⟩ => ⟨S4096x1536, .f32⟩
  | .hbm, ⟨37, _⟩ => ⟨S_, .f32⟩
  | .hbm, ⟨38, _⟩ => ⟨S4096x1536, .f32⟩
  | .hbm, ⟨39, _⟩ => ⟨S4096x1536, .f32⟩
  | .hbm, ⟨40, _⟩ => ⟨S4096x1536, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x4x128, .f32⟩
  | .hbm, ⟨45, _⟩ => ⟨S4096x4x128, .f32⟩
  | .hbm, ⟨46, _⟩ => ⟨S_, .f32⟩
  | .hbm, ⟨47, _⟩ => ⟨S4096x4, .f32⟩
  | .hbm, ⟨48, _⟩ => ⟨S4096x4x1, .f32⟩
  | .hbm, ⟨49, _⟩ => ⟨S_, .f32⟩
  | .hbm, ⟨50, _⟩ => ⟨S4096x4x1, .f32⟩
  | .hbm, ⟨51, _⟩ => ⟨S4096x4x1, .f32⟩
  | .hbm, ⟨52, _⟩ => ⟨S4096x4x1, .f32⟩
  | .hbm, ⟨53, _⟩ => ⟨S4096x4x128, .f32⟩
  | .hbm, ⟨54, _⟩ => ⟨S4096x4x128, .f32⟩
  | .hbm, ⟨55, _⟩ => ⟨S_, .f32⟩
  | .hbm, ⟨56, _⟩ => ⟨S4096x4x128, .f32⟩
  | .hbm, ⟨57, _⟩ => ⟨S4096x4x128, .f32⟩
  | .hbm, ⟨58, _⟩ => ⟨S4096x4x128, .f32⟩
  | .hbm, ⟨59, _⟩ => ⟨S4096x4x128, .f32⟩
  | .hbm, ⟨60, _⟩ => ⟨S_, .f32⟩
  | .hbm, ⟨61, _⟩ => ⟨S4096x4, .f32⟩
  | .hbm, ⟨62, _⟩ => ⟨S4096x4x1, .f32⟩
  | .hbm, ⟨63, _⟩ => ⟨S_, .f32⟩
  | .hbm, ⟨64, _⟩ => ⟨S4096x4x1, .f32⟩
  | .hbm, ⟨65, _⟩ => ⟨S4096x4x1, .f32⟩
  | .hbm, ⟨66, _⟩ => ⟨S4096x4x1, .f32⟩
  | .hbm, ⟨67, _⟩ => ⟨S4096x4x128, .f32⟩
  | .hbm, ⟨68, _⟩ => ⟨S4096x4x128, .f32⟩
  | .hbm, ⟨69, _⟩ => ⟨S4096x512, .f32⟩
  | .hbm, ⟨70, _⟩ => ⟨S4096x512, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst : Ref sig .tc := ⟨.hbm, 46, rfl⟩
abbrev main_v34 : Ref sig .tc := ⟨.hbm, 47, rfl⟩
abbrev main_v35 : Ref sig .tc := ⟨.hbm, 48, rfl⟩
abbrev main_cst_0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_1 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_2 : Ref sig .tc := ⟨.hbm, 60, rfl⟩
abbrev main_v45 : Ref sig .tc := ⟨.hbm, 61, rfl⟩
abbrev main_v46 : Ref sig .tc := ⟨.hbm, 62, rfl⟩
abbrev main_cst_3 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== FactK.lean ====
abbrev S4096x5632 : Shape := ⟨2, ![4096, 5632]⟩
abbrev S3x5632 : Shape := ⟨2, ![3, 5632]⟩
abbrev S4096x2816 : Shape := ⟨2, ![4096, 2816]⟩
abbrev S256x5632 : Shape := ⟨2, ![256, 5632]⟩
abbrev S8x5632 : Shape := ⟨2, ![8, 5632]⟩
abbrev S256x2816 : Shape := ⟨2, ![256, 2816]⟩
abbrev S256x128 : Shape := ⟨2, ![256, 128]⟩
abbrev S8x128 : Shape := ⟨2, ![8, 128]⟩
abbrev S264x128 : Shape := ⟨2, ![264, 128]⟩
abbrev S1x128 : Shape := ⟨2, ![1, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S4096x2816, .bf16⟩
  | .local _ .vmem, ⟨0, _⟩ => ⟨S256x5632, .f32⟩
  | .local _ .vmem, ⟨1, _⟩ => ⟨S256x5632, .f32⟩
  | .local _ .vmem, ⟨2, _⟩ => ⟨S8x5632, .f32⟩
  | .local _ .vmem, ⟨3, _⟩ => ⟨S8x5632, .f32⟩
  | .local _ .vmem, ⟨4, _⟩ => ⟨S3x5632, .f32⟩
  | .local _ .vmem, ⟨5, _⟩ => ⟨S256x2816, .bf16⟩
  | .local _ .vmem, ⟨6, _⟩ => ⟨S256x2816, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FactRIdeal.lean ====
abbrev S4096x5632 : Shape := ⟨2, ![4096, 5632]⟩
abbrev S3x5632 : Shape := ⟨2, ![3, 5632]⟩
abbrev S_ : Shape := ⟨0, ![]⟩
abbrev S4098x5632 : Shape := ⟨2, ![4098, 5632]⟩
abbrev S1x5632 : Shape := ⟨2, ![1, 5632]⟩
abbrev S5632 : Shape := ⟨1, ![5632]⟩
abbrev S4096x2816 : Shape := ⟨2, ![4096, 2816]⟩

abbrev nBuf : Space → Nat
  | .hbm => 38
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S_, .i32⟩
  | .hbm, ⟨3, _⟩ => ⟨S_, .f32⟩
  | .hbm, ⟨4, _⟩ => ⟨S4098x5632, .f32⟩
  | .hbm, ⟨5, _⟩ => ⟨S4096x5632, .f32⟩
  | .hbm, ⟨6, _⟩ => ⟨S1x5632, .f32⟩
  | .hbm, ⟨7, _⟩ => ⟨S5632, .f32⟩
  | .hbm, ⟨8, _⟩ => ⟨S1x5632, .f32⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S1x5632, .f32⟩
  | .hbm, ⟨13, _⟩ => ⟨S5632, .f32⟩
  | .hbm, ⟨14, _⟩ => ⟨S1x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S1x5632, .f32⟩
  | .hbm, ⟨20, _⟩ => ⟨S5632, .f32⟩
  | .hbm, ⟨21, _⟩ => ⟨S1x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== GdnK.lean ====
abbrev S4096x512 : Shape := ⟨2, ![4096, 512]⟩
abbrev S4096x256 : Shape := ⟨2, ![4096, 256]⟩
abbrev S32x4x128x128 : Shape := ⟨4, ![32, 4, 128, 128]⟩
abbrev S512x512 : Shape := ⟨2, ![512, 512]⟩
abbrev S512x256 : Shape := ⟨2, ![512, 256]⟩
abbrev S4x4x128x128 : Shape := ⟨4, ![4, 4, 128, 128]⟩
abbrev S4x128x128 : Shape := ⟨3, ![4, 128, 128]⟩
abbrev S128x512 : Shape := ⟨2, ![128, 512]⟩
abbrev S128x256 : Shape := ⟨2, ![128, 256]⟩
abbrev S1x4x128x128 : Shape := ⟨4, ![1, 4, 128, 128]⟩
abbrev S256x1024 : Shape := ⟨2, ![256, 1024]⟩
abbrev S128x1024 : Shape := ⟨2, ![128, 1024]⟩
abbrev S128x128 : Shape := ⟨2, ![128, 128]⟩
abbrev S1x128x128 : Shape := ⟨3, ![1, 128, 128]⟩
abbrev S4x128 : Shape := ⟨2, ![4, 128]⟩
abbrev S4x1x128 : Shape := ⟨3, ![4, 1, 128]⟩
abbrev S4x256x128 : Shape := ⟨3, ![4, 256, 128]⟩
abbrev S4x128x256 : Shape := ⟨3, ![4, 128, 256]⟩
abbrev S3x128x128 : Shape := ⟨3, ![3, 128, 128]⟩
abbrev S2x128x128 : Shape := ⟨3, ![2, 128, 128]⟩
abbrev S128x384 : Shape := ⟨2, ![128, 384]⟩

abbrev nBuf : Space → Nat
  | .hbm => 11
  | .vmem => 23
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x256, .f32⟩
  | .hbm, ⟨4, _⟩ => ⟨S4096x512, .f32⟩
  | .hbm, ⟨5, _⟩ => ⟨S32x4x128x128, .f32⟩
  | .hbm, ⟨6, _⟩ => ⟨S32x4x128x128, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x256, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S512x512, .f32⟩
  | .local _ .vmem, ⟨9, _⟩ => ⟨S512x512, .f32⟩
  | .local _ .vmem, ⟨10, _⟩ => ⟨S4x4x128x128, .f32⟩
  | .local _ .vmem, ⟨11, _⟩ => ⟨S4x4x128x128, .f32⟩
  | .local _ .vmem, ⟨12, _⟩ => ⟨S4x4x128x128, .f32⟩
  | .local _ .vmem, ⟨13, _⟩ => ⟨S4x4x128x128, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x256, .f32⟩
  | .local _ .vmem, ⟨21, _⟩ => ⟨S512x256, .f32⟩
  | .local _ .vmem, ⟨22, _⟩ => ⟨S4x128x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== DybK.lean ====
abbrev S4096x1024 : Shape := ⟨2, ![4096, 1024]⟩
abbrev S512x1024 : Shape := ⟨2, ![512, 1024]⟩
abbrev S4096x512 : Shape := ⟨2, ![4096, 512]⟩
abbrev S128 : Shape := ⟨1, ![128]⟩
abbrev S1x128 : Shape := ⟨2, ![1, 128]⟩
abbrev S1x1x1x128 : Shape := ⟨4, ![1, 1, 1, 128]⟩
abbrev S1x1x4x128 : Shape := ⟨4, ![1, 1, 4, 128]⟩
abbrev S1x512 : Shape := ⟨2, ![1, 512]⟩
abbrev S1024x512 : Shape := ⟨2, ![1024, 512]⟩
abbrev S512x512 : Shape := ⟨2, ![512, 512]⟩
abbrev S512 : Shape := ⟨1, ![512]⟩

abbrev nBuf : Space → Nat
  | .hbm => 13
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .f32⟩
  | .hbm, ⟨3, _⟩ => ⟨S4096x512, .f32⟩
  | .hbm, ⟨4, _⟩ => ⟨S128, .f32⟩
  | .hbm, ⟨5, _⟩ => ⟨S1x128, .f32⟩
  | .hbm, ⟨6, _⟩ => ⟨S1x1x1x128, .f32⟩
  | .hbm, ⟨7, _⟩ => ⟨S1x1x4x128, .f32⟩
  | .hbm, ⟨8, _⟩ => ⟨S1x512, .f32⟩
  | .hbm, ⟨9, _⟩ => ⟨S1024x512, .bf16⟩
  | .hbm, ⟨10, _⟩ => ⟨S4096x512, .f32⟩
  | .hbm, ⟨11, _⟩ => ⟨S4096x512, .bf16⟩
  | .hbm, ⟨12, _⟩ => ⟨S1x512, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S1x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DybRIdeal.lean ====
abbrev S4096x1024 : Shape := ⟨2, ![4096, 1024]⟩
abbrev S512x1024 : Shape := ⟨2, ![512, 1024]⟩
abbrev S4096x512 : Shape := ⟨2, ![4096, 512]⟩
abbrev S128 : Shape := ⟨1, ![128]⟩
abbrev S1024x512 : Shape := ⟨2, ![1024, 512]⟩
abbrev S1x128 : Shape := ⟨2, ![1, 128]⟩
abbrev S4x128 : Shape := ⟨2, ![4, 128]⟩
abbrev S512 : Shape := ⟨1, ![512]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x4x128 : Shape := ⟨3, ![1, 4, 128]⟩
abbrev S1x512 : Shape := ⟨2, ![1, 512]⟩

abbrev nBuf : Space → Nat
  | .hbm => 87
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .f32⟩
  | .hbm, ⟨3, _⟩ => ⟨S4096x512, .f32⟩
  | .hbm, ⟨4, _⟩ => ⟨S128, .f32⟩
  | .hbm, ⟨5, _⟩ => ⟨S4096x1024, .f32⟩
  | .hbm, ⟨6, _⟩ => ⟨S512x1024, .f32⟩
  | .hbm, ⟨7, _⟩ => ⟨S1024x512, .f32⟩
  | .hbm, ⟨8, _⟩ => ⟨S4096x512, .f32⟩
  | .hbm, ⟨9, _⟩ => ⟨S1x128, .f32⟩
  | .hbm, ⟨10, _⟩ => ⟨S4x128, .f32⟩
  | .hbm, ⟨11, _⟩ => ⟨S512, .f32⟩
  | .hbm, ⟨12, _⟩ => ⟨S4096x4x128, .f32⟩
  | .hbm, ⟨13, _⟩ => ⟨S4096x4x128, .f32⟩
  | .hbm, ⟨14, _⟩ => ⟨S4096x4x128, .f32⟩
  | .hbm, ⟨15, _⟩ => ⟨S_, .f32⟩
  | .hbm, ⟨16, _⟩ => ⟨S4096x4, .f32⟩
  | .hbm, ⟨17, _⟩ => ⟨S4096x4x1, .f32⟩
  | .hbm, ⟨18, _⟩ => ⟨S_, .f32⟩
  | .hbm, ⟨19, _⟩ => ⟨S4096x4x1, .f32⟩
  | .hbm, ⟨20, _⟩ => ⟨S4096x4x1, .f32⟩
  | .hbm, ⟨21, _⟩ => ⟨S_, .f32⟩
  | .hbm, ⟨22, _⟩ => ⟨S4096x4x1, .f32⟩
  | .hbm, ⟨23, _⟩ => ⟨S4096x4x1, .f32⟩
  | .hbm, ⟨24, _⟩ => ⟨S4096x4x1, .f32⟩
  | .hbm, ⟨25, _⟩ => ⟨S4096x4x1, .f32⟩
  | .hbm, ⟨26, _⟩ => ⟨S_, .f32⟩
  | .hbm, ⟨27, _⟩ => ⟨S4096x4x1, .f32⟩
  | .hbm, ⟨28, _⟩ => ⟨S4096x4x1, .f32⟩
  | .hbm, ⟨29, _⟩ => ⟨S4096x4x128, .f32⟩
  | .hbm, ⟨30, _⟩ => ⟨S4096x4x128, .f32⟩
  | .hbm, ⟨31, _⟩ => ⟨S4x128, .f32⟩
  | .hbm, ⟨32, _⟩ => ⟨S1x4x128, .f32⟩
  | .hbm, ⟨33, _⟩ => ⟨S4096x4x128, .f32⟩
  | .hbm, ⟨34, _⟩ => ⟨S4096x4x128, .f32⟩
  | .hbm, ⟨35, _⟩ => ⟨S4096x4x128, .f32⟩
  | .hbm, ⟨36, _⟩ => ⟨S4096x4x128, .f32⟩
  | .hbm, ⟨37, _⟩ => ⟨S_, .f32⟩
  | .hbm, ⟨38, _⟩ => ⟨S4096x4x128, .f32⟩
  | .hbm, ⟨39, _⟩ => ⟨S4096x4x128, .f32⟩
  | .hbm, ⟨40, _⟩ => ⟨S_, .f32⟩
  | .hbm, ⟨41, _⟩ => ⟨S4096x4x128, .f32⟩
  | .hbm, ⟨42, _⟩ => ⟨S4096x4x128, .f32⟩
  | .hbm, ⟨43, _⟩ => ⟨S_, .f32⟩
  | .hbm, ⟨44, _⟩ => ⟨S4096x4x128, .f32⟩
  | .hbm, ⟨45, _⟩ => ⟨S4096x4x128, .f32⟩
  | .hbm, ⟨46, _⟩ => ⟨S4096x4x128, .f32⟩
  | .hbm, ⟨47, _⟩ => ⟨S4096x4x128, .f32⟩
  | .hbm, ⟨48, _⟩ => ⟨S4096x4x128, .f32⟩
  | .hbm, ⟨49, _⟩ => ⟨S4096x512, .f32⟩
  | .hbm, ⟨50, _⟩ => ⟨S4096x4x128, .f32⟩
  | .hbm, ⟨51, _⟩ => ⟨S4096x4x128, .f32⟩
  | .hbm, ⟨52, _⟩ => ⟨S4096x4x128, .f32⟩
  | .hbm, ⟨53, _⟩ => ⟨S4096x4x128, .f32⟩
  | .hbm, ⟨54, _⟩ => ⟨S4096x4x128, .f32⟩
  | .hbm, ⟨55, _⟩ => ⟨S4096x4x128, .f32⟩
  | .hbm, ⟨56, _⟩ => ⟨S4096x4x128, .f32⟩
  | .hbm, ⟨57, _⟩ => ⟨S4096x4x128, .f32⟩
  | .hbm, ⟨58, _⟩ => ⟨S_, .f32⟩
  | .hbm, ⟨59, _⟩ => ⟨S4x128, .f32⟩
  | .hbm, ⟨60, _⟩ => ⟨S1x4x128, .f32⟩
  | .hbm, ⟨61, _⟩ => ⟨S4096x4x128, .f32⟩
  | .hbm, ⟨62, _⟩ => ⟨S4096x4x128, .f32⟩
  | .hbm, ⟨63, _⟩ => ⟨S_, .f32⟩
  | .hbm, ⟨64, _⟩ => ⟨S4x128, .f32⟩
  | .hbm, ⟨65, _⟩ => ⟨S512, .f32⟩
  | .hbm, ⟨66, _⟩ => ⟨S4096x4x128, .f32⟩
  | .hbm, ⟨67, _⟩ => ⟨S_, .f32⟩
  | .hbm, ⟨68, _⟩ => ⟨S4096x4, .f32⟩
  | .hbm, ⟨69, _⟩ => ⟨S4096x4x1, .f32⟩
  | .hbm, ⟨70, _⟩ => ⟨S4096x4x128, .f32⟩
  | .hbm, ⟨71, _⟩ => ⟨S4096x4x128, .f32⟩
  | .hbm, ⟨72, _⟩ => ⟨S4096x4x1, .f32⟩
  | .hbm, ⟨73, _⟩ => ⟨S_, .f32⟩
  | .hbm, ⟨74, _⟩ => ⟨S4096x4x1, .f32⟩
  | .hbm, ⟨75, _⟩ => ⟨S4096x4x1, .f32⟩
  | .hbm, ⟨76, _⟩ => ⟨S_, .f32⟩
  | .hbm, ⟨77, _⟩ => ⟨S4096x4, .f32⟩
  | .hbm, ⟨78, _⟩ => ⟨S4096x4x128, .f32⟩
  | .hbm, ⟨79, _⟩ => ⟨S4096x4x128, .f32⟩
  | .hbm, ⟨80, _⟩ => ⟨S4096x4x128, .f32⟩
  | .hbm, ⟨81, _⟩ => ⟨S4096x4x128, .f32⟩
  | .hbm, ⟨82, _⟩ => ⟨S4096x4x128, .f32⟩
  | .hbm, ⟨83, _⟩ => ⟨S4096x512, .f32⟩
  | .hbm, ⟨84, _⟩ => ⟨S4096x512, .f32⟩
  | .hbm, ⟨85, _⟩ => ⟨S4096x512, .bf16⟩
  | .hbm, ⟨86, _⟩ => ⟨S1x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v26_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v26_1 : Ref sig .tc := ⟨.hbm, 46, rfl⟩
abbrev main_v26_0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v32 : Ref sig .tc := ⟨.hbm, 56, rfl⟩
abbrev main_v33 : Ref sig .tc := ⟨.hbm, 57, rfl⟩
abbrev main_cst_3 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_4 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_5 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_6 : Ref sig .tc := ⟨.hbm, 73, rfl⟩
abbrev main_v46 : Ref sig .tc := ⟨.hbm, 74, rfl⟩
abbrev main_v47 : Ref sig .tc := ⟨.hbm, 75, rfl⟩
abbrev main_cst_7 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩

abbrev nD : Nat := 1
abbrev τ : Topo := Topo.v7x

variable {F : FTy → Type} [FloatOps F]
-- ==== DyaK.lean ====
abbrev S4096x1024 : Shape := ⟨2, ![4096, 1024]⟩
abbrev S512x1024 : Shape := ⟨2, ![512, 1024]⟩
abbrev S4096x512 : Shape := ⟨2, ![4096, 512]⟩
abbrev S512 : Shape := ⟨1, ![512]⟩
abbrev S8x64 : Shape := ⟨2, ![8, 64]⟩
abbrev S1x512 : Shape := ⟨2, ![1, 512]⟩
abbrev S1024x512 : Shape := ⟨2, ![1024, 512]⟩
abbrev S512x512 : Shape := ⟨2, ![512, 512]⟩

abbrev nBuf : Space → Nat
  | .hbm => 22
  | .vmem => 29
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S512, .f32⟩
  | .hbm, ⟨8, _⟩ => ⟨S512, .f32⟩
  | .hbm, ⟨9, _⟩ => ⟨S8x64, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1024x512, .bf16⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S1x512, .f32⟩
  | .hbm, ⟨20, _⟩ => ⟨S1x512, .f32⟩
  | .hbm, ⟨21, _⟩ => ⟨S1x512, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev main_v4_6 : Ref sig .tc := ⟨.hbm, 20, rfl⟩
abbrev main_v4_7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== DyaRIdeal.lean ====
abbrev S4096x1024 : Shape := ⟨2, ![4096, 1024]⟩
abbrev S512x1024 : Shape := ⟨2, ![512, 1024]⟩
abbrev S4096x512 : Shape := ⟨2, ![4096, 512]⟩
abbrev S512 : Shape := ⟨1, ![512]⟩
abbrev S8x64 : Shape := ⟨2, ![8, 64]⟩
abbrev S1024x512 : Shape := ⟨2, ![1024, 512]⟩
abbrev S4096x8x64 : Shape := ⟨3, ![4096, 8, 64]⟩
abbrev S_ : Shape := ⟨0, ![]⟩
abbrev S4096x8 : Shape := ⟨2, ![4096, 8]⟩
abbrev S4096x8x1 : Shape := ⟨3, ![4096, 8, 1]⟩
abbrev S1x8x64 : Shape := ⟨3, ![1, 8, 64]⟩
abbrev S1x512 : Shape := ⟨2, ![1, 512]⟩

abbrev nBuf : Space → Nat
  | .hbm => 143
  | .vmem => 0
  | .smem => 0
  | _ => 0

abbrev hbmTy0_0 (i : Nat) : BufTy := match i % 128 with
  | 0 => ⟨S4096x1024, .bf16⟩
  | 1 => ⟨S512x1024, .bf16⟩
  | 2 => ⟨S4096x512, .f32⟩
  | 3 => ⟨S4096x512, .f32⟩
  | 4 => ⟨S4096x512, .f32⟩
  | 5 => ⟨S4096x512, .f32⟩
  | 6 => ⟨S4096x512, .f32⟩
  | 7 => ⟨S512, .f32⟩
  | 8 => ⟨S512, .f32⟩
  | 9 => ⟨S8x64, .f32⟩
  | 10 => ⟨S4096x1024, .f32⟩
  | 11 => ⟨S512x1024, .f32⟩
  | 12 => ⟨S1024x512, .f32⟩
  | 13 => ⟨S4096x512, .f32⟩
  | 14 => ⟨S4096x8x64, .f32⟩
  | 15 => ⟨S4096x8x64, .f32⟩
  | 16 => ⟨S4096x8x64, .f32⟩
  | 17 => ⟨S4096x8x64, .f32⟩
  | 18 => ⟨S_, .f32⟩
  | 19 => ⟨S4096x8, .f32⟩
  | 20 => ⟨S4096x8x1, .f32⟩
  | 21 => ⟨S_, .f32⟩
  | 22 => ⟨S4096x8x1, .f32⟩
  | 23 => ⟨S4096x8x1, .f32⟩
  | 24 => ⟨S4096x8x64, .f32⟩
  | 25 => ⟨S4096x8x64, .f32⟩
  | 26 => ⟨S4096x8x64, .f32⟩
  | 27 => ⟨S_, .f32⟩
  | 28 => ⟨S4096x8x64, .f32⟩
  | 29 => ⟨S4096x8x64, .f32⟩
  | 30 => ⟨S_, .f32⟩
  | 31 => ⟨S4096x8, .f32⟩
  | 32 => ⟨S4096x8x1, .f32⟩
  | 33 => ⟨S_, .f32⟩
  | 34 => ⟨S4096x8x1, .f32⟩
  | 35 => ⟨S4096x8x1, .f32⟩
  | 36 => ⟨S4096x8x64, .f32⟩
  | 37 => ⟨S4096x8x64, .f32⟩
  | 38 => ⟨S_, .f32⟩
  | 39 => ⟨S4096x8x1, .f32⟩
  | 40 => ⟨S4096x8x1, .f32⟩
  | 41 => ⟨S4096x8x1, .f32⟩
  | 42 => ⟨S4096x8x1, .f32⟩
  | 43 => ⟨S_, .f32⟩
  | 44 => ⟨S4096x8x1, .f32⟩
  | 45 => ⟨S4096x8x1, .f32⟩
  | 46 => ⟨S4096x8x64, .f32⟩
  | 47 => ⟨S4096x8x64, .f32⟩
  | 48 => ⟨S8x64, .f32⟩
  | 49 => ⟨S1x8x64, .f32⟩
  | 50 => ⟨S4096x8x64, .f32⟩
  | 51 => ⟨S4096x8x64, .f32⟩
  | 52 => ⟨S8x64, .f32⟩
  | 53 => ⟨S1x8x64, .f32⟩
  | 54 => ⟨S4096x8x64, .f32⟩
  | 55 => ⟨S4096x8x64, .f32⟩
  | 56 => ⟨S4096x8x64, .f32⟩
  | 57 => ⟨S1x8x64, .f32⟩
  | 58 => ⟨S4096x8x64, .f32⟩
  | 59 => ⟨S4096x8x64, .f32⟩
  | 60 => ⟨S_, .f32⟩
  | 61 => ⟨S4096x8, .f32⟩
  | 62 => ⟨S4096x8x1, .f32⟩
  | 63 => ⟨S4096x8x64, .f32⟩
  | 64 => ⟨S4096x8x64, .f32⟩
  | 65 => ⟨S4096x8x64, .f32⟩
  | 66 => ⟨S4096x512, .f32⟩
  | 67 => ⟨S4096x512, .f32⟩
  | 68 => ⟨S4096x512, .f32⟩
  | 69 => ⟨S4096x512, .f32⟩
  | 70 => ⟨S4096x8x64, .f32⟩
  | 71 => ⟨S4096x8x64, .f32⟩
  | 72 => ⟨S4096x8x64, .f32⟩
  | 73 => ⟨S4096x8x64, .f32⟩
  | 74 => ⟨S_, .f32⟩
  | 75 => ⟨S4096x8, .f32⟩
  | 76 => ⟨S4096x8x1, .f32⟩
  | 77 => ⟨S_, .f32⟩
  | 78 => ⟨S4096x8, .f32⟩
  | 79 => ⟨S4096x8x64, .f32⟩
  | 80 => ⟨S4096x8x64, .f32⟩
  | 81 => ⟨S_, .f32⟩
  | 82 => ⟨S8x64, .f32⟩
  | 83 => ⟨S1x8x64, .f32⟩
  | 84 => ⟨S4096x8x64, .f32⟩
  | 85 => ⟨S4096x8x64, .f32⟩
  | 86 => ⟨S_, .f32⟩
  | 87 => ⟨S8x64, .f32⟩
  | 88 => ⟨S4096x8x64, .f32⟩
  | 89 => ⟨S4096x8x64, .f32⟩
  | 90 => ⟨S_, .f32⟩
  | 91 => ⟨S8x64, .f32⟩
  | 92 => ⟨S1x8x64, .f32⟩
  | 93 => ⟨S_, .f32⟩
  | 94 => ⟨S8x64, .f32⟩
  | 95 => ⟨S512, .f32⟩
  | 96 => ⟨S4096x8x64, .f32⟩
  | 97 => ⟨S_, .f32⟩
  | 98 => ⟨S8x64, .f32⟩
  | 99 => ⟨S1x8x64, .f32⟩
  | 100 => ⟨S4096x8x64, .f32⟩
  | 101 => ⟨S4096x8x64, .f32⟩
  | 102 => ⟨S_, .f32⟩
  | 103 => ⟨S8x64, .f32⟩
  | 104 => ⟨S512, .f32⟩
  | 105 => ⟨S4096x8x64, .f32⟩
  | 106 => ⟨S_, .f32⟩
  | 107 => ⟨S4096x8, .f32⟩
  | 108 => ⟨S4096x8x1, .f32⟩
  | 109 => ⟨S4096x8x64, .f32⟩
  | 110 => ⟨S4096x8x64, .f32⟩
  | 111 => ⟨S4096x8x1, .f32⟩
  | 112 => ⟨S4096x8x64, .f32⟩
  | 113 => ⟨S_, .f32⟩
  | 114 => ⟨S4096x8, .f32⟩
  | 115 => ⟨S4096x8x1, .f32⟩
  | 116 => ⟨S_, .f32⟩
  | 117 => ⟨S4096x8x1, .f32⟩
  | 118 => ⟨S4096x8x1, .f32⟩
  | 119 => ⟨S_, .f32⟩
  | 120 => ⟨S4096x8, .f32⟩
  | 121 => ⟨S4096x8x64, .f32⟩
  | 122 => ⟨S4096x8x64, .f32⟩
  | 123 => ⟨S4096x8x64, .f32⟩
  | 124 => ⟨S_, .f32⟩
  | 125 => ⟨S4096x8, .f32⟩
  | 126 => ⟨S4096x8x1, .f32⟩
  | 127 => ⟨S4096x8x64, .f32⟩
  | _ => ⟨S4096x1024, .bf16⟩

abbrev hbmTy0_1 (i : Nat) : BufTy := match i % 128 with
  | 0 => ⟨S4096x8x1, .f32⟩
  | 1 => ⟨S_, .f32⟩
  | 2 => ⟨S4096x8x1, .f32⟩
  | 3 => ⟨S4096x8x1, .f32⟩
  | 4 => ⟨S_, .f32⟩
  | 5 => ⟨S4096x8, .f32⟩
  | 6 => ⟨S4096x8x64, .f32⟩
  | 7 => ⟨S4096x8x64, .f32⟩
  | 8 => ⟨S4096x512, .f32⟩
  | 9 => ⟨S4096x512, .f32⟩
  | 10 => ⟨S4096x512, .f32⟩
  | 11 => ⟨S4096x512, .f32⟩
  | 12 => ⟨S1x512, .f32⟩
  | 13 => ⟨S1x512, .f32⟩
  | 14 => ⟨S1x512, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_7 : Ref sig .tc := ⟨.hbm, 74, rfl⟩
abbrev main_v56 : Ref sig .tc := ⟨.hbm, 75, rfl⟩
abbrev main_v57 : Ref sig .tc := ⟨.hbm, 76, rfl⟩
abbrev main_cst_8 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_10 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_11 : Ref sig .tc := ⟨.hbm, 90, rfl⟩
abbrev main_v68 : Ref sig .tc := ⟨.hbm, 91, rfl⟩
abbrev main_v69 : Ref sig .tc := ⟨.hbm, 92, rfl⟩
abbrev main_cst_12 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_13 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_14 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_15 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_16 : Ref sig .tc := ⟨.hbm, 113, rfl⟩
abbrev main_v86 : Ref sig .tc := ⟨.hbm, 114, rfl⟩
abbrev main_v87 : Ref sig .tc := ⟨.hbm, 115, rfl⟩
abbrev main_cst_17 : Ref sig .tc := ⟨.hbm, 116, rfl⟩
abbrev main_v88 : Ref sig .tc := ⟨.hbm, 117, rfl⟩
abbrev main_v89 : Ref sig .tc := ⟨.hbm, 118, rfl⟩
abbrev main_cst_18 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_19 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_20 : Ref sig .tc := ⟨.hbm, 129, rfl⟩
abbrev main_v98 : Ref sig .tc := ⟨.hbm, 130, rfl⟩
abbrev main_v99 : Ref sig .tc := ⟨.hbm, 131, rfl⟩
abbrev main_cst_21 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩

abbrev nD : Nat := 1
abbrev τ : Topo := Topo.v7x

variable {F : FTy → Type} [FloatOps F]
-- ==== RprojK.lean ====
abbrev S4096x512 : Shape := ⟨2, ![4096, 512]⟩
abbrev S512 : Shape := ⟨1, ![512]⟩
abbrev S8x64 : Shape := ⟨2, ![8, 64]⟩
abbrev S512x1024 : Shape := ⟨2, ![512, 1024]⟩
abbrev S1x512 : Shape := ⟨2, ![1, 512]⟩
abbrev S4096x1024 : Shape := ⟨2, ![4096, 1024]⟩
abbrev S512x512 : Shape := ⟨2, ![512, 512]⟩

abbrev nBuf : Space → Nat
  | .hbm => 14
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S512, .f32⟩
  | .hbm, ⟨6, _⟩ => ⟨S512, .f32⟩
  | .hbm, ⟨7, _⟩ => ⟨S8x64, .f32⟩
  | .hbm, ⟨8, _⟩ => ⟨S512x1024, .bf16⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S4096x512, .bf16⟩
  | .hbm, ⟨13, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S512x1024, .bf16⟩
  | .local _ .vmem, ⟨14, _⟩ => ⟨S512x512, .bf16⟩
  | .local _ .vmem, ⟨15, _⟩ => ⟨S512x512, .bf16⟩
  | .local _ .vmem, ⟨16, _⟩ => ⟨S512x1024, .f32⟩
  | .local _ .vmem, ⟨17, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RprojRIdeal.lean ====
abbrev S4096x512 : Shape := ⟨2, ![4096, 512]⟩
abbrev S512 : Shape := ⟨1, ![512]⟩
abbrev S8x64 : Shape := ⟨2, ![8, 64]⟩
abbrev S512x1024 : Shape := ⟨2, ![512, 1024]⟩
abbrev S4096x8x64 : Shape := ⟨3, ![4096, 8, 64]⟩
abbrev S_ : Shape := ⟨0, ![]⟩
abbrev S4096x8 : Shape := ⟨2, ![4096, 8]⟩
abbrev S4096x8x1 : Shape := ⟨3, ![4096, 8, 1]⟩
abbrev S1x8x64 : Shape := ⟨3, ![1, 8, 64]⟩
abbrev S4096x1024 : Shape := ⟨2, ![4096, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S512, .f32⟩
  | .hbm, ⟨6, _⟩ => ⟨S512, .f32⟩
  | .hbm, ⟨7, _⟩ => ⟨S8x64, .f32⟩
  | .hbm, ⟨8, _⟩ => ⟨S512x1024, .bf16⟩
  | .hbm, ⟨9, _⟩ => ⟨S4096x8x64, .f32⟩
  | .hbm, ⟨10, _⟩ => ⟨S4096x8x64, .f32⟩
  | .hbm, ⟨11, _⟩ => ⟨S4096x8x64, .f32⟩
  | .hbm, ⟨12, _⟩ => ⟨S4096x8x64, .f32⟩
  | .hbm, ⟨13, _⟩ => ⟨S_, .f32⟩
  | .hbm, ⟨14, _⟩ => ⟨S4096x8, .f32⟩
  | .hbm, ⟨15, _⟩ => ⟨S4096x8x1, .f32⟩
  | .hbm, ⟨16, _⟩ => ⟨S_, .f32⟩
  | .hbm, ⟨17, _⟩ => ⟨S4096x8x1, .f32⟩
  | .hbm, ⟨18, _⟩ => ⟨S4096x8x1, .f32⟩
  | .hbm, ⟨19, _⟩ => ⟨S4096x8x64, .f32⟩
  | .hbm, ⟨20, _⟩ => ⟨S4096x8x64, .f32⟩
  | .hbm, ⟨21, _⟩ => ⟨S4096x8x64, .f32⟩
  | .hbm, ⟨22, _⟩ => ⟨S_, .f32⟩
  | .hbm, ⟨23, _⟩ => ⟨S4096x8, .f32⟩
  | .hbm, ⟨24, _⟩ => ⟨S4096x8x1, .f32⟩
  | .hbm, ⟨25, _⟩ => ⟨S_, .f32⟩
  | .hbm, ⟨26, _⟩ => ⟨S4096x8x1, .f32⟩
  | .hbm, ⟨27, _⟩ => ⟨S4096x8x1, .f32⟩
  | .hbm, ⟨28, _⟩ => ⟨S4096x8x64, .f32⟩
  | .hbm, ⟨29, _⟩ => ⟨S4096x8x64, .f32⟩
  | .hbm, ⟨30, _⟩ => ⟨S_, .f32⟩
  | .hbm, ⟨31, _⟩ => ⟨S4096x8x1, .f32⟩
  | .hbm, ⟨32, _⟩ => ⟨S4096x8x1, .f32⟩
  | .hbm, ⟨33, _⟩ => ⟨S4096x8x1, .f32⟩
  | .hbm, ⟨34, _⟩ => ⟨S4096x8x64, .f32⟩
  | .hbm, ⟨35, _⟩ => ⟨S4096x8x64, .f32⟩
  | .hbm, ⟨36, _⟩ => ⟨S8x64, .f32⟩
  | .hbm, ⟨37, _⟩ => ⟨S1x8x64, .f32⟩
  | .hbm, ⟨38, _⟩ => ⟨S4096x8x64, .f32⟩
  | .hbm, ⟨39, _⟩ => ⟨S4096x8x64, .f32⟩
  | .hbm, ⟨40, _⟩ => ⟨S8x64, .f32⟩
  | .hbm, ⟨41, _⟩ => ⟨S1x8x64, .f32⟩
  | .hbm, ⟨42, _⟩ => ⟨S4096x8x64, .f32⟩
  | .hbm, ⟨43, _⟩ => ⟨S4096x8x64, .f32⟩
  | .hbm, ⟨44, _⟩ => ⟨S4096x8x64, .f32⟩
  | .hbm, ⟨45, _⟩ => ⟨S1x8x64, .f32⟩
  | .hbm, ⟨46, _⟩ => ⟨S4096x8x64, .f32⟩
  | .hbm, ⟨47, _⟩ => ⟨S4096x8x64, .f32⟩
  | .hbm, ⟨48, _⟩ => ⟨S_, .f32⟩
  | .hbm, ⟨49, _⟩ => ⟨S4096x8, .f32⟩
  | .hbm, ⟨50, _⟩ => ⟨S4096x8x1, .f32⟩
  | .hbm, ⟨51, _⟩ => ⟨S4096x8x64, .f32⟩
  | .hbm, ⟨52, _⟩ => ⟨S4096x8x64, .f32⟩
  | .hbm, ⟨53, _⟩ => ⟨S4096x8x64, .f32⟩
  | .hbm, ⟨54, _⟩ => ⟨S4096x512, .f32⟩
  | .hbm, ⟨55, _⟩ => ⟨S4096x512, .f32⟩
  | .hbm, ⟨56, _⟩ => ⟨S4096x512, .bf16⟩
  | .hbm, ⟨57, _⟩ => ⟨S512x1024, .f32⟩
  | .hbm, ⟨58, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== DprojK.lean ====
abbrev S4096x512 : Shape := ⟨2, ![4096, 512]⟩
abbrev S128 : Shape := ⟨1, ![128]⟩
abbrev S512x1024 : Shape := ⟨2, ![512, 1024]⟩
abbrev S4096x2048 : Shape := ⟨2, ![4096, 2048]⟩
abbrev S4096x1024 : Shape := ⟨2, ![4096, 1024]⟩
abbrev S1x128 : Shape := ⟨2, ![1, 128]⟩
abbrev S1x1x1x128 : Shape := ⟨4, ![1, 1, 1, 128]⟩
abbrev S1x1x4x128 : Shape := ⟨4, ![1, 1, 4, 128]⟩
abbrev S1x512 : Shape := ⟨2, ![1, 512]⟩
abbrev S512x512 : Shape := ⟨2, ![512, 512]⟩

abbrev nBuf : Space → Nat
  | .hbm => 13
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S128, .f32⟩
  | .hbm, ⟨3, _⟩ => ⟨S512x1024, .bf16⟩
  | .hbm, ⟨4, _⟩ => ⟨S4096x2048, .f32⟩
  | .hbm, ⟨5, _⟩ => ⟨S4096x1024, .f32⟩
  | .hbm, ⟨6, _⟩ => ⟨S1x128, .f32⟩
  | .hbm, ⟨7, _⟩ => ⟨S1x1x1x128, .f32⟩
  | .hbm, ⟨8, _⟩ => ⟨S1x1x4x128, .f32⟩
  | .hbm, ⟨9, _⟩ => ⟨S1x512, .f32⟩
  | .hbm, ⟨10, _⟩ => ⟨S4096x512, .bf16⟩
  | .hbm, ⟨11, _⟩ => ⟨S4096x1024, .f32⟩
  | .hbm, ⟨12, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x512, .bf16⟩
  | .local _ .vmem, ⟨13, _⟩ => ⟨S512x512, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== DprojRIdeal.lean ====
abbrev S4096x512 : Shape := ⟨2, ![4096, 512]⟩
abbrev S128 : Shape := ⟨1, ![128]⟩
abbrev S512x1024 : Shape := ⟨2, ![512, 1024]⟩
abbrev S4096x2048 : Shape := ⟨2, ![4096, 2048]⟩
abbrev S4096x1024 : Shape := ⟨2, ![4096, 1024]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩

abbrev nBuf : Space → Nat
  | .hbm => 60
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S128, .f32⟩
  | .hbm, ⟨3, _⟩ => ⟨S512x1024, .bf16⟩
  | .hbm, ⟨4, _⟩ => ⟨S4096x2048, .f32⟩
  | .hbm, ⟨5, _⟩ => ⟨S4096x1024, .f32⟩
  | .hbm, ⟨6, _⟩ => ⟨S4096x4x128, .f32⟩
  | .hbm, ⟨7, _⟩ => ⟨S4096x4x128, .f32⟩
  | .hbm, ⟨8, _⟩ => ⟨S4096x4x128, .f32⟩
  | .hbm, ⟨9, _⟩ => ⟨S_, .f32⟩
  | .hbm, ⟨10, _⟩ => ⟨S4096x4, .f32⟩
  | .hbm, ⟨11, _⟩ => ⟨S4096x4x1, .f32⟩
  | .hbm, ⟨12, _⟩ => ⟨S_, .f32⟩
  | .hbm, ⟨13, _⟩ => ⟨S4096x4x1, .f32⟩
  | .hbm, ⟨14, _⟩ => ⟨S4096x4x1, .f32⟩
  | .hbm, ⟨15, _⟩ => ⟨S_, .f32⟩
  | .hbm, ⟨16, _⟩ => ⟨S4096x4x1, .f32⟩
  | .hbm, ⟨17, _⟩ => ⟨S4096x4x1, .f32⟩
  | .hbm, ⟨18, _⟩ => ⟨S4096x4x1, .f32⟩
  | .hbm, ⟨19, _⟩ => ⟨S4096x4x128, .f32⟩
  | .hbm, ⟨20, _⟩ => ⟨S4096x4x128, .f32⟩
  | .hbm, ⟨21, _⟩ => ⟨S1x1x128, .f32⟩
  | .hbm, ⟨22, _⟩ => ⟨S4096x4x128, .f32⟩
  | .hbm, ⟨23, _⟩ => ⟨S4096x4x128, .f32⟩
  | .hbm, ⟨24, _⟩ => ⟨S4096x4x128, .f32⟩
  | .hbm, ⟨25, _⟩ => ⟨S4096x4x128, .f32⟩
  | .hbm, ⟨26, _⟩ => ⟨S_, .f32⟩
  | .hbm, ⟨27, _⟩ => ⟨S4096x4x128, .f32⟩
  | .hbm, ⟨28, _⟩ => ⟨S4096x4x128, .f32⟩
  | .hbm, ⟨29, _⟩ => ⟨S_, .f32⟩
  | .hbm, ⟨30, _⟩ => ⟨S4096x4x128, .f32⟩
  | .hbm, ⟨31, _⟩ => ⟨S4096x4x128, .f32⟩
  | .hbm, ⟨32, _⟩ => ⟨S4096x4x128, .f32⟩
  | .hbm, ⟨33, _⟩ => ⟨S4096x4x128, .f32⟩
  | .hbm, ⟨34, _⟩ => ⟨S4096x512, .f32⟩
  | .hbm, ⟨35, _⟩ => ⟨S512x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x512, .bf16⟩
  | .hbm, ⟨59, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== RmsK.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== BetaK.lean ====
abbrev S4096x256 : Shape := ⟨2, ![4096, 256]⟩
abbrev S4 : Shape := ⟨1, ![4]⟩
abbrev S1x4 : Shape := ⟨2, ![1, 4]⟩
abbrev S_ : Shape := ⟨0, ![]⟩
abbrev S1x256 : Shape := ⟨2, ![1, 256]⟩
abbrev S512x256 : Shape := ⟨2, ![512, 256]⟩

abbrev nBuf : Space → Nat
  | .hbm => 12
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4, .f32⟩
  | .hbm, ⟨2, _⟩ => ⟨S4, .f32⟩
  | .hbm, ⟨3, _⟩ => ⟨S1x4, .f32⟩
  | .hbm, ⟨4, _⟩ => ⟨S_, .i32⟩
  | .hbm, ⟨5, _⟩ => ⟨S_, .f32⟩
  | .hbm, ⟨6, _⟩ => ⟨S1x256, .f32⟩
  | .hbm, ⟨7, _⟩ => ⟨S1x4, .f32⟩
  | .hbm, ⟨8, _⟩ => ⟨S_, .i32⟩
  | .hbm, ⟨9, _⟩ => ⟨S_, .f32⟩
  | .hbm, ⟨10, _⟩ => ⟨S1x256, .f32⟩
  | .hbm, ⟨11, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S1x256, .f32⟩
  | .local _ .vmem, ⟨4, _⟩ => ⟨S512x256, .f32⟩
  | .local _ .vmem, ⟨5, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== BetaRIdeal.lean ====
abbrev S4096x256 : Shape := ⟨2, ![4096, 256]⟩
abbrev S4 : Shape := ⟨1, ![4]⟩
abbrev S4096x4 : Shape := ⟨2, ![4096, 4]⟩
abbrev S1x4 : Shape := ⟨2, ![1, 4]⟩
abbrev S_ : Shape := ⟨0, ![]⟩
abbrev S4096x248 : Shape := ⟨2, ![4096, 248]⟩

abbrev nBuf : Space → Nat
  | .hbm => 38
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4, .f32⟩
  | .hbm, ⟨2, _⟩ => ⟨S4, .f32⟩
  | .hbm, ⟨3, _⟩ => ⟨S4096x4, .f32⟩
  | .hbm, ⟨4, _⟩ => ⟨S4096x4, .f32⟩
  | .hbm, ⟨5, _⟩ => ⟨S4, .f32⟩
  | .hbm, ⟨6, _⟩ => ⟨S4, .f32⟩
  | .hbm, ⟨7, _⟩ => ⟨S1x4, .f32⟩
  | .hbm, ⟨8, _⟩ => ⟨S4096x4, .f32⟩
  | .hbm, ⟨9, _⟩ => ⟨S4096x4, .f32⟩
  | .hbm, ⟨10, _⟩ => ⟨S_, .f32⟩
  | .hbm, ⟨11, _⟩ => ⟨S4096x4, .f32⟩
  | .hbm, ⟨12, _⟩ => ⟨S4096x4, .f32⟩
  | .hbm, ⟨13, _⟩ => ⟨S4096x4, .f32⟩
  | .hbm, ⟨14, _⟩ => ⟨S4096x4, .f32⟩
  | .hbm, ⟨15, _⟩ => ⟨S4096x4, .i1⟩
  | .hbm, ⟨16, _⟩ => ⟨S4096x4, .f32⟩
  | .hbm, ⟨17, _⟩ => ⟨S4096x4, .f32⟩
  | .hbm, ⟨18, _⟩ => ⟨S4096x4, .f32⟩
  | .hbm, ⟨19, _⟩ => ⟨S4096x4, .f32⟩
  | .hbm, ⟨20, _⟩ => ⟨S4096x4, .f32⟩
  | .hbm, ⟨21, _⟩ => ⟨S4096x4, .f32⟩
  | .hbm, ⟨22, _⟩ => ⟨S4096x4, .f32⟩
  | .hbm, ⟨23, _⟩ => ⟨S4096x4, .f32⟩
  | .hbm, ⟨24, _⟩ => ⟨S1x4, .f32⟩
  | .hbm, ⟨25, _⟩ => ⟨S4096x4, .f32⟩
  | .hbm, ⟨26, _⟩ => ⟨S4096x4, .f32⟩
  | .hbm, ⟨27, _⟩ => ⟨S4096x4, .f32⟩
  | .hbm, ⟨28, _⟩ => ⟨S4096x4, .f32⟩
  | .hbm, ⟨29, _⟩ => ⟨S_, .f32⟩
  | .hbm, ⟨30, _⟩ => ⟨S4096x4, .f32⟩
  | .hbm, ⟨31, _⟩ => ⟨S4096x4, .f32⟩
  | .hbm, ⟨32, _⟩ => ⟨S_, .f32⟩
  | .hbm, ⟨33, _⟩ => ⟨S4096x4, .f32⟩
  | .hbm, ⟨34, _⟩ => ⟨S4096x4, .f32⟩
  | .hbm, ⟨35, _⟩ => ⟨S_, .f32⟩
  | .hbm, ⟨36, _⟩ => ⟨S4096x248, .f32⟩
  | .hbm, ⟨37, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]
-- ==== PrepK.lean ====
abbrev S4096x1792 : Shape := ⟨2, ![4096, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S1x1792 : Shape := ⟨2, ![1, 1792]⟩
abbrev S_ : Shape := ⟨0, ![]⟩
abbrev S2x1792 : Shape := ⟨2, ![2, 1792]⟩
abbrev S1x512 : Shape := ⟨2, ![1, 512]⟩
abbrev S4096x512 : Shape := ⟨2, ![4096, 512]⟩
abbrev S256x1792 : Shape := ⟨2, ![256, 1792]⟩
abbrev S8x1792 : Shape := ⟨2, ![8, 1792]⟩
abbrev S256x512 : Shape := ⟨2, ![256, 512]⟩
abbrev S264x1792 : Shape := ⟨2, ![264, 1792]⟩
abbrev S256x128 : Shape := ⟨2, ![256, 128]⟩
abbrev S512x512 : Shape := ⟨2, ![512, 512]⟩

abbrev nBuf : Space → Nat
  | .hbm => 30
  | .vmem => 26
  | .smem => 0
  | _ => 0

abbrev bufTy : (tb : Table) → Fin (tcTables nBuf tb) → BufTy
  | .hbm, ⟨0, _⟩ => ⟨S4096x1792, .f32⟩
  | .hbm, ⟨1, _⟩ => ⟨S1792, .f32⟩
  | .hbm, ⟨2, _⟩ => ⟨S512, .f32⟩
  | .hbm, ⟨3, _⟩ => ⟨S64x512, .f32⟩
  | .hbm, ⟨4, _⟩ => ⟨S512, .f32⟩
  | .hbm, ⟨5, _⟩ => ⟨S64x512, .f32⟩
  | .hbm, ⟨6, _⟩ => ⟨S128x512, .f32⟩
  | .hbm, ⟨7, _⟩ => ⟨S512, .f32⟩
  | .hbm, ⟨8, _⟩ => ⟨S512, .f32⟩
  | .hbm, ⟨9, _⟩ => ⟨S1x1792, .f32⟩
  | .hbm, ⟨10, _⟩ => ⟨S1x1792, .f32⟩
  | .hbm, ⟨11, _⟩ => ⟨S_, .f32⟩
  | .hbm, ⟨12, _⟩ => ⟨S1x1792, .f32⟩
  | .hbm, ⟨13, _⟩ => ⟨S1x1792, .f32⟩
  | .hbm, ⟨14, _⟩ => ⟨S2x1792, .f32⟩
  | .hbm, ⟨15, _⟩ => ⟨S_, .f32⟩
  | .hbm, ⟨16, _⟩ => ⟨S64x512, .f32⟩
  | .hbm, ⟨17, _⟩ => ⟨S128x512, .f32⟩
  | .hbm, ⟨18, _⟩ => ⟨S128x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .local _ .vmem, ⟨0, _⟩ => ⟨S256x1792, .f32⟩
  | .local _ .vmem, ⟨1, _⟩ => ⟨S256x1792, .f32⟩
  | .local _ .vmem, ⟨2, _⟩ => ⟨S8x1792, .f32⟩
  | .local _ .vmem, ⟨3, _⟩ => ⟨S8x1792, .f32⟩
  | .local _ .vmem, ⟨4, _⟩ => ⟨S2x1792, .f32⟩
  | .local _ .vmem, ⟨5, _⟩ => ⟨S1x512, .f32⟩
  | .local _ .vmem, ⟨6, _⟩ => ⟨S128x512, .f32⟩
  | .local _ .vmem, ⟨7, _⟩ => ⟨S1x512, .f32⟩
  | .local _ .vmem, ⟨8, _⟩ => ⟨S128x512, .f32⟩
  | .local _ .vmem, ⟨9, _⟩ => ⟨S128x512, .f32⟩
  | .local _ .vmem, ⟨10, _⟩ => ⟨S1x512, .f32⟩
  | .local _ .vmem, ⟨11, _⟩ => ⟨S1x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | _, _ => ⟨S4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev main_v12_4 : Ref sig .tc := ⟨.hbm, 27, rfl⟩
abbrev main_v12_5 : Ref sig .tc := ⟨.hbm, 28, rfl⟩
abbrev main_v12_6 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== PrepRIdeal.lean ====
abbrev S4096x1792 : Shape := ⟨2, ![4096, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S_ : Shape := ⟨0, ![]⟩
abbrev S4097x1792 : Shape := ⟨2, ![4097, 1792]⟩
abbrev S1x1792 : Shape := ⟨2, ![1, 1792]⟩
abbrev S4096x512 : Shape := ⟨2, ![4096, 512]⟩
abbrev S4096x64 : Shape := ⟨2, ![4096, 64]⟩
abbrev S4096x128 : Shape := ⟨2, ![4096, 128]⟩
abbrev S1x512 : Shape := ⟨2, ![1, 512]⟩
abbrev S4096x8x64 : Shape := ⟨3, ![4096, 8, 64]⟩
abbrev S4096x8 : Shape := ⟨2, ![4096, 8]⟩
abbrev S4096x8x1 : Shape := ⟨3, ![4096, 8, 1]⟩

abbrev nBuf : Space → Nat
  | .hbm => 98
  | .vmem => 0
  | .smem => 0
  | _ => 0

abbrev bufTy : (tb : Table) → Fin (tcTables nBuf tb) → BufTy
  | .hbm, ⟨0, _⟩ => ⟨S4096x1792, .f32⟩
  | .hbm, ⟨1, _⟩ => ⟨S1792, .f32⟩
  | .hbm, ⟨2, _⟩ => ⟨S512, .f32⟩
  | .hbm, ⟨3, _⟩ => ⟨S64x512, .f32⟩
  | .hbm, ⟨4, _⟩ => ⟨S512, .f32⟩
  | .hbm, ⟨5, _⟩ => ⟨S64x512, .f32⟩
  | .hbm, ⟨6, _⟩ => ⟨S128x512, .f32⟩
  | .hbm, ⟨7, _⟩ => ⟨S512, .f32⟩
  | .hbm, ⟨8, _⟩ => ⟨S512, .f32⟩
  | .hbm, ⟨9, _⟩ => ⟨S_, .i32⟩
  | .hbm, ⟨10, _⟩ => ⟨S_, .f32⟩
  | .hbm, ⟨11, _⟩ => ⟨S4097x1792, .f32⟩
  | .hbm, ⟨12, _⟩ => ⟨S4096x1792, .f32⟩
  | .hbm, ⟨13, _⟩ => ⟨S4096x1792, .f32⟩
  | .hbm, ⟨14, _⟩ => ⟨S1x1792, .f32⟩
  | .hbm, ⟨15, _⟩ => ⟨S4096x1792, .f32⟩
  | .hbm, ⟨16, _⟩ => ⟨S4096x1792, .f32⟩
  | .hbm, ⟨17, _⟩ => ⟨S4096x1792, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x64, .f32⟩
  | .hbm, ⟨22, _⟩ => ⟨S4096x64, .f32⟩
  | .hbm, ⟨23, _⟩ => ⟨S4096x128, .f32⟩
  | .hbm, ⟨24, _⟩ => ⟨S4096x64, .f32⟩
  | .hbm, ⟨25, _⟩ => ⟨S4096x512, .f32⟩
  | .hbm, ⟨26, _⟩ => ⟨S1x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .i1⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S1x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S_, .f32⟩
  | .hbm, ⟨55, _⟩ => ⟨S4096x512, .f32⟩
  | .hbm, ⟨56, _⟩ => ⟨S4096x512, .f32⟩
  | .hbm, ⟨57, _⟩ => ⟨S_, .f32⟩
  | .hbm, ⟨58, _⟩ => ⟨S4096x512, .f32⟩
  | .hbm, ⟨59, _⟩ => ⟨S4096x512, .f32⟩
  | .hbm, ⟨60, _⟩ => ⟨S4096x128, .f32⟩
  | .hbm, ⟨61, _⟩ => ⟨S4096x128, .f32⟩
  | .hbm, ⟨62, _⟩ => ⟨S_, .f32⟩
  | .hbm, ⟨63, _⟩ => ⟨S4096x128, .f32⟩
  | .hbm, ⟨64, _⟩ => ⟨S4096x128, .f32⟩
  | .hbm, ⟨65, _⟩ => ⟨S_, .f32⟩
  | .hbm, ⟨66, _⟩ => ⟨S4096x128, .f32⟩
  | .hbm, ⟨67, _⟩ => ⟨S4096x128, .f32⟩
  | .hbm, ⟨68, _⟩ => ⟨S4096x512, .f32⟩
  | .hbm, ⟨69, _⟩ => ⟨S1x512, .f32⟩
  | .hbm, ⟨70, _⟩ => ⟨S4096x512, .f32⟩
  | .hbm, ⟨71, _⟩ => ⟨S4096x512, .f32⟩
  | .hbm, ⟨72, _⟩ => ⟨S4096x8x64, .f32⟩
  | .hbm, ⟨73, _⟩ => ⟨S4096x8x64, .f32⟩
  | .hbm, ⟨74, _⟩ => ⟨S_, .f32⟩
  | .hbm, ⟨75, _⟩ => ⟨S4096x8, .f32⟩
  | .hbm, ⟨76, _⟩ => ⟨S4096x8x1, .f32⟩
  | .hbm, ⟨77, _⟩ => ⟨S_, .f32⟩
  | .hbm, ⟨78, _⟩ => ⟨S4096x8x1, .f32⟩
  | .hbm, ⟨79, _⟩ => ⟨S4096x8x1, .f32⟩
  | .hbm, ⟨80, _⟩ => ⟨S4096x8x1, .f32⟩
  | .hbm, ⟨81, _⟩ => ⟨S4096x8x64, .f32⟩
  | .hbm, ⟨82, _⟩ => ⟨S4096x8x64, .f32⟩
  | .hbm, ⟨83, _⟩ => ⟨S4096x512, .f32⟩
  | .hbm, ⟨84, _⟩ => ⟨S_, .f32⟩
  | .hbm, ⟨85, _⟩ => ⟨S4096x512, .f32⟩
  | .hbm, ⟨86, _⟩ => ⟨S4096x512, .f32⟩
  | .hbm, ⟨87, _⟩ => ⟨S1x512, .f32⟩
  | .hbm, ⟨88, _⟩ => ⟨S4096x512, .f32⟩
  | .hbm, ⟨89, _⟩ => ⟨S4096x512, .f32⟩
  | .hbm, ⟨90, _⟩ => ⟨S_, .f32⟩
  | .hbm, ⟨91, _⟩ => ⟨S4096x512, .f32⟩
  | .hbm, ⟨92, _⟩ => ⟨S4096x512, .f32⟩
  | .hbm, ⟨93, _⟩ => ⟨S4096x512, .f32⟩
  | .hbm, ⟨94, _⟩ => ⟨S4096x512, .f32⟩
  | .hbm, ⟨95, _⟩ => ⟨S4096x512, .f32⟩
  | .hbm, ⟨96, _⟩ => ⟨S4096x512, .f32⟩
  | .hbm, ⟨97, _⟩ => ⟨S4096x512, .f32⟩
  | _, _ => ⟨S4096x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call1_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_v19 : Ref sig .tc := ⟨.hbm, 43, rfl⟩
abbrev main_v20 : Ref sig .tc := ⟨.hbm, 44, rfl⟩
abbrev main_cst : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_0 : Ref sig .tc := ⟨.hbm, 54, rfl⟩
abbrev main_v29 : Ref sig .tc := ⟨.hbm, 55, rfl⟩
abbrev main_v30 : Ref sig .tc := ⟨.hbm, 56, rfl⟩
abbrev main_cst_1 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_2 : Ref sig .tc := ⟨.hbm, 62, rfl⟩
abbrev main_v35 : Ref sig .tc := ⟨.hbm, 63, rfl⟩
abbrev main_v36 : Ref sig .tc := ⟨.hbm, 64, rfl⟩
abbrev main_cst_3 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_4 : Ref sig .tc := ⟨.hbm, 74, rfl⟩
abbrev main_v45 : Ref sig .tc := ⟨.hbm, 75, rfl⟩
abbrev main_v46 : Ref sig .tc := ⟨.hbm, 76, rfl⟩
abbrev main_cst_5 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_6 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_7 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩

abbrev nD : Nat := 1
abbrev τ : Topo := Topo.v7x

variable {F : FTy → Type} [FloatOps F]
-- ==== Proof.Dots.lean ====
/-
  Products of two matrices over the extended reals, read at one element: for the three layouts a matrix unit takes
  (plain, right operand transposed, left operand transposed), the element is the accumulator plus the sum over the
  contracted position of the products of the operands' elements.
-/
module

public import Idealize.ShloMosaic.Lib.MatmulPlain
public import Idealize.ShloMosaic.Lib.ValueIdx
public import Idealize.ShloMosaic.Lib.Pipeline.Value
public import Idealize.ShloMosaic.Lib.Pointwise.Tactic

@[expose] public section

noncomputable section

namespace Cert.Proof.Dots

open Idealize.ShloMosaic

/-- Two indices of a matrix are equal when their coordinates are. -/
theorem ext2 {n : Fin 2 → ℕ} {i j : (⟨2, n⟩ : Shape).Idx} (h0 : (i 0).val = (j 0).val) (h1 : (i 1).val = (j 1).val) :
    i = j := by
  funext a
  apply Fin.ext
  match a with
  | ⟨0, _⟩ => exact h0
  | ⟨1, _⟩ => exact h1

/-- Two indices of a rank-three array are equal when their coordinates are. -/
theorem ext3 {n : Fin 3 → ℕ} {i j : (⟨3, n⟩ : Shape).Idx} (h0 : (i 0).val = (j 0).val) (h1 : (i 1).val = (j 1).val)
    (h2 : (i 2).val = (j 2).val) : i = j := by
  funext a
  apply Fin.ext
  match a with
  | ⟨0, _⟩ => exact h0
  | ⟨1, _⟩ => exact h1
  | ⟨2, _⟩ => exact h2

/-- A range of the columns of a matrix, at an element. -/
theorem cols {α : Type} {M N W : ℕ} (off : ℕ) (x : (⟨2, ![M, W]⟩ : Shape).Idx → α)
    (h : (⟨2, ![M, W]⟩ : Shape).Slices ![0, off] ⟨2, ![M, N]⟩) (j : (⟨2, ![M, N]⟩ : Shape).Idx) :
    extractStridedSlice ⟨2, ![M, N]⟩ ![0, off] x h j
      = x (ix2 (j 0) ⟨off + (j 1).val, Nat.lt_of_lt_of_le (Nat.add_lt_add_left (j 1).isLt off) (h.2 1)⟩) := by
  refine extractStridedSlice_apply _ _ _ _ _ fun a => ?_
  match a with
  | ⟨0, _⟩ => exact (Nat.zero_add _).symm
  | ⟨1, _⟩ => rfl

/-- A contraction over one axis as a sum over that axis: `L k` and `R k` are the operands' indices at position `k`. -/
theorem sum_one {sl sr so : Shape} (d : DotDims sl sr so) (K : ℕ) (hr : d.contr.rank = 1)
    (hs : d.contr.size ⟨0, by rw [hr]; exact Nat.one_pos⟩ = K)
    (lhs : sl.Idx → EReal) (rhs : sr.Idx → EReal) (j : so.Idx) (L : Fin K → sl.Idx) (R : Fin K → sr.Idx)
    (hL : ∀ k, d.lhsIdx j ((ValueIdx.contrEquiv1 d K hr hs).symm k) = L k)
    (hR : ∀ k, d.rhsIdx j ((ValueIdx.contrEquiv1 d K hr hs).symm k) = R k) :
    ∑ q : d.contr.Idx, lhs (d.lhsIdx j q) * rhs (d.rhsIdx j q) = ∑ k : Fin K, lhs (L k) * rhs (R k) := by
  rw [← Equiv.sum_comp (ValueIdx.contrEquiv1 d K hr hs).symm]
  exact Finset.sum_congr rfl fun k _ => by rw [hL, hR]

/-- `[M,K] × [K,N]` at an element. -/
theorem nn {M K N : ℕ} {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (j : (⟨2, ![M, N]⟩ : Shape).Idx) :
    FloatOps.matmul (DotDims.plain M K N) prec lhs rhs acc j
      = (acc j + ∑ k : Fin K, lhs (ix2 (j 0) k) * rhs (ix2 k (j 1)) : EReal) := by
  rw [Ideal.matmul_apply]
  have hk := fun k => ValueIdx.contrEquiv1_symm_val (DotDims.plain M K N) K rfl rfl k
  refine congrArg (acc j + ·) (sum_one (DotDims.plain M K N) K rfl rfl lhs rhs j _ _ (fun k => ?_) (fun k => ?_)) <;>
    funext a <;> apply Fin.ext
  · match a with
    | ⟨0, _⟩ => rfl
    | ⟨1, _⟩ => exact hk k
  · match a with
    | ⟨0, _⟩ => exact hk k
    | ⟨1, _⟩ => rfl

/-- `[M,K] × [N,K]ᵀ` at an element. -/
theorem nt {M K N : ℕ} {φ₁ φ₂ : FTy} (prec : Option ContractPrecision)
    (lhs : FVec Ideal ⟨2, ![M, K]⟩ φ₁) (rhs : FVec Ideal ⟨2, ![N, K]⟩ φ₂) (acc : FVec Ideal ⟨2, ![M, N]⟩ .f32)
    (j : (⟨2, ![M, N]⟩ : Shape).Idx) :
    FloatOps.matmul (DotDims.transposedRhs M K N) prec lhs rhs acc j
      = (acc j + ∑ k : Fin K, lhs (ix2 (j 0) k) * rhs (ix2 (j 1) k) : EReal) := by
  rw [Ideal.matmul_apply]
  have hk := fun k => ValueIdx.contrEquiv1_symm_val (DotDims.transposedRhs M K N) K rfl rfl k
  refine congrArg (acc j + ·) (sum_one (DotDims.transposedRhs M K N) K rfl rfl lhs rhs j _ _ (fun k => ?_) (fun k => ?_)) <;>
    funext a <;> apply Fin.ext
  · match a with
    | ⟨0, _⟩ => rfl
    | ⟨1, _⟩ => exact hk k
  · match a with
    | ⟨0, _⟩ => rfl
    | ⟨1, _⟩ => exact hk k

/-- The dimension numbers of `[K,M]ᵀ × [K,N]`, over any proof that they are well formed. -/
def tnDims {M K N : ℕ} (h : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := h

/-- `[K,M]ᵀ × [K,N]` at an element. -/
theorem tn {M K N : ℕ} {φ₁ φ₂ : FTy} (h : DotDims.WF ⟨2, ![K, M]⟩ ⟨2, ![K, N]⟩ ⟨2, ![M, N]⟩ [0] [0] [1] [1] [] [])
    (prec : Option ContractPrecision)
    (lhs : FVec Ideal ⟨2, ![K, M]⟩ φ₁) (rhs : FVec Ideal ⟨2, ![K, N]⟩ φ₂) (acc : FVec Ideal ⟨2, ![M, N]⟩ .f32)
    (j : (⟨2, ![M, N]⟩ : Shape).Idx) :
    FloatOps.matmul (tnDims h) prec lhs rhs acc j
      = (acc j + ∑ k : Fin K, lhs (ix2 k (j 0)) * rhs (ix2 k (j 1)) : EReal) := by
  rw [Ideal.matmul_apply]
  have hk := fun k => ValueIdx.contrEquiv1_symm_val (tnDims h) K rfl rfl k
  refine congrArg (acc j + ·) (sum_one (tnDims h) K rfl rfl lhs rhs j _ _ (fun k => ?_) (fun k => ?_)) <;>
    funext a <;> apply Fin.ext
  · match a with
    | ⟨0, _⟩ => exact hk k
    | ⟨1, _⟩ => rfl
  · match a with
    | ⟨0, _⟩ => exact hk k
    | ⟨1, _⟩ => rfl

end Cert.Proof.Dots

end
-- ==== Proof.Gate.lean ====
/-
  The logistic gate and its derivative over the extended reals: the kernels write `σ(x) = ½·tanh(½x) + ½` and
  `σ'(x) = ¼·(1 + t)(1 − t)` with `t = tanh(½x)`; the textbook writes `σ(x) = 1 / (1 + e^(−x))` and `σ'(x) = σ(x)(1 − σ(x))`.
  They agree at every extended real.
-/
module

public import Idealize.ShloMosaic.PureOps.Ideal
public import Idealize.ShloMosaic.PureOps.Ideal.Laws
public import Idealize.ShloMosaic.Lib.IdealHost

@[expose] public section

noncomputable section

namespace Cert.Proof.Gate

open Idealize.ShloMosaic

/-- The word of `0.5` is one half. -/
theorem half_word : Ideal.ofBits .f32 0x3F000000#32 = (((1 : ℝ) / 2 : ℝ) : EReal) := by
  simp [Ideal.ofBits, Ideal.ieee, -EReal.coe_mul]
  norm_num

/-- The textbook gate. -/
def sig (x : EReal) : EReal := Ideal.div 1 (1 + Ideal.exp (-x))

/-- The gate is a real number everywhere. -/
theorem half_tanh_real (r : ℝ) : 1 / 2 * Real.tanh (1 / 2 * r) + 1 / 2 = (1 + Real.exp (-r))⁻¹ := by
  rw [Real.tanh_eq_sinh_div_cosh, Real.sinh_eq, Real.cosh_eq]
  have e1 : Real.exp (-(1 / 2 * r)) ≠ 0 := (Real.exp_pos _).ne'
  have e2 : Real.exp (1 / 2 * r) = (Real.exp (-(1 / 2 * r)))⁻¹ := by rw [← Real.exp_neg, neg_neg]
  have e3 : Real.exp (-r) = Real.exp (-(1 / 2 * r)) * Real.exp (-(1 / 2 * r)) := by rw [← Real.exp_add]; ring_nf
  have hp := Real.exp_pos (-(1 / 2 * r))
  rw [e2, e3]
  field_simp
  ring

/-- Both gates are one real number: `½t + ½` for the real `t = tanh(½x)`. -/
theorem real_gate (x : EReal) : ∃ t : ℝ, Ideal.tanh ((((1 : ℝ) / 2 : ℝ) : EReal) * x) = (t : EReal)
    ∧ sig x = ((1 / 2 * t + 1 / 2 : ℝ) : EReal) := by
  have hh : (0 : ℝ) < 1 / 2 := by norm_num
  induction x using EReal.rec with
  | bot =>
    refine ⟨-1, by rw [EReal.coe_mul_bot_of_pos hh, Ideal.tanh_bot]; rfl, ?_⟩
    exact (show sig ⊥ = 0 from Ideal.logistic_bot).trans (by norm_num)
  | top =>
    refine ⟨1, by rw [EReal.coe_mul_top_of_pos hh, Ideal.tanh_top]; rfl, ?_⟩
    exact (show sig ⊤ = 1 from Ideal.logistic_top).trans (by norm_num)
  | coe r =>
    refine ⟨Real.tanh (1 / 2 * r), by rw [← EReal.coe_mul, Ideal.tanh_coe], ?_⟩
    rw [half_tanh_real]
    exact Ideal.logistic_coe r

/-- The kernels' gate is the textbook's. -/
theorem gate (x : EReal) :
    (((1 : ℝ) / 2 : ℝ) : EReal) * Ideal.tanh ((((1 : ℝ) / 2 : ℝ) : EReal) * x) + (((1 : ℝ) / 2 : ℝ) : EReal) = sig x := by
  obtain ⟨t, ht, hs⟩ := real_gate x
  rw [ht, hs, EReal.coe_add, EReal.coe_mul]

/-- The kernels' derivative of the gate is the textbook's. -/
theorem gate_deriv (x : EReal) :
    (((1 : ℝ) / 2 : ℝ) : EReal) * ((((1 : ℝ) / 2 : ℝ) : EReal)
        * ((1 + Ideal.tanh ((((1 : ℝ) / 2 : ℝ) : EReal) * x)) * (1 - Ideal.tanh ((((1 : ℝ) / 2 : ℝ) : EReal) * x))))
      = sig x * (1 - sig x) := by
  obtain ⟨t, ht, hs⟩ := real_gate x
  rw [ht, hs, ← EReal.coe_one]
  simp only [← EReal.coe_add, ← EReal.coe_sub, ← EReal.coe_mul]
  congr 1
  ring

end Cert.Proof.Gate

end
-- ==== Proof.Mixed.lean ====
/-
  The call `d_mixed`, over the extended reals: the gradient of the gated sum `σ(a)·ya + σ(b)·yb`, multiplied by the output
  weight, with respect to the two gates and the two branches. Each grid point forms `g = dx1 · w_outᵀ` for its block of
  rows and from it, at once, the four gradients; the textbook's are the same four expressions in the logistic function.
-/
module

public import proofs.«01_k».proof.Defs
public import proofs.«01_k».proof.Proof.Dots
public import proofs.«01_k».proof.Proof.Gate
public import proofs.«01_k».proof.Proof.Gen.KernelIdeal.Value
public import proofs.«01_k».proof.Proof.Gen.ReferenceIdeal.Run
public import proofs.«01_k».proof.Proof.Gen.ReferenceIdeal.Read
public import Idealize.ShloMosaic.Lib.Pipeline.ValueKit.Geometry
public import Idealize.ShloMosaic.Lib.Pipeline.ValueKit.Acc
public import Idealize.ShloMosaic.Lib.Pointwise.Tactic

@[expose] public section

set_option maxRecDepth 16384

noncomputable section

namespace Cert.Proof.Mixed

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## The four gradients -/

/-- The gradient of the gated sum: `dx · wᵀ`. -/
def grad (dx : Vec Ideal S4096x1024 .f32) (w : Vec Ideal S1024x1024 .bf16) (i : S4096x1024.Idx) : EReal :=
  ∑ k : Fin 1024, dx (ix2 (i 0) k) * w (ix2 (i 1) k)

/-- Gate `o` of an element: the first gate's columns begin at 0, the second's at 1024. -/
def gateAt (o : ℕ) (ho : o + 1024 ≤ 2048) (gates : Vec Ideal S4096x2048 .f32) (i : S4096x1024.Idx) : EReal :=
  gates (ix2 (i 0) ⟨o + (i 1).val, by have h : (i 1).val < 1024 := (i 1).isLt; omega⟩)

/-- The gradient of a gate's argument: `(g · y) · σ'(x)`. -/
def dGate (o : ℕ) (ho : o + 1024 ≤ 2048) (dx : Vec Ideal S4096x1024 .f32) (w : Vec Ideal S1024x1024 .bf16) (gates : Vec Ideal S4096x2048 .f32)
    (y : Vec Ideal S4096x1024 .f32) : Vec Ideal S4096x1024 .bf16 := fun i =>
  (grad dx w i * y i) * (Gate.sig (gateAt o ho gates i) * (1 - Gate.sig (gateAt o ho gates i)))

/-- The gradient of a branch: `σ(x) · g`. -/
def dBranch (o : ℕ) (ho : o + 1024 ≤ 2048) (dx : Vec Ideal S4096x1024 .f32) (w : Vec Ideal S1024x1024 .bf16) (gates : Vec Ideal S4096x2048 .f32) :
    Vec Ideal S4096x1024 .bf16 := fun i =>
  Gate.sig (gateAt o ho gates i) * grad dx w i

/-! ## The body's stores at an element -/

/-- The product of the body's blocks. -/
theorem prod (a : Vec Ideal S512x1024 .f32) (b : Vec Ideal S1024x1024 .bf16) (y : S512x1024.Idx) :
    k0_pay5 (F := Ideal) a b y = (∑ k : Fin 1024, a (ix2 (y 0) k) * b (ix2 k (y 1)) : EReal) := by
  refine (Dots.nn (M := 512) (K := 1024) (N := 1024) (φ₁ := .bf16) (φ₂ := .bf16) none _ _ _ y).trans ?_
  rw [shapeCast_self]
  pointwise

/-- The product under its other name. -/
theorem prod_name (x0 : Vec Ideal S512x1024 .f32) (x1 : Vec Ideal S1024x1024 .bf16) (x2 x3 x4 x5 : Vec Ideal S512x1024 .f32) :
    k0_pay13 (F := Ideal) x0 x1 x2 x3 x4 x5 = k0_pay5 x0 x1 := by
  have hz : (![0, 0] : Fin 2 → Nat) = fun _ => 0 := funext fun a => by fin_cases a <;> rfl
  unfold k0_pay13
  rw [View.ld_unit_zero (S := S512x1024) hz, View.ld_unit_zero (S := S1024x1024) hz]

theorem store_gate (g y x : Vec Ideal S512x1024 .f32) (j : S512x1024.Idx) :
    k0_pay1 (F := Ideal) g y (k0_pay7 x) j = ((g j * y j) * (Gate.sig (x j) * (1 - Gate.sig (x j))) : EReal) := by
  unfold k0_pay1 k0_pay7 k0_pay6
  pointwise [Gate.half_word]
  rw [← Gate.gate_deriv]
  ac_rfl

theorem store_gate' (y x : Vec Ideal S512x1024 .f32) (a : Vec Ideal S512x1024 .f32) (b : Vec Ideal S1024x1024 .bf16) (j : S512x1024.Idx) :
    k0_pay2 (F := Ideal) (k0_pay10 x) (k0_pay12 a b y) (Scalar.ofBits .f32 0x3F000000#32) j
      = ((k0_pay5 (F := Ideal) a b j * y j) * (Gate.sig (x j) * (1 - Gate.sig (x j))) : EReal) := by
  unfold k0_pay2 k0_pay10 k0_pay9 k0_pay12
  pointwise [Gate.half_word]
  rw [← Gate.gate_deriv]
  ac_rfl

theorem store_branch (g x : Vec Ideal S512x1024 .f32) (j : S512x1024.Idx) :
    k0_pay3 (F := Ideal) g (k0_pay8 x) j = (Gate.sig (x j) * g j : EReal) := by
  unfold k0_pay3 k0_pay8 k0_pay6
  pointwise [Gate.half_word]
  rw [← Gate.gate]

theorem store_branch' (x : Vec Ideal S512x1024 .f32) (a : Vec Ideal S512x1024 .f32) (b : Vec Ideal S1024x1024 .bf16) (j : S512x1024.Idx) :
    k0_pay4 (F := Ideal) (k0_pay11 a b x) j = (Gate.sig (x j) * k0_pay5 (F := Ideal) a b j : EReal) := by
  unfold k0_pay4 k0_pay11 k0_pay9
  pointwise [Gate.half_word]
  rw [← Gate.gate]

/-! ## The blocks -/

/-- The transposed weight the host prepares. -/
theorem weight (c : Dev nD) : V m c main_v0
    = transpose S1024x1024 [1, 0] (m ((c : Thread nD τ).loc main_arg1)) transposes_S1024x1024_S1024x1024_1_0 := by
  show StableHlo.after hostOps0 (fun b => m (c, b)) main_v0 = _
  unfold hostOps0
  after_results

/-- Every row-blocked window is at the same row block as the output; the weight is whole. -/
theorem at6 : ∀ t : Fin grid0.N, win0_0.index t = win0_6.index t ∧ win0_1.index t = ![0, 0] ∧ win0_2.index t = win0_6.index t
    ∧ win0_3.index t 0 = win0_6.index t 0 ∧ win0_3.index t 1 = 1 ∧ win0_4.index t = win0_6.index t ∧ win0_5.index t = win0_6.index t
    ∧ win0_7.index t = win0_6.index t ∧ win0_8.index t = win0_6.index t ∧ win0_9.index t = win0_6.index t ∧ win0_6.index t 1 = 0 := by decide +kernel

/-- The product of a point's blocks is the gradient at the element the point's block places. -/
theorem prod_blk (c : Dev nD) (t : Fin cfg0.N) (y : S512x1024.Idx) :
    k0_pay5 (F := Ideal) (iblk m c 0 t) (iblk m c 1 t) y
      = grad (m ((c : Thread nD τ).loc main_arg0)) (m ((c : Thread nD τ).loc main_arg1)) ((win0_6.blk t).view.emb y) := by
  obtain ⟨e0, e1, -⟩ := at6 t
  have e6 := (at6 t).2.2.2.2.2.2.2.2.2.2
  rw [prod]
  unfold grad
  refine Finset.sum_congr (M := EReal) rfl fun k _ => ?_
  refine congrArg₂ (fun a b : EReal => a * b) ?_ ?_
  · show V m c main_arg0 _ = _
    rw [V_main_arg0]
    refine congrArg (m ((c : Thread nD τ).loc main_arg0)) ?_
    blk_ext [e0, e6]
  · show V m c main_v0 _ = _
    rw [weight]
    refine transpose_apply _ _ _ _ _ fun b => ?_
    match b with
    | ⟨0, _⟩ => blk_simp [e1]; rfl
    | ⟨1, _⟩ =>
      blk_simp [e1]
      show ((win0_6.blk t).view.emb y 1).val = _
      blk_simp [e6]

/-- The first gate's block. -/
theorem g2_blk (c : Dev nD) (t : Fin cfg0.N) (y : S512x1024.Idx) : iblk m c 2 t y
    = gateAt 0 (by decide) (m ((c : Thread nD τ).loc main_arg2)) ((win0_6.blk t).view.emb y) := by
  have e2 := (at6 t).2.2.1
  have e6 := (at6 t).2.2.2.2.2.2.2.2.2.2
  show V m c main_arg2 _ = _
  rw [V_main_arg2]
  refine congrArg (m ((c : Thread nD τ).loc main_arg2)) ?_
  blk_ext [e2, e6]

/-- The second gate's block. -/
theorem g3_blk (c : Dev nD) (t : Fin cfg0.N) (y : S512x1024.Idx) : iblk m c 3 t y
    = gateAt 1024 (by decide) (m ((c : Thread nD τ).loc main_arg2)) ((win0_6.blk t).view.emb y) := by
  have e2 := (at6 t).2.2.2.1
  have e3 := (at6 t).2.2.2.2.1
  have e6 := (at6 t).2.2.2.2.2.2.2.2.2.2
  show V m c main_arg2 _ = _
  rw [V_main_arg2]
  refine congrArg (m ((c : Thread nD τ).loc main_arg2)) ?_
  blk_ext [e2, e3, e6]

/-- The first branch's block. -/
theorem y4_blk (c : Dev nD) (t : Fin cfg0.N) (y : S512x1024.Idx) : iblk m c 4 t y
    = m ((c : Thread nD τ).loc main_arg3) ((win0_6.blk t).view.emb y) := by
  have e4 := (at6 t).2.2.2.2.2.1
  show V m c main_arg3 _ = _
  rw [V_main_arg3]
  refine congrArg (m ((c : Thread nD τ).loc main_arg3)) ?_
  blk_ext [e4]

/-- The second branch's block. -/
theorem y5_blk (c : Dev nD) (t : Fin cfg0.N) (y : S512x1024.Idx) : iblk m c 5 t y
    = m ((c : Thread nD τ).loc main_arg4) ((win0_6.blk t).view.emb y) := by
  have e5 := (at6 t).2.2.2.2.2.2.1
  show V m c main_arg4 _ = _
  rw [V_main_arg4]
  refine congrArg (m ((c : Thread nD τ).loc main_arg4)) ?_
  blk_ext [e5]

/-- Output window 6 after the run. -/
theorem final6 (c : Dev nD) : (dats m 0 c).arrAt 6 cfg0.N
    = dGate 0 (by decide) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  rw [prod_name]
  rw [store_gate]
  unfold dGate
  refine congrArg₂ (fun a b : EReal => a * b) (congrArg₂ (fun a b : EReal => a * b) ?_ ?_) ?_
  · exact prod_blk m c t y
  · exact y4_blk m c t y
  · rw [g2_blk m c t y]

theorem same7 (t : Fin cfg0.N) (y : S512x1024.Idx) : (win0_7.blk t).view.emb y = (win0_6.blk t).view.emb y := by
  blk_ext [(at6 t).2.2.2.2.2.2.2.1]

/-- Output window 7 after the run. -/
theorem final7 (c : Dev nD) : (dats m 0 c).arrAt 7 cfg0.N
    = dGate 1024 (by decide) (m ((c : Thread nD τ).loc main_arg0)) (m ((c : Thread nD τ).loc main_arg1)) (m ((c : Thread nD τ).loc main_arg2)) (m ((c : Thread nD τ).loc main_arg4)) := by
  refine (dats m 0 c).arrAt_eq_of_covers 7 _ (by decide +kernel) fun t hf y => ?_
  blk_simp
  rw [after0_7]
  frame_out
  rw [same7 t y]
  rw [store_gate']
  unfold dGate
  refine congrArg₂ (fun a b : EReal => a * b) (congrArg₂ (fun a b : EReal => a * b) ?_ ?_) ?_
  · exact prod_blk m c t y
  · exact y5_blk m c t y
  · rw [g3_blk m c t y]

theorem same8 (t : Fin cfg0.N) (y : S512x1024.Idx) : (win0_8.blk t).view.emb y = (win0_6.blk t).view.emb y := by
  blk_ext [(at6 t).2.2.2.2.2.2.2.2.1]

/-- Output window 8 after the run. -/
theorem final8 (c : Dev nD) : (dats m 0 c).arrAt 8 cfg0.N
    = dBranch 0 (by decide) (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  frame_out
  rw [prod_name]
  rw [same8 t y]
  rw [store_branch]
  unfold dBranch
  rw [g2_blk m c t y]
  exact congrArg (fun a : EReal => _ * a) (prod_blk m c t y)

theorem same9 (t : Fin cfg0.N) (y : S512x1024.Idx) : (win0_9.blk t).view.emb y = (win0_6.blk t).view.emb y := by
  blk_ext [(at6 t).2.2.2.2.2.2.2.2.2.1]

/-- Output window 9 after the run. -/
theorem final9 (c : Dev nD) : (dats m 0 c).arrAt 9 cfg0.N
    = dBranch 1024 (by decide) (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  frame_out
  rw [same9 t y]
  rw [store_branch']
  unfold dBranch
  rw [g3_blk m c t y]
  exact congrArg (fun a : EReal => _ * a) (prod_blk m c t y)

/-! ## The reference -/

open Cert.ReferenceIdeal.Read in
/-- The reference's product. -/
theorem ref_grad (x0 : Vec Ideal S4096x1024 .f32) (x1 : Vec Ideal S1024x1024 .bf16) (i : S4096x1024.Idx) :
    val_main_v25 (F := Ideal) x0 x1 i = grad x0 x1 i := by
  rw [val_main_v25_apply]
  refine Finset.sum_congr (M := EReal) rfl fun k _ => ?_
  rw [val_main_v23_apply]
  exact congrArg₂ (fun a b : EReal => a * b) (congrArg x0 (Dots.ext2 rfl rfl)) (congrArg x1 (Dots.ext2 rfl rfl))

open Cert.ReferenceIdeal.Read in
theorem ref_gate0 (x2 : Vec Ideal S4096x2048 .f32) (i : S4096x1024.Idx) :
    val_main_v7 (F := Ideal) x2 i = Gate.sig (gateAt 0 (by decide) x2 i) := by
  rw [val_main_v7_apply, val_main_v6_apply, val_main_v5_apply, val_main_v4_apply, val_main_v3_apply, val_main_v2_apply, val_main_v0_apply]
  have e : x2 (idx_main_v0 i) = gateAt 0 (by decide) x2 i := congrArg x2 (Dots.ext2 (by simp) (by simp))
  rw [e]
  unfold Gate.sig
  rw [← Ideal.ofBits_one_f32]
  rfl

open Cert.ReferenceIdeal.Read in
theorem ref_gate1 (x2 : Vec Ideal S4096x2048 .f32) (i : S4096x1024.Idx) :
    val_main_v17 (F := Ideal) x2 i = Gate.sig (gateAt 1024 (by decide) x2 i) := by
  rw [val_main_v17_apply, val_main_v16_apply, val_main_v15_apply, val_main_v14_apply, val_main_v13_apply, val_main_v12_apply, val_main_v1_apply]
  have e : x2 (idx_main_v1 i) = gateAt 1024 (by decide) x2 i := congrArg x2 (Dots.ext2 (by simp) (by simp))
  rw [e]
  unfold Gate.sig
  rw [← Ideal.ofBits_one_f32]
  rfl

open Cert.ReferenceIdeal.Read in
theorem ref32 (x0 : Vec Ideal S4096x1024 .f32) (x1 : Vec Ideal S1024x1024 .bf16) (x2 : Vec Ideal S4096x2048 .f32) (x3 : Vec Ideal S4096x1024 .f32) :
    val_main_v32 (F := Ideal) x0 x1 x2 x3 = dGate 0 (by decide) x0 x1 x2 x3 := by
  funext i
  rw [val_main_v32_apply, val_main_v31_apply, val_main_v30_apply, val_main_v10_apply, val_main_v9_apply, val_main_v8_apply, ref_grad, ref_gate0]
  unfold dGate
  rw [← Ideal.ofBits_one_f32]
  rfl

open Cert.ReferenceIdeal.Read in
theorem ref33 (x0 : Vec Ideal S4096x1024 .f32) (x1 : Vec Ideal S1024x1024 .bf16) (x2 : Vec Ideal S4096x2048 .f32) (x4 : Vec Ideal S4096x1024 .f32) :
    val_main_v33 (F := Ideal) x0 x1 x2 x4 = dGate 1024 (by decide) x0 x1 x2 x4 := by
  funext i
  rw [val_main_v33_apply, val_main_v28_apply, val_main_v27_apply, val_main_v20_apply, val_main_v19_apply, val_main_v18_apply, ref_grad, ref_gate1]
  unfold dGate
  rw [← Ideal.ofBits_one_f32]
  rfl

open Cert.ReferenceIdeal.Read in
theorem ref34 (x0 : Vec Ideal S4096x1024 .f32) (x1 : Vec Ideal S1024x1024 .bf16) (x2 : Vec Ideal S4096x2048 .f32) :
    val_main_v34 (F := Ideal) x0 x1 x2 = dBranch 0 (by decide) x0 x1 x2 := by
  funext i
  rw [val_main_v34_apply, val_main_v29_apply, ref_grad, ref_gate0]
  rfl

open Cert.ReferenceIdeal.Read in
theorem ref35 (x0 : Vec Ideal S4096x1024 .f32) (x1 : Vec Ideal S1024x1024 .bf16) (x2 : Vec Ideal S4096x2048 .f32) :
    val_main_v35 (F := Ideal) x0 x1 x2 = dBranch 1024 (by decide) x0 x1 x2 := by
  funext i
  rw [val_main_v35_apply, val_main_v26_apply, ref_grad, ref_gate1]
  rfl

/-- The kernel and the reference agree over the extended reals. -/
theorem algebraic : Cert.algebraic_KernelIdeal_ReferenceIdeal := by
  intro m ρ m' ρ' _ hag
  refine ⟨fun c => dGate 0 (by decide) (m ((c : Thread nD τ).loc main_arg0)) (m ((c : Thread nD τ).loc main_arg1)) (m ((c : Thread nD τ).loc main_arg2)) (m ((c : Thread nD τ).loc main_arg3)),
    fun c => dGate 1024 (by decide) (m ((c : Thread nD τ).loc main_arg0)) (m ((c : Thread nD τ).loc main_arg1)) (m ((c : Thread nD τ).loc main_arg2)) (m ((c : Thread nD τ).loc main_arg4)),
    fun c => dBranch 0 (by decide) (m ((c : Thread nD τ).loc main_arg0)) (m ((c : Thread nD τ).loc main_arg1)) (m ((c : Thread nD τ).loc main_arg2)),
    fun c => dBranch 1024 (by decide) (m ((c : Thread nD τ).loc main_arg0)) (m ((c : Thread nD τ).loc main_arg1)) (m ((c : Thread nD τ).loc main_arg2)), ?_, ?_⟩
  · exact (θ_run _ _ _).mono (fun r h c => ⟨(h c).1.trans (final6 m c), (h c).2.1.trans (final7 m c), (h c).2.2.1.trans (final8 m c),
      (h c).2.2.2.1.trans (final9 m c), (h c).2.2.2.2⟩) (Value.run_blocks m ρ)
  · refine (θ_run _ _ _).mono (fun r h c => ⟨(h c).1.trans ?_, (h c).2.1.trans ?_, (h c).2.2.1.trans ?_, (h c).2.2.2.1.trans ?_, (h c).2.2.2.2⟩)
      (Cert.ReferenceIdeal.Value.run m' ρ')
    · rw [(hag c).1, (hag c).2.1, (hag c).2.2.1, (hag c).2.2.2.1]
      exact ref32 _ _ _ _
    · rw [(hag c).1, (hag c).2.1, (hag c).2.2.1, (hag c).2.2.2.2]
      exact ref33 _ _ _ _
    · rw [(hag c).1, (hag c).2.1, (hag c).2.2.1]
      exact ref34 _ _ _
    · rw [(hag c).1, (hag c).2.1, (hag c).2.2.1]
      exact ref35 _ _ _

end Cert.Proof.Mixed

end
-- ==== Proof.Dact.lean ====
/-
  The call `d_act` (the gradient of the feed-forward down-projection with respect to its left operand), read over the
  extended reals: every block the grid writes back is the product of a row block of `dx2` with a row block of the weight,
  so the result array is `dx2 · wᵀ`, which is also what the reference's `dot_general` is.
-/
module

public import proofs.«01_k».proof.Defs
public import proofs.«01_k».proof.Proof.Gen.DactKIdeal.Value
public import proofs.«01_k».proof.Proof.Gen.DactRIdeal.Run
public import proofs.«01_k».proof.Proof.Gen.DactRIdeal.Read
public import Idealize.ShloMosaic.Lib.Pipeline.ValueKit.Geometry
public import Idealize.ShloMosaic.Lib.Pipeline.ValueKit.Acc
public import proofs.«01_k».proof.Proof.Dots
public import Idealize.ShloMosaic.Lib.Pointwise.Tactic

@[expose] public section

set_option maxRecDepth 16384

noncomputable section

namespace Cert.Proof.Dact

open Cert.DactKIdeal Cert.DactKIdeal.Gen Idealize.ShloMosaic Idealize.ShloMosaic.TcCoe Idealize.SL.Sem

variable (m : (ℓ : Loc nD τ sig) → Buf (Elt Ideal) ℓ) (ρ : Dev nD → PrngReg)

/-- The product `x · wᵀ`, element by element. -/
def G (x : Vec Ideal S4096x1024 .f32) (w : Vec Ideal S2816x1024 .bf16) : Vec Ideal S4096x2816 .f32 :=
  fun i => ∑ k : Fin 1024, x (ix2 (i 0) k) * w (ix2 (i 1) k)

/-- The grid's row blocks of the result are the row blocks of `x`. -/
theorem rows : ∀ t : Fin grid0.N, win0_2.index t 0 = win0_0.index t 0 ∧ win0_0.index t 1 = 0 := by decide +kernel

/-- The grid's column blocks of the result are the row blocks of the weight. -/
theorem cols : ∀ t : Fin grid0.N, win0_2.index t 1 = win0_1.index t 0 ∧ win0_1.index t 1 = 0 := by decide +kernel

/-- The body's product at an element of its block. -/
theorem pay (a : Vec Ideal S1024x1024 .f32) (b : Vec Ideal S1408x1024 .bf16) (y : S1024x1408.Idx) :
    k0_pay1 (F := Ideal) a b y = ∑ k : Fin 1024, a (ix2 (y 0) k) * b (ix2 (y 1) k) := by
  refine (Dots.nt (M := 1024) (K := 1024) (N := 1408) (φ₁ := .bf16) (φ₂ := .bf16) none _ _ _ y).trans ?_
  pointwise

/-- The result array after the run is the product of the two arguments. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  unfold G
  refine Finset.sum_congr (M := EReal) rfl fun k _ => ?_
  have e0 := rows t
  have e1 := cols t
  congr 1
  · show V m c main_arg0 _ = V m c main_arg0 _
    congr 1
    blk_ext [e0.1, e0.2]
  · show V m c main_arg1 _ = V m c main_arg1 _
    congr 1
    blk_ext [e1.1, e1.2]

/-- The reference's result is the same product. -/
theorem ref (x : Vec Ideal S4096x1024 .f32) (w : Vec Ideal S2816x1024 .bf16) :
    Cert.DactRIdeal.Read.val_main_v3 (F := Ideal) x w = G x w := by
  funext i
  rw [Cert.DactRIdeal.Read.val_main_v3_apply]
  refine Finset.sum_congr (M := EReal) rfl fun k _ => ?_
  rw [Cert.DactRIdeal.Read.val_main_v1_apply]
  exact congrArg₂ (fun a b : EReal => a * b) (congrArg x (Dots.ext2 rfl rfl)) (congrArg w (Dots.ext2 rfl rfl))

/-- The kernel and the reference agree over the extended reals. -/
theorem algebraic : Cert.algebraic_DactKIdeal_DactRIdeal := by
  intro m ρ m' ρ' _ hag
  refine ⟨fun c => G (m ((c : Thread nD τ).loc main_arg0)) (m ((c : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.DactRIdeal.Value.run m' ρ')
    rw [(hag c).1, (hag c).2]
    exact ref _ _

end Cert.Proof.Dact

end
-- ==== Proof.Gup.lean ====
/-
  The call `g_ffn_up` (the gradient of the feed-forward up-projection's weight), read over the extended reals: the grid
  walks four column slabs, each in two halves of the rows; the first half's product is put into the running block, the
  second half's is added, and the slab written back is their sum, which is the contraction over all the rows that the
  reference takes in one product.
-/
module

public import proofs.«01_k».proof.Defs
public import proofs.«01_k».proof.Proof.Gen.GupKIdeal.Value
public import proofs.«01_k».proof.Proof.Gen.GupRIdeal.Run
public import proofs.«01_k».proof.Proof.Gen.GupRIdeal.Read
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Dots
public import Idealize.ShloMosaic.Lib.Pointwise.Tactic

@[expose] public section

set_option maxRecDepth 16384

noncomputable section

namespace Cert.Proof.Gup

open Cert.GupKIdeal Cert.GupKIdeal.Gen Idealize.ShloMosaic Idealize.ShloMosaic.TcCoe Idealize.SL.Sem

variable (m : (ℓ : Loc nD τ sig) → Buf (Elt Ideal) ℓ) (ρ : Dev nD → PrngReg)

/-- The column of the whole gradient that lane `l` of slab `q` is. -/
def col (q : Fin 4) (l : Fin 1408) : Fin 5632 := ⟨q.val * 1408 + l.val, by omega⟩

/-- The gradient `uᵀ · d`, its columns in four slabs. -/
def G (u : Vec Ideal S4096x1024 .bf16) (d : Vec Ideal S4096x5632 .bf16) : Vec Ideal S4x1024x1408 .bf16 :=
  fun i => ∑ k : Fin 4096, u (ix2 k (i 1)) * d (ix2 k (col (i 0) (i 2)))

/-- The blocks each point of the grid reads and writes. -/
theorem idx : ∀ t : Fin grid0.N, (win0_0.index t 0 = t.val % 2 ∧ win0_0.index t 1 = 0)
    ∧ (win0_1.index t 0 = t.val % 2 ∧ win0_1.index t 1 = t.val / 2)
    ∧ (win0_2.index t 0 = t.val / 2 ∧ win0_2.index t 1 = 0 ∧ win0_2.index t 2 = 0) := by decide +kernel

/-- The contraction of one pair of blocks. -/
def part (a : Vec Ideal S2048x1024 .bf16) (b : Vec Ideal S2048x1408 .bf16) (y : S1024x1408.Idx) : EReal :=
  ∑ k : Fin 2048, a (ix2 k (y 0)) * b (ix2 k (y 1))

/-- The body's product at an element of its block. -/
theorem pay1 (a : Vec Ideal S2048x1024 .bf16) (b : Vec Ideal S2048x1408 .bf16) (y : S1024x1408.Idx) :
    k0_pay1 (F := Ideal) a b y = part a b y := by
  refine (Dots.tn (M := 1024) (K := 2048) (N := 1408) (φ₁ := .bf16) (φ₂ := .bf16)
    dot_S2048x1024_S2048x1408_S1024x1408_0_0_1_1_n_n_wf none _ _ _ y).trans ?_
  unfold part
  pointwise

/-- What the first half leaves in the running block. -/
theorem pay2 (a : Vec Ideal S2048x1024 .bf16) (b : Vec Ideal S2048x1408 .bf16) (y : S1024x1408.Idx) :
    k0_pay2 (F := Ideal) a b y = part a b y := by
  unfold k0_pay2
  rw [shapeCast_self]
  exact pay1 a b y

/-- What a later half leaves in the running block. -/
theorem pay3 (a : Vec Ideal S2048x1024 .bf16) (b : Vec Ideal S2048x1408 .bf16) (s : Vec Ideal S1024x1408 .f32)
    (y : S1024x1408.Idx) : k0_pay3 (F := Ideal) a b s y = (s y + part a b y : EReal) := by
  unfold k0_pay3
  rw [shapeCast_self]
  exact congrArg (fun z : EReal => s y + z) (pay1 a b y)

/-- What is written back of the running block. -/
theorem pay4 (s : Vec Ideal S1024x1408 .f32) (y : S1x1024x1408.Idx) :
    k0_pay4 (F := Ideal) s y = s (ix2 (y 1) (y 2)) := by
  refine (shapeCast_addUnit_apply ![1024, 1408] (truncf (F := Ideal) (s := S1024x1408) (φ := .f32) .bf16 s bitsLt_bf16_f32) _ y).trans ?_
  exact congrArg s (Dots.ext2 rfl rfl)

/-- The running block at a point: the contractions of its run of the grid so far. -/
theorem run_block (c : Dev nD) (t : Fin cfg0.N) (hr : t.val % 2 = 1) (y : S1024x1408.Idx) :
    (outsAt0 m c t.val t.isLt).2 y
      = (0 + ∑ s : Fin 2, part (iblk m c 0 ⟨2 * (t.val / 2) + s.val, Pipeline.run_point_lt_of_flush t hr s⟩)
          (iblk m c 1 ⟨2 * (t.val / 2) + s.val, Pipeline.run_point_lt_of_flush t hr s⟩) y : EReal) := by
  refine Pipeline.eq_sum_fin_of_reset_step_apply_of_flush (M := EReal) (fun n h => (outsAt0 m c n h).2) 2 (fun _ => 0)
    (fun t y => part (iblk m c 0 t) (iblk m c 1 t) y) (fun t h j => ?_) (fun t h j => ?_) t hr y
  · rw [outsAt0_A m c t h (by omega) (by omega)]
    frame_out
    rw [pay2, zero_add]
  · rw [outsAt0_B m c t h (by omega) (by omega)]
    frame_out
    rw [pay3]
    refine congrArg (fun z : EReal => z + _) ?_
    exact congrFun (Memref.IsWhole.read_unread _ _) j

/-- What a point that ends a run writes back: its running block. -/
theorem out_block (c : Dev nD) (t : Fin cfg0.N) (hr : t.val % 2 = 1) (y : S1x1024x1408.Idx) :
    (outsAt0 m c t.val t.isLt).1 y = (outsAt0 m c t.val t.isLt).2 (ix2 (y 1) (y 2)) := by
  rw [outsAt0_B m c t (by omega) hr hr]
  frame_out
  rw [pay4]

/-- The result array after the run is the gradient of the two arguments. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have hr : t.val % 2 = 1 := (flush0_2 t).mp hf
  blk_simp
  rw [after0_2, out_block m c t hr, run_block m c t hr, zero_add]
  unfold G
  refine Fin.sum_mul_add_congr (M := EReal) fun s k hl => ?_
  have e := idx t
  have e' := idx ⟨2 * (t.val / 2) + s.val, Pipeline.run_point_lt_of_flush t hr s⟩
  have hs := s.isLt
  have h2 : (2 * (t.val / 2) + s.val) % 2 = s.val := by omega
  have h3 : (2 * (t.val / 2) + s.val) / 2 = t.val / 2 := by omega
  refine congrArg₂ (fun a b : EReal => a * b) ?_ ?_
  · show V m c main_arg0 _ = V m c main_arg0 _
    congr 1
    blk_ext [e'.1.1, e'.1.2, e.2.2.2.1, h2]
  · show V m c main_arg1 _ = V m c main_arg1 _
    congr 1
    blk_ext [e'.2.1.1, e'.2.1.2, e.2.2.1, e.2.2.2.2, h2, h3, col]

/-- A slab of the reference's result, at its own index. -/
theorem slab (u : Vec Ideal S4096x1024 .bf16) (d : Vec Ideal S4096x5632 .bf16) (r : Fin 1024) (n : Fin 5632) :
    Cert.GupRIdeal.Read.val_main_v5 (F := Ideal) u d (ix2 r n) = ∑ k : Fin 4096, u (ix2 k r) * d (ix2 k n) := by
  rw [Cert.GupRIdeal.Read.val_main_v5_apply, Cert.GupRIdeal.Read.val_main_v4_apply]
  refine Finset.sum_congr (M := EReal) rfl fun k _ => ?_
  rw [Cert.GupRIdeal.Read.val_main_v3_apply, Cert.GupRIdeal.Read.val_main_v1_apply, mul_comm]
  exact congrArg₂ (fun a b : EReal => a * b) (congrArg u (Dots.ext2 rfl rfl)) (congrArg d (Dots.ext2 rfl rfl))

/-- The reference's result is the same gradient. -/
theorem ref (u : Vec Ideal S4096x1024 .bf16) (d : Vec Ideal S4096x5632 .bf16) :
    Cert.GupRIdeal.Read.val_main_v15 (F := Ideal) u d = G u d := by
  funext (i : S4x1024x1408.Idx)
  have hG : G u d i = Cert.GupRIdeal.Read.val_main_v5 (F := Ideal) u d (ix2 (i 1) (col (i 0) (i 2))) := (slab u d _ _).symm
  rw [hG]
  show Cert.GupRIdeal.Read.val_main_v14 (F := Ideal) u d i = _
  unfold Cert.GupRIdeal.Read.val_main_v14
  refine concatenate_unit_eq 0 _ _ i _ rfl ⟨?_, ?_, ?_, ?_, trivial⟩
  · intro h hr j h0 hj
    show Cert.GupRIdeal.Read.val_main_v10 (F := Ideal) u d j = _
    rw [Cert.GupRIdeal.Read.val_main_v10_apply, Cert.GupRIdeal.Read.val_main_v6_apply]
    refine congrArg _ (Dots.ext2 ?_ ?_)
    · exact (hj 1 (by decide))
    · exact (Nat.zero_add _).symm.trans (congrArg₂ (fun a b : ℕ => a * 1408 + b) h.symm (hj 2 (by decide)))
  · intro h hr j h0 hj
    show Cert.GupRIdeal.Read.val_main_v11 (F := Ideal) u d j = _
    rw [Cert.GupRIdeal.Read.val_main_v11_apply, Cert.GupRIdeal.Read.val_main_v7_apply]
    refine congrArg _ (Dots.ext2 ?_ ?_)
    · exact (hj 1 (by decide))
    · exact (congrArg₂ (fun a b : ℕ => a * 1408 + b) h.symm (hj 2 (by decide)))
  · intro h hr j h0 hj
    show Cert.GupRIdeal.Read.val_main_v12 (F := Ideal) u d j = _
    rw [Cert.GupRIdeal.Read.val_main_v12_apply, Cert.GupRIdeal.Read.val_main_v8_apply]
    refine congrArg _ (Dots.ext2 ?_ ?_)
    · exact (hj 1 (by decide))
    · exact (congrArg₂ (fun a b : ℕ => a * 1408 + b) h.symm (hj 2 (by decide)))
  · intro h hr j h0 hj
    show Cert.GupRIdeal.Read.val_main_v13 (F := Ideal) u d j = _
    rw [Cert.GupRIdeal.Read.val_main_v13_apply, Cert.GupRIdeal.Read.val_main_v9_apply]
    refine congrArg _ (Dots.ext2 ?_ ?_)
    · exact (hj 1 (by decide))
    · exact (congrArg₂ (fun a b : ℕ => a * 1408 + b) h.symm (hj 2 (by decide)))

/-- The kernel and the reference agree over the extended reals. -/
theorem algebraic : Cert.algebraic_GupKIdeal_GupRIdeal := by
  intro m ρ m' ρ' _ hag
  refine ⟨fun c => G (m ((c : Thread nD τ).loc main_arg0)) (m ((c : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.GupRIdeal.Value.run m' ρ')
    rw [(hag c).1, (hag c).2]
    exact ref _ _

end Cert.Proof.Gup

end
-- ==== Proof.DuTwo.lean ====
/-
  The call `d_u2` (the gradient of the up-projection with respect to its left operand), read over the extended reals: the
  contraction is walked in two halves, the first put into the running block, the second added to it, and what is written
  back is their sum, which is the contraction over all the positions that the reference takes in one product.
-/
module

public import proofs.«01_k».proof.Defs
public import proofs.«01_k».proof.Proof.Gen.DuTwoKIdeal.Value
public import proofs.«01_k».proof.Proof.Gen.DuTwoRIdeal.Run
public import proofs.«01_k».proof.Proof.Gen.DuTwoRIdeal.Read
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Dots
public import Idealize.ShloMosaic.Lib.Pointwise.Tactic

@[expose] public section

set_option maxRecDepth 16384

noncomputable section

namespace Cert.Proof.DuTwo

open Cert.DuTwoKIdeal Cert.DuTwoKIdeal.Gen Idealize.ShloMosaic Idealize.ShloMosaic.TcCoe Idealize.SL.Sem

variable (m : (ℓ : Loc nD τ sig) → Buf (Elt Ideal) ℓ) (ρ : Dev nD → PrngReg)

/-- The gradient, element by element. -/
def G (u : Vec Ideal S4096x5632 .bf16) (d : Vec Ideal S1024x5632 .bf16) : Vec Ideal S4096x1024 .f32 :=
  fun i => ∑ k : Fin 5632, u (ix2 (i 0) k) * d (ix2 (i 1) k)

/-- The blocks each point of the grid reads and writes. -/
theorem idx : ∀ t : Fin grid0.N, (win0_0.index t 0 = t.val / 2 ∧ win0_0.index t 1 = t.val % 2)
    ∧ (win0_1.index t 0 = 0 ∧ win0_1.index t 1 = t.val % 2)
    ∧ (win0_2.index t 0 = t.val / 2 ∧ win0_2.index t 1 = 0) := by decide +kernel

/-- The contraction of one pair of blocks. -/
def part (a : Vec Ideal S1024x2816 .bf16) (b : Vec Ideal S1024x2816 .bf16) (y : S1024x1024.Idx) : EReal :=
  ∑ k : Fin 2816, a (ix2 (y 0) k) * b (ix2 (y 1) k)

/-- The body's product at an element of its block. -/
theorem pay1 (a : Vec Ideal S1024x2816 .bf16) (b : Vec Ideal S1024x2816 .bf16) (y : S1024x1024.Idx) :
    k0_pay1 (F := Ideal) a b y = part a b y := by
  refine (Dots.nt (M := 1024) (K := 2816) (N := 1024) (φ₁ := .bf16) (φ₂ := .bf16) none _ _ _ y).trans ?_
  unfold part
  pointwise

/-- What the first step leaves in the running block. -/
theorem pay2 (a : Vec Ideal S1024x2816 .bf16) (b : Vec Ideal S1024x2816 .bf16) (y : S1024x1024.Idx) :
    k0_pay2 (F := Ideal) a b y = part a b y := by
  unfold k0_pay2
  rw [shapeCast_self]
  exact pay1 a b y

/-- What a later step leaves in the running block. -/
theorem pay3 (a : Vec Ideal S1024x2816 .bf16) (b : Vec Ideal S1024x2816 .bf16) (s : Vec Ideal S1024x1024 .f32)
    (y : S1024x1024.Idx) : k0_pay3 (F := Ideal) a b s y = (s y + part a b y : EReal) := by
  unfold k0_pay3
  rw [shapeCast_self]
  exact congrArg (fun z : EReal => s y + z) (pay1 a b y)

/-- The running block at a point that ends a run: the contractions of the run. -/
theorem run_block (c : Dev nD) (t : Fin cfg0.N) (hr : t.val % 2 = 1) (y : S1024x1024.Idx) :
    (outsAt0 m c t.val t.isLt).2 y
      = (0 + ∑ s : Fin 2, part (iblk m c 0 ⟨2 * (t.val / 2) + s.val, Pipeline.run_point_lt_of_flush t hr s⟩)
          (iblk m c 1 ⟨2 * (t.val / 2) + s.val, Pipeline.run_point_lt_of_flush t hr s⟩) y : EReal) := by
  refine Pipeline.eq_sum_fin_of_reset_step_apply_of_flush (M := EReal) (fun n h => (outsAt0 m c n h).2) 2 (fun _ => 0)
    (fun t y => part (iblk m c 0 t) (iblk m c 1 t) y) (fun t h j => ?_) (fun t h j => ?_) t hr y
  · rw [outsAt0_A m c t h (by omega) (by omega)]
    frame_out
    rw [pay2, zero_add]
  · rw [outsAt0_B m c t h (by omega) (by omega)]
    frame_out
    rw [pay3]
    refine congrArg (fun z : EReal => z + _) ?_
    exact congrFun (Memref.IsWhole.read_unread _ _) j

/-- What a point that ends a run writes back: its running block. -/
theorem out_block (c : Dev nD) (t : Fin cfg0.N) (hr : t.val % 2 = 1) (y : S1024x1024.Idx) :
    (outsAt0 m c t.val t.isLt).1 y = (outsAt0 m c t.val t.isLt).2 y := by
  rw [outsAt0_B m c t (by omega) hr hr]
  frame_out

/-- The result array after the run is the gradient of the two arguments. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have hr : t.val % 2 = 1 := (flush0_2 t).mp hf
  blk_simp
  rw [after0_2, out_block m c t hr, run_block m c t hr, zero_add]
  unfold G
  refine Fin.sum_mul_add_congr (M := EReal) fun s k hl => ?_
  have e := idx t
  have e' := idx ⟨2 * (t.val / 2) + s.val, Pipeline.run_point_lt_of_flush t hr s⟩
  have hs := s.isLt
  have h2 : (2 * (t.val / 2) + s.val) % 2 = s.val := by omega
  have h3 : (2 * (t.val / 2) + s.val) / 2 = t.val / 2 := by omega
  have h4 : (2 * (t.val / 2) + s.val) / 2 = t.val / 2 := by omega
  refine congrArg₂ (fun a b : EReal => a * b) ?_ ?_
  · show V m c main_arg0 _ = V m c main_arg0 _
    congr 1
    blk_ext [e'.1.1, e'.1.2, e.2.2.1, h2, h3, h4]
  · show V m c main_arg1 _ = V m c main_arg1 _
    congr 1
    blk_ext [e'.2.1.1, e'.2.1.2, e.2.2.2, h2, h3, h4]

/-- The reference's result is the same gradient. -/
theorem ref (u : Vec Ideal S4096x5632 .bf16) (d : Vec Ideal S1024x5632 .bf16) :
    Cert.DuTwoRIdeal.Read.val_main_v4 (F := Ideal) u d = G u d := by
  funext i
  rw [Cert.DuTwoRIdeal.Read.val_main_v4_apply]
  refine Finset.sum_congr (M := EReal) rfl fun k _ => ?_
  rw [Cert.DuTwoRIdeal.Read.val_main_v3_apply, Cert.DuTwoRIdeal.Read.val_main_v1_apply]
  exact congrArg₂ (fun a b : EReal => a * b) (congrArg u (Dots.ext2 rfl rfl)) (congrArg d (Dots.ext2 rfl rfl))

/-- The kernel and the reference agree over the extended reals. -/
theorem algebraic : Cert.algebraic_DuTwoKIdeal_DuTwoRIdeal := by
  intro m ρ m' ρ' _ hag
  refine ⟨fun c => G (m ((c : Thread nD τ).loc main_arg0)) (m ((c : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.DuTwoRIdeal.Value.run m' ρ')
    rw [(hag c).1, (hag c).2]
    exact ref _ _

end Cert.Proof.DuTwo

end
-- ==== Proof.Gdown.lean ====
/-
  The call `g_ffn_down` (the gradient of the feed-forward down-projection's weight), read over the extended reals: the
  contraction is walked in two halves, the first put into the running block, the second added to it, and what is written
  back is their sum, which is the contraction over all the positions that the reference takes in one product.
-/
module

public import proofs.«01_k».proof.Defs
public import proofs.«01_k».proof.Proof.Gen.GdownKIdeal.Value
public import proofs.«01_k».proof.Proof.Gen.GdownRIdeal.Run
public import proofs.«01_k».proof.Proof.Gen.GdownRIdeal.Read
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Dots
public import Idealize.ShloMosaic.Lib.Pointwise.Tactic

@[expose] public section

set_option maxRecDepth 16384

noncomputable section

namespace Cert.Proof.Gdown

open Cert.GdownKIdeal Cert.GdownKIdeal.Gen Idealize.ShloMosaic Idealize.ShloMosaic.TcCoe Idealize.SL.Sem

variable (m : (ℓ : Loc nD τ sig) → Buf (Elt Ideal) ℓ) (ρ : Dev nD → PrngReg)

/-- The gradient, element by element. -/
def G (u : Vec Ideal S4096x2816 .bf16) (d : Vec Ideal S4096x1024 .f32) : Vec Ideal S2816x1024 .bf16 :=
  fun i => ∑ k : Fin 4096, u (ix2 k (i 0)) * d (ix2 k (i 1))

/-- The blocks each point of the grid reads and writes. -/
theorem idx : ∀ t : Fin grid0.N, (win0_0.index t 0 = t.val % 2 ∧ win0_0.index t 1 = t.val / 4)
    ∧ (win0_1.index t 0 = t.val % 2 ∧ win0_1.index t 1 = (t.val / 2) % 2)
    ∧ (win0_2.index t 0 = t.val / 4 ∧ win0_2.index t 1 = (t.val / 2) % 2) := by decide +kernel

/-- The contraction of one pair of blocks. -/
def part (a : Vec Ideal S2048x1408 .bf16) (b : Vec Ideal S2048x512 .f32) (y : S1408x512.Idx) : EReal :=
  ∑ k : Fin 2048, a (ix2 k (y 0)) * b (ix2 k (y 1))

/-- The body's product at an element of its block. -/
theorem pay1 (a : Vec Ideal S2048x1408 .bf16) (b : Vec Ideal S2048x512 .f32) (y : S1408x512.Idx) :
    k0_pay1 (F := Ideal) a b y = part a b y := by
  refine (Dots.tn (M := 1408) (K := 2048) (N := 512) (φ₁ := .bf16) (φ₂ := .bf16)
    dot_S2048x1408_S2048x512_S1408x512_0_0_1_1_n_n_wf none _ _ _ y).trans ?_
  unfold part
  pointwise

/-- What the first step leaves in the running block. -/
theorem pay2 (a : Vec Ideal S2048x1408 .bf16) (b : Vec Ideal S2048x512 .f32) (y : S1408x512.Idx) :
    k0_pay2 (F := Ideal) a b y = part a b y := by
  unfold k0_pay2
  rw [shapeCast_self]
  exact pay1 a b y

/-- What a later step leaves in the running block. -/
theorem pay3 (a : Vec Ideal S2048x1408 .bf16) (b : Vec Ideal S2048x512 .f32) (s : Vec Ideal S1408x512 .f32)
    (y : S1408x512.Idx) : k0_pay3 (F := Ideal) a b s y = (s y + part a b y : EReal) := by
  unfold k0_pay3
  rw [shapeCast_self]
  exact congrArg (fun z : EReal => s y + z) (pay1 a b y)

/-- The running block at a point that ends a run: the contractions of the run. -/
theorem run_block (c : Dev nD) (t : Fin cfg0.N) (hr : t.val % 2 = 1) (y : S1408x512.Idx) :
    (outsAt0 m c t.val t.isLt).2 y
      = (0 + ∑ s : Fin 2, part (iblk m c 0 ⟨2 * (t.val / 2) + s.val, Pipeline.run_point_lt_of_flush t hr s⟩)
          (iblk m c 1 ⟨2 * (t.val / 2) + s.val, Pipeline.run_point_lt_of_flush t hr s⟩) y : EReal) := by
  refine Pipeline.eq_sum_fin_of_reset_step_apply_of_flush (M := EReal) (fun n h => (outsAt0 m c n h).2) 2 (fun _ => 0)
    (fun t y => part (iblk m c 0 t) (iblk m c 1 t) y) (fun t h j => ?_) (fun t h j => ?_) t hr y
  · rw [outsAt0_A m c t h (by omega) (by omega)]
    frame_out
    rw [pay2, zero_add]
  · rw [outsAt0_B m c t h (by omega) (by omega)]
    frame_out
    rw [pay3]
    refine congrArg (fun z : EReal => z + _) ?_
    exact congrFun (Memref.IsWhole.read_unread _ _) j

/-- What a point that ends a run writes back: its running block. -/
theorem out_block (c : Dev nD) (t : Fin cfg0.N) (hr : t.val % 2 = 1) (y : S1408x512.Idx) :
    (outsAt0 m c t.val t.isLt).1 y = (outsAt0 m c t.val t.isLt).2 y := by
  rw [outsAt0_B m c t (by omega) hr hr]
  frame_out
  rfl

/-- The result array after the run is the gradient of the two arguments. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have hr : t.val % 2 = 1 := (flush0_2 t).mp hf
  blk_simp
  rw [after0_2, out_block m c t hr, run_block m c t hr, zero_add]
  unfold G
  refine Fin.sum_mul_add_congr (M := EReal) fun s k hl => ?_
  have e := idx t
  have e' := idx ⟨2 * (t.val / 2) + s.val, Pipeline.run_point_lt_of_flush t hr s⟩
  have hs := s.isLt
  have h2 : (2 * (t.val / 2) + s.val) % 2 = s.val := by omega
  have h3 : (2 * (t.val / 2) + s.val) / 2 = t.val / 2 := by omega
  have h4 : (2 * (t.val / 2) + s.val) / 4 = t.val / 4 := by omega
  refine congrArg₂ (fun a b : EReal => a * b) ?_ ?_
  · show V m c main_arg0 _ = V m c main_arg0 _
    congr 1
    blk_ext [e'.1.1, e'.1.2, e.2.2.1, h2, h3, h4]
  · show V m c main_arg1 _ = V m c main_arg1 _
    congr 1
    blk_ext [e'.2.1.1, e'.2.1.2, e.2.2.2, h2, h3, h4]

/-- The reference's result is the same gradient. -/
theorem ref (u : Vec Ideal S4096x2816 .bf16) (d : Vec Ideal S4096x1024 .f32) :
    Cert.GdownRIdeal.Read.val_main_v5 (F := Ideal) u d = G u d := by
  funext i
  show Cert.GdownRIdeal.Read.val_main_v4 (F := Ideal) u d i = _
  rw [Cert.GdownRIdeal.Read.val_main_v4_apply, Cert.GdownRIdeal.Read.val_main_v3_apply]
  refine Finset.sum_congr (M := EReal) rfl fun k _ => ?_
  rw [Cert.GdownRIdeal.Read.val_main_v1_apply, mul_comm]
  exact congrArg₂ (fun a b : EReal => a * b) (congrArg u (Dots.ext2 rfl rfl)) (congrArg d (Dots.ext2 rfl rfl))

/-- The kernel and the reference agree over the extended reals. -/
theorem algebraic : Cert.algebraic_GdownKIdeal_GdownRIdeal := by
  intro m ρ m' ρ' _ hag
  refine ⟨fun c => G (m ((c : Thread nD τ).loc main_arg0)) (m ((c : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.GdownRIdeal.Value.run m' ρ')
    rw [(hag c).1, (hag c).2]
    exact ref _ _

end Cert.Proof.Gdown

end
-- ==== Proof.Gout.lean ====
/-
  The call `g_w_out` (the gradient of the output projection's weight), read over the extended reals: the
  contraction is walked in two halves, the first put into the running block, the second added to it, and what is written
  back is their sum, which is the contraction over all the positions that the reference takes in one product.
-/
module

public import proofs.«01_k».proof.Defs
public import proofs.«01_k».proof.Proof.Gen.GoutKIdeal.Value
public import proofs.«01_k».proof.Proof.Gen.GoutRIdeal.Run
public import proofs.«01_k».proof.Proof.Gen.GoutRIdeal.Read
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Dots
public import Idealize.ShloMosaic.Lib.Pointwise.Tactic

@[expose] public section

set_option maxRecDepth 16384

noncomputable section

namespace Cert.Proof.Gout

open Cert.GoutKIdeal Cert.GoutKIdeal.Gen Idealize.ShloMosaic Idealize.ShloMosaic.TcCoe Idealize.SL.Sem

variable (m : (ℓ : Loc nD τ sig) → Buf (Elt Ideal) ℓ) (ρ : Dev nD → PrngReg)

/-- The gradient, element by element. -/
def G (u : Vec Ideal S4096x1024 .bf16) (d : Vec Ideal S4096x1024 .f32) : Vec Ideal S1024x1024 .bf16 :=
  fun i => ∑ k : Fin 4096, u (ix2 k (i 0)) * d (ix2 k (i 1))

/-- The blocks each point of the grid reads and writes. -/
theorem idx : ∀ t : Fin grid0.N, (win0_0.index t 0 = t.val % 2 ∧ win0_0.index t 1 = 0)
    ∧ (win0_1.index t 0 = t.val % 2 ∧ win0_1.index t 1 = t.val / 2)
    ∧ (win0_2.index t 0 = 0 ∧ win0_2.index t 1 = t.val / 2) := by decide +kernel

/-- The contraction of one pair of blocks. -/
def part (a : Vec Ideal S2048x1024 .bf16) (b : Vec Ideal S2048x512 .f32) (y : S1024x512.Idx) : EReal :=
  ∑ k : Fin 2048, a (ix2 k (y 0)) * b (ix2 k (y 1))

/-- The body's product at an element of its block. -/
theorem pay1 (a : Vec Ideal S2048x1024 .bf16) (b : Vec Ideal S2048x512 .f32) (y : S1024x512.Idx) :
    k0_pay1 (F := Ideal) a b y = part a b y := by
  refine (Dots.tn (M := 1024) (K := 2048) (N := 512) (φ₁ := .bf16) (φ₂ := .bf16)
    dot_S2048x1024_S2048x512_S1024x512_0_0_1_1_n_n_wf none _ _ _ y).trans ?_
  unfold part
  pointwise

/-- What the first step leaves in the running block. -/
theorem pay2 (a : Vec Ideal S2048x1024 .bf16) (b : Vec Ideal S2048x512 .f32) (y : S1024x512.Idx) :
    k0_pay2 (F := Ideal) a b y = part a b y := by
  unfold k0_pay2
  rw [shapeCast_self]
  exact pay1 a b y

/-- What a later step leaves in the running block. -/
theorem pay3 (a : Vec Ideal S2048x1024 .bf16) (b : Vec Ideal S2048x512 .f32) (s : Vec Ideal S1024x512 .f32)
    (y : S1024x512.Idx) : k0_pay3 (F := Ideal) a b s y = (s y + part a b y : EReal) := by
  unfold k0_pay3
  rw [shapeCast_self]
  exact congrArg (fun z : EReal => s y + z) (pay1 a b y)

/-- The running block at a point that ends a run: the contractions of the run. -/
theorem run_block (c : Dev nD) (t : Fin cfg0.N) (hr : t.val % 2 = 1) (y : S1024x512.Idx) :
    (outsAt0 m c t.val t.isLt).2 y
      = (0 + ∑ s : Fin 2, part (iblk m c 0 ⟨2 * (t.val / 2) + s.val, Pipeline.run_point_lt_of_flush t hr s⟩)
          (iblk m c 1 ⟨2 * (t.val / 2) + s.val, Pipeline.run_point_lt_of_flush t hr s⟩) y : EReal) := by
  refine Pipeline.eq_sum_fin_of_reset_step_apply_of_flush (M := EReal) (fun n h => (outsAt0 m c n h).2) 2 (fun _ => 0)
    (fun t y => part (iblk m c 0 t) (iblk m c 1 t) y) (fun t h j => ?_) (fun t h j => ?_) t hr y
  · rw [outsAt0_A m c t h (by omega) (by omega)]
    frame_out
    rw [pay2, zero_add]
  · rw [outsAt0_B m c t h (by omega) (by omega)]
    frame_out
    rw [pay3]
    refine congrArg (fun z : EReal => z + _) ?_
    exact congrFun (Memref.IsWhole.read_unread _ _) j

/-- What a point that ends a run writes back: its running block. -/
theorem out_block (c : Dev nD) (t : Fin cfg0.N) (hr : t.val % 2 = 1) (y : S1024x512.Idx) :
    (outsAt0 m c t.val t.isLt).1 y = (outsAt0 m c t.val t.isLt).2 y := by
  rw [outsAt0_B m c t (by omega) hr hr]
  frame_out
  rfl

/-- The result array after the run is the gradient of the two arguments. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have hr : t.val % 2 = 1 := (flush0_2 t).mp hf
  blk_simp
  rw [after0_2, out_block m c t hr, run_block m c t hr, zero_add]
  unfold G
  refine Fin.sum_mul_add_congr (M := EReal) fun s k hl => ?_
  have e := idx t
  have e' := idx ⟨2 * (t.val / 2) + s.val, Pipeline.run_point_lt_of_flush t hr s⟩
  have hs := s.isLt
  have h2 : (2 * (t.val / 2) + s.val) % 2 = s.val := by omega
  have h3 : (2 * (t.val / 2) + s.val) / 2 = t.val / 2 := by omega
  have h4 : (2 * (t.val / 2) + s.val) / 4 = t.val / 4 := by omega
  refine congrArg₂ (fun a b : EReal => a * b) ?_ ?_
  · show V m c main_arg0 _ = V m c main_arg0 _
    congr 1
    blk_ext [e'.1.1, e'.1.2, e.2.2.1, h2, h3, h4]
  · show V m c main_arg1 _ = V m c main_arg1 _
    congr 1
    blk_ext [e'.2.1.1, e'.2.1.2, e.2.2.2, h2, h3, h4]

/-- The reference's result is the same gradient. -/
theorem ref (u : Vec Ideal S4096x1024 .bf16) (d : Vec Ideal S4096x1024 .f32) :
    Cert.GoutRIdeal.Read.val_main_v5 (F := Ideal) u d = G u d := by
  funext i
  show Cert.GoutRIdeal.Read.val_main_v4 (F := Ideal) u d i = _
  rw [Cert.GoutRIdeal.Read.val_main_v4_apply, Cert.GoutRIdeal.Read.val_main_v3_apply]
  refine Finset.sum_congr (M := EReal) rfl fun k _ => ?_
  rw [Cert.GoutRIdeal.Read.val_main_v1_apply, mul_comm]
  exact congrArg₂ (fun a b : EReal => a * b) (congrArg u (Dots.ext2 rfl rfl)) (congrArg d (Dots.ext2 rfl rfl))

/-- The kernel and the reference agree over the extended reals. -/
theorem algebraic : Cert.algebraic_GoutKIdeal_GoutRIdeal := by
  intro m ρ m' ρ' _ hag
  refine ⟨fun c => G (m ((c : Thread nD τ).loc main_arg0)) (m ((c : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.GoutRIdeal.Value.run m' ρ')
    rw [(hag c).1, (hag c).2]
    exact ref _ _

end Cert.Proof.Gout

end
-- ==== Proof.Gra.lean ====
/-
  The call `g_rwkv_proj` (the gradient of a branch's projection weight, in four column slabs), read over the extended reals: the
  contraction is walked in two halves, the first put into the running block, the second added to it, and what is written
  back is their sum, which is the contraction over all the positions that the reference takes in one product.
-/
module

public import proofs.«01_k».proof.Defs
public import proofs.«01_k».proof.Proof.Gen.GraKIdeal.Value
public import proofs.«01_k».proof.Proof.Gen.GraRIdeal.Run
public import proofs.«01_k».proof.Proof.Gen.GraRIdeal.Read
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Dots
public import Idealize.ShloMosaic.Lib.Pointwise.Tactic

@[expose] public section

set_option maxRecDepth 16384

noncomputable section

namespace Cert.Proof.Gra

open Cert.GraKIdeal Cert.GraKIdeal.Gen Idealize.ShloMosaic Idealize.ShloMosaic.TcCoe Idealize.SL.Sem

variable (m : (ℓ : Loc nD τ sig) → Buf (Elt Ideal) ℓ) (ρ : Dev nD → PrngReg)

/-- The column of the whole gradient that lane `l` of slab `q` is. -/
def col (q : Fin 4) (l : Fin 256) : Fin 1024 := ⟨q.val * 256 + l.val, by omega⟩

/-- The gradient, element by element, its columns in slabs. -/
def G (u : Vec Ideal S4096x512 .bf16) (d : Vec Ideal S4096x1024 .bf16) : Vec Ideal S4x512x256 .bf16 :=
  fun i => ∑ k : Fin 4096, u (ix2 k (i 1)) * d (ix2 k (col (i 0) (i 2)))

/-- The blocks each point of the grid reads and writes. -/
theorem idx : ∀ t : Fin grid0.N, (win0_0.index t 0 = t.val % 2 ∧ win0_0.index t 1 = 0)
    ∧ (win0_1.index t 0 = t.val % 2 ∧ win0_1.index t 1 = t.val / 2)
    ∧ (win0_2.index t 0 = t.val / 2 ∧ win0_2.index t 1 = 0 ∧ win0_2.index t 2 = 0) := by decide +kernel

/-- The contraction of one pair of blocks. -/
def part (a : Vec Ideal S2048x512 .bf16) (b : Vec Ideal S2048x256 .bf16) (y : S512x256.Idx) : EReal :=
  ∑ k : Fin 2048, a (ix2 k (y 0)) * b (ix2 k (y 1))

/-- The body's product at an element of its block. -/
theorem pay1 (a : Vec Ideal S2048x512 .bf16) (b : Vec Ideal S2048x256 .bf16) (y : S512x256.Idx) :
    k0_pay1 (F := Ideal) a b y = part a b y := by
  refine (Dots.tn (M := 512) (K := 2048) (N := 256) (φ₁ := .bf16) (φ₂ := .bf16)
    dot_S2048x512_S2048x256_S512x256_0_0_1_1_n_n_wf none _ _ _ y).trans ?_
  unfold part
  pointwise

/-- What the first step leaves in the running block. -/
theorem pay2 (a : Vec Ideal S2048x512 .bf16) (b : Vec Ideal S2048x256 .bf16) (y : S512x256.Idx) :
    k0_pay2 (F := Ideal) a b y = part a b y := by
  unfold k0_pay2
  rw [shapeCast_self]
  exact pay1 a b y

/-- What a later step leaves in the running block. -/
theorem pay3 (a : Vec Ideal S2048x512 .bf16) (b : Vec Ideal S2048x256 .bf16) (s : Vec Ideal S512x256 .f32)
    (y : S512x256.Idx) : k0_pay3 (F := Ideal) a b s y = (s y + part a b y : EReal) := by
  unfold k0_pay3
  rw [shapeCast_self]
  exact congrArg (fun z : EReal => s y + z) (pay1 a b y)

/-- What is written back of the running block. -/
theorem pay4 (s : Vec Ideal S512x256 .f32) (y : S1x512x256.Idx) :
    k0_pay4 (F := Ideal) s y = s (ix2 (y 1) (y 2)) := by
  refine (shapeCast_addUnit_apply ![512, 256] (truncf (F := Ideal) (s := S512x256) (φ := .f32) .bf16 s bitsLt_bf16_f32) _ y).trans ?_
  exact congrArg s (Dots.ext2 rfl rfl)

/-- The running block at a point that ends a run: the contractions of the run. -/
theorem run_block (c : Dev nD) (t : Fin cfg0.N) (hr : t.val % 2 = 1) (y : S512x256.Idx) :
    (outsAt0 m c t.val t.isLt).2 y
      = (0 + ∑ s : Fin 2, part (iblk m c 0 ⟨2 * (t.val / 2) + s.val, Pipeline.run_point_lt_of_flush t hr s⟩)
          (iblk m c 1 ⟨2 * (t.val / 2) + s.val, Pipeline.run_point_lt_of_flush t hr s⟩) y : EReal) := by
  refine Pipeline.eq_sum_fin_of_reset_step_apply_of_flush (M := EReal) (fun n h => (outsAt0 m c n h).2) 2 (fun _ => 0)
    (fun t y => part (iblk m c 0 t) (iblk m c 1 t) y) (fun t h j => ?_) (fun t h j => ?_) t hr y
  · rw [outsAt0_A m c t h (by omega) (by omega)]
    frame_out
    rw [pay2, zero_add]
  · rw [outsAt0_B m c t h (by omega) (by omega)]
    frame_out
    rw [pay3]
    refine congrArg (fun z : EReal => z + _) ?_
    exact congrFun (Memref.IsWhole.read_unread _ _) j

/-- What a point that ends a run writes back: its running block. -/
theorem out_block (c : Dev nD) (t : Fin cfg0.N) (hr : t.val % 2 = 1) (y : S1x512x256.Idx) :
    (outsAt0 m c t.val t.isLt).1 y = (outsAt0 m c t.val t.isLt).2 (ix2 (y 1) (y 2)) := by
  rw [outsAt0_B m c t (by omega) hr hr]
  frame_out
  rw [pay4]

/-- The result array after the run is the gradient of the two arguments. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have hr : t.val % 2 = 1 := (flush0_2 t).mp hf
  blk_simp
  rw [after0_2, out_block m c t hr, run_block m c t hr, zero_add]
  unfold G
  refine Fin.sum_mul_add_congr (M := EReal) fun s k hl => ?_
  have e := idx t
  have e' := idx ⟨2 * (t.val / 2) + s.val, Pipeline.run_point_lt_of_flush t hr s⟩
  have hs := s.isLt
  have h2 : (2 * (t.val / 2) + s.val) % 2 = s.val := by omega
  have h3 : (2 * (t.val / 2) + s.val) / 2 = t.val / 2 := by omega
  have h4 : (2 * (t.val / 2) + s.val) / 8 = t.val / 8 := by omega
  refine congrArg₂ (fun a b : EReal => a * b) ?_ ?_
  · show V m c main_arg0 _ = V m c main_arg0 _
    congr 1
    blk_ext [e'.1.1, e'.1.2, e.2.2.2.1, h2, h3, h4]
  · show V m c main_arg1 _ = V m c main_arg1 _
    congr 1
    blk_ext [e'.2.1.1, e'.2.1.2, e.2.2.1, e.2.2.2.2, h2, h3, h4, col]

/-- A column of the reference's gradient, before it is cut into slabs. -/
theorem slab (u : Vec Ideal S4096x512 .bf16) (d : Vec Ideal S4096x1024 .bf16) (r : Fin 512) (n : Fin 1024) :
    Cert.GraRIdeal.Read.val_main_v5 (F := Ideal) u d (ix2 r n) = ∑ k : Fin 4096, u (ix2 k r) * d (ix2 k n) := by
  rw [Cert.GraRIdeal.Read.val_main_v5_apply, Cert.GraRIdeal.Read.val_main_v4_apply]
  refine Finset.sum_congr (M := EReal) rfl fun k _ => ?_
  rw [Cert.GraRIdeal.Read.val_main_v3_apply, Cert.GraRIdeal.Read.val_main_v1_apply, mul_comm]
  exact congrArg₂ (fun a b : EReal => a * b) (congrArg u (Dots.ext2 rfl rfl)) (congrArg d (Dots.ext2 rfl rfl))

/-- The reference's result is the same gradient. -/
theorem ref (u : Vec Ideal S4096x512 .bf16) (d : Vec Ideal S4096x1024 .bf16) :
    Cert.GraRIdeal.Read.val_main_v15 (F := Ideal) u d = G u d := by
  funext (i : S4x512x256.Idx)
  have hG : G u d i = Cert.GraRIdeal.Read.val_main_v5 (F := Ideal) u d (ix2 (i 1) (col (i 0) (i 2))) := (slab u d _ _).symm
  rw [hG]
  show Cert.GraRIdeal.Read.val_main_v14 (F := Ideal) u d i = _
  unfold Cert.GraRIdeal.Read.val_main_v14
  refine concatenate_unit_eq 0 _ _ i _ rfl ⟨?_, ?_, ?_, ?_, trivial⟩
  · intro h hr j h0 hj
    show Cert.GraRIdeal.Read.val_main_v10 (F := Ideal) u d j = _
    rw [Cert.GraRIdeal.Read.val_main_v10_apply, Cert.GraRIdeal.Read.val_main_v6_apply]
    refine congrArg _ (Dots.ext2 ?_ ?_)
    · exact (hj 1 (by decide))
    · exact (Nat.zero_add _).symm.trans (congrArg₂ (fun a b : ℕ => a * 256 + b) h.symm (hj 2 (by decide)))
  · intro h hr j h0 hj
    show Cert.GraRIdeal.Read.val_main_v11 (F := Ideal) u d j = _
    rw [Cert.GraRIdeal.Read.val_main_v11_apply, Cert.GraRIdeal.Read.val_main_v7_apply]
    refine congrArg _ (Dots.ext2 ?_ ?_)
    · exact (hj 1 (by decide))
    · exact (congrArg₂ (fun a b : ℕ => a * 256 + b) h.symm (hj 2 (by decide)))
  · intro h hr j h0 hj
    show Cert.GraRIdeal.Read.val_main_v12 (F := Ideal) u d j = _
    rw [Cert.GraRIdeal.Read.val_main_v12_apply, Cert.GraRIdeal.Read.val_main_v8_apply]
    refine congrArg _ (Dots.ext2 ?_ ?_)
    · exact (hj 1 (by decide))
    · exact (congrArg₂ (fun a b : ℕ => a * 256 + b) h.symm (hj 2 (by decide)))
  · intro h hr j h0 hj
    show Cert.GraRIdeal.Read.val_main_v13 (F := Ideal) u d j = _
    rw [Cert.GraRIdeal.Read.val_main_v13_apply, Cert.GraRIdeal.Read.val_main_v9_apply]
    refine congrArg _ (Dots.ext2 ?_ ?_)
    · exact (hj 1 (by decide))
    · exact (congrArg₂ (fun a b : ℕ => a * 256 + b) h.symm (hj 2 (by decide)))

/-- The kernel and the reference agree over the extended reals. -/
theorem algebraic : Cert.algebraic_GraKIdeal_GraRIdeal := by
  intro m ρ m' ρ' _ hag
  refine ⟨fun c => G (m ((c : Thread nD τ).loc main_arg0)) (m ((c : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.GraRIdeal.Value.run m' ρ')
    rw [(hag c).1, (hag c).2]
    exact ref _ _

end Cert.Proof.Gra

end
-- ==== Proof.Up.lean ====
/-
  The call `ffn_up` (the feed-forward up-projection), read over the extended reals: every block of the grid is a row block
  of the normed stream times a column block of the weight, so the result array is their product.
-/
module

public import proofs.«01_k».proof.Defs
public import proofs.«01_k».proof.Proof.Gen.UpKIdeal.Value
public import proofs.«01_k».proof.Proof.Gen.UpRIdeal.Run
public import proofs.«01_k».proof.Proof.Gen.UpRIdeal.Read
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Dots
public import Idealize.ShloMosaic.Lib.Pointwise.Tactic

@[expose] public section

set_option maxRecDepth 16384

noncomputable section

namespace Cert.Proof.Up

open Cert.UpKIdeal Cert.UpKIdeal.Gen Idealize.ShloMosaic Idealize.ShloMosaic.TcCoe Idealize.SL.Sem

variable (m : (ℓ : Loc nD τ sig) → Buf (Elt Ideal) ℓ) (ρ : Dev nD → PrngReg)

/-- The product of `x` with the weight, element by element. -/
def G (x : Vec Ideal S4096x1024 .bf16) (w : Vec Ideal S1024x5632 .bf16) : Vec Ideal S4096x5632 .f32 :=
  fun i => ∑ k : Fin 1024, x (ix2 (i 0) k) * w (ix2 k (i 1))

/-- The grid's row blocks of the result are the row blocks of `x`. -/
theorem rows : ∀ t : Fin grid0.N, win0_2.index t 0 = win0_0.index t 0 ∧ win0_0.index t 1 = 0 := by decide +kernel

/-- The grid's column blocks of the result are the column blocks of the weight. -/
theorem cols : ∀ t : Fin grid0.N, win0_2.index t 1 = win0_1.index t 1 ∧ win0_1.index t 0 = 0 := by decide +kernel

/-- The body's product at an element of its block. -/
theorem pay (a : Vec Ideal S1024x1024 .bf16) (b : Vec Ideal S1024x1408 .bf16) (y : S1024x1408.Idx) :
    k0_pay1 (F := Ideal) a b y = ∑ k : Fin 1024, a (ix2 (y 0) k) * b (ix2 k (y 1)) := by
  refine (Dots.nn (M := 1024) (K := 1024) (N := 1408) (φ₁ := .bf16) (φ₂ := .bf16) none _ _ _ y).trans ?_
  pointwise

/-- The result array after the run is the product of the two arguments. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  unfold G
  refine Finset.sum_congr (M := EReal) rfl fun k _ => ?_
  have e0 := rows t
  have e1 := cols t
  congr 1
  · show V m c main_arg0 _ = V m c main_arg0 _
    congr 1
    blk_ext [e0.1, e0.2]
  · show V m c main_arg1 _ = V m c main_arg1 _
    congr 1
    blk_ext [e1.1, e1.2]

/-- The reference's result is the same product. -/
theorem ref (x : Vec Ideal S4096x1024 .bf16) (w : Vec Ideal S1024x5632 .bf16) :
    Cert.UpRIdeal.Read.val_main_v2 (F := Ideal) x w = G x w := by
  funext i
  rw [Cert.UpRIdeal.Read.val_main_v2_apply]
  refine Finset.sum_congr (M := EReal) rfl fun k _ => ?_
  rw [Cert.UpRIdeal.Read.val_main_v0_apply, Cert.UpRIdeal.Read.val_main_v1_apply]
  exact congrArg₂ (fun a b : EReal => a * b) (congrArg x (Dots.ext2 rfl rfl)) (congrArg w (Dots.ext2 rfl rfl))

/-- The kernel and the reference agree over the extended reals. -/
theorem algebraic : Cert.algebraic_UpKIdeal_UpRIdeal := by
  intro m ρ m' ρ' _ hag
  refine ⟨fun c => G (m ((c : Thread nD τ).loc main_arg0)) (m ((c : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.UpRIdeal.Value.run m' ρ')
    rw [(hag c).1, (hag c).2]
    exact ref _ _

end Cert.Proof.Up

end
-- ==== Proof.InRwkv.lean ====
/-
  The call `in_rwkv` (one group of columns of the input projection), read over the extended reals: the host slices the columns
  out of the whole weight and every block of the grid is a row block of the normed stream times a column block of them; the
  reference takes the whole product and slices its columns out afterwards.
-/
module

public import proofs.«01_k».proof.Defs
public import proofs.«01_k».proof.Proof.Gen.InRwkvKIdeal.Value
public import proofs.«01_k».proof.Proof.Gen.InRwkvRIdeal.Run
public import proofs.«01_k».proof.Proof.Gen.InRwkvRIdeal.Read
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Dots
public import Idealize.ShloMosaic.Lib.Pointwise.Tactic

@[expose] public section

set_option maxRecDepth 16384

noncomputable section

namespace Cert.Proof.InRwkv

open Cert.InRwkvKIdeal Cert.InRwkvKIdeal.Gen Idealize.ShloMosaic Idealize.ShloMosaic.TcCoe Idealize.SL.Sem

variable (m : (ℓ : Loc nD τ sig) → Buf (Elt Ideal) ℓ) (ρ : Dev nD → PrngReg)

/-- The column of the whole weight that column `n` of this piece is. -/
def col (n : Fin 1792) : Fin 6144 := ⟨0 + n.val, by omega⟩

/-- The product of `x` with these columns of the weight, element by element. -/
def G (x : Vec Ideal S4096x1024 .bf16) (w : Vec Ideal S1024x6144 .bf16) : Vec Ideal S4096x1792 .f32 :=
  fun i => ∑ k : Fin 1024, x (ix2 (i 0) k) * w (ix2 k (col (i 1)))

/-- The grid's row blocks of the result are the row blocks of `x`. -/
theorem rows : ∀ t : Fin grid0.N, win0_2.index t 0 = win0_0.index t 0 ∧ win0_0.index t 1 = 0 := by decide +kernel

/-- The grid's column blocks of the result are the column blocks of the weight. -/
theorem cols : ∀ t : Fin grid0.N, win0_2.index t 1 = win0_1.index t 1 ∧ win0_1.index t 0 = 0 := by decide +kernel

/-- The body's product at an element of its block. -/
theorem pay (a : Vec Ideal S1024x1024 .bf16) (b : Vec Ideal S1024x896 .bf16) (y : S1024x896.Idx) :
    k0_pay1 (F := Ideal) a b y = ∑ k : Fin 1024, a (ix2 (y 0) k) * b (ix2 k (y 1)) := by
  unfold k0_pay1
  rw [shapeCast_self]
  refine (Dots.nn (M := 1024) (K := 1024) (N := 896) (φ₁ := .bf16) (φ₂ := .bf16) none _ _ _ y).trans ?_
  pointwise

/-- The columns of the weight the host slices out. -/
theorem weight (c : Dev nD) : V m c main_v0
    = extractStridedSlice S1024x1792 ![0, 0] (m ((c : Thread nD τ).loc main_arg1)) slices_S1024x6144_S1024x1792_0_0 := by
  show StableHlo.after hostOps0 (fun b => m (c, b)) main_v0 = _
  unfold hostOps0
  after_results

/-- The result array after the run is the product of the two arguments. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  unfold G
  refine Finset.sum_congr (M := EReal) rfl fun k _ => ?_
  have e0 := rows t
  have e1 := cols t
  congr 1
  · show V m c main_arg0 _ = V m c main_arg0 _
    congr 1
    blk_ext [e0.1, e0.2]
  · show V m c main_v0 _ = _
    rw [weight]
    refine (Dots.cols 0 _ _ _).trans ?_
    show m ((c : Thread nD τ).loc main_arg1) _ = m ((c : Thread nD τ).loc main_arg1) _
    congr 1
    blk_ext [e1.1, e1.2, col]

/-- The reference's result is the same product. -/
theorem ref (x : Vec Ideal S4096x1024 .bf16) (w : Vec Ideal S1024x6144 .bf16) :
    Cert.InRwkvRIdeal.Read.val_main_v3 (F := Ideal) x w = G x w := by
  funext i
  rw [Cert.InRwkvRIdeal.Read.val_main_v3_apply, Cert.InRwkvRIdeal.Read.val_main_v2_apply]
  refine Finset.sum_congr (M := EReal) rfl fun k _ => ?_
  rw [Cert.InRwkvRIdeal.Read.val_main_v0_apply, Cert.InRwkvRIdeal.Read.val_main_v1_apply]
  exact congrArg₂ (fun a b : EReal => a * b) (congrArg x (Dots.ext2 rfl rfl)) (congrArg w (Dots.ext2 rfl (Nat.zero_add _).symm))

/-- The kernel and the reference agree over the extended reals. -/
theorem algebraic : Cert.algebraic_InRwkvKIdeal_InRwkvRIdeal := by
  intro m ρ m' ρ' _ hag
  refine ⟨fun c => G (m ((c : Thread nD τ).loc main_arg0)) (m ((c : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.InRwkvRIdeal.Value.run m' ρ')
    rw [(hag c).1, (hag c).2]
    exact ref _ _

end Cert.Proof.InRwkv

end
-- ==== Proof.InQkv.lean ====
/-
  The call `in_qkv` (one group of columns of the input projection), read over the extended reals: the host slices the columns
  out of the whole weight and every block of the grid is a row block of the normed stream times a column block of them; the
  reference takes the whole product and slices its columns out afterwards.
-/
module

public import proofs.«01_k».proof.Defs
public import proofs.«01_k».proof.Proof.Gen.InQkvKIdeal.Value
public import proofs.«01_k».proof.Proof.Gen.InQkvRIdeal.Run
public import proofs.«01_k».proof.Proof.Gen.InQkvRIdeal.Read
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Dots
public import Idealize.ShloMosaic.Lib.Pointwise.Tactic

@[expose] public section

set_option maxRecDepth 16384

noncomputable section

namespace Cert.Proof.InQkv

open Cert.InQkvKIdeal Cert.InQkvKIdeal.Gen Idealize.ShloMosaic Idealize.ShloMosaic.TcCoe Idealize.SL.Sem

variable (m : (ℓ : Loc nD τ sig) → Buf (Elt Ideal) ℓ) (ρ : Dev nD → PrngReg)

/-- The column of the whole weight that column `n` of this piece is. -/
def col (n : Fin 1536) : Fin 6144 := ⟨1792 + n.val, by omega⟩

/-- The product of `x` with these columns of the weight, element by element. -/
def G (x : Vec Ideal S4096x1024 .bf16) (w : Vec Ideal S1024x6144 .bf16) : Vec Ideal S4096x1536 .f32 :=
  fun i => ∑ k : Fin 1024, x (ix2 (i 0) k) * w (ix2 k (col (i 1)))

/-- The grid's row blocks of the result are the row blocks of `x`. -/
theorem rows : ∀ t : Fin grid0.N, win0_2.index t 0 = win0_0.index t 0 ∧ win0_0.index t 1 = 0 := by decide +kernel

/-- The grid's column blocks of the result are the column blocks of the weight. -/
theorem cols : ∀ t : Fin grid0.N, win0_2.index t 1 = win0_1.index t 1 ∧ win0_1.index t 0 = 0 := by decide +kernel

/-- The body's product at an element of its block. -/
theorem pay (a : Vec Ideal S1024x1024 .bf16) (b : Vec Ideal S1024x1536 .bf16) (y : S1024x1536.Idx) :
    k0_pay1 (F := Ideal) a b y = ∑ k : Fin 1024, a (ix2 (y 0) k) * b (ix2 k (y 1)) := by
  unfold k0_pay1
  rw [shapeCast_self]
  refine (Dots.nn (M := 1024) (K := 1024) (N := 1536) (φ₁ := .bf16) (φ₂ := .bf16) none _ _ _ y).trans ?_
  pointwise

/-- The columns of the weight the host slices out. -/
theorem weight (c : Dev nD) : V m c main_v0
    = extractStridedSlice S1024x1536 ![0, 1792] (m ((c : Thread nD τ).loc main_arg1)) slices_S1024x6144_S1024x1536_0_1792 := by
  show StableHlo.after hostOps0 (fun b => m (c, b)) main_v0 = _
  unfold hostOps0
  after_results

/-- The result array after the run is the product of the two arguments. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  unfold G
  refine Finset.sum_congr (M := EReal) rfl fun k _ => ?_
  have e0 := rows t
  have e1 := cols t
  congr 1
  · show V m c main_arg0 _ = V m c main_arg0 _
    congr 1
    blk_ext [e0.1, e0.2]
  · show V m c main_v0 _ = _
    rw [weight]
    refine (Dots.cols 1792 _ _ _).trans ?_
    show m ((c : Thread nD τ).loc main_arg1) _ = m ((c : Thread nD τ).loc main_arg1) _
    congr 1
    blk_ext [e1.1, e1.2, col]

/-- The reference's result is the same product. -/
theorem ref (x : Vec Ideal S4096x1024 .bf16) (w : Vec Ideal S1024x6144 .bf16) :
    Cert.InQkvRIdeal.Read.val_main_v3 (F := Ideal) x w = G x w := by
  funext i
  rw [Cert.InQkvRIdeal.Read.val_main_v3_apply, Cert.InQkvRIdeal.Read.val_main_v2_apply]
  refine Finset.sum_congr (M := EReal) rfl fun k _ => ?_
  rw [Cert.InQkvRIdeal.Read.val_main_v0_apply, Cert.InQkvRIdeal.Read.val_main_v1_apply]
  exact congrArg₂ (fun a b : EReal => a * b) (congrArg x (Dots.ext2 rfl rfl)) (congrArg w (Dots.ext2 rfl rfl))

/-- The kernel and the reference agree over the extended reals. -/
theorem algebraic : Cert.algebraic_InQkvKIdeal_InQkvRIdeal := by
  intro m ρ m' ρ' _ hag
  refine ⟨fun c => G (m ((c : Thread nD τ).loc main_arg0)) (m ((c : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.InQkvRIdeal.Value.run m' ρ')
    rw [(hag c).1, (hag c).2]
    exact ref _ _

end Cert.Proof.InQkv

end
-- ==== Proof.InZz.lean ====
/-
  The call `in_z` (one group of columns of the input projection), read over the extended reals: the host slices the columns
  out of the whole weight and every block of the grid is a row block of the normed stream times a column block of them; the
  reference takes the whole product and slices its columns out afterwards.
-/
module

public import proofs.«01_k».proof.Defs
public import proofs.«01_k».proof.Proof.Gen.InZzKIdeal.Value
public import proofs.«01_k».proof.Proof.Gen.InZzRIdeal.Run
public import proofs.«01_k».proof.Proof.Gen.InZzRIdeal.Read
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Dots
public import Idealize.ShloMosaic.Lib.Pointwise.Tactic

@[expose] public section

set_option maxRecDepth 16384

noncomputable section

namespace Cert.Proof.InZz

open Cert.InZzKIdeal Cert.InZzKIdeal.Gen Idealize.ShloMosaic Idealize.ShloMosaic.TcCoe Idealize.SL.Sem

variable (m : (ℓ : Loc nD τ sig) → Buf (Elt Ideal) ℓ) (ρ : Dev nD → PrngReg)

/-- The column of the whole weight that column `n` of this piece is. -/
def col (n : Fin 512) : Fin 6144 := ⟨3328 + n.val, by omega⟩

/-- The product of `x` with these columns of the weight, element by element. -/
def G (x : Vec Ideal S4096x1024 .bf16) (w : Vec Ideal S1024x6144 .bf16) : Vec Ideal S4096x512 .f32 :=
  fun i => ∑ k : Fin 1024, x (ix2 (i 0) k) * w (ix2 k (col (i 1)))

/-- The grid's row blocks of the result are the row blocks of `x`. -/
theorem rows : ∀ t : Fin grid0.N, win0_2.index t 0 = win0_0.index t 0 ∧ win0_0.index t 1 = 0 := by decide +kernel

/-- The grid's column blocks of the result are the column blocks of the weight. -/
theorem cols : ∀ t : Fin grid0.N, win0_2.index t 1 = win0_1.index t 1 ∧ win0_1.index t 0 = 0 := by decide +kernel

/-- The body's product at an element of its block. -/
theorem pay (a : Vec Ideal S1024x1024 .bf16) (b : Vec Ideal S1024x512 .bf16) (y : S1024x512.Idx) :
    k0_pay1 (F := Ideal) a b y = ∑ k : Fin 1024, a (ix2 (y 0) k) * b (ix2 k (y 1)) := by
  unfold k0_pay1
  rw [shapeCast_self]
  refine (Dots.nn (M := 1024) (K := 1024) (N := 512) (φ₁ := .bf16) (φ₂ := .bf16) none _ _ _ y).trans ?_
  pointwise

/-- The columns of the weight the host slices out. -/
theorem weight (c : Dev nD) : V m c main_v0
    = extractStridedSlice S1024x512 ![0, 3328] (m ((c : Thread nD τ).loc main_arg1)) slices_S1024x6144_S1024x512_0_3328 := by
  show StableHlo.after hostOps0 (fun b => m (c, b)) main_v0 = _
  unfold hostOps0
  after_results

/-- The result array after the run is the product of the two arguments. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  unfold G
  refine Finset.sum_congr (M := EReal) rfl fun k _ => ?_
  have e0 := rows t
  have e1 := cols t
  congr 1
  · show V m c main_arg0 _ = V m c main_arg0 _
    congr 1
    blk_ext [e0.1, e0.2]
  · show V m c main_v0 _ = _
    rw [weight]
    refine (Dots.cols 3328 _ _ _).trans ?_
    show m ((c : Thread nD τ).loc main_arg1) _ = m ((c : Thread nD τ).loc main_arg1) _
    congr 1
    blk_ext [e1.1, e1.2, col]

/-- The reference's result is the same product. -/
theorem ref (x : Vec Ideal S4096x1024 .bf16) (w : Vec Ideal S1024x6144 .bf16) :
    Cert.InZzRIdeal.Read.val_main_v3 (F := Ideal) x w = G x w := by
  funext i
  rw [Cert.InZzRIdeal.Read.val_main_v3_apply, Cert.InZzRIdeal.Read.val_main_v2_apply]
  refine Finset.sum_congr (M := EReal) rfl fun k _ => ?_
  rw [Cert.InZzRIdeal.Read.val_main_v0_apply, Cert.InZzRIdeal.Read.val_main_v1_apply]
  exact congrArg₂ (fun a b : EReal => a * b) (congrArg x (Dots.ext2 rfl rfl)) (congrArg w (Dots.ext2 rfl rfl))

/-- The kernel and the reference agree over the extended reals. -/
theorem algebraic : Cert.algebraic_InZzKIdeal_InZzRIdeal := by
  intro m ρ m' ρ' _ hag
  refine ⟨fun c => G (m ((c : Thread nD τ).loc main_arg0)) (m ((c : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.InZzRIdeal.Value.run m' ρ')
    rw [(hag c).1, (hag c).2]
    exact ref _ _

end Cert.Proof.InZz

end
-- ==== Proof.InGates.lean ====
/-
  The call `in_gates` (one group of columns of the input projection), read over the extended reals: the host slices the columns
  out of the whole weight and every block of the grid is a row block of the normed stream times a column block of them; the
  reference takes the whole product and slices its columns out afterwards.
-/
module

public import proofs.«01_k».proof.Defs
public import proofs.«01_k».proof.Proof.Gen.InGatesKIdeal.Value
public import proofs.«01_k».proof.Proof.Gen.InGatesRIdeal.Run
public import proofs.«01_k».proof.Proof.Gen.InGatesRIdeal.Read
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Dots
public import Idealize.ShloMosaic.Lib.Pointwise.Tactic

@[expose] public section

set_option maxRecDepth 16384

noncomputable section

namespace Cert.Proof.InGates

open Cert.InGatesKIdeal Cert.InGatesKIdeal.Gen Idealize.ShloMosaic Idealize.ShloMosaic.TcCoe Idealize.SL.Sem

variable (m : (ℓ : Loc nD τ sig) → Buf (Elt Ideal) ℓ) (ρ : Dev nD → PrngReg)

/-- The column of the whole weight that column `n` of this piece is. -/
def col (n : Fin 2048) : Fin 6144 := ⟨3840 + n.val, by omega⟩

/-- The product of `x` with these columns of the weight, element by element. -/
def G (x : Vec Ideal S4096x1024 .bf16) (w : Vec Ideal S1024x6144 .bf16) : Vec Ideal S4096x2048 .f32 :=
  fun i => ∑ k : Fin 1024, x (ix2 (i 0) k) * w (ix2 k (col (i 1)))

/-- The grid's row blocks of the result are the row blocks of `x`. -/
theorem rows : ∀ t : Fin grid0.N, win0_2.index t 0 = win0_0.index t 0 ∧ win0_0.index t 1 = 0 := by decide +kernel

/-- The grid's column blocks of the result are the column blocks of the weight. -/
theorem cols : ∀ t : Fin grid0.N, win0_2.index t 1 = win0_1.index t 1 ∧ win0_1.index t 0 = 0 := by decide +kernel

/-- The body's product at an element of its block. -/
theorem pay (a : Vec Ideal S1024x1024 .bf16) (b : Vec Ideal S1024x1024 .bf16) (y : S1024x1024.Idx) :
    k0_pay1 (F := Ideal) a b y = ∑ k : Fin 1024, a (ix2 (y 0) k) * b (ix2 k (y 1)) := by
  unfold k0_pay1
  rw [shapeCast_self]
  refine (Dots.nn (M := 1024) (K := 1024) (N := 1024) (φ₁ := .bf16) (φ₂ := .bf16) none _ _ _ y).trans ?_
  pointwise

/-- The columns of the weight the host slices out. -/
theorem weight (c : Dev nD) : V m c main_v0
    = extractStridedSlice S1024x2048 ![0, 3840] (m ((c : Thread nD τ).loc main_arg1)) slices_S1024x6144_S1024x2048_0_3840 := by
  show StableHlo.after hostOps0 (fun b => m (c, b)) main_v0 = _
  unfold hostOps0
  after_results

/-- The result array after the run is the product of the two arguments. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  unfold G
  refine Finset.sum_congr (M := EReal) rfl fun k _ => ?_
  have e0 := rows t
  have e1 := cols t
  congr 1
  · show V m c main_arg0 _ = V m c main_arg0 _
    congr 1
    blk_ext [e0.1, e0.2]
  · show V m c main_v0 _ = _
    rw [weight]
    refine (Dots.cols 3840 _ _ _).trans ?_
    show m ((c : Thread nD τ).loc main_arg1) _ = m ((c : Thread nD τ).loc main_arg1) _
    congr 1
    blk_ext [e1.1, e1.2, col]

/-- The reference's result is the same product. -/
theorem ref (x : Vec Ideal S4096x1024 .bf16) (w : Vec Ideal S1024x6144 .bf16) :
    Cert.InGatesRIdeal.Read.val_main_v3 (F := Ideal) x w = G x w := by
  funext i
  rw [Cert.InGatesRIdeal.Read.val_main_v3_apply, Cert.InGatesRIdeal.Read.val_main_v2_apply]
  refine Finset.sum_congr (M := EReal) rfl fun k _ => ?_
  rw [Cert.InGatesRIdeal.Read.val_main_v0_apply, Cert.InGatesRIdeal.Read.val_main_v1_apply]
  exact congrArg₂ (fun a b : EReal => a * b) (congrArg x (Dots.ext2 rfl rfl)) (congrArg w (Dots.ext2 rfl rfl))

/-- The kernel and the reference agree over the extended reals. -/
theorem algebraic : Cert.algebraic_InGatesKIdeal_InGatesRIdeal := by
  intro m ρ m' ρ' _ hag
  refine ⟨fun c => G (m ((c : Thread nD τ).loc main_arg0)) (m ((c : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.InGatesRIdeal.Value.run m' ρ')
    rw [(hag c).1, (hag c).2]
    exact ref _ _

end Cert.Proof.InGates

end
-- ==== Proof.InAb.lean ====
/-
  The call `in_ab` (one group of columns of the input projection), read over the extended reals: the host slices the columns
  out of the whole weight and every block of the grid is a row block of the normed stream times a column block of them; the
  reference takes the whole product and slices its columns out afterwards.
-/
module

public import proofs.«01_k».proof.Defs
public import proofs.«01_k».proof.Proof.Gen.InAbKIdeal.Value
public import proofs.«01_k».proof.Proof.Gen.InAbRIdeal.Run
public import proofs.«01_k».proof.Proof.Gen.InAbRIdeal.Read
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Dots
public import Idealize.ShloMosaic.Lib.Pointwise.Tactic

@[expose] public section

set_option maxRecDepth 16384

noncomputable section

namespace Cert.Proof.InAb

open Cert.InAbKIdeal Cert.InAbKIdeal.Gen Idealize.ShloMosaic Idealize.ShloMosaic.TcCoe Idealize.SL.Sem

variable (m : (ℓ : Loc nD τ sig) → Buf (Elt Ideal) ℓ) (ρ : Dev nD → PrngReg)

/-- The column of the whole weight that column `n` of this piece is. -/
def col (n : Fin 256) : Fin 6144 := ⟨5888 + n.val, by omega⟩

/-- The product of `x` with these columns of the weight, element by element. -/
def G (x : Vec Ideal S4096x1024 .bf16) (w : Vec Ideal S1024x6144 .bf16) : Vec Ideal S4096x256 .f32 :=
  fun i => ∑ k : Fin 1024, x (ix2 (i 0) k) * w (ix2 k (col (i 1)))

/-- The grid's row blocks of the result are the row blocks of `x`. -/
theorem rows : ∀ t : Fin grid0.N, win0_2.index t 0 = win0_0.index t 0 ∧ win0_0.index t 1 = 0 := by decide +kernel

/-- The grid's column blocks of the result are the column blocks of the weight. -/
theorem cols : ∀ t : Fin grid0.N, win0_2.index t 1 = win0_1.index t 1 ∧ win0_1.index t 0 = 0 := by decide +kernel

/-- The body's product at an element of its block. -/
theorem pay (a : Vec Ideal S1024x1024 .bf16) (b : Vec Ideal S1024x256 .bf16) (y : S1024x256.Idx) :
    k0_pay1 (F := Ideal) a b y = ∑ k : Fin 1024, a (ix2 (y 0) k) * b (ix2 k (y 1)) := by
  unfold k0_pay1
  rw [shapeCast_self]
  refine (Dots.nn (M := 1024) (K := 1024) (N := 256) (φ₁ := .bf16) (φ₂ := .bf16) none _ _ _ y).trans ?_
  pointwise

/-- The columns of the weight the host slices out. -/
theorem weight (c : Dev nD) : V m c main_v0
    = extractStridedSlice S1024x256 ![0, 5888] (m ((c : Thread nD τ).loc main_arg1)) slices_S1024x6144_S1024x256_0_5888 := by
  show StableHlo.after hostOps0 (fun b => m (c, b)) main_v0 = _
  unfold hostOps0
  after_results

/-- The result array after the run is the product of the two arguments. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  unfold G
  refine Finset.sum_congr (M := EReal) rfl fun k _ => ?_
  have e0 := rows t
  have e1 := cols t
  congr 1
  · show V m c main_arg0 _ = V m c main_arg0 _
    congr 1
    blk_ext [e0.1, e0.2]
  · show V m c main_v0 _ = _
    rw [weight]
    refine (Dots.cols 5888 _ _ _).trans ?_
    show m ((c : Thread nD τ).loc main_arg1) _ = m ((c : Thread nD τ).loc main_arg1) _
    congr 1
    blk_ext [e1.1, e1.2, col]

/-- The reference's result is the same product. -/
theorem ref (x : Vec Ideal S4096x1024 .bf16) (w : Vec Ideal S1024x6144 .bf16) :
    Cert.InAbRIdeal.Read.val_main_v3 (F := Ideal) x w = G x w := by
  funext i
  rw [Cert.InAbRIdeal.Read.val_main_v3_apply, Cert.InAbRIdeal.Read.val_main_v2_apply]
  refine Finset.sum_congr (M := EReal) rfl fun k _ => ?_
  rw [Cert.InAbRIdeal.Read.val_main_v0_apply, Cert.InAbRIdeal.Read.val_main_v1_apply]
  exact congrArg₂ (fun a b : EReal => a * b) (congrArg x (Dots.ext2 rfl rfl)) (congrArg w (Dots.ext2 rfl rfl))

/-- The kernel and the reference agree over the extended reals. -/
theorem algebraic : Cert.algebraic_InAbKIdeal_InAbRIdeal := by
  intro m ρ m' ρ' _ hag
  refine ⟨fun c => G (m ((c : Thread nD τ).loc main_arg0)) (m ((c : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.InAbRIdeal.Value.run m' ρ')
    rw [(hag c).1, (hag c).2]
    exact ref _ _

end Cert.Proof.InAb

end
-- ==== Proof.Du.lean ====
/-
  The call `d_u` (the gradient of the whole input projection with respect to its left operand), read over the extended
  reals: each point of the grid sums six products, one for each group of columns of the weight; the reference joins the six
  cotangents and takes one product with the whole weight, whose contraction splits into the same six sums.
-/
module

public import proofs.«01_k».proof.Defs
public import proofs.«01_k».proof.Proof.Gen.DuKIdeal.Value
public import proofs.«01_k».proof.Proof.Gen.DuRIdeal.Run
public import proofs.«01_k».proof.Proof.Gen.DuRIdeal.Read
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Dots
public import Idealize.ShloMosaic.Lib.Pointwise.Tactic

@[expose] public section

set_option maxRecDepth 16384

noncomputable section

namespace Cert.Proof.Du

open Cert.DuKIdeal Cert.DuKIdeal.Gen Idealize.ShloMosaic Idealize.ShloMosaic.TcCoe Idealize.SL.Sem

variable (m : (ℓ : Loc nD τ sig) → Buf (Elt Ideal) ℓ) (ρ : Dev nD → PrngReg)

/-- The columns `off … off + n` of the weight against a cotangent of that width, at an element. -/
def piece {n : ℕ} (off : ℕ) (h : off + n ≤ 6144) (d : Vec Ideal ⟨2, ![4096, n]⟩ .bf16) (w : Vec Ideal S1024x6144 .bf16)
    (i : S4096x1024.Idx) : EReal :=
  ∑ k : Fin n, d (ix2 (i 0) k) * w (ix2 (i 1) ⟨off + k.val, by omega⟩)

/-- The gradient, element by element. -/
def G (a : Vec Ideal S4096x1792 .bf16) (b : Vec Ideal S4096x1536 .bf16) (c : Vec Ideal S4096x512 .bf16) (d : Vec Ideal S4096x1024 .bf16) (e : Vec Ideal S4096x1024 .bf16) (f : Vec Ideal S4096x256 .bf16)
    (w : Vec Ideal S1024x6144 .bf16) : Vec Ideal S4096x1024 .f32 := fun i =>
  (((((piece 0 (by omega) a w i + piece 1792 (by omega) b w i) + piece 3328 (by omega) c w i) + piece 3840 (by omega) d w i) + piece 4864 (by omega) e w i) + piece 5888 (by omega) f w i)

/-- The blocks each point of the grid reads and writes: its rows of the six cotangents, and the whole groups of columns. -/
theorem idx : ∀ t : Fin grid0.N, (win0_0.index t 0 = win0_12.index t 0 ∧ win0_0.index t 1 = 0) ∧ (win0_1.index t 0 = win0_12.index t 0 ∧ win0_1.index t 1 = 0) ∧ (win0_2.index t 0 = win0_12.index t 0 ∧ win0_2.index t 1 = 0) ∧ (win0_3.index t 0 = win0_12.index t 0 ∧ win0_3.index t 1 = 0) ∧ (win0_4.index t 0 = win0_12.index t 0 ∧ win0_4.index t 1 = 0) ∧ (win0_5.index t 0 = win0_12.index t 0 ∧ win0_5.index t 1 = 0) ∧ (win0_6.index t 0 = 0 ∧ win0_6.index t 1 = 0) ∧ (win0_7.index t 0 = 0 ∧ win0_7.index t 1 = 0) ∧ (win0_8.index t 0 = 0 ∧ win0_8.index t 1 = 0) ∧ (win0_9.index t 0 = 0 ∧ win0_9.index t 1 = 0) ∧ (win0_10.index t 0 = 0 ∧ win0_10.index t 1 = 1) ∧ (win0_11.index t 0 = 0 ∧ win0_11.index t 1 = 0) ∧ win0_12.index t 1 = 0 := by decide +kernel

/-- One product of the body at an element of its block. -/
theorem prod {n : ℕ} (d : Vec Ideal ⟨2, ![512, n]⟩ .bf16) (w : Vec Ideal ⟨2, ![1024, n]⟩ .bf16) (y : S512x1024.Idx) :
    FloatOps.matmul (φ₁ := .bf16) (φ₂ := .bf16) (DotDims.transposedRhs 512 n 1024) none d w (constant (F := Ideal) S512x1024 .f32 0x00000000#32) y
      = ∑ k : Fin n, d (ix2 (y 0) k) * w (ix2 (y 1) k) := by
  refine (Dots.nt (M := 512) (K := n) (N := 1024) (φ₁ := .bf16) (φ₂ := .bf16) none _ _ _ y).trans ?_
  pointwise

/-- The body's sum of six products at an element of its block. -/
theorem pay (a : Vec Ideal S512x1792 .bf16) (aw : Vec Ideal S1024x1792 .bf16) (b : Vec Ideal S512x1536 .bf16) (bw : Vec Ideal S1024x1536 .bf16) (c : Vec Ideal S512x512 .bf16) (cw : Vec Ideal S1024x512 .bf16) (d : Vec Ideal S512x1024 .bf16) (dw : Vec Ideal S1024x1024 .bf16) (e : Vec Ideal S512x1024 .bf16) (ew : Vec Ideal S1024x1024 .bf16) (f : Vec Ideal S512x256 .bf16) (fw : Vec Ideal S1024x256 .bf16) (y : S512x1024.Idx) :
    k0_pay1 (F := Ideal) a aw b bw c cw d dw e ew f fw y
      = ((((((∑ k : Fin 1792, a (ix2 (y 0) k) * aw (ix2 (y 1) k)) + (∑ k : Fin 1536, b (ix2 (y 0) k) * bw (ix2 (y 1) k))) + (∑ k : Fin 512, c (ix2 (y 0) k) * cw (ix2 (y 1) k))) + (∑ k : Fin 1024, d (ix2 (y 0) k) * dw (ix2 (y 1) k))) + (∑ k : Fin 1024, e (ix2 (y 0) k) * ew (ix2 (y 1) k))) + (∑ k : Fin 256, f (ix2 (y 0) k) * fw (ix2 (y 1) k))) := by
  unfold k0_pay1
  simp only [shapeCast_self]
  exact congrArg₂ (fun p q : EReal => p + q) (congrArg₂ (fun p q : EReal => p + q) (congrArg₂ (fun p q : EReal => p + q)
    (congrArg₂ (fun p q : EReal => p + q) (congrArg₂ (fun p q : EReal => p + q) (prod a aw y) (prod b bw y)) (prod c cw y))
    (prod d dw y)) (prod e ew y)) (prod f fw y)

/-- A group of columns the host slices out of the weight. -/
theorem weight0 (c : Dev nD) : V m c main_v0
    = extractStridedSlice S1024x1792 ![0, 0] (m ((c : Thread nD τ).loc main_arg6)) slices_S1024x6144_S1024x1792_0_0 := by
  show StableHlo.after hostOps0 (fun b => m (c, b)) main_v0 = _
  unfold hostOps0
  after_results

/-- A group of columns the host slices out of the weight. -/
theorem weight1 (c : Dev nD) : V m c main_v1
    = extractStridedSlice S1024x1536 ![0, 1792] (m ((c : Thread nD τ).loc main_arg6)) slices_S1024x6144_S1024x1536_0_1792 := by
  show StableHlo.after hostOps0 (fun b => m (c, b)) main_v1 = _
  unfold hostOps0
  after_results

/-- A group of columns the host slices out of the weight. -/
theorem weight2 (c : Dev nD) : V m c main_v2
    = extractStridedSlice S1024x512 ![0, 3328] (m ((c : Thread nD τ).loc main_arg6)) slices_S1024x6144_S1024x512_0_3328 := by
  show StableHlo.after hostOps0 (fun b => m (c, b)) main_v2 = _
  unfold hostOps0
  after_results

/-- A group of columns the host slices out of the weight. -/
theorem weight3 (c : Dev nD) : V m c main_v3
    = extractStridedSlice S1024x2048 ![0, 3840] (m ((c : Thread nD τ).loc main_arg6)) slices_S1024x6144_S1024x2048_0_3840 := by
  show StableHlo.after hostOps0 (fun b => m (c, b)) main_v3 = _
  unfold hostOps0
  after_results

/-- A group of columns the host slices out of the weight. -/
theorem weight4 (c : Dev nD) : V m c main_v4
    = extractStridedSlice S1024x256 ![0, 5888] (m ((c : Thread nD τ).loc main_arg6)) slices_S1024x6144_S1024x256_0_5888 := by
  show StableHlo.after hostOps0 (fun b => m (c, b)) main_v4 = _
  unfold hostOps0
  after_results

set_option maxHeartbeats 2000000 in
/-- The result array after the run is the gradient of the arguments. -/
theorem final (c : Dev nD) : (dats m 0 c).arrAt 12 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t hf y => ?_
  blk_simp
  rw [after0_12]
  frame_out
  rw [pay]
  unfold G piece
  obtain ⟨⟨r0, z0⟩, ⟨r1, z1⟩, ⟨r2, z2⟩, ⟨r3, z3⟩, ⟨r4, z4⟩, ⟨r5, z5⟩, ⟨u0, v0⟩, ⟨u1, v1⟩, ⟨u2, v2⟩, ⟨u3, v3⟩, ⟨u4, v4⟩, ⟨u5, v5⟩, zo⟩ := idx t
  refine congrArg₂ (fun p q : EReal => p + q) (congrArg₂ (fun p q : EReal => p + q) (congrArg₂ (fun p q : EReal => p + q)
    (congrArg₂ (fun p q : EReal => p + q) (congrArg₂ (fun p q : EReal => p + q) ?_ ?_) ?_) ?_) ?_) ?_
  · refine Finset.sum_congr (M := EReal) rfl fun k _ => congrArg₂ (fun p q : EReal => p * q) ?_ ?_
    · show V m c main_arg0 _ = V m c main_arg0 _
      congr 1
      blk_ext [r0, z0]
    · show V m c main_v0 _ = _
      rw [weight0]
      refine (Dots.cols 0 _ _ _).trans ?_
      show m ((c : Thread nD τ).loc main_arg6) _ = m ((c : Thread nD τ).loc main_arg6) _
      congr 1
      blk_ext [u0, v0, zo]
  · refine Finset.sum_congr (M := EReal) rfl fun k _ => congrArg₂ (fun p q : EReal => p * q) ?_ ?_
    · show V m c main_arg1 _ = V m c main_arg1 _
      congr 1
      blk_ext [r1, z1]
    · show V m c main_v1 _ = _
      rw [weight1]
      refine (Dots.cols 1792 _ _ _).trans ?_
      show m ((c : Thread nD τ).loc main_arg6) _ = m ((c : Thread nD τ).loc main_arg6) _
      congr 1
      blk_ext [u1, v1, zo]
  · refine Finset.sum_congr (M := EReal) rfl fun k _ => congrArg₂ (fun p q : EReal => p * q) ?_ ?_
    · show V m c main_arg2 _ = V m c main_arg2 _
      congr 1
      blk_ext [r2, z2]
    · show V m c main_v2 _ = _
      rw [weight2]
      refine (Dots.cols 3328 _ _ _).trans ?_
      show m ((c : Thread nD τ).loc main_arg6) _ = m ((c : Thread nD τ).loc main_arg6) _
      congr 1
      blk_ext [u2, v2, zo]
  · refine Finset.sum_congr (M := EReal) rfl fun k _ => congrArg₂ (fun p q : EReal => p * q) ?_ ?_
    · show V m c main_arg3 _ = V m c main_arg3 _
      congr 1
      blk_ext [r3, z3]
    · show V m c main_v3 _ = _
      rw [weight3]
      refine (Dots.cols 3840 _ _ _).trans ?_
      show m ((c : Thread nD τ).loc main_arg6) _ = m ((c : Thread nD τ).loc main_arg6) _
      congr 1
      blk_ext [u3, v3, zo]
  · refine Finset.sum_congr (M := EReal) rfl fun k _ => congrArg₂ (fun p q : EReal => p * q) ?_ ?_
    · show V m c main_arg4 _ = V m c main_arg4 _
      congr 1
      blk_ext [r4, z4]
    · show V m c main_v3 _ = _
      rw [weight3]
      refine (Dots.cols 3840 _ _ _).trans ?_
      show m ((c : Thread nD τ).loc main_arg6) _ = m ((c : Thread nD τ).loc main_arg6) _
      congr 1
      blk_ext [u4, v4, zo]
  · refine Finset.sum_congr (M := EReal) rfl fun k _ => congrArg₂ (fun p q : EReal => p * q) ?_ ?_
    · show V m c main_arg5 _ = V m c main_arg5 _
      congr 1
      blk_ext [r5, z5]
    · show V m c main_v4 _ = _
      rw [weight4]
      refine (Dots.cols 5888 _ _ _).trans ?_
      show m ((c : Thread nD τ).loc main_arg6) _ = m ((c : Thread nD τ).loc main_arg6) _
      congr 1
      blk_ext [u5, v5, zo]

/-- A sum over all the columns, group by group. -/
theorem six (f : Fin 6144 → EReal) : ∑ k, f k
    = ((((((∑ k : Fin 1792, f ⟨0 + k.val, by omega⟩) + (∑ k : Fin 1536, f ⟨1792 + k.val, by omega⟩)) + (∑ k : Fin 512, f ⟨3328 + k.val, by omega⟩)) + (∑ k : Fin 1024, f ⟨3840 + k.val, by omega⟩)) + (∑ k : Fin 1024, f ⟨4864 + k.val, by omega⟩)) + (∑ k : Fin 256, f ⟨5888 + k.val, by omega⟩)) := by
  refine (Fin.sum_univ_add (a := 5888) (b := 256) f).trans (congrArg₂ (fun p q : EReal => p + q) ?_ rfl)
  refine (Fin.sum_univ_add (a := 4864) (b := 1024) fun k => f (Fin.castAdd 256 k)).trans (congrArg₂ (fun p q : EReal => p + q) ?_ rfl)
  refine (Fin.sum_univ_add (a := 3840) (b := 1024) fun k : Fin 4864 => f ⟨k.val, by omega⟩).trans (congrArg₂ (fun p q : EReal => p + q) ?_ rfl)
  refine (Fin.sum_univ_add (a := 3328) (b := 512) fun k : Fin 3840 => f ⟨k.val, by omega⟩).trans (congrArg₂ (fun p q : EReal => p + q) ?_ rfl)
  refine (Fin.sum_univ_add (a := 1792) (b := 1536) fun k : Fin 3328 => f ⟨k.val, by omega⟩).trans (congrArg₂ (fun p q : EReal => p + q) ?_ rfl)
  exact Finset.sum_congr (M := EReal) rfl fun k _ => congrArg f (Fin.ext (Nat.zero_add _).symm)

open Cert.DuRIdeal.Read in
set_option maxHeartbeats 2000000 in
/-- The joined cotangents at a column of each group. -/
theorem joined (a : Vec Ideal S4096x1792 .bf16) (b : Vec Ideal S4096x1536 .bf16) (c : Vec Ideal S4096x512 .bf16) (d : Vec Ideal S4096x1024 .bf16) (e : Vec Ideal S4096x1024 .bf16) (f : Vec Ideal S4096x256 .bf16) (r : Fin 4096) :
    (∀ k : Fin 1792, val_main_v7 (F := Ideal) a b c d e f (ix2 r ⟨0 + k.val, by omega⟩) = a (ix2 r k))
    ∧ (∀ k : Fin 1536, val_main_v7 (F := Ideal) a b c d e f (ix2 r ⟨1792 + k.val, by omega⟩) = b (ix2 r k))
    ∧ (∀ k : Fin 512, val_main_v7 (F := Ideal) a b c d e f (ix2 r ⟨3328 + k.val, by omega⟩) = c (ix2 r k))
    ∧ (∀ k : Fin 1024, val_main_v7 (F := Ideal) a b c d e f (ix2 r ⟨3840 + k.val, by omega⟩) = d (ix2 r k))
    ∧ (∀ k : Fin 1024, val_main_v7 (F := Ideal) a b c d e f (ix2 r ⟨4864 + k.val, by omega⟩) = e (ix2 r k))
    ∧ (∀ k : Fin 256, val_main_v7 (F := Ideal) a b c d e f (ix2 r ⟨5888 + k.val, by omega⟩) = f (ix2 r k)) := by
  refine ⟨?_, ?_, ?_, ?_, ?_, ?_⟩
  · intro k
    unfold val_main_v7
    refine concatenate_apply_piece (t := Cert.DuRIdeal.S4096x6144) 1 _ _ _ 0 ?_ S4096x1792 _ ?_ rfl 0 ?_ (ix2 r k) (fun b hb => ?_) rfl
    · show 0 < 6
      decide
    · rfl
    · rfl
    · match b with
      | ⟨0, _⟩ => rfl
      | ⟨1, _⟩ => exact absurd rfl hb
  · intro k
    unfold val_main_v7
    refine concatenate_apply_piece (t := Cert.DuRIdeal.S4096x6144) 1 _ _ _ 1 ?_ S4096x1536 _ ?_ rfl 1792 ?_ (ix2 r k) (fun b hb => ?_) rfl
    · show 1 < 6
      decide
    · rfl
    · rfl
    · match b with
      | ⟨0, _⟩ => rfl
      | ⟨1, _⟩ => exact absurd rfl hb
  · intro k
    unfold val_main_v7
    refine concatenate_apply_piece (t := Cert.DuRIdeal.S4096x6144) 1 _ _ _ 2 ?_ S4096x512 _ ?_ rfl 3328 ?_ (ix2 r k) (fun b hb => ?_) rfl
    · show 2 < 6
      decide
    · rfl
    · rfl
    · match b with
      | ⟨0, _⟩ => rfl
      | ⟨1, _⟩ => exact absurd rfl hb
  · intro k
    unfold val_main_v7
    refine concatenate_apply_piece (t := Cert.DuRIdeal.S4096x6144) 1 _ _ _ 3 ?_ S4096x1024 _ ?_ rfl 3840 ?_ (ix2 r k) (fun b hb => ?_) rfl
    · show 3 < 6
      decide
    · rfl
    · rfl
    · match b with
      | ⟨0, _⟩ => rfl
      | ⟨1, _⟩ => exact absurd rfl hb
  · intro k
    unfold val_main_v7
    refine concatenate_apply_piece (t := Cert.DuRIdeal.S4096x6144) 1 _ _ _ 4 ?_ S4096x1024 _ ?_ rfl 4864 ?_ (ix2 r k) (fun b hb => ?_) rfl
    · show 4 < 6
      decide
    · rfl
    · rfl
    · match b with
      | ⟨0, _⟩ => rfl
      | ⟨1, _⟩ => exact absurd rfl hb
  · intro k
    unfold val_main_v7
    refine concatenate_apply_piece (t := Cert.DuRIdeal.S4096x6144) 1 _ _ _ 5 ?_ S4096x256 _ ?_ rfl 5888 ?_ (ix2 r k) (fun b hb => ?_) rfl
    · show 5 < 6
      decide
    · rfl
    · rfl
    · match b with
      | ⟨0, _⟩ => rfl
      | ⟨1, _⟩ => exact absurd rfl hb

/-- The reference's result is the same gradient. -/
theorem ref (a : Vec Ideal S4096x1792 .bf16) (b : Vec Ideal S4096x1536 .bf16) (c : Vec Ideal S4096x512 .bf16) (d : Vec Ideal S4096x1024 .bf16) (e : Vec Ideal S4096x1024 .bf16) (f : Vec Ideal S4096x256 .bf16)
    (w : Vec Ideal S1024x6144 .bf16) : Cert.DuRIdeal.Read.val_main_v10 (F := Ideal) a b c d e f w = G a b c d e f w := by
  funext i
  rw [Cert.DuRIdeal.Read.val_main_v10_apply, six]
  unfold G piece
  obtain ⟨ja, jb, jc, jd, je, jf⟩ := joined a b c d e f (i 0)
  refine congrArg₂ (fun p q : EReal => p + q) (congrArg₂ (fun p q : EReal => p + q) (congrArg₂ (fun p q : EReal => p + q)
    (congrArg₂ (fun p q : EReal => p + q) (congrArg₂ (fun p q : EReal => p + q) ?_ ?_) ?_) ?_) ?_) ?_
  · refine Finset.sum_congr (M := EReal) rfl fun k _ => congrArg₂ (fun p q : EReal => p * q) ?_ ?_
    · refine Eq.trans ?_ (ja k)
      exact congrArg _ (Dots.ext2 rfl rfl)
    · rw [Cert.DuRIdeal.Read.val_main_v8_apply]
      exact congrArg w (Dots.ext2 rfl rfl)
  · refine Finset.sum_congr (M := EReal) rfl fun k _ => congrArg₂ (fun p q : EReal => p * q) ?_ ?_
    · refine Eq.trans ?_ (jb k)
      exact congrArg _ (Dots.ext2 rfl rfl)
    · rw [Cert.DuRIdeal.Read.val_main_v8_apply]
      exact congrArg w (Dots.ext2 rfl rfl)
  · refine Finset.sum_congr (M := EReal) rfl fun k _ => congrArg₂ (fun p q : EReal => p * q) ?_ ?_
    · refine Eq.trans ?_ (jc k)
      exact congrArg _ (Dots.ext2 rfl rfl)
    · rw [Cert.DuRIdeal.Read.val_main_v8_apply]
      exact congrArg w (Dots.ext2 rfl rfl)
  · refine Finset.sum_congr (M := EReal) rfl fun k _ => congrArg₂ (fun p q : EReal => p * q) ?_ ?_
    · refine Eq.trans ?_ (jd k)
      exact congrArg _ (Dots.ext2 rfl rfl)
    · rw [Cert.DuRIdeal.Read.val_main_v8_apply]
      exact congrArg w (Dots.ext2 rfl rfl)
  · refine Finset.sum_congr (M := EReal) rfl fun k _ => congrArg₂ (fun p q : EReal => p * q) ?_ ?_
    · refine Eq.trans ?_ (je k)
      exact congrArg _ (Dots.ext2 rfl rfl)
    · rw [Cert.DuRIdeal.Read.val_main_v8_apply]
      exact congrArg w (Dots.ext2 rfl rfl)
  · refine Finset.sum_congr (M := EReal) rfl fun k _ => congrArg₂ (fun p q : EReal => p * q) ?_ ?_
    · refine Eq.trans ?_ (jf k)
      exact congrArg _ (Dots.ext2 rfl rfl)
    · rw [Cert.DuRIdeal.Read.val_main_v8_apply]
      exact congrArg w (Dots.ext2 rfl rfl)

/-- The kernel and the reference agree over the extended reals. -/
theorem algebraic : Cert.algebraic_DuKIdeal_DuRIdeal := by
  intro m ρ m' ρ' _ hag
  refine ⟨fun c => G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.DuRIdeal.Value.run m' ρ')
    obtain ⟨h0, h1, h2, h3, h4, h5, h6⟩ := hag c
    rw [h0, h1, h2, h3, h4, h5, h6]
    exact ref _ _ _ _ _ _ _

end Cert.Proof.Du

end
-- ==== Proof.Cols.lean ====
/-
  A matrix in scratch memory whose columns are cut into ranges, each written whole: what a range's write leaves is what is
  read back of that range, and a write of another range leaves it alone.
-/
module

public import Idealize.ShloMosaic.Lib.Pipeline.Value
public import Idealize.ShloMosaic.Lib.Pipeline.FrameBody
public import Idealize.ShloMosaic.Lib.ValueIdx
public import proofs.«01_k».proof.Proof.Dots

@[expose] public section

noncomputable section

namespace Cert.Proof.Cols

open Idealize.ShloMosaic

variable {Val : EltTy → Type} [∀ e, Nonempty (Val e)] {e : EltTy} {M W n : ℕ}

/-- A column of a range is an index of the whole. -/
abbrev at_ (off : ℕ) (inb : ∀ a, (![0, off] : Fin 2 → ℕ) a + (![M, n] : Fin 2 → ℕ) a ≤ (⟨2, ![M, W]⟩ : Shape).size a)
    (y : (⟨2, ![M, n]⟩ : Shape).Idx) : (⟨2, ![M, W]⟩ : Shape).Idx :=
  ix2 (y 0) ⟨off + (y 1).val, Nat.lt_of_lt_of_le (Nat.add_lt_add_left (y 1).isLt off) (inb 1)⟩

/-- Where a range's rectangle places an element. -/
theorem emb_at (off : ℕ) (inb : ∀ a, (![0, off] : Fin 2 → ℕ) a + (![M, n] : Fin 2 → ℕ) a ≤ (⟨2, ![M, W]⟩ : Shape).size a)
    (y : (⟨2, ![M, n]⟩ : Shape).Idx) :
    (Rect.unit (s := ⟨2, ![M, W]⟩) ![0, off] ![M, n] inb).emb y = at_ off inb y := by
  refine Dots.ext2 ?_ ?_
  · show 0 + 1 * (y 0).val = (y 0).val
    omega
  · show off + 1 * (y 1).val = off + (y 1).val
    omega

/-- What the last write of a range leaves there. -/
theorem hit (off : ℕ) (inb : ∀ a, (![0, off] : Fin 2 → ℕ) a + (![M, n] : Fin 2 → ℕ) a ≤ (⟨2, ![M, W]⟩ : Shape).size a)
    (v : (⟨2, ![M, n]⟩ : Shape).Idx → Val e) (L : List (View.Piece Val ⟨2, ![M, W]⟩ e)) (y : (⟨2, ![M, n]⟩ : Shape).Idx) :
    View.canon (⟨Rect.unit ![0, off] ![M, n] inb, v⟩ :: L) (at_ off inb y) = v y := by
  rw [← emb_at]
  exact View.canon_cons_emb (Rect.unit (s := ⟨2, ![M, W]⟩) ![0, off] ![M, n] inb) v L y

/-- A write of another range leaves this one alone. -/
theorem miss {n' : ℕ} (off off' : ℕ)
    (inb : ∀ a, (![0, off] : Fin 2 → ℕ) a + (![M, n] : Fin 2 → ℕ) a ≤ (⟨2, ![M, W]⟩ : Shape).size a)
    (inb' : ∀ a, (![0, off'] : Fin 2 → ℕ) a + (![M, n'] : Fin 2 → ℕ) a ≤ (⟨2, ![M, W]⟩ : Shape).size a)
    (h : off + n ≤ off' ∨ off' + n' ≤ off)
    (v : (⟨2, ![M, n']⟩ : Shape).Idx → Val e) (L : List (View.Piece Val ⟨2, ![M, W]⟩ e)) (y : (⟨2, ![M, n]⟩ : Shape).Idx) :
    View.canon (⟨Rect.unit ![0, off'] ![M, n'] inb', v⟩ :: L) (at_ off inb y) = View.canon L (at_ off inb y) := by
  refine View.canon_cons_of_not_mem _ _ fun hm => ?_
  have h1 := (Rect.mem_set_unit (s := ⟨2, ![M, W]⟩) (off := ![0, off']) (size := ![M, n']) (inb := inb')).mp hm 1
  have hy : (y 1).val < n := (y 1).isLt
  have h2 : off' ≤ off + (y 1).val ∧ off + (y 1).val < off' + n' := h1
  omega

/-- What a load of a range reads. -/
theorem ld (off : ℕ) (inb : ∀ a, (![0, off] : Fin 2 → ℕ) a + (![M, n] : Fin 2 → ℕ) a ≤ (⟨2, ![M, W]⟩ : Shape).size a)
    (f : (⟨2, ![M, W]⟩ : Shape).Idx → Val e) (y : (⟨2, ![M, n]⟩ : Shape).Idx) :
    View.ld f (Rect.unit ![0, off] ![M, n] inb) y = f (at_ off inb y) :=
  congrArg f (emb_at off inb y)

end Cert.Proof.Cols

end
-- ==== Proof.Gwa.lean ====
/-
  The call `g_w_in_rwkv_qkv` (the gradient of the input projection's weight, the first two of its column groups), read over the
  extended reals: the grid walks two column blocks of the normed stream, each in four quarters of the positions; the running
  block holds every group's contraction in its own columns, put there by the first quarter and added to by the others, and
  what is written back of a group is the contraction over all the positions that the reference takes in one product.
-/
module

public import proofs.«01_k».proof.Defs
public import proofs.«01_k».proof.Proof.Gen.GwaKIdeal.Value
public import proofs.«01_k».proof.Proof.Gen.GwaRIdeal.Run
public import proofs.«01_k».proof.Proof.Gen.GwaRIdeal.Read
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Dots
public import proofs.«01_k».proof.Proof.Cols
public import Idealize.ShloMosaic.Lib.Pointwise.Tactic

@[expose] public section

set_option maxRecDepth 16384

noncomputable section

namespace Cert.Proof.Gwa

open Cert.GwaKIdeal Cert.GwaKIdeal.Gen Idealize.ShloMosaic Idealize.ShloMosaic.TcCoe Idealize.SL.Sem

variable (m : (ℓ : Loc nD τ sig) → Buf (Elt Ideal) ℓ) (ρ : Dev nD → PrngReg)

/-- The gradient of the weight of one product: `uᵀ · d`, element by element. -/
def G {w : ℕ} (u : Vec Ideal S4096x1024 .bf16) (d : Vec Ideal ⟨2, ![4096, w]⟩ .bf16) : Vec Ideal ⟨2, ![1024, w]⟩ .bf16 :=
  fun i => ∑ k : Fin 4096, u (ix2 k (i 0)) * d (ix2 k (i 1))

/-- The blocks each point of the grid reads and writes. -/
theorem idx : ∀ t : Fin grid0.N, (win0_0.index t 0 = t.val % 4 ∧ win0_0.index t 1 = t.val / 4)
    ∧ (win0_1.index t 0 = t.val % 4 ∧ win0_1.index t 1 = 0)
    ∧ (win0_2.index t 0 = t.val % 4 ∧ win0_2.index t 1 = 0)
    ∧ (win0_3.index t 0 = t.val / 4 ∧ win0_3.index t 1 = 0)
    ∧ (win0_4.index t 0 = t.val / 4 ∧ win0_4.index t 1 = 0) := by decide +kernel

/-- The contraction of one pair of blocks. -/
def part {w : ℕ} (a : Vec Ideal S1024x512 .bf16) (b : Vec Ideal ⟨2, ![1024, w]⟩ .bf16) (y : (⟨2, ![512, w]⟩ : Shape).Idx) : EReal :=
  ∑ k : Fin 1024, a (ix2 k (y 0)) * b (ix2 k (y 1))

/-- The product of group 0 at an element of its block. -/
theorem prod0 (a : Vec Ideal S1024x512 .bf16) (b : Vec Ideal S1024x1792 .bf16) (y : S512x1792.Idx) : k0_pay1 (F := Ideal) a b y = part a b y := by
  refine (Dots.tn (M := 512) (K := 1024) (N := 1792) (φ₁ := .bf16) (φ₂ := .bf16)
    dot_S1024x512_S1024x1792_S512x1792_0_0_1_1_n_n_wf none _ _ _ y).trans ?_
  unfold part
  pointwise

/-- What the first step stores for group 0. -/
theorem first0 (a : Vec Ideal S1024x512 .bf16) (b : Vec Ideal S1024x1792 .bf16) (y : S512x1792.Idx) : k0_pay2 (F := Ideal) a b y = part a b y := by
  unfold k0_pay2
  rw [shapeCast_self]
  exact prod0 a b y

/-- What a later step stores for group 0. -/
theorem step0 (a : Vec Ideal S1024x512 .bf16) (b : Vec Ideal S1024x1792 .bf16) (s : Vec Ideal S512x1792 .f32) (y : S512x1792.Idx) :
    k0_pay3 (F := Ideal) a b s y = (s y + part a b y : EReal) := by
  unfold k0_pay3
  rw [shapeCast_self]
  exact congrArg (fun z : EReal => s y + z) (prod0 a b y)

/-- The running block's columns of group 0 after a point. -/
def col0 (c : Dev nD) (k : ℕ) (h : k < cfg0.N) (y : S512x1792.Idx) : EReal :=
  (outsAt0 m c k h).2.2 (Cols.at_ (M := 512) (W := 3328) (n := 1792) 0 inb_S512x3328_S512x1792_0_0 y)

/-- The first step of a run puts the first contraction there. -/
theorem reset0 (c : Dev nD) (t : Fin cfg0.N) (h : t.val % 4 = 0) (y : S512x1792.Idx) :
    col0 m c t.val t.isLt y = part (iblk m c 0 t) (iblk m c 1 t) y := by
  unfold col0
  rw [outsAt0_A m c t h (by omega) (by omega) h (by omega) (by omega)]
  frame_out
  refine (Cols.miss (M := 512) (W := 3328) (n := 1792) 0 1792 inb_S512x3328_S512x1792_0_0 _ (by omega) _ _ y).trans ?_
  refine (Cols.hit (M := 512) (W := 3328) (n := 1792) 0 inb_S512x3328_S512x1792_0_0 _ _ y).trans ?_
  exact first0 _ _ y

/-- A later step adds its contraction. -/
theorem add0 (c : Dev nD) (t : Fin cfg0.N) (h : ¬t.val % 4 = 0) (y : S512x1792.Idx) :
    col0 m c t.val t.isLt y
      = (col0 m c (t.val - 1) (Nat.lt_of_le_of_lt (Nat.sub_le _ _) t.isLt) y + part (iblk m c 0 t) (iblk m c 1 t) y : EReal) := by
  unfold col0
  by_cases h3 : t.val % 4 = 3
  · rw [outsAt0_C m c t h (by omega) h3 h (by omega) h3]
    frame_out
    refine (Cols.miss (M := 512) (W := 3328) (n := 1792) 0 1792 inb_S512x3328_S512x1792_0_0 _ (by omega) _ _ y).trans ?_
    refine (Cols.hit (M := 512) (W := 3328) (n := 1792) 0 inb_S512x3328_S512x1792_0_0 _ _ y).trans ?_
    refine (step0 _ _ _ y).trans (congrArg (fun z : EReal => z + _) ?_)
    refine (Cols.ld (M := 512) (W := 3328) (n := 1792) 0 inb_S512x3328_S512x1792_0_0 _ y).trans ?_
    exact congrFun (Memref.IsWhole.read_unread _ _) _
  · rw [outsAt0_B m c t h (by omega) h3 h (by omega) h3]
    frame_out
    refine (Cols.miss (M := 512) (W := 3328) (n := 1792) 0 1792 inb_S512x3328_S512x1792_0_0 _ (by omega) _ _ y).trans ?_
    refine (Cols.hit (M := 512) (W := 3328) (n := 1792) 0 inb_S512x3328_S512x1792_0_0 _ _ y).trans ?_
    refine (step0 _ _ _ y).trans (congrArg (fun z : EReal => z + _) ?_)
    refine (Cols.ld (M := 512) (W := 3328) (n := 1792) 0 inb_S512x3328_S512x1792_0_0 _ y).trans ?_
    exact congrFun (Memref.IsWhole.read_unread _ _) _

/-- At the end of a run the columns hold the run's contractions. -/
theorem run0 (c : Dev nD) (t : Fin cfg0.N) (hr : t.val % 4 = 3) (y : S512x1792.Idx) :
    col0 m c t.val t.isLt y
      = (0 + ∑ s : Fin 4, part (iblk m c 0 ⟨4 * (t.val / 4) + s.val, Pipeline.run_point_lt_of_flush t hr s⟩)
          (iblk m c 1 ⟨4 * (t.val / 4) + s.val, Pipeline.run_point_lt_of_flush t hr s⟩) y : EReal) := by
  refine Pipeline.eq_sum_fin_of_reset_step_apply_of_flush (M := EReal) (fun n h => col0 m c n h) 4 (fun _ => 0)
    (fun t y => part (iblk m c 0 t) (iblk m c 1 t) y) (fun t h j => ?_) (fun t h j => ?_) t hr y
  · exact (reset0 m c t h j).trans (zero_add _).symm
  · exact add0 m c t (by omega) j

/-- What the end of a run writes back for group 0: its columns. -/
theorem out0 (c : Dev nD) (t : Fin cfg0.N) (h3 : t.val % 4 = 3) (y : S512x1792.Idx) :
    (outsAt0 m c t.val t.isLt).1 y = col0 m c t.val t.isLt y := by
  have h : ¬t.val % 4 = 0 := by omega
  unfold col0
  rw [outsAt0_C m c t h (by omega) h3 h (by omega) h3]
  frame_out
  refine Eq.symm ((Cols.miss (M := 512) (W := 3328) (n := 1792) 0 1792 inb_S512x3328_S512x1792_0_0 _ (by omega) _ _ y).trans (Eq.symm ?_))
  refine Eq.symm ((Cols.hit (M := 512) (W := 3328) (n := 1792) 0 inb_S512x3328_S512x1792_0_0 _ _ y).trans (Eq.symm ?_))
  rw [View.readCov_cons_toLoadRect]
  rfl

/-- The array of group 0 after the run. -/
theorem final0 (c : Dev nD) : (dats m 0 c).arrAt 3 cfg0.N
    = G (m ((c : Thread nD τ).loc main_arg0)) (m ((c : Thread nD τ).loc main_arg1)) := by
  refine (dats m 0 c).arrAt_eq_of_covers 3 _ (by decide +kernel) fun t hf y => ?_
  have hr : t.val % 4 = 3 := (flush0_3 t).mp hf
  blk_simp
  rw [after0_3, out0 m c t hr, run0 m c t hr, zero_add]
  unfold G
  refine Fin.sum_mul_add_congr (M := EReal) fun s k hl => ?_
  have e := idx t
  have e' := idx ⟨4 * (t.val / 4) + s.val, Pipeline.run_point_lt_of_flush t hr s⟩
  have hs := s.isLt
  have h2 : (4 * (t.val / 4) + s.val) % 4 = s.val := by omega
  have h3 : (4 * (t.val / 4) + s.val) / 4 = t.val / 4 := by omega
  refine congrArg₂ (fun a b : EReal => a * b) ?_ ?_
  · show V m c main_arg0 _ = V m c main_arg0 _
    congr 1
    blk_ext [e'.1.1, e'.1.2, e.2.2.2.1.1, h2, h3]
  · show V m c main_arg1 _ = V m c main_arg1 _
    congr 1
    blk_ext [e'.2.1.1, e'.2.1.2, e.2.2.2.1.2, h2, h3]

/-- The reference's result for group 0 is the same gradient. -/
theorem ref0 (u : Vec Ideal S4096x1024 .bf16) (d : Vec Ideal S4096x1792 .bf16) :
    Cert.GwaRIdeal.Read.val_main_v6 (F := Ideal) u d = G u d := by
  funext i
  show Cert.GwaRIdeal.Read.val_main_v5 (F := Ideal) u d i = _
  rw [Cert.GwaRIdeal.Read.val_main_v5_apply, Cert.GwaRIdeal.Read.val_main_v4_apply]
  refine Finset.sum_congr (M := EReal) rfl fun k _ => ?_
  rw [Cert.GwaRIdeal.Read.val_main_v3_apply, Cert.GwaRIdeal.Read.val_main_v1_apply, mul_comm]
  exact congrArg₂ (fun a b : EReal => a * b) (congrArg u (Dots.ext2 rfl rfl)) (congrArg d (Dots.ext2 rfl rfl))

/-- The product of group 1 at an element of its block. -/
theorem prod1 (a : Vec Ideal S1024x512 .bf16) (b : Vec Ideal S1024x1536 .bf16) (y : S512x1536.Idx) : k0_pay5 (F := Ideal) a b y = part a b y := by
  refine (Dots.tn (M := 512) (K := 1024) (N := 1536) (φ₁ := .bf16) (φ₂ := .bf16)
    dot_S1024x512_S1024x1536_S512x1536_0_0_1_1_n_n_wf none _ _ _ y).trans ?_
  unfold part
  pointwise

/-- What the first step stores for group 1. -/
theorem first1 (a : Vec Ideal S1024x512 .bf16) (b : Vec Ideal S1024x1536 .bf16) (y : S512x1536.Idx) : k0_pay6 (F := Ideal) a b y = part a b y := by
  unfold k0_pay6
  rw [shapeCast_self]
  exact prod1 a b y

/-- What a later step stores for group 1. -/
theorem step1 (a : Vec Ideal S1024x512 .bf16) (b : Vec Ideal S1024x1536 .bf16) (s : Vec Ideal S512x1536 .f32) (y : S512x1536.Idx) :
    k0_pay7 (F := Ideal) a b s y = (s y + part a b y : EReal) := by
  unfold k0_pay7
  rw [shapeCast_self]
  exact congrArg (fun z : EReal => s y + z) (prod1 a b y)

/-- The running block's columns of group 1 after a point. -/
def col1 (c : Dev nD) (k : ℕ) (h : k < cfg0.N) (y : S512x1536.Idx) : EReal :=
  (outsAt0 m c k h).2.2 (Cols.at_ (M := 512) (W := 3328) (n := 1536) 1792 inb_S512x3328_S512x1536_0_1792 y)

/-- The first step of a run puts the first contraction there. -/
theorem reset1 (c : Dev nD) (t : Fin cfg0.N) (h : t.val % 4 = 0) (y : S512x1536.Idx) :
    col1 m c t.val t.isLt y = part (iblk m c 0 t) (iblk m c 2 t) y := by
  unfold col1
  rw [outsAt0_A m c t h (by omega) (by omega) h (by omega) (by omega)]
  frame_out
  refine (Cols.hit (M := 512) (W := 3328) (n := 1536) 1792 inb_S512x3328_S512x1536_0_1792 _ _ y).trans ?_
  exact first1 _ _ y

/-- A later step adds its contraction. -/
theorem add1 (c : Dev nD) (t : Fin cfg0.N) (h : ¬t.val % 4 = 0) (y : S512x1536.Idx) :
    col1 m c t.val t.isLt y
      = (col1 m c (t.val - 1) (Nat.lt_of_le_of_lt (Nat.sub_le _ _) t.isLt) y + part (iblk m c 0 t) (iblk m c 2 t) y : EReal) := by
  unfold col1
  by_cases h3 : t.val % 4 = 3
  · rw [outsAt0_C m c t h (by omega) h3 h (by omega) h3]
    frame_out
    refine (Cols.hit (M := 512) (W := 3328) (n := 1536) 1792 inb_S512x3328_S512x1536_0_1792 _ _ y).trans ?_
    refine (step1 _ _ _ y).trans (congrArg (fun z : EReal => z + _) ?_)
    refine (Cols.ld (M := 512) (W := 3328) (n := 1536) 1792 inb_S512x3328_S512x1536_0_1792 _ y).trans ?_
    exact congrFun (Memref.IsWhole.read_unread _ _) _
  · rw [outsAt0_B m c t h (by omega) h3 h (by omega) h3]
    frame_out
    refine (Cols.hit (M := 512) (W := 3328) (n := 1536) 1792 inb_S512x3328_S512x1536_0_1792 _ _ y).trans ?_
    refine (step1 _ _ _ y).trans (congrArg (fun z : EReal => z + _) ?_)
    refine (Cols.ld (M := 512) (W := 3328) (n := 1536) 1792 inb_S512x3328_S512x1536_0_1792 _ y).trans ?_
    exact congrFun (Memref.IsWhole.read_unread _ _) _

/-- At the end of a run the columns hold the run's contractions. -/
theorem run1 (c : Dev nD) (t : Fin cfg0.N) (hr : t.val % 4 = 3) (y : S512x1536.Idx) :
    col1 m c t.val t.isLt y
      = (0 + ∑ s : Fin 4, part (iblk m c 0 ⟨4 * (t.val / 4) + s.val, Pipeline.run_point_lt_of_flush t hr s⟩)
          (iblk m c 2 ⟨4 * (t.val / 4) + s.val, Pipeline.run_point_lt_of_flush t hr s⟩) y : EReal) := by
  refine Pipeline.eq_sum_fin_of_reset_step_apply_of_flush (M := EReal) (fun n h => col1 m c n h) 4 (fun _ => 0)
    (fun t y => part (iblk m c 0 t) (iblk m c 2 t) y) (fun t h j => ?_) (fun t h j => ?_) t hr y
  · exact (reset1 m c t h j).trans (zero_add _).symm
  · exact add1 m c t (by omega) j

/-- What the end of a run writes back for group 1: its columns. -/
theorem out1 (c : Dev nD) (t : Fin cfg0.N) (h3 : t.val % 4 = 3) (y : S512x1536.Idx) :
    (outsAt0 m c t.val t.isLt).2.1 y = col1 m c t.val t.isLt y := by
  have h : ¬t.val % 4 = 0 := by omega
  unfold col1
  rw [outsAt0_C m c t h (by omega) h3 h (by omega) h3]
  frame_out
  refine Eq.symm ((Cols.hit (M := 512) (W := 3328) (n := 1536) 1792 inb_S512x3328_S512x1536_0_1792 _ _ y).trans (Eq.symm ?_))
  rw [View.readCov_cons_toLoadRect]
  rfl

/-- The array of group 1 after the run. -/
theorem final1 (c : Dev nD) : (dats m 0 c).arrAt 4 cfg0.N
    = G (m ((c : Thread nD τ).loc main_arg0)) (m ((c : Thread nD τ).loc main_arg2)) := by
  refine (dats m 0 c).arrAt_eq_of_covers 4 _ (by decide +kernel) fun t hf y => ?_
  have hr : t.val % 4 = 3 := (flush0_4 t).mp hf
  blk_simp
  rw [after0_4, out1 m c t hr, run1 m c t hr, zero_add]
  unfold G
  refine Fin.sum_mul_add_congr (M := EReal) fun s k hl => ?_
  have e := idx t
  have e' := idx ⟨4 * (t.val / 4) + s.val, Pipeline.run_point_lt_of_flush t hr s⟩
  have hs := s.isLt
  have h2 : (4 * (t.val / 4) + s.val) % 4 = s.val := by omega
  have h3 : (4 * (t.val / 4) + s.val) / 4 = t.val / 4 := by omega
  refine congrArg₂ (fun a b : EReal => a * b) ?_ ?_
  · show V m c main_arg0 _ = V m c main_arg0 _
    congr 1
    blk_ext [e'.1.1, e'.1.2, e.2.2.2.2.1, h2, h3]
  · show V m c main_arg2 _ = V m c main_arg2 _
    congr 1
    blk_ext [e'.2.2.1.1, e'.2.2.1.2, e.2.2.2.2.2, h2, h3]

/-- The reference's result for group 1 is the same gradient. -/
theorem ref1 (u : Vec Ideal S4096x1024 .bf16) (d : Vec Ideal S4096x1536 .bf16) :
    Cert.GwaRIdeal.Read.val_main_v13 (F := Ideal) u d = G u d := by
  funext i
  show Cert.GwaRIdeal.Read.val_main_v12 (F := Ideal) u d i = _
  rw [Cert.GwaRIdeal.Read.val_main_v12_apply, Cert.GwaRIdeal.Read.val_main_v11_apply]
  refine Finset.sum_congr (M := EReal) rfl fun k _ => ?_
  rw [Cert.GwaRIdeal.Read.val_main_v10_apply, Cert.GwaRIdeal.Read.val_main_v8_apply, mul_comm]
  exact congrArg₂ (fun a b : EReal => a * b) (congrArg u (Dots.ext2 rfl rfl)) (congrArg d (Dots.ext2 rfl rfl))

/-- The kernel and the reference agree over the extended reals. -/
theorem algebraic : Cert.algebraic_GwaKIdeal_GwaRIdeal := by
  intro m ρ m' ρ' _ hag
  refine ⟨fun c => G (m ((c : Thread nD τ).loc main_arg0)) (m ((c : Thread nD τ).loc main_arg1)),
    fun c => G (m ((c : Thread nD τ).loc main_arg0)) (m ((c : Thread nD τ).loc main_arg2)), ?_, ?_⟩
  · exact (θ_run _ _ _).mono (fun r h c => ⟨(h c).1.trans (final0 m c), (h c).2.1.trans (final1 m c), (h c).2.2⟩) (Value.run_blocks m ρ)
  · refine (θ_run _ _ _).mono (fun r h c => ⟨(h c).1.trans ?_, (h c).2.1.trans ?_, (h c).2.2⟩) (Cert.GwaRIdeal.Value.run m' ρ')
    · rw [(hag c).1, (hag c).2.1]
      exact ref0 _ _
    · rw [(hag c).1, (hag c).2.2]
      exact ref1 _ _

end Cert.Proof.Gwa

end
-- ==== Proof.Gwb.lean ====
/-
  The call `g_w_in_rest` (the gradient of the input projection's weight, the last four of its column groups), read over the
  extended reals: the grid walks two column blocks of the normed stream, each in four quarters of the positions; the running
  block holds every group's contraction in its own columns, put there by the first quarter and added to by the others, and
  what is written back of a group is the contraction over all the positions that the reference takes in one product.
-/
module

public import proofs.«01_k».proof.Defs
public import proofs.«01_k».proof.Proof.Gen.GwbKIdeal.Value
public import proofs.«01_k».proof.Proof.Gen.GwbRIdeal.Run
public import proofs.«01_k».proof.Proof.Gen.GwbRIdeal.Read
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Dots
public import proofs.«01_k».proof.Proof.Cols
public import Idealize.ShloMosaic.Lib.Pointwise.Tactic

@[expose] public section

set_option maxRecDepth 16384

noncomputable section

namespace Cert.Proof.Gwb

open Cert.GwbKIdeal Cert.GwbKIdeal.Gen Idealize.ShloMosaic Idealize.ShloMosaic.TcCoe Idealize.SL.Sem

variable (m : (ℓ : Loc nD τ sig) → Buf (Elt Ideal) ℓ) (ρ : Dev nD → PrngReg)

/-- The gradient of the weight of one product: `uᵀ · d`, element by element. -/
def G {w : ℕ} (u : Vec Ideal S4096x1024 .bf16) (d : Vec Ideal ⟨2, ![4096, w]⟩ .bf16) : Vec Ideal ⟨2, ![1024, w]⟩ .bf16 :=
  fun i => ∑ k : Fin 4096, u (ix2 k (i 0)) * d (ix2 k (i 1))

/-- The blocks each point of the grid reads and writes. -/
theorem idx : ∀ t : Fin grid0.N, (win0_0.index t 0 = t.val % 4 ∧ win0_0.index t 1 = t.val / 4)
    ∧ (win0_1.index t 0 = t.val % 4 ∧ win0_1.index t 1 = 0)
    ∧ (win0_2.index t 0 = t.val % 4 ∧ win0_2.index t 1 = 0)
    ∧ (win0_3.index t 0 = t.val % 4 ∧ win0_3.index t 1 = 0)
    ∧ (win0_4.index t 0 = t.val % 4 ∧ win0_4.index t 1 = 0)
    ∧ (win0_5.index t 0 = t.val / 4 ∧ win0_5.index t 1 = 0)
    ∧ (win0_6.index t 0 = t.val / 4 ∧ win0_6.index t 1 = 0)
    ∧ (win0_7.index t 0 = t.val / 4 ∧ win0_7.index t 1 = 0)
    ∧ (win0_8.index t 0 = t.val / 4 ∧ win0_8.index t 1 = 0) := by decide +kernel

/-- The contraction of one pair of blocks. -/
def part {w : ℕ} (a : Vec Ideal S1024x512 .bf16) (b : Vec Ideal ⟨2, ![1024, w]⟩ .bf16) (y : (⟨2, ![512, w]⟩ : Shape).Idx) : EReal :=
  ∑ k : Fin 1024, a (ix2 k (y 0)) * b (ix2 k (y 1))

/-- The product of group 0 at an element of its block. -/
theorem prod0 (a : Vec Ideal S1024x512 .bf16) (b : Vec Ideal S1024x512 .bf16) (y : S512x512.Idx) : k0_pay8 (F := Ideal) a b y = part a b y := by
  refine (Dots.tn (M := 512) (K := 1024) (N := 512) (φ₁ := .bf16) (φ₂ := .bf16)
    dot_S1024x512_S1024x512_S512x512_0_0_1_1_n_n_wf none _ _ _ y).trans ?_
  unfold part
  pointwise

/-- What the first step stores for group 0. -/
theorem first0 (a : Vec Ideal S1024x512 .bf16) (b : Vec Ideal S1024x512 .bf16) (y : S512x512.Idx) : k0_pay9 (F := Ideal) a b y = part a b y := by
  unfold k0_pay9
  rw [shapeCast_self]
  exact prod0 a b y

/-- What a later step stores for group 0. -/
theorem step0 (a : Vec Ideal S1024x512 .bf16) (b : Vec Ideal S1024x512 .bf16) (s : Vec Ideal S512x512 .f32) (y : S512x512.Idx) :
    k0_pay10 (F := Ideal) a b s y = (s y + part a b y : EReal) := by
  unfold k0_pay10
  rw [shapeCast_self]
  exact congrArg (fun z : EReal => s y + z) (prod0 a b y)

/-- The running block's columns of group 0 after a point. -/
def col0 (c : Dev nD) (k : ℕ) (h : k < cfg0.N) (y : S512x512.Idx) : EReal :=
  (outsAt0 m c k h).2.2.2.2 (Cols.at_ (M := 512) (W := 2816) (n := 512) 0 inb_S512x2816_S512x512_0_0 y)

/-- The first step of a run puts the first contraction there. -/
theorem reset0 (c : Dev nD) (t : Fin cfg0.N) (h : t.val % 4 = 0) (y : S512x512.Idx) :
    col0 m c t.val t.isLt y = part (iblk m c 0 t) (iblk m c 1 t) y := by
  unfold col0
  rw [outsAt0_A m c t h (by omega) (by omega) h (by omega) (by omega) h (by omega) (by omega) h (by omega) (by omega)]
  frame_out
  refine (Cols.miss (M := 512) (W := 2816) (n := 512) 0 2560 inb_S512x2816_S512x512_0_0 _ (by omega) _ _ y).trans ?_
  refine (Cols.miss (M := 512) (W := 2816) (n := 512) 0 1536 inb_S512x2816_S512x512_0_0 _ (by omega) _ _ y).trans ?_
  refine (Cols.miss (M := 512) (W := 2816) (n := 512) 0 512 inb_S512x2816_S512x512_0_0 _ (by omega) _ _ y).trans ?_
  refine (Cols.hit (M := 512) (W := 2816) (n := 512) 0 inb_S512x2816_S512x512_0_0 _ _ y).trans ?_
  exact first0 _ _ y

/-- A later step adds its contraction. -/
theorem add0 (c : Dev nD) (t : Fin cfg0.N) (h : ¬t.val % 4 = 0) (y : S512x512.Idx) :
    col0 m c t.val t.isLt y
      = (col0 m c (t.val - 1) (Nat.lt_of_le_of_lt (Nat.sub_le _ _) t.isLt) y + part (iblk m c 0 t) (iblk m c 1 t) y : EReal) := by
  unfold col0
  by_cases h3 : t.val % 4 = 3
  · rw [outsAt0_C m c t h (by omega) h3 h (by omega) h3 h (by omega) h3 h (by omega) h3]
    frame_out
    refine (Cols.miss (M := 512) (W := 2816) (n := 512) 0 2560 inb_S512x2816_S512x512_0_0 _ (by omega) _ _ y).trans ?_
    refine (Cols.miss (M := 512) (W := 2816) (n := 512) 0 1536 inb_S512x2816_S512x512_0_0 _ (by omega) _ _ y).trans ?_
    refine (Cols.miss (M := 512) (W := 2816) (n := 512) 0 512 inb_S512x2816_S512x512_0_0 _ (by omega) _ _ y).trans ?_
    refine (Cols.hit (M := 512) (W := 2816) (n := 512) 0 inb_S512x2816_S512x512_0_0 _ _ y).trans ?_
    refine (step0 _ _ _ y).trans (congrArg (fun z : EReal => z + _) ?_)
    refine (Cols.ld (M := 512) (W := 2816) (n := 512) 0 inb_S512x2816_S512x512_0_0 _ y).trans ?_
    exact congrFun (Memref.IsWhole.read_unread _ _) _
  · rw [outsAt0_B m c t h (by omega) h3 h (by omega) h3 h (by omega) h3 h (by omega) h3]
    frame_out
    refine (Cols.miss (M := 512) (W := 2816) (n := 512) 0 2560 inb_S512x2816_S512x512_0_0 _ (by omega) _ _ y).trans ?_
    refine (Cols.miss (M := 512) (W := 2816) (n := 512) 0 1536 inb_S512x2816_S512x512_0_0 _ (by omega) _ _ y).trans ?_
    refine (Cols.miss (M := 512) (W := 2816) (n := 512) 0 512 inb_S512x2816_S512x512_0_0 _ (by omega) _ _ y).trans ?_
    refine (Cols.hit (M := 512) (W := 2816) (n := 512) 0 inb_S512x2816_S512x512_0_0 _ _ y).trans ?_
    refine (step0 _ _ _ y).trans (congrArg (fun z : EReal => z + _) ?_)
    refine (Cols.ld (M := 512) (W := 2816) (n := 512) 0 inb_S512x2816_S512x512_0_0 _ y).trans ?_
    exact congrFun (Memref.IsWhole.read_unread _ _) _

/-- At the end of a run the columns hold the run's contractions. -/
theorem run0 (c : Dev nD) (t : Fin cfg0.N) (hr : t.val % 4 = 3) (y : S512x512.Idx) :
    col0 m c t.val t.isLt y
      = (0 + ∑ s : Fin 4, part (iblk m c 0 ⟨4 * (t.val / 4) + s.val, Pipeline.run_point_lt_of_flush t hr s⟩)
          (iblk m c 1 ⟨4 * (t.val / 4) + s.val, Pipeline.run_point_lt_of_flush t hr s⟩) y : EReal) := by
  refine Pipeline.eq_sum_fin_of_reset_step_apply_of_flush (M := EReal) (fun n h => col0 m c n h) 4 (fun _ => 0)
    (fun t y => part (iblk m c 0 t) (iblk m c 1 t) y) (fun t h j => ?_) (fun t h j => ?_) t hr y
  · exact (reset0 m c t h j).trans (zero_add _).symm
  · exact add0 m c t (by omega) j

/-- What the end of a run writes back for group 0: its columns. -/
theorem out0 (c : Dev nD) (t : Fin cfg0.N) (h3 : t.val % 4 = 3) (y : S512x512.Idx) :
    (outsAt0 m c t.val t.isLt).1 y = col0 m c t.val t.isLt y := by
  have h : ¬t.val % 4 = 0 := by omega
  unfold col0
  rw [outsAt0_C m c t h (by omega) h3 h (by omega) h3 h (by omega) h3 h (by omega) h3]
  frame_out
  refine Eq.symm ((Cols.miss (M := 512) (W := 2816) (n := 512) 0 2560 inb_S512x2816_S512x512_0_0 _ (by omega) _ _ y).trans (Eq.symm ?_))
  refine Eq.symm ((Cols.miss (M := 512) (W := 2816) (n := 512) 0 1536 inb_S512x2816_S512x512_0_0 _ (by omega) _ _ y).trans (Eq.symm ?_))
  refine Eq.symm ((Cols.miss (M := 512) (W := 2816) (n := 512) 0 512 inb_S512x2816_S512x512_0_0 _ (by omega) _ _ y).trans (Eq.symm ?_))
  refine Eq.symm ((Cols.hit (M := 512) (W := 2816) (n := 512) 0 inb_S512x2816_S512x512_0_0 _ _ y).trans (Eq.symm ?_))
  rw [View.readCov_cons_toLoadRect]
  rfl

/-- The array of group 0 after the run. -/
theorem final0 (c : Dev nD) : (dats m 0 c).arrAt 5 cfg0.N
    = G (m ((c : Thread nD τ).loc main_arg0)) (m ((c : Thread nD τ).loc main_arg1)) := by
  refine (dats m 0 c).arrAt_eq_of_covers 5 _ (by decide +kernel) fun t hf y => ?_
  have hr : t.val % 4 = 3 := (flush0_5 t).mp hf
  blk_simp
  rw [after0_5, out0 m c t hr, run0 m c t hr, zero_add]
  unfold G
  refine Fin.sum_mul_add_congr (M := EReal) fun s k hl => ?_
  have e := idx t
  have e' := idx ⟨4 * (t.val / 4) + s.val, Pipeline.run_point_lt_of_flush t hr s⟩
  have hs := s.isLt
  have h2 : (4 * (t.val / 4) + s.val) % 4 = s.val := by omega
  have h3 : (4 * (t.val / 4) + s.val) / 4 = t.val / 4 := by omega
  refine congrArg₂ (fun a b : EReal => a * b) ?_ ?_
  · show V m c main_arg0 _ = V m c main_arg0 _
    congr 1
    blk_ext [e'.1.1, e'.1.2, e.2.2.2.2.2.1.1, h2, h3]
  · show V m c main_arg1 _ = V m c main_arg1 _
    congr 1
    blk_ext [e'.2.1.1, e'.2.1.2, e.2.2.2.2.2.1.2, h2, h3]

/-- The reference's result for group 0 is the same gradient. -/
theorem ref0 (u : Vec Ideal S4096x1024 .bf16) (d : Vec Ideal S4096x512 .bf16) :
    Cert.GwbRIdeal.Read.val_main_v6 (F := Ideal) u d = G u d := by
  funext i
  show Cert.GwbRIdeal.Read.val_main_v5 (F := Ideal) u d i = _
  rw [Cert.GwbRIdeal.Read.val_main_v5_apply, Cert.GwbRIdeal.Read.val_main_v4_apply]
  refine Finset.sum_congr (M := EReal) rfl fun k _ => ?_
  rw [Cert.GwbRIdeal.Read.val_main_v3_apply, Cert.GwbRIdeal.Read.val_main_v1_apply, mul_comm]
  exact congrArg₂ (fun a b : EReal => a * b) (congrArg u (Dots.ext2 rfl rfl)) (congrArg d (Dots.ext2 rfl rfl))

/-- The product of group 1 at an element of its block. -/
theorem prod1 (a : Vec Ideal S1024x512 .bf16) (b : Vec Ideal S1024x1024 .bf16) (y : S512x1024.Idx) : k0_pay12 (F := Ideal) a b y = part a b y := by
  refine (Dots.tn (M := 512) (K := 1024) (N := 1024) (φ₁ := .bf16) (φ₂ := .bf16)
    dot_S1024x512_S1024x1024_S512x1024_0_0_1_1_n_n_wf none _ _ _ y).trans ?_
  unfold part
  pointwise

/-- What the first step stores for group 1. -/
theorem first1 (a : Vec Ideal S1024x512 .bf16) (b : Vec Ideal S1024x1024 .bf16) (y : S512x1024.Idx) : k0_pay13 (F := Ideal) a b y = part a b y := by
  unfold k0_pay13
  rw [shapeCast_self]
  exact prod1 a b y

/-- What a later step stores for group 1. -/
theorem step1 (a : Vec Ideal S1024x512 .bf16) (b : Vec Ideal S1024x1024 .bf16) (s : Vec Ideal S512x1024 .f32) (y : S512x1024.Idx) :
    k0_pay14 (F := Ideal) a b s y = (s y + part a b y : EReal) := by
  unfold k0_pay14
  rw [shapeCast_self]
  exact congrArg (fun z : EReal => s y + z) (prod1 a b y)

/-- The running block's columns of group 1 after a point. -/
def col1 (c : Dev nD) (k : ℕ) (h : k < cfg0.N) (y : S512x1024.Idx) : EReal :=
  (outsAt0 m c k h).2.2.2.2 (Cols.at_ (M := 512) (W := 2816) (n := 1024) 512 inb_S512x2816_S512x1024_0_512 y)

/-- The first step of a run puts the first contraction there. -/
theorem reset1 (c : Dev nD) (t : Fin cfg0.N) (h : t.val % 4 = 0) (y : S512x1024.Idx) :
    col1 m c t.val t.isLt y = part (iblk m c 0 t) (iblk m c 2 t) y := by
  unfold col1
  rw [outsAt0_A m c t h (by omega) (by omega) h (by omega) (by omega) h (by omega) (by omega) h (by omega) (by omega)]
  frame_out
  refine (Cols.miss (M := 512) (W := 2816) (n := 1024) 512 2560 inb_S512x2816_S512x1024_0_512 _ (by omega) _ _ y).trans ?_
  refine (Cols.miss (M := 512) (W := 2816) (n := 1024) 512 1536 inb_S512x2816_S512x1024_0_512 _ (by omega) _ _ y).trans ?_
  refine (Cols.hit (M := 512) (W := 2816) (n := 1024) 512 inb_S512x2816_S512x1024_0_512 _ _ y).trans ?_
  exact first1 _ _ y

/-- A later step adds its contraction. -/
theorem add1 (c : Dev nD) (t : Fin cfg0.N) (h : ¬t.val % 4 = 0) (y : S512x1024.Idx) :
    col1 m c t.val t.isLt y
      = (col1 m c (t.val - 1) (Nat.lt_of_le_of_lt (Nat.sub_le _ _) t.isLt) y + part (iblk m c 0 t) (iblk m c 2 t) y : EReal) := by
  unfold col1
  by_cases h3 : t.val % 4 = 3
  · rw [outsAt0_C m c t h (by omega) h3 h (by omega) h3 h (by omega) h3 h (by omega) h3]
    frame_out
    refine (Cols.miss (M := 512) (W := 2816) (n := 1024) 512 2560 inb_S512x2816_S512x1024_0_512 _ (by omega) _ _ y).trans ?_
    refine (Cols.miss (M := 512) (W := 2816) (n := 1024) 512 1536 inb_S512x2816_S512x1024_0_512 _ (by omega) _ _ y).trans ?_
    refine (Cols.hit (M := 512) (W := 2816) (n := 1024) 512 inb_S512x2816_S512x1024_0_512 _ _ y).trans ?_
    refine (step1 _ _ _ y).trans (congrArg (fun z : EReal => z + _) ?_)
    refine (Cols.ld (M := 512) (W := 2816) (n := 1024) 512 inb_S512x2816_S512x1024_0_512 _ y).trans ?_
    exact congrFun (Memref.IsWhole.read_unread _ _) _
  · rw [outsAt0_B m c t h (by omega) h3 h (by omega) h3 h (by omega) h3 h (by omega) h3]
    frame_out
    refine (Cols.miss (M := 512) (W := 2816) (n := 1024) 512 2560 inb_S512x2816_S512x1024_0_512 _ (by omega) _ _ y).trans ?_
    refine (Cols.miss (M := 512) (W := 2816) (n := 1024) 512 1536 inb_S512x2816_S512x1024_0_512 _ (by omega) _ _ y).trans ?_
    refine (Cols.hit (M := 512) (W := 2816) (n := 1024) 512 inb_S512x2816_S512x1024_0_512 _ _ y).trans ?_
    refine (step1 _ _ _ y).trans (congrArg (fun z : EReal => z + _) ?_)
    refine (Cols.ld (M := 512) (W := 2816) (n := 1024) 512 inb_S512x2816_S512x1024_0_512 _ y).trans ?_
    exact congrFun (Memref.IsWhole.read_unread _ _) _

/-- At the end of a run the columns hold the run's contractions. -/
theorem run1 (c : Dev nD) (t : Fin cfg0.N) (hr : t.val % 4 = 3) (y : S512x1024.Idx) :
    col1 m c t.val t.isLt y
      = (0 + ∑ s : Fin 4, part (iblk m c 0 ⟨4 * (t.val / 4) + s.val, Pipeline.run_point_lt_of_flush t hr s⟩)
          (iblk m c 2 ⟨4 * (t.val / 4) + s.val, Pipeline.run_point_lt_of_flush t hr s⟩) y : EReal) := by
  refine Pipeline.eq_sum_fin_of_reset_step_apply_of_flush (M := EReal) (fun n h => col1 m c n h) 4 (fun _ => 0)
    (fun t y => part (iblk m c 0 t) (iblk m c 2 t) y) (fun t h j => ?_) (fun t h j => ?_) t hr y
  · exact (reset1 m c t h j).trans (zero_add _).symm
  · exact add1 m c t (by omega) j

/-- What the end of a run writes back for group 1: its columns. -/
theorem out1 (c : Dev nD) (t : Fin cfg0.N) (h3 : t.val % 4 = 3) (y : S512x1024.Idx) :
    (outsAt0 m c t.val t.isLt).2.1 y = col1 m c t.val t.isLt y := by
  have h : ¬t.val % 4 = 0 := by omega
  unfold col1
  rw [outsAt0_C m c t h (by omega) h3 h (by omega) h3 h (by omega) h3 h (by omega) h3]
  frame_out
  refine Eq.symm ((Cols.miss (M := 512) (W := 2816) (n := 1024) 512 2560 inb_S512x2816_S512x1024_0_512 _ (by omega) _ _ y).trans (Eq.symm ?_))
  refine Eq.symm ((Cols.miss (M := 512) (W := 2816) (n := 1024) 512 1536 inb_S512x2816_S512x1024_0_512 _ (by omega) _ _ y).trans (Eq.symm ?_))
  refine Eq.symm ((Cols.hit (M := 512) (W := 2816) (n := 1024) 512 inb_S512x2816_S512x1024_0_512 _ _ y).trans (Eq.symm ?_))
  rw [View.readCov_cons_toLoadRect]
  rfl

/-- The array of group 1 after the run. -/
theorem final1 (c : Dev nD) : (dats m 0 c).arrAt 6 cfg0.N
    = G (m ((c : Thread nD τ).loc main_arg0)) (m ((c : Thread nD τ).loc main_arg2)) := by
  refine (dats m 0 c).arrAt_eq_of_covers 6 _ (by decide +kernel) fun t hf y => ?_
  have hr : t.val % 4 = 3 := (flush0_6 t).mp hf
  blk_simp
  rw [after0_6, out1 m c t hr, run1 m c t hr, zero_add]
  unfold G
  refine Fin.sum_mul_add_congr (M := EReal) fun s k hl => ?_
  have e := idx t
  have e' := idx ⟨4 * (t.val / 4) + s.val, Pipeline.run_point_lt_of_flush t hr s⟩
  have hs := s.isLt
  have h2 : (4 * (t.val / 4) + s.val) % 4 = s.val := by omega
  have h3 : (4 * (t.val / 4) + s.val) / 4 = t.val / 4 := by omega
  refine congrArg₂ (fun a b : EReal => a * b) ?_ ?_
  · show V m c main_arg0 _ = V m c main_arg0 _
    congr 1
    blk_ext [e'.1.1, e'.1.2, e.2.2.2.2.2.2.1.1, h2, h3]
  · show V m c main_arg2 _ = V m c main_arg2 _
    congr 1
    blk_ext [e'.2.2.1.1, e'.2.2.1.2, e.2.2.2.2.2.2.1.2, h2, h3]

/-- The reference's result for group 1 is the same gradient. -/
theorem ref1 (u : Vec Ideal S4096x1024 .bf16) (d : Vec Ideal S4096x1024 .bf16) :
    Cert.GwbRIdeal.Read.val_main_v13 (F := Ideal) u d = G u d := by
  funext i
  show Cert.GwbRIdeal.Read.val_main_v12 (F := Ideal) u d i = _
  rw [Cert.GwbRIdeal.Read.val_main_v12_apply, Cert.GwbRIdeal.Read.val_main_v11_apply]
  refine Finset.sum_congr (M := EReal) rfl fun k _ => ?_
  rw [Cert.GwbRIdeal.Read.val_main_v10_apply, Cert.GwbRIdeal.Read.val_main_v8_apply, mul_comm]
  exact congrArg₂ (fun a b : EReal => a * b) (congrArg u (Dots.ext2 rfl rfl)) (congrArg d (Dots.ext2 rfl rfl))

/-- The product of group 2 at an element of its block. -/
theorem prod2 (a : Vec Ideal S1024x512 .bf16) (b : Vec Ideal S1024x1024 .bf16) (y : S512x1024.Idx) : k0_pay16 (F := Ideal) a b y = part a b y := by
  refine (Dots.tn (M := 512) (K := 1024) (N := 1024) (φ₁ := .bf16) (φ₂ := .bf16)
    dot_S1024x512_S1024x1024_S512x1024_0_0_1_1_n_n_wf none _ _ _ y).trans ?_
  unfold part
  pointwise

/-- What the first step stores for group 2. -/
theorem first2 (a : Vec Ideal S1024x512 .bf16) (b : Vec Ideal S1024x1024 .bf16) (y : S512x1024.Idx) : k0_pay1 (F := Ideal) (k0_pay16 (F := Ideal) a b) y = part a b y := by
  unfold k0_pay1
  rw [shapeCast_self]
  exact prod2 a b y

/-- What a later step stores for group 2. -/
theorem step2 (a : Vec Ideal S1024x512 .bf16) (b : Vec Ideal S1024x1024 .bf16) (s : Vec Ideal S512x1024 .f32) (y : S512x1024.Idx) :
    k0_pay2 (F := Ideal) (k0_pay16 (F := Ideal) a b) s y = (s y + part a b y : EReal) := by
  unfold k0_pay2
  rw [shapeCast_self]
  exact congrArg (fun z : EReal => s y + z) (prod2 a b y)

/-- The running block's columns of group 2 after a point. -/
def col2 (c : Dev nD) (k : ℕ) (h : k < cfg0.N) (y : S512x1024.Idx) : EReal :=
  (outsAt0 m c k h).2.2.2.2 (Cols.at_ (M := 512) (W := 2816) (n := 1024) 1536 inb_S512x2816_S512x1024_0_1536 y)

/-- The first step of a run puts the first contraction there. -/
theorem reset2 (c : Dev nD) (t : Fin cfg0.N) (h : t.val % 4 = 0) (y : S512x1024.Idx) :
    col2 m c t.val t.isLt y = part (iblk m c 0 t) (iblk m c 3 t) y := by
  unfold col2
  rw [outsAt0_A m c t h (by omega) (by omega) h (by omega) (by omega) h (by omega) (by omega) h (by omega) (by omega)]
  frame_out
  refine (Cols.miss (M := 512) (W := 2816) (n := 1024) 1536 2560 inb_S512x2816_S512x1024_0_1536 _ (by omega) _ _ y).trans ?_
  refine (Cols.hit (M := 512) (W := 2816) (n := 1024) 1536 inb_S512x2816_S512x1024_0_1536 _ _ y).trans ?_
  exact first2 _ _ y

/-- A later step adds its contraction. -/
theorem add2 (c : Dev nD) (t : Fin cfg0.N) (h : ¬t.val % 4 = 0) (y : S512x1024.Idx) :
    col2 m c t.val t.isLt y
      = (col2 m c (t.val - 1) (Nat.lt_of_le_of_lt (Nat.sub_le _ _) t.isLt) y + part (iblk m c 0 t) (iblk m c 3 t) y : EReal) := by
  unfold col2
  by_cases h3 : t.val % 4 = 3
  · rw [outsAt0_C m c t h (by omega) h3 h (by omega) h3 h (by omega) h3 h (by omega) h3]
    frame_out
    refine (Cols.miss (M := 512) (W := 2816) (n := 1024) 1536 2560 inb_S512x2816_S512x1024_0_1536 _ (by omega) _ _ y).trans ?_
    refine (Cols.hit (M := 512) (W := 2816) (n := 1024) 1536 inb_S512x2816_S512x1024_0_1536 _ _ y).trans ?_
    refine (step2 _ _ _ y).trans (congrArg (fun z : EReal => z + _) ?_)
    refine (Cols.ld (M := 512) (W := 2816) (n := 1024) 1536 inb_S512x2816_S512x1024_0_1536 _ y).trans ?_
    exact congrFun (Memref.IsWhole.read_unread _ _) _
  · rw [outsAt0_B m c t h (by omega) h3 h (by omega) h3 h (by omega) h3 h (by omega) h3]
    frame_out
    refine (Cols.miss (M := 512) (W := 2816) (n := 1024) 1536 2560 inb_S512x2816_S512x1024_0_1536 _ (by omega) _ _ y).trans ?_
    refine (Cols.hit (M := 512) (W := 2816) (n := 1024) 1536 inb_S512x2816_S512x1024_0_1536 _ _ y).trans ?_
    refine (step2 _ _ _ y).trans (congrArg (fun z : EReal => z + _) ?_)
    refine (Cols.ld (M := 512) (W := 2816) (n := 1024) 1536 inb_S512x2816_S512x1024_0_1536 _ y).trans ?_
    exact congrFun (Memref.IsWhole.read_unread _ _) _

/-- At the end of a run the columns hold the run's contractions. -/
theorem run2 (c : Dev nD) (t : Fin cfg0.N) (hr : t.val % 4 = 3) (y : S512x1024.Idx) :
    col2 m c t.val t.isLt y
      = (0 + ∑ s : Fin 4, part (iblk m c 0 ⟨4 * (t.val / 4) + s.val, Pipeline.run_point_lt_of_flush t hr s⟩)
          (iblk m c 3 ⟨4 * (t.val / 4) + s.val, Pipeline.run_point_lt_of_flush t hr s⟩) y : EReal) := by
  refine Pipeline.eq_sum_fin_of_reset_step_apply_of_flush (M := EReal) (fun n h => col2 m c n h) 4 (fun _ => 0)
    (fun t y => part (iblk m c 0 t) (iblk m c 3 t) y) (fun t h j => ?_) (fun t h j => ?_) t hr y
  · exact (reset2 m c t h j).trans (zero_add _).symm
  · exact add2 m c t (by omega) j

/-- What the end of a run writes back for group 2: its columns. -/
theorem out2 (c : Dev nD) (t : Fin cfg0.N) (h3 : t.val % 4 = 3) (y : S512x1024.Idx) :
    (outsAt0 m c t.val t.isLt).2.2.1 y = col2 m c t.val t.isLt y := by
  have h : ¬t.val % 4 = 0 := by omega
  unfold col2
  rw [outsAt0_C m c t h (by omega) h3 h (by omega) h3 h (by omega) h3 h (by omega) h3]
  frame_out
  refine Eq.symm ((Cols.miss (M := 512) (W := 2816) (n := 1024) 1536 2560 inb_S512x2816_S512x1024_0_1536 _ (by omega) _ _ y).trans (Eq.symm ?_))
  refine Eq.symm ((Cols.hit (M := 512) (W := 2816) (n := 1024) 1536 inb_S512x2816_S512x1024_0_1536 _ _ y).trans (Eq.symm ?_))
  rw [View.readCov_cons_toLoadRect]
  rfl

/-- The array of group 2 after the run. -/
theorem final2 (c : Dev nD) : (dats m 0 c).arrAt 7 cfg0.N
    = G (m ((c : Thread nD τ).loc main_arg0)) (m ((c : Thread nD τ).loc main_arg3)) := by
  refine (dats m 0 c).arrAt_eq_of_covers 7 _ (by decide +kernel) fun t hf y => ?_
  have hr : t.val % 4 = 3 := (flush0_7 t).mp hf
  blk_simp
  rw [after0_7, out2 m c t hr, run2 m c t hr, zero_add]
  unfold G
  refine Fin.sum_mul_add_congr (M := EReal) fun s k hl => ?_
  have e := idx t
  have e' := idx ⟨4 * (t.val / 4) + s.val, Pipeline.run_point_lt_of_flush t hr s⟩
  have hs := s.isLt
  have h2 : (4 * (t.val / 4) + s.val) % 4 = s.val := by omega
  have h3 : (4 * (t.val / 4) + s.val) / 4 = t.val / 4 := by omega
  refine congrArg₂ (fun a b : EReal => a * b) ?_ ?_
  · show V m c main_arg0 _ = V m c main_arg0 _
    congr 1
    blk_ext [e'.1.1, e'.1.2, e.2.2.2.2.2.2.2.1.1, h2, h3]
  · show V m c main_arg3 _ = V m c main_arg3 _
    congr 1
    blk_ext [e'.2.2.2.1.1, e'.2.2.2.1.2, e.2.2.2.2.2.2.2.1.2, h2, h3]

/-- The reference's result for group 2 is the same gradient. -/
theorem ref2 (u : Vec Ideal S4096x1024 .bf16) (d : Vec Ideal S4096x1024 .bf16) :
    Cert.GwbRIdeal.Read.val_main_v20 (F := Ideal) u d = G u d := by
  funext i
  show Cert.GwbRIdeal.Read.val_main_v19 (F := Ideal) u d i = _
  rw [Cert.GwbRIdeal.Read.val_main_v19_apply, Cert.GwbRIdeal.Read.val_main_v18_apply]
  refine Finset.sum_congr (M := EReal) rfl fun k _ => ?_
  rw [Cert.GwbRIdeal.Read.val_main_v17_apply, Cert.GwbRIdeal.Read.val_main_v15_apply, mul_comm]
  exact congrArg₂ (fun a b : EReal => a * b) (congrArg u (Dots.ext2 rfl rfl)) (congrArg d (Dots.ext2 rfl rfl))

/-- The product of group 3 at an element of its block. -/
theorem prod3 (a : Vec Ideal S1024x512 .bf16) (b : Vec Ideal S1024x256 .bf16) (y : S512x256.Idx) : k0_pay4 (F := Ideal) a b y = part a b y := by
  refine (Dots.tn (M := 512) (K := 1024) (N := 256) (φ₁ := .bf16) (φ₂ := .bf16)
    dot_S1024x512_S1024x256_S512x256_0_0_1_1_n_n_wf none _ _ _ y).trans ?_
  unfold part
  pointwise

/-- What the first step stores for group 3. -/
theorem first3 (a : Vec Ideal S1024x512 .bf16) (b : Vec Ideal S1024x256 .bf16) (y : S512x256.Idx) : k0_pay5 (F := Ideal) a b y = part a b y := by
  unfold k0_pay5
  rw [shapeCast_self]
  exact prod3 a b y

/-- What a later step stores for group 3. -/
theorem step3 (a : Vec Ideal S1024x512 .bf16) (b : Vec Ideal S1024x256 .bf16) (s : Vec Ideal S512x256 .f32) (y : S512x256.Idx) :
    k0_pay6 (F := Ideal) a b s y = (s y + part a b y : EReal) := by
  unfold k0_pay6
  rw [shapeCast_self]
  exact congrArg (fun z : EReal => s y + z) (prod3 a b y)

/-- The running block's columns of group 3 after a point. -/
def col3 (c : Dev nD) (k : ℕ) (h : k < cfg0.N) (y : S512x256.Idx) : EReal :=
  (outsAt0 m c k h).2.2.2.2 (Cols.at_ (M := 512) (W := 2816) (n := 256) 2560 inb_S512x2816_S512x256_0_2560 y)

/-- The first step of a run puts the first contraction there. -/
theorem reset3 (c : Dev nD) (t : Fin cfg0.N) (h : t.val % 4 = 0) (y : S512x256.Idx) :
    col3 m c t.val t.isLt y = part (iblk m c 0 t) (iblk m c 4 t) y := by
  unfold col3
  rw [outsAt0_A m c t h (by omega) (by omega) h (by omega) (by omega) h (by omega) (by omega) h (by omega) (by omega)]
  frame_out
  refine (Cols.hit (M := 512) (W := 2816) (n := 256) 2560 inb_S512x2816_S512x256_0_2560 _ _ y).trans ?_
  exact first3 _ _ y

/-- A later step adds its contraction. -/
theorem add3 (c : Dev nD) (t : Fin cfg0.N) (h : ¬t.val % 4 = 0) (y : S512x256.Idx) :
    col3 m c t.val t.isLt y
      = (col3 m c (t.val - 1) (Nat.lt_of_le_of_lt (Nat.sub_le _ _) t.isLt) y + part (iblk m c 0 t) (iblk m c 4 t) y : EReal) := by
  unfold col3
  by_cases h3 : t.val % 4 = 3
  · rw [outsAt0_C m c t h (by omega) h3 h (by omega) h3 h (by omega) h3 h (by omega) h3]
    frame_out
    refine (Cols.hit (M := 512) (W := 2816) (n := 256) 2560 inb_S512x2816_S512x256_0_2560 _ _ y).trans ?_
    refine (step3 _ _ _ y).trans (congrArg (fun z : EReal => z + _) ?_)
    refine (Cols.ld (M := 512) (W := 2816) (n := 256) 2560 inb_S512x2816_S512x256_0_2560 _ y).trans ?_
    exact congrFun (Memref.IsWhole.read_unread _ _) _
  · rw [outsAt0_B m c t h (by omega) h3 h (by omega) h3 h (by omega) h3 h (by omega) h3]
    frame_out
    refine (Cols.hit (M := 512) (W := 2816) (n := 256) 2560 inb_S512x2816_S512x256_0_2560 _ _ y).trans ?_
    refine (step3 _ _ _ y).trans (congrArg (fun z : EReal => z + _) ?_)
    refine (Cols.ld (M := 512) (W := 2816) (n := 256) 2560 inb_S512x2816_S512x256_0_2560 _ y).trans ?_
    exact congrFun (Memref.IsWhole.read_unread _ _) _

/-- At the end of a run the columns hold the run's contractions. -/
theorem run3 (c : Dev nD) (t : Fin cfg0.N) (hr : t.val % 4 = 3) (y : S512x256.Idx) :
    col3 m c t.val t.isLt y
      = (0 + ∑ s : Fin 4, part (iblk m c 0 ⟨4 * (t.val / 4) + s.val, Pipeline.run_point_lt_of_flush t hr s⟩)
          (iblk m c 4 ⟨4 * (t.val / 4) + s.val, Pipeline.run_point_lt_of_flush t hr s⟩) y : EReal) := by
  refine Pipeline.eq_sum_fin_of_reset_step_apply_of_flush (M := EReal) (fun n h => col3 m c n h) 4 (fun _ => 0)
    (fun t y => part (iblk m c 0 t) (iblk m c 4 t) y) (fun t h j => ?_) (fun t h j => ?_) t hr y
  · exact (reset3 m c t h j).trans (zero_add _).symm
  · exact add3 m c t (by omega) j

/-- What the end of a run writes back for group 3: its columns. -/
theorem out3 (c : Dev nD) (t : Fin cfg0.N) (h3 : t.val % 4 = 3) (y : S512x256.Idx) :
    (outsAt0 m c t.val t.isLt).2.2.2.1 y = col3 m c t.val t.isLt y := by
  have h : ¬t.val % 4 = 0 := by omega
  unfold col3
  rw [outsAt0_C m c t h (by omega) h3 h (by omega) h3 h (by omega) h3 h (by omega) h3]
  frame_out
  refine Eq.symm ((Cols.hit (M := 512) (W := 2816) (n := 256) 2560 inb_S512x2816_S512x256_0_2560 _ _ y).trans (Eq.symm ?_))
  rw [View.readCov_cons_toLoadRect]
  rfl

/-- The array of group 3 after the run. -/
theorem final3 (c : Dev nD) : (dats m 0 c).arrAt 8 cfg0.N
    = G (m ((c : Thread nD τ).loc main_arg0)) (m ((c : Thread nD τ).loc main_arg4)) := by
  refine (dats m 0 c).arrAt_eq_of_covers 8 _ (by decide +kernel) fun t hf y => ?_
  have hr : t.val % 4 = 3 := (flush0_8 t).mp hf
  blk_simp
  rw [after0_8, out3 m c t hr, run3 m c t hr, zero_add]
  unfold G
  refine Fin.sum_mul_add_congr (M := EReal) fun s k hl => ?_
  have e := idx t
  have e' := idx ⟨4 * (t.val / 4) + s.val, Pipeline.run_point_lt_of_flush t hr s⟩
  have hs := s.isLt
  have h2 : (4 * (t.val / 4) + s.val) % 4 = s.val := by omega
  have h3 : (4 * (t.val / 4) + s.val) / 4 = t.val / 4 := by omega
  refine congrArg₂ (fun a b : EReal => a * b) ?_ ?_
  · show V m c main_arg0 _ = V m c main_arg0 _
    congr 1
    blk_ext [e'.1.1, e'.1.2, e.2.2.2.2.2.2.2.2.1, h2, h3]
  · show V m c main_arg4 _ = V m c main_arg4 _
    congr 1
    blk_ext [e'.2.2.2.2.1.1, e'.2.2.2.2.1.2, e.2.2.2.2.2.2.2.2.2, h2, h3]

/-- The reference's result for group 3 is the same gradient. -/
theorem ref3 (u : Vec Ideal S4096x1024 .bf16) (d : Vec Ideal S4096x256 .bf16) :
    Cert.GwbRIdeal.Read.val_main_v27 (F := Ideal) u d = G u d := by
  funext i
  show Cert.GwbRIdeal.Read.val_main_v26 (F := Ideal) u d i = _
  rw [Cert.GwbRIdeal.Read.val_main_v26_apply, Cert.GwbRIdeal.Read.val_main_v25_apply]
  refine Finset.sum_congr (M := EReal) rfl fun k _ => ?_
  rw [Cert.GwbRIdeal.Read.val_main_v24_apply, Cert.GwbRIdeal.Read.val_main_v22_apply, mul_comm]
  exact congrArg₂ (fun a b : EReal => a * b) (congrArg u (Dots.ext2 rfl rfl)) (congrArg d (Dots.ext2 rfl rfl))

/-- The kernel and the reference agree over the extended reals. -/
theorem algebraic : Cert.algebraic_GwbKIdeal_GwbRIdeal := by
  intro m ρ m' ρ' _ hag
  refine ⟨fun c => G (m ((c : Thread nD τ).loc main_arg0)) (m ((c : Thread nD τ).loc main_arg1)),
    fun c => G (m ((c : Thread nD τ).loc main_arg0)) (m ((c : Thread nD τ).loc main_arg2)),
    fun c => G (m ((c : Thread nD τ).loc main_arg0)) (m ((c : Thread nD τ).loc main_arg3)),
    fun c => G (m ((c : Thread nD τ).loc main_arg0)) (m ((c : Thread nD τ).loc main_arg4)), ?_, ?_⟩
  · exact (θ_run _ _ _).mono (fun r h c => ⟨(h c).1.trans (final0 m c), (h c).2.1.trans (final1 m c), (h c).2.2.1.trans (final2 m c), (h c).2.2.2.1.trans (final3 m c), (h c).2.2.2.2⟩) (Value.run_blocks m ρ)
  · refine (θ_run _ _ _).mono (fun r h c => ⟨(h c).1.trans ?_, (h c).2.1.trans ?_, (h c).2.2.1.trans ?_, (h c).2.2.2.1.trans ?_, (h c).2.2.2.2⟩) (Cert.GwbRIdeal.Value.run m' ρ')
    · rw [(hag c).1, (hag c).2.1]
      exact ref0 _ _
    · rw [(hag c).1, (hag c).2.2.1]
      exact ref1 _ _
    · rw [(hag c).1, (hag c).2.2.2.1]
      exact ref2 _ _
    · rw [(hag c).1, (hag c).2.2.2.2]
      exact ref3 _ _

end Cert.Proof.Gwb

end
-- ==== Proof.Rows.lean ====
/-
  The root-mean-square norm of a row of 1024 numbers and its gradient over the extended reals, and the readings of a
  vector laid out as one column or as one row.
-/
module

public import Idealize.ShloMosaic.PureOps.Ideal
public import Idealize.ShloMosaic.PureOps.Ideal.Laws
public import Idealize.ShloMosaic.Lib.Pointwise
public import Idealize.ShloMosaic.Lib.Pipeline.Value

@[expose] public section

noncomputable section

namespace Cert.Proof.Rows

open Idealize.ShloMosaic

/-- The number a 32-bit float word denotes. -/
abbrev word (b : BitVec 32) : EReal := Ideal.ofBits .f32 b

/-- The mean of the squares of a row, and the epsilon. -/
def square (x : Fin 1024 → EReal) : EReal :=
  Ideal.div (∑ k : Fin 1024, x k * x k) (word 0x44800000#32) + word 0x358637BD#32

/-- The factor that scales a row. -/
def scale (x : Fin 1024 → EReal) : EReal := Ideal.rsqrt (square x)

/-- What the scale's dependence on the row contributes, for the gradient `d` of the scaled row. -/
def inner (x d : Fin 1024 → EReal) : EReal :=
  Ideal.div ((∑ k : Fin 1024, x k * d k) * (word 0xBF000000#32 * Ideal.div (scale x) (square x))) (word 0x44800000#32)

/-- The gradient of the row at one position. -/
def back (x d : Fin 1024 → EReal) (j : Fin 1024) : EReal := d j * scale x + x j * inner x d + inner x d * x j

/-- A vector laid out as one column. -/
theorem column {α : Type} {M : ℕ} (v : (⟨1, ![M]⟩ : Shape).Idx → α) (h : (⟨1, ![M]⟩ : Shape).ShapeCasts ⟨2, ![M, 1]⟩)
    (y : (⟨2, ![M, 1]⟩ : Shape).Idx) : shapeCast ⟨2, ![M, 1]⟩ v h y = v (ix1 (y 0)) := by
  refine shapeCast_apply v h y (ix1 (y 0)) ?_
  rw [Shape.rowMajor_val_one, Shape.rowMajor_val_two]
  have h1 : (y 1).val < 1 := (y 1).isLt
  show (y 0).val = (y 0).val * 1 + (y 1).val
  omega

/-- A vector laid out as one row. -/
theorem row {α : Type} {N : ℕ} (v : (⟨1, ![N]⟩ : Shape).Idx → α) (h : (⟨1, ![N]⟩ : Shape).ShapeCasts ⟨2, ![1, N]⟩)
    (y : (⟨2, ![1, N]⟩ : Shape).Idx) : shapeCast ⟨2, ![1, N]⟩ v h y = v (ix1 (y 1)) := by
  refine shapeCast_apply v h y (ix1 (y 1)) ?_
  rw [Shape.rowMajor_val_one, Shape.rowMajor_val_two]
  have h1 : (y 0).val < 1 := (y 0).isLt
  show (y 1).val = (y 0).val * N + (y 1).val
  have h0 : (y 0).val = 0 := by omega
  rw [h0, Nat.zero_mul, Nat.zero_add]

end Cert.Proof.Rows

end
-- ==== Proof.Norm1.lean ====
module

public import proofs.«01_k».proof.Defs
public import proofs.«01_k».proof.Proof.Gen.Norm1KIdeal.Value
public import proofs.«01_k».proof.Proof.Gen.Norm1RIdeal.Run
public import proofs.«01_k».proof.Proof.Gen.Norm1RIdeal.Read
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Dots
public import proofs.«01_k».proof.Proof.Rows
public import Idealize.ShloMosaic.Lib.Pointwise

@[expose] public section

set_option maxRecDepth 16384

noncomputable section

namespace Cert.Proof.Norm1

open Cert.Norm1KIdeal Cert.Norm1KIdeal.Gen Idealize.ShloMosaic Idealize.ShloMosaic.TcCoe Idealize.SL.Sem Cert.Norm1RIdeal.Read

variable (m : (ℓ : Loc nD τ sig) → Buf (Elt Ideal) ℓ) (ρ : Dev nD → PrngReg)

/-- The gradient of the input: the norm's own gradient at a row, and the gradient that passes the norm by. -/
def D (x : Vec Ideal S4096x1024 .f32) (g : Vec Ideal S1024 .f32) (du dx : Vec Ideal S4096x1024 .f32) :
    Vec Ideal S4096x1024 .f32 :=
  fun i => Rows.back (fun k => x (ix2 (i 0) k)) (fun k => du (ix2 (i 0) k) * g (ix1 k)) (i 1) + dx i

/-- The gradient of the gain: the sum over the rows. -/
def W (x du : Vec Ideal S4096x1024 .f32) : Vec Ideal S1x1024 .f32 :=
  fun i => ∑ r : Fin 4096, x (ix2 r (i 1)) * Rows.scale (fun k => x (ix2 r k)) * du (ix2 r (i 1))

theorem pay4 (x : Vec Ideal S512x1024 .f32) (y : S512x1.Idx) :
    k0_pay4 (F := Ideal) x y = Rows.square fun k => x (ix2 (y 0) k) := by
  unfold Rows.square
  pointwise [k0_pay4]

theorem pay5 (x : Vec Ideal S512x1024 .f32) (y : S512x1.Idx) :
    k0_pay5 (F := Ideal) x y = Rows.scale fun k => x (ix2 (y 0) k) := by
  unfold k0_pay5 Rows.scale
  exact congrArg Ideal.rsqrt (pay4 x y)

/-- What a block of rows contributes to the gradient of the gain. -/
def part (x u : Vec Ideal S512x1024 .f32) (y : S1x1024.Idx) : EReal :=
  ∑ r : Fin 512, x (ix2 r (y 1)) * Rows.scale (fun k => x (ix2 r k)) * u (ix2 r (y 1))

theorem pay6 (u x : Vec Ideal S512x1024 .f32) (y : S1x1024.Idx) : k0_pay6 (F := Ideal) u x y = part x u y := by
  unfold part
  pointwise [k0_pay6]
  refine Finset.sum_congr (M := EReal) rfl fun r _ => ?_
  rw [pay5]
  rfl

theorem pay7 (u x : Vec Ideal S512x1024 .f32) (g : Vec Ideal S1x1024 .f32) (y : S512x1024.Idx) :
    k0_pay7 (F := Ideal) u x g y
      = Rows.back (fun k => x (ix2 (y 0) k)) (fun k => u (ix2 (y 0) k) * g (ix2 0 k)) (y 1) := by
  unfold Rows.back Rows.inner
  pointwise [k0_pay7]
  simp only [Fin.sum_univ_one, pay4, pay5]
  rfl

theorem pay2 (a b : Vec Ideal S1x1024 .f32) (y : S1x1024.Idx) : k0_pay2 (F := Ideal) a b y = (b y + a y : EReal) := by
  unfold k0_pay2
  rw [shapeCast_self]
  rfl

theorem pay3 (y : S1x1024.Idx) : k0_pay3 (F := Ideal) y = (0 : EReal) := by
  pointwise [k0_pay3]

/-- The gain as the kernel reads it: one row. -/
theorem host (c : Dev nD) (y : S1x1024.Idx) :
    V m c main_v0 y = m ((c : Thread nD τ).loc main_arg1) (ix1 (y 1)) := by
  have e : V m c main_v0 = shapeCast S1x1024 (m ((c : Thread nD τ).loc main_arg1)) shapeCasts_S1024_S1x1024 := by
    show StableHlo.after hostOps0 (fun b => m (c, b)) main_v0 = _
    unfold hostOps0
    after_results
    rfl
  rw [e]
  exact Rows.row (N := 1024) _ _ y

/-- The blocks each point of the grid reads and writes. -/
theorem idx : ∀ t : Fin grid0.N, (win0_0.index t 0 = t.val ∧ win0_0.index t 1 = 0)
    ∧ (win0_1.index t 0 = 0 ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = 0 ∧ win0_5.index t 1 = 0) := by decide +kernel

/-- The gradient of a block of rows. -/
def block (x : Vec Ideal S512x1024 .f32) (g : Vec Ideal S1x1024 .f32) (u d : Vec Ideal S512x1024 .f32)
    (y : S512x1024.Idx) : EReal :=
  Rows.back (fun k => x (ix2 (y 0) k)) (fun k => u (ix2 (y 0) k) * g (ix2 0 k)) (y 1) + d y

/-- What a point writes into its block of the input's gradient. -/
theorem out_block (c : Dev nD) (t : Fin cfg0.N) (y : S512x1024.Idx) : (outsAt0 m c t.val t.isLt).1 y
    = block (iblk m c 0 t) (iblk m c 1 t) (iblk m c 2 t) (iblk m c 3 t) y := by
  by_cases h : t.val % 8 = 0
  · rw [outsAt0_A m c t h]
    frame_out
    exact congrArg (fun z : EReal => z + iblk m c 3 t y) (pay7 _ _ _ y)
  · rw [outsAt0_B m c t h]
    frame_out
    exact congrArg (fun z : EReal => z + iblk m c 3 t y) (pay7 _ _ _ y)

/-- The running gradient of the gain at the last point. -/
theorem run_block (c : Dev nD) (t : Fin cfg0.N) (hr : t.val % 8 = 7) (y : S1x1024.Idx) :
    (outsAt0 m c t.val t.isLt).2 y
      = (0 + ∑ s : Fin 8, part (iblk m c 0 ⟨8 * (t.val / 8) + s.val, Pipeline.run_point_lt_of_flush t hr s⟩)
          (iblk m c 2 ⟨8 * (t.val / 8) + s.val, Pipeline.run_point_lt_of_flush t hr s⟩) y : EReal) := by
  refine Pipeline.eq_sum_fin_of_reset_step_apply_of_flush (M := EReal) (fun n h => (outsAt0 m c n h).2) 8 (fun _ => 0)
    (fun t y => part (iblk m c 0 t) (iblk m c 2 t) y) (fun t h j => ?_) (fun t h j => ?_) t hr y
  · rw [outsAt0_A m c t h]
    frame_out
    rw [pay2, pay6]
    exact congrArg (fun z : EReal => z + _) (pay3 j)
  · rw [outsAt0_B m c t h]
    frame_out
    rw [pay2, pay6]

/-- The input's gradient after the run. -/
theorem final_x (c : Dev nD) : (dats m 0 c).arrAt 4 cfg0.N
    = D (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  have e := idx t
  blk_simp
  rw [after0_4, out_block m c t y]
  unfold D block
  refine congrArg₂ (fun a b : EReal => a + b) (congr (congr (congrArg Rows.back (funext fun k => ?_)) (funext fun k =>
    congrArg₂ (fun a b : EReal => a * b) ?_ ?_)) ?_) ?_
  · show V m c main_arg0 _ = V m c main_arg0 _
    congr 1
    blk_ext [e]
  · show V m c main_arg2 _ = V m c main_arg2 _
    congr 1
    blk_ext [e]
  · show V m c main_v0 _ = _
    rw [host]
    exact congrArg _ (congrArg ix1 (Fin.ext (by blk_simp [e])))
  · exact Fin.ext (by blk_simp [e])
  · show V m c main_arg3 _ = V m c main_arg3 _
    congr 1
    blk_ext [e]

/-- The gain's gradient after the run. -/
theorem final_g (c : Dev nD) : (dats m 0 c).arrAt 5 cfg0.N
    = W (m ((c : Thread nD τ).loc main_arg0)) (m ((c : Thread nD τ).loc main_arg2)) := by
  refine (dats m 0 c).arrAt_eq_of_covers 5 _ (by decide +kernel) fun t hf y => ?_
  have hr : t.val % 8 = 7 := (flush0_5 t).mp hf
  blk_simp
  rw [after0_5, run_block m c t hr, zero_add]
  unfold W
  refine Fin.sum_mul_add_congr (M := EReal) fun s k hl => ?_
  have e := idx t
  have e' := idx ⟨8 * (t.val / 8) + s.val, Pipeline.run_point_lt_of_flush t hr s⟩
  have hs := s.isLt
  have ht : t.val < 8 := t.isLt
  have h0 : 8 * (t.val / 8) + s.val = s.val := by omega
  have q0 := e'.1.1.trans h0
  have q2 := e'.2.2.1.1.trans h0
  refine congrArg₂ (fun a b : EReal => a * b) (congrArg₂ (fun a b : EReal => a * b) ?_
    (congrArg Rows.scale (funext fun l => ?_))) ?_
  · show V m c main_arg0 _ = V m c main_arg0 _
    congr 1
    blk_ext [q0, e'.1.2, e.2.2.2.2.2.2]
  · show V m c main_arg0 _ = V m c main_arg0 _
    congr 1
    blk_ext [q0, e'.1.2]
  · show V m c main_arg2 _ = V m c main_arg2 _
    congr 1
    blk_ext [q2, e'.2.2.1.2, e.2.2.2.2.2.2]

/-- The reference's gradient of the input. -/
theorem ref_x (x : Vec Ideal S4096x1024 .f32) (g : Vec Ideal S1024 .f32) (du dx : Vec Ideal S4096x1024 .f32) :
    val_main_v36 (F := Ideal) x g du dx = D x g du dx := by
  funext i
  unfold D Rows.back Rows.inner Rows.scale Rows.square
  pointwise [
    val_main_v0, val_main_cst, val_main_v1,
    val_main_v2, val_main_cst_0, val_main_v3,
    val_main_v4, val_main_cst_1, val_main_v5,
    val_main_v6, val_main_v7, val_main_v8,
    val_main_cst_2, val_main_v9, val_main_v10,
    val_main_v11, val_main_v12, val_main_v13,
    val_main_v14, val_main_v15, val_main_v16,
    val_main_cst_3, val_main_v17, val_main_v18,
    val_main_v19, val_main_v20, val_main_cst_4,
    val_main_v21, val_main_v22, val_main_cst_5,
    val_main_v23, val_main_v24, val_main_v25,
    val_main_v26, val_main_v27, val_main_v28,
    val_main_cst_6, val_main_v29, val_main_v30,
    val_main_cst_7, val_main_v31, val_main_v32,
    val_main_v33, val_main_v34, val_main_v35,
    val_main_v36, val_main_v37]
  rw [Fin.sum_univ_one, add_comm _ (dx i), ← add_assoc, ← add_assoc]

/-- The reference's gradient of the gain. -/
theorem ref_g (x du : Vec Ideal S4096x1024 .f32) :
    val_main_v37 (F := Ideal) x du = W x du := by
  funext i
  unfold W Rows.scale Rows.square
  pointwise [
    val_main_v0, val_main_cst, val_main_v1,
    val_main_v2, val_main_cst_0, val_main_v3,
    val_main_v4, val_main_cst_1, val_main_v5,
    val_main_v6, val_main_v7, val_main_v8,
    val_main_cst_2, val_main_v9, val_main_v10,
    val_main_v11, val_main_v12, val_main_v13,
    val_main_v14, val_main_v15, val_main_v16,
    val_main_cst_3, val_main_v17, val_main_v18,
    val_main_v19, val_main_v20, val_main_cst_4,
    val_main_v21, val_main_v22, val_main_cst_5,
    val_main_v23, val_main_v24, val_main_v25,
    val_main_v26, val_main_v27, val_main_v28,
    val_main_cst_6, val_main_v29, val_main_v30,
    val_main_cst_7, val_main_v31, val_main_v32,
    val_main_v33, val_main_v34, val_main_v35,
    val_main_v36, val_main_v37]
  rw [Fin.sum_univ_one]

/-- The kernel and the reference agree over the extended reals. -/
theorem algebraic : Cert.algebraic_Norm1KIdeal_Norm1RIdeal := by
  intro m ρ m' ρ' _ hag
  refine ⟨fun c => D (m ((c : Thread nD τ).loc main_arg0)) (m ((c : Thread nD τ).loc main_arg1))
      (m ((c : Thread nD τ).loc main_arg2)) (m ((c : Thread nD τ).loc main_arg3)),
    fun c => W (m ((c : Thread nD τ).loc main_arg0)) (m ((c : Thread nD τ).loc main_arg2)), ?_, ?_⟩
  · exact (θ_run _ _ _).mono (fun r h c => ⟨(h c).1.trans (final_x m c), (h c).2.1.trans (final_g m c), (h c).2.2⟩)
      (Value.run_blocks m ρ)
  · refine (θ_run _ _ _).mono (fun r h c => ⟨(h c).1.trans ?_, (h c).2.1.trans ?_, (h c).2.2⟩)
      (Cert.Norm1RIdeal.Value.run m' ρ')
    · rw [(hag c).1, (hag c).2.1, (hag c).2.2.1, (hag c).2.2.2]
      exact ref_x _ _ _ _
    · rw [(hag c).1, (hag c).2.2.1]
      exact ref_g _ _

end Cert.Proof.Norm1

end
-- ==== Proof.Adam.lean ====
/-
  One step of the optimiser over the extended reals, element by element: the gradient is the sum of its two halves, the
  moments are the two running averages, and the update divides the first by the root of the second after the two bias
  corrections.  The version multiplies by the folded reciprocals of the corrections; the reference divides by them.
-/
module

public import Idealize.ShloMosaic.PureOps.Ideal
public import Idealize.ShloMosaic.PureOps.Ideal.Laws

@[expose] public section

noncomputable section

namespace Cert.Proof.Adam

open Idealize.ShloMosaic

/-- The number a 32-bit float word denotes. -/
abbrev word (b : BitVec 32) : EReal := Ideal.ofBits .f32 b

/-- The first moment after the step. -/
def first (ga gb m : EReal) : EReal := word 0x3F666666#32 * m + word 0x3DCCCCCD#32 * (ga + gb)

/-- The second moment after the step. -/
def second (ga gb v : EReal) : EReal := word 0x3F7FBE77#32 * v + word 0x3A83126F#32 * ((ga + gb) * (ga + gb))

/-- The change of the weight, from the bias-corrected moments `mh` and `vh`. -/
def change (mh vh w : EReal) : EReal :=
  word 0xBA83126F#32 * (Ideal.div mh (Ideal.sqrt vh + word 0x322BCC77#32) + word 0x3C23D70A#32 * w)

/-- The change of the weight, with the corrections divided out as the reference does. -/
def delta (w ga gb m v : EReal) : EReal :=
  change (Ideal.div (first ga gb m) (word 0x3F26BD02#32)) (Ideal.div (second ga gb v) (word 0x3C231ACC#32)) w

/-- The word of the first correction. -/
theorem word_first : word 0x3F26BD02#32 = ((5463681 / 8388608 : ℝ) : EReal) := by
  simp [word, Ideal.ofBits, Ideal.ieee, -EReal.coe_mul]
  norm_num

/-- The word of the second correction. -/
theorem word_second : word 0x3C231ACC#32 = ((2672307 / 268435456 : ℝ) : EReal) := by
  simp [word, Ideal.ofBits, Ideal.ieee, -EReal.coe_mul]
  norm_num

/-- Multiplying by the first correction's reciprocal is dividing by it. -/
theorem by_first (x : EReal) : x * ((8388608 / 5463681 : ℝ) : EReal) = Ideal.div x (word 0x3F26BD02#32) := by
  rw [word_first, Ideal.div_coe (by norm_num)]
  norm_num

/-- Multiplying by the second correction's reciprocal is dividing by it. -/
theorem by_second (x : EReal) : x * ((268435456 / 2672307 : ℝ) : EReal) = Ideal.div x (word 0x3C231ACC#32) := by
  rw [word_second, Ideal.div_coe (by norm_num)]
  norm_num

end Cert.Proof.Adam

end
-- ==== Proof.AdWin.lean ====
/-
  The optimiser's call on the input projection, read over the extended reals: each grid point writes back, on its block, the
  sum of the two halves of the gradient, the update and the two moments; the reference computes the same element by element.
-/
module

public import proofs.«01_k».proof.Defs
public import proofs.«01_k».proof.Proof.Gen.AdWinKIdeal.Value
public import proofs.«01_k».proof.Proof.Gen.AdWinRIdeal.Run
public import proofs.«01_k».proof.Proof.Gen.AdWinRIdeal.Read
public import Idealize.ShloMosaic.Lib.Pipeline.ValueKit.Geometry
public import Idealize.ShloMosaic.Lib.Pipeline.ValueKit.Acc
public import proofs.«01_k».proof.Proof.Dots
public import proofs.«01_k».proof.Proof.Adam
public import Idealize.ShloMosaic.Lib.Pointwise.Tactic

@[expose] public section

set_option maxRecDepth 16384

noncomputable section

namespace Cert.Proof.AdWin

open Cert.AdWinKIdeal Cert.AdWinKIdeal.Gen Idealize.ShloMosaic Idealize.ShloMosaic.TcCoe Idealize.SL.Sem Cert.AdWinRIdeal.Read

variable (m : (ℓ : Loc nD τ sig) → Buf (Elt Ideal) ℓ) (ρ : Dev nD → PrngReg)

/-- The gradient, element by element. -/
def grad (x1 x2 : Vec Ideal S1024x1474 .f32) : Vec Ideal S1474x1024 .f32 := fun i => x1 (ix2 (i 1) (i 0)) + x2 (ix2 (i 1) (i 0))

/-- The change of the weight, element by element. -/
def delta (x0 x1 x2 x3 x4 : Vec Ideal S1024x1474 .f32) : Vec Ideal S1474x1024 .f32 := fun i => Adam.delta (x0 (ix2 (i 1) (i 0))) (x1 (ix2 (i 1) (i 0))) (x2 (ix2 (i 1) (i 0))) (x3 (ix2 (i 1) (i 0))) (x4 (ix2 (i 1) (i 0)))

/-- The first moment, element by element. -/
def first (x1 x2 x3 : Vec Ideal S1024x1474 .f32) : Vec Ideal S1474x1024 .f32 := fun i => Adam.first (x1 (ix2 (i 1) (i 0))) (x2 (ix2 (i 1) (i 0))) (x3 (ix2 (i 1) (i 0)))

/-- The second moment, element by element. -/
def second (x1 x2 x4 : Vec Ideal S1024x1474 .f32) : Vec Ideal S1474x1024 .f32 := fun i => Adam.second (x1 (ix2 (i 1) (i 0))) (x2 (ix2 (i 1) (i 0))) (x4 (ix2 (i 1) (i 0)))

/-- Every window is at the same block. -/
theorem same : ∀ t : Fin grid0.N, win0_1.index t = win0_0.index t ∧ win0_2.index t = win0_0.index t ∧ win0_3.index t = win0_0.index t ∧ win0_4.index t = win0_0.index t ∧ win0_5.index t = win0_0.index t ∧ win0_6.index t = win0_0.index t ∧ win0_7.index t = win0_0.index t ∧ win0_8.index t = win0_0.index t := by decide +kernel

/-- The transposed argument 0 the host prepares. -/
theorem host0 (c : Dev nD) : V m c main_v0
    = transpose S1474x1024 [1, 0] (m ((c : Thread nD τ).loc main_arg0)) transposes_S1024x1474_S1474x1024_1_0 := by
  show StableHlo.after hostOps0 (fun b => m (c, b)) main_v0 = _
  unfold hostOps0
  after_results

/-- The transposed argument 1 the host prepares. -/
theorem host1 (c : Dev nD) : V m c main_v1
    = transpose S1474x1024 [1, 0] (m ((c : Thread nD τ).loc main_arg1)) transposes_S1024x1474_S1474x1024_1_0 := by
  show StableHlo.after hostOps0 (fun b => m (c, b)) main_v1 = _
  unfold hostOps0
  after_results

/-- The transposed argument 2 the host prepares. -/
theorem host2 (c : Dev nD) : V m c main_v2
    = transpose S1474x1024 [1, 0] (m ((c : Thread nD τ).loc main_arg2)) transposes_S1024x1474_S1474x1024_1_0 := by
  show StableHlo.after hostOps0 (fun b => m (c, b)) main_v2 = _
  unfold hostOps0
  after_results

/-- The transposed argument 3 the host prepares. -/
theorem host3 (c : Dev nD) : V m c main_v3
    = transpose S1474x1024 [1, 0] (m ((c : Thread nD τ).loc main_arg3)) transposes_S1024x1474_S1474x1024_1_0 := by
  show StableHlo.after hostOps0 (fun b => m (c, b)) main_v3 = _
  unfold hostOps0
  after_results

/-- The transposed argument 4 the host prepares. -/
theorem host4 (c : Dev nD) : V m c main_v4
    = transpose S1474x1024 [1, 0] (m ((c : Thread nD τ).loc main_arg4)) transposes_S1024x1474_S1474x1024_1_0 := by
  show StableHlo.after hostOps0 (fun b => m (c, b)) main_v4 = _
  unfold hostOps0
  after_results

theorem pay_g (a b : Vec Ideal S1474x128 .f32) (y : S1474x128.Idx) : k0_pay2 (F := Ideal) a b y = (a y + b y : EReal) := by
  unfold k0_pay2
  simp only [shapeCast_self]
  rfl

theorem pay_m (a b x : Vec Ideal S1474x128 .f32) (y : S1474x128.Idx) : k0_pay3 (F := Ideal) a b x y = Adam.first (a y) (b y) (x y) := by
  unfold k0_pay3 k0_pay2
  simp only [shapeCast_self]
  rfl

theorem pay_v (a b x : Vec Ideal S1474x128 .f32) (y : S1474x128.Idx) : k0_pay4 (F := Ideal) a b x y = Adam.second (a y) (b y) (x y) := by
  unfold k0_pay4 k0_pay2
  simp only [shapeCast_self]
  rfl

theorem pay_d (a b x z w : Vec Ideal S1474x128 .f32) (y : S1474x128.Idx) :
    k0_pay1 (F := Ideal) (k0_pay5 (F := Ideal) a b x z) w y = Adam.delta (w y) (a y) (b y) (x y) (z y) := by
  unfold Adam.delta
  rw [← Adam.by_first, ← Adam.by_second]
  unfold k0_pay1 k0_pay5 k0_pay4 k0_pay3 k0_pay2
  simp only [shapeCast_self]
  rfl

/-- The blocks read by a point of output window 5, at the element it writes. -/
theorem final_g (c : Dev nD) : (dats m 0 c).arrAt 5 cfg0.N = grad (m ((c : Thread nD τ).loc main_arg1)) (m ((c : Thread nD τ).loc main_arg2)) := by
  refine (dats m 0 c).arrAt_eq_of_covers 5 _ (by decide +kernel) fun t hf y => ?_
  blk_simp
  rw [after0_5]
  frame_out
  rw [pay_g]
  unfold grad
  obtain ⟨h1, h2, h3, h4, h5, h6, h7, h8⟩ := same t
  refine congrArg₂ (fun a b : EReal => a + b) ?_ ?_
  · show V m c main_v1 _ = _
    rw [host1]
    refine transpose_apply _ _ _ _ _ fun b => ?_
    match b with
    | ⟨0, _⟩ =>
      blk_simp [h1, h2, h3, h4, h5, h6, h7, h8]
      show ((win0_5.blk t).view.emb y 0).val = _
      blk_simp [h1, h2, h3, h4, h5, h6, h7, h8]
      try rfl
    | ⟨1, _⟩ =>
      blk_simp [h1, h2, h3, h4, h5, h6, h7, h8]
      show ((win0_5.blk t).view.emb y 1).val = _
      blk_simp [h1, h2, h3, h4, h5, h6, h7, h8]
      try rfl
  · show V m c main_v2 _ = _
    rw [host2]
    refine transpose_apply _ _ _ _ _ fun b => ?_
    match b with
    | ⟨0, _⟩ =>
      blk_simp [h1, h2, h3, h4, h5, h6, h7, h8]
      show ((win0_5.blk t).view.emb y 0).val = _
      blk_simp [h1, h2, h3, h4, h5, h6, h7, h8]
      try rfl
    | ⟨1, _⟩ =>
      blk_simp [h1, h2, h3, h4, h5, h6, h7, h8]
      show ((win0_5.blk t).view.emb y 1).val = _
      blk_simp [h1, h2, h3, h4, h5, h6, h7, h8]
      try rfl

/-- The blocks read by a point of output window 6, at the element it writes. -/
theorem final_d (c : Dev nD) : (dats m 0 c).arrAt 6 cfg0.N = delta (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  rw [pay_d]
  unfold delta
  obtain ⟨h1, h2, h3, h4, h5, h6, h7, h8⟩ := same t
  refine congr (congr (congr (congr (congrArg Adam.delta ?_) ?_) ?_) ?_) ?_
  · show V m c main_v0 _ = _
    rw [host0]
    refine transpose_apply _ _ _ _ _ fun b => ?_
    match b with
    | ⟨0, _⟩ =>
      blk_simp [h1, h2, h3, h4, h5, h6, h7, h8]
      show ((win0_6.blk t).view.emb y 0).val = _
      blk_simp [h1, h2, h3, h4, h5, h6, h7, h8]
      try rfl
    | ⟨1, _⟩ =>
      blk_simp [h1, h2, h3, h4, h5, h6, h7, h8]
      show ((win0_6.blk t).view.emb y 1).val = _
      blk_simp [h1, h2, h3, h4, h5, h6, h7, h8]
      try rfl
  · show V m c main_v1 _ = _
    rw [host1]
    refine transpose_apply _ _ _ _ _ fun b => ?_
    match b with
    | ⟨0, _⟩ =>
      blk_simp [h1, h2, h3, h4, h5, h6, h7, h8]
      show ((win0_6.blk t).view.emb y 0).val = _
      blk_simp [h1, h2, h3, h4, h5, h6, h7, h8]
      try rfl
    | ⟨1, _⟩ =>
      blk_simp [h1, h2, h3, h4, h5, h6, h7, h8]
      show ((win0_6.blk t).view.emb y 1).val = _
      blk_simp [h1, h2, h3, h4, h5, h6, h7, h8]
      try rfl
  · show V m c main_v2 _ = _
    rw [host2]
    refine transpose_apply _ _ _ _ _ fun b => ?_
    match b with
    | ⟨0, _⟩ =>
      blk_simp [h1, h2, h3, h4, h5, h6, h7, h8]
      show ((win0_6.blk t).view.emb y 0).val = _
      blk_simp [h1, h2, h3, h4, h5, h6, h7, h8]
      try rfl
    | ⟨1, _⟩ =>
      blk_simp [h1, h2, h3, h4, h5, h6, h7, h8]
      show ((win0_6.blk t).view.emb y 1).val = _
      blk_simp [h1, h2, h3, h4, h5, h6, h7, h8]
      try rfl
  · show V m c main_v3 _ = _
    rw [host3]
    refine transpose_apply _ _ _ _ _ fun b => ?_
    match b with
    | ⟨0, _⟩ =>
      blk_simp [h1, h2, h3, h4, h5, h6, h7, h8]
      show ((win0_6.blk t).view.emb y 0).val = _
      blk_simp [h1, h2, h3, h4, h5, h6, h7, h8]
      try rfl
    | ⟨1, _⟩ =>
      blk_simp [h1, h2, h3, h4, h5, h6, h7, h8]
      show ((win0_6.blk t).view.emb y 1).val = _
      blk_simp [h1, h2, h3, h4, h5, h6, h7, h8]
      try rfl
  · show V m c main_v4 _ = _
    rw [host4]
    refine transpose_apply _ _ _ _ _ fun b => ?_
    match b with
    | ⟨0, _⟩ =>
      blk_simp [h1, h2, h3, h4, h5, h6, h7, h8]
      show ((win0_6.blk t).view.emb y 0).val = _
      blk_simp [h1, h2, h3, h4, h5, h6, h7, h8]
      try rfl
    | ⟨1, _⟩ =>
      blk_simp [h1, h2, h3, h4, h5, h6, h7, h8]
      show ((win0_6.blk t).view.emb y 1).val = _
      blk_simp [h1, h2, h3, h4, h5, h6, h7, h8]
      try rfl

/-- The blocks read by a point of output window 7, at the element it writes. -/
theorem final_m (c : Dev nD) : (dats m 0 c).arrAt 7 cfg0.N = first (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  rw [pay_m]
  unfold first
  obtain ⟨h1, h2, h3, h4, h5, h6, h7, h8⟩ := same t
  refine congr (congr (congrArg Adam.first ?_) ?_) ?_
  · show V m c main_v1 _ = _
    rw [host1]
    refine transpose_apply _ _ _ _ _ fun b => ?_
    match b with
    | ⟨0, _⟩ =>
      blk_simp [h1, h2, h3, h4, h5, h6, h7, h8]
      show ((win0_7.blk t).view.emb y 0).val = _
      blk_simp [h1, h2, h3, h4, h5, h6, h7, h8]
      try rfl
    | ⟨1, _⟩ =>
      blk_simp [h1, h2, h3, h4, h5, h6, h7, h8]
      show ((win0_7.blk t).view.emb y 1).val = _
      blk_simp [h1, h2, h3, h4, h5, h6, h7, h8]
      try rfl
  · show V m c main_v2 _ = _
    rw [host2]
    refine transpose_apply _ _ _ _ _ fun b => ?_
    match b with
    | ⟨0, _⟩ =>
      blk_simp [h1, h2, h3, h4, h5, h6, h7, h8]
      show ((win0_7.blk t).view.emb y 0).val = _
      blk_simp [h1, h2, h3, h4, h5, h6, h7, h8]
      try rfl
    | ⟨1, _⟩ =>
      blk_simp [h1, h2, h3, h4, h5, h6, h7, h8]
      show ((win0_7.blk t).view.emb y 1).val = _
      blk_simp [h1, h2, h3, h4, h5, h6, h7, h8]
      try rfl
  · show V m c main_v3 _ = _
    rw [host3]
    refine transpose_apply _ _ _ _ _ fun b => ?_
    match b with
    | ⟨0, _⟩ =>
      blk_simp [h1, h2, h3, h4, h5, h6, h7, h8]
      show ((win0_7.blk t).view.emb y 0).val = _
      blk_simp [h1, h2, h3, h4, h5, h6, h7, h8]
      try rfl
    | ⟨1, _⟩ =>
      blk_simp [h1, h2, h3, h4, h5, h6, h7, h8]
      show ((win0_7.blk t).view.emb y 1).val = _
      blk_simp [h1, h2, h3, h4, h5, h6, h7, h8]
      try rfl

/-- The blocks read by a point of output window 8, at the element it writes. -/
theorem final_v (c : Dev nD) : (dats m 0 c).arrAt 8 cfg0.N = second (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8]
  frame_out
  rw [pay_v]
  unfold second
  obtain ⟨h1, h2, h3, h4, h5, h6, h7, h8⟩ := same t
  refine congr (congr (congrArg Adam.second ?_) ?_) ?_
  · show V m c main_v1 _ = _
    rw [host1]
    refine transpose_apply _ _ _ _ _ fun b => ?_
    match b with
    | ⟨0, _⟩ =>
      blk_simp [h1, h2, h3, h4, h5, h6, h7, h8]
      show ((win0_8.blk t).view.emb y 0).val = _
      blk_simp [h1, h2, h3, h4, h5, h6, h7, h8]
      try rfl
    | ⟨1, _⟩ =>
      blk_simp [h1, h2, h3, h4, h5, h6, h7, h8]
      show ((win0_8.blk t).view.emb y 1).val = _
      blk_simp [h1, h2, h3, h4, h5, h6, h7, h8]
      try rfl
  · show V m c main_v2 _ = _
    rw [host2]
    refine transpose_apply _ _ _ _ _ fun b => ?_
    match b with
    | ⟨0, _⟩ =>
      blk_simp [h1, h2, h3, h4, h5, h6, h7, h8]
      show ((win0_8.blk t).view.emb y 0).val = _
      blk_simp [h1, h2, h3, h4, h5, h6, h7, h8]
      try rfl
    | ⟨1, _⟩ =>
      blk_simp [h1, h2, h3, h4, h5, h6, h7, h8]
      show ((win0_8.blk t).view.emb y 1).val = _
      blk_simp [h1, h2, h3, h4, h5, h6, h7, h8]
      try rfl
  · show V m c main_v4 _ = _
    rw [host4]
    refine transpose_apply _ _ _ _ _ fun b => ?_
    match b with
    | ⟨0, _⟩ =>
      blk_simp [h1, h2, h3, h4, h5, h6, h7, h8]
      show ((win0_8.blk t).view.emb y 0).val = _
      blk_simp [h1, h2, h3, h4, h5, h6, h7, h8]
      try rfl
    | ⟨1, _⟩ =>
      blk_simp [h1, h2, h3, h4, h5, h6, h7, h8]
      show ((win0_8.blk t).view.emb y 1).val = _
      blk_simp [h1, h2, h3, h4, h5, h6, h7, h8]
      try rfl

/-- The reference's gradient. -/
theorem ref_g (x1 x2 : Vec Ideal S1024x1474 .f32) : val_main_v25 (F := Ideal) x1 x2 = grad x1 x2 := by
  funext i
  simp only [val_main_v0_apply, val_main_cst_apply, val_main_v1_apply, val_main_v2_apply, val_main_cst_0_apply, val_main_v3_apply, val_main_v4_apply, val_main_v5_apply, val_main_cst_1_apply, val_main_v6_apply, val_main_v7_apply, val_main_v8_apply, val_main_cst_2_apply, val_main_v9_apply, val_main_v10_apply, val_main_v11_apply, val_main_cst_3_apply, val_main_v12_apply, val_main_v13_apply, val_main_cst_4_apply, val_main_v14_apply, val_main_v15_apply, val_main_v16_apply, val_main_cst_5_apply, val_main_v17_apply, val_main_v18_apply, val_main_v19_apply, val_main_cst_6_apply, val_main_v20_apply, val_main_v21_apply, val_main_v22_apply, val_main_cst_7_apply, val_main_v23_apply, val_main_v24_apply, val_main_v25_apply, val_main_v26_apply, val_main_v27_apply, val_main_v28_apply]
  have e : idx_main_v25 i = ix2 (i 1) (i 0) := Dots.ext2 rfl rfl
  rw [e]
  rfl

/-- The reference's change of the weight. -/
theorem ref_d (x0 x1 x2 x3 x4 : Vec Ideal S1024x1474 .f32) : val_main_v26 (F := Ideal) x0 x1 x2 x3 x4 = delta x0 x1 x2 x3 x4 := by
  funext i
  simp only [val_main_v0_apply, val_main_cst_apply, val_main_v1_apply, val_main_v2_apply, val_main_cst_0_apply, val_main_v3_apply, val_main_v4_apply, val_main_v5_apply, val_main_cst_1_apply, val_main_v6_apply, val_main_v7_apply, val_main_v8_apply, val_main_cst_2_apply, val_main_v9_apply, val_main_v10_apply, val_main_v11_apply, val_main_cst_3_apply, val_main_v12_apply, val_main_v13_apply, val_main_cst_4_apply, val_main_v14_apply, val_main_v15_apply, val_main_v16_apply, val_main_cst_5_apply, val_main_v17_apply, val_main_v18_apply, val_main_v19_apply, val_main_cst_6_apply, val_main_v20_apply, val_main_v21_apply, val_main_v22_apply, val_main_cst_7_apply, val_main_v23_apply, val_main_v24_apply, val_main_v25_apply, val_main_v26_apply, val_main_v27_apply, val_main_v28_apply]
  have e : idx_main_v26 i = ix2 (i 1) (i 0) := Dots.ext2 rfl rfl
  rw [e]
  rfl

/-- The reference's first moment. -/
theorem ref_m (x1 x2 x3 : Vec Ideal S1024x1474 .f32) : val_main_v27 (F := Ideal) x1 x2 x3 = first x1 x2 x3 := by
  funext i
  simp only [val_main_v0_apply, val_main_cst_apply, val_main_v1_apply, val_main_v2_apply, val_main_cst_0_apply, val_main_v3_apply, val_main_v4_apply, val_main_v5_apply, val_main_cst_1_apply, val_main_v6_apply, val_main_v7_apply, val_main_v8_apply, val_main_cst_2_apply, val_main_v9_apply, val_main_v10_apply, val_main_v11_apply, val_main_cst_3_apply, val_main_v12_apply, val_main_v13_apply, val_main_cst_4_apply, val_main_v14_apply, val_main_v15_apply, val_main_v16_apply, val_main_cst_5_apply, val_main_v17_apply, val_main_v18_apply, val_main_v19_apply, val_main_cst_6_apply, val_main_v20_apply, val_main_v21_apply, val_main_v22_apply, val_main_cst_7_apply, val_main_v23_apply, val_main_v24_apply, val_main_v25_apply, val_main_v26_apply, val_main_v27_apply, val_main_v28_apply]
  have e : idx_main_v27 i = ix2 (i 1) (i 0) := Dots.ext2 rfl rfl
  rw [e]
  rfl

/-- The reference's second moment. -/
theorem ref_v (x1 x2 x4 : Vec Ideal S1024x1474 .f32) : val_main_v28 (F := Ideal) x1 x2 x4 = second x1 x2 x4 := by
  funext i
  simp only [val_main_v0_apply, val_main_cst_apply, val_main_v1_apply, val_main_v2_apply, val_main_cst_0_apply, val_main_v3_apply, val_main_v4_apply, val_main_v5_apply, val_main_cst_1_apply, val_main_v6_apply, val_main_v7_apply, val_main_v8_apply, val_main_cst_2_apply, val_main_v9_apply, val_main_v10_apply, val_main_v11_apply, val_main_cst_3_apply, val_main_v12_apply, val_main_v13_apply, val_main_cst_4_apply, val_main_v14_apply, val_main_v15_apply, val_main_v16_apply, val_main_cst_5_apply, val_main_v17_apply, val_main_v18_apply, val_main_v19_apply, val_main_cst_6_apply, val_main_v20_apply, val_main_v21_apply, val_main_v22_apply, val_main_cst_7_apply, val_main_v23_apply, val_main_v24_apply, val_main_v25_apply, val_main_v26_apply, val_main_v27_apply, val_main_v28_apply]
  have e : idx_main_v28 i = ix2 (i 1) (i 0) := Dots.ext2 rfl rfl
  rw [e]
  rfl

/-- The kernel and the reference agree over the extended reals. -/
theorem algebraic : Cert.algebraic_AdWinKIdeal_AdWinRIdeal := by
  intro m ρ m' ρ' _ hag
  refine ⟨fun c => grad (m ((c : Thread nD τ).loc main_arg1)) (m ((c : Thread nD τ).loc main_arg2)), fun c => delta (m ((c : Thread nD τ).loc main_arg0)) (m ((c : Thread nD τ).loc main_arg1)) (m ((c : Thread nD τ).loc main_arg2)) (m ((c : Thread nD τ).loc main_arg3)) (m ((c : Thread nD τ).loc main_arg4)), fun c => first (m ((c : Thread nD τ).loc main_arg1)) (m ((c : Thread nD τ).loc main_arg2)) (m ((c : Thread nD τ).loc main_arg3)), fun c => second (m ((c : Thread nD τ).loc main_arg1)) (m ((c : Thread nD τ).loc main_arg2)) (m ((c : Thread nD τ).loc main_arg4)), ?_, ?_⟩
  · exact (θ_run _ _ _).mono (fun r h c => ⟨(h c).1.trans (final_g m c), (h c).2.1.trans (final_d m c), (h c).2.2.1.trans (final_m m c),
      (h c).2.2.2.1.trans (final_v m c), (h c).2.2.2.2⟩) (Value.run_blocks m ρ)
  · refine (θ_run _ _ _).mono (fun r h c => ⟨(h c).1.trans ?_, (h c).2.1.trans ?_, (h c).2.2.1.trans ?_, (h c).2.2.2.1.trans ?_,
      (h c).2.2.2.2⟩) (Cert.AdWinRIdeal.Value.run m' ρ')
    · rw [(hag c).2.1, (hag c).2.2.1]
      exact ref_g _ _
    · rw [(hag c).1, (hag c).2.1, (hag c).2.2.1, (hag c).2.2.2.1, (hag c).2.2.2.2]
      exact ref_d _ _ _ _ _
    · rw [(hag c).2.1, (hag c).2.2.1, (hag c).2.2.2.1]
      exact ref_m _ _ _
    · rw [(hag c).2.1, (hag c).2.2.1, (hag c).2.2.2.2]
      exact ref_v _ _ _

end Cert.Proof.AdWin

end
-- ==== Proof.AdProj.lean ====
/-
  The optimiser's call on the branches' projections (both have this shape), read over the extended reals: each grid point writes back, on its block, the
  sum of the two halves of the gradient, the update and the two moments; the reference computes the same element by element.
-/
module

public import proofs.«01_k».proof.Defs
public import proofs.«01_k».proof.Proof.Gen.AdProjKIdeal.Value
public import proofs.«01_k».proof.Proof.Gen.AdProjRIdeal.Run
public import proofs.«01_k».proof.Proof.Gen.AdProjRIdeal.Read
public import Idealize.ShloMosaic.Lib.Pipeline.ValueKit.Geometry
public import Idealize.ShloMosaic.Lib.Pipeline.ValueKit.Acc
public import proofs.«01_k».proof.Proof.Dots
public import proofs.«01_k».proof.Proof.Adam
public import Idealize.ShloMosaic.Lib.Pointwise.Tactic

@[expose] public section

set_option maxRecDepth 16384

noncomputable section

namespace Cert.Proof.AdProj

open Cert.AdProjKIdeal Cert.AdProjKIdeal.Gen Idealize.ShloMosaic Idealize.ShloMosaic.TcCoe Idealize.SL.Sem Cert.AdProjRIdeal.Read

variable (m : (ℓ : Loc nD τ sig) → Buf (Elt Ideal) ℓ) (ρ : Dev nD → PrngReg)

/-- The gradient, element by element. -/
def grad (x1 x2 : Vec Ideal S512x256 .f32) : Vec Ideal S512x256 .f32 := fun i => x1 i + x2 i

/-- The change of the weight, element by element. -/
def delta (x0 x1 x2 x3 x4 : Vec Ideal S512x256 .f32) : Vec Ideal S512x256 .f32 := fun i => Adam.delta (x0 i) (x1 i) (x2 i) (x3 i) (x4 i)

/-- The first moment, element by element. -/
def first (x1 x2 x3 : Vec Ideal S512x256 .f32) : Vec Ideal S512x256 .f32 := fun i => Adam.first (x1 i) (x2 i) (x3 i)

/-- The second moment, element by element. -/
def second (x1 x2 x4 : Vec Ideal S512x256 .f32) : Vec Ideal S512x256 .f32 := fun i => Adam.second (x1 i) (x2 i) (x4 i)

/-- Every window is at the same block. -/
theorem same : ∀ t : Fin grid0.N, win0_1.index t = win0_0.index t ∧ win0_2.index t = win0_0.index t ∧ win0_3.index t = win0_0.index t ∧ win0_4.index t = win0_0.index t ∧ win0_5.index t = win0_0.index t ∧ win0_6.index t = win0_0.index t ∧ win0_7.index t = win0_0.index t ∧ win0_8.index t = win0_0.index t := by decide +kernel

theorem pay_g (a b : Vec Ideal S512x256 .f32) (y : S512x256.Idx) : k0_pay2 (F := Ideal) a b y = (a y + b y : EReal) := rfl

theorem pay_m (a b x : Vec Ideal S512x256 .f32) (y : S512x256.Idx) : k0_pay3 (F := Ideal) a b x y = Adam.first (a y) (b y) (x y) := rfl

theorem pay_v (a b x : Vec Ideal S512x256 .f32) (y : S512x256.Idx) : k0_pay4 (F := Ideal) a b x y = Adam.second (a y) (b y) (x y) := rfl

theorem pay_d (a b x z w : Vec Ideal S512x256 .f32) (y : S512x256.Idx) :
    k0_pay1 (F := Ideal) (k0_pay5 (F := Ideal) a b x z w) y = Adam.delta (w y) (a y) (b y) (x y) (z y) := by
  unfold Adam.delta
  rw [← Adam.by_first, ← Adam.by_second]
  rfl

/-- The blocks read by a point of output window 5, at the element it writes. -/
theorem final_g (c : Dev nD) : (dats m 0 c).arrAt 5 cfg0.N = grad (m ((c : Thread nD τ).loc main_arg1)) (m ((c : Thread nD τ).loc main_arg2)) := by
  refine (dats m 0 c).arrAt_eq_of_covers 5 _ (by decide +kernel) fun t hf y => ?_
  blk_simp
  rw [after0_5]
  frame_out
  rw [pay_g]
  unfold grad
  obtain ⟨h1, h2, h3, h4, h5, h6, h7, h8⟩ := same t
  refine congrArg₂ (fun a b : EReal => a + b) ?_ ?_
  · show V m c main_arg1 _ = V m c main_arg1 _
    congr 1
    blk_ext [h1, h2, h3, h4, h5, h6, h7, h8]
  · show V m c main_arg2 _ = V m c main_arg2 _
    congr 1
    blk_ext [h1, h2, h3, h4, h5, h6, h7, h8]

/-- The blocks read by a point of output window 6, at the element it writes. -/
theorem final_d (c : Dev nD) : (dats m 0 c).arrAt 6 cfg0.N = delta (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  rw [pay_d]
  unfold delta
  obtain ⟨h1, h2, h3, h4, h5, h6, h7, h8⟩ := same t
  refine congr (congr (congr (congr (congrArg Adam.delta ?_) ?_) ?_) ?_) ?_
  · show V m c main_arg0 _ = V m c main_arg0 _
    congr 1
    blk_ext [h1, h2, h3, h4, h5, h6, h7, h8]
  · show V m c main_arg1 _ = V m c main_arg1 _
    congr 1
    blk_ext [h1, h2, h3, h4, h5, h6, h7, h8]
  · show V m c main_arg2 _ = V m c main_arg2 _
    congr 1
    blk_ext [h1, h2, h3, h4, h5, h6, h7, h8]
  · show V m c main_arg3 _ = V m c main_arg3 _
    congr 1
    blk_ext [h1, h2, h3, h4, h5, h6, h7, h8]
  · show V m c main_arg4 _ = V m c main_arg4 _
    congr 1
    blk_ext [h1, h2, h3, h4, h5, h6, h7, h8]

/-- The blocks read by a point of output window 7, at the element it writes. -/
theorem final_m (c : Dev nD) : (dats m 0 c).arrAt 7 cfg0.N = first (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  rw [pay_m]
  unfold first
  obtain ⟨h1, h2, h3, h4, h5, h6, h7, h8⟩ := same t
  refine congr (congr (congrArg Adam.first ?_) ?_) ?_
  · show V m c main_arg1 _ = V m c main_arg1 _
    congr 1
    blk_ext [h1, h2, h3, h4, h5, h6, h7, h8]
  · show V m c main_arg2 _ = V m c main_arg2 _
    congr 1
    blk_ext [h1, h2, h3, h4, h5, h6, h7, h8]
  · show V m c main_arg3 _ = V m c main_arg3 _
    congr 1
    blk_ext [h1, h2, h3, h4, h5, h6, h7, h8]

/-- The blocks read by a point of output window 8, at the element it writes. -/
theorem final_v (c : Dev nD) : (dats m 0 c).arrAt 8 cfg0.N = second (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8]
  frame_out
  rw [pay_v]
  unfold second
  obtain ⟨h1, h2, h3, h4, h5, h6, h7, h8⟩ := same t
  refine congr (congr (congrArg Adam.second ?_) ?_) ?_
  · show V m c main_arg1 _ = V m c main_arg1 _
    congr 1
    blk_ext [h1, h2, h3, h4, h5, h6, h7, h8]
  · show V m c main_arg2 _ = V m c main_arg2 _
    congr 1
    blk_ext [h1, h2, h3, h4, h5, h6, h7, h8]
  · show V m c main_arg4 _ = V m c main_arg4 _
    congr 1
    blk_ext [h1, h2, h3, h4, h5, h6, h7, h8]

/-- The reference's gradient, change of the weight and two moments. -/
theorem ref (x0 x1 x2 x3 x4 : Vec Ideal S512x256 .f32) : val_main_v0 (F := Ideal) x1 x2 = grad x1 x2
    ∧ val_main_v24 (F := Ideal) x0 x1 x2 x3 x4 = delta x0 x1 x2 x3 x4
    ∧ val_main_v5 (F := Ideal) x1 x2 x3 = first x1 x2 x3
    ∧ val_main_v11 (F := Ideal) x1 x2 x4 = second x1 x2 x4 := by
  refine ⟨?_, ?_, ?_, ?_⟩ <;> funext i
  all_goals
    simp only [val_main_v0_apply, val_main_cst_apply, val_main_v1_apply, val_main_v2_apply, val_main_cst_0_apply, val_main_v3_apply, val_main_v4_apply, val_main_v5_apply, val_main_cst_1_apply, val_main_v6_apply, val_main_v7_apply, val_main_v8_apply, val_main_cst_2_apply, val_main_v9_apply, val_main_v10_apply, val_main_v11_apply, val_main_cst_3_apply, val_main_v12_apply, val_main_v13_apply, val_main_cst_4_apply, val_main_v14_apply, val_main_v15_apply, val_main_v16_apply, val_main_cst_5_apply, val_main_v17_apply, val_main_v18_apply, val_main_v19_apply, val_main_cst_6_apply, val_main_v20_apply, val_main_v21_apply, val_main_v22_apply, val_main_cst_7_apply, val_main_v23_apply, val_main_v24_apply]
    rfl

/-- The kernel and the reference agree over the extended reals. -/
theorem algebraic : Cert.algebraic_AdProjKIdeal_AdProjRIdeal := by
  intro m ρ m' ρ' _ hag
  refine ⟨fun c => grad (m ((c : Thread nD τ).loc main_arg1)) (m ((c : Thread nD τ).loc main_arg2)), fun c => delta (m ((c : Thread nD τ).loc main_arg0)) (m ((c : Thread nD τ).loc main_arg1)) (m ((c : Thread nD τ).loc main_arg2)) (m ((c : Thread nD τ).loc main_arg3)) (m ((c : Thread nD τ).loc main_arg4)), fun c => first (m ((c : Thread nD τ).loc main_arg1)) (m ((c : Thread nD τ).loc main_arg2)) (m ((c : Thread nD τ).loc main_arg3)), fun c => second (m ((c : Thread nD τ).loc main_arg1)) (m ((c : Thread nD τ).loc main_arg2)) (m ((c : Thread nD τ).loc main_arg4)), ?_, ?_⟩
  · exact (θ_run _ _ _).mono (fun r h c => ⟨(h c).1.trans (final_g m c), (h c).2.1.trans (final_d m c), (h c).2.2.1.trans (final_m m c),
      (h c).2.2.2.1.trans (final_v m c), (h c).2.2.2.2⟩) (Value.run_blocks m ρ)
  · refine (θ_run _ _ _).mono (fun r h c => ⟨(h c).1.trans ?_, (h c).2.1.trans ?_, (h c).2.2.1.trans ?_, (h c).2.2.2.1.trans ?_,
      (h c).2.2.2.2⟩) (Cert.AdProjRIdeal.Value.run m' ρ')
    · rw [(hag c).2.1, (hag c).2.2.1]
      exact (ref (fun _ => 0) _ _ (fun _ => 0) (fun _ => 0)).1
    · rw [(hag c).1, (hag c).2.1, (hag c).2.2.1, (hag c).2.2.2.1, (hag c).2.2.2.2]
      exact (ref _ _ _ _ _).2.1
    · rw [(hag c).2.1, (hag c).2.2.1, (hag c).2.2.2.1]
      exact (ref (fun _ => 0) _ _ _ (fun _ => 0)).2.2.1
    · rw [(hag c).2.1, (hag c).2.2.1, (hag c).2.2.2.2]
      exact (ref (fun _ => 0) _ _ (fun _ => 0) _).2.2.2

end Cert.Proof.AdProj

end
-- ==== Proof.AdOut.lean ====
/-
  The optimiser's call on the output projection, read over the extended reals: each grid point writes back, on its block, the
  sum of the two halves of the gradient, the update and the two moments; the reference computes the same element by element.
-/
module

public import proofs.«01_k».proof.Defs
public import proofs.«01_k».proof.Proof.Gen.AdOutKIdeal.Value
public import proofs.«01_k».proof.Proof.Gen.AdOutRIdeal.Run
public import proofs.«01_k».proof.Proof.Gen.AdOutRIdeal.Read
public import Idealize.ShloMosaic.Lib.Pipeline.ValueKit.Geometry
public import Idealize.ShloMosaic.Lib.Pipeline.ValueKit.Acc
public import proofs.«01_k».proof.Proof.Dots
public import proofs.«01_k».proof.Proof.Adam
public import Idealize.ShloMosaic.Lib.Pointwise.Tactic

@[expose] public section

set_option maxRecDepth 16384

noncomputable section

namespace Cert.Proof.AdOut

open Cert.AdOutKIdeal Cert.AdOutKIdeal.Gen Idealize.ShloMosaic Idealize.ShloMosaic.TcCoe Idealize.SL.Sem Cert.AdOutRIdeal.Read

variable (m : (ℓ : Loc nD τ sig) → Buf (Elt Ideal) ℓ) (ρ : Dev nD → PrngReg)

/-- The gradient, element by element. -/
def grad (x1 x2 : Vec Ideal S256x1024 .f32) : Vec Ideal S256x1024 .f32 := fun i => x1 i + x2 i

/-- The change of the weight, element by element. -/
def delta (x0 x1 x2 x3 x4 : Vec Ideal S256x1024 .f32) : Vec Ideal S256x1024 .f32 := fun i => Adam.delta (x0 i) (x1 i) (x2 i) (x3 i) (x4 i)

/-- The first moment, element by element. -/
def first (x1 x2 x3 : Vec Ideal S256x1024 .f32) : Vec Ideal S256x1024 .f32 := fun i => Adam.first (x1 i) (x2 i) (x3 i)

/-- The second moment, element by element. -/
def second (x1 x2 x4 : Vec Ideal S256x1024 .f32) : Vec Ideal S256x1024 .f32 := fun i => Adam.second (x1 i) (x2 i) (x4 i)

/-- Every window is at the same block. -/
theorem same : ∀ t : Fin grid0.N, win0_1.index t = win0_0.index t ∧ win0_2.index t = win0_0.index t ∧ win0_3.index t = win0_0.index t ∧ win0_4.index t = win0_0.index t ∧ win0_5.index t = win0_0.index t ∧ win0_6.index t = win0_0.index t ∧ win0_7.index t = win0_0.index t ∧ win0_8.index t = win0_0.index t := by decide +kernel

theorem pay_g (a b : Vec Ideal S256x1024 .f32) (y : S256x1024.Idx) : k0_pay2 (F := Ideal) a b y = (a y + b y : EReal) := rfl

theorem pay_m (a b x : Vec Ideal S256x1024 .f32) (y : S256x1024.Idx) : k0_pay3 (F := Ideal) a b x y = Adam.first (a y) (b y) (x y) := rfl

theorem pay_v (a b x : Vec Ideal S256x1024 .f32) (y : S256x1024.Idx) : k0_pay4 (F := Ideal) a b x y = Adam.second (a y) (b y) (x y) := rfl

theorem pay_d (a b x z w : Vec Ideal S256x1024 .f32) (y : S256x1024.Idx) :
    k0_pay1 (F := Ideal) (k0_pay5 (F := Ideal) a b x z w) y = Adam.delta (w y) (a y) (b y) (x y) (z y) := by
  unfold Adam.delta
  rw [← Adam.by_first, ← Adam.by_second]
  rfl

/-- The blocks read by a point of output window 5, at the element it writes. -/
theorem final_g (c : Dev nD) : (dats m 0 c).arrAt 5 cfg0.N = grad (m ((c : Thread nD τ).loc main_arg1)) (m ((c : Thread nD τ).loc main_arg2)) := by
  refine (dats m 0 c).arrAt_eq_of_covers 5 _ (by decide +kernel) fun t hf y => ?_
  blk_simp
  rw [after0_5]
  frame_out
  rw [pay_g]
  unfold grad
  obtain ⟨h1, h2, h3, h4, h5, h6, h7, h8⟩ := same t
  refine congrArg₂ (fun a b : EReal => a + b) ?_ ?_
  · show V m c main_arg1 _ = V m c main_arg1 _
    congr 1
    blk_ext [h1, h2, h3, h4, h5, h6, h7, h8]
  · show V m c main_arg2 _ = V m c main_arg2 _
    congr 1
    blk_ext [h1, h2, h3, h4, h5, h6, h7, h8]

/-- The blocks read by a point of output window 6, at the element it writes. -/
theorem final_d (c : Dev nD) : (dats m 0 c).arrAt 6 cfg0.N = delta (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  rw [pay_d]
  unfold delta
  obtain ⟨h1, h2, h3, h4, h5, h6, h7, h8⟩ := same t
  refine congr (congr (congr (congr (congrArg Adam.delta ?_) ?_) ?_) ?_) ?_
  · show V m c main_arg0 _ = V m c main_arg0 _
    congr 1
    blk_ext [h1, h2, h3, h4, h5, h6, h7, h8]
  · show V m c main_arg1 _ = V m c main_arg1 _
    congr 1
    blk_ext [h1, h2, h3, h4, h5, h6, h7, h8]
  · show V m c main_arg2 _ = V m c main_arg2 _
    congr 1
    blk_ext [h1, h2, h3, h4, h5, h6, h7, h8]
  · show V m c main_arg3 _ = V m c main_arg3 _
    congr 1
    blk_ext [h1, h2, h3, h4, h5, h6, h7, h8]
  · show V m c main_arg4 _ = V m c main_arg4 _
    congr 1
    blk_ext [h1, h2, h3, h4, h5, h6, h7, h8]

/-- The blocks read by a point of output window 7, at the element it writes. -/
theorem final_m (c : Dev nD) : (dats m 0 c).arrAt 7 cfg0.N = first (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  rw [pay_m]
  unfold first
  obtain ⟨h1, h2, h3, h4, h5, h6, h7, h8⟩ := same t
  refine congr (congr (congrArg Adam.first ?_) ?_) ?_
  · show V m c main_arg1 _ = V m c main_arg1 _
    congr 1
    blk_ext [h1, h2, h3, h4, h5, h6, h7, h8]
  · show V m c main_arg2 _ = V m c main_arg2 _
    congr 1
    blk_ext [h1, h2, h3, h4, h5, h6, h7, h8]
  · show V m c main_arg3 _ = V m c main_arg3 _
    congr 1
    blk_ext [h1, h2, h3, h4, h5, h6, h7, h8]

/-- The blocks read by a point of output window 8, at the element it writes. -/
theorem final_v (c : Dev nD) : (dats m 0 c).arrAt 8 cfg0.N = second (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8]
  frame_out
  rw [pay_v]
  unfold second
  obtain ⟨h1, h2, h3, h4, h5, h6, h7, h8⟩ := same t
  refine congr (congr (congrArg Adam.second ?_) ?_) ?_
  · show V m c main_arg1 _ = V m c main_arg1 _
    congr 1
    blk_ext [h1, h2, h3, h4, h5, h6, h7, h8]
  · show V m c main_arg2 _ = V m c main_arg2 _
    congr 1
    blk_ext [h1, h2, h3, h4, h5, h6, h7, h8]
  · show V m c main_arg4 _ = V m c main_arg4 _
    congr 1
    blk_ext [h1, h2, h3, h4, h5, h6, h7, h8]

/-- The reference's gradient, change of the weight and two moments. -/
theorem ref (x0 x1 x2 x3 x4 : Vec Ideal S256x1024 .f32) : val_main_v0 (F := Ideal) x1 x2 = grad x1 x2
    ∧ val_main_v24 (F := Ideal) x0 x1 x2 x3 x4 = delta x0 x1 x2 x3 x4
    ∧ val_main_v5 (F := Ideal) x1 x2 x3 = first x1 x2 x3
    ∧ val_main_v11 (F := Ideal) x1 x2 x4 = second x1 x2 x4 := by
  refine ⟨?_, ?_, ?_, ?_⟩ <;> funext i
  all_goals
    simp only [val_main_v0_apply, val_main_cst_apply, val_main_v1_apply, val_main_v2_apply, val_main_cst_0_apply, val_main_v3_apply, val_main_v4_apply, val_main_v5_apply, val_main_cst_1_apply, val_main_v6_apply, val_main_v7_apply, val_main_v8_apply, val_main_cst_2_apply, val_main_v9_apply, val_main_v10_apply, val_main_v11_apply, val_main_cst_3_apply, val_main_v12_apply, val_main_v13_apply, val_main_cst_4_apply, val_main_v14_apply, val_main_v15_apply, val_main_v16_apply, val_main_cst_5_apply, val_main_v17_apply, val_main_v18_apply, val_main_v19_apply, val_main_cst_6_apply, val_main_v20_apply, val_main_v21_apply, val_main_v22_apply, val_main_cst_7_apply, val_main_v23_apply, val_main_v24_apply]
    rfl

/-- The kernel and the reference agree over the extended reals. -/
theorem algebraic : Cert.algebraic_AdOutKIdeal_AdOutRIdeal := by
  intro m ρ m' ρ' _ hag
  refine ⟨fun c => grad (m ((c : Thread nD τ).loc main_arg1)) (m ((c : Thread nD τ).loc main_arg2)), fun c => delta (m ((c : Thread nD τ).loc main_arg0)) (m ((c : Thread nD τ).loc main_arg1)) (m ((c : Thread nD τ).loc main_arg2)) (m ((c : Thread nD τ).loc main_arg3)) (m ((c : Thread nD τ).loc main_arg4)), fun c => first (m ((c : Thread nD τ).loc main_arg1)) (m ((c : Thread nD τ).loc main_arg2)) (m ((c : Thread nD τ).loc main_arg3)), fun c => second (m ((c : Thread nD τ).loc main_arg1)) (m ((c : Thread nD τ).loc main_arg2)) (m ((c : Thread nD τ).loc main_arg4)), ?_, ?_⟩
  · exact (θ_run _ _ _).mono (fun r h c => ⟨(h c).1.trans (final_g m c), (h c).2.1.trans (final_d m c), (h c).2.2.1.trans (final_m m c),
      (h c).2.2.2.1.trans (final_v m c), (h c).2.2.2.2⟩) (Value.run_blocks m ρ)
  · refine (θ_run _ _ _).mono (fun r h c => ⟨(h c).1.trans ?_, (h c).2.1.trans ?_, (h c).2.2.1.trans ?_, (h c).2.2.2.1.trans ?_,
      (h c).2.2.2.2⟩) (Cert.AdOutRIdeal.Value.run m' ρ')
    · rw [(hag c).2.1, (hag c).2.2.1]
      exact (ref (fun _ => 0) _ _ (fun _ => 0) (fun _ => 0)).1
    · rw [(hag c).1, (hag c).2.1, (hag c).2.2.1, (hag c).2.2.2.1, (hag c).2.2.2.2]
      exact (ref _ _ _ _ _).2.1
    · rw [(hag c).2.1, (hag c).2.2.1, (hag c).2.2.2.1]
      exact (ref (fun _ => 0) _ _ _ (fun _ => 0)).2.2.1
    · rw [(hag c).2.1, (hag c).2.2.1, (hag c).2.2.2.2]
      exact (ref (fun _ => 0) _ _ (fun _ => 0) _).2.2.2

end Cert.Proof.AdOut

end
-- ==== Proof.AdUp.lean ====
/-
  The optimiser's call on the feed-forward up-projection, read over the extended reals: each grid point writes back, on its block, the
  sum of the two halves of the gradient, the update and the two moments; the reference computes the same element by element.
-/
module

public import proofs.«01_k».proof.Defs
public import proofs.«01_k».proof.Proof.Gen.AdUpKIdeal.Value
public import proofs.«01_k».proof.Proof.Gen.AdUpRIdeal.Run
public import proofs.«01_k».proof.Proof.Gen.AdUpRIdeal.Read
public import Idealize.ShloMosaic.Lib.Pipeline.ValueKit.Geometry
public import Idealize.ShloMosaic.Lib.Pipeline.ValueKit.Acc
public import proofs.«01_k».proof.Proof.Dots
public import proofs.«01_k».proof.Proof.Adam
public import Idealize.ShloMosaic.Lib.Pointwise.Tactic

@[expose] public section

set_option maxRecDepth 16384

noncomputable section

namespace Cert.Proof.AdUp

open Cert.AdUpKIdeal Cert.AdUpKIdeal.Gen Idealize.ShloMosaic Idealize.ShloMosaic.TcCoe Idealize.SL.Sem Cert.AdUpRIdeal.Read

variable (m : (ℓ : Loc nD τ sig) → Buf (Elt Ideal) ℓ) (ρ : Dev nD → PrngReg)

/-- The gradient, element by element. -/
def grad (x1 x2 : Vec Ideal S1024x1408 .f32) : Vec Ideal S1024x1408 .f32 := fun i => x1 i + x2 i

/-- The change of the weight, element by element. -/
def delta (x0 x1 x2 x3 x4 : Vec Ideal S1024x1408 .f32) : Vec Ideal S1024x1408 .f32 := fun i => Adam.delta (x0 i) (x1 i) (x2 i) (x3 i) (x4 i)

/-- The first moment, element by element. -/
def first (x1 x2 x3 : Vec Ideal S1024x1408 .f32) : Vec Ideal S1024x1408 .f32 := fun i => Adam.first (x1 i) (x2 i) (x3 i)

/-- The second moment, element by element. -/
def second (x1 x2 x4 : Vec Ideal S1024x1408 .f32) : Vec Ideal S1024x1408 .f32 := fun i => Adam.second (x1 i) (x2 i) (x4 i)

/-- Every window is at the same block. -/
theorem same : ∀ t : Fin grid0.N, win0_1.index t = win0_0.index t ∧ win0_2.index t = win0_0.index t ∧ win0_3.index t = win0_0.index t ∧ win0_4.index t = win0_0.index t ∧ win0_5.index t = win0_0.index t ∧ win0_6.index t = win0_0.index t ∧ win0_7.index t = win0_0.index t ∧ win0_8.index t = win0_0.index t := by decide +kernel

theorem pay_g (a b : Vec Ideal S128x1408 .f32) (y : S128x1408.Idx) : k0_pay2 (F := Ideal) a b y = (a y + b y : EReal) := rfl

theorem pay_m (a b x : Vec Ideal S128x1408 .f32) (y : S128x1408.Idx) : k0_pay3 (F := Ideal) a b x y = Adam.first (a y) (b y) (x y) := rfl

theorem pay_v (a b x : Vec Ideal S128x1408 .f32) (y : S128x1408.Idx) : k0_pay4 (F := Ideal) a b x y = Adam.second (a y) (b y) (x y) := rfl

theorem pay_d (a b x z w : Vec Ideal S128x1408 .f32) (y : S128x1408.Idx) :
    k0_pay1 (F := Ideal) (k0_pay5 (F := Ideal) a b x z w) y = Adam.delta (w y) (a y) (b y) (x y) (z y) := by
  unfold Adam.delta
  rw [← Adam.by_first, ← Adam.by_second]
  rfl

/-- The blocks read by a point of output window 5, at the element it writes. -/
theorem final_g (c : Dev nD) : (dats m 0 c).arrAt 5 cfg0.N = grad (m ((c : Thread nD τ).loc main_arg1)) (m ((c : Thread nD τ).loc main_arg2)) := by
  refine (dats m 0 c).arrAt_eq_of_covers 5 _ (by decide +kernel) fun t hf y => ?_
  blk_simp
  rw [after0_5]
  frame_out
  rw [pay_g]
  unfold grad
  obtain ⟨h1, h2, h3, h4, h5, h6, h7, h8⟩ := same t
  refine congrArg₂ (fun a b : EReal => a + b) ?_ ?_
  · show V m c main_arg1 _ = V m c main_arg1 _
    congr 1
    blk_ext [h1, h2, h3, h4, h5, h6, h7, h8]
  · show V m c main_arg2 _ = V m c main_arg2 _
    congr 1
    blk_ext [h1, h2, h3, h4, h5, h6, h7, h8]

/-- The blocks read by a point of output window 6, at the element it writes. -/
theorem final_d (c : Dev nD) : (dats m 0 c).arrAt 6 cfg0.N = delta (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  rw [pay_d]
  unfold delta
  obtain ⟨h1, h2, h3, h4, h5, h6, h7, h8⟩ := same t
  refine congr (congr (congr (congr (congrArg Adam.delta ?_) ?_) ?_) ?_) ?_
  · show V m c main_arg0 _ = V m c main_arg0 _
    congr 1
    blk_ext [h1, h2, h3, h4, h5, h6, h7, h8]
  · show V m c main_arg1 _ = V m c main_arg1 _
    congr 1
    blk_ext [h1, h2, h3, h4, h5, h6, h7, h8]
  · show V m c main_arg2 _ = V m c main_arg2 _
    congr 1
    blk_ext [h1, h2, h3, h4, h5, h6, h7, h8]
  · show V m c main_arg3 _ = V m c main_arg3 _
    congr 1
    blk_ext [h1, h2, h3, h4, h5, h6, h7, h8]
  · show V m c main_arg4 _ = V m c main_arg4 _
    congr 1
    blk_ext [h1, h2, h3, h4, h5, h6, h7, h8]

/-- The blocks read by a point of output window 7, at the element it writes. -/
theorem final_m (c : Dev nD) : (dats m 0 c).arrAt 7 cfg0.N = first (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  rw [pay_m]
  unfold first
  obtain ⟨h1, h2, h3, h4, h5, h6, h7, h8⟩ := same t
  refine congr (congr (congrArg Adam.first ?_) ?_) ?_
  · show V m c main_arg1 _ = V m c main_arg1 _
    congr 1
    blk_ext [h1, h2, h3, h4, h5, h6, h7, h8]
  · show V m c main_arg2 _ = V m c main_arg2 _
    congr 1
    blk_ext [h1, h2, h3, h4, h5, h6, h7, h8]
  · show V m c main_arg3 _ = V m c main_arg3 _
    congr 1
    blk_ext [h1, h2, h3, h4, h5, h6, h7, h8]

/-- The blocks read by a point of output window 8, at the element it writes. -/
theorem final_v (c : Dev nD) : (dats m 0 c).arrAt 8 cfg0.N = second (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8]
  frame_out
  rw [pay_v]
  unfold second
  obtain ⟨h1, h2, h3, h4, h5, h6, h7, h8⟩ := same t
  refine congr (congr (congrArg Adam.second ?_) ?_) ?_
  · show V m c main_arg1 _ = V m c main_arg1 _
    congr 1
    blk_ext [h1, h2, h3, h4, h5, h6, h7, h8]
  · show V m c main_arg2 _ = V m c main_arg2 _
    congr 1
    blk_ext [h1, h2, h3, h4, h5, h6, h7, h8]
  · show V m c main_arg4 _ = V m c main_arg4 _
    congr 1
    blk_ext [h1, h2, h3, h4, h5, h6, h7, h8]

/-- The reference's gradient, change of the weight and two moments. -/
theorem ref (x0 x1 x2 x3 x4 : Vec Ideal S1024x1408 .f32) : val_main_v0 (F := Ideal) x1 x2 = grad x1 x2
    ∧ val_main_v24 (F := Ideal) x0 x1 x2 x3 x4 = delta x0 x1 x2 x3 x4
    ∧ val_main_v5 (F := Ideal) x1 x2 x3 = first x1 x2 x3
    ∧ val_main_v11 (F := Ideal) x1 x2 x4 = second x1 x2 x4 := by
  refine ⟨?_, ?_, ?_, ?_⟩ <;> funext i
  all_goals
    simp only [val_main_v0_apply, val_main_cst_apply, val_main_v1_apply, val_main_v2_apply, val_main_cst_0_apply, val_main_v3_apply, val_main_v4_apply, val_main_v5_apply, val_main_cst_1_apply, val_main_v6_apply, val_main_v7_apply, val_main_v8_apply, val_main_cst_2_apply, val_main_v9_apply, val_main_v10_apply, val_main_v11_apply, val_main_cst_3_apply, val_main_v12_apply, val_main_v13_apply, val_main_cst_4_apply, val_main_v14_apply, val_main_v15_apply, val_main_v16_apply, val_main_cst_5_apply, val_main_v17_apply, val_main_v18_apply, val_main_v19_apply, val_main_cst_6_apply, val_main_v20_apply, val_main_v21_apply, val_main_v22_apply, val_main_cst_7_apply, val_main_v23_apply, val_main_v24_apply]
    rfl

/-- The kernel and the reference agree over the extended reals. -/
theorem algebraic : Cert.algebraic_AdUpKIdeal_AdUpRIdeal := by
  intro m ρ m' ρ' _ hag
  refine ⟨fun c => grad (m ((c : Thread nD τ).loc main_arg1)) (m ((c : Thread nD τ).loc main_arg2)), fun c => delta (m ((c : Thread nD τ).loc main_arg0)) (m ((c : Thread nD τ).loc main_arg1)) (m ((c : Thread nD τ).loc main_arg2)) (m ((c : Thread nD τ).loc main_arg3)) (m ((c : Thread nD τ).loc main_arg4)), fun c => first (m ((c : Thread nD τ).loc main_arg1)) (m ((c : Thread nD τ).loc main_arg2)) (m ((c : Thread nD τ).loc main_arg3)), fun c => second (m ((c : Thread nD τ).loc main_arg1)) (m ((c : Thread nD τ).loc main_arg2)) (m ((c : Thread nD τ).loc main_arg4)), ?_, ?_⟩
  · exact (θ_run _ _ _).mono (fun r h c => ⟨(h c).1.trans (final_g m c), (h c).2.1.trans (final_d m c), (h c).2.2.1.trans (final_m m c),
      (h c).2.2.2.1.trans (final_v m c), (h c).2.2.2.2⟩) (Value.run_blocks m ρ)
  · refine (θ_run _ _ _).mono (fun r h c => ⟨(h c).1.trans ?_, (h c).2.1.trans ?_, (h c).2.2.1.trans ?_, (h c).2.2.2.1.trans ?_,
      (h c).2.2.2.2⟩) (Cert.AdUpRIdeal.Value.run m' ρ')
    · rw [(hag c).2.1, (hag c).2.2.1]
      exact (ref (fun _ => 0) _ _ (fun _ => 0) (fun _ => 0)).1
    · rw [(hag c).1, (hag c).2.1, (hag c).2.2.1, (hag c).2.2.2.1, (hag c).2.2.2.2]
      exact (ref _ _ _ _ _).2.1
    · rw [(hag c).2.1, (hag c).2.2.1, (hag c).2.2.2.1]
      exact (ref (fun _ => 0) _ _ _ (fun _ => 0)).2.2.1
    · rw [(hag c).2.1, (hag c).2.2.1, (hag c).2.2.2.2]
      exact (ref (fun _ => 0) _ _ (fun _ => 0) _).2.2.2

end Cert.Proof.AdUp

end
-- ==== Proof.AdDown.lean ====
/-
  The optimiser's call on the feed-forward down-projection, read over the extended reals: each grid point writes back, on its block, the
  sum of the two halves of the gradient, the update and the two moments; the reference computes the same element by element.
-/
module

public import proofs.«01_k».proof.Defs
public import proofs.«01_k».proof.Proof.Gen.AdDownKIdeal.Value
public import proofs.«01_k».proof.Proof.Gen.AdDownRIdeal.Run
public import proofs.«01_k».proof.Proof.Gen.AdDownRIdeal.Read
public import Idealize.ShloMosaic.Lib.Pipeline.ValueKit.Geometry
public import Idealize.ShloMosaic.Lib.Pipeline.ValueKit.Acc
public import proofs.«01_k».proof.Proof.Dots
public import proofs.«01_k».proof.Proof.Adam
public import Idealize.ShloMosaic.Lib.Pointwise.Tactic

@[expose] public section

set_option maxRecDepth 16384

noncomputable section

namespace Cert.Proof.AdDown

open Cert.AdDownKIdeal Cert.AdDownKIdeal.Gen Idealize.ShloMosaic Idealize.ShloMosaic.TcCoe Idealize.SL.Sem Cert.AdDownRIdeal.Read

variable (m : (ℓ : Loc nD τ sig) → Buf (Elt Ideal) ℓ) (ρ : Dev nD → PrngReg)

/-- The gradient, element by element. -/
def grad (x1 x2 : Vec Ideal S704x1024 .f32) : Vec Ideal S704x1024 .f32 := fun i => x1 i + x2 i

/-- The change of the weight, element by element. -/
def delta (x0 x1 x2 x3 x4 : Vec Ideal S704x1024 .f32) : Vec Ideal S704x1024 .f32 := fun i => Adam.delta (x0 i) (x1 i) (x2 i) (x3 i) (x4 i)

/-- The first moment, element by element. -/
def first (x1 x2 x3 : Vec Ideal S704x1024 .f32) : Vec Ideal S704x1024 .f32 := fun i => Adam.first (x1 i) (x2 i) (x3 i)

/-- The second moment, element by element. -/
def second (x1 x2 x4 : Vec Ideal S704x1024 .f32) : Vec Ideal S704x1024 .f32 := fun i => Adam.second (x1 i) (x2 i) (x4 i)

/-- Every window is at the same block. -/
theorem same : ∀ t : Fin grid0.N, win0_1.index t = win0_0.index t ∧ win0_2.index t = win0_0.index t ∧ win0_3.index t = win0_0.index t ∧ win0_4.index t = win0_0.index t ∧ win0_5.index t = win0_0.index t ∧ win0_6.index t = win0_0.index t ∧ win0_7.index t = win0_0.index t ∧ win0_8.index t = win0_0.index t := by decide +kernel

theorem pay_g (a b : Vec Ideal S176x1024 .f32) (y : S176x1024.Idx) : k0_pay2 (F := Ideal) a b y = (a y + b y : EReal) := rfl

theorem pay_m (a b x : Vec Ideal S176x1024 .f32) (y : S176x1024.Idx) : k0_pay3 (F := Ideal) a b x y = Adam.first (a y) (b y) (x y) := rfl

theorem pay_v (a b x : Vec Ideal S176x1024 .f32) (y : S176x1024.Idx) : k0_pay4 (F := Ideal) a b x y = Adam.second (a y) (b y) (x y) := rfl

theorem pay_d (a b x z w : Vec Ideal S176x1024 .f32) (y : S176x1024.Idx) :
    k0_pay1 (F := Ideal) (k0_pay5 (F := Ideal) a b x z w) y = Adam.delta (w y) (a y) (b y) (x y) (z y) := by
  unfold Adam.delta
  rw [← Adam.by_first, ← Adam.by_second]
  rfl

/-- The blocks read by a point of output window 5, at the element it writes. -/
theorem final_g (c : Dev nD) : (dats m 0 c).arrAt 5 cfg0.N = grad (m ((c : Thread nD τ).loc main_arg1)) (m ((c : Thread nD τ).loc main_arg2)) := by
  refine (dats m 0 c).arrAt_eq_of_covers 5 _ (by decide +kernel) fun t hf y => ?_
  blk_simp
  rw [after0_5]
  frame_out
  rw [pay_g]
  unfold grad
  obtain ⟨h1, h2, h3, h4, h5, h6, h7, h8⟩ := same t
  refine congrArg₂ (fun a b : EReal => a + b) ?_ ?_
  · show V m c main_arg1 _ = V m c main_arg1 _
    congr 1
    blk_ext [h1, h2, h3, h4, h5, h6, h7, h8]
  · show V m c main_arg2 _ = V m c main_arg2 _
    congr 1
    blk_ext [h1, h2, h3, h4, h5, h6, h7, h8]

/-- The blocks read by a point of output window 6, at the element it writes. -/
theorem final_d (c : Dev nD) : (dats m 0 c).arrAt 6 cfg0.N = delta (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  rw [pay_d]
  unfold delta
  obtain ⟨h1, h2, h3, h4, h5, h6, h7, h8⟩ := same t
  refine congr (congr (congr (congr (congrArg Adam.delta ?_) ?_) ?_) ?_) ?_
  · show V m c main_arg0 _ = V m c main_arg0 _
    congr 1
    blk_ext [h1, h2, h3, h4, h5, h6, h7, h8]
  · show V m c main_arg1 _ = V m c main_arg1 _
    congr 1
    blk_ext [h1, h2, h3, h4, h5, h6, h7, h8]
  · show V m c main_arg2 _ = V m c main_arg2 _
    congr 1
    blk_ext [h1, h2, h3, h4, h5, h6, h7, h8]
  · show V m c main_arg3 _ = V m c main_arg3 _
    congr 1
    blk_ext [h1, h2, h3, h4, h5, h6, h7, h8]
  · show V m c main_arg4 _ = V m c main_arg4 _
    congr 1
    blk_ext [h1, h2, h3, h4, h5, h6, h7, h8]

/-- The blocks read by a point of output window 7, at the element it writes. -/
theorem final_m (c : Dev nD) : (dats m 0 c).arrAt 7 cfg0.N = first (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  rw [pay_m]
  unfold first
  obtain ⟨h1, h2, h3, h4, h5, h6, h7, h8⟩ := same t
  refine congr (congr (congrArg Adam.first ?_) ?_) ?_
  · show V m c main_arg1 _ = V m c main_arg1 _
    congr 1
    blk_ext [h1, h2, h3, h4, h5, h6, h7, h8]
  · show V m c main_arg2 _ = V m c main_arg2 _
    congr 1
    blk_ext [h1, h2, h3, h4, h5, h6, h7, h8]
  · show V m c main_arg3 _ = V m c main_arg3 _
    congr 1
    blk_ext [h1, h2, h3, h4, h5, h6, h7, h8]

/-- The blocks read by a point of output window 8, at the element it writes. -/
theorem final_v (c : Dev nD) : (dats m 0 c).arrAt 8 cfg0.N = second (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8]
  frame_out
  rw [pay_v]
  unfold second
  obtain ⟨h1, h2, h3, h4, h5, h6, h7, h8⟩ := same t
  refine congr (congr (congrArg Adam.second ?_) ?_) ?_
  · show V m c main_arg1 _ = V m c main_arg1 _
    congr 1
    blk_ext [h1, h2, h3, h4, h5, h6, h7, h8]
  · show V m c main_arg2 _ = V m c main_arg2 _
    congr 1
    blk_ext [h1, h2, h3, h4, h5, h6, h7, h8]
  · show V m c main_arg4 _ = V m c main_arg4 _
    congr 1
    blk_ext [h1, h2, h3, h4, h5, h6, h7, h8]

/-- The reference's gradient, change of the weight and two moments. -/
theorem ref (x0 x1 x2 x3 x4 : Vec Ideal S704x1024 .f32) : val_main_v0 (F := Ideal) x1 x2 = grad x1 x2
    ∧ val_main_v24 (F := Ideal) x0 x1 x2 x3 x4 = delta x0 x1 x2 x3 x4
    ∧ val_main_v5 (F := Ideal) x1 x2 x3 = first x1 x2 x3
    ∧ val_main_v11 (F := Ideal) x1 x2 x4 = second x1 x2 x4 := by
  refine ⟨?_, ?_, ?_, ?_⟩ <;> funext i
  all_goals
    simp only [val_main_v0_apply, val_main_cst_apply, val_main_v1_apply, val_main_v2_apply, val_main_cst_0_apply, val_main_v3_apply, val_main_v4_apply, val_main_v5_apply, val_main_cst_1_apply, val_main_v6_apply, val_main_v7_apply, val_main_v8_apply, val_main_cst_2_apply, val_main_v9_apply, val_main_v10_apply, val_main_v11_apply, val_main_cst_3_apply, val_main_v12_apply, val_main_v13_apply, val_main_cst_4_apply, val_main_v14_apply, val_main_v15_apply, val_main_v16_apply, val_main_cst_5_apply, val_main_v17_apply, val_main_v18_apply, val_main_v19_apply, val_main_cst_6_apply, val_main_v20_apply, val_main_v21_apply, val_main_v22_apply, val_main_cst_7_apply, val_main_v23_apply, val_main_v24_apply]
    rfl

/-- The kernel and the reference agree over the extended reals. -/
theorem algebraic : Cert.algebraic_AdDownKIdeal_AdDownRIdeal := by
  intro m ρ m' ρ' _ hag
  refine ⟨fun c => grad (m ((c : Thread nD τ).loc main_arg1)) (m ((c : Thread nD τ).loc main_arg2)), fun c => delta (m ((c : Thread nD τ).loc main_arg0)) (m ((c : Thread nD τ).loc main_arg1)) (m ((c : Thread nD τ).loc main_arg2)) (m ((c : Thread nD τ).loc main_arg3)) (m ((c : Thread nD τ).loc main_arg4)), fun c => first (m ((c : Thread nD τ).loc main_arg1)) (m ((c : Thread nD τ).loc main_arg2)) (m ((c : Thread nD τ).loc main_arg3)), fun c => second (m ((c : Thread nD τ).loc main_arg1)) (m ((c : Thread nD τ).loc main_arg2)) (m ((c : Thread nD τ).loc main_arg4)), ?_, ?_⟩
  · exact (θ_run _ _ _).mono (fun r h c => ⟨(h c).1.trans (final_g m c), (h c).2.1.trans (final_d m c), (h c).2.2.1.trans (final_m m c),
      (h c).2.2.2.1.trans (final_v m c), (h c).2.2.2.2⟩) (Value.run_blocks m ρ)
  · refine (θ_run _ _ _).mono (fun r h c => ⟨(h c).1.trans ?_, (h c).2.1.trans ?_, (h c).2.2.1.trans ?_, (h c).2.2.2.1.trans ?_,
      (h c).2.2.2.2⟩) (Cert.AdDownRIdeal.Value.run m' ρ')
    · rw [(hag c).2.1, (hag c).2.2.1]
      exact (ref (fun _ => 0) _ _ (fun _ => 0) (fun _ => 0)).1
    · rw [(hag c).1, (hag c).2.1, (hag c).2.2.1, (hag c).2.2.2.1, (hag c).2.2.2.2]
      exact (ref _ _ _ _ _).2.1
    · rw [(hag c).2.1, (hag c).2.2.1, (hag c).2.2.2.1]
      exact (ref (fun _ => 0) _ _ _ (fun _ => 0)).2.2.1
    · rw [(hag c).2.1, (hag c).2.2.1, (hag c).2.2.2.2]
      exact (ref (fun _ => 0) _ _ (fun _ => 0) _).2.2.2

end Cert.Proof.AdDown

end
-- ==== Proof.AdSmall.lean ====
/-
  The optimiser's call on the buffer of the small weights, read over the extended reals: each grid point writes back, on its block, the
  sum of the two halves of the gradient, the update and the two moments; the reference computes the same element by element.
-/
module

public import proofs.«01_k».proof.Defs
public import proofs.«01_k».proof.Proof.Gen.AdSmallKIdeal.Value
public import proofs.«01_k».proof.Proof.Gen.AdSmallRIdeal.Run
public import proofs.«01_k».proof.Proof.Gen.AdSmallRIdeal.Read
public import Idealize.ShloMosaic.Lib.Pipeline.ValueKit.Geometry
public import Idealize.ShloMosaic.Lib.Pipeline.ValueKit.Acc
public import proofs.«01_k».proof.Proof.Dots
public import proofs.«01_k».proof.Proof.Adam
public import Idealize.ShloMosaic.Lib.Pointwise.Tactic

@[expose] public section

set_option maxRecDepth 16384

noncomputable section

namespace Cert.Proof.AdSmall

open Cert.AdSmallKIdeal Cert.AdSmallKIdeal.Gen Idealize.ShloMosaic Idealize.ShloMosaic.TcCoe Idealize.SL.Sem Cert.AdSmallRIdeal.Read

variable (m : (ℓ : Loc nD τ sig) → Buf (Elt Ideal) ℓ) (ρ : Dev nD → PrngReg)

/-- The gradient, element by element. -/
def grad (x1 x2 : Vec Ideal S376x128 .f32) : Vec Ideal S376x128 .f32 := fun i => x1 i + x2 i

/-- The change of the weight, element by element. -/
def delta (x0 x1 x2 x3 x4 : Vec Ideal S376x128 .f32) : Vec Ideal S376x128 .f32 := fun i => Adam.delta (x0 i) (x1 i) (x2 i) (x3 i) (x4 i)

/-- The first moment, element by element. -/
def first (x1 x2 x3 : Vec Ideal S376x128 .f32) : Vec Ideal S376x128 .f32 := fun i => Adam.first (x1 i) (x2 i) (x3 i)

/-- The second moment, element by element. -/
def second (x1 x2 x4 : Vec Ideal S376x128 .f32) : Vec Ideal S376x128 .f32 := fun i => Adam.second (x1 i) (x2 i) (x4 i)

/-- Every window is at the same block. -/
theorem same : ∀ t : Fin grid0.N, win0_1.index t = win0_0.index t ∧ win0_2.index t = win0_0.index t ∧ win0_3.index t = win0_0.index t ∧ win0_4.index t = win0_0.index t ∧ win0_5.index t = win0_0.index t ∧ win0_6.index t = win0_0.index t ∧ win0_7.index t = win0_0.index t ∧ win0_8.index t = win0_0.index t := by decide +kernel

theorem pay_g (a b : Vec Ideal S376x128 .f32) (y : S376x128.Idx) : k0_pay2 (F := Ideal) a b y = (a y + b y : EReal) := rfl

theorem pay_m (a b x : Vec Ideal S376x128 .f32) (y : S376x128.Idx) : k0_pay3 (F := Ideal) a b x y = Adam.first (a y) (b y) (x y) := rfl

theorem pay_v (a b x : Vec Ideal S376x128 .f32) (y : S376x128.Idx) : k0_pay4 (F := Ideal) a b x y = Adam.second (a y) (b y) (x y) := rfl

theorem pay_d (a b x z w : Vec Ideal S376x128 .f32) (y : S376x128.Idx) :
    k0_pay1 (F := Ideal) (k0_pay5 (F := Ideal) a b x z w) y = Adam.delta (w y) (a y) (b y) (x y) (z y) := by
  unfold Adam.delta
  rw [← Adam.by_first, ← Adam.by_second]
  rfl

/-- The blocks read by a point of output window 5, at the element it writes. -/
theorem final_g (c : Dev nD) : (dats m 0 c).arrAt 5 cfg0.N = grad (m ((c : Thread nD τ).loc main_arg1)) (m ((c : Thread nD τ).loc main_arg2)) := by
  refine (dats m 0 c).arrAt_eq_of_covers 5 _ (by decide +kernel) fun t hf y => ?_
  blk_simp
  rw [after0_5]
  frame_out
  rw [pay_g]
  unfold grad
  obtain ⟨h1, h2, h3, h4, h5, h6, h7, h8⟩ := same t
  refine congrArg₂ (fun a b : EReal => a + b) ?_ ?_
  · show V m c main_arg1 _ = V m c main_arg1 _
    congr 1
    blk_ext [h1, h2, h3, h4, h5, h6, h7, h8]
  · show V m c main_arg2 _ = V m c main_arg2 _
    congr 1
    blk_ext [h1, h2, h3, h4, h5, h6, h7, h8]

/-- The blocks read by a point of output window 6, at the element it writes. -/
theorem final_d (c : Dev nD) : (dats m 0 c).arrAt 6 cfg0.N = delta (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  rw [pay_d]
  unfold delta
  obtain ⟨h1, h2, h3, h4, h5, h6, h7, h8⟩ := same t
  refine congr (congr (congr (congr (congrArg Adam.delta ?_) ?_) ?_) ?_) ?_
  · show V m c main_arg0 _ = V m c main_arg0 _
    congr 1
    blk_ext [h1, h2, h3, h4, h5, h6, h7, h8]
  · show V m c main_arg1 _ = V m c main_arg1 _
    congr 1
    blk_ext [h1, h2, h3, h4, h5, h6, h7, h8]
  · show V m c main_arg2 _ = V m c main_arg2 _
    congr 1
    blk_ext [h1, h2, h3, h4, h5, h6, h7, h8]
  · show V m c main_arg3 _ = V m c main_arg3 _
    congr 1
    blk_ext [h1, h2, h3, h4, h5, h6, h7, h8]
  · show V m c main_arg4 _ = V m c main_arg4 _
    congr 1
    blk_ext [h1, h2, h3, h4, h5, h6, h7, h8]

/-- The blocks read by a point of output window 7, at the element it writes. -/
theorem final_m (c : Dev nD) : (dats m 0 c).arrAt 7 cfg0.N = first (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  rw [pay_m]
  unfold first
  obtain ⟨h1, h2, h3, h4, h5, h6, h7, h8⟩ := same t
  refine congr (congr (congrArg Adam.first ?_) ?_) ?_
  · show V m c main_arg1 _ = V m c main_arg1 _
    congr 1
    blk_ext [h1, h2, h3, h4, h5, h6, h7, h8]
  · show V m c main_arg2 _ = V m c main_arg2 _
    congr 1
    blk_ext [h1, h2, h3, h4, h5, h6, h7, h8]
  · show V m c main_arg3 _ = V m c main_arg3 _
    congr 1
    blk_ext [h1, h2, h3, h4, h5, h6, h7, h8]

/-- The blocks read by a point of output window 8, at the element it writes. -/
theorem final_v (c : Dev nD) : (dats m 0 c).arrAt 8 cfg0.N = second (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8]
  frame_out
  rw [pay_v]
  unfold second
  obtain ⟨h1, h2, h3, h4, h5, h6, h7, h8⟩ := same t
  refine congr (congr (congrArg Adam.second ?_) ?_) ?_
  · show V m c main_arg1 _ = V m c main_arg1 _
    congr 1
    blk_ext [h1, h2, h3, h4, h5, h6, h7, h8]
  · show V m c main_arg2 _ = V m c main_arg2 _
    congr 1
    blk_ext [h1, h2, h3, h4, h5, h6, h7, h8]
  · show V m c main_arg4 _ = V m c main_arg4 _
    congr 1
    blk_ext [h1, h2, h3, h4, h5, h6, h7, h8]

/-- The reference's gradient, change of the weight and two moments. -/
theorem ref (x0 x1 x2 x3 x4 : Vec Ideal S376x128 .f32) : val_main_v0 (F := Ideal) x1 x2 = grad x1 x2
    ∧ val_main_v24 (F := Ideal) x0 x1 x2 x3 x4 = delta x0 x1 x2 x3 x4
    ∧ val_main_v5 (F := Ideal) x1 x2 x3 = first x1 x2 x3
    ∧ val_main_v11 (F := Ideal) x1 x2 x4 = second x1 x2 x4 := by
  refine ⟨?_, ?_, ?_, ?_⟩ <;> funext i
  all_goals
    simp only [val_main_v0_apply, val_main_cst_apply, val_main_v1_apply, val_main_v2_apply, val_main_cst_0_apply, val_main_v3_apply, val_main_v4_apply, val_main_v5_apply, val_main_cst_1_apply, val_main_v6_apply, val_main_v7_apply, val_main_v8_apply, val_main_cst_2_apply, val_main_v9_apply, val_main_v10_apply, val_main_v11_apply, val_main_cst_3_apply, val_main_v12_apply, val_main_v13_apply, val_main_cst_4_apply, val_main_v14_apply, val_main_v15_apply, val_main_v16_apply, val_main_cst_5_apply, val_main_v17_apply, val_main_v18_apply, val_main_v19_apply, val_main_cst_6_apply, val_main_v20_apply, val_main_v21_apply, val_main_v22_apply, val_main_cst_7_apply, val_main_v23_apply, val_main_v24_apply]
    rfl

/-- The kernel and the reference agree over the extended reals. -/
theorem algebraic : Cert.algebraic_AdSmallKIdeal_AdSmallRIdeal := by
  intro m ρ m' ρ' _ hag
  refine ⟨fun c => grad (m ((c : Thread nD τ).loc main_arg1)) (m ((c : Thread nD τ).loc main_arg2)), fun c => delta (m ((c : Thread nD τ).loc main_arg0)) (m ((c : Thread nD τ).loc main_arg1)) (m ((c : Thread nD τ).loc main_arg2)) (m ((c : Thread nD τ).loc main_arg3)) (m ((c : Thread nD τ).loc main_arg4)), fun c => first (m ((c : Thread nD τ).loc main_arg1)) (m ((c : Thread nD τ).loc main_arg2)) (m ((c : Thread nD τ).loc main_arg3)), fun c => second (m ((c : Thread nD τ).loc main_arg1)) (m ((c : Thread nD τ).loc main_arg2)) (m ((c : Thread nD τ).loc main_arg4)), ?_, ?_⟩
  · exact (θ_run _ _ _).mono (fun r h c => ⟨(h c).1.trans (final_g m c), (h c).2.1.trans (final_d m c), (h c).2.2.1.trans (final_m m c),
      (h c).2.2.2.1.trans (final_v m c), (h c).2.2.2.2⟩) (Value.run_blocks m ρ)
  · refine (θ_run _ _ _).mono (fun r h c => ⟨(h c).1.trans ?_, (h c).2.1.trans ?_, (h c).2.2.1.trans ?_, (h c).2.2.2.1.trans ?_,
      (h c).2.2.2.2⟩) (Cert.AdSmallRIdeal.Value.run m' ρ')
    · rw [(hag c).2.1, (hag c).2.2.1]
      exact (ref (fun _ => 0) _ _ (fun _ => 0) (fun _ => 0)).1
    · rw [(hag c).1, (hag c).2.1, (hag c).2.2.1, (hag c).2.2.2.1, (hag c).2.2.2.2]
      exact (ref _ _ _ _ _).2.1
    · rw [(hag c).2.1, (hag c).2.2.1, (hag c).2.2.2.1]
      exact (ref (fun _ => 0) _ _ _ (fun _ => 0)).2.2.1
    · rw [(hag c).2.1, (hag c).2.2.1, (hag c).2.2.2.2]
      exact (ref (fun _ => 0) _ _ (fun _ => 0) _).2.2.2

end Cert.Proof.AdSmall

end
-- ==== Proof.Loss.lean ====
/-
  The squared-error head over the extended reals: the loss of a row, its sum over the rows, and the gradient that enters
  the last norm. The kernel spreads a row's loss as `½ · s · 2⁻¹⁰` and its gradient as two equal halves; the textbook
  divides by 1024 and doubles.
-/
module

public import Idealize.ShloMosaic.PureOps.Ideal
public import Idealize.ShloMosaic.PureOps.Ideal.Laws
public import Idealize.ShloMosaic.Lib.IdealHost
public import proofs.«01_k».proof.Proof.Rows
public import proofs.«01_k».proof.Proof.Gate

@[expose] public section

noncomputable section

namespace Cert.Proof.Loss

open Idealize.ShloMosaic Cert.Proof.Rows

/-- The word of `2⁻¹⁰`. -/
theorem tenth : word 0x3A800000#32 = (((1 : ℝ) / 1024 : ℝ) : EReal) := by
  simp [word, Ideal.ofBits, Ideal.ieee, -EReal.coe_mul]
  norm_num

/-- The word of `1024`. -/
theorem kilo : word 0x44800000#32 = ((1024 : ℝ) : EReal) := by
  simp [word, Ideal.ofBits, Ideal.ieee, -EReal.coe_mul]
  norm_num

/-- The word of `2`. -/
theorem two : word 0x40000000#32 = ((2 : ℝ) : EReal) := by
  simp [word, Ideal.ofBits, Ideal.ieee, -EReal.coe_mul]
  norm_num

/-- The gradient of a row's loss for the error `e`. -/
def slope (e : EReal) : EReal := ((1 / 1024 : ℝ) : EReal) * e

/-- The loss of a row: half the mean of the squared errors. -/
def rowLoss (e : Fin 1024 → EReal) : EReal := ((1 / 2048 : ℝ) : EReal) * ∑ k : Fin 1024, e k * e k

/-- Two halves of a multiple are the whole. -/
theorem halves (r : ℝ) (hr : 0 < r) (e : EReal) : e * (r : EReal) + (r : EReal) * e = ((2 * r : ℝ) : EReal) * e := by
  have h2 : 0 < 2 * r := by linarith
  induction e using EReal.rec with
  | bot => rw [EReal.bot_mul_coe_of_pos hr, EReal.coe_mul_bot_of_pos hr, EReal.coe_mul_bot_of_pos h2]; rfl
  | top => rw [EReal.top_mul_coe_of_pos hr, EReal.coe_mul_top_of_pos hr, EReal.coe_mul_top_of_pos h2]; rfl
  | coe x =>
    rw [← EReal.coe_mul, ← EReal.coe_mul, ← EReal.coe_add, ← EReal.coe_mul]
    congr 1
    ring

/-- A square is not negative. -/
theorem square_nonneg (e : EReal) : 0 ≤ e * e := by
  rcases le_total 0 e with h | h
  · exact mul_nonneg h h
  · exact EReal.mul_nonneg_iff.mpr (Or.inr ⟨h, h⟩)

theorem rowLoss_nonneg (e : Fin 1024 → EReal) : 0 ≤ ∑ k : Fin 1024, e k * e k :=
  Finset.sum_nonneg fun k _ => square_nonneg (e k)

/-- A real factor passes a sum of numbers that are not negative. -/
theorem mul_sum_nonneg {ι : Type} (s : Finset ι) (c : EReal) (f : ι → EReal) (h : ∀ i, 0 ≤ f i) :
    ∑ i ∈ s, c * f i = c * ∑ i ∈ s, f i := by
  classical
  induction s using Finset.induction_on with
  | empty => rw [Finset.sum_empty, Finset.sum_empty, mul_zero]
  | insert a s ha ih =>
    rw [Finset.sum_insert ha, Finset.sum_insert ha, ih,
      EReal.left_distrib_of_nonneg (h a) (Finset.sum_nonneg fun i _ => h i)]

/-- The kernel's loss of a row. -/
theorem kernel_row (e : Fin 1024 → EReal) :
    word 0x3F000000#32 * (∑ k : Fin 1024, e k * e k) * word 0x3A800000#32 = rowLoss e := by
  unfold rowLoss
  rw [show word 0x3F000000#32 = _ from Gate.half_word, tenth, mul_right_comm, ← EReal.coe_mul]
  norm_num

/-- The textbook's loss of all rows. -/
theorem book_rows {R : ℕ} (e : Fin R → Fin 1024 → EReal) :
    word 0x3F000000#32 * ∑ r : Fin R, Ideal.div (∑ k : Fin 1024, e r k * e r k) (word 0x44800000#32)
      = ∑ r : Fin R, rowLoss (e r) := by
  unfold rowLoss
  rw [show word 0x3F000000#32 = _ from Gate.half_word, kilo]
  have hd : ∀ r, Ideal.div (∑ k : Fin 1024, e r k * e r k) ((1024 : ℝ) : EReal)
      = ((1 / 1024 : ℝ) : EReal) * ∑ k : Fin 1024, e r k * e r k := fun r => by
    rw [Ideal.div_coe (by norm_num), mul_comm]
  simp only [hd]
  rw [mul_sum_nonneg _ _ _ fun r => rowLoss_nonneg (e r), mul_sum_nonneg _ _ _ fun r => rowLoss_nonneg (e r),
    ← mul_assoc, ← EReal.coe_mul]
  norm_num

/-- The kernel's factor of an error: half of a row's weight. -/
theorem kernel_weight : word 0x3F000000#32 * (word 0x3F800000#32 * word 0x3A800000#32) = ((1 / 2048 : ℝ) : EReal) := by
  rw [show word 0x3F000000#32 = _ from Gate.half_word, show word 0x3F800000#32 = 1 from Ideal.ofBits_one_f32, one_mul,
    tenth, ← EReal.coe_mul]
  norm_num

/-- The kernel's gradient of an error. -/
theorem kernel_slope (e : EReal) : e * ((1 / 2048 : ℝ) : EReal) + ((1 / 2048 : ℝ) : EReal) * e = slope e := by
  rw [halves _ (by norm_num)]
  unfold slope
  norm_num

/-- The textbook's gradient of an error. -/
theorem book_slope (e : EReal) :
    Ideal.div (word 0x3F000000#32 * word 0x3F800000#32) (word 0x44800000#32) * (word 0x40000000#32 * e) = slope e := by
  unfold slope
  rw [show word 0x3F000000#32 = _ from Gate.half_word, show word 0x3F800000#32 = 1 from Ideal.ofBits_one_f32, mul_one,
    kilo, two, Ideal.div_coe (by norm_num), ← mul_assoc, ← EReal.coe_mul, ← EReal.coe_mul]
  norm_num

end Cert.Proof.Loss

end
-- ==== Proof.Fdown.lean ====
module

public import proofs.«01_k».proof.Defs
public import proofs.«01_k».proof.Proof.Gen.FdownKIdeal.Value
public import proofs.«01_k».proof.Proof.Gen.FdownRIdeal.Run
public import proofs.«01_k».proof.Proof.Gen.FdownRIdeal.Read
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Dots
public import proofs.«01_k».proof.Proof.Rows
public import proofs.«01_k».proof.Proof.Loss
public import Idealize.ShloMosaic.Lib.Pointwise

@[expose] public section

set_option maxRecDepth 16384

noncomputable section

namespace Cert.Proof.Fdown

open Cert.FdownKIdeal Cert.FdownKIdeal.Gen Idealize.ShloMosaic Idealize.ShloMosaic.TcCoe Idealize.SL.Sem Cert.FdownRIdeal.Read

variable (m : (ℓ : Loc nD τ sig) → Buf (Elt Ideal) ℓ) (ρ : Dev nD → PrngReg)

/-- The sum of the residual and the product, at an element. -/
def X (a : Vec Ideal S4096x2816 .bf16) (b : Vec Ideal S2816x1024 .bf16) (r : Vec Ideal S4096x1024 .f32)
    (i : S4096x1024.Idx) : EReal := r i + ∑ k : Fin 2816, a (ix2 (i 0) k) * b (ix2 k (i 1))

/-- The errors of a row `x` with target `t` under the gain `g`. -/
def err (x t g : Fin 1024 → EReal) (k : Fin 1024) : EReal := x k * Rows.scale x * g k - t k

/-- The gradient of a row. -/
def rowD (x t g : Fin 1024 → EReal) (j : Fin 1024) : EReal :=
  Rows.back x (fun k => Loss.slope (err x t g k) * g k) j

/-- What a row contributes to the gradient of the gain. -/
def rowG (x t g : Fin 1024 → EReal) (j : Fin 1024) : EReal := x j * Rows.scale x * Loss.slope (err x t g j)

/-- The gradient of the sum. -/
def D (a : Vec Ideal S4096x2816 .bf16) (b : Vec Ideal S2816x1024 .bf16) (r t : Vec Ideal S4096x1024 .f32)
    (g : Vec Ideal S1024 .f32) : Vec Ideal S4096x1024 .f32 :=
  fun i => rowD (fun k => X a b r (ix2 (i 0) k)) (fun k => t (ix2 (i 0) k)) (fun k => g (ix1 k)) (i 1)

/-- The gradient of the gain: the sum over the rows. -/
def W (a : Vec Ideal S4096x2816 .bf16) (b : Vec Ideal S2816x1024 .bf16) (r t : Vec Ideal S4096x1024 .f32)
    (g : Vec Ideal S1024 .f32) : Vec Ideal S1x1024 .f32 :=
  fun i => ∑ p : Fin 4096, rowG (fun k => X a b r (ix2 p k)) (fun k => t (ix2 p k)) (fun k => g (ix1 k)) (i 1)

/-- The loss, in every lane: the sum over the rows. -/
def L (a : Vec Ideal S4096x2816 .bf16) (b : Vec Ideal S2816x1024 .bf16) (r t : Vec Ideal S4096x1024 .f32)
    (g : Vec Ideal S1024 .f32) : Vec Ideal S1x128 .f32 :=
  fun _ => ∑ p : Fin 4096, Loss.rowLoss (err (fun k => X a b r (ix2 p k)) (fun k => t (ix2 p k)) (fun k => g (ix1 k)))

/-- The sum of the residual and the product in a block. -/
def bx (a : Vec Ideal S512x2816 .bf16) (b : Vec Ideal S2816x1024 .bf16) (r : Vec Ideal S512x1024 .f32) (p : Fin 512)
    (k : Fin 1024) : EReal := r (ix2 p k) + ∑ q : Fin 2816, a (ix2 p q) * b (ix2 q k)

theorem pay2 (a : Vec Ideal S512x2816 .bf16) (b : Vec Ideal S2816x1024 .bf16) (r : Vec Ideal S512x1024 .f32)
    (y : S512x1024.Idx) : k0_pay2 (F := Ideal) a b r y = bx a b r (y 0) (y 1) := by
  unfold bx
  refine congrArg₂ (fun s z : EReal => s + z) (congrArg r (Dots.ext2 rfl rfl))
    ((Dots.nn (M := 512) (K := 2816) (N := 1024) (φ₁ := .bf16) (φ₂ := .bf16) none _ _ _ y).trans ?_)
  pointwise

theorem pay4 (a : Vec Ideal S512x2816 .bf16) (b : Vec Ideal S2816x1024 .bf16) (r : Vec Ideal S512x1024 .f32)
    (y : S512x1.Idx) : k0_pay4 (F := Ideal) a b r y = Rows.square (bx a b r (y 0)) := by
  unfold Rows.square
  pointwise [k0_pay4]
  simp only [pay2]
  rfl

theorem pay5 (a : Vec Ideal S512x2816 .bf16) (b : Vec Ideal S2816x1024 .bf16) (r : Vec Ideal S512x1024 .f32)
    (y : S512x1.Idx) : k0_pay5 (F := Ideal) a b r y = Rows.scale (bx a b r (y 0)) := by
  unfold k0_pay5 Rows.scale
  exact congrArg Ideal.rsqrt (pay4 a b r y)

theorem pay6 (a : Vec Ideal S512x2816 .bf16) (b : Vec Ideal S2816x1024 .bf16) (r : Vec Ideal S512x1024 .f32)
    (y : S512x1.Idx) : k0_pay6 (F := Ideal) a b r y
      = Rows.word 0xBF000000#32 * Ideal.div (Rows.scale (bx a b r (y 0))) (Rows.square (bx a b r (y 0))) := by
  pointwise [k0_pay6]
  simp only [pay4, pay5]

theorem pay3 (g : Vec Ideal S1x1024 .f32) : k0_pay3 (F := Ideal) g = g := by
  unfold k0_pay3
  rw [shapeCast_self]

theorem pay7 (a : Vec Ideal S512x2816 .bf16) (b : Vec Ideal S2816x1024 .bf16) (r : Vec Ideal S512x1024 .f32)
    (y : S512x1024.Idx) : k0_pay7 (F := Ideal) a b r y
      = bx a b r (y 0) (y 1) * Rows.scale (bx a b r (y 0)) := by
  pointwise [k0_pay7]
  simp only [pay2, pay5]
  rfl

theorem pay8 (a : Vec Ideal S512x2816 .bf16) (b : Vec Ideal S2816x1024 .bf16) (r t : Vec Ideal S512x1024 .f32)
    (g : Vec Ideal S1x1024 .f32) (y : S512x1024.Idx) : k0_pay8 (F := Ideal) a b r t g y
      = err (bx a b r (y 0)) (fun k => t (ix2 (y 0) k)) (fun k => g (ix2 0 k)) (y 1) := by
  unfold err
  pointwise [k0_pay8]
  simp only [pay7, pay3]

theorem pay9 (a : Vec Ideal S512x2816 .bf16) (b : Vec Ideal S2816x1024 .bf16) (r t : Vec Ideal S512x1024 .f32)
    (g : Vec Ideal S1x1024 .f32) (y : S512x1.Idx) : k0_pay9 (F := Ideal) a b r t g y
      = Loss.rowLoss (err (bx a b r (y 0)) (fun k => t (ix2 (y 0) k)) (fun k => g (ix2 0 k))) := by
  rw [← Loss.kernel_row]
  pointwise [k0_pay9]
  simp only [pay8]
  rfl

theorem pay10 (y : S512.Idx) : k0_pay10 (F := Ideal) y = ((1 / 2048 : ℝ) : EReal) := by
  rw [← Loss.kernel_weight]
  pointwise [k0_pay10]
  rw [Fin.sum_univ_one]

theorem pay11 (e : Vec Ideal S512x1024 .f32) (y : S512x1024.Idx) :
    k0_pay11 (F := Ideal) e (k0_pay10 (F := Ideal)) y = Loss.slope (e y) := by
  rw [← Loss.kernel_slope]
  pointwise [k0_pay11]
  simp only [pay10]

theorem pay12 (a : Vec Ideal S512x2816 .bf16) (b : Vec Ideal S2816x1024 .bf16) (r t : Vec Ideal S512x1024 .f32)
    (g : Vec Ideal S1x1024 .f32) (y : S512x1024.Idx) :
    k0_pay12 (F := Ideal) (k0_pay2 (F := Ideal) a b r) (k0_pay3 (F := Ideal) g) (k0_pay5 (F := Ideal) a b r)
        (k0_pay6 (F := Ideal) a b r) (k0_pay8 (F := Ideal) a b r t g) (k0_pay10 (F := Ideal)) y
      = rowD (bx a b r (y 0)) (fun k => t (ix2 (y 0) k)) (fun k => g (ix2 0 k)) (y 1) := by
  unfold rowD Rows.back Rows.inner
  pointwise [k0_pay12]
  simp only [Fin.sum_univ_one, pay2, pay3, pay5, pay6, pay11, pay8]
  rfl

theorem pay16 (a : Vec Ideal S512x2816 .bf16) (b : Vec Ideal S2816x1024 .bf16) (r t : Vec Ideal S512x1024 .f32)
    (g o : Vec Ideal S1x1024 .f32) (y : S1x1024.Idx) :
    k0_pay16 (F := Ideal) (k0_pay7 (F := Ideal) a b r) (k0_pay8 (F := Ideal) a b r t g) (k0_pay10 (F := Ideal)) o y
      = (o y + ∑ p : Fin 512, rowG (bx a b r p) (fun k => t (ix2 p k)) (fun k => g (ix2 0 k)) (y 1) : EReal) := by
  unfold rowG
  pointwise [k0_pay16]
  simp only [pay7, pay11, pay8]
  rfl

theorem pay13 (a : Vec Ideal S512x2816 .bf16) (b : Vec Ideal S2816x1024 .bf16) (r t : Vec Ideal S512x1024 .f32)
    (g : Vec Ideal S1x1024 .f32) (o : Vec Ideal S1x128 .f32) (y : S1x128.Idx) :
    k0_pay1 (F := Ideal) (k0_pay13 (F := Ideal) (k0_pay9 (F := Ideal) a b r t g)) o y
      = (o y + ∑ p : Fin 512, Loss.rowLoss (err (bx a b r p) (fun k => t (ix2 p k)) (fun k => g (ix2 0 k))) : EReal) := by
  pointwise [k0_pay1, k0_pay13]
  simp only [pay9]
  exact congrArg (fun z : EReal => o y + z) (Finset.sum_congr (M := EReal) rfl fun p _ => Fin.sum_univ_one _)

theorem pay14 (y : S1x1024.Idx) : k0_pay14 (F := Ideal) y = (0 : EReal) := by
  pointwise [k0_pay14]

theorem pay15 (y : S1x128.Idx) : k0_pay15 (F := Ideal) y = (0 : EReal) := by
  pointwise [k0_pay15]

/-- The gain as the kernel reads it: one row. -/
theorem host (c : Dev nD) (y : S1x1024.Idx) :
    V m c main_v0 y = m ((c : Thread nD τ).loc main_arg4) (ix1 (y 1)) := by
  have e : V m c main_v0 = shapeCast S1x1024 (m ((c : Thread nD τ).loc main_arg4)) shapeCasts_S1024_S1x1024 := by
    show StableHlo.after hostOps0 (fun b => m (c, b)) main_v0 = _
    unfold hostOps0
    after_results
    rfl
  rw [e]
  exact Rows.row (N := 1024) _ _ y

/-- The blocks each point of the grid reads and writes. -/
theorem idx : ∀ t : Fin grid0.N, (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = t.val ∧ win0_3.index t 1 = 0)
    ∧ (win0_4.index t 0 = 0 ∧ win0_4.index t 1 = 0)
    ∧ (win0_5.index t 0 = t.val ∧ win0_5.index t 1 = 0)
    ∧ (win0_6.index t 0 = 0 ∧ win0_6.index t 1 = 0)
    ∧ (win0_7.index t 0 = 0 ∧ win0_7.index t 1 = 0) := by decide +kernel

/-- The row of the sum at a block's row. -/
def brow (c : Dev nD) (t : Fin cfg0.N) (p : Fin 512) : Fin 1024 → EReal :=
  bx (iblk m c 0 t) (iblk m c 1 t) (iblk m c 2 t) p

/-- The target's row at a block's row. -/
def trow (c : Dev nD) (t : Fin cfg0.N) (p : Fin 512) (k : Fin 1024) : EReal :=
  (iblk m c 3 t : Vec Ideal S512x1024 .f32) (ix2 p k)

/-- The gain. -/
def grow (c : Dev nD) (t : Fin cfg0.N) (k : Fin 1024) : EReal := (iblk m c 4 t : Vec Ideal S1x1024 .f32) (ix2 0 k)

/-- What a point writes into its block of the sum's gradient. -/
theorem out_block (c : Dev nD) (t : Fin cfg0.N) (y : S512x1024.Idx) : (outsAt0 m c t.val t.isLt).1 y
    = rowD (brow m c t (y 0)) (trow m c t (y 0)) (grow m c t) (y 1) := by
  by_cases h : t.val % 8 = 0
  · rw [outsAt0_A m c t h]
    frame_out
    exact pay12 _ _ _ _ _ y
  · rw [outsAt0_B m c t h]
    frame_out
    exact pay12 _ _ _ _ _ y

/-- The running gradient of the gain at the last point. -/
theorem run_gain (c : Dev nD) (t : Fin cfg0.N) (hr : t.val % 8 = 7) (y : S1x1024.Idx) :
    (outsAt0 m c t.val t.isLt).2.1 y
      = (0 + ∑ s : Fin 8, ∑ p : Fin 512, rowG
          (brow m c ⟨8 * (t.val / 8) + s.val, Pipeline.run_point_lt_of_flush t hr s⟩ p)
          (trow m c ⟨8 * (t.val / 8) + s.val, Pipeline.run_point_lt_of_flush t hr s⟩ p)
          (grow m c ⟨8 * (t.val / 8) + s.val, Pipeline.run_point_lt_of_flush t hr s⟩) (y 1) : EReal) := by
  refine Pipeline.eq_sum_fin_of_reset_step_apply_of_flush (M := EReal) (fun n h => (outsAt0 m c n h).2.1) 8 (fun _ => 0)
    (fun t y => ∑ p : Fin 512, rowG (brow m c t p) (trow m c t p) (grow m c t) (y 1))
    (fun t h j => ?_) (fun t h j => ?_) t hr y
  · rw [outsAt0_A m c t h]
    frame_out
    refine (pay16 _ _ _ _ _ _ j).trans ?_
    exact congrArg (fun z : EReal => z + _) (pay14 j)
  · rw [outsAt0_B m c t h]
    frame_out
    exact pay16 _ _ _ _ _ _ j

/-- The running loss at the last point. -/
theorem run_loss (c : Dev nD) (t : Fin cfg0.N) (hr : t.val % 8 = 7) (y : S1x128.Idx) :
    (outsAt0 m c t.val t.isLt).2.2 y
      = (0 + ∑ s : Fin 8, ∑ p : Fin 512, Loss.rowLoss (err
          (brow m c ⟨8 * (t.val / 8) + s.val, Pipeline.run_point_lt_of_flush t hr s⟩ p)
          (trow m c ⟨8 * (t.val / 8) + s.val, Pipeline.run_point_lt_of_flush t hr s⟩ p)
          (grow m c ⟨8 * (t.val / 8) + s.val, Pipeline.run_point_lt_of_flush t hr s⟩)) : EReal) := by
  refine Pipeline.eq_sum_fin_of_reset_step_apply_of_flush (M := EReal) (fun n h => (outsAt0 m c n h).2.2) 8 (fun _ => 0)
    (fun t y => ∑ p : Fin 512, Loss.rowLoss (err (brow m c t p) (trow m c t p) (grow m c t)))
    (fun t h j => ?_) (fun t h j => ?_) t hr y
  · rw [outsAt0_A m c t h]
    frame_out
    refine (pay13 _ _ _ _ _ _ j).trans ?_
    exact congrArg (fun z : EReal => z + _) (pay15 j)
  · rw [outsAt0_B m c t h]
    frame_out
    exact pay13 _ _ _ _ _ _ j

/-- The row of the sum that a block's row is. -/
theorem brow_at (c : Dev nD) (t : Fin cfg0.N) (p : Fin 512) (r : Fin 4096) (hr : r.val = 512 * t.val + p.val) :
    brow m c t p = fun k => X (m ((c : Thread nD τ).loc main_arg0)) (m ((c : Thread nD τ).loc main_arg1))
      (m ((c : Thread nD τ).loc main_arg2)) (ix2 r k) := by
  have e := idx t
  funext k
  unfold brow bx X
  refine congrArg₂ (fun a b : EReal => a + b) ?_ (Finset.sum_congr (M := EReal) rfl fun q _ =>
    congrArg₂ (fun a b : EReal => a * b) ?_ ?_)
  · show V m c main_arg2 _ = V m c main_arg2 _
    congr 1
    blk_ext [e, hr]
  · show V m c main_arg0 _ = V m c main_arg0 _
    congr 1
    blk_ext [e, hr]
  · show V m c main_arg1 _ = V m c main_arg1 _
    congr 1
    blk_ext [e]

/-- The target's row that a block's row is. -/
theorem trow_at (c : Dev nD) (t : Fin cfg0.N) (p : Fin 512) (r : Fin 4096) (hr : r.val = 512 * t.val + p.val) :
    trow m c t p = fun k => (m ((c : Thread nD τ).loc main_arg3) : Vec Ideal S4096x1024 .f32) (ix2 r k) := by
  have e := idx t
  funext k
  unfold trow
  show V m c main_arg3 _ = V m c main_arg3 _
  congr 1
  blk_ext [e, hr]

/-- The gain at every point. -/
theorem grow_at (c : Dev nD) (t : Fin cfg0.N) :
    grow m c t = fun k => (m ((c : Thread nD τ).loc main_arg4) : Vec Ideal S1024 .f32) (ix1 k) := by
  have e := idx t
  funext k
  unfold grow
  show V m c main_v0 _ = _
  rw [host]
  exact congrArg _ (congrArg ix1 (Fin.ext (by blk_simp [e])))

/-- The gradient of the sum after the run. -/
theorem final_x (c : Dev nD) : (dats m 0 c).arrAt 5 cfg0.N
    = D (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  have e := idx t
  blk_simp
  rw [after0_5, out_block m c t y]
  unfold D
  have h0 : ((((cfg0.win 5).blk t).view.emb y) 0 : Fin 4096).val = 512 * t.val + (y 0).val := by
    show ((win0_5.blk t).view.emb y 0).val = _
    blk_simp [e]
    try omega
  rw [brow_at m c t (y 0) _ h0, trow_at m c t (y 0) _ h0, grow_at]
  exact congrArg (rowD _ _ _) (Fin.ext (by blk_simp [e]))

/-- The gain's gradient after the run. -/
theorem final_g (c : Dev nD) : (dats m 0 c).arrAt 6 cfg0.N
    = W (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  have hr : t.val % 8 = 7 := (flush0_6 t).mp hf
  have e := idx t
  blk_simp
  rw [after0_6, run_gain m c t hr, zero_add]
  unfold W
  refine Fin.sum_mul_add_congr (M := EReal) fun s p hl => ?_
  have hs := s.isLt
  have ht : t.val < 8 := t.isLt
  have h0 : (⟨s.val * 512 + p.val, hl⟩ : Fin 4096).val = 512 * (8 * (t.val / 8) + s.val) + p.val := by
    show s.val * 512 + p.val = _
    omega
  rw [brow_at m c _ p _ h0, trow_at m c _ p _ h0, grow_at]
  refine congrArg (rowG _ _ _) (Fin.ext ?_)
  show (y 1).val = ((win0_6.blk t).view.emb y 1).val
  blk_simp [e]

/-- The loss after the run. -/
theorem final_l (c : Dev nD) : (dats m 0 c).arrAt 7 cfg0.N
    = L (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t hf y => ?_
  have hr : t.val % 8 = 7 := (flush0_7 t).mp hf
  blk_simp
  rw [after0_7, run_loss m c t hr, zero_add]
  unfold L
  refine Fin.sum_mul_add_congr (M := EReal) fun s p hl => ?_
  have hs := s.isLt
  have ht : t.val < 8 := t.isLt
  have h0 : (⟨s.val * 512 + p.val, hl⟩ : Fin 4096).val = 512 * (8 * (t.val / 8) + s.val) + p.val := by
    show s.val * 512 + p.val = _
    omega
  rw [brow_at m c _ p _ h0, trow_at m c _ p _ h0, grow_at]

theorem ref_sum (a : Vec Ideal S4096x2816 .bf16) (b : Vec Ideal S2816x1024 .bf16) (r : Vec Ideal S4096x1024 .f32)
    (i : S4096x1024.Idx) : val_main_v3 (F := Ideal) a b r i = X a b r i := by
  unfold X
  rw [val_main_v3_apply, val_main_v2_apply]
  refine congrArg (fun z : EReal => r i + z) (Finset.sum_congr (M := EReal) rfl fun k _ => ?_)
  rw [val_main_v0_apply, val_main_v1_apply]
  exact congrArg₂ (fun a b : EReal => a * b) (congrArg a (Dots.ext2 rfl rfl)) (congrArg b (Dots.ext2 rfl rfl))

theorem ref_err (a : Vec Ideal S4096x2816 .bf16) (b : Vec Ideal S2816x1024 .bf16) (r t : Vec Ideal S4096x1024 .f32)
    (g : Vec Ideal S1024 .f32) (i : S4096x1024.Idx) : val_main_v20 (F := Ideal) a b r t g i
      = err (fun k => X a b r (ix2 (i 0) k)) (fun k => t (ix2 (i 0) k)) (fun k => g (ix1 k)) (i 1) := by
  unfold err Rows.scale Rows.square
  pointwise [
    val_main_v4, val_main_cst, val_main_v5,
    val_main_v6, val_main_cst_0, val_main_v7,
    val_main_v8, val_main_cst_1, val_main_v9,
    val_main_v10, val_main_v11, val_main_v12,
    val_main_cst_2, val_main_v13, val_main_v14,
    val_main_v15, val_main_v16, val_main_v17,
    val_main_v18, val_main_v19, val_main_v20,
    val_main_v21, val_main_cst_3, val_main_v22,
    val_main_v23, val_main_cst_4, val_main_v24,
    val_main_cst_5, val_main_v25, val_main_v26,
    val_main_cst_6, val_main_v27, val_main_cst_7,
    val_main_v28, val_main_cst_8, val_main_cst_9,
    val_main_v29, val_main_v30, val_main_cst_10,
    val_main_v31, val_main_v32, val_main_v33,
    val_main_v34, val_main_v35, val_main_cst_11,
    val_main_v36, val_main_v37, val_main_v38,
    val_main_v39, val_main_cst_12, val_main_v40,
    val_main_v41, val_main_cst_13, val_main_v42,
    val_main_v43, val_main_v44, val_main_v45,
    val_main_v46, val_main_cst_14, val_main_v47,
    val_main_v48, val_main_cst_15, val_main_v49,
    val_main_v50, val_main_v51, val_main_v52,
    val_main_v53, val_main_v54, val_main_v55,
    val_main_v56]
  simp only [ref_sum]

/-- The reference's loss. -/
theorem ref_l (a : Vec Ideal S4096x2816 .bf16) (b : Vec Ideal S2816x1024 .bf16) (r t : Vec Ideal S4096x1024 .f32)
    (g : Vec Ideal S1024 .f32) : val_main_v56 (F := Ideal) a b r t g = L a b r t g := by
  funext i
  unfold L
  rw [← Loss.book_rows]
  pointwise [
    val_main_v4, val_main_cst, val_main_v5,
    val_main_v6, val_main_cst_0, val_main_v7,
    val_main_v8, val_main_cst_1, val_main_v9,
    val_main_v10, val_main_v11, val_main_v12,
    val_main_cst_2, val_main_v13, val_main_v14,
    val_main_v15, val_main_v16, val_main_v17,
    val_main_v18, val_main_v19, val_main_v21,
    val_main_cst_3, val_main_v22, val_main_v23,
    val_main_cst_4, val_main_v24, val_main_cst_5,
    val_main_v25, val_main_v26, val_main_cst_6,
    val_main_v27, val_main_cst_7, val_main_v28,
    val_main_cst_8, val_main_cst_9, val_main_v29,
    val_main_v30, val_main_cst_10, val_main_v31,
    val_main_v32, val_main_v33, val_main_v34,
    val_main_v35, val_main_cst_11, val_main_v36,
    val_main_v37, val_main_v38, val_main_v39,
    val_main_cst_12, val_main_v40, val_main_v41,
    val_main_cst_13, val_main_v42, val_main_v43,
    val_main_v44, val_main_v45, val_main_v46,
    val_main_cst_14, val_main_v47, val_main_v48,
    val_main_cst_15, val_main_v49, val_main_v50,
    val_main_v51, val_main_v52, val_main_v53,
    val_main_v54, val_main_v55, val_main_v56]
  simp only [ref_err]
  rfl

theorem ref_slope (a : Vec Ideal S4096x2816 .bf16) (b : Vec Ideal S2816x1024 .bf16) (r t : Vec Ideal S4096x1024 .f32)
    (g : Vec Ideal S1024 .f32) (i : S4096x1024.Idx) : val_main_v34 (F := Ideal) a b r t g i
      = Loss.slope (err (fun k => X a b r (ix2 (i 0) k)) (fun k => t (ix2 (i 0) k)) (fun k => g (ix1 k)) (i 1)) := by
  rw [← Loss.book_slope]
  pointwise [
    val_main_v4, val_main_cst, val_main_v5,
    val_main_v6, val_main_cst_0, val_main_v7,
    val_main_v8, val_main_cst_1, val_main_v9,
    val_main_v10, val_main_v11, val_main_v12,
    val_main_cst_2, val_main_v13, val_main_v14,
    val_main_v15, val_main_v16, val_main_v17,
    val_main_v18, val_main_v19, val_main_v21,
    val_main_cst_3, val_main_v22, val_main_v23,
    val_main_cst_4, val_main_v24, val_main_cst_5,
    val_main_v25, val_main_v26, val_main_cst_6,
    val_main_v27, val_main_cst_7, val_main_v28,
    val_main_cst_8, val_main_cst_9, val_main_v29,
    val_main_v30, val_main_cst_10, val_main_v31,
    val_main_v32, val_main_v33, val_main_v34,
    val_main_v35, val_main_cst_11, val_main_v36,
    val_main_v37, val_main_v38, val_main_v39,
    val_main_cst_12, val_main_v40, val_main_v41,
    val_main_cst_13, val_main_v42, val_main_v43,
    val_main_v44, val_main_v45, val_main_v46,
    val_main_cst_14, val_main_v47, val_main_v48,
    val_main_cst_15, val_main_v49, val_main_v50,
    val_main_v51, val_main_v52, val_main_v53,
    val_main_v54, val_main_v55, val_main_v56]
  simp only [ref_err]

/-- The reference's gradient of the gain. -/
theorem ref_g (a : Vec Ideal S4096x2816 .bf16) (b : Vec Ideal S2816x1024 .bf16) (r t : Vec Ideal S4096x1024 .f32)
    (g : Vec Ideal S1024 .f32) : val_main_v55 (F := Ideal) a b r t g = W a b r t g := by
  funext i
  unfold W rowG Rows.scale Rows.square
  pointwise [
    val_main_v4, val_main_cst, val_main_v5,
    val_main_v6, val_main_cst_0, val_main_v7,
    val_main_v8, val_main_cst_1, val_main_v9,
    val_main_v10, val_main_v11, val_main_v12,
    val_main_cst_2, val_main_v13, val_main_v14,
    val_main_v15, val_main_v16, val_main_v17,
    val_main_v18, val_main_v19, val_main_v20,
    val_main_v21, val_main_cst_3, val_main_v22,
    val_main_v23, val_main_cst_4, val_main_v24,
    val_main_cst_5, val_main_v25, val_main_v26,
    val_main_cst_6, val_main_v27, val_main_cst_7,
    val_main_v28, val_main_cst_8, val_main_cst_9,
    val_main_v29, val_main_v30, val_main_cst_10,
    val_main_v31, val_main_v32, val_main_v33,
    val_main_v35, val_main_cst_11, val_main_v36,
    val_main_v37, val_main_v38, val_main_v39,
    val_main_cst_12, val_main_v40, val_main_v41,
    val_main_cst_13, val_main_v42, val_main_v43,
    val_main_v44, val_main_v45, val_main_v46,
    val_main_cst_14, val_main_v47, val_main_v48,
    val_main_cst_15, val_main_v49, val_main_v50,
    val_main_v51, val_main_v52, val_main_v53,
    val_main_v54, val_main_v55, val_main_v56]
  simp only [ref_sum, ref_slope]
  simp only [Fin.sum_univ_one]
  rfl

/-- The reference's gradient of the sum. -/
theorem ref_x (a : Vec Ideal S4096x2816 .bf16) (b : Vec Ideal S2816x1024 .bf16) (r t : Vec Ideal S4096x1024 .f32)
    (g : Vec Ideal S1024 .f32) : val_main_v54 (F := Ideal) a b r t g = D a b r t g := by
  funext i
  unfold D rowD Rows.back Rows.inner Rows.scale Rows.square
  pointwise [
    val_main_v4, val_main_cst, val_main_v5,
    val_main_v6, val_main_cst_0, val_main_v7,
    val_main_v8, val_main_cst_1, val_main_v9,
    val_main_v10, val_main_v11, val_main_v12,
    val_main_cst_2, val_main_v13, val_main_v14,
    val_main_v15, val_main_v16, val_main_v17,
    val_main_v18, val_main_v19, val_main_v20,
    val_main_v21, val_main_cst_3, val_main_v22,
    val_main_v23, val_main_cst_4, val_main_v24,
    val_main_cst_5, val_main_v25, val_main_v26,
    val_main_cst_6, val_main_v27, val_main_cst_7,
    val_main_v28, val_main_cst_8, val_main_cst_9,
    val_main_v29, val_main_v30, val_main_cst_10,
    val_main_v31, val_main_v32, val_main_v33,
    val_main_v35, val_main_cst_11, val_main_v36,
    val_main_v37, val_main_v38, val_main_v39,
    val_main_cst_12, val_main_v40, val_main_v41,
    val_main_cst_13, val_main_v42, val_main_v43,
    val_main_v44, val_main_v45, val_main_v46,
    val_main_cst_14, val_main_v47, val_main_v48,
    val_main_cst_15, val_main_v49, val_main_v50,
    val_main_v51, val_main_v52, val_main_v53,
    val_main_v54, val_main_v55, val_main_v56]
  simp only [ref_sum, ref_slope]
  simp only [Fin.sum_univ_one]
  rfl

/-- The kernel and the reference agree over the extended reals. -/
theorem algebraic : Cert.algebraic_FdownKIdeal_FdownRIdeal := by
  intro m ρ m' ρ' _ hag
  refine ⟨fun c => D (m ((c : Thread nD τ).loc main_arg0)) (m ((c : Thread nD τ).loc main_arg1))
      (m ((c : Thread nD τ).loc main_arg2)) (m ((c : Thread nD τ).loc main_arg3)) (m ((c : Thread nD τ).loc main_arg4)),
    fun c => W (m ((c : Thread nD τ).loc main_arg0)) (m ((c : Thread nD τ).loc main_arg1))
      (m ((c : Thread nD τ).loc main_arg2)) (m ((c : Thread nD τ).loc main_arg3)) (m ((c : Thread nD τ).loc main_arg4)),
    fun c => L (m ((c : Thread nD τ).loc main_arg0)) (m ((c : Thread nD τ).loc main_arg1))
      (m ((c : Thread nD τ).loc main_arg2)) (m ((c : Thread nD τ).loc main_arg3)) (m ((c : Thread nD τ).loc main_arg4)), ?_, ?_⟩
  · exact (θ_run _ _ _).mono (fun r h c => ⟨(h c).1.trans (final_x m c), (h c).2.1.trans (final_g m c),
      (h c).2.2.1.trans (final_l m c), (h c).2.2.2⟩) (Value.run_blocks m ρ)
  · refine (θ_run _ _ _).mono (fun r h c => ⟨(h c).1.trans ?_, (h c).2.1.trans ?_, (h c).2.2.1.trans ?_, (h c).2.2.2⟩)
      (Cert.FdownRIdeal.Value.run m' ρ')
    · rw [val_main_v54_eq, (hag c).1, (hag c).2.1, (hag c).2.2.1, (hag c).2.2.2.1, (hag c).2.2.2.2]
      exact ref_x _ _ _ _ _
    · rw [(hag c).1, (hag c).2.1, (hag c).2.2.1, (hag c).2.2.2.1, (hag c).2.2.2.2]
      exact ref_g _ _ _ _ _
    · rw [(hag c).1, (hag c).2.1, (hag c).2.2.1, (hag c).2.2.2.1, (hag c).2.2.2.2]
      exact ref_l _ _ _ _ _

end Cert.Proof.Fdown

end
-- ==== Proof.Wout.lean ====
module

public import proofs.«01_k».proof.Defs
public import proofs.«01_k».proof.Proof.Gen.WoutKIdeal.Value
public import proofs.«01_k».proof.Proof.Gen.WoutRIdeal.Run
public import proofs.«01_k».proof.Proof.Gen.WoutRIdeal.Read
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Dots
public import proofs.«01_k».proof.Proof.Rows
public import Idealize.ShloMosaic.Lib.Pointwise

@[expose] public section

set_option maxRecDepth 16384

noncomputable section

namespace Cert.Proof.Wout

open Cert.WoutKIdeal Cert.WoutKIdeal.Gen Idealize.ShloMosaic Idealize.ShloMosaic.TcCoe Idealize.SL.Sem

variable (m : (ℓ : Loc nD τ sig) → Buf (Elt Ideal) ℓ) (ρ : Dev nD → PrngReg)

/-- The sum of the residual and the product, at an element. -/
def X (a : Vec Ideal S4096x1024 .bf16) (b : Vec Ideal S1024x1024 .bf16) (r : Vec Ideal S4096x1024 .f32) :
    Vec Ideal S4096x1024 .f32 := fun i => r i + ∑ k : Fin 1024, a (ix2 (i 0) k) * b (ix2 k (i 1))

/-- The norm of the sum's rows. -/
def U (a : Vec Ideal S4096x1024 .bf16) (b : Vec Ideal S1024x1024 .bf16) (r : Vec Ideal S4096x1024 .f32)
    (g : Vec Ideal S1024 .f32) : Vec Ideal S4096x1024 .bf16 :=
  fun i => X a b r (ix2 (i 0) (i 1)) * Rows.scale (fun k => X a b r (ix2 (i 0) k)) * g (ix1 (i 1))

/-- The sum of the residual and the product in a block. -/
def bx (a : Vec Ideal S512x1024 .bf16) (b : Vec Ideal S1024x1024 .bf16) (r : Vec Ideal S512x1024 .f32) (p : Fin 512)
    (k : Fin 1024) : EReal := r (ix2 p k) + ∑ q : Fin 1024, a (ix2 p q) * b (ix2 q k)

theorem pay1 (a : Vec Ideal S512x1024 .bf16) (b : Vec Ideal S1024x1024 .bf16) (r : Vec Ideal S512x1024 .f32)
    (y : S512x1024.Idx) : k0_pay1 (F := Ideal) a b r y = bx a b r (y 0) (y 1) := by
  unfold bx
  refine congrArg₂ (fun s z : EReal => s + z) (congrArg r (Dots.ext2 rfl rfl))
    ((Dots.nn (M := 512) (K := 1024) (N := 1024) (φ₁ := .bf16) (φ₂ := .bf16) none _ _ _ y).trans ?_)
  pointwise

theorem pay2 (a : Vec Ideal S512x1024 .bf16) (b : Vec Ideal S1024x1024 .bf16) (r : Vec Ideal S512x1024 .f32)
    (g : Vec Ideal S1x1024 .f32) (y : S512x1024.Idx) : k0_pay2 (F := Ideal) a b r g y
      = bx a b r (y 0) (y 1) * Rows.scale (bx a b r (y 0)) * g (ix2 0 (y 1)) := by
  unfold Rows.scale Rows.square
  pointwise [k0_pay2]
  simp only [pay1]
  rfl

/-- The gain as the kernel reads it: one row. -/
theorem host (c : Dev nD) (y : S1x1024.Idx) :
    V m c main_v0 y = m ((c : Thread nD τ).loc main_arg3) (ix1 (y 1)) := by
  have e : V m c main_v0 = shapeCast S1x1024 (m ((c : Thread nD τ).loc main_arg3)) shapeCasts_S1024_S1x1024 := by
    show StableHlo.after hostOps0 (fun b => m (c, b)) main_v0 = _
    unfold hostOps0
    after_results
    rfl
  rw [e]
  exact Rows.row (N := 1024) _ _ y

/-- The blocks each point of the grid reads and writes. -/
theorem idx : ∀ t : Fin grid0.N, (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 0) := by decide +kernel

/-- The row of the sum that a block's row is. -/
theorem brow_at (c : Dev nD) (t : Fin cfg0.N) (p : Fin 512) (r : Fin 4096) (hr : r.val = 512 * t.val + p.val) :
    bx (iblk m c 0 t) (iblk m c 1 t) (iblk m c 2 t) p
      = fun k => X (m ((c : Thread nD τ).loc main_arg0)) (m ((c : Thread nD τ).loc main_arg1))
        (m ((c : Thread nD τ).loc main_arg2)) (ix2 r k) := by
  have e := idx t
  funext k
  unfold bx X
  refine congrArg₂ (fun a b : EReal => a + b) ?_ (Finset.sum_congr (M := EReal) rfl fun q _ =>
    congrArg₂ (fun a b : EReal => a * b) ?_ ?_)
  · show V m c main_arg2 _ = V m c main_arg2 _
    congr 1
    blk_ext [e, hr]
  · show V m c main_arg0 _ = V m c main_arg0 _
    congr 1
    blk_ext [e, hr]
  · show V m c main_arg1 _ = V m c main_arg1 _
    congr 1
    blk_ext [e]

/-- The sum after the run. -/
theorem final_x (c : Dev nD) : (dats m 0 c).arrAt 4 cfg0.N
    = X (m ((c : Thread nD τ).loc main_arg0)) (m ((c : Thread nD τ).loc main_arg1)) (m ((c : Thread nD τ).loc main_arg2)) := by
  refine (dats m 0 c).arrAt_eq_of_covers 4 _ (by decide +kernel) fun t hf y => ?_
  have e := idx t
  blk_simp
  rw [after0_4]
  frame_out
  refine (pay1 _ _ _ y).trans ?_
  have h0 : ((((cfg0.win 4).blk t).view.emb y) 0 : Fin 4096).val = 512 * t.val + (y 0).val := by
    show ((win0_4.blk t).view.emb y 0).val = _
    blk_simp [e]
    try omega
  rw [brow_at m c t (y 0) _ h0]
  refine congrArg (X _ _ _) (Dots.ext2 rfl ?_)
  show (y 1).val = ((win0_4.blk t).view.emb y 1).val
  blk_simp [e]

/-- The norm after the run. -/
theorem final_u (c : Dev nD) : (dats m 0 c).arrAt 5 cfg0.N
    = U (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  have e := idx t
  blk_simp
  rw [after0_5]
  frame_out
  refine (pay2 _ _ _ _ y).trans ?_
  unfold U
  have h0 : ((((cfg0.win 5).blk t).view.emb y) 0 : Fin 4096).val = 512 * t.val + (y 0).val := by
    show ((win0_5.blk t).view.emb y 0).val = _
    blk_simp [e]
    try omega
  have h1 : (y 1 : Fin 1024) = (((cfg0.win 5).blk t).view.emb y) 1 := by
    apply Fin.ext
    show (y 1).val = ((win0_5.blk t).view.emb y 1).val
    blk_simp [e]
  rw [brow_at m c t (y 0) _ h0]
  refine congrArg₂ (fun a b : EReal => a * b) (congrArg₂ (fun a b : EReal => a * b) ?_ rfl) ?_
  · exact congrArg (X _ _ _) (Dots.ext2 rfl (congrArg Fin.val h1))
  · show V m c main_v0 _ = _
    rw [host]
    exact congrArg _ (congrArg ix1 (Fin.ext (by blk_simp [e])))

theorem ref_x (a : Vec Ideal S4096x1024 .bf16) (b : Vec Ideal S1024x1024 .bf16) (r : Vec Ideal S4096x1024 .f32) :
    Cert.WoutRIdeal.Read.val_main_v3 (F := Ideal) a b r = X a b r := by
  funext i
  unfold X
  rw [Cert.WoutRIdeal.Read.val_main_v3_apply, Cert.WoutRIdeal.Read.val_main_v2_apply]
  refine congrArg (fun z : EReal => r i + z) (Finset.sum_congr (M := EReal) rfl fun k _ => ?_)
  rw [Cert.WoutRIdeal.Read.val_main_v0_apply, Cert.WoutRIdeal.Read.val_main_v1_apply]
  exact congrArg₂ (fun a b : EReal => a * b) (congrArg a (Dots.ext2 rfl rfl)) (congrArg b (Dots.ext2 rfl rfl))

theorem ref_u (a : Vec Ideal S4096x1024 .bf16) (b : Vec Ideal S1024x1024 .bf16) (r : Vec Ideal S4096x1024 .f32)
    (g : Vec Ideal S1024 .f32) : Cert.WoutRIdeal.Read.val_main_v17 (F := Ideal) a b r g = U a b r g := by
  funext i
  unfold U Rows.scale Rows.square
  pointwise [
    Cert.WoutRIdeal.Read.val_main_v4, Cert.WoutRIdeal.Read.val_main_cst, Cert.WoutRIdeal.Read.val_main_v5,
    Cert.WoutRIdeal.Read.val_main_v6, Cert.WoutRIdeal.Read.val_main_cst_0, Cert.WoutRIdeal.Read.val_main_v7,
    Cert.WoutRIdeal.Read.val_main_v8, Cert.WoutRIdeal.Read.val_main_cst_1, Cert.WoutRIdeal.Read.val_main_v9,
    Cert.WoutRIdeal.Read.val_main_v10, Cert.WoutRIdeal.Read.val_main_v11, Cert.WoutRIdeal.Read.val_main_v12,
    Cert.WoutRIdeal.Read.val_main_v13, Cert.WoutRIdeal.Read.val_main_v14, Cert.WoutRIdeal.Read.val_main_v15,
    Cert.WoutRIdeal.Read.val_main_v16, Cert.WoutRIdeal.Read.val_main_v17]
  simp only [ref_x]

/-- The kernel and the reference agree over the extended reals. -/
theorem algebraic : Cert.algebraic_WoutKIdeal_WoutRIdeal := by
  intro m ρ m' ρ' _ hag
  refine ⟨fun c => X (m ((c : Thread nD τ).loc main_arg0)) (m ((c : Thread nD τ).loc main_arg1))
      (m ((c : Thread nD τ).loc main_arg2)),
    fun c => U (m ((c : Thread nD τ).loc main_arg0)) (m ((c : Thread nD τ).loc main_arg1))
      (m ((c : Thread nD τ).loc main_arg2)) (m ((c : Thread nD τ).loc main_arg3)), ?_, ?_⟩
  · exact (θ_run _ _ _).mono (fun r h c => ⟨(h c).1.trans (final_x m c), (h c).2.1.trans (final_u m c), (h c).2.2⟩)
      (Value.run_blocks m ρ)
  · refine (θ_run _ _ _).mono (fun r h c => ⟨(h c).1.trans ?_, (h c).2.1.trans ?_, (h c).2.2⟩)
      (Cert.WoutRIdeal.Value.run m' ρ')
    · rw [(hag c).1, (hag c).2.1, (hag c).2.2.1]
      exact ref_x _ _ _
    · rw [(hag c).1, (hag c).2.1, (hag c).2.2.1, (hag c).2.2.2]
      exact ref_u _ _ _ _

end Cert.Proof.Wout

end
-- ==== Proof.Soft.lean ====
/-
  The softplus and its derivative at a real number: the kernel writes `max(z, 0) + log(1 + e^min(z, −z))` and takes the
  derivative branch by branch; the textbook writes `max(z, 0) + log1p(e^−|z|)` with derivative `e^(z − softplus(z))`.
-/
module

public import Idealize.ShloMosaic.PureOps.Ideal
public import Idealize.ShloMosaic.PureOps.Ideal.Laws
public import Idealize.ShloMosaic.Lib.IdealHost
public import proofs.«01_k».proof.Proof.Gate

@[expose] public section

noncomputable section

namespace Cert.Proof.Soft

open Idealize.ShloMosaic

/-- The softplus of a real number. -/
def soft (z : ℝ) : ℝ := max z 0 + Real.log (1 + Real.exp (-|z|))

/-- Its derivative, the logistic function. -/
def slope (z : ℝ) : ℝ := (1 + Real.exp (-z))⁻¹

theorem one_exp_pos (z : ℝ) : 0 < 1 + Real.exp z := add_pos one_pos (Real.exp_pos z)

theorem inf_word : Ideal.ofBits .f32 0x7F800000#32 = (⊤ : EReal) := by
  simp [Ideal.ofBits, Ideal.ieee]

theorem neg_real (z : ℝ) : (0 : EReal) - (z : EReal) = ((-z : ℝ) : EReal) := by simp

theorem min_neg (z : ℝ) : min z (-z) = -|z| := by
  rcases le_total 0 z with h | h
  · rw [abs_of_nonneg h, min_eq_right (by linarith)]
  · rw [abs_of_nonpos h, neg_neg, min_eq_left (by linarith)]

/-- The exponential the kernel shares between the value and the derivative. -/
theorem shared (z : ℝ) : Ideal.exp (min (z : EReal) (0 - (z : EReal))) = ((Real.exp (-|z|) : ℝ) : EReal) := by
  rw [neg_real, ← EReal.coe_strictMono.monotone.map_min, min_neg, Ideal.exp_coe]

theorem log_real (z : ℝ) : Ideal.log (1 + ((Real.exp z : ℝ) : EReal)) = ((Real.log (1 + Real.exp z) : ℝ) : EReal) := by
  rw [← EReal.coe_one, ← EReal.coe_add, Ideal.log_coe, if_neg (not_le.2 (one_exp_pos z))]

/-- The kernel's softplus. -/
theorem kernel_soft (z : ℝ) :
    max (z : EReal) 0 + Ideal.log (1 + Ideal.exp (min (z : EReal) (0 - (z : EReal)))) = (soft z : EReal) := by
  rw [shared, log_real, ← EReal.coe_zero, ← EReal.coe_strictMono.monotone.map_max, ← EReal.coe_add]
  rfl

/-- The textbook's softplus. -/
theorem book_soft (z : ℝ) :
    (if (z : EReal) ≠ (z : EReal) then (z : EReal)
      else max (z : EReal) 0 + Ideal.log1p (Ideal.exp (-FloatOps.absf (F := Ideal) (φ := .f32) (z : EReal)))) = (soft z : EReal) := by
  have ha : (-FloatOps.absf (F := Ideal) (φ := .f32) (z : EReal) : EReal) = ((-|z| : ℝ) : EReal) := by
    show -max (z : EReal) (-(z : EReal)) = _
    rw [← EReal.coe_neg, ← EReal.coe_strictMono.monotone.map_max, ← EReal.coe_neg]
    rfl
  rw [if_neg (by simp), ha, Ideal.exp_coe, Ideal.log1p, log_real, ← EReal.coe_zero,
    ← EReal.coe_strictMono.monotone.map_max, ← EReal.coe_add]
  rfl

/-- The softplus of an extended real. -/
def wide (x : EReal) : EReal := max x 0 + Ideal.log (1 + Ideal.exp (-max x (-x)))

/-- The kernel's softplus at every extended real. -/
theorem kernel_wide (x : EReal) : max x 0 + Ideal.log (1 + Ideal.exp (min x (0 - x))) = wide x := by
  have h : min x (0 - x) = -max x (-x) := by
    rw [zero_sub]
    rcases le_total x (-x) with k | k
    · rw [min_eq_left k, max_eq_right k, neg_neg]
    · rw [min_eq_right k, max_eq_left k]
  rw [h]
  rfl

/-- The textbook's softplus at every extended real. -/
theorem book_wide (x : EReal) :
    (if x ≠ x then x else max x 0 + Ideal.log1p (Ideal.exp (-FloatOps.absf (F := Ideal) (φ := .f32) x))) = wide x := by
  rw [if_neg (by simp)]
  rfl

theorem exp_soft (z : ℝ) : Real.exp (z - soft z) = slope z := by
  unfold soft slope
  have h := one_exp_pos (-|z|)
  rw [← sub_sub, Real.exp_sub, Real.exp_log h]
  rcases le_total 0 z with hz | hz
  · rw [max_eq_left hz, sub_self, Real.exp_zero, abs_of_nonneg hz, one_div]
  · rw [max_eq_right hz, sub_zero, abs_of_nonpos hz, neg_neg, Real.exp_neg]
    have := Real.exp_pos z
    field_simp
    ring

/-- The textbook's derivative of the softplus. -/
theorem book_slope (z : ℝ) :
    Ideal.exp ((if (z : EReal) = Ideal.ofBits .f32 0x7F800000#32 then (0 : EReal) else (z : EReal))
      - (if ((soft z : ℝ) : EReal) = Ideal.ofBits .f32 0x7F800000#32 then (0 : EReal) else ((soft z : ℝ) : EReal)))
      = (slope z : EReal) := by
  rw [inf_word, if_neg (EReal.coe_ne_top z), if_neg (EReal.coe_ne_top _), ← EReal.coe_sub, Ideal.exp_coe, exp_soft]

/-- The kernel's gradient through the softplus: a share of the whole for the maximum, and the logarithm's share with the two
    signs of the minimum. -/
theorem kernel_slope (z g : ℝ) :
    (Ideal.div (g : EReal) (1 + Ideal.exp (min (z : EReal) (0 - (z : EReal))))
          * Ideal.exp (min (z : EReal) (0 - (z : EReal)))
          * (if (z : EReal) < 0 - (z : EReal) then 1
              else if 0 - (z : EReal) = (z : EReal) then Ideal.ofBits .f32 0x3F000000#32 else 0)
        + (0 - Ideal.div (g : EReal) (1 + Ideal.exp (min (z : EReal) (0 - (z : EReal))))
              * Ideal.exp (min (z : EReal) (0 - (z : EReal)))
            * (if 0 - (z : EReal) < (z : EReal) then 1
                else if (z : EReal) = 0 - (z : EReal) then Ideal.ofBits .f32 0x3F000000#32 else 0)))
      + (g : EReal) * (if (0 : EReal) < (z : EReal) then 1
          else if (z : EReal) = 0 then Ideal.ofBits .f32 0x3F000000#32 else 0)
      = ((g * slope z : ℝ) : EReal) := by
  have h := one_exp_pos (-|z|)
  have hz0 : ∀ a b : ℝ, ((a : EReal) < (b : EReal)) = (a < b) := fun a b => propext EReal.coe_lt_coe_iff
  have hz1 : ∀ a b : ℝ, ((a : EReal) = (b : EReal)) = (a = b) := fun a b => propext EReal.coe_eq_coe_iff
  have hf : ∀ (p q : Prop) [Decidable p] [Decidable q], (if p then (1 : EReal) else if q then (((1 : ℝ) / 2 : ℝ) : EReal) else 0)
      = ((if p then 1 else if q then 1 / 2 else 0 : ℝ) : EReal) := by
    intro p q _ _
    split_ifs <;> simp
  rw [shared, neg_real, Gate.half_word, ← EReal.coe_one, ← EReal.coe_add, Ideal.div_coe h.ne', EReal.coe_one]
  rw [← EReal.coe_zero]
  simp only [hz0, hz1]
  simp only [EReal.coe_zero, hf]
  simp only [← EReal.coe_zero, ← EReal.coe_mul, ← EReal.coe_sub, ← EReal.coe_add, hz1]
  unfold slope
  have hp := Real.exp_pos z
  have hn := Real.exp_neg z
  rcases lt_trichotomy z 0 with k | k | k
  · rw [if_pos (by linarith), if_neg (by linarith), if_neg (by linarith), if_neg (by linarith), if_neg (by linarith),
      abs_of_neg k, neg_neg, hn]
    field_simp
    ring
  · subst k
    simp only [neg_zero, lt_irrefl, if_true, if_false, abs_zero, Real.exp_zero]
    norm_num
  · rw [if_neg (by linarith), if_neg (by linarith), if_pos (by linarith), if_pos k, abs_of_pos k]
    have := one_exp_pos (-z)
    field_simp
    ring

end Cert.Proof.Soft

end
-- ==== Proof.Gdg.lean ====
/-
  The gradient of the delta rule's gates: the decay `−e^a_log · softplus(x + dt_bias)` and the write strength `σ(x)`, at
  finite arguments.  The kernel works on all 256 lanes of the packed array and masks; the textbook works on the four
  lanes of each gate.  Both are one array of real numbers.
-/
module

public import proofs.«01_k».proof.Defs
public import proofs.«01_k».proof.Proof.Gen.Pre_finite_gate
public import proofs.«01_k».proof.Proof.Gen.GdgKIdeal.Value
public import proofs.«01_k».proof.Proof.Gen.GdgRIdeal.Run
public import proofs.«01_k».proof.Proof.Gen.GdgRIdeal.Read
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Dots
public import proofs.«01_k».proof.Proof.Gate
public import proofs.«01_k».proof.Proof.Soft
public import Idealize.ShloMosaic.Lib.Pointwise

@[expose] public section

set_option maxRecDepth 16384

noncomputable section

namespace Cert.Proof.Gdg

open Cert.GdgKIdeal Cert.GdgKIdeal.Gen Idealize.ShloMosaic Idealize.ShloMosaic.TcCoe Idealize.SL.Sem Cert.GdgRIdeal.Read

variable (m : (ℓ : Loc nD τ sig) → Buf (Elt Ideal) ℓ) (ρ : Dev nD → PrngReg)

/-! ## The gradient, of real numbers -/

/-- Four numbers in the first four of the lanes. -/
def lanes (v : Fin 4 → ℝ) (j : Fin 256) : ℝ := if h : j.val < 4 then v ⟨j.val, h⟩ else 0

/-- The gradient that reaches the decay: the incoming one, in the first four lanes. -/
def seen (d : ℝ) (j : Fin 256) : ℝ := if j.val < 4 then d else 0

/-- The gradient that reaches the softplus. -/
def into (l d : ℝ) (j : Fin 256) : ℝ := -Real.exp l * seen d j

/-- The gradient that passes through the softplus. -/
def through (a l s d : ℝ) (j : Fin 256) : ℝ := into l d j * Soft.slope (a + s)

/-- The gradient through the write strength, in the next four lanes. -/
def strength (a d : ℝ) (j : Fin 256) : ℝ :=
  if j.val < 8 then (if j.val < 4 then 0 else d * (Soft.slope a * (1 - Soft.slope a))) else 0

/-- What a number contributes to the gradient of the log-decay, before the decay's own factor. -/
def decay (a s d : ℝ) (j : Fin 256) : ℝ := seen (d * Soft.soft (a + s)) j

/-- The gradient of the packed array. -/
def X (A : Fin 4096 → Fin 256 → ℝ) (L S : Fin 4 → ℝ) (D : Fin 4096 → Fin 256 → ℝ) : Vec Ideal S4096x256 .bf16 :=
  fun i => ((strength (A (i 0) (i 1)) (D (i 0) (i 1)) (i 1)
    + through (A (i 0) (i 1)) (lanes L (i 1)) (lanes S (i 1)) (D (i 0) (i 1)) (i 1) : ℝ) : EReal)

/-- The gradient of the log-decays. -/
def Y (A : Fin 4096 → Fin 256 → ℝ) (L S : Fin 4 → ℝ) (D : Fin 4096 → Fin 256 → ℝ) : Vec Ideal S1x256 .f32 :=
  fun i => ((∑ r : Fin 4096, -decay (A r (i 1)) (lanes S (i 1)) (D r (i 1)) (i 1) * Real.exp (lanes L (i 1)) : ℝ) : EReal)

/-- The gradient of the biases. -/
def W (A : Fin 4096 → Fin 256 → ℝ) (L S : Fin 4 → ℝ) (D : Fin 4096 → Fin 256 → ℝ) : Vec Ideal S1x256 .f32 :=
  fun i => ((∑ r : Fin 4096, through (A r (i 1)) (lanes L (i 1)) (lanes S (i 1)) (D r (i 1)) (i 1) : ℝ) : EReal)

/-! ## Sums and masks -/

theorem sum_real {n : ℕ} (f : Fin n → ℝ) : (∑ i, ((f i : ℝ) : EReal)) = ((∑ i, f i : ℝ) : EReal) := by
  induction n with
  | zero => simp
  | succ n ih => rw [Fin.sum_univ_castSucc, Fin.sum_univ_castSucc, ih, EReal.coe_add]

theorem mask4 {α : Type} (j : ℕ) (hj : j < 256) (x y : α) :
    Scalar.select (IntOp.cmpi CmpIPredicate.slt (BitVec.ofNat 32 j) 4#32) x y = if j < 4 then x else y := by
  have h : ∀ j : Fin 256, IntOp.cmpi CmpIPredicate.slt (BitVec.ofNat 32 j.val) 4#32 = if j.val < 4 then 1#1 else 0#1 := by
    decide
  rw [h ⟨j, hj⟩]
  split_ifs <;> rfl

theorem mask8 {α : Type} (j : ℕ) (hj : j < 256) (x y : α) :
    Scalar.select (IntOp.cmpi CmpIPredicate.slt (BitVec.ofNat 32 j) 8#32) x y = if j < 8 then x else y := by
  have h : ∀ j : Fin 256, IntOp.cmpi CmpIPredicate.slt (BitVec.ofNat 32 j.val) 8#32 = if j.val < 8 then 1#1 else 0#1 := by
    decide
  rw [h ⟨j, hj⟩]
  split_ifs <;> rfl

theorem sig_real (a : ℝ) : Gate.sig (a : EReal) = ((Soft.slope a : ℝ) : EReal) := Ideal.logistic_coe a

/-! ## What a block contributes -/

/-- The lane numbers of a block. -/
abbrev lane : IVec S512x256 32 := iota .tc S512x256 32 [1] iota_S512x256_d1_w32

section Block

variable (a d : Vec Ideal S512x256 .f32) (l s : Vec Ideal S1x256 .f32)
  (A D : Fin 512 → Fin 256 → ℝ) (L S : Fin 256 → ℝ)
  (ha : ∀ y, a y = ((A (y 0) (y 1) : ℝ) : EReal)) (hd : ∀ y, d y = ((D (y 0) (y 1) : ℝ) : EReal))
  (hl : ∀ y, l y = ((L (y 1) : ℝ) : EReal)) (hs : ∀ y, s y = ((S (y 1) : ℝ) : EReal))

include ha hd in
theorem pay21 (y : S512x256.Idx) :
    k0_pay21 (F := Ideal) d a lane y = ((strength (A (y 0) (y 1)) (D (y 0) (y 1)) (y 1) : ℝ) : EReal) := by
  pointwise [k0_pay21, k0_pay18, k0_pay19]
  rw [mask8 (y 1).val (y 1).isLt, mask4 (y 1).val (y 1).isLt, Gate.half_word, ha, hd]
  unfold strength
  by_cases h8 : (y 1).val < 8
  · rw [if_pos h8, if_pos h8]
    by_cases h4 : (y 1).val < 4
    · rw [if_pos h4, if_pos h4, EReal.coe_zero]
    · rw [if_neg h4, if_neg h4]
      obtain ⟨t, ht, hg⟩ := Gate.real_gate ((A (y 0) (y 1) : ℝ) : EReal)
      rw [sig_real, EReal.coe_eq_coe_iff] at hg
      rw [ht, hg, ← EReal.coe_one]
      simp only [← EReal.coe_add, ← EReal.coe_sub, ← EReal.coe_mul]
      congr 1
      ring
  · rw [if_neg h8, if_neg h8, EReal.coe_zero]

include hd hl in
theorem pay22 (y : S512x256.Idx) :
    k0_pay22 (F := Ideal) d lane (k0_pay8 l) y = ((into (L (y 1)) (D (y 0) (y 1)) (y 1) : ℝ) : EReal) := by
  pointwise [k0_pay22, k0_pay20, k0_pay18, k0_pay19, k0_pay8, k0_pay7]
  rw [mask4 (y 1).val (y 1).isLt, hd]
  unfold into seen
  split_ifs with h4
  · rw [hl]
    show (0 - Ideal.exp ((L (y 1) : ℝ) : EReal)) * _ = _
    rw [Ideal.exp_coe, Soft.neg_real, ← EReal.coe_mul]
  · rw [mul_zero, EReal.coe_zero]

include ha hd hl hs in
theorem pay1 (y : S512x256.Idx) :
    k0_pay1 (F := Ideal) (k0_pay11 a s) (k0_pay22 d lane (k0_pay8 l))
        (k0_pay24 d lane (k0_pay8 l) (k0_pay9 a s) (k0_pay12 a s) (k0_pay13 a s) (k0_pay14 a s) (k0_pay15 a s)) y
      = ((through (A (y 0) (y 1)) (L (y 1)) (S (y 1)) (D (y 0) (y 1)) (y 1) : ℝ) : EReal) := by
  pointwise [k0_pay1, k0_pay11, k0_pay24, k0_pay16, k0_pay17, k0_pay9, k0_pay12, k0_pay13, k0_pay14, k0_pay15]
  rw [pay22 d l D L hd hl y, ha, hs, ← EReal.coe_add]
  exact Soft.kernel_slope _ _

include ha hd hl hs in
theorem pay2 (y : S512x256.Idx) :
    k0_pay2 (F := Ideal) (k0_pay11 a s) (k0_pay21 d a lane) (k0_pay22 d lane (k0_pay8 l))
        (k0_pay24 d lane (k0_pay8 l) (k0_pay9 a s) (k0_pay12 a s) (k0_pay13 a s) (k0_pay14 a s) (k0_pay15 a s)) y
      = ((strength (A (y 0) (y 1)) (D (y 0) (y 1)) (y 1)
          + through (A (y 0) (y 1)) (L (y 1)) (S (y 1)) (D (y 0) (y 1)) (y 1) : ℝ) : EReal) := by
  unfold k0_pay2
  rw [EReal.coe_add, ← pay21 a d A D ha hd y, ← pay1 a d l s A D L S ha hd hl hs y]
  rfl

include ha hd hl hs in
theorem pay4 (v : Vec Ideal S1x256 .f32) (y : S1x256.Idx) :
    k0_pay4 (F := Ideal) (k0_pay11 a s) (k0_pay22 d lane (k0_pay8 l))
        (k0_pay24 d lane (k0_pay8 l) (k0_pay9 a s) (k0_pay12 a s) (k0_pay13 a s) (k0_pay14 a s) (k0_pay15 a s)) v y
      = (v y + ((∑ r : Fin 512, through (A r (y 1)) (L (y 1)) (S (y 1)) (D r (y 1)) (y 1) : ℝ) : EReal) : EReal) := by
  pointwise [k0_pay4]
  simp only [pay1 a d l s A D L S ha hd hl hs]
  rw [sum_real]
  rfl

include ha hd hl hs in
theorem pay3 (v : Vec Ideal S1x256 .f32) (y : S1x256.Idx) :
    k0_pay3 (F := Ideal) (k0_pay7 l) (k0_pay23 d lane (k0_pay10 a s) (k0_pay13 a s)) v y
      = (v y + ((-(∑ r : Fin 512, decay (A r (y 1)) (S (y 1)) (D r (y 1)) (y 1)) * Real.exp (L (y 1)) : ℝ) : EReal) : EReal) := by
  pointwise [k0_pay3, k0_pay7, k0_pay23, k0_pay10, k0_pay13, k0_pay16, k0_pay17, k0_pay20, k0_pay18, k0_pay19, k0_pay9,
    k0_pay12]
  refine congrArg (fun z : EReal => v y + z) ?_
  have h : ∀ r : Fin 512, (Scalar.select (IntOp.cmpi CmpIPredicate.slt (BitVec.ofNat 32 (y 1).val) 4#32)
        (d (ix2 r (y 1)) * (max (a (ix2 r (y 1)) + s (ix2 0 (y 1))) 0 + Ideal.log (1 + Ideal.exp
          (min (a (ix2 r (y 1)) + s (ix2 0 (y 1))) (0 - (a (ix2 r (y 1)) + s (ix2 0 (y 1)))))))) 0 : EReal)
      = ((decay (A r (y 1)) (S (y 1)) (D r (y 1)) (y 1) : ℝ) : EReal) := by
    intro r
    have e1 : a (ix2 r (y 1)) = ((A r (y 1) : ℝ) : EReal) := ha _
    have e2 : d (ix2 r (y 1)) = ((D r (y 1) : ℝ) : EReal) := hd _
    have e3 : s (ix2 0 (y 1)) = ((S (y 1) : ℝ) : EReal) := hs _
    rw [mask4 (y 1).val (y 1).isLt, e1, e2, e3, ← EReal.coe_add, Soft.kernel_soft, ← EReal.coe_mul]
    unfold decay seen
    split_ifs <;> rfl
  have e4 : (l y : EReal) = ((L (y 1) : ℝ) : EReal) := hl _
  rw [Finset.sum_congr (M := EReal) rfl fun r _ => h r, sum_real, Soft.neg_real, e4, Ideal.exp_coe, ← EReal.coe_mul]

end Block

theorem pay5 (y : S1x256.Idx) : k0_pay5 (F := Ideal) y = (0 : EReal) := by
  pointwise [k0_pay5]

theorem pay6 (y : S1x256.Idx) : k0_pay6 (F := Ideal) y = (0 : EReal) := by
  pointwise [k0_pay6]

/-! ## The run -/

/-- The log-decays as the kernel reads them: one row of lanes. -/
theorem host_l (c : Dev nD) : V m c main_v1 = pad S1x256 ![0, 0] ![0, 252] ![0, 0]
    (shapeCast S1x4 (m ((c : Thread nD τ).loc main_arg1)) shapeCasts_S4_S1x4)
    (sitofp (F := Ideal) .f32 (constantI S_ 32 0#32)) pads_S1x4_S1x256_000_02520 h_S_ := by
  show StableHlo.after (List.flatten [hostOps0, hostOps0_1, hostOps0_2, hostOps0_3]) (fun b => m (c, b)) main_v1 = _
  simp only [hostOps0, hostOps0_1, hostOps0_2, hostOps0_3, List.flatten_cons, List.flatten_nil, List.append_nil,
    List.cons_append, List.nil_append, StableHlo.TRef.binary, StableHlo.TRef.unary, StableHlo.TRef.toBuf,
    StableHlo.TRef.ofBuf, cast_eq]
  after_results_simp
  all_goals try rfl

/-- The biases as the kernel reads them: one row of lanes. -/
theorem host_s (c : Dev nD) : V m c main_v3 = pad S1x256 ![0, 0] ![0, 252] ![0, 0]
    (shapeCast S1x4 (m ((c : Thread nD τ).loc main_arg2)) shapeCasts_S4_S1x4)
    (sitofp (F := Ideal) .f32 (constantI S_ 32 0#32)) pads_S1x4_S1x256_000_02520 h_S_ := by
  show StableHlo.after (List.flatten [hostOps0, hostOps0_1, hostOps0_2, hostOps0_3]) (fun b => m (c, b)) main_v3 = _
  simp only [hostOps0, hostOps0_1, hostOps0_2, hostOps0_3, List.flatten_cons, List.flatten_nil, List.append_nil,
    List.cons_append, List.nil_append, StableHlo.TRef.binary, StableHlo.TRef.unary, StableHlo.TRef.toBuf,
    StableHlo.TRef.ofBuf, cast_eq]
  after_results_simp
  all_goals try rfl

theorem zero_word : FloatOps.sitofp (F := Ideal) FTy.f32 0#32 = (0 : EReal) := by
  show ((((0#32 : BitVec 32).toInt : ℤ) : ℝ) : EReal) = 0
  simp

/-- A row of four numbers, padded. -/
theorem padded (v : Vec Ideal S4 .f32) (u : Fin 4 → ℝ) (hv : ∀ i, v i = ((u (i 0) : ℝ) : EReal)) (y : S1x256.Idx) :
    (pad S1x256 ![0, 0] ![0, 252] ![0, 0] (shapeCast S1x4 v shapeCasts_S4_S1x4)
      (sitofp (F := Ideal) .f32 (constantI S_ 32 0#32)) pads_S1x4_S1x256_000_02520 h_S_) y
      = ((lanes u (y 1) : ℝ) : EReal) := by
  pointwise []
  unfold lanes
  split_ifs with h
  · exact hv _
  · rw [zero_word, EReal.coe_zero]

/-- The blocks each point of the grid reads and writes. -/
theorem idx : ∀ t : Fin grid0.N, (win0_0.index t 0 = t.val ∧ win0_0.index t 1 = 0)
    ∧ (win0_1.index t 0 = 0 ∧ win0_1.index t 1 = 0) ∧ (win0_2.index t 0 = 0 ∧ win0_2.index t 1 = 0)
    ∧ (win0_3.index t 0 = t.val ∧ win0_3.index t 1 = 0) ∧ (win0_4.index t 0 = t.val ∧ win0_4.index t 1 = 0)
    ∧ (win0_5.index t 0 = 0 ∧ win0_5.index t 1 = 0) ∧ (win0_6.index t 0 = 0 ∧ win0_6.index t 1 = 0) := by decide +kernel

/-- The row of the array that a block's row is. -/
def at_ (t : Fin cfg0.N) (p : Fin 512) : Fin 4096 :=
  ⟨t.val * 512 + p.val, by have h : t.val < 8 := t.isLt; have := p.isLt; omega⟩

section Run

variable (c : Dev nD) (A D : Fin 4096 → Fin 256 → ℝ) (L S : Fin 4 → ℝ)
  (ha : ∀ i, m ((c : Thread nD τ).loc main_arg0) i = ((A (i 0) (i 1) : ℝ) : EReal))
  (hl : ∀ i, m ((c : Thread nD τ).loc main_arg1) i = ((L (i 0) : ℝ) : EReal))
  (hs : ∀ i, m ((c : Thread nD τ).loc main_arg2) i = ((S (i 0) : ℝ) : EReal))
  (hd : ∀ i, m ((c : Thread nD τ).loc main_arg3) i = ((D (i 0) (i 1) : ℝ) : EReal))

include ha in
theorem blk_a (t : Fin cfg0.N) (y : S512x256.Idx) : iblk m c 0 t y = ((A (at_ t (y 0)) (y 1) : ℝ) : EReal) := by
  have e := idx t
  show V m c main_arg0 _ = _
  rw [V_main_arg0, ha]
  refine congrArg (fun z : ℝ => (z : EReal)) (congrArg₂ A (Fin.ext ?_) (Fin.ext ?_))
  · show _ = t.val * 512 + (y 0).val
    blk_simp [e]
  · blk_simp [e]

include hd in
theorem blk_d (t : Fin cfg0.N) (y : S512x256.Idx) : iblk m c 3 t y = ((D (at_ t (y 0)) (y 1) : ℝ) : EReal) := by
  have e := idx t
  show V m c main_arg3 _ = _
  rw [V_main_arg3, hd]
  refine congrArg (fun z : ℝ => (z : EReal)) (congrArg₂ D (Fin.ext ?_) (Fin.ext ?_))
  · show _ = t.val * 512 + (y 0).val
    blk_simp [e]
  · blk_simp [e]

include hl in
theorem blk_l (t : Fin cfg0.N) (y : S1x256.Idx) : iblk m c 1 t y = ((lanes L (y 1) : ℝ) : EReal) := by
  have e := idx t
  show V m c main_v1 _ = _
  rw [host_l, padded _ L hl]
  exact congrArg (fun z : Fin 256 => ((lanes L z : ℝ) : EReal)) (Fin.ext (by blk_simp [e]))

include hs in
theorem blk_s (t : Fin cfg0.N) (y : S1x256.Idx) : iblk m c 2 t y = ((lanes S (y 1) : ℝ) : EReal) := by
  have e := idx t
  show V m c main_v3 _ = _
  rw [host_s, padded _ S hs]
  exact congrArg (fun z : Fin 256 => ((lanes S z : ℝ) : EReal)) (Fin.ext (by blk_simp [e]))

include ha hd hl hs in
/-- What a point writes into its block of the packed array's gradient. -/
theorem out_block (t : Fin cfg0.N) (y : S512x256.Idx) : (outsAt0 m c t.val t.isLt).1 y
    = ((strength (A (at_ t (y 0)) (y 1)) (D (at_ t (y 0)) (y 1)) (y 1)
      + through (A (at_ t (y 0)) (y 1)) (lanes L (y 1)) (lanes S (y 1)) (D (at_ t (y 0)) (y 1)) (y 1) : ℝ) : EReal) := by
  have q := pay2 (iblk m c 0 t) (iblk m c 3 t) (iblk m c 1 t) (iblk m c 2 t) (fun p => A (at_ t p)) (fun p => D (at_ t p))
    (lanes L) (lanes S) (blk_a m c A ha t) (blk_d m c D hd t) (blk_l m c L hl t) (blk_s m c S hs t) y
  by_cases h : t.val % 8 = 0
  · rw [outsAt0_A m c t h]
    frame_out
    exact q
  · rw [outsAt0_B m c t h]
    frame_out
    exact q

/-- A block's part of the log-decays' gradient. -/
def partY (A D : Fin 4096 → Fin 256 → ℝ) (L S : Fin 4 → ℝ) (t : Fin cfg0.N) (y : S1x256.Idx) : ℝ :=
  -(∑ r : Fin 512, decay (A (at_ t r) (y 1)) (lanes S (y 1)) (D (at_ t r) (y 1)) (y 1)) * Real.exp (lanes L (y 1))

/-- A block's part of the biases' gradient. -/
def partW (A D : Fin 4096 → Fin 256 → ℝ) (L S : Fin 4 → ℝ) (t : Fin cfg0.N) (y : S1x256.Idx) : ℝ :=
  ∑ r : Fin 512, through (A (at_ t r) (y 1)) (lanes L (y 1)) (lanes S (y 1)) (D (at_ t r) (y 1)) (y 1)

include ha hd hl hs in
theorem run_y (t : Fin cfg0.N) (hr : t.val % 8 = 7) (y : S1x256.Idx) :
    (outsAt0 m c t.val t.isLt).2.1 y
      = (0 + ∑ s : Fin 8, ((partY A D L S ⟨8 * (t.val / 8) + s.val, Pipeline.run_point_lt_of_flush t hr s⟩ y : ℝ) : EReal) : EReal) := by
  refine Pipeline.eq_sum_fin_of_reset_step_apply_of_flush (M := EReal) (fun n h => (outsAt0 m c n h).2.1) 8 (fun _ => 0)
    (fun t y => ((partY A D L S t y : ℝ) : EReal)) (fun t h j => ?_) (fun t h j => ?_) t hr y
  · rw [outsAt0_A m c t h]
    frame_out
    refine (pay3 (iblk m c 0 t) (iblk m c 3 t) (iblk m c 1 t) (iblk m c 2 t) (fun p => A (at_ t p)) (fun p => D (at_ t p))
      (lanes L) (lanes S) (blk_a m c A ha t) (blk_d m c D hd t) (blk_l m c L hl t) (blk_s m c S hs t) _ j).trans ?_
    exact congrArg (fun z : EReal => z + _) (pay5 j)
  · rw [outsAt0_B m c t h]
    frame_out
    exact pay3 (iblk m c 0 t) (iblk m c 3 t) (iblk m c 1 t) (iblk m c 2 t) (fun p => A (at_ t p)) (fun p => D (at_ t p))
      (lanes L) (lanes S) (blk_a m c A ha t) (blk_d m c D hd t) (blk_l m c L hl t) (blk_s m c S hs t) _ j

include ha hd hl hs in
theorem run_w (t : Fin cfg0.N) (hr : t.val % 8 = 7) (y : S1x256.Idx) :
    (outsAt0 m c t.val t.isLt).2.2 y
      = (0 + ∑ s : Fin 8, ((partW A D L S ⟨8 * (t.val / 8) + s.val, Pipeline.run_point_lt_of_flush t hr s⟩ y : ℝ) : EReal) : EReal) := by
  refine Pipeline.eq_sum_fin_of_reset_step_apply_of_flush (M := EReal) (fun n h => (outsAt0 m c n h).2.2) 8 (fun _ => 0)
    (fun t y => ((partW A D L S t y : ℝ) : EReal)) (fun t h j => ?_) (fun t h j => ?_) t hr y
  · rw [outsAt0_A m c t h]
    frame_out
    refine (pay4 (iblk m c 0 t) (iblk m c 3 t) (iblk m c 1 t) (iblk m c 2 t) (fun p => A (at_ t p)) (fun p => D (at_ t p))
      (lanes L) (lanes S) (blk_a m c A ha t) (blk_d m c D hd t) (blk_l m c L hl t) (blk_s m c S hs t) _ j).trans ?_
    exact congrArg (fun z : EReal => z + _) (pay6 j)
  · rw [outsAt0_B m c t h]
    frame_out
    exact pay4 (iblk m c 0 t) (iblk m c 3 t) (iblk m c 1 t) (iblk m c 2 t) (fun p => A (at_ t p)) (fun p => D (at_ t p))
      (lanes L) (lanes S) (blk_a m c A ha t) (blk_d m c D hd t) (blk_l m c L hl t) (blk_s m c S hs t) _ j

include ha hd hl hs in
/-- The packed array's gradient after the run. -/
theorem final_x : (dats m 0 c).arrAt 4 cfg0.N = X A L S D := by
  refine (dats m 0 c).arrAt_eq_of_covers 4 _ (by decide +kernel) fun t hf y => ?_
  have e := idx t
  blk_simp
  rw [after0_4, out_block m c A D L S ha hl hs hd t y]
  unfold X
  have h0 : at_ t (y 0) = (((cfg0.win 4).blk t).view.emb y) 0 := by
    apply Fin.ext
    show t.val * 512 + (y 0).val = ((win0_4.blk t).view.emb y 0).val
    blk_simp [e]
  have h1 : (y 1 : Fin 256) = (((cfg0.win 4).blk t).view.emb y) 1 := by
    apply Fin.ext
    show (y 1).val = ((win0_4.blk t).view.emb y 1).val
    blk_simp [e]
  rw [h0, h1]

/-- Eight blocks of 512 rows are all the rows. -/
theorem all_rows (f : Fin 4096 → ℝ) (t : Fin cfg0.N) (hr : t.val % 8 = 7) :
    ∑ s : Fin 8, ∑ r : Fin 512, f (at_ ⟨8 * (t.val / 8) + s.val, Pipeline.run_point_lt_of_flush t hr s⟩ r) = ∑ r, f r := by
  refine Fin.sum_mul_add_congr (M := ℝ) fun s k hl => congrArg f (Fin.ext ?_)
  have hs := s.isLt
  have ht : t.val < 8 := t.isLt
  show (8 * (t.val / 8) + s.val) * 512 + k.val = s.val * 512 + k.val
  omega

include ha hd hl hs in
/-- The log-decays' gradient after the run. -/
theorem final_y : (dats m 0 c).arrAt 5 cfg0.N = Y A L S D := by
  refine (dats m 0 c).arrAt_eq_of_covers 5 _ (by decide +kernel) fun t hf y => ?_
  have hr : t.val % 8 = 7 := (flush0_5 t).mp hf
  have e := idx t
  blk_simp
  rw [after0_5, run_y m c A D L S ha hl hs hd t hr, zero_add, sum_real]
  unfold Y partY
  have h1 : (y 1 : Fin 256) = (((cfg0.win 5).blk t).view.emb y) 1 := by
    apply Fin.ext
    show (y 1).val = ((win0_5.blk t).view.emb y 1).val
    blk_simp [e]
  rw [← h1]
  refine congrArg (fun z : ℝ => (z : EReal)) ?_
  rw [← Finset.sum_mul, ← Finset.sum_mul, Finset.sum_neg_distrib, Finset.sum_neg_distrib]
  exact congrArg (fun z : ℝ => -z * _)
    (all_rows (fun r => decay (A r (y 1)) (lanes S (y 1)) (D r (y 1)) (y 1)) t hr)

include ha hd hl hs in
/-- The biases' gradient after the run. -/
theorem final_w : (dats m 0 c).arrAt 6 cfg0.N = W A L S D := by
  refine (dats m 0 c).arrAt_eq_of_covers 6 _ (by decide +kernel) fun t hf y => ?_
  have hr : t.val % 8 = 7 := (flush0_6 t).mp hf
  have e := idx t
  blk_simp
  rw [after0_6, run_w m c A D L S ha hl hs hd t hr, zero_add, sum_real]
  unfold W partW
  have h1 : (y 1 : Fin 256) = (((cfg0.win 6).blk t).view.emb y) 1 := by
    apply Fin.ext
    show (y 1).val = ((win0_6.blk t).view.emb y 1).val
    blk_simp [e]
  rw [← h1]
  exact congrArg (fun z : ℝ => (z : EReal))
    (all_rows (fun r => through (A r (y 1)) (lanes L (y 1)) (lanes S (y 1)) (D r (y 1)) (y 1)) t hr)

end Run

/-! ## The reference -/

section Reference

variable (a : Vec Ideal S4096x256 .f32) (l s : Vec Ideal S4 .f32) (d : Vec Ideal S4096x256 .f32)
  (A D : Fin 4096 → Fin 256 → ℝ) (L S : Fin 4 → ℝ)
  (ha : ∀ i, a i = ((A (i 0) (i 1) : ℝ) : EReal)) (hd : ∀ i, d i = ((D (i 0) (i 1) : ℝ) : EReal))
  (hl : ∀ i, l i = ((L (i 0) : ℝ) : EReal)) (hs : ∀ i, s i = ((S (i 0) : ℝ) : EReal))

theorem high_lane (p : Fin 4096) (j : Fin 256) (h : 4 + (j.val - 4) < 256) (h4 : ¬ j.val < 4) :
    D p ⟨4 + (j.val - 4), h⟩ * (Soft.slope (A p ⟨4 + (j.val - 4), h⟩) * (1 - Soft.slope (A p ⟨4 + (j.val - 4), h⟩)))
      = D p j * (Soft.slope (A p j) * (1 - Soft.slope (A p j))) := by
  have hj : (⟨4 + (j.val - 4), h⟩ : Fin 256) = j := Fin.ext (show 4 + (j.val - 4) = j.val by omega)
  rw [hj]

/-- A lane of the first four. -/
def low (j : Fin 4) : Fin 256 := ⟨j.val, by omega⟩

theorem lanes_low (v : Fin 4 → ℝ) (j : Fin 4) : lanes v (low j) = v j := by
  unfold lanes low
  rw [dif_pos j.isLt]

theorem low_through (p : Fin 4096) (j : Fin 256) (h4 : j.val < 4) :
    through (A p (low ⟨j.val, h4⟩)) (L ⟨j.val, h4⟩) (S ⟨j.val, h4⟩) (D p (low ⟨j.val, h4⟩)) (low ⟨j.val, h4⟩)
      = through (A p j) (lanes L j) (lanes S j) (D p j) j := by
  have hj : low ⟨j.val, h4⟩ = j := Fin.ext rfl
  rw [← lanes_low L ⟨j.val, h4⟩, ← lanes_low S ⟨j.val, h4⟩, hj]

theorem low_lane (p : Fin 4096) (j : Fin 256) (h4 : j.val < 4) :
    through (A p (low ⟨j.val, h4⟩)) (L ⟨j.val, h4⟩) (S ⟨j.val, h4⟩) (D p (low ⟨j.val, h4⟩)) (low ⟨j.val, h4⟩)
      = strength (A p j) (D p j) j + through (A p j) (lanes L j) (lanes S j) (D p j) j := by
  rw [low_through]
  unfold strength
  rw [if_pos (by omega), if_pos h4, zero_add]

include ha hs in
theorem ref_soft (i : Cert.GdgRIdeal.S4096x4.Idx) : val_main_v7_0 (F := Ideal) a s i
    = ((Soft.soft (A (i 0) (low (i 1)) + S (i 1)) : ℝ) : EReal) := by
  pointwise [
    val_main_v0, val_main_v1, val_main_v2,
    val_main_v3, val_main_v4, val_main_v5,
    val_main_v6, val_main_call0_cst, val_main_call0_v0,
    val_main_call0_v1, val_main_call0_v2,
    val_main_call0_v3, val_main_call0_v4,
    val_main_call0_v5, val_main_call0_v6,
    val_main_call0_v7, val_main_call0_v8,
    val_main_call0_v9, val_main_call0_v10,
    val_main_call0_v11, val_main_v7_0]
  have e1 : a (ix2 (i 0) (low (i 1))) = ((A (i 0) (low (i 1)) : ℝ) : EReal) := ha _
  have e2 : s (ix1 (i 1)) = ((S (i 1) : ℝ) : EReal) := hs _
  have e3 : (a (ix2 (i 0) (low (i 1))) + s (ix1 (i 1)) : EReal) = ((A (i 0) (low (i 1)) + S (i 1) : ℝ) : EReal) := by
    rw [e1, e2, EReal.coe_add]
  have q := Soft.book_soft (A (i 0) (low (i 1)) + S (i 1))
  rw [← e3] at q
  exact q

include ha hs in
theorem ref_slope (i : Cert.GdgRIdeal.S4096x4.Idx) : val_main_v7_1 (F := Ideal) a s i
    = ((Soft.slope (A (i 0) (low (i 1)) + S (i 1)) : ℝ) : EReal) := by
  pointwise [
    val_main_call0_cst_0, val_main_call0_v13,
    val_main_call0_v14, val_main_call0_cst_1,
    val_main_call0_v15, val_main_call0_v16,
    val_main_call0_cst_2, val_main_call0_v17,
    val_main_call0_v18, val_main_call0_cst_3,
    val_main_call0_v19, val_main_call0_v20,
    val_main_call0_v21, val_main_v7_1, val_main_v0,
    val_main_v4, val_main_v5, val_main_v6]
  have e1 : a (ix2 (i 0) (low (i 1))) = ((A (i 0) (low (i 1)) : ℝ) : EReal) := ha _
  have e2 : s (ix1 (i 1)) = ((S (i 1) : ℝ) : EReal) := hs _
  have e3 : (a (ix2 (i 0) (low (i 1))) + s (ix1 (i 1)) : EReal) = ((A (i 0) (low (i 1)) + S (i 1) : ℝ) : EReal) := by
    rw [e1, e2, EReal.coe_add]
  rw [ref_soft a s A S ha hs]
  have q := Soft.book_slope (A (i 0) (low (i 1)) + S (i 1))
  rw [← e3] at q
  exact q

include ha hd hl hs in
theorem ref_through (i : Cert.GdgRIdeal.S4096x4.Idx) : val_main_v29 (F := Ideal) a l s d i
    = ((through (A (i 0) (low (i 1))) (L (i 1)) (S (i 1)) (D (i 0) (low (i 1))) (low (i 1)) : ℝ) : EReal) := by
  pointwise [
    val_main_v8, val_main_v9, val_main_v10,
    val_main_v11, val_main_v12, val_main_cst,
    val_main_v13, val_main_v14, val_main_cst_0,
    val_main_v15, val_main_v16, val_main_cst_1,
    val_main_v17, val_main_v18, val_main_v19,
    val_main_v20, val_main_v21, val_main_v22,
    val_main_v23, val_main_v24, val_main_v25,
    val_main_cst_2, val_main_v26, val_main_v27,
    val_main_cst_3, val_main_v28, val_main_v29,
    val_main_v2, val_main_v3]
  have e1 : d (ix2 (i 0) (low (i 1))) = ((D (i 0) (low (i 1)) : ℝ) : EReal) := hd _
  have e2 : l (ix1 (i 1)) = ((L (i 1) : ℝ) : EReal) := hl _
  rw [ref_slope a s A S ha hs, e2, Ideal.exp_coe]
  refine (congrArg (fun z : EReal => -((Real.exp (L (i 1)) : ℝ) : EReal) * z
    * ((Soft.slope (A (i 0) (low (i 1)) + S (i 1)) : ℝ) : EReal)) e1).trans ?_
  unfold through into seen
  rw [if_pos (show (low (i 1)).val < 4 from (i 1).isLt), ← EReal.coe_neg, ← EReal.coe_mul, ← EReal.coe_mul]

include ha hd in
theorem ref_strength (i : Cert.GdgRIdeal.S4096x4.Idx) : val_main_v22 (F := Ideal) a d i
    = ((D (i 0) ⟨4 + (i 1).val, by have : (i 1).val < 4 := (i 1).isLt; omega⟩
        * (Soft.slope (A (i 0) ⟨4 + (i 1).val, by have : (i 1).val < 4 := (i 1).isLt; omega⟩)
          * (1 - Soft.slope (A (i 0) ⟨4 + (i 1).val, by have : (i 1).val < 4 := (i 1).isLt; omega⟩))) : ℝ) : EReal) := by
  pointwise [
    val_main_v11, val_main_v12, val_main_cst,
    val_main_v13, val_main_v14, val_main_cst_0,
    val_main_v15, val_main_v16, val_main_cst_1,
    val_main_v17, val_main_v18, val_main_v19,
    val_main_v20, val_main_v21, val_main_v22,
    val_main_v1]
  rw [ha, hd]
  refine (congrArg₂ (fun x y : EReal => _ * (x * (1 - y))) (sig_real _) (sig_real _)).trans ?_
  rw [← EReal.coe_one, ← EReal.coe_sub, ← EReal.coe_mul, ← EReal.coe_mul]
  rfl

include ha hd hl hs in
theorem ref_x : val_main_v37 (F := Ideal) a l s d = X A L S D := by
  funext i
  pointwise [
    val_main_v35, val_main_cst_6, val_main_v36,
    val_main_v37]
  unfold X
  by_cases h4 : (i 1).val < 4
  · rw [dif_pos h4, ref_through a l s d A D L S ha hd hl hs]
    refine congrArg (fun z : ℝ => (z : EReal)) ?_
    exact low_lane A D L S (i 0) (i 1) h4
  · have ht : through (A (i 0) (i 1)) (lanes L (i 1)) (lanes S (i 1)) (D (i 0) (i 1)) (i 1) = 0 := by
      unfold through into seen
      rw [if_neg h4, mul_zero, zero_mul]
    rw [dif_neg h4, ht, add_zero]
    unfold strength
    by_cases h8 : (i 1).val < 8
    · rw [dif_pos (by omega), if_pos h8, if_neg h4, ref_strength a d A D ha hd]
      exact congrArg (fun z : ℝ => (z : EReal)) (high_lane A D (i 0) (i 1) _ h4)
    · rw [dif_neg (by omega), if_neg h8, EReal.coe_zero]

include ha hd hl hs in
theorem ref_y : val_main_v39 (F := Ideal) a l s d = Y A L S D := by
  funext i
  pointwise [
    val_main_v25, val_main_cst_2, val_main_v26,
    val_main_v27, val_main_cst_3, val_main_v28,
    val_main_v33, val_main_v34, val_main_cst_6,
    val_main_v35, val_main_v36, val_main_v37,
    val_main_v38, val_main_c, val_main_call2_v0,
    val_main_v39, val_main_v20, val_main_v2]
  unfold Y
  by_cases h4 : (i 1).val < 4
  · rw [dif_pos h4]
    have hj : low ⟨(i 1).val, h4⟩ = i 1 := Fin.ext rfl
    have h : ∀ r : Fin 4096, (d (ix2 r (i 1)) * val_main_v7_0 (F := Ideal) a s (ix2 r ⟨(i 1).val, h4⟩) : EReal)
        = ((decay (A r (i 1)) (lanes S (i 1)) (D r (i 1)) (i 1) : ℝ) : EReal) := by
      intro r
      rw [ref_soft a s A S ha hs]
      refine (congrArg (fun z : EReal => z * _) (hd (ix2 r (i 1)))).trans ?_
      rw [← EReal.coe_mul]
      refine congrArg (fun z : ℝ => (z : EReal)) ?_
      unfold decay seen
      rw [if_pos h4]
      show D r (i 1) * Soft.soft (A r (low ⟨(i 1).val, h4⟩) + S ⟨(i 1).val, h4⟩) = _
      rw [← lanes_low S ⟨(i 1).val, h4⟩, hj]
    rw [Fin.sum_univ_one, Finset.sum_congr (M := EReal) rfl fun r _ => h r, sum_real, hl, Ideal.exp_coe, ← EReal.coe_neg,
      ← EReal.coe_mul]
    refine congrArg (fun z : ℝ => (z : EReal)) ?_
    rw [← Finset.sum_mul, Finset.sum_neg_distrib]
    show _ * Real.exp (L ⟨(i 1).val, h4⟩) = _
    rw [← lanes_low L ⟨(i 1).val, h4⟩, hj]
  · rw [dif_neg h4, zero_word, ← EReal.coe_zero]
    refine congrArg (fun z : ℝ => (z : EReal)) (Finset.sum_eq_zero fun r _ => ?_).symm
    unfold decay seen
    rw [if_neg h4, neg_zero, zero_mul]

include ha hd hl hs in
theorem ref_w : val_main_v41 (F := Ideal) a l s d = W A L S D := by
  funext i
  pointwise [
    val_main_cst_4, val_main_v30, val_main_v31,
    val_main_cst_5, val_main_v32, val_main_v40,
    val_main_c_7, val_main_call3_v0, val_main_v41]
  unfold W
  by_cases h4 : (i 1).val < 4
  · rw [dif_pos h4, Fin.sum_univ_one]
    rw [← sum_real]
    refine Finset.sum_congr (M := EReal) rfl fun r _ => ?_
    rw [ref_through a l s d A D L S ha hd hl hs]
    refine congrArg (fun z : ℝ => (z : EReal)) ?_
    exact low_through A D L S r (i 1) h4
  · rw [dif_neg h4, zero_word, ← EReal.coe_zero]
    refine congrArg (fun z : ℝ => (z : EReal)) (Finset.sum_eq_zero fun r _ => ?_).symm
    unfold through into seen
    rw [if_neg h4, mul_zero, zero_mul]

end Reference

/-! ## The precondition -/

theorem eta2 {a b : ℕ} (i : (⟨2, ![a, b]⟩ : Shape).Idx) : (ix2 (i 0) (i 1) : (⟨2, ![a, b]⟩ : Shape).Idx) = i := by
  funext k
  match k with
  | 0 => rfl
  | 1 => rfl

theorem eta1 {a : ℕ} (i : (⟨1, ![a]⟩ : Shape).Idx) : (ix1 (i 0) : (⟨1, ![a]⟩ : Shape).Idx) = i := by
  funext k
  match k with
  | 0 => rfl

/-- A number at most the largest finite word in size is a real number. -/
theorem finite {x : EReal} (h : max x (-x) ≤ Ideal.ofBits .f32 0x7F7FFFFF#32) : ((x.toReal : ℝ) : EReal) = x := by
  have hb : Ideal.ofBits .f32 0x7F7FFFFF#32 < (⊤ : EReal) := by
    simp [Ideal.ofBits, Ideal.ieee, -EReal.coe_mul]
  refine EReal.coe_toReal (fun hx => ?_) (fun hx => ?_)
  · subst hx
    exact absurd (lt_of_le_of_lt (le_trans (le_max_left _ _) h) hb) (lt_irrefl _)
  · subst hx
    exact absurd (lt_of_le_of_lt (le_trans (le_max_right _ _) h) hb) (by simp)

theorem bit {x y : EReal} (h : BitVec.ofBool (decide (x ≤ y)) = 1#1) : x ≤ y := by
  by_contra hn
  rw [decide_eq_false hn] at h
  exact absurd h (by decide)

theorem bit_finite (x : EReal)
    (h : BitVec.ofBool (decide (max x (-x) ≤ Ideal.ofBits .f32 0x7F7FFFFF#32)) = 1#1) : ((x.toReal : ℝ) : EReal) = x :=
  finite (bit h)

/-- The kernel and the reference agree over the extended reals, at finite arguments. -/
theorem algebraic : Cert.algebraic_GdgKIdeal_GdgRIdeal_pre_finite_gate := by
  intro m ρ m' ρ' hpre hag
  have f0 : ∀ (c : Dev nD) i, m ((c : Thread nD τ).loc main_arg0) i
      = (((m ((c : Thread nD τ).loc main_arg0) (ix2 (i 0) (i 1)) : EReal).toReal : ℝ) : EReal) := fun c i => by
    rw [eta2 i]
    exact (bit_finite _ (congrFun (hpre c).1 i)).symm
  have f1 : ∀ (c : Dev nD) i, m ((c : Thread nD τ).loc main_arg1) i
      = (((m ((c : Thread nD τ).loc main_arg1) (ix1 (i 0)) : EReal).toReal : ℝ) : EReal) := fun c i => by
    rw [eta1 i]
    exact (bit_finite _ (congrFun (hpre c).2.1 i)).symm
  have f2 : ∀ (c : Dev nD) i, m ((c : Thread nD τ).loc main_arg2) i
      = (((m ((c : Thread nD τ).loc main_arg2) (ix1 (i 0)) : EReal).toReal : ℝ) : EReal) := fun c i => by
    rw [eta1 i]
    exact (bit_finite _ (congrFun (hpre c).2.2.1 i)).symm
  have f3 : ∀ (c : Dev nD) i, m ((c : Thread nD τ).loc main_arg3) i
      = (((m ((c : Thread nD τ).loc main_arg3) (ix2 (i 0) (i 1)) : EReal).toReal : ℝ) : EReal) := fun c i => by
    rw [eta2 i]
    exact (bit_finite _ (congrFun (hpre c).2.2.2 i)).symm
  let A (c : Dev nD) (p : Fin 4096) (j : Fin 256) : ℝ := (m ((c : Thread nD τ).loc main_arg0) (ix2 p j) : EReal).toReal
  let L (c : Dev nD) (j : Fin 4) : ℝ := (m ((c : Thread nD τ).loc main_arg1) (ix1 j) : EReal).toReal
  let S (c : Dev nD) (j : Fin 4) : ℝ := (m ((c : Thread nD τ).loc main_arg2) (ix1 j) : EReal).toReal
  let D (c : Dev nD) (p : Fin 4096) (j : Fin 256) : ℝ := (m ((c : Thread nD τ).loc main_arg3) (ix2 p j) : EReal).toReal
  refine ⟨fun c => X (A c) (L c) (S c) (D c), fun c => Y (A c) (L c) (S c) (D c), fun c => W (A c) (L c) (S c) (D c), ?_, ?_⟩
  · exact (θ_run _ _ _).mono (fun r h c => ⟨(h c).1.trans (final_x m c _ _ _ _ (f0 c) (f1 c) (f2 c) (f3 c)),
      (h c).2.1.trans (final_y m c _ _ _ _ (f0 c) (f1 c) (f2 c) (f3 c)),
      (h c).2.2.1.trans (final_w m c _ _ _ _ (f0 c) (f1 c) (f2 c) (f3 c)), (h c).2.2.2⟩)
      (Value.run_blocks m ρ)
  · refine (θ_run _ _ _).mono (fun r h c => ⟨(h c).1.trans ?_, (h c).2.1.trans ?_, (h c).2.2.1.trans ?_, (h c).2.2.2⟩)
      (Cert.GdgRIdeal.Value.run m' ρ')
    · rw [val_main_v37_eq, (hag c).1, (hag c).2.1, (hag c).2.2.1, (hag c).2.2.2]
      exact ref_x _ _ _ _ _ _ _ _ (f0 c) (f3 c) (f1 c) (f2 c)
    · rw [val_main_v39_eq, (hag c).1, (hag c).2.1, (hag c).2.2.1, (hag c).2.2.2]
      exact ref_y _ _ _ _ _ _ _ _ (f0 c) (f3 c) (f1 c) (f2 c)
    · rw [val_main_v41_eq, (hag c).1, (hag c).2.1, (hag c).2.2.1, (hag c).2.2.2]
      exact ref_w _ _ _ _ _ _ _ _ (f0 c) (f3 c) (f1 c) (f2 c)

end Cert.Proof.Gdg

end
-- ==== Proof.Gprep.lean ====
/-
  What the delta rule reads: queries, keys and values, from the projected rows through a causal convolution of four taps,
  `x·σ(x)`, and, for queries and keys, a unit length in every head.  The kernel takes 256 rows at a time with the eight
  before them, and a head's 128 lanes at a time; the textbook shifts the whole array, padded with three rows of zeros.
-/
module

public import proofs.«01_k».proof.Defs
public import proofs.«01_k».proof.Proof.Gen.GprepKIdeal.Value
public import proofs.«01_k».proof.Proof.Gen.GprepRIdeal.Run
public import proofs.«01_k».proof.Proof.Gen.GprepRIdeal.Read
public import Idealize.ShloMosaic.Lib.Pipeline.ValueKit.Geometry
public import Idealize.ShloMosaic.Lib.Pipeline.ValueKit.Tiles
public import proofs.«01_k».proof.Proof.Dots
public import proofs.«01_k».proof.Proof.Cols
public import proofs.«01_k».proof.Proof.Gate
public import Idealize.ShloMosaic.Lib.Pointwise

@[expose] public section

set_option maxRecDepth 16384

noncomputable section

namespace Cert.Proof.Gprep

open Cert.GprepKIdeal Cert.GprepKIdeal.Gen Idealize.ShloMosaic Idealize.ShloMosaic.TcCoe Idealize.SL.Sem Cert.GprepRIdeal.Read

variable (m : (ℓ : Loc nD τ sig) → Buf (Elt Ideal) ℓ) (ρ : Dev nD → PrngReg)

/-! ## Queries, keys and values -/

section Spec

variable (X : Vec Ideal S4096x1536 .f32) (W : Vec Ideal S4x1536 .f32)

/-- The row `n` before, or zero before the first. -/
def tap (n : ℕ) (r : Fin 4096) (j : Fin 1536) : EReal :=
  if n ≤ r.val then X (ix2 ⟨r.val - n, by have := r.isLt; omega⟩ j) else 0

/-- The convolution: four taps, the last on the row itself. -/
def conv (r : Fin 4096) (j : Fin 1536) : EReal :=
  tap X 3 r j * W (ix2 0 j) + tap X 2 r j * W (ix2 1 j) + tap X 1 r j * W (ix2 2 j) + X (ix2 r j) * W (ix2 3 j)

/-- The convolution after `x·σ(x)`. -/
def act (r : Fin 4096) (j : Fin 1536) : EReal := conv X W r j * Gate.sig (conv X W r j)

/-- Of the head that a lane is in, the lane `l`; the queries', keys' or values' lanes begin at `base`. -/
def head (base : ℕ) (hb : base ≤ 1024) (j : Fin 512) (l : Fin 128) : Fin 1536 :=
  ⟨base + j.val / 128 * 128 + l.val, by have := j.isLt; have := l.isLt; omega⟩

/-- A lane of the queries, keys or values. -/
def lane (base : ℕ) (hb : base ≤ 1024) (j : Fin 512) : Fin 1536 := ⟨base + j.val, by have := j.isLt; omega⟩

/-- One over the length of the head that a lane is in. -/
def scale (base : ℕ) (hb : base ≤ 1024) (r : Fin 4096) (j : Fin 512) : EReal :=
  Ideal.rsqrt (∑ l, act X W r (head base hb j l) * act X W r (head base hb j l) + Ideal.ofBits .f32 0x358637BD#32)

/-- The queries. -/
def Q (r : Fin 4096) (j : Fin 512) : EReal :=
  act X W r (lane 0 (by omega) j) * scale X W 0 (by omega) r j * Ideal.ofBits .f32 0x3DB504F3#32

/-- The keys. -/
def K (r : Fin 4096) (j : Fin 512) : EReal := act X W r (lane 512 (by omega) j) * scale X W 512 (by omega) r j

/-- The values. -/
def U (r : Fin 4096) (j : Fin 512) : EReal := act X W r (lane 1024 (by omega) j)

end Spec

/-! ## A head's block -/

/-- The eight rows before a block, zeros before the first. -/
def halo (b : BitVec 1) (p : Vec Ideal S8x128 .f32) : FVec Ideal S8x128 .f32 :=
  Scalar.select b (broadcast S8x128 (Scalar.ofBits .f32 0x00000000#32)) p

/-- The block's rows, `n` rows later. -/
def down (b : BitVec 1) (x : Vec Ideal S256x128 .f32) (p : Vec Ideal S8x128 .f32) (n : BitVec 32) : FVec Ideal S256x128 .f32 :=
  extractStridedSlice S256x128 ![8, 0] (dynamicRotate 0 n none
    (concatenate S264x128 0 [⟨S8x128, halo b p⟩, ⟨S256x128, x⟩] concatenates_S8x128_S256x128_S264x128_d0)
    rotates_S264x128_d0) slices_S264x128_o8_0_S256x128

/-- The block's convolution. -/
def taps (b : BitVec 1) (x : Vec Ideal S256x128 .f32) (p : Vec Ideal S8x128 .f32) (w0 w1 w2 w3 : Vec Ideal S1x128 .f32) :
    FVec Ideal S256x128 .f32 :=
  addf (addf (addf (mulf (down b x p 3#32) (broadcastTo S256x128 w0 broadcasts_S1x128_S256x128))
    (mulf (down b x p 2#32) (broadcastTo S256x128 w1 broadcasts_S1x128_S256x128)))
    (mulf (down b x p 1#32) (broadcastTo S256x128 w2 broadcasts_S1x128_S256x128)))
    (mulf x (broadcastTo S256x128 w3 broadcasts_S1x128_S256x128))

/-- Whether a block is the first. -/
abbrev first (i : grid0.Coords) : BitVec 1 := Scalar.cmpi .eq (BitVec.ofNat 32 (i 0).val) 0#32

theorem first_eq (t : Fin cfg0.N) : first (grid0.coords t) = if t.val = 0 then 1#1 else 0#1 := by
  have h : ∀ t : Fin grid0.N, first (grid0.coords t) = if t.val = 0 then 1#1 else 0#1 := by decide +kernel
  exact h t

/-- The row of the array that a block's row is. -/
def at_ (t : Fin cfg0.N) (p : Fin 256) : Fin 4096 :=
  ⟨t.val * 256 + p.val, by have h : t.val < 16 := t.isLt; have := p.isLt; omega⟩

section Block

variable (X : Vec Ideal S4096x1536 .f32) (W : Vec Ideal S4x1536 .f32) (t : Fin cfg0.N) (J : Fin 128 → Fin 1536)
  (x : Vec Ideal S256x128 .f32) (p : Vec Ideal S8x128 .f32) (w0 w1 w2 w3 : Vec Ideal S1x128 .f32)
  (hx : ∀ y, x y = X (ix2 (at_ t (y 0)) (J (y 1))))
  (hp : ∀ y, t.val ≠ 0 → p y = X (ix2 ⟨t.val * 256 - 8 + (y 0).val, by
    have h : t.val < 16 := t.isLt; have h' : (y 0).val < 8 := (y 0).isLt; omega⟩ (J (y 1))))
  (h0 : ∀ y, w0 y = W (ix2 0 (J (y 1)))) (h1 : ∀ y, w1 y = W (ix2 1 (J (y 1))))
  (h2 : ∀ y, w2 y = W (ix2 2 (J (y 1)))) (h3 : ∀ y, w3 y = W (ix2 3 (J (y 1))))

include hx hp in
theorem pick (n : ℕ) (hn : n < 8) (y : S256x128.Idx) (k : ℕ) (hk : k = 8 + (y 0).val - n) (k8 : k < 8 → k < 8) (k256 : ¬ k < 8 → k - 8 < 256) :
    (if h : k < 8 then Scalar.select (first (grid0.coords t)) (0 : EReal) (p (ix2 ⟨k, k8 h⟩ (y 1)))
      else x (ix2 ⟨k - 8, k256 h⟩ (y 1)) : EReal) = tap X n (at_ t (y 0)) (J (y 1)) := by
  have ht : t.val < 16 := t.isLt
  have hy : (y 0).val < 256 := (y 0).isLt
  unfold tap
  have ev : (at_ t (y 0)).val = t.val * 256 + (y 0).val := rfl
  by_cases h : k < 8
  · rw [dif_pos h, first_eq]
    by_cases hz : t.val = 0
    · rw [if_pos hz, if_neg (by omega)]
      rfl
    · rw [if_neg hz, if_pos (by omega)]
      refine (hp (ix2 ⟨k, k8 h⟩ (y 1)) hz).trans (congrArg X (congrArg (fun r => ix2 r (J (y 1))) (Fin.ext ?_)))
      show t.val * 256 - 8 + k = t.val * 256 + (y 0).val - n
      omega
  · rw [dif_neg h, if_pos (by omega)]
    refine (hx (ix2 ⟨k - 8, k256 h⟩ (y 1))).trans (congrArg X (congrArg (fun r => ix2 r (J (y 1))) (Fin.ext ?_)))
    show t.val * 256 + (k - 8) = t.val * 256 + (y 0).val - n
    omega

include hx hp in
theorem down1 (y : S256x128.Idx) : down (first (grid0.coords t)) x p 1#32 y = tap X 1 (at_ t (y 0)) (J (y 1)) := by
  have hy : (y 0).val < 256 := (y 0).isLt
  pointwise [down, halo]
  exact pick X t J x p hx hp 1 (by omega) y ((8 + (y 0).val + 264 - 1) % 264) (by omega) id (by omega)

include hx hp in
theorem down2 (y : S256x128.Idx) : down (first (grid0.coords t)) x p 2#32 y = tap X 2 (at_ t (y 0)) (J (y 1)) := by
  have hy : (y 0).val < 256 := (y 0).isLt
  pointwise [down, halo]
  exact pick X t J x p hx hp 2 (by omega) y ((8 + (y 0).val + 264 - 2) % 264) (by omega) id (by omega)

include hx hp in
theorem down3 (y : S256x128.Idx) : down (first (grid0.coords t)) x p 3#32 y = tap X 3 (at_ t (y 0)) (J (y 1)) := by
  have hy : (y 0).val < 256 := (y 0).isLt
  pointwise [down, halo]
  exact pick X t J x p hx hp 3 (by omega) y ((8 + (y 0).val + 264 - 3) % 264) (by omega) id (by omega)

include hx hp h0 h1 h2 h3 in
theorem taps_eq (y : S256x128.Idx) :
    taps (first (grid0.coords t)) x p w0 w1 w2 w3 y = conv X W (at_ t (y 0)) (J (y 1)) := by
  pointwise [taps]
  rw [down1 X t J x p hx hp, down2 X t J x p hx hp, down3 X t J x p hx hp, hx, h0, h1, h2, h3]
  rfl

end Block

/-- The head's rows after `x·σ(x)`. -/
theorem pay13 (g : FVec Ideal S256x128 .f32) (y : S256x128.Idx) :
    k0_pay13 (F := Ideal) g y = (g y * Gate.sig (g y) : EReal) := by
  pointwise [k0_pay13]
  rw [Gate.half_word, Gate.gate]

/-- The head's rows after `x·σ(x)`, at unit length. -/
theorem pay12 (g : FVec Ideal S256x128 .f32) (y : S256x128.Idx) :
    k0_pay12 (F := Ideal) g y = (g y * Gate.sig (g y) * Ideal.rsqrt (∑ l : Fin 128, g (ix2 (y 0) l) * Gate.sig (g (ix2 (y 0) l))
      * (g (ix2 (y 0) l) * Gate.sig (g (ix2 (y 0) l))) + Ideal.ofBits .f32 0x358637BD#32) : EReal) := by
  pointwise [k0_pay12]
  simp only [Gate.half_word, Gate.gate]

theorem pay11 (g : FVec Ideal S256x128 .f32) (y : S256x128.Idx) :
    k0_pay11 (F := Ideal) g y = (g y * Gate.sig (g y) * Ideal.rsqrt (∑ l : Fin 128, g (ix2 (y 0) l) * Gate.sig (g (ix2 (y 0) l))
      * (g (ix2 (y 0) l) * Gate.sig (g (ix2 (y 0) l))) + Ideal.ofBits .f32 0x358637BD#32) * Ideal.ofBits .f32 0x3DB504F3#32 : EReal) := by
  pointwise [k0_pay11]
  simp only [Gate.half_word, Gate.gate]

/-! ## The run -/

/-- The blocks each point of the grid reads and writes. -/
theorem idx : ∀ t : Fin grid0.N, (win0_0.index t 0 = t.val ∧ win0_0.index t 1 = 0)
    ∧ ((t.val ≠ 0 → win0_1.index t 0 = t.val * 32 - 1) ∧ win0_1.index t 1 = 0) ∧ (win0_2.index t 0 = 0 ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) := by decide +kernel

/-- A load of some rows and some lanes. -/
theorem ld {H N h n : ℕ} (a o : ℕ) (f : (⟨2, ![H, N]⟩ : Shape).Idx → EReal)
    (inb : ∀ b, (![a, o] : Fin 2 → ℕ) b + (![h, n] : Fin 2 → ℕ) b ≤ (⟨2, ![H, N]⟩ : Shape).size b)
    (y : (⟨2, ![h, n]⟩ : Shape).Idx) (i : (⟨2, ![H, N]⟩ : Shape).Idx) (h0 : (i 0).val = a + (y 0).val) (h1 : (i 1).val = o + (y 1).val) :
    f ((Rect.unit (s := ⟨2, ![H, N]⟩) ![a, o] ![h, n] inb).emb y) = f i := by
  refine congrArg f (Dots.ext2 ?_ ?_)
  · show a + 1 * (y 0).val = (i 0).val
    omega
  · show o + 1 * (y 1).val = (i 1).val
    omega

section Run

variable (c : Dev nD)

/-- The projected rows. -/
abbrev Xs : Vec Ideal S4096x1536 .f32 := m ((c : Thread nD τ).loc main_arg0)

/-- The convolution's taps. -/
abbrev Ws : Vec Ideal S4x1536 .f32 := m ((c : Thread nD τ).loc main_arg1)

theorem blk_x (t : Fin cfg0.N) (y : S256x1536.Idx) : iblk m c 0 t y = Xs m c (ix2 (at_ t (y 0)) (y 1)) := by
  have e := idx t
  refine congrArg (Xs m c) (Dots.ext2 ?_ ?_)
  · show _ = t.val * 256 + (y 0).val
    blk_simp [e]
  · blk_simp [e]

theorem blk_p (t : Fin cfg0.N) (ht : t.val ≠ 0) (y : S8x1536.Idx) : iblk m c 1 t y = Xs m c (ix2 ⟨t.val * 256 - 8 + (y 0).val, by
    have h : t.val < 16 := t.isLt; have h' : (y 0).val < 8 := (y 0).isLt; omega⟩ (y 1)) := by
  have e := idx t
  have e1 := e.2.1.1 ht
  refine congrArg (Xs m c) (Dots.ext2 ?_ ?_)
  · show _ = t.val * 256 - 8 + (y 0).val
    blk_simp [e, e1]
    omega
  · blk_simp [e]

theorem blk_w (t : Fin cfg0.N) (y : S4x1536.Idx) : iblk m c 2 t y = Ws m c y := by
  have e := idx t
  refine congrArg (Ws m c) (Dots.ext2 ?_ ?_)
  · blk_simp [e]
  · blk_simp [e]

/-- A head's convolution is the array's. -/
theorem conv_block (t : Fin cfg0.N) (o : ℕ) (ho : o + 128 ≤ 1536)
    (ix : ∀ b, (![0, o] : Fin 2 → ℕ) b + S256x128.size b ≤ S256x1536.size b)
    (ip : ∀ b, (![0, o] : Fin 2 → ℕ) b + S8x128.size b ≤ S8x1536.size b)
    (i0 : ∀ b, (![0, o] : Fin 2 → ℕ) b + S1x128.size b ≤ S4x1536.size b)
    (i1 : ∀ b, (![1, o] : Fin 2 → ℕ) b + S1x128.size b ≤ S4x1536.size b)
    (i2 : ∀ b, (![2, o] : Fin 2 → ℕ) b + S1x128.size b ≤ S4x1536.size b)
    (i3 : ∀ b, (![3, o] : Fin 2 → ℕ) b + S1x128.size b ≤ S4x1536.size b) (y : S256x128.Idx) :
    taps (first (grid0.coords t)) (View.ld (iblk m c 0 t) (Rect.unit (s := S256x1536) ![0, o] S256x128.size ix))
        (View.ld (iblk m c 1 t) (Rect.unit (s := S8x1536) ![0, o] S8x128.size ip))
        (View.ld (iblk m c 2 t) (Rect.unit (s := S4x1536) ![0, o] S1x128.size i0))
        (View.ld (iblk m c 2 t) (Rect.unit (s := S4x1536) ![1, o] S1x128.size i1))
        (View.ld (iblk m c 2 t) (Rect.unit (s := S4x1536) ![2, o] S1x128.size i2))
        (View.ld (iblk m c 2 t) (Rect.unit (s := S4x1536) ![3, o] S1x128.size i3)) y
      = conv (Xs m c) (Ws m c) (at_ t (y 0)) ⟨o + (y 1).val, by have h : (y 1).val < 128 := (y 1).isLt; omega⟩ := by
  refine taps_eq (Xs m c) (Ws m c) t (fun l => ⟨o + l.val, by have := l.isLt; omega⟩) _ _ _ _ _ _ (fun y => ?_) (fun y ht => ?_)
    (fun y => ?_) (fun y => ?_) (fun y => ?_) (fun y => ?_) y
  · refine (ld 0 o (iblk m c 0 t) ix y (ix2 (y 0) ⟨o + (y 1).val, by have h : (y 1).val < 128 := (y 1).isLt; omega⟩)
      (Nat.zero_add _).symm rfl).trans ?_
    exact blk_x m c t _
  · refine (ld 0 o (iblk m c 1 t) ip y (ix2 (y 0) ⟨o + (y 1).val, by have h : (y 1).val < 128 := (y 1).isLt; omega⟩)
      (Nat.zero_add _).symm rfl).trans ?_
    exact blk_p m c t ht _
  · refine (ld 0 o (iblk m c 2 t) i0 y (ix2 0 ⟨o + (y 1).val, by have h : (y 1).val < 128 := (y 1).isLt; omega⟩)
      (by have h : (y 0).val < 1 := (y 0).isLt; show 0 = 0 + (y 0).val; omega) rfl).trans ?_
    exact blk_w m c t _
  · refine (ld 1 o (iblk m c 2 t) i1 y (ix2 1 ⟨o + (y 1).val, by have h : (y 1).val < 128 := (y 1).isLt; omega⟩)
      (by have h : (y 0).val < 1 := (y 0).isLt; show 1 = 1 + (y 0).val; omega) rfl).trans ?_
    exact blk_w m c t _
  · refine (ld 2 o (iblk m c 2 t) i2 y (ix2 2 ⟨o + (y 1).val, by have h : (y 1).val < 128 := (y 1).isLt; omega⟩)
      (by have h : (y 0).val < 1 := (y 0).isLt; show 2 = 2 + (y 0).val; omega) rfl).trans ?_
    exact blk_w m c t _
  · refine (ld 3 o (iblk m c 2 t) i3 y (ix2 3 ⟨o + (y 1).val, by have h : (y 1).val < 128 := (y 1).isLt; omega⟩)
      (by have h : (y 0).val < 1 := (y 0).isLt; show 3 = 3 + (y 0).val; omega) rfl).trans ?_
    exact blk_w m c t _

/-- A load of the rows, of the rows before, or of one tap, in a head's lanes. -/
abbrev ldx (t : Fin cfg0.N) (o : ℕ) (h : ∀ b, (![0, o] : Fin 2 → ℕ) b + S256x128.size b ≤ S256x1536.size b) :=
  View.ld (iblk m c 0 t) (Rect.unit (s := S256x1536) ![0, o] S256x128.size h)
abbrev ldp (t : Fin cfg0.N) (o : ℕ) (h : ∀ b, (![0, o] : Fin 2 → ℕ) b + S8x128.size b ≤ S8x1536.size b) :=
  View.ld (iblk m c 1 t) (Rect.unit (s := S8x1536) ![0, o] S8x128.size h)
abbrev ldw (t : Fin cfg0.N) (n o : ℕ) (h : ∀ b, (![n, o] : Fin 2 → ℕ) b + S1x128.size b ≤ S4x1536.size b) :=
  View.ld (iblk m c 2 t) (Rect.unit (s := S4x1536) ![n, o] S1x128.size h)

theorem piece_q (t : Fin cfg0.N) (o o' : ℕ) (ho : o = 0 + o') (h128 : o' % 128 = 0) (h512 : o' + 128 ≤ 512)
    (ix : ∀ b, (![0, o] : Fin 2 → ℕ) b + S256x128.size b ≤ S256x1536.size b)
    (ip : ∀ b, (![0, o] : Fin 2 → ℕ) b + S8x128.size b ≤ S8x1536.size b)
    (i0 : ∀ b, (![0, o] : Fin 2 → ℕ) b + S1x128.size b ≤ S4x1536.size b)
    (i1 : ∀ b, (![1, o] : Fin 2 → ℕ) b + S1x128.size b ≤ S4x1536.size b)
    (i2 : ∀ b, (![2, o] : Fin 2 → ℕ) b + S1x128.size b ≤ S4x1536.size b)
    (i3 : ∀ b, (![3, o] : Fin 2 → ℕ) b + S1x128.size b ≤ S4x1536.size b)
    (io : ∀ b, (![0, o'] : Fin 2 → ℕ) b + S256x128.size b ≤ S256x512.size b) (y : S256x128.Idx) :
    k0_pay11 (F := Ideal) (taps (first (grid0.coords t)) (ldx m c t o ix) (ldp m c t o ip) (ldw m c t 0 o i0) (ldw m c t 1 o i1)
        (ldw m c t 2 o i2) (ldw m c t 3 o i3)) y
      = (fun z : S256x512.Idx => Q (Xs m c) (Ws m c) (at_ t (z 0)) (z 1))
          ((Rect.unit (s := S256x512) ![0, o'] S256x128.size io).emb y) := by
  have hy : (y 1).val < 128 := (y 1).isLt
  have e : (Rect.unit (s := S256x512) ![0, o'] S256x128.size io).emb y = ix2 (y 0) ⟨o' + (y 1).val, by omega⟩ := Cols.emb_at o' io y
  rw [e, pay11]
  simp only [conv_block m c t o (by omega) ix ip i0 i1 i2 i3]
  show _ = Q (Xs m c) (Ws m c) (at_ t (y 0)) ⟨o' + (y 1).val, by omega⟩
  unfold Q scale act
  have e1 : lane 0 (by omega) ⟨o' + (y 1).val, by omega⟩ = (⟨o + (y 1).val, by omega⟩ : Fin 1536) :=
    Fin.ext (show 0 + (o' + (y 1).val) = o + (y 1).val by omega)
  have e2 : ∀ l : Fin 128, head 0 (by omega) ⟨o' + (y 1).val, by omega⟩ l
      = (⟨o + l.val, by have := l.isLt; omega⟩ : Fin 1536) := fun l =>
    Fin.ext (show 0 + (o' + (y 1).val) / 128 * 128 + l.val = o + l.val by omega)
  simp only [e1, e2]
  rfl

theorem piece_k (t : Fin cfg0.N) (o o' : ℕ) (ho : o = 512 + o') (h128 : o' % 128 = 0) (h512 : o' + 128 ≤ 512)
    (ix : ∀ b, (![0, o] : Fin 2 → ℕ) b + S256x128.size b ≤ S256x1536.size b)
    (ip : ∀ b, (![0, o] : Fin 2 → ℕ) b + S8x128.size b ≤ S8x1536.size b)
    (i0 : ∀ b, (![0, o] : Fin 2 → ℕ) b + S1x128.size b ≤ S4x1536.size b)
    (i1 : ∀ b, (![1, o] : Fin 2 → ℕ) b + S1x128.size b ≤ S4x1536.size b)
    (i2 : ∀ b, (![2, o] : Fin 2 → ℕ) b + S1x128.size b ≤ S4x1536.size b)
    (i3 : ∀ b, (![3, o] : Fin 2 → ℕ) b + S1x128.size b ≤ S4x1536.size b)
    (io : ∀ b, (![0, o'] : Fin 2 → ℕ) b + S256x128.size b ≤ S256x512.size b) (y : S256x128.Idx) :
    k0_pay12 (F := Ideal) (taps (first (grid0.coords t)) (ldx m c t o ix) (ldp m c t o ip) (ldw m c t 0 o i0) (ldw m c t 1 o i1)
        (ldw m c t 2 o i2) (ldw m c t 3 o i3)) y
      = (fun z : S256x512.Idx => K (Xs m c) (Ws m c) (at_ t (z 0)) (z 1))
          ((Rect.unit (s := S256x512) ![0, o'] S256x128.size io).emb y) := by
  have hy : (y 1).val < 128 := (y 1).isLt
  have e : (Rect.unit (s := S256x512) ![0, o'] S256x128.size io).emb y = ix2 (y 0) ⟨o' + (y 1).val, by omega⟩ := Cols.emb_at o' io y
  rw [e, pay12]
  simp only [conv_block m c t o (by omega) ix ip i0 i1 i2 i3]
  show _ = K (Xs m c) (Ws m c) (at_ t (y 0)) ⟨o' + (y 1).val, by omega⟩
  unfold K scale act
  have e1 : lane 512 (by omega) ⟨o' + (y 1).val, by omega⟩ = (⟨o + (y 1).val, by omega⟩ : Fin 1536) :=
    Fin.ext (show 512 + (o' + (y 1).val) = o + (y 1).val by omega)
  have e2 : ∀ l : Fin 128, head 512 (by omega) ⟨o' + (y 1).val, by omega⟩ l
      = (⟨o + l.val, by have := l.isLt; omega⟩ : Fin 1536) := fun l =>
    Fin.ext (show 512 + (o' + (y 1).val) / 128 * 128 + l.val = o + l.val by omega)
  simp only [e1, e2]
  rfl

theorem piece_v (t : Fin cfg0.N) (o o' : ℕ) (ho : o = 1024 + o') (h128 : o' % 128 = 0) (h512 : o' + 128 ≤ 512)
    (ix : ∀ b, (![0, o] : Fin 2 → ℕ) b + S256x128.size b ≤ S256x1536.size b)
    (ip : ∀ b, (![0, o] : Fin 2 → ℕ) b + S8x128.size b ≤ S8x1536.size b)
    (i0 : ∀ b, (![0, o] : Fin 2 → ℕ) b + S1x128.size b ≤ S4x1536.size b)
    (i1 : ∀ b, (![1, o] : Fin 2 → ℕ) b + S1x128.size b ≤ S4x1536.size b)
    (i2 : ∀ b, (![2, o] : Fin 2 → ℕ) b + S1x128.size b ≤ S4x1536.size b)
    (i3 : ∀ b, (![3, o] : Fin 2 → ℕ) b + S1x128.size b ≤ S4x1536.size b)
    (io : ∀ b, (![0, o'] : Fin 2 → ℕ) b + S256x128.size b ≤ S256x512.size b) (y : S256x128.Idx) :
    k0_pay13 (F := Ideal) (taps (first (grid0.coords t)) (ldx m c t o ix) (ldp m c t o ip) (ldw m c t 0 o i0) (ldw m c t 1 o i1)
        (ldw m c t 2 o i2) (ldw m c t 3 o i3)) y
      = (fun z : S256x512.Idx => U (Xs m c) (Ws m c) (at_ t (z 0)) (z 1))
          ((Rect.unit (s := S256x512) ![0, o'] S256x128.size io).emb y) := by
  have hy : (y 1).val < 128 := (y 1).isLt
  have e : (Rect.unit (s := S256x512) ![0, o'] S256x128.size io).emb y = ix2 (y 0) ⟨o' + (y 1).val, by omega⟩ := Cols.emb_at o' io y
  rw [e, pay13]
  simp only [conv_block m c t o (by omega) ix ip i0 i1 i2 i3]
  show _ = U (Xs m c) (Ws m c) (at_ t (y 0)) ⟨o' + (y 1).val, by omega⟩
  unfold U act
  have e1 : lane 1024 (by omega) ⟨o' + (y 1).val, by omega⟩ = (⟨o + (y 1).val, by omega⟩ : Fin 1536) :=
    Fin.ext (show 1024 + (o' + (y 1).val) = o + (y 1).val by omega)
  rw [e1]

theorem out_q (t : Fin cfg0.N) (y : S256x512.Idx) :
    out0_3 (F := Ideal) (grid0.coords t) (iblk m c 0 t) (iblk m c 1 t) (iblk m c 2 t) y
      = Q (Xs m c) (Ws m c) (at_ t (y 0)) (y 1) := by
  unfold_out out0_3
  refine View.canon_apply_of_pieces (Val := Elt Ideal) (e := .f32) (fun z : S256x512.Idx => Q (Xs m c) (Ws m c) (at_ t (z 0)) (z 1)) _ (fun p hp x => ?_) y
    (cover0_3 _ _ _ _ y)
  simp only [List.mem_cons, List.mem_nil_iff, or_false] at hp
  rcases hp with rfl | rfl | rfl | rfl
  · exact piece_q m c t 384 384 rfl rfl (by omega) _ _ _ _ _ _ (by decide) x
  · exact piece_q m c t 256 256 rfl rfl (by omega) _ _ _ _ _ _ (by decide) x
  · exact piece_q m c t 128 128 rfl rfl (by omega) _ _ _ _ _ _ (by decide) x
  · exact piece_q m c t 0 0 rfl rfl (by omega) _ _ _ _ _ _ (by decide) x

theorem out_k (t : Fin cfg0.N) (y : S256x512.Idx) :
    out0_4 (F := Ideal) (grid0.coords t) (iblk m c 0 t) (iblk m c 1 t) (iblk m c 2 t) y
      = K (Xs m c) (Ws m c) (at_ t (y 0)) (y 1) := by
  unfold_out out0_4
  refine View.canon_apply_of_pieces (Val := Elt Ideal) (e := .f32) (fun z : S256x512.Idx => K (Xs m c) (Ws m c) (at_ t (z 0)) (z 1)) _ (fun p hp x => ?_) y
    (cover0_4 _ _ _ _ y)
  simp only [List.mem_cons, List.mem_nil_iff, or_false] at hp
  rcases hp with rfl | rfl | rfl | rfl
  · exact piece_k m c t 896 384 rfl rfl (by omega) _ _ _ _ _ _ (by decide) x
  · exact piece_k m c t 768 256 rfl rfl (by omega) _ _ _ _ _ _ (by decide) x
  · exact piece_k m c t 640 128 rfl rfl (by omega) _ _ _ _ _ _ (by decide) x
  · exact piece_k m c t 512 0 rfl rfl (by omega) _ _ _ _ _ _ (by decide) x

theorem out_v (t : Fin cfg0.N) (y : S256x512.Idx) :
    out0_5 (F := Ideal) (grid0.coords t) (iblk m c 0 t) (iblk m c 1 t) (iblk m c 2 t) y
      = U (Xs m c) (Ws m c) (at_ t (y 0)) (y 1) := by
  unfold_out out0_5
  refine View.canon_apply_of_pieces (Val := Elt Ideal) (e := .f32) (fun z : S256x512.Idx => U (Xs m c) (Ws m c) (at_ t (z 0)) (z 1)) _ (fun p hp x => ?_) y
    (cover0_5 _ _ _ _ y)
  simp only [List.mem_cons, List.mem_nil_iff, or_false] at hp
  rcases hp with rfl | rfl | rfl | rfl
  · exact piece_v m c t 1408 384 rfl rfl (by omega) _ _ _ _ _ _ (by decide) x
  · exact piece_v m c t 1280 256 rfl rfl (by omega) _ _ _ _ _ _ (by decide) x
  · exact piece_v m c t 1152 128 rfl rfl (by omega) _ _ _ _ _ _ (by decide) x
  · exact piece_v m c t 1024 0 rfl rfl (by omega) _ _ _ _ _ _ (by decide) x

theorem final_q : (dats m 0 c).arrAt 3 cfg0.N = fun i => Q (Xs m c) (Ws m c) (i 0) (i 1) := by
  refine (dats m 0 c).arrAt_eq_of_covers 3 _ (by decide +kernel) fun t hf y => ?_
  have e := idx t
  blk_simp
  rw [after0_3, out_q m c t y]
  have h0 : at_ t (y 0) = (((cfg0.win 3).blk t).view.emb y) 0 := by
    apply Fin.ext
    show t.val * 256 + (y 0).val = ((win0_3.blk t).view.emb y 0).val
    blk_simp [e]
  have h1 : (y 1 : Fin 512) = (((cfg0.win 3).blk t).view.emb y) 1 := by
    apply Fin.ext
    show (y 1).val = ((win0_3.blk t).view.emb y 1).val
    blk_simp [e]
  rw [h0, h1]

theorem final_k : (dats m 0 c).arrAt 4 cfg0.N = fun i => K (Xs m c) (Ws m c) (i 0) (i 1) := by
  refine (dats m 0 c).arrAt_eq_of_covers 4 _ (by decide +kernel) fun t hf y => ?_
  have e := idx t
  blk_simp
  rw [after0_4, out_k m c t y]
  have h0 : at_ t (y 0) = (((cfg0.win 4).blk t).view.emb y) 0 := by
    apply Fin.ext
    show t.val * 256 + (y 0).val = ((win0_4.blk t).view.emb y 0).val
    blk_simp [e]
  have h1 : (y 1 : Fin 512) = (((cfg0.win 4).blk t).view.emb y) 1 := by
    apply Fin.ext
    show (y 1).val = ((win0_4.blk t).view.emb y 1).val
    blk_simp [e]
  rw [h0, h1]

theorem final_v : (dats m 0 c).arrAt 5 cfg0.N = fun i => U (Xs m c) (Ws m c) (i 0) (i 1) := by
  refine (dats m 0 c).arrAt_eq_of_covers 5 _ (by decide +kernel) fun t hf y => ?_
  have e := idx t
  blk_simp
  rw [after0_5, out_v m c t y]
  have h0 : at_ t (y 0) = (((cfg0.win 5).blk t).view.emb y) 0 := by
    apply Fin.ext
    show t.val * 256 + (y 0).val = ((win0_5.blk t).view.emb y 0).val
    blk_simp [e]
  have h1 : (y 1 : Fin 512) = (((cfg0.win 5).blk t).view.emb y) 1 := by
    apply Fin.ext
    show (y 1).val = ((win0_5.blk t).view.emb y 1).val
    blk_simp [e]
  rw [h0, h1]

end Run

/-! ## The reference -/

section Reference

variable (X : Vec Ideal S4096x1536 .f32) (W : Vec Ideal S4x1536 .f32)

theorem zero_word : FloatOps.sitofp (F := Ideal) FTy.f32 0#32 = (0 : EReal) := by
  show ((((0#32 : BitVec 32).toInt : ℤ) : ℝ) : EReal) = 0
  simp

theorem eta2 {M N : ℕ} (i : (⟨2, ![M, N]⟩ : Shape).Idx) : i = ix2 (i 0) (i 1) := Dots.ext2 rfl rfl

theorem pad_tap (r : Fin 4096) (j : Fin 1536) (n k : ℕ) (hk : k + n = r.val + 3) (h : 3 ≤ k ∧ k - 3 < 4096 → k - 3 < 4096) :
    (if h' : 3 ≤ k ∧ k - 3 < 4096 then X (ix2 ⟨k - 3, h h'⟩ j) else FloatOps.sitofp (F := Ideal) FTy.f32 0#32 : EReal) = tap X n r j := by
  have hr := r.isLt
  unfold tap
  by_cases hn : n ≤ r.val
  · rw [dif_pos (by omega), if_pos hn]
    exact congrArg X (congrArg (fun q => ix2 q j) (Fin.ext (show k - 3 = r.val - n by omega)))
  · rw [dif_neg (by omega), if_neg hn]
    exact zero_word

theorem ref_conv (i : S4096x1536.Idx) : val_main_v27 (F := Ideal) X W i = conv X W (i 0) (i 1) := by
  pointwise [
    val_main_c, val_main_call0_v0, val_main_v0,
    val_main_v1, val_main_v2, val_main_v3,
    val_main_v4, val_main_v5, val_main_v6,
    val_main_v7, val_main_v8, val_main_v9,
    val_main_v10, val_main_v11, val_main_v12,
    val_main_v13, val_main_v14, val_main_v15,
    val_main_v16, val_main_v17, val_main_v18,
    val_main_v19, val_main_v20, val_main_v21,
    val_main_v22, val_main_v23, val_main_v24,
    val_main_v25, val_main_v26, val_main_v27]
  rw [pad_tap X (i 0) (i 1) 3 (i 0).val (by omega), pad_tap X (i 0) (i 1) 2 (1 + (i 0).val) (by omega),
    pad_tap X (i 0) (i 1) 1 (2 + (i 0).val) (by omega)]
  exact congrArg (fun z => _ + X z * _) (eta2 i)

theorem ref_act (i : S4096x1536.Idx) : val_main_v28 (F := Ideal) X W i = act X W (i 0) (i 1) := by
  pointwise [
    val_main_call1_v0, val_main_call1_v1,
    val_main_call1_v2, val_main_call1_v3,
    val_main_call1_v4, val_main_call1_v5,
    val_main_call1_cst, val_main_call1_cst_0,
    val_main_v28]
  rw [ref_conv]
  rfl

theorem ref_q : val_main_v52 (F := Ideal) X W = fun i => Q X W (i 0) (i 1) := by
  funext i
  pointwise [
    val_main_v29, val_main_v32, val_main_v33,
    val_main_v34, val_main_v35, val_main_v36,
    val_main_v37, val_main_v38, val_main_v39,
    val_main_v40, val_main_v41, val_main_v42,
    val_main_cst, val_main_cst_0, val_main_cst_1,
    val_main_v52]
  simp only [ref_act]
  unfold Q scale
  have e1 : lane 0 (by omega) (i 1) = (⟨(i 1).val, by have h : (i 1).val < 512 := (i 1).isLt; omega⟩ : Fin 1536) :=
    Fin.ext (Nat.zero_add _)
  have e2 : ∀ l : Fin 128, head 0 (by omega) (i 1) l = (⟨(i 1).val / 128 * 128 + l.val, by
      have h : (i 1).val < 512 := (i 1).isLt; have := l.isLt; omega⟩ : Fin 1536) := fun l =>
    Fin.ext (congrArg (fun q => q + l.val) (Nat.zero_add _))
  simp only [e1, e2]
  rfl

theorem ref_k : val_main_v53 (F := Ideal) X W = fun i => K X W (i 0) (i 1) := by
  funext i
  pointwise [
    val_main_v30, val_main_v43, val_main_v44,
    val_main_v45, val_main_v46, val_main_v47,
    val_main_v48, val_main_v49, val_main_v50,
    val_main_v51, val_main_cst_2, val_main_cst_3,
    val_main_v53]
  simp only [ref_act]
  unfold K scale
  rfl

theorem ref_v : val_main_v31 (F := Ideal) X W = fun i => U X W (i 0) (i 1) := by
  funext i
  pointwise [ val_main_v31]
  rw [ref_act]
  rfl

end Reference

/-- The kernel and the reference agree over the extended reals. -/
theorem algebraic : Cert.algebraic_GprepKIdeal_GprepRIdeal := by
  intro m ρ m' ρ' _ hag
  refine ⟨fun c i => Q (Xs m c) (Ws m c) (i 0) (i 1), fun c i => K (Xs m c) (Ws m c) (i 0) (i 1),
    fun c i => U (Xs m c) (Ws m c) (i 0) (i 1), ?_, ?_⟩
  · exact (θ_run _ _ _).mono (fun r h c => ⟨(h c).1.trans (final_q m c), (h c).2.1.trans (final_k m c),
      (h c).2.2.1.trans (final_v m c), (h c).2.2.2⟩) (Value.run_blocks m ρ)
  · refine (θ_run _ _ _).mono (fun r h c => ⟨(h c).1.trans ?_, (h c).2.1.trans ?_, (h c).2.2.1.trans ?_, (h c).2.2.2⟩)
      (Cert.GprepRIdeal.Value.run m' ρ')
    · rw [val_main_v52_eq, (hag c).1, (hag c).2]
      exact ref_q _ _
    · rw [val_main_v53_eq, (hag c).1, (hag c).2]
      exact ref_k _ _
    · rw [val_main_v31_eq, (hag c).1, (hag c).2]
      exact ref_v _ _

end Cert.Proof.Gprep

end
-- ==== Proof.Fact.lean ====
/-
  What the feed-forward's second product reads: the projected rows through a causal convolution of three taps, and then
  `a·σ(a)·b` of the two halves.  The kernel takes 256 rows at a time with the eight before them, and 128 lanes of each half
  at a time; the textbook shifts the whole array, padded with two rows of zeros.
-/
module

public import proofs.«01_k».proof.Defs
public import proofs.«01_k».proof.Proof.Gen.FactKIdeal.Value
public import proofs.«01_k».proof.Proof.Gen.FactRIdeal.Run
public import proofs.«01_k».proof.Proof.Gen.FactRIdeal.Read
public import Idealize.ShloMosaic.Lib.Pipeline.ValueKit.Geometry
public import Idealize.ShloMosaic.Lib.Pipeline.ValueKit.Tiles
public import proofs.«01_k».proof.Proof.Dots
public import proofs.«01_k».proof.Proof.Cols
public import proofs.«01_k».proof.Proof.Gate
public import Idealize.ShloMosaic.Lib.Pointwise

@[expose] public section

set_option maxRecDepth 16384

noncomputable section

namespace Cert.Proof.Fact

open Cert.FactKIdeal Cert.FactKIdeal.Gen Idealize.ShloMosaic Idealize.ShloMosaic.TcCoe Idealize.SL.Sem

variable (m : (ℓ : Loc nD τ sig) → Buf (Elt Ideal) ℓ) (ρ : Dev nD → PrngReg)

/-! ## The gated product -/

section Spec

variable (X : Vec Ideal S4096x5632 .f32) (W : Vec Ideal S3x5632 .f32)

/-- The row `n` before, or zero before the first. -/
def tap (n : ℕ) (r : Fin 4096) (j : Fin 5632) : EReal :=
  if n ≤ r.val then X (ix2 ⟨r.val - n, by have := r.isLt; omega⟩ j) else 0

/-- The convolution: three taps, the last on the row itself. -/
def conv (r : Fin 4096) (j : Fin 5632) : EReal :=
  tap X 2 r j * W (ix2 0 j) + tap X 1 r j * W (ix2 1 j) + X (ix2 r j) * W (ix2 2 j)

/-- A lane of the first half, and the same lane of the second. -/
def lo (j : Fin 2816) : Fin 5632 := ⟨j.val, by have := j.isLt; omega⟩
def hi (j : Fin 2816) : Fin 5632 := ⟨2816 + j.val, by have := j.isLt; omega⟩

/-- The gated product. -/
def A (r : Fin 4096) (j : Fin 2816) : EReal :=
  conv X W r (lo j) * Gate.sig (conv X W r (lo j)) * conv X W r (hi j)

end Spec

/-! ## A strip's block -/

/-- The eight rows before a block, zeros before the first. -/
def halo (b : BitVec 1) (p : Vec Ideal S8x128 .f32) : FVec Ideal S8x128 .f32 :=
  Scalar.select b (broadcast S8x128 (Scalar.ofBits .f32 0x00000000#32)) p

/-- The block's rows, `n` rows later. -/
def down (b : BitVec 1) (x : Vec Ideal S256x128 .f32) (p : Vec Ideal S8x128 .f32) (n : BitVec 32) : FVec Ideal S256x128 .f32 :=
  extractStridedSlice S256x128 ![8, 0] (dynamicRotate 0 n none
    (concatenate S264x128 0 [⟨S8x128, halo b p⟩, ⟨S256x128, x⟩] concatenates_S8x128_S256x128_S264x128_d0)
    rotates_S264x128_d0) slices_S264x128_o8_0_S256x128

/-- The block's convolution. -/
def taps (b : BitVec 1) (x : Vec Ideal S256x128 .f32) (p : Vec Ideal S8x128 .f32) (w0 w1 w2 : Vec Ideal S1x128 .f32) :
    FVec Ideal S256x128 .f32 :=
  addf (addf (mulf (down b x p 2#32) (broadcastTo S256x128 w0 broadcasts_S1x128_S256x128))
    (mulf (down b x p 1#32) (broadcastTo S256x128 w1 broadcasts_S1x128_S256x128)))
    (mulf x (broadcastTo S256x128 w2 broadcasts_S1x128_S256x128))

/-- Whether a block is the first. -/
abbrev first (i : grid0.Coords) : BitVec 1 := Scalar.cmpi .eq (BitVec.ofNat 32 (i 0).val) 0#32

theorem first_eq (t : Fin cfg0.N) : first (grid0.coords t) = if t.val = 0 then 1#1 else 0#1 := by
  have h : ∀ t : Fin grid0.N, first (grid0.coords t) = if t.val = 0 then 1#1 else 0#1 := by decide +kernel
  exact h t

/-- The row of the array that a block's row is. -/
def at_ (t : Fin cfg0.N) (p : Fin 256) : Fin 4096 :=
  ⟨t.val * 256 + p.val, by have h : t.val < 16 := t.isLt; have := p.isLt; omega⟩

section Block

variable (X : Vec Ideal S4096x5632 .f32) (W : Vec Ideal S3x5632 .f32) (t : Fin cfg0.N) (J : Fin 128 → Fin 5632)
  (x : Vec Ideal S256x128 .f32) (p : Vec Ideal S8x128 .f32) (w0 w1 w2 : Vec Ideal S1x128 .f32)
  (hx : ∀ y, x y = X (ix2 (at_ t (y 0)) (J (y 1))))
  (hp : ∀ y, t.val ≠ 0 → p y = X (ix2 ⟨t.val * 256 - 8 + (y 0).val, by
    have h : t.val < 16 := t.isLt; have h' : (y 0).val < 8 := (y 0).isLt; omega⟩ (J (y 1))))
  (h0 : ∀ y, w0 y = W (ix2 0 (J (y 1)))) (h1 : ∀ y, w1 y = W (ix2 1 (J (y 1))))
  (h2 : ∀ y, w2 y = W (ix2 2 (J (y 1))))

include hx hp in
theorem pick (n : ℕ) (hn : n < 8) (y : S256x128.Idx) (k : ℕ) (hk : k = 8 + (y 0).val - n) (k8 : k < 8 → k < 8) (k256 : ¬ k < 8 → k - 8 < 256) :
    (if h : k < 8 then Scalar.select (first (grid0.coords t)) (0 : EReal) (p (ix2 ⟨k, k8 h⟩ (y 1)))
      else x (ix2 ⟨k - 8, k256 h⟩ (y 1)) : EReal) = tap X n (at_ t (y 0)) (J (y 1)) := by
  have ht : t.val < 16 := t.isLt
  have hy : (y 0).val < 256 := (y 0).isLt
  unfold tap
  have ev : (at_ t (y 0)).val = t.val * 256 + (y 0).val := rfl
  by_cases h : k < 8
  · rw [dif_pos h, first_eq]
    by_cases hz : t.val = 0
    · rw [if_pos hz, if_neg (by omega)]
      rfl
    · rw [if_neg hz, if_pos (by omega)]
      refine (hp (ix2 ⟨k, k8 h⟩ (y 1)) hz).trans (congrArg X (congrArg (fun r => ix2 r (J (y 1))) (Fin.ext ?_)))
      show t.val * 256 - 8 + k = t.val * 256 + (y 0).val - n
      omega
  · rw [dif_neg h, if_pos (by omega)]
    refine (hx (ix2 ⟨k - 8, k256 h⟩ (y 1))).trans (congrArg X (congrArg (fun r => ix2 r (J (y 1))) (Fin.ext ?_)))
    show t.val * 256 + (k - 8) = t.val * 256 + (y 0).val - n
    omega

include hx hp in
theorem down1 (y : S256x128.Idx) : down (first (grid0.coords t)) x p 1#32 y = tap X 1 (at_ t (y 0)) (J (y 1)) := by
  have hy : (y 0).val < 256 := (y 0).isLt
  pointwise [down, halo]
  exact pick X t J x p hx hp 1 (by omega) y ((8 + (y 0).val + 264 - 1) % 264) (by omega) id (by omega)

include hx hp in
theorem down2 (y : S256x128.Idx) : down (first (grid0.coords t)) x p 2#32 y = tap X 2 (at_ t (y 0)) (J (y 1)) := by
  have hy : (y 0).val < 256 := (y 0).isLt
  pointwise [down, halo]
  exact pick X t J x p hx hp 2 (by omega) y ((8 + (y 0).val + 264 - 2) % 264) (by omega) id (by omega)

include hx hp h0 h1 h2 in
theorem taps_eq (y : S256x128.Idx) :
    taps (first (grid0.coords t)) x p w0 w1 w2 y = conv X W (at_ t (y 0)) (J (y 1)) := by
  pointwise [taps]
  rw [down1 X t J x p hx hp, down2 X t J x p hx hp, hx, h0, h1, h2]
  rfl

end Block

/-- The two halves' rows, gated. -/
def gated (g u : FVec Ideal S256x128 .f32) : FVec Ideal S256x128 .bf16 :=
  truncf .bf16 (mulf (mulf g (addf (mulf (broadcast S256x128 (Scalar.ofBits .f32 0x3F000000#32))
    (tanh (mulf (broadcast S256x128 (Scalar.ofBits .f32 0x3F000000#32)) g)))
    (broadcast S256x128 (Scalar.ofBits .f32 0x3F000000#32)))) u) bitsLt_bf16_f32

theorem gated_at (g u : FVec Ideal S256x128 .f32) (y : S256x128.Idx) :
    gated g u y = (g y * Gate.sig (g y) * u y : EReal) := by
  pointwise [gated]
  rw [Gate.half_word, Gate.gate]

/-! ## The run -/

/-- The blocks each point of the grid reads and writes. -/
theorem idx : ∀ t : Fin grid0.N, (win0_0.index t 0 = t.val ∧ win0_0.index t 1 = 0)
    ∧ ((t.val ≠ 0 → win0_1.index t 0 = t.val * 32 - 1) ∧ win0_1.index t 1 = 0) ∧ (win0_2.index t 0 = 0 ∧ win0_2.index t 1 = 0)
    ∧ (win0_3.index t 0 = t.val ∧ win0_3.index t 1 = 0) := by decide +kernel

/-- A load of some rows and some lanes. -/
theorem ld {H N h n : ℕ} (a o : ℕ) (f : (⟨2, ![H, N]⟩ : Shape).Idx → EReal)
    (inb : ∀ b, (![a, o] : Fin 2 → ℕ) b + (![h, n] : Fin 2 → ℕ) b ≤ (⟨2, ![H, N]⟩ : Shape).size b)
    (y : (⟨2, ![h, n]⟩ : Shape).Idx) (i : (⟨2, ![H, N]⟩ : Shape).Idx) (h0 : (i 0).val = a + (y 0).val) (h1 : (i 1).val = o + (y 1).val) :
    f ((Rect.unit (s := ⟨2, ![H, N]⟩) ![a, o] ![h, n] inb).emb y) = f i := by
  refine congrArg f (Dots.ext2 ?_ ?_)
  · show a + 1 * (y 0).val = (i 0).val
    omega
  · show o + 1 * (y 1).val = (i 1).val
    omega

section Run

variable (c : Dev nD)

/-- The projected rows. -/
abbrev Xs : Vec Ideal S4096x5632 .f32 := m ((c : Thread nD τ).loc main_arg0)

/-- The convolution's taps. -/
abbrev Ws : Vec Ideal S3x5632 .f32 := m ((c : Thread nD τ).loc main_arg1)

theorem blk_x (t : Fin cfg0.N) (y : S256x5632.Idx) : iblk m c 0 t y = Xs m c (ix2 (at_ t (y 0)) (y 1)) := by
  have e := idx t
  refine congrArg (Xs m c) (Dots.ext2 ?_ ?_)
  · show _ = t.val * 256 + (y 0).val
    blk_simp [e]
  · blk_simp [e]

theorem blk_p (t : Fin cfg0.N) (ht : t.val ≠ 0) (y : S8x5632.Idx) : iblk m c 1 t y = Xs m c (ix2 ⟨t.val * 256 - 8 + (y 0).val, by
    have h : t.val < 16 := t.isLt; have h' : (y 0).val < 8 := (y 0).isLt; omega⟩ (y 1)) := by
  have e := idx t
  have e1 := e.2.1.1 ht
  refine congrArg (Xs m c) (Dots.ext2 ?_ ?_)
  · show _ = t.val * 256 - 8 + (y 0).val
    blk_simp [e, e1]
    omega
  · blk_simp [e]

theorem blk_w (t : Fin cfg0.N) (y : S3x5632.Idx) : iblk m c 2 t y = Ws m c y := by
  have e := idx t
  refine congrArg (Ws m c) (Dots.ext2 ?_ ?_)
  · blk_simp [e]
  · blk_simp [e]

/-- A head's convolution is the array's. -/
theorem conv_block (t : Fin cfg0.N) (o : ℕ) (ho : o + 128 ≤ 5632)
    (ix : ∀ b, (![0, o] : Fin 2 → ℕ) b + S256x128.size b ≤ S256x5632.size b)
    (ip : ∀ b, (![0, o] : Fin 2 → ℕ) b + S8x128.size b ≤ S8x5632.size b)
    (i0 : ∀ b, (![0, o] : Fin 2 → ℕ) b + S1x128.size b ≤ S3x5632.size b)
    (i1 : ∀ b, (![1, o] : Fin 2 → ℕ) b + S1x128.size b ≤ S3x5632.size b)
    (i2 : ∀ b, (![2, o] : Fin 2 → ℕ) b + S1x128.size b ≤ S3x5632.size b) (y : S256x128.Idx) :
    taps (first (grid0.coords t)) (View.ld (iblk m c 0 t) (Rect.unit (s := S256x5632) ![0, o] S256x128.size ix))
        (View.ld (iblk m c 1 t) (Rect.unit (s := S8x5632) ![0, o] S8x128.size ip))
        (View.ld (iblk m c 2 t) (Rect.unit (s := S3x5632) ![0, o] S1x128.size i0))
        (View.ld (iblk m c 2 t) (Rect.unit (s := S3x5632) ![1, o] S1x128.size i1))
        (View.ld (iblk m c 2 t) (Rect.unit (s := S3x5632) ![2, o] S1x128.size i2)) y
      = conv (Xs m c) (Ws m c) (at_ t (y 0)) ⟨o + (y 1).val, by have h : (y 1).val < 128 := (y 1).isLt; omega⟩ := by
  refine taps_eq (Xs m c) (Ws m c) t (fun l => ⟨o + l.val, by have := l.isLt; omega⟩) _ _ _ _ _ (fun y => ?_) (fun y ht => ?_)
    (fun y => ?_) (fun y => ?_) (fun y => ?_) y
  · refine (ld 0 o (iblk m c 0 t) ix y (ix2 (y 0) ⟨o + (y 1).val, by have h : (y 1).val < 128 := (y 1).isLt; omega⟩)
      (Nat.zero_add _).symm rfl).trans ?_
    exact blk_x m c t _
  · refine (ld 0 o (iblk m c 1 t) ip y (ix2 (y 0) ⟨o + (y 1).val, by have h : (y 1).val < 128 := (y 1).isLt; omega⟩)
      (Nat.zero_add _).symm rfl).trans ?_
    exact blk_p m c t ht _
  · refine (ld 0 o (iblk m c 2 t) i0 y (ix2 0 ⟨o + (y 1).val, by have h : (y 1).val < 128 := (y 1).isLt; omega⟩)
      (by have h : (y 0).val < 1 := (y 0).isLt; show 0 = 0 + (y 0).val; omega) rfl).trans ?_
    exact blk_w m c t _
  · refine (ld 1 o (iblk m c 2 t) i1 y (ix2 1 ⟨o + (y 1).val, by have h : (y 1).val < 128 := (y 1).isLt; omega⟩)
      (by have h : (y 0).val < 1 := (y 0).isLt; show 1 = 1 + (y 0).val; omega) rfl).trans ?_
    exact blk_w m c t _
  · refine (ld 2 o (iblk m c 2 t) i2 y (ix2 2 ⟨o + (y 1).val, by have h : (y 1).val < 128 := (y 1).isLt; omega⟩)
      (by have h : (y 0).val < 1 := (y 0).isLt; show 2 = 2 + (y 0).val; omega) rfl).trans ?_
    exact blk_w m c t _

/-- A load of the rows, of the rows before, or of one tap, in a head's lanes. -/
abbrev ldx (t : Fin cfg0.N) (o : ℕ) (h : ∀ b, (![0, o] : Fin 2 → ℕ) b + S256x128.size b ≤ S256x5632.size b) :=
  View.ld (iblk m c 0 t) (Rect.unit (s := S256x5632) ![0, o] S256x128.size h)
abbrev ldp (t : Fin cfg0.N) (o : ℕ) (h : ∀ b, (![0, o] : Fin 2 → ℕ) b + S8x128.size b ≤ S8x5632.size b) :=
  View.ld (iblk m c 1 t) (Rect.unit (s := S8x5632) ![0, o] S8x128.size h)
abbrev ldw (t : Fin cfg0.N) (n o : ℕ) (h : ∀ b, (![n, o] : Fin 2 → ℕ) b + S1x128.size b ≤ S3x5632.size b) :=
  View.ld (iblk m c 2 t) (Rect.unit (s := S3x5632) ![n, o] S1x128.size h)

theorem piece (t : Fin cfg0.N) (o o' : ℕ) (ho : o' = 2816 + o) (h : o + 128 ≤ 2816)
    (ix : ∀ b, (![0, o] : Fin 2 → ℕ) b + S256x128.size b ≤ S256x5632.size b)
    (ip : ∀ b, (![0, o] : Fin 2 → ℕ) b + S8x128.size b ≤ S8x5632.size b)
    (i0 : ∀ b, (![0, o] : Fin 2 → ℕ) b + S1x128.size b ≤ S3x5632.size b)
    (i1 : ∀ b, (![1, o] : Fin 2 → ℕ) b + S1x128.size b ≤ S3x5632.size b)
    (i2 : ∀ b, (![2, o] : Fin 2 → ℕ) b + S1x128.size b ≤ S3x5632.size b)
    (ix' : ∀ b, (![0, o'] : Fin 2 → ℕ) b + S256x128.size b ≤ S256x5632.size b)
    (ip' : ∀ b, (![0, o'] : Fin 2 → ℕ) b + S8x128.size b ≤ S8x5632.size b)
    (i0' : ∀ b, (![0, o'] : Fin 2 → ℕ) b + S1x128.size b ≤ S3x5632.size b)
    (i1' : ∀ b, (![1, o'] : Fin 2 → ℕ) b + S1x128.size b ≤ S3x5632.size b)
    (i2' : ∀ b, (![2, o'] : Fin 2 → ℕ) b + S1x128.size b ≤ S3x5632.size b)
    (io : ∀ b, (![0, o] : Fin 2 → ℕ) b + S256x128.size b ≤ S256x2816.size b) (y : S256x128.Idx) :
    gated (taps (first (grid0.coords t)) (ldx m c t o ix) (ldp m c t o ip) (ldw m c t 0 o i0)
        (ldw m c t 1 o i1) (ldw m c t 2 o i2))
        (taps (first (grid0.coords t)) (ldx m c t o' ix') (ldp m c t o' ip') (ldw m c t 0 o' i0')
        (ldw m c t 1 o' i1') (ldw m c t 2 o' i2')) y
      = (fun z : S256x2816.Idx => A (Xs m c) (Ws m c) (at_ t (z 0)) (z 1))
          ((Rect.unit (s := S256x2816) ![0, o] S256x128.size io).emb y) := by
  have hy : (y 1).val < 128 := (y 1).isLt
  have e : (Rect.unit (s := S256x2816) ![0, o] S256x128.size io).emb y = ix2 (y 0) ⟨o + (y 1).val, by omega⟩ := Cols.emb_at o io y
  rw [e, gated_at, conv_block m c t o (by omega) ix ip i0 i1 i2, conv_block m c t o' (by omega) ix' ip' i0' i1' i2']
  show _ = A (Xs m c) (Ws m c) (at_ t (y 0)) ⟨o + (y 1).val, by omega⟩
  unfold A
  have e1 : (⟨o' + (y 1).val, by omega⟩ : Fin 5632) = hi ⟨o + (y 1).val, by omega⟩ :=
    Fin.ext (show o' + (y 1).val = 2816 + (o + (y 1).val) by omega)
  rw [e1]
  rfl

theorem out (t : Fin cfg0.N) (y : S256x2816.Idx) :
    out0_3 (F := Ideal) (grid0.coords t) (iblk m c 0 t) (iblk m c 1 t) (iblk m c 2 t) y
      = A (Xs m c) (Ws m c) (at_ t (y 0)) (y 1) := by
  unfold_out out0_3
  refine View.canon_apply_of_pieces (Val := Elt Ideal) (e := .bf16) (fun z : S256x2816.Idx => A (Xs m c) (Ws m c) (at_ t (z 0)) (z 1)) _
    (fun p hp x => ?_) y (cover0_3 _ _ _ _ _ _ _ _ _ _ _ _ _ _ _ _ _ _ _ _ _ _ y)
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl
  · exact piece m c t 2688 5504 rfl (by omega) _ _ _ _ _ _ _ _ _ _ (by decide) x
  · exact piece m c t 2560 5376 rfl (by omega) _ _ _ _ _ _ _ _ _ _ (by decide) x
  · exact piece m c t 2432 5248 rfl (by omega) _ _ _ _ _ _ _ _ _ _ (by decide) x
  · exact piece m c t 2304 5120 rfl (by omega) _ _ _ _ _ _ _ _ _ _ (by decide) x
  · exact piece m c t 2176 4992 rfl (by omega) _ _ _ _ _ _ _ _ _ _ (by decide) x
  · exact piece m c t 2048 4864 rfl (by omega) _ _ _ _ _ _ _ _ _ _ (by decide) x
  · exact piece m c t 1920 4736 rfl (by omega) _ _ _ _ _ _ _ _ _ _ (by decide) x
  · exact piece m c t 1792 4608 rfl (by omega) _ _ _ _ _ _ _ _ _ _ (by decide) x
  · exact piece m c t 1664 4480 rfl (by omega) _ _ _ _ _ _ _ _ _ _ (by decide) x
  · exact piece m c t 1536 4352 rfl (by omega) _ _ _ _ _ _ _ _ _ _ (by decide) x
  · exact piece m c t 1408 4224 rfl (by omega) _ _ _ _ _ _ _ _ _ _ (by decide) x
  · exact piece m c t 1280 4096 rfl (by omega) _ _ _ _ _ _ _ _ _ _ (by decide) x
  · exact piece m c t 1152 3968 rfl (by omega) _ _ _ _ _ _ _ _ _ _ (by decide) x
  · exact piece m c t 1024 3840 rfl (by omega) _ _ _ _ _ _ _ _ _ _ (by decide) x
  · exact piece m c t 896 3712 rfl (by omega) _ _ _ _ _ _ _ _ _ _ (by decide) x
  · exact piece m c t 768 3584 rfl (by omega) _ _ _ _ _ _ _ _ _ _ (by decide) x
  · exact piece m c t 640 3456 rfl (by omega) _ _ _ _ _ _ _ _ _ _ (by decide) x
  · exact piece m c t 512 3328 rfl (by omega) _ _ _ _ _ _ _ _ _ _ (by decide) x
  · exact piece m c t 384 3200 rfl (by omega) _ _ _ _ _ _ _ _ _ _ (by decide) x
  · exact piece m c t 256 3072 rfl (by omega) _ _ _ _ _ _ _ _ _ _ (by decide) x
  · exact piece m c t 128 2944 rfl (by omega) _ _ _ _ _ _ _ _ _ _ (by decide) x
  · exact piece m c t 0 2816 rfl (by omega) _ _ _ _ _ _ _ _ _ _ (by decide) x

theorem final : (dats m 0 c).arrAt 3 cfg0.N = fun i => A (Xs m c) (Ws m c) (i 0) (i 1) := by
  refine (dats m 0 c).arrAt_eq_of_covers 3 _ (by decide +kernel) fun t hf y => ?_
  have e := idx t
  blk_simp
  rw [after0_3, out m c t y]
  have h0 : at_ t (y 0) = (((cfg0.win 3).blk t).view.emb y) 0 := by
    apply Fin.ext
    show t.val * 256 + (y 0).val = ((win0_3.blk t).view.emb y 0).val
    blk_simp [e]
  have h1 : (y 1 : Fin 2816) = (((cfg0.win 3).blk t).view.emb y) 1 := by
    apply Fin.ext
    show (y 1).val = ((win0_3.blk t).view.emb y 1).val
    blk_simp [e]
  rw [h0, h1]

end Run

/-! ## The reference -/

section Reference

variable (X : Vec Ideal S4096x5632 .f32) (W : Vec Ideal S3x5632 .f32)

theorem zero_word : FloatOps.sitofp (F := Ideal) FTy.f32 0#32 = (0 : EReal) := by
  show ((((0#32 : BitVec 32).toInt : ℤ) : ℝ) : EReal) = 0
  simp

theorem eta2 {M N : ℕ} (i : (⟨2, ![M, N]⟩ : Shape).Idx) : i = ix2 (i 0) (i 1) := Dots.ext2 rfl rfl

theorem pad_tap (r : Fin 4096) (j : Fin 5632) (n k : ℕ) (hk : k + n = r.val + 2) (h : 2 ≤ k ∧ k - 2 < 4096 → k - 2 < 4096) :
    (if h' : 2 ≤ k ∧ k - 2 < 4096 then X (ix2 ⟨k - 2, h h'⟩ j) else FloatOps.sitofp (F := Ideal) FTy.f32 0#32 : EReal) = tap X n r j := by
  have hr := r.isLt
  unfold tap
  by_cases hn : n ≤ r.val
  · rw [dif_pos (by omega), if_pos hn]
    exact congrArg X (congrArg (fun q => ix2 q j) (Fin.ext (show k - 2 = r.val - n by omega)))
  · rw [dif_neg (by omega), if_neg hn]
    exact zero_word

theorem ref_conv (i : S4096x5632.Idx) : Cert.FactRIdeal.Read.val_main_v20 (F := Ideal) X W i = conv X W (i 0) (i 1) := by
  pointwise [
    Cert.FactRIdeal.Read.val_main_c, Cert.FactRIdeal.Read.val_main_call0_v0, Cert.FactRIdeal.Read.val_main_v0,
    Cert.FactRIdeal.Read.val_main_v1, Cert.FactRIdeal.Read.val_main_v2, Cert.FactRIdeal.Read.val_main_v3,
    Cert.FactRIdeal.Read.val_main_v4, Cert.FactRIdeal.Read.val_main_v5, Cert.FactRIdeal.Read.val_main_v6,
    Cert.FactRIdeal.Read.val_main_v7, Cert.FactRIdeal.Read.val_main_v8, Cert.FactRIdeal.Read.val_main_v9,
    Cert.FactRIdeal.Read.val_main_v10, Cert.FactRIdeal.Read.val_main_v11, Cert.FactRIdeal.Read.val_main_v12,
    Cert.FactRIdeal.Read.val_main_v13, Cert.FactRIdeal.Read.val_main_v14, Cert.FactRIdeal.Read.val_main_v15,
    Cert.FactRIdeal.Read.val_main_v16, Cert.FactRIdeal.Read.val_main_v17, Cert.FactRIdeal.Read.val_main_v18,
    Cert.FactRIdeal.Read.val_main_v19, Cert.FactRIdeal.Read.val_main_v20]
  unfold conv
  rw [pad_tap X (i 0) (i 1) 2 (i 0).val (by omega), pad_tap X (i 0) (i 1) 1 (1 + (i 0).val) (by omega)]
  exact congrArg (fun z => _ + X z * _) (eta2 i)

theorem ref_act : Cert.FactRIdeal.Read.val_main_v25 (F := Ideal) X W = fun i => A X W (i 0) (i 1) := by
  funext i
  pointwise [
    Cert.FactRIdeal.Read.val_main_call1_v0, Cert.FactRIdeal.Read.val_main_call1_v1,
    Cert.FactRIdeal.Read.val_main_call1_v2, Cert.FactRIdeal.Read.val_main_call1_v3,
    Cert.FactRIdeal.Read.val_main_call1_v4, Cert.FactRIdeal.Read.val_main_call1_v5,
    Cert.FactRIdeal.Read.val_main_call1_cst, Cert.FactRIdeal.Read.val_main_call1_cst_0,
    Cert.FactRIdeal.Read.val_main_v21, Cert.FactRIdeal.Read.val_main_v22, Cert.FactRIdeal.Read.val_main_v23,
    Cert.FactRIdeal.Read.val_main_v24, Cert.FactRIdeal.Read.val_main_v25]
  simp only [ref_conv]
  rfl

end Reference

/-- The kernel and the reference agree over the extended reals. -/
theorem algebraic : Cert.algebraic_FactKIdeal_FactRIdeal := by
  intro m ρ m' ρ' _ hag
  refine ⟨fun c i => A (Xs m c) (Ws m c) (i 0) (i 1), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.FactRIdeal.Value.run m' ρ')
    rw [Cert.FactRIdeal.Read.val_main_v25_eq, (hag c).1, (hag c).2]
    exact ref_act _ _

end Cert.Proof.Fact

end
-- ==== Proof.Dyb.lean ====
/-
  The gradient of the delta rule's output norm and gate, with the product that brings the gradient back to it.  A head is
  128 lanes wide.  The kernel sums over a head by a product with the matrix of ones of that head, once for the rounded
  number and once for what the rounding left, which is nothing over the reals; the textbook sums over the lanes.
-/
module

public import proofs.«01_k».proof.Defs
public import proofs.«01_k».proof.Proof.Gen.Pre_finite_dybin
public import proofs.«01_k».proof.Proof.Gen.DybKIdeal.Value
public import proofs.«01_k».proof.Proof.Gen.DybRIdeal.Run
public import proofs.«01_k».proof.Proof.Gen.DybRIdeal.Read
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Dots
public import proofs.«01_k».proof.Proof.Rows
public import proofs.«01_k».proof.Proof.Gate
public import proofs.«01_k».proof.Proof.Soft
public import proofs.«01_k».proof.Proof.Gdg
public import Idealize.ShloMosaic.Lib.Pointwise

@[expose] public section

set_option maxRecDepth 16384

noncomputable section

namespace Cert.Proof.Dyb

open Cert.DybKIdeal Cert.DybKIdeal.Gen Idealize.ShloMosaic Idealize.ShloMosaic.TcCoe Idealize.SL.Sem Cert.DybRIdeal.Read

variable (m : (ℓ : Loc nD τ sig) → Buf (Elt Ideal) ℓ) (ρ : Dev nD → PrngReg)

/-! ## The gradients of a row, over the reals -/

/-- Of the head that a lane is in, the lane `l`. -/
def lane (j : Fin 512) (l : Fin 128) : Fin 512 := ⟨j.val / 128 * 128 + l.val, by have := j.isLt; have := l.isLt; omega⟩

/-- The sum over the head that a lane is in. -/
def seg (f : Fin 512 → ℝ) (j : Fin 512) : ℝ := ∑ l : Fin 128, f (lane j l)

/-- The norm's small number. -/
def eps : ℝ := (Ideal.ofBits .f32 0x358637BD#32 : EReal).toReal

theorem eps_word : Ideal.ofBits .f32 0x358637BD#32 = ((eps : ℝ) : EReal) := by
  unfold eps
  simp [Ideal.ofBits, Ideal.ieee, -EReal.coe_mul]

theorem eps_pos : 0 < eps := by
  unfold eps
  simp [Ideal.ofBits, Ideal.ieee, -EReal.coe_mul]

/-- The mean square of a head, and the small number. -/
def ms (o : Fin 512 → ℝ) (j : Fin 512) : ℝ := seg (fun l => o l * o l) j * (1 / 128) + eps

theorem ms_pos (o : Fin 512 → ℝ) (j : Fin 512) : 0 < ms o j := by
  have h : 0 ≤ seg (fun l => o l * o l) j := Finset.sum_nonneg fun l _ => mul_self_nonneg _
  have := eps_pos
  unfold ms
  positivity

/-- One over the length of a head. -/
def inv (o : Fin 512 → ℝ) (j : Fin 512) : ℝ := (Real.sqrt (ms o j))⁻¹

/-- The gate. -/
def gate (z : Fin 512 → ℝ) (j : Fin 512) : ℝ := z j * Soft.slope (z j)

/-- The gradient that reaches the normalised head before its weight. -/
def into (z n g : Fin 512 → ℝ) (j : Fin 512) : ℝ := g j * gate z j * n j

/-- The norm's own gradient of a head: half of what every lane gets, per unit of the lane. -/
def inner (o z n g : Fin 512 → ℝ) (j : Fin 512) : ℝ :=
  seg (fun l => o l * into z n g l) j * (-(1 / 2) * (inv o j / ms o j)) * (1 / 128)

/-- The gradient of the recurrence's output. -/
def dO (o z n g : Fin 512 → ℝ) (j : Fin 512) : ℝ :=
  into z n g j * inv o j + o j * inner o z n g j + inner o z n g j * o j

/-- The gradient of the gate's input. -/
def dZ (o z n g : Fin 512 → ℝ) (j : Fin 512) : ℝ :=
  o j * inv o j * n j * g j * Soft.slope (z j)
    + z j * (o j * inv o j * n j * g j) * (Soft.slope (z j) * (1 - Soft.slope (z j)))

/-- What a row gives to the gradient of the weight. -/
def dN (o z g : Fin 512 → ℝ) (j : Fin 512) : ℝ := o j * inv o j * (g j * gate z j)

/-! ## Numbers -/

theorem half_neg_word : Ideal.ofBits .f32 0xBF000000#32 = ((-(1 / 2) : ℝ) : EReal) := by
  simp [Ideal.ofBits, Ideal.ieee, -EReal.coe_mul]
  norm_num

theorem part_word : Ideal.ofBits .f32 0x3C000000#32 = ((1 / 128 : ℝ) : EReal) := by
  simp [Ideal.ofBits, Ideal.ieee, -EReal.coe_mul]
  norm_num

theorem width_word : Ideal.ofBits .f32 0x43000000#32 = ((128 : ℝ) : EReal) := by
  simp [Ideal.ofBits, Ideal.ieee, -EReal.coe_mul]
  norm_num

theorem div_real (a b : ℝ) (hb : 0 < b) : Ideal.div (a : EReal) (b : EReal) = ((a / b : ℝ) : EReal) := by
  have h : Ideal.div (a : EReal) (b : EReal) = (a : EReal) * (b : EReal)⁻¹ := by simp [Ideal.div, hb.ne']
  rw [h, div_eq_mul_inv, EReal.coe_mul, EReal.coe_inv]

theorem rsqrt_real (a : ℝ) (ha : 0 < a) : Ideal.rsqrt (a : EReal) = (((Real.sqrt a)⁻¹ : ℝ) : EReal) := by
  rw [Ideal.rsqrt_coe, if_neg ha.le.not_gt, if_neg ha.ne']

/-! ## The sum over a head -/

/-- The head of a row of the matrix of ones, and of a column. -/
abbrev headRow : IVec S512x512 32 := k0_pay6

def headCol : IVec S512x512 32 :=
  select (andi (cmpi .ne (subi (extui 32 (cmpi .sgt (iota .tc S512x512 32 [1] iota_S512x512_d1_w32) (broadcast S512x512 0#32)) natLt_1_32)
      (extui 32 (cmpi .slt (iota .tc S512x512 32 [1] iota_S512x512_d1_w32) (broadcast S512x512 0#32)) natLt_1_32))
      (broadcast S512x512 (Scalar.subi (Scalar.extui (Scalar.cmpi .sgt 128#32 0#32)) (Scalar.extui (Scalar.cmpi .slt 128#32 0#32)))))
    (cmpi .ne (remsi (iota .tc S512x512 32 [1] iota_S512x512_d1_w32) (broadcast S512x512 128#32)) (broadcast S512x512 0#32)))
    (subi (divsi (iota .tc S512x512 32 [1] iota_S512x512_d1_w32) (broadcast S512x512 128#32)) (broadcast S512x512 1#32))
    (divsi (iota .tc S512x512 32 [1] iota_S512x512_d1_w32) (broadcast S512x512 128#32))

/-- The matrix of ones of every head. -/
def ones : FVec Ideal S512x512 .bf16 :=
  truncf .bf16 (sitofp .f32 (extui 32 (cmpi .eq headRow headCol) natLt_1_32) : FVec Ideal S512x512 .f32) bitsLt_bf16_f32

/-- The kernel's sum over a head. -/
def split (v : FVec Ideal S512x512 .f32) : FVec Ideal S512x512 .f32 :=
  addf (matmul dot_S512x512_S512x512_S512x512_1_0_0_1_n_n none (truncf .bf16 v bitsLt_bf16_f32) ones (constant S512x512 .f32 0x00000000#32))
    (matmul dot_S512x512_S512x512_S512x512_1_0_0_1_n_n none
      (truncf .bf16 (subf v (extf .f32 (truncf .bf16 v bitsLt_bf16_f32 : FVec Ideal S512x512 .bf16) bitsLt_bf16_f32)) bitsLt_bf16_f32) ones
      (constant S512x512 .f32 0x00000000#32))

theorem pay9_eq (v : FVec Ideal S512x512 .f32) :
    k0_pay9 (F := Ideal) v k0_pay6 (iota .tc S512x512 32 [1] iota_S512x512_d1_w32) 128#32 k0_pay7 k0_pay8
      = addf (mulf (split v) (broadcast S512x512 (Scalar.ofBits .f32 0x3C000000#32)))
          (broadcast S512x512 (Scalar.ofBits .f32 0x358637BD#32)) := rfl

theorem pay27_eq (o a v : FVec Ideal S512x512 .f32) :
    k0_pay27 (F := Ideal) o a v k0_pay23 k0_pay24 k0_pay25 k0_pay26 = addf (addf a (mulf o (split v))) (mulf (split v) o) := rfl

theorem headRow_at (y : S512x512.Idx) : headRow y = BitVec.ofNat 32 ((y 0).val / 128) := by
  pointwise [headRow, k0_pay6]
  generalize (y 0) = j
  revert j
  decide +kernel

theorem headCol_at (y : S512x512.Idx) : headCol y = BitVec.ofNat 32 ((y 1).val / 128) := by
  pointwise [headCol]
  generalize (y 1) = j
  revert j
  decide +kernel

theorem ones_at (y : S512x512.Idx) : ones y = if (y 0).val / 128 = (y 1).val / 128 then (1 : EReal) else 0 := by
  pointwise [ones]
  rw [headRow_at, headCol_at]
  have h : ∀ a b : Fin 4, BitVec.setWidth 32 (IntOp.cmpi CmpIPredicate.eq (BitVec.ofNat 32 a.val) (BitVec.ofNat 32 b.val))
      = if a.val = b.val then 1#32 else 0#32 := by decide
  have h0 : (y 0).val < 512 := (y 0).isLt
  have h1 : (y 1).val < 512 := (y 1).isLt
  rw [h ⟨(y 0).val / 128, by omega⟩ ⟨(y 1).val / 128, by omega⟩]
  split_ifs
  · show ((((1#32 : BitVec 32).toInt : ℤ) : ℝ) : EReal) = 1
    simp
  · show ((((0#32 : BitVec 32).toInt : ℤ) : ℝ) : EReal) = 0
    simp

/-- The product with a column of the matrix of ones is the sum over the head. -/
theorem sum_head (f : Fin 512 → ℝ) (j : Fin 512) :
    ∑ x : Fin 512, ((f x : ℝ) : EReal) * (if x.val / 128 = j.val / 128 then (1 : EReal) else 0) = ((seg f j : ℝ) : EReal) := by
  have h : ∀ x : Fin 512, ((f x : ℝ) : EReal) * (if x.val / 128 = j.val / 128 then (1 : EReal) else 0)
      = (((if x.val / 128 = j.val / 128 then f x else 0) : ℝ) : EReal) := by
    intro x
    split_ifs
    · rw [mul_one]
    · rw [mul_zero, EReal.coe_zero]
  rw [Finset.sum_congr (M := EReal) rfl fun x _ => h x, Gdg.sum_real]
  refine congrArg (fun z : ℝ => (z : EReal)) ?_
  rw [← Finset.sum_filter]
  unfold seg
  refine Finset.sum_nbij' (fun x => (⟨x.val % 128, Nat.mod_lt _ (by decide)⟩ : Fin 128)) (fun l => lane j l) ?_ ?_ ?_ ?_ ?_
  · intro x _
    exact Finset.mem_univ _
  · intro l _
    have := l.isLt
    refine Finset.mem_filter.mpr ⟨Finset.mem_univ _, ?_⟩
    show (j.val / 128 * 128 + l.val) / 128 = j.val / 128
    omega
  · intro x hx
    have := (Finset.mem_filter.mp hx).2
    apply Fin.ext
    show j.val / 128 * 128 + x.val % 128 = x.val
    omega
  · intro l _
    have := l.isLt
    apply Fin.ext
    show (j.val / 128 * 128 + l.val) % 128 = l.val
    omega
  · intro x hx
    have := (Finset.mem_filter.mp hx).2
    refine congrArg f (Fin.ext ?_)
    show x.val = j.val / 128 * 128 + x.val % 128
    omega

/-- The kernel's sum over a head is that sum, of real numbers. -/
theorem split_at (v : FVec Ideal S512x512 .f32) (f : Fin 512 → Fin 512 → ℝ)
    (hv : ∀ y, v y = ((f (y 0) (y 1) : ℝ) : EReal)) (y : S512x512.Idx) : split v y = ((seg (f (y 0)) (y 1) : ℝ) : EReal) := by
  unfold split
  pointwise
  have h1 : ∀ x : Fin 512, (v (ix2 (y 0) x) * ones (ix2 x (y 1)) : EReal)
      = ((f (y 0) x : ℝ) : EReal) * (if x.val / 128 = (y 1).val / 128 then (1 : EReal) else 0) := by
    intro x
    exact congrArg₂ (fun a b : EReal => a * b) (hv (ix2 (y 0) x)) (ones_at (ix2 x (y 1)))
  have h2 : ∀ x : Fin 512, ((v (ix2 (y 0) x) - v (ix2 (y 0) x)) * ones (ix2 x (y 1)) : EReal) = 0 := by
    intro x
    have e : v (ix2 (y 0) x) = ((f (y 0) x : ℝ) : EReal) := hv (ix2 (y 0) x)
    rw [e, ← EReal.coe_sub, sub_self, EReal.coe_zero, zero_mul]
  rw [Finset.sum_congr (M := EReal) rfl fun x _ => h1 x, Finset.sum_congr (M := EReal) rfl fun x _ => h2 x,
    Finset.sum_const_zero, add_zero]
  exact sum_head _ _

/-! ## What a block contributes -/

section Block

variable (o z g : Vec Ideal S512x512 .f32) (n : Vec Ideal S1x512 .f32)
  (O Z G : Fin 512 → Fin 512 → ℝ) (N : Fin 512 → ℝ)
  (ho : ∀ y, o y = ((O (y 0) (y 1) : ℝ) : EReal)) (hz : ∀ y, z y = ((Z (y 0) (y 1) : ℝ) : EReal))
  (hg : ∀ y, g y = ((G (y 0) (y 1) : ℝ) : EReal)) (hn : ∀ y, n y = ((N (y 1) : ℝ) : EReal))

/-- The column numbers of a block. -/
abbrev cols : IVec S512x512 32 := iota .tc S512x512 32 [1] iota_S512x512_d1_w32

include ho in
theorem pay9 (y : S512x512.Idx) :
    k0_pay9 (F := Ideal) (k0_pay5 o) k0_pay6 cols 128#32 k0_pay7 k0_pay8 y = ((ms (O (y 0)) (y 1) : ℝ) : EReal) := by
  rw [pay9_eq]
  pointwise
  rw [split_at (k0_pay5 o) (fun p j => O p j * O p j) (fun y => by pointwise [k0_pay5]; rw [ho, ← EReal.coe_mul]) y]
  rw [part_word, eps_word, ← EReal.coe_mul, ← EReal.coe_add]
  rfl

include ho in
theorem pay10 (y : S512x512.Idx) :
    k0_pay10 (F := Ideal) (k0_pay5 o) k0_pay6 cols 128#32 k0_pay7 k0_pay8 y = ((inv (O (y 0)) (y 1) : ℝ) : EReal) := by
  pointwise [k0_pay10]
  rw [pay9 o O ho y]
  exact rsqrt_real _ (ms_pos _ _)

include ho in
theorem pay11 (y : S512x512.Idx) :
    k0_pay11 (F := Ideal) (k0_pay5 o) k0_pay6 cols 128#32 k0_pay7 k0_pay8 y
      = ((-(1 / 2) * (inv (O (y 0)) (y 1) / ms (O (y 0)) (y 1)) : ℝ) : EReal) := by
  pointwise [k0_pay11]
  rw [pay9 o O ho y, pay10 o O ho y]
  exact (congrArg₂ (fun a b : EReal => a * b) half_neg_word (div_real _ _ (ms_pos _ _))).trans (EReal.coe_mul _ _).symm

include ho in
theorem pay12 (y : S512x512.Idx) :
    k0_pay12 (F := Ideal) o (k0_pay5 o) k0_pay6 cols 128#32 k0_pay7 k0_pay8 y
      = ((O (y 0) (y 1) * inv (O (y 0)) (y 1) : ℝ) : EReal) := by
  pointwise [k0_pay12]
  rw [pay10 o O ho y, ho, ← EReal.coe_mul]

include ho hn in
theorem pay13 (y : S512x512.Idx) :
    k0_pay13 (F := Ideal) o (k0_pay4 n) (k0_pay5 o) k0_pay6 cols 128#32 k0_pay7 k0_pay8 y
      = ((O (y 0) (y 1) * inv (O (y 0)) (y 1) * N (y 1) : ℝ) : EReal) := by
  pointwise [k0_pay13, k0_pay4]
  rw [pay12 o O ho y]
  have e : n (ix2 0 (y 1)) = ((N (y 1) : ℝ) : EReal) := hn _
  rw [e, ← EReal.coe_mul]

include hz in
theorem pay16 (y : S512x512.Idx) : k0_pay16 (F := Ideal) (k0_pay14 z) y = ((Soft.slope (Z (y 0) (y 1)) : ℝ) : EReal) := by
  pointwise [k0_pay16, k0_pay14]
  rw [Gate.half_word, hz, ← Gdg.sig_real]
  exact Gate.gate _

include hz hg in
theorem pay17 (y : S512x512.Idx) :
    k0_pay17 (F := Ideal) g z (k0_pay14 z) y = ((G (y 0) (y 1) * gate (Z (y 0)) (y 1) : ℝ) : EReal) := by
  pointwise [k0_pay17]
  rw [pay16 z Z hz y, hz, hg, ← EReal.coe_mul, ← EReal.coe_mul]
  rfl

include ho hz hg hn in
theorem pay18 (y : S512x512.Idx) :
    k0_pay18 (F := Ideal) g z (k0_pay13 o (k0_pay4 n) (k0_pay5 o) k0_pay6 cols 128#32 k0_pay7 k0_pay8) (k0_pay14 z) (k0_pay15 z)
        (Scalar.ofBits .f32 0x3F800000#32) y
      = ((dZ (O (y 0)) (Z (y 0)) N (G (y 0)) (y 1) : ℝ) : EReal) := by
  pointwise [k0_pay18, k0_pay15]
  have e14 : (k0_pay14 (F := Ideal) z y : EReal) = Ideal.tanh (Ideal.ofBits .f32 0x3F000000#32 * z y) := by
    pointwise [k0_pay14]
  rw [pay13 o n O N ho hn y, pay16 z Z hz y, e14, hz, hg, Gate.half_word]
  obtain ⟨t, ht, hs⟩ := Gate.real_gate ((Z (y 0) (y 1) : ℝ) : EReal)
  rw [Gdg.sig_real, EReal.coe_eq_coe_iff] at hs
  rw [ht, ← EReal.coe_one]
  simp only [← EReal.coe_add, ← EReal.coe_sub, ← EReal.coe_mul]
  congr 1
  unfold dZ
  rw [hs]
  ring

include ho hz hg in
theorem pay19 (y : S1x512.Idx) :
    k0_pay19 (F := Ideal) g z (k0_pay12 o (k0_pay5 o) k0_pay6 cols 128#32 k0_pay7 k0_pay8) (k0_pay14 z) y
      = ((∑ r : Fin 512, dN (O r) (Z r) (G r) (y 1) : ℝ) : EReal) := by
  pointwise [k0_pay19]
  simp only [pay17 z g Z G hz hg, pay12 o O ho, ← EReal.coe_mul]
  rw [Gdg.sum_real]
  rfl

include hz hg hn in
theorem pay20 (y : S512x512.Idx) :
    k0_pay20 (F := Ideal) g z (k0_pay4 n) (k0_pay14 z) y = ((into (Z (y 0)) N (G (y 0)) (y 1) : ℝ) : EReal) := by
  pointwise [k0_pay20, k0_pay4]
  rw [pay17 z g Z G hz hg y]
  have e : n (ix2 0 (y 1)) = ((N (y 1) : ℝ) : EReal) := hn _
  rw [e, ← EReal.coe_mul]
  rfl

include ho hz hg hn in
theorem pay21 (y : S512x512.Idx) :
    k0_pay21 (F := Ideal) g z (k0_pay4 n) (k0_pay10 (k0_pay5 o) k0_pay6 cols 128#32 k0_pay7 k0_pay8) (k0_pay14 z) y
      = ((into (Z (y 0)) N (G (y 0)) (y 1) * inv (O (y 0)) (y 1) : ℝ) : EReal) := by
  pointwise [k0_pay21]
  rw [pay20 z g n Z G N hz hg hn y, pay10 o O ho y, ← EReal.coe_mul]

theorem seg_lane (u : Fin 512 → ℝ) (j : Fin 512) (l : Fin 128) : seg u (lane j l) = seg u j := by
  have := l.isLt
  refine Finset.sum_congr rfl fun x _ => congrArg u (Fin.ext ?_)
  show (j.val / 128 * 128 + l.val) / 128 * 128 + x.val = j.val / 128 * 128 + x.val
  omega

theorem ms_lane (u : Fin 512 → ℝ) (j : Fin 512) (l : Fin 128) : ms u (lane j l) = ms u j := by
  unfold ms
  rw [seg_lane]

theorem inv_lane (u : Fin 512 → ℝ) (j : Fin 512) (l : Fin 128) : inv u (lane j l) = inv u j := by
  unfold inv
  rw [ms_lane]

include ho hz hg hn in
theorem pay22 (y : S512x512.Idx) :
    k0_pay22 (F := Ideal) g o z (k0_pay4 n) (k0_pay11 (k0_pay5 o) k0_pay6 cols 128#32 k0_pay7 k0_pay8) (k0_pay14 z) y
      = ((O (y 0) (y 1) * into (Z (y 0)) N (G (y 0)) (y 1) * (-(1 / 2) * (inv (O (y 0)) (y 1) / ms (O (y 0)) (y 1))) * (1 / 128)
          : ℝ) : EReal) := by
  pointwise [k0_pay22]
  rw [pay20 z g n Z G N hz hg hn y, pay11 o O ho y, ho, part_word, ← EReal.coe_mul, ← EReal.coe_mul, ← EReal.coe_mul]

theorem seg_inner (u v k f : Fin 512 → ℝ) (j : Fin 512) :
    seg (fun j => u j * into v k f j * (-(1 / 2) * (inv u j / ms u j)) * (1 / 128)) j = inner u v k f j := by
  unfold inner seg
  rw [Finset.sum_mul, Finset.sum_mul]
  refine Finset.sum_congr rfl fun l _ => ?_
  show u (lane j l) * into v k f (lane j l) * (-(1 / 2) * (inv u (lane j l) / ms u (lane j l))) * (1 / 128) = _
  rw [ms_lane, inv_lane]

include ho hz hg hn in
theorem pay27 (y : S512x512.Idx) :
    k0_pay27 (F := Ideal) o (k0_pay21 g z (k0_pay4 n) (k0_pay10 (k0_pay5 o) k0_pay6 cols 128#32 k0_pay7 k0_pay8) (k0_pay14 z))
        (k0_pay22 g o z (k0_pay4 n) (k0_pay11 (k0_pay5 o) k0_pay6 cols 128#32 k0_pay7 k0_pay8) (k0_pay14 z))
        k0_pay23 k0_pay24 k0_pay25 k0_pay26 y
      = ((dO (O (y 0)) (Z (y 0)) N (G (y 0)) (y 1) : ℝ) : EReal) := by
  rw [pay27_eq]
  pointwise
  rw [split_at _ (fun p j => O p j * into (Z p) N (G p) j * (-(1 / 2) * (inv (O p) j / ms (O p) j)) * (1 / 128)) (pay22 o z g n O Z G N ho hz hg hn) y, pay21 o z g n O Z G N ho hz hg hn y, ho]
  have h := seg_inner (O (y 0)) (Z (y 0)) N (G (y 0)) (y 1)
  rw [h, ← EReal.coe_mul, ← EReal.coe_mul, ← EReal.coe_add, ← EReal.coe_add]
  rfl

end Block

/-! ## The gradients, over the reals -/

/-- The gradient that the product brings back. -/
def back (A : Fin 4096 → Fin 1024 → ℝ) (B : Fin 512 → Fin 1024 → ℝ) (p : Fin 4096) (j : Fin 512) : ℝ :=
  ∑ k : Fin 1024, A p k * B j k

/-- The norm's weight on every lane: the same on every head. -/
def per (W : Fin 128 → ℝ) (j : Fin 512) : ℝ := W ⟨j.val % 128, Nat.mod_lt _ (by decide)⟩

section Spec

variable (A : Fin 4096 → Fin 1024 → ℝ) (B : Fin 512 → Fin 1024 → ℝ) (O Z : Fin 4096 → Fin 512 → ℝ) (W : Fin 128 → ℝ)

/-- The gradient of the recurrence's output. -/
def X : Vec Ideal S4096x512 .f32 :=
  fun i => ((dO (O (i 0)) (Z (i 0)) (per W) (back A B (i 0)) (i 1) : ℝ) : EReal)

/-- The gradient of the gate's input. -/
def Y : Vec Ideal S4096x512 .bf16 :=
  fun i => ((dZ (O (i 0)) (Z (i 0)) (per W) (back A B (i 0)) (i 1) : ℝ) : EReal)

/-- The gradient of the norm's weight, lane by lane. -/
def U : Vec Ideal S1x512 .f32 :=
  fun i => ((∑ r : Fin 4096, dN (O r) (Z r) (back A B r) (i 1) : ℝ) : EReal)

end Spec

/-! ## The run -/

/-- The transposed weight the host prepares. -/
theorem host_w (c : Dev nD) : V m c main_v4
    = transpose S1024x512 [1, 0] (m ((c : Thread nD τ).loc main_arg1)) transposes_S512x1024_S1024x512_1_0 := by
  show StableHlo.after hostOps0 (fun b => m (c, b)) main_v4 = _
  unfold hostOps0
  after_results

/-- The norm's weight as the kernel reads it: one row of lanes. -/
theorem host_n (c : Dev nD) : V m c main_v3
    = shapeCast S1x512 (broadcastInDim S1x1x4x128 ![0, 1, 2, 3] bcast_S1x1x1x128_S1x1x4x128_0_1_2_3
        (shapeCast S1x1x1x128 (shapeCast S1x128 (m ((c : Thread nD τ).loc main_arg4)) shapeCasts_S128_S1x128)
          shapeCasts_S1x128_S1x1x1x128)) shapeCasts_S1x1x4x128_S1x512 := by
  show StableHlo.after hostOps0 (fun b => m (c, b)) main_v3 = _
  unfold hostOps0
  after_results
  rfl

theorem tiled (v : Vec Ideal S128 .f32) (W : Fin 128 → ℝ) (hv : ∀ i, v i = ((W (i 0) : ℝ) : EReal)) (y : S1x512.Idx) :
    (shapeCast S1x512 (broadcastInDim S1x1x4x128 ![0, 1, 2, 3] bcast_S1x1x1x128_S1x1x4x128_0_1_2_3
        (shapeCast S1x1x1x128 (shapeCast S1x128 v shapeCasts_S128_S1x128)
          shapeCasts_S1x128_S1x1x1x128)) shapeCasts_S1x1x4x128_S1x512 : Vec Ideal S1x512 .f32) y
      = ((per W (y 1) : ℝ) : EReal) := by
  pointwise []
  exact hv _

/-- The blocks each point of the grid reads and writes. -/
theorem idx : ∀ t : Fin grid0.N, (win0_0.index t 0 = t.val ∧ win0_0.index t 1 = 0)
    ∧ (win0_1.index t 0 = 0 ∧ win0_1.index t 1 = 0) ∧ (win0_2.index t 0 = t.val ∧ win0_2.index t 1 = 0)
    ∧ (win0_3.index t 0 = t.val ∧ win0_3.index t 1 = 0) ∧ (win0_4.index t 0 = 0 ∧ win0_4.index t 1 = 0)
    ∧ (win0_5.index t 0 = t.val ∧ win0_5.index t 1 = 0) ∧ (win0_6.index t 0 = t.val ∧ win0_6.index t 1 = 0)
    ∧ (win0_7.index t 0 = 0 ∧ win0_7.index t 1 = 0) := by decide +kernel

/-- The row of the array that a block's row is. -/
def at_ (t : Fin cfg0.N) (p : Fin 512) : Fin 4096 :=
  ⟨t.val * 512 + p.val, by have h : t.val < 8 := t.isLt; have := p.isLt; omega⟩

section Run

variable (c : Dev nD) (A : Fin 4096 → Fin 1024 → ℝ) (B : Fin 512 → Fin 1024 → ℝ) (O Z : Fin 4096 → Fin 512 → ℝ) (W : Fin 128 → ℝ)
  (ha : ∀ i, m ((c : Thread nD τ).loc main_arg0) i = ((A (i 0) (i 1) : ℝ) : EReal))
  (hb : ∀ i, m ((c : Thread nD τ).loc main_arg1) i = ((B (i 0) (i 1) : ℝ) : EReal))
  (ho : ∀ i, m ((c : Thread nD τ).loc main_arg2) i = ((O (i 0) (i 1) : ℝ) : EReal))
  (hz : ∀ i, m ((c : Thread nD τ).loc main_arg3) i = ((Z (i 0) (i 1) : ℝ) : EReal))
  (hw : ∀ i, m ((c : Thread nD τ).loc main_arg4) i = ((W (i 0) : ℝ) : EReal))

include ha in
theorem blk_a (t : Fin cfg0.N) (y : S512x1024.Idx) : iblk m c 0 t y = ((A (at_ t (y 0)) (y 1) : ℝ) : EReal) := by
  have e := idx t
  show V m c main_arg0 _ = _
  rw [V_main_arg0, ha]
  refine congrArg (fun z : ℝ => (z : EReal)) (congrArg₂ A (Fin.ext ?_) (Fin.ext ?_))
  · show _ = t.val * 512 + (y 0).val
    blk_simp [e]
  · blk_simp [e]

include hb in
theorem blk_b (t : Fin cfg0.N) (y : S1024x512.Idx) : iblk m c 1 t y = ((B (y 1) (y 0) : ℝ) : EReal) := by
  have e := idx t
  show V m c main_v4 _ = _
  rw [host_w]
  refine (transpose_apply _ _ _ _ (ix2 (y 1) (y 0) : S512x1024.Idx) fun b => ?_).trans (hb _)
  match b with
  | ⟨0, _⟩ => blk_simp [e]; rfl
  | ⟨1, _⟩ => blk_simp [e]; rfl

include ho in
theorem blk_o (t : Fin cfg0.N) (y : S512x512.Idx) : iblk m c 2 t y = ((O (at_ t (y 0)) (y 1) : ℝ) : EReal) := by
  have e := idx t
  show V m c main_arg2 _ = _
  rw [V_main_arg2, ho]
  refine congrArg (fun z : ℝ => (z : EReal)) (congrArg₂ O (Fin.ext ?_) (Fin.ext ?_))
  · show _ = t.val * 512 + (y 0).val
    blk_simp [e]
  · blk_simp [e]

include hz in
theorem blk_z (t : Fin cfg0.N) (y : S512x512.Idx) : iblk m c 3 t y = ((Z (at_ t (y 0)) (y 1) : ℝ) : EReal) := by
  have e := idx t
  show V m c main_arg3 _ = _
  rw [V_main_arg3, hz]
  refine congrArg (fun z : ℝ => (z : EReal)) (congrArg₂ Z (Fin.ext ?_) (Fin.ext ?_))
  · show _ = t.val * 512 + (y 0).val
    blk_simp [e]
  · blk_simp [e]

include hw in
theorem blk_w (t : Fin cfg0.N) (y : S1x512.Idx) : iblk m c 4 t y = ((per W (y 1) : ℝ) : EReal) := by
  have e := idx t
  show V m c main_v3 _ = _
  rw [host_n, tiled _ W hw]
  exact congrArg (fun z : Fin 512 => ((per W z : ℝ) : EReal)) (Fin.ext (by blk_simp [e]))

include ha hb in
theorem blk_g (t : Fin cfg0.N) (y : S512x512.Idx) :
    k0_pay3 (F := Ideal) (iblk m c 0 t) (iblk m c 1 t) y = ((back A B (at_ t (y 0)) (y 1) : ℝ) : EReal) := by
  pointwise [k0_pay3]
  unfold back
  rw [← Gdg.sum_real]
  refine Finset.sum_congr (M := EReal) rfl fun k _ => ?_
  rw [EReal.coe_mul]
  exact congrArg₂ (fun a b : EReal => a * b) (blk_a m c A ha t (ix2 (y 0) k)) (blk_b m c B hb t (ix2 k (y 1)))

include ha hb ho hz hw in
/-- What a point writes into its block of the recurrence's gradient. -/
theorem out_x (t : Fin cfg0.N) (y : S512x512.Idx) : (outsAt0 m c t.val t.isLt).1 y
    = ((dO (O (at_ t (y 0))) (Z (at_ t (y 0))) (per W) (back A B (at_ t (y 0))) (y 1) : ℝ) : EReal) := by
  have q := pay27 (iblk m c 2 t) (iblk m c 3 t) (k0_pay3 (F := Ideal) (iblk m c 0 t) (iblk m c 1 t)) (iblk m c 4 t)
    (fun p => O (at_ t p)) (fun p => Z (at_ t p)) (fun p => back A B (at_ t p)) (per W) (blk_o m c O ho t) (blk_z m c Z hz t)
    (blk_g m c A B ha hb t) (blk_w m c W hw t) y
  by_cases h : t.val % 8 = 0
  · rw [outsAt0_A m c t h]
    frame_out
    exact q
  · rw [outsAt0_B m c t h]
    frame_out
    exact q

include ha hb ho hz hw in
/-- What a point writes into its block of the gate's gradient. -/
theorem out_y (t : Fin cfg0.N) (y : S512x512.Idx) : (outsAt0 m c t.val t.isLt).2.1 y
    = ((dZ (O (at_ t (y 0))) (Z (at_ t (y 0))) (per W) (back A B (at_ t (y 0))) (y 1) : ℝ) : EReal) := by
  have q := pay18 (iblk m c 2 t) (iblk m c 3 t) (k0_pay3 (F := Ideal) (iblk m c 0 t) (iblk m c 1 t)) (iblk m c 4 t)
    (fun p => O (at_ t p)) (fun p => Z (at_ t p)) (fun p => back A B (at_ t p)) (per W) (blk_o m c O ho t) (blk_z m c Z hz t)
    (blk_g m c A B ha hb t) (blk_w m c W hw t) y
  by_cases h : t.val % 8 = 0
  · rw [outsAt0_A m c t h]
    frame_out
    exact q
  · rw [outsAt0_B m c t h]
    frame_out
    exact q

/-- A block's part of the gradient of the norm's weight. -/
def part (A : Fin 4096 → Fin 1024 → ℝ) (B : Fin 512 → Fin 1024 → ℝ) (O Z : Fin 4096 → Fin 512 → ℝ) (t : Fin cfg0.N)
    (y : S1x512.Idx) : ℝ :=
  ∑ r : Fin 512, dN (O (at_ t r)) (Z (at_ t r)) (back A B (at_ t r)) (y 1)

include ha hb ho hz in
theorem add_part (t : Fin cfg0.N) (v : Vec Ideal S1x512 .f32) (y : S1x512.Idx) :
    k0_pay2 (F := Ideal) (k0_pay19 (k0_pay3 (iblk m c 0 t) (iblk m c 1 t)) (iblk m c 3 t)
        (k0_pay12 (iblk m c 2 t) (k0_pay5 (iblk m c 2 t)) k0_pay6 cols 128#32 k0_pay7 k0_pay8) (k0_pay14 (iblk m c 3 t))) v y
      = (v y + ((part A B O Z t y : ℝ) : EReal) : EReal) := by
  have q := pay19 (iblk m c 2 t) (iblk m c 3 t) (k0_pay3 (F := Ideal) (iblk m c 0 t) (iblk m c 1 t))
    (fun p => O (at_ t p)) (fun p => Z (at_ t p)) (fun p => back A B (at_ t p)) (blk_o m c O ho t) (blk_z m c Z hz t)
    (blk_g m c A B ha hb t) y
  pointwise [k0_pay2]
  exact congrArg (fun z : EReal => v y + z) q

theorem pay1 (y : S1x512.Idx) : k0_pay1 (F := Ideal) y = (0 : EReal) := by
  pointwise [k0_pay1]

include ha hb ho hz in
theorem run_u (t : Fin cfg0.N) (hr : t.val % 8 = 7) (y : S1x512.Idx) :
    (outsAt0 m c t.val t.isLt).2.2 y
      = (0 + ∑ s : Fin 8, ((part A B O Z ⟨8 * (t.val / 8) + s.val, Pipeline.run_point_lt_of_flush t hr s⟩ y : ℝ) : EReal) : EReal) := by
  refine Pipeline.eq_sum_fin_of_reset_step_apply_of_flush (M := EReal) (fun n h => (outsAt0 m c n h).2.2) 8 (fun _ => 0)
    (fun t y => ((part A B O Z t y : ℝ) : EReal)) (fun t h j => ?_) (fun t h j => ?_) t hr y
  · rw [outsAt0_A m c t h]
    frame_out
    refine (add_part m c A B O Z ha hb ho hz t _ j).trans ?_
    exact congrArg (fun z : EReal => z + _) (pay1 j)
  · rw [outsAt0_B m c t h]
    frame_out
    exact add_part m c A B O Z ha hb ho hz t _ j

include ha hb ho hz hw in
/-- The recurrence's gradient after the run. -/
theorem final_x : (dats m 0 c).arrAt 5 cfg0.N = X A B O Z W := by
  refine (dats m 0 c).arrAt_eq_of_covers 5 _ (by decide +kernel) fun t hf y => ?_
  have e := idx t
  blk_simp
  rw [after0_5, out_x m c A B O Z W ha hb ho hz hw t y]
  unfold X
  have h0 : at_ t (y 0) = (((cfg0.win 5).blk t).view.emb y) 0 := by
    apply Fin.ext
    show t.val * 512 + (y 0).val = ((win0_5.blk t).view.emb y 0).val
    blk_simp [e]
  have h1 : (y 1 : Fin 512) = (((cfg0.win 5).blk t).view.emb y) 1 := by
    apply Fin.ext
    show (y 1).val = ((win0_5.blk t).view.emb y 1).val
    blk_simp [e]
  rw [h0, h1]

include ha hb ho hz hw in
/-- The gate's gradient after the run. -/
theorem final_y : (dats m 0 c).arrAt 6 cfg0.N = Y A B O Z W := by
  refine (dats m 0 c).arrAt_eq_of_covers 6 _ (by decide +kernel) fun t hf y => ?_
  have e := idx t
  blk_simp
  rw [after0_6, out_y m c A B O Z W ha hb ho hz hw t y]
  unfold Y
  have h0 : at_ t (y 0) = (((cfg0.win 6).blk t).view.emb y) 0 := by
    apply Fin.ext
    show t.val * 512 + (y 0).val = ((win0_6.blk t).view.emb y 0).val
    blk_simp [e]
  have h1 : (y 1 : Fin 512) = (((cfg0.win 6).blk t).view.emb y) 1 := by
    apply Fin.ext
    show (y 1).val = ((win0_6.blk t).view.emb y 1).val
    blk_simp [e]
  rw [h0, h1]

/-- Eight blocks of 512 rows are all the rows. -/
theorem all_rows (f : Fin 4096 → ℝ) (t : Fin cfg0.N) (hr : t.val % 8 = 7) :
    ∑ s : Fin 8, ∑ r : Fin 512, f (at_ ⟨8 * (t.val / 8) + s.val, Pipeline.run_point_lt_of_flush t hr s⟩ r) = ∑ r, f r := by
  refine Fin.sum_mul_add_congr (M := ℝ) fun s k hl => congrArg f (Fin.ext ?_)
  have hs := s.isLt
  have ht : t.val < 8 := t.isLt
  show (8 * (t.val / 8) + s.val) * 512 + k.val = s.val * 512 + k.val
  omega

include ha hb ho hz in
/-- The gradient of the norm's weight after the run. -/
theorem final_u : (dats m 0 c).arrAt 7 cfg0.N = U A B O Z := by
  refine (dats m 0 c).arrAt_eq_of_covers 7 _ (by decide +kernel) fun t hf y => ?_
  have hr : t.val % 8 = 7 := (flush0_7 t).mp hf
  have e := idx t
  blk_simp
  rw [after0_7, run_u m c A B O Z ha hb ho hz t hr, zero_add, Gdg.sum_real]
  unfold U part
  have h1 : (y 1 : Fin 512) = (((cfg0.win 7).blk t).view.emb y) 1 := by
    apply Fin.ext
    show (y 1).val = ((win0_7.blk t).view.emb y 1).val
    blk_simp [e]
  rw [← h1]
  exact congrArg (fun z : ℝ => (z : EReal)) (all_rows (fun r => dN (O r) (Z r) (back A B r) (y 1)) t hr)

end Run

/-! ## The reference -/

/-- The lane of a head's lane. -/
def at3 (h : Fin 4) (l : Fin 128) : Fin 512 := ⟨h.val * 128 + l.val, by have := h.isLt; have := l.isLt; omega⟩

theorem lane_at3 (h : Fin 4) (k l : Fin 128) : lane (at3 h k) l = at3 h l := by
  have := k.isLt
  apply Fin.ext
  show (h.val * 128 + k.val) / 128 * 128 + l.val = h.val * 128 + l.val
  omega

theorem seg_at3 (f : Fin 512 → ℝ) (h : Fin 4) (k : Fin 128) : seg f (at3 h k) = ∑ l : Fin 128, f (at3 h l) := by
  unfold seg
  exact Finset.sum_congr rfl fun l _ => by rw [lane_at3]

theorem per_at3 (W : Fin 128 → ℝ) (h : Fin 4) (k : Fin 128) : per W (at3 h k) = W k := by
  have := k.isLt
  refine congrArg W (Fin.ext ?_)
  show (h.val * 128 + k.val) % 128 = k.val
  omega

theorem at3_eq (j : Fin 512) (h : j.val / 128 < 4) (h' : j.val % 128 < 128) : at3 ⟨j.val / 128, h⟩ ⟨j.val % 128, h'⟩ = j := by
  apply Fin.ext
  show j.val / 128 * 128 + j.val % 128 = j.val
  omega

theorem ms_at3 (u : Fin 512 → ℝ) (h : Fin 4) (k : Fin 128) :
    (∑ l : Fin 128, u (at3 h l) * u (at3 h l)) / 128 + eps = ms u (at3 h k) := by
  unfold ms
  rw [seg_at3, div_eq_mul_one_div]

theorem into_at3 (v f : Fin 512 → ℝ) (W : Fin 128 → ℝ) (h : Fin 4) (k : Fin 128) :
    f (at3 h k) * gate v (at3 h k) * W k = into v (per W) f (at3 h k) := by
  unfold into
  rw [per_at3]

theorem inner_at3 (u v n f : Fin 512 → ℝ) (h : Fin 4) (k : Fin 128) :
    (∑ l : Fin 128, u (at3 h l) * into v n f (at3 h l)) * (-(1 / 2) * (inv u (at3 h k) / ms u (at3 h k))) * (1 / 128)
      = inner u v n f (at3 h k) := by
  unfold inner
  rw [seg_at3]

section Reference

variable (a : Vec Ideal S4096x1024 .bf16) (b : Vec Ideal S512x1024 .bf16) (o z : Vec Ideal S4096x512 .f32)
  (w : Vec Ideal Cert.DybRIdeal.S128 .f32)
  (A : Fin 4096 → Fin 1024 → ℝ) (B : Fin 512 → Fin 1024 → ℝ) (O Z : Fin 4096 → Fin 512 → ℝ) (W : Fin 128 → ℝ)
  (ha : ∀ i, a i = ((A (i 0) (i 1) : ℝ) : EReal)) (hb : ∀ i, b i = ((B (i 0) (i 1) : ℝ) : EReal))
  (ho : ∀ i, o i = ((O (i 0) (i 1) : ℝ) : EReal)) (hz : ∀ i, z i = ((Z (i 0) (i 1) : ℝ) : EReal))
  (hw : ∀ i, w i = ((W (i 0) : ℝ) : EReal))

include ho in
theorem ref_ms (i : Cert.DybRIdeal.S4096x4x1.Idx) (k : Fin 128) :
    val_main_v15 (F := Ideal) o i = ((ms (O (i 0)) (at3 (i 1) k) : ℝ) : EReal) := by
  pointwise [val_main_v15, val_main_v14, val_main_cst_1,
    val_main_v13, val_main_v12, val_main_cst_0,
    val_main_v11, val_main_v10, val_main_cst,
    val_main_v9, val_main_v7]
  have h : ∀ l : Fin 128, (o (ix2 (i 0) (at3 (i 1) l)) * o (ix2 (i 0) (at3 (i 1) l)) : EReal)
      = ((O (i 0) (at3 (i 1) l) * O (i 0) (at3 (i 1) l) : ℝ) : EReal) := by
    intro l
    rw [EReal.coe_mul]
    exact congrArg₂ (fun a b : EReal => a * b) (ho _) (ho _)
  refine (congrArg (fun s : EReal => Ideal.div s _ + _)
    ((Finset.sum_congr (M := EReal) rfl fun l _ => h l).trans (Gdg.sum_real _))).trans ?_
  rw [width_word, eps_word, div_real _ _ (by norm_num), ← EReal.coe_add]
  exact congrArg (fun x : ℝ => (x : EReal)) (ms_at3 (O (i 0)) (i 1) k)

include ho in
theorem ref_rsqrt (i : Cert.DybRIdeal.S4096x4x1.Idx) (k : Fin 128) :
    Ideal.rsqrt (val_main_v15 (F := Ideal) o i) = ((inv (O (i 0)) (at3 (i 1) k) : ℝ) : EReal) := by
  rw [ref_ms o O ho i k]
  exact rsqrt_real _ (ms_pos _ _)

include ho in
theorem ref_slope (i : Cert.DybRIdeal.S4096x4x1.Idx) (k : Fin 128) : val_main_v19 (F := Ideal) o i
    = ((-(1 / 2) * (inv (O (i 0)) (at3 (i 1) k) / ms (O (i 0)) (at3 (i 1) k)) : ℝ) : EReal) := by
  pointwise [val_main_v19, val_main_v18, val_main_v17,
    val_main_v16, val_main_cst_2]
  rw [ref_rsqrt o O ho i k, ref_ms o O ho i k]
  exact (congrArg₂ (fun a b : EReal => a * b) half_neg_word (div_real _ _ (ms_pos _ _))).trans (EReal.coe_mul _ _).symm

include ho in
theorem ref_unit (i : Cert.DybRIdeal.S4096x4x128.Idx) : val_main_v21 (F := Ideal) o i
    = ((O (i 0) (at3 (i 1) (i 2)) * inv (O (i 0)) (at3 (i 1) (i 2)) : ℝ) : EReal) := by
  pointwise [val_main_v21, val_main_v20, val_main_v7,
    val_main_v16]
  rw [EReal.coe_mul]
  exact congrArg₂ (fun a b : EReal => a * b) (ho _) (ref_rsqrt o O ho _ (i 2))

include hw in
theorem ref_weight (i : Cert.DybRIdeal.S4096x4x128.Idx) : val_main_v24 (F := Ideal) w i = ((per W (at3 (i 1) (i 2)) : ℝ) : EReal) := by
  pointwise [val_main_v24, val_main_v23, val_main_v22,
    val_main_v6, val_main_v5, val_main_v4]
  exact (hw _).trans (congrArg (fun x : ℝ => (x : EReal)) (per_at3 W (i 1) (i 2)).symm)

include hz in
theorem ref_gate (i : Cert.DybRIdeal.S4096x4x128.Idx) : val_main_v26_2 (F := Ideal) z i
    = ((Soft.slope (Z (i 0) (at3 (i 1) (i 2))) : ℝ) : EReal) := by
  pointwise [val_main_v26_2, val_main_call0_v4, val_main_call0_v3,
    val_main_call0_v2, val_main_call0_v1, val_main_call0_v0,
    val_main_v8, val_main_call0_cst, val_main_call0_cst_0]
  refine (congrArg (fun x : EReal => Ideal.div 1 (1 + Ideal.exp (-x))) (hz (ix2 (i 0) (at3 (i 1) (i 2))))).trans ?_
  exact Gdg.sig_real _

include ha hb in
theorem ref_back (i : Cert.DybRIdeal.S4096x4x128.Idx) : val_main_v29 (F := Ideal) a b i
    = ((back A B (i 0) (at3 (i 1) (i 2)) : ℝ) : EReal) := by
  pointwise [val_main_v29, val_main_v3, val_main_v2,
    val_main_v1, val_main_v0]
  unfold back
  rw [← Gdg.sum_real]
  refine Finset.sum_congr (M := EReal) rfl fun k _ => ?_
  rw [EReal.coe_mul]
  exact congrArg₂ (fun a b : EReal => a * b) (ha _) (hb (ix2 (at3 (i 1) (i 2)) k))

include ha hb hz in
theorem ref_gated (i : Cert.DybRIdeal.S4096x4x128.Idx) : val_main_v31 (F := Ideal) a b z i
    = ((back A B (i 0) (at3 (i 1) (i 2)) * gate (Z (i 0)) (at3 (i 1) (i 2)) : ℝ) : EReal) := by
  pointwise [val_main_v31, val_main_v26_0, val_main_v8]
  rw [ref_back a b A B ha hb, ref_gate z Z hz]
  refine (congrArg (fun x : EReal => _ * (x * _)) (hz (ix2 (i 0) (at3 (i 1) (i 2))))).trans ?_
  rw [← EReal.coe_mul, ← EReal.coe_mul]
  rfl

include ha hb hz hw in
theorem ref_into (i : Cert.DybRIdeal.S4096x4x128.Idx) : val_main_v37 (F := Ideal) a b z w i
    = ((into (Z (i 0)) (per W) (back A B (i 0)) (at3 (i 1) (i 2)) : ℝ) : EReal) := by
  pointwise [val_main_v37, val_main_v36, val_main_v23,
    val_main_v22, val_main_v6, val_main_v5,
    val_main_v4]
  rw [ref_gated a b z A B Z ha hb hz]
  refine (congrArg (fun x : EReal => _ * x) (hw (ix1 (i 2)))).trans ?_
  rw [← EReal.coe_mul]
  exact congrArg (fun x : ℝ => (x : EReal)) (into_at3 (Z (i 0)) (back A B (i 0)) W (i 1) (i 2))

include ha hb ho hz hw in
theorem ref_dz (i : Cert.DybRIdeal.S4096x4x128.Idx) : val_main_v32 (F := Ideal) a b o z w i
    = ((dZ (O (i 0)) (Z (i 0)) (per W) (back A B (i 0)) (at3 (i 1) (i 2)) : ℝ) : EReal) := by
  pointwise [val_main_v32, val_main_call1_v2, val_main_call1_v1,
    val_main_call1_v0, val_main_v30, val_main_v25,
    val_main_v26_1, val_main_call0_v7, val_main_call0_v6,
    val_main_call0_cst_1, val_main_v8]
  rw [ref_back a b A B ha hb, ref_gate z Z hz, ref_unit o O ho, ref_weight w W hw]
  refine (congrArg (fun x : EReal => _ + x * _ * _) (hz (ix2 (i 0) (at3 (i 1) (i 2))))).trans ?_
  rw [← EReal.coe_one]
  simp only [← EReal.coe_add, ← EReal.coe_sub, ← EReal.coe_mul]
  rfl

include ha hb ho hz hw in
theorem ref_inner (i : Cert.DybRIdeal.S4096x4.Idx) (k : Fin 128) : val_main_v48 (F := Ideal) a b o z w i
    = ((inner (O (i 0)) (Z (i 0)) (per W) (back A B (i 0)) (at3 (i 1) k) : ℝ) : EReal) := by
  pointwise [val_main_v48, val_main_cst_7, val_main_v47,
    val_main_v46, val_main_cst_6, val_main_v45,
    val_main_v42, val_main_v41, val_main_cst_5,
    val_main_v40, val_main_v7]
  rw [Fin.sum_univ_one]
  have h : ∀ l : Fin 128, (o (ix2 (i 0) (at3 (i 1) l)) * val_main_v37 (F := Ideal) a b z w (ix3 (i 0) (i 1) l) : EReal)
      = ((O (i 0) (at3 (i 1) l) * into (Z (i 0)) (per W) (back A B (i 0)) (at3 (i 1) l) : ℝ) : EReal) := by
    intro l
    rw [EReal.coe_mul]
    exact congrArg₂ (fun a b : EReal => a * b) (ho _) (ref_into a b z w A B Z W ha hb hz hw _)
  have hs := (Finset.sum_congr (M := EReal) rfl fun l _ => h l).trans (Gdg.sum_real _)
  refine (congrArg₂ (fun s x : EReal => Ideal.div (s * x) _) hs (ref_slope o O ho _ k)).trans ?_
  rw [width_word, ← EReal.coe_mul, div_real _ _ (by norm_num), div_eq_mul_one_div]
  exact congrArg (fun x : ℝ => (x : EReal)) (inner_at3 (O (i 0)) (Z (i 0)) (per W) (back A B (i 0)) (i 1) k)

include ha hb ho hz hw in
theorem ref_do (i : Cert.DybRIdeal.S4096x4x128.Idx) : val_main_v53 (F := Ideal) a b o z w i
    = ((dO (O (i 0)) (Z (i 0)) (per W) (back A B (i 0)) (at3 (i 1) (i 2)) : ℝ) : EReal) := by
  pointwise [val_main_v53, val_main_v52, val_main_v51,
    val_main_v50, val_main_v49, val_main_v44,
    val_main_v43, val_main_v7, val_main_v16]
  have e1 := ref_inner a b o z w A B O Z W ha hb ho hz hw (ix2 (i 0) (i 1)) (i 2)
  have e2 := ref_rsqrt o O ho (ix3 (i 0) (i 1) 0) (i 2)
  have e3 : o (ix2 (i 0) (at3 (i 1) (i 2))) = ((O (i 0) (at3 (i 1) (i 2)) : ℝ) : EReal) := ho _
  have e4 := ref_into a b z w A B Z W ha hb hz hw i
  refine (congrArg₂ (fun x y : EReal => x + y)
    (congrArg₂ (fun x y : EReal => x + y) (congrArg₂ (fun x y : EReal => x * y) e4 e2) (congrArg₂ (fun x y : EReal => x * y) e3 e1))
    (congrArg₂ (fun x y : EReal => x * y) e1 e3)).trans ?_
  simp only [← EReal.coe_add, ← EReal.coe_mul]
  rfl

include ha hb ho hz hw in
theorem ref_x : val_main_v55 (F := Ideal) a b o z w = X A B O Z W := by
  funext i
  pointwise [val_main_v55]
  rw [ref_do a b o z w A B O Z W ha hb ho hz hw]
  unfold X
  exact congrArg (fun j : Fin 512 => ((dO (O (i 0)) (Z (i 0)) (per W) (back A B (i 0)) j : ℝ) : EReal)) (at3_eq (i 1) _ _)

include ha hb ho hz hw in
theorem ref_y : val_main_v56 (F := Ideal) a b o z w = Y A B O Z W := by
  funext i
  pointwise [val_main_v56, val_main_v54]
  rw [ref_dz a b o z w A B O Z W ha hb ho hz hw]
  unfold Y
  exact congrArg (fun j : Fin 512 => ((dZ (O (i 0)) (Z (i 0)) (per W) (back A B (i 0)) j : ℝ) : EReal)) (at3_eq (i 1) _ _)

include ha hb ho hz in
theorem ref_u : val_main_v57 (F := Ideal) a b o z = U A B O Z := by
  funext i
  pointwise [val_main_v57, val_main_v39, val_main_v38,
    val_main_cst_4, val_main_v35, val_main_v34,
    val_main_cst_3, val_main_v33]
  unfold U
  rw [Fin.sum_univ_one, ← Gdg.sum_real]
  refine Finset.sum_congr (M := EReal) rfl fun r _ => ?_
  rw [ref_unit o O ho, ref_gated a b z A B Z ha hb hz, ← EReal.coe_mul]
  exact congrArg (fun j : Fin 512 => ((dN (O r) (Z r) (back A B r) j : ℝ) : EReal)) (at3_eq (i 1) _ _)

end Reference

/-! ## The equality -/

/-- The kernel and the reference agree over the extended reals, at finite arguments. -/
theorem algebraic : Cert.algebraic_DybKIdeal_DybRIdeal_pre_finite_dybin := by
  intro m ρ m' ρ' hpre hag
  have f0 : ∀ (c : Dev nD) i, m ((c : Thread nD τ).loc main_arg0) i
      = (((m ((c : Thread nD τ).loc main_arg0) (ix2 (i 0) (i 1)) : EReal).toReal : ℝ) : EReal) := fun c i => by
    rw [Gdg.eta2 i]
    exact (Gdg.bit_finite _ (congrFun (hpre c).1 i)).symm
  have f1 : ∀ (c : Dev nD) i, m ((c : Thread nD τ).loc main_arg1) i
      = (((m ((c : Thread nD τ).loc main_arg1) (ix2 (i 0) (i 1)) : EReal).toReal : ℝ) : EReal) := fun c i => by
    rw [Gdg.eta2 i]
    exact (Gdg.bit_finite _ (congrFun (hpre c).2.1 i)).symm
  have f2 : ∀ (c : Dev nD) i, m ((c : Thread nD τ).loc main_arg2) i
      = (((m ((c : Thread nD τ).loc main_arg2) (ix2 (i 0) (i 1)) : EReal).toReal : ℝ) : EReal) := fun c i => by
    rw [Gdg.eta2 i]
    exact (Gdg.bit_finite _ (congrFun (hpre c).2.2.1 i)).symm
  have f3 : ∀ (c : Dev nD) i, m ((c : Thread nD τ).loc main_arg3) i
      = (((m ((c : Thread nD τ).loc main_arg3) (ix2 (i 0) (i 1)) : EReal).toReal : ℝ) : EReal) := fun c i => by
    rw [Gdg.eta2 i]
    exact (Gdg.bit_finite _ (congrFun (hpre c).2.2.2.1 i)).symm
  have f4 : ∀ (c : Dev nD) i, m ((c : Thread nD τ).loc main_arg4) i
      = (((m ((c : Thread nD τ).loc main_arg4) (ix1 (i 0)) : EReal).toReal : ℝ) : EReal) := fun c i => by
    rw [Gdg.eta1 i]
    exact (Gdg.bit_finite _ (congrFun (hpre c).2.2.2.2 i)).symm
  let A (c : Dev nD) (p : Fin 4096) (j : Fin 1024) : ℝ := (m ((c : Thread nD τ).loc main_arg0) (ix2 p j) : EReal).toReal
  let B (c : Dev nD) (p : Fin 512) (j : Fin 1024) : ℝ := (m ((c : Thread nD τ).loc main_arg1) (ix2 p j) : EReal).toReal
  let O (c : Dev nD) (p : Fin 4096) (j : Fin 512) : ℝ := (m ((c : Thread nD τ).loc main_arg2) (ix2 p j) : EReal).toReal
  let Z (c : Dev nD) (p : Fin 4096) (j : Fin 512) : ℝ := (m ((c : Thread nD τ).loc main_arg3) (ix2 p j) : EReal).toReal
  let W (c : Dev nD) (j : Fin 128) : ℝ := (m ((c : Thread nD τ).loc main_arg4) (ix1 j) : EReal).toReal
  refine ⟨fun c => X (A c) (B c) (O c) (Z c) (W c), fun c => Y (A c) (B c) (O c) (Z c) (W c), fun c => U (A c) (B c) (O c) (Z c), ?_, ?_⟩
  · exact (θ_run _ _ _).mono (fun r h c => ⟨(h c).1.trans (final_x m c _ _ _ _ _ (f0 c) (f1 c) (f2 c) (f3 c) (f4 c)),
      (h c).2.1.trans (final_y m c _ _ _ _ _ (f0 c) (f1 c) (f2 c) (f3 c) (f4 c)),
      (h c).2.2.1.trans (final_u m c _ _ _ _ (f0 c) (f1 c) (f2 c) (f3 c)), (h c).2.2.2⟩)
      (Value.run_blocks m ρ)
  · refine (θ_run _ _ _).mono (fun r h c => ⟨(h c).1.trans ?_, (h c).2.1.trans ?_, (h c).2.2.1.trans ?_, (h c).2.2.2⟩)
      (Cert.DybRIdeal.Value.run m' ρ')
    · rw [val_main_v55_eq, (hag c).1, (hag c).2.1, (hag c).2.2.1, (hag c).2.2.2.1, (hag c).2.2.2.2]
      exact ref_x _ _ _ _ _ _ _ _ _ _ (f0 c) (f1 c) (f2 c) (f3 c) (f4 c)
    · rw [val_main_v56_eq, (hag c).1, (hag c).2.1, (hag c).2.2.1, (hag c).2.2.2.1, (hag c).2.2.2.2]
      exact ref_y _ _ _ _ _ _ _ _ _ _ (f0 c) (f1 c) (f2 c) (f3 c) (f4 c)
    · rw [val_main_v57_eq, (hag c).1, (hag c).2.1, (hag c).2.2.1, (hag c).2.2.2.1]
      exact ref_u _ _ _ _ _ _ _ _ (f0 c) (f1 c) (f2 c) (f3 c)

end Cert.Proof.Dyb

end
-- ==== Proof.DyaSpec.lean ====
/-
  The gradient of the RWKV-7 output norm, bonus and gate, over the reals: what every entry of every result is.  A head is 64
  lanes wide.
-/
module

public import proofs.«01_k».proof.DyaKIdeal
public import proofs.«01_k».proof.Proof.Dyb

@[expose] public section

set_option maxRecDepth 16384

noncomputable section

namespace Cert.Proof.Dya

open Idealize.ShloMosaic

/-! ## A row -/

/-- Of the head that a lane is in, the lane `l`. -/
def lane (j : Fin 512) (l : Fin 64) : Fin 512 := ⟨j.val / 64 * 64 + l.val, by have := j.isLt; have := l.isLt; omega⟩

/-- The sum over the head that a lane is in. -/
def seg (f : Fin 512 → ℝ) (j : Fin 512) : ℝ := ∑ l : Fin 64, f (lane j l)

/-- The norm's small number. -/
def eps : ℝ := (Ideal.ofBits .f32 0x3A27C5AC#32 : EReal).toReal

theorem eps_word : Ideal.ofBits .f32 0x3A27C5AC#32 = ((eps : ℝ) : EReal) := by
  unfold eps
  simp [Ideal.ofBits, Ideal.ieee, -EReal.coe_mul]

theorem eps_pos : 0 < eps := by
  unfold eps
  simp [Ideal.ofBits, Ideal.ieee, -EReal.coe_mul]

theorem part_word : Ideal.ofBits .f32 0x3C800000#32 = ((1 / 64 : ℝ) : EReal) := by
  simp [Ideal.ofBits, Ideal.ieee, -EReal.coe_mul]
  norm_num

theorem width_word : Ideal.ofBits .f32 0x42800000#32 = ((64 : ℝ) : EReal) := by
  simp [Ideal.ofBits, Ideal.ieee, -EReal.coe_mul]
  norm_num

theorem two_word : Ideal.ofBits .f32 0x40000000#32 = ((2 : ℝ) : EReal) := by
  simp [Ideal.ofBits, Ideal.ieee, -EReal.coe_mul]
  norm_num

/-- A lane less its head's mean. -/
def cen (y : Fin 512 → ℝ) (j : Fin 512) : ℝ := y j - seg y j * (1 / 64)

/-- The variance of a head, and the small number. -/
def vr (y : Fin 512 → ℝ) (j : Fin 512) : ℝ := seg (fun l => cen y l * cen y l) j * (1 / 64) + eps

theorem vr_pos (y : Fin 512 → ℝ) (j : Fin 512) : 0 < vr y j := by
  have h : 0 ≤ seg (fun l => cen y l * cen y l) j := Finset.sum_nonneg fun l _ => mul_self_nonneg _
  have := eps_pos
  unfold vr
  positivity

/-- One over the deviation of a head. -/
def inv (y : Fin 512 → ℝ) (j : Fin 512) : ℝ := (Real.sqrt (vr y j))⁻¹

/-- The derivative of that by the variance. -/
def slope (y : Fin 512 → ℝ) (j : Fin 512) : ℝ := -(1 / 2) * (inv y j / vr y j)

/-- The bonus of a head. -/
def bonus (r k q : Fin 512 → ℝ) (j : Fin 512) : ℝ := seg (fun l => r l * k l * q l) j

/-- The gradient of the gate. -/
def dG (y r k v a b q c : Fin 512 → ℝ) (j : Fin 512) : ℝ := (cen y j * inv y j * a j + b j + bonus r k q j * v j) * c j

/-- The gradient of the value, by the bonus. -/
def dV (r k q g c : Fin 512 → ℝ) (j : Fin 512) : ℝ := bonus r k q j * (c j * g j)

/-- The gradient of a head's bonus. -/
def tie (v g c : Fin 512 → ℝ) (j : Fin 512) : ℝ := seg (fun l => c l * g l * v l) j

/-- The gradient of the receptance. -/
def dR (k v q g c : Fin 512 → ℝ) (j : Fin 512) : ℝ := tie v g c j * q j * k j

/-- The gradient of the key. -/
def dK (r v q g c : Fin 512 → ℝ) (j : Fin 512) : ℝ := r j * (tie v g c j * q j)

/-- What a row gives to the gradient of the bonus's weight. -/
def dQ (r k v g c : Fin 512 → ℝ) (j : Fin 512) : ℝ := r j * k j * tie v g c j

/-- What a row gives to the gradient of the norm's weight. -/
def dA (y g c : Fin 512 → ℝ) (j : Fin 512) : ℝ := cen y j * inv y j * (c j * g j)

/-- What a row gives to the gradient of the norm's offset. -/
def dB (g c : Fin 512 → ℝ) (j : Fin 512) : ℝ := c j * g j

/-- The gradient that reaches the normalised head before its weight. -/
def into (a g c : Fin 512 → ℝ) (j : Fin 512) : ℝ := c j * g j * a j

/-- The gradient of the head's squares. -/
def drag (y a g c : Fin 512 → ℝ) (j : Fin 512) : ℝ := seg (fun l => cen y l * into a g c l) j * slope y j * (1 / 64)

/-- The gradient of the centred head. -/
def dC (y a g c : Fin 512 → ℝ) (j : Fin 512) : ℝ :=
  into a g c j * inv y j + cen y j * drag y a g c j + drag y a g c j * cen y j

/-- The gradient of the recurrence's output. -/
def dY (y a g c : Fin 512 → ℝ) (j : Fin 512) : ℝ := dC y a g c j + seg (fun l => (0 - dC y a g c l) * (1 / 64)) j

theorem seg_lane (u : Fin 512 → ℝ) (j : Fin 512) (l : Fin 64) : seg u (lane j l) = seg u j := by
  have := l.isLt
  refine Finset.sum_congr rfl fun x _ => congrArg u (Fin.ext ?_)
  show (j.val / 64 * 64 + l.val) / 64 * 64 + x.val = j.val / 64 * 64 + x.val
  omega

theorem vr_lane (u : Fin 512 → ℝ) (j : Fin 512) (l : Fin 64) : vr u (lane j l) = vr u j := by
  unfold vr
  rw [seg_lane]

theorem slope_lane (u : Fin 512 → ℝ) (j : Fin 512) (l : Fin 64) : slope u (lane j l) = slope u j := by
  unfold slope inv
  rw [vr_lane]

theorem seg_drag (y a g c : Fin 512 → ℝ) (j : Fin 512) :
    seg (fun l => cen y l * into a g c l * slope y l * (1 / 64)) j = drag y a g c j := by
  unfold drag seg
  rw [Finset.sum_mul, Finset.sum_mul]
  refine Finset.sum_congr rfl fun l _ => ?_
  show cen y (lane j l) * into a g c (lane j l) * slope y (lane j l) * (1 / 64) = _
  rw [slope_lane]

/-! ## A row as its heads -/

/-- The lane of a head's lane. -/
def at3 (h : Fin 8) (l : Fin 64) : Fin 512 := ⟨h.val * 64 + l.val, by have := h.isLt; have := l.isLt; omega⟩

theorem lane_at3 (h : Fin 8) (k l : Fin 64) : lane (at3 h k) l = at3 h l := by
  have := k.isLt
  apply Fin.ext
  show (h.val * 64 + k.val) / 64 * 64 + l.val = h.val * 64 + l.val
  omega

theorem seg_at3 (f : Fin 512 → ℝ) (h : Fin 8) (k : Fin 64) : seg f (at3 h k) = ∑ l : Fin 64, f (at3 h l) := by
  unfold seg
  exact Finset.sum_congr rfl fun l _ => by rw [lane_at3]

theorem at3_eq (j : Fin 512) (h : j.val / 64 < 8) (h' : j.val % 64 < 64) : at3 ⟨j.val / 64, h⟩ ⟨j.val % 64, h'⟩ = j := by
  apply Fin.ext
  show j.val / 64 * 64 + j.val % 64 = j.val
  omega

/-! ## The results -/

section Results

variable (A : Fin 4096 → Fin 1024 → ℝ) (B : Fin 512 → Fin 1024 → ℝ) (Y R K V G : Fin 4096 → Fin 512 → ℝ) (W O Q : Fin 512 → ℝ)

/-- The gradient of the recurrence's output. -/
def TY : Vec Ideal Cert.DyaKIdeal.S4096x512 .f32 := fun i => ((dY (Y (i 0)) W (G (i 0)) (Dyb.back A B (i 0)) (i 1) : ℝ) : EReal)

/-- The gradient of the receptance. -/
def TR : Vec Ideal Cert.DyaKIdeal.S4096x512 .f32 := fun i => ((dR (K (i 0)) (V (i 0)) Q (G (i 0)) (Dyb.back A B (i 0)) (i 1) : ℝ) : EReal)

/-- The gradient of the key. -/
def TK : Vec Ideal Cert.DyaKIdeal.S4096x512 .f32 := fun i => ((dK (R (i 0)) (V (i 0)) Q (G (i 0)) (Dyb.back A B (i 0)) (i 1) : ℝ) : EReal)

/-- The gradient of the value. -/
def TV : Vec Ideal Cert.DyaKIdeal.S4096x512 .f32 := fun i => ((dV (R (i 0)) (K (i 0)) Q (G (i 0)) (Dyb.back A B (i 0)) (i 1) : ℝ) : EReal)

/-- The gradient of the gate. -/
def TG : Vec Ideal Cert.DyaKIdeal.S4096x512 .f32 :=
  fun i => ((dG (Y (i 0)) (R (i 0)) (K (i 0)) (V (i 0)) W O Q (Dyb.back A B (i 0)) (i 1) : ℝ) : EReal)

/-- The gradient of the norm's weight. -/
def TA : Vec Ideal Cert.DyaKIdeal.S1x512 .f32 := fun i => ((∑ p : Fin 4096, dA (Y p) (G p) (Dyb.back A B p) (i 1) : ℝ) : EReal)

/-- The gradient of the norm's offset. -/
def TB : Vec Ideal Cert.DyaKIdeal.S1x512 .f32 := fun i => ((∑ p : Fin 4096, dB (G p) (Dyb.back A B p) (i 1) : ℝ) : EReal)

/-- The gradient of the bonus's weight. -/
def TQ : Vec Ideal Cert.DyaKIdeal.S1x512 .f32 := fun i => ((∑ p : Fin 4096, dQ (R p) (K p) (V p) (G p) (Dyb.back A B p) (i 1) : ℝ) : EReal)

end Results

end Cert.Proof.Dya

end
-- ==== Proof.DyaBlock.lean ====
/-
  The gradient of the RWKV-7 output norm, bonus and gate: what a block of rows gives.  The kernel sums over a head by a
  product with the matrix of ones of that head, once for the rounded number and once for what the rounding left, which is
  nothing over the reals.
-/
module

public import proofs.«01_k».proof.Defs
public import proofs.«01_k».proof.Proof.Gen.DyaKIdeal.Value
public import proofs.«01_k».proof.Proof.DyaSpec
public import Idealize.ShloMosaic.Lib.Pointwise

@[expose] public section

set_option maxRecDepth 16384

noncomputable section

namespace Cert.Proof.Dya

open Cert.DyaKIdeal Cert.DyaKIdeal.Gen Idealize.ShloMosaic Idealize.ShloMosaic.TcCoe Idealize.SL.Sem

/-! ## The sum over a head -/

/-- The row numbers of the matrix of ones, and its column numbers. -/
abbrev rows : IVec S512x512 32 := iota .tc S512x512 32 [0] iota_S512x512_d0_w32

abbrev cols : IVec S512x512 32 := iota .tc S512x512 32 [1] iota_S512x512_d1_w32

/-- The head of a lane, in the kernel's words. -/
def head (x : IVec S512x512 32) : IVec S512x512 32 :=
  select (andi (cmpi .ne (subi (extui 32 (cmpi .sgt x (broadcast S512x512 0#32)) natLt_1_32)
      (extui 32 (cmpi .slt x (broadcast S512x512 0#32)) natLt_1_32))
      (broadcast S512x512 (Scalar.subi (Scalar.extui (Scalar.cmpi .sgt 64#32 0#32)) (Scalar.extui (Scalar.cmpi .slt 64#32 0#32)))))
    (cmpi .ne (remsi x (broadcast S512x512 64#32)) (broadcast S512x512 0#32)))
    (subi (divsi x (broadcast S512x512 64#32)) (broadcast S512x512 1#32))
    (divsi x (broadcast S512x512 64#32))

/-- The matrix of ones of every head. -/
def ones : FVec Ideal S512x512 .bf16 :=
  truncf .bf16 (sitofp .f32 (extui 32 (cmpi .eq (head rows) (head cols)) natLt_1_32) : FVec Ideal S512x512 .f32) bitsLt_bf16_f32

/-- The kernel's sum over a head. -/
def split (v : FVec Ideal S512x512 .f32) : FVec Ideal S512x512 .f32 :=
  addf (matmul dot_S512x512_S512x512_S512x512_1_0_0_1_n_n none (truncf .bf16 v bitsLt_bf16_f32) ones (constant S512x512 .f32 0x00000000#32))
    (matmul dot_S512x512_S512x512_S512x512_1_0_0_1_n_n none
      (truncf .bf16 (subf v (extf .f32 (truncf .bf16 v bitsLt_bf16_f32 : FVec Ideal S512x512 .bf16) bitsLt_bf16_f32)) bitsLt_bf16_f32) ones
      (constant S512x512 .f32 0x00000000#32))

theorem pay10_eq (v : FVec Ideal S512x512 .f32) : k0_pay10 (F := Ideal) v rows k0_pay7 k0_pay8 k0_pay9
    = subf v (mulf (split v) (broadcast S512x512 (Scalar.ofBits .f32 0x3C800000#32))) := rfl

theorem pay15_eq (v : FVec Ideal S512x512 .f32) : k0_pay15 (F := Ideal) v (k0_pay12 rows) k0_pay13 k0_pay14 1#32
    = addf (mulf (split v) (broadcast S512x512 (Scalar.ofBits .f32 0x3C800000#32)))
        (broadcast S512x512 (Scalar.ofBits .f32 0x3A27C5AC#32)) := rfl

theorem pay25_eq (v : FVec Ideal S512x512 .f32) : k0_pay25 (F := Ideal) v k0_pay22 k0_pay23 k0_pay24 0#32 = split v := rfl

theorem pay34_eq (v : FVec Ideal S512x512 .f32) :
    k0_pay34 (F := Ideal) v (k0_pay30 rows 64#32) k0_pay31 k0_pay32 k0_pay33 = split v := rfl

theorem pay46_eq (u a v : FVec Ideal S512x512 .f32) : k0_pay46 (F := Ideal) u a v rows 64#32 k0_pay44 k0_pay45
    = addf (addf a (mulf u (split v))) (mulf (split v) u) := rfl

theorem pay52_eq (u v : FVec Ideal S512x512 .f32) :
    k0_pay52 (F := Ideal) u v k0_pay48 cols k0_pay49 k0_pay50 k0_pay51 = addf u (split v) := rfl

theorem head_rows (y : S512x512.Idx) : head rows y = BitVec.ofNat 32 ((y 0).val / 64) := by
  pointwise [head]
  generalize (y 0) = j
  revert j
  decide +kernel

theorem head_cols (y : S512x512.Idx) : head cols y = BitVec.ofNat 32 ((y 1).val / 64) := by
  pointwise [head]
  generalize (y 1) = j
  revert j
  decide +kernel

theorem ones_at (y : S512x512.Idx) : ones y = if (y 0).val / 64 = (y 1).val / 64 then (1 : EReal) else 0 := by
  pointwise [ones]
  rw [head_rows, head_cols]
  have h : ∀ a b : Fin 8, BitVec.setWidth 32 (IntOp.cmpi CmpIPredicate.eq (BitVec.ofNat 32 a.val) (BitVec.ofNat 32 b.val))
      = if a.val = b.val then 1#32 else 0#32 := by decide
  have h0 : (y 0).val < 512 := (y 0).isLt
  have h1 : (y 1).val < 512 := (y 1).isLt
  rw [h ⟨(y 0).val / 64, by omega⟩ ⟨(y 1).val / 64, by omega⟩]
  split_ifs
  · show ((((1#32 : BitVec 32).toInt : ℤ) : ℝ) : EReal) = 1
    simp
  · show ((((0#32 : BitVec 32).toInt : ℤ) : ℝ) : EReal) = 0
    simp

/-- The product with a column of the matrix of ones is the sum over the head. -/
theorem sum_head (f : Fin 512 → ℝ) (j : Fin 512) :
    ∑ x : Fin 512, ((f x : ℝ) : EReal) * (if x.val / 64 = j.val / 64 then (1 : EReal) else 0) = ((seg f j : ℝ) : EReal) := by
  have h : ∀ x : Fin 512, ((f x : ℝ) : EReal) * (if x.val / 64 = j.val / 64 then (1 : EReal) else 0)
      = (((if x.val / 64 = j.val / 64 then f x else 0) : ℝ) : EReal) := by
    intro x
    split_ifs
    · rw [mul_one]
    · rw [mul_zero, EReal.coe_zero]
  rw [Finset.sum_congr (M := EReal) rfl fun x _ => h x, Gdg.sum_real]
  refine congrArg (fun z : ℝ => (z : EReal)) ?_
  rw [← Finset.sum_filter]
  unfold seg
  refine Finset.sum_nbij' (fun x => (⟨x.val % 64, Nat.mod_lt _ (by decide)⟩ : Fin 64)) (fun l => lane j l) ?_ ?_ ?_ ?_ ?_
  · intro x _
    exact Finset.mem_univ _
  · intro l _
    have := l.isLt
    refine Finset.mem_filter.mpr ⟨Finset.mem_univ _, ?_⟩
    show (j.val / 64 * 64 + l.val) / 64 = j.val / 64
    omega
  · intro x hx
    have := (Finset.mem_filter.mp hx).2
    apply Fin.ext
    show j.val / 64 * 64 + x.val % 64 = x.val
    omega
  · intro l _
    have := l.isLt
    apply Fin.ext
    show (j.val / 64 * 64 + l.val) % 64 = l.val
    omega
  · intro x hx
    have := (Finset.mem_filter.mp hx).2
    refine congrArg f (Fin.ext ?_)
    show x.val = j.val / 64 * 64 + x.val % 64
    omega

/-- The kernel's sum over a head is that sum, of real numbers. -/
theorem split_at (v : FVec Ideal S512x512 .f32) (f : Fin 512 → Fin 512 → ℝ)
    (hv : ∀ y, v y = ((f (y 0) (y 1) : ℝ) : EReal)) (y : S512x512.Idx) : split v y = ((seg (f (y 0)) (y 1) : ℝ) : EReal) := by
  unfold split
  pointwise
  have h1 : ∀ x : Fin 512, (v (ix2 (y 0) x) * ones (ix2 x (y 1)) : EReal)
      = ((f (y 0) x : ℝ) : EReal) * (if x.val / 64 = (y 1).val / 64 then (1 : EReal) else 0) := by
    intro x
    exact congrArg₂ (fun a b : EReal => a * b) (hv (ix2 (y 0) x)) (ones_at (ix2 x (y 1)))
  have h2 : ∀ x : Fin 512, ((v (ix2 (y 0) x) - v (ix2 (y 0) x)) * ones (ix2 x (y 1)) : EReal) = 0 := by
    intro x
    have e : v (ix2 (y 0) x) = ((f (y 0) x : ℝ) : EReal) := hv (ix2 (y 0) x)
    rw [e, ← EReal.coe_sub, sub_self, EReal.coe_zero, zero_mul]
  rw [Finset.sum_congr (M := EReal) rfl fun x _ => h1 x, Finset.sum_congr (M := EReal) rfl fun x _ => h2 x,
    Finset.sum_const_zero, add_zero]
  exact sum_head _ _

/-! ## What a block gives -/

section Block

variable (vy vr_ vk vv vg vc : Vec Ideal S512x512 .f32) (va vb vq : Vec Ideal S1x512 .f32)
  (Y R K V G C : Fin 512 → Fin 512 → ℝ) (W O Q : Fin 512 → ℝ)
  (hy : ∀ y, vy y = ((Y (y 0) (y 1) : ℝ) : EReal)) (hr : ∀ y, vr_ y = ((R (y 0) (y 1) : ℝ) : EReal))
  (hk : ∀ y, vk y = ((K (y 0) (y 1) : ℝ) : EReal)) (hv : ∀ y, vv y = ((V (y 0) (y 1) : ℝ) : EReal))
  (hg : ∀ y, vg y = ((G (y 0) (y 1) : ℝ) : EReal)) (hc : ∀ y, vc y = ((C (y 0) (y 1) : ℝ) : EReal))
  (ha : ∀ y, va y = ((W (y 1) : ℝ) : EReal)) (hb : ∀ y, vb y = ((O (y 1) : ℝ) : EReal))
  (hq : ∀ y, vq y = ((Q (y 1) : ℝ) : EReal))

include hy in
theorem pay10 (y : S512x512.Idx) : (k0_pay10 (F := Ideal) vy rows k0_pay7 k0_pay8 k0_pay9) y = ((cen (Y (y 0)) (y 1) : ℝ) : EReal) := by
  rw [pay10_eq]
  pointwise
  rw [split_at vy Y hy y, hy, part_word, ← EReal.coe_mul, ← EReal.coe_sub]
  rfl

include hy in
theorem pay11 (y : S512x512.Idx) : (k0_pay11 (F := Ideal) vy rows k0_pay7 k0_pay8 k0_pay9) y = ((cen (Y (y 0)) (y 1) * cen (Y (y 0)) (y 1) : ℝ) : EReal) := by
  pointwise [k0_pay11]
  rw [pay10 vy Y hy y, ← EReal.coe_mul]

include hy in
theorem pay15 (y : S512x512.Idx) : k0_pay15 (F := Ideal) (k0_pay11 (F := Ideal) vy rows k0_pay7 k0_pay8 k0_pay9) (k0_pay12 rows) k0_pay13 k0_pay14 1#32 y = ((vr (Y (y 0)) (y 1) : ℝ) : EReal) := by
  rw [pay15_eq]
  pointwise
  rw [split_at (k0_pay11 (F := Ideal) vy rows k0_pay7 k0_pay8 k0_pay9) (fun p j => cen (Y p) j * cen (Y p) j) (pay11 vy Y hy) y, part_word, eps_word, ← EReal.coe_mul, ← EReal.coe_add]
  rfl

include hy in
theorem pay16 (y : S512x512.Idx) : k0_pay16 (F := Ideal) (k0_pay11 (F := Ideal) vy rows k0_pay7 k0_pay8 k0_pay9) (k0_pay12 rows) k0_pay13 k0_pay14 1#32 y = ((inv (Y (y 0)) (y 1) : ℝ) : EReal) := by
  pointwise [k0_pay16]
  rw [pay15 vy Y hy y]
  exact Dyb.rsqrt_real _ (vr_pos _ _)

include hy in
theorem pay17 (y : S512x512.Idx) : k0_pay17 (F := Ideal) (k0_pay11 (F := Ideal) vy rows k0_pay7 k0_pay8 k0_pay9) (k0_pay12 rows) k0_pay13 k0_pay14 1#32 y = ((slope (Y (y 0)) (y 1) : ℝ) : EReal) := by
  pointwise [k0_pay17]
  rw [pay15 vy Y hy y, pay16 vy Y hy y]
  exact (congrArg₂ (fun a b : EReal => a * b) Dyb.half_neg_word (Dyb.div_real _ _ (vr_pos _ _))).trans (EReal.coe_mul _ _).symm

include hy in
theorem pay18 (y : S512x512.Idx) : k0_pay18 (F := Ideal) (k0_pay10 (F := Ideal) vy rows k0_pay7 k0_pay8 k0_pay9) (k0_pay11 (F := Ideal) vy rows k0_pay7 k0_pay8 k0_pay9) (k0_pay12 rows) k0_pay13 k0_pay14 1#32 y
    = ((cen (Y (y 0)) (y 1) * inv (Y (y 0)) (y 1) : ℝ) : EReal) := by
  pointwise [k0_pay18]
  rw [pay10 vy Y hy y, pay16 vy Y hy y, ← EReal.coe_mul]

include hy ha hb in
theorem pay19 (y : S512x512.Idx) : k0_pay19 (F := Ideal) (k0_pay4 va) (k0_pay5 vb) (k0_pay10 (F := Ideal) vy rows k0_pay7 k0_pay8 k0_pay9) (k0_pay11 (F := Ideal) vy rows k0_pay7 k0_pay8 k0_pay9) (k0_pay12 rows) k0_pay13 k0_pay14 1#32 y
    = ((cen (Y (y 0)) (y 1) * inv (Y (y 0)) (y 1) * W (y 1) + O (y 1) : ℝ) : EReal) := by
  pointwise [k0_pay19, k0_pay4, k0_pay5]
  rw [pay18 vy Y hy y]
  have e : va (ix2 0 (y 1)) = ((W (y 1) : ℝ) : EReal) := ha _
  have e' : vb (ix2 0 (y 1)) = ((O (y 1) : ℝ) : EReal) := hb _
  rw [e, e', ← EReal.coe_mul, ← EReal.coe_add]

include hr hk in
theorem pay20 (y : S512x512.Idx) : k0_pay20 (F := Ideal) vr_ vk y = ((R (y 0) (y 1) * K (y 0) (y 1) : ℝ) : EReal) := by
  pointwise [k0_pay20]
  rw [hr, hk, ← EReal.coe_mul]

include hr hk hq in
theorem pay21 (y : S512x512.Idx) : k0_pay21 (F := Ideal) vr_ vk (k0_pay6 vq) y
    = ((R (y 0) (y 1) * K (y 0) (y 1) * Q (y 1) : ℝ) : EReal) := by
  pointwise [k0_pay21, k0_pay6]
  rw [pay20 vr_ vk R K hr hk y]
  have e : vq (ix2 0 (y 1)) = ((Q (y 1) : ℝ) : EReal) := hq _
  rw [e, ← EReal.coe_mul]

include hr hk hq in
theorem pay25 (y : S512x512.Idx) :
    k0_pay25 (F := Ideal) (k0_pay21 vr_ vk (k0_pay6 vq)) k0_pay22 k0_pay23 k0_pay24 0#32 y
      = ((bonus (R (y 0)) (K (y 0)) Q (y 1) : ℝ) : EReal) := by
  rw [pay25_eq, split_at _ (fun p j => R p j * K p j * Q j) (pay21 vr_ vk vq R K Q hr hk hq) y]
  rfl

include hy hr hk hv hc ha hb hq in
theorem pay26 (y : S512x512.Idx) :
    k0_pay26 (F := Ideal) vc vv (k0_pay19 (k0_pay4 va) (k0_pay5 vb) (k0_pay10 (F := Ideal) vy rows k0_pay7 k0_pay8 k0_pay9) (k0_pay11 (F := Ideal) vy rows k0_pay7 k0_pay8 k0_pay9) (k0_pay12 rows) k0_pay13 k0_pay14 1#32) (k0_pay21 vr_ vk (k0_pay6 vq))
        k0_pay22 k0_pay23 k0_pay24 0#32 y
      = ((dG (Y (y 0)) (R (y 0)) (K (y 0)) (V (y 0)) W O Q (C (y 0)) (y 1) : ℝ) : EReal) := by
  pointwise [k0_pay26]
  rw [pay19 vy va vb Y W O hy ha hb y, pay25 vr_ vk vq R K Q hr hk hq y, hv, hc, ← EReal.coe_mul, ← EReal.coe_add, ← EReal.coe_mul]
  rfl

include hg hc in
theorem pay27 (y : S512x512.Idx) : k0_pay27 (F := Ideal) vc vg y = ((C (y 0) (y 1) * G (y 0) (y 1) : ℝ) : EReal) := by
  pointwise [k0_pay27]
  rw [hc, hg, ← EReal.coe_mul]

include hr hk hg hc hq in
theorem pay28 (y : S512x512.Idx) :
    k0_pay28 (F := Ideal) vc vg (k0_pay21 vr_ vk (k0_pay6 vq)) k0_pay22 k0_pay23 k0_pay24 0#32 y
      = ((dV (R (y 0)) (K (y 0)) Q (G (y 0)) (C (y 0)) (y 1) : ℝ) : EReal) := by
  pointwise [k0_pay28]
  rw [pay25 vr_ vk vq R K Q hr hk hq y, pay27 vg vc G C hg hc y, ← EReal.coe_mul]
  rfl

include hv hg hc in
theorem pay34 (y : S512x512.Idx) : k0_pay34 (F := Ideal) (k0_pay29 vc vv vg) (k0_pay30 rows 64#32) k0_pay31 k0_pay32 k0_pay33 y = ((tie (V (y 0)) (G (y 0)) (C (y 0)) (y 1) : ℝ) : EReal) := by
  rw [pay34_eq, split_at _ (fun p j => C p j * G p j * V p j) (fun y => by
    pointwise [k0_pay29]
    rw [pay27 vg vc G C hg hc y, hv, ← EReal.coe_mul]) y]
  rfl

include hr hk hv hg hc in
theorem pay35 (y : S1x512.Idx) : k0_pay35 (F := Ideal) (k0_pay20 vr_ vk) (k0_pay29 vc vv vg) (k0_pay30 rows 64#32) k0_pay31 k0_pay32 k0_pay33 y
    = ((∑ p : Fin 512, dQ (R p) (K p) (V p) (G p) (C p) (y 1) : ℝ) : EReal) := by
  pointwise [k0_pay35]
  simp only [pay20 vr_ vk R K hr hk, pay34 vv vg vc V G C hv hg hc, ← EReal.coe_mul]
  rw [Gdg.sum_real]
  rfl

include hv hg hc hq in
theorem pay36 (y : S512x512.Idx) : k0_pay36 (F := Ideal) (k0_pay6 vq) (k0_pay29 vc vv vg) (k0_pay30 rows 64#32) k0_pay31 k0_pay32 k0_pay33 y
    = ((tie (V (y 0)) (G (y 0)) (C (y 0)) (y 1) * Q (y 1) : ℝ) : EReal) := by
  pointwise [k0_pay36, k0_pay6]
  rw [pay34 vv vg vc V G C hv hg hc y]
  have e : vq (ix2 0 (y 1)) = ((Q (y 1) : ℝ) : EReal) := hq _
  rw [e, ← EReal.coe_mul]

include hr hv hg hc hq in
theorem pay37 (y : S512x512.Idx) : k0_pay37 (F := Ideal) vr_ (k0_pay6 vq) (k0_pay29 vc vv vg) (k0_pay30 rows 64#32) k0_pay31 k0_pay32 k0_pay33 y
    = ((dK (R (y 0)) (V (y 0)) Q (G (y 0)) (C (y 0)) (y 1) : ℝ) : EReal) := by
  pointwise [k0_pay37]
  rw [pay36 vv vg vc vq V G C Q hv hg hc hq y, hr, ← EReal.coe_mul]
  rfl

include hk hv hg hc hq in
theorem pay38 (y : S512x512.Idx) : k0_pay38 (F := Ideal) vk (k0_pay6 vq) (k0_pay29 vc vv vg) (k0_pay30 rows 64#32) k0_pay31 k0_pay32 k0_pay33 y
    = ((dR (K (y 0)) (V (y 0)) Q (G (y 0)) (C (y 0)) (y 1) : ℝ) : EReal) := by
  pointwise [k0_pay38]
  rw [pay36 vv vg vc vq V G C Q hv hg hc hq y, hk, ← EReal.coe_mul]
  rfl

include hg hc in
theorem pay39 (y : S1x512.Idx) : k0_pay39 (F := Ideal) (k0_pay27 vc vg) y = ((∑ p : Fin 512, dB (G p) (C p) (y 1) : ℝ) : EReal) := by
  pointwise [k0_pay39]
  simp only [pay27 vg vc G C hg hc]
  rw [Gdg.sum_real]
  rfl

include hy hg hc in
theorem pay40 (y : S1x512.Idx) : k0_pay40 (F := Ideal) (k0_pay18 (k0_pay10 (F := Ideal) vy rows k0_pay7 k0_pay8 k0_pay9) (k0_pay11 (F := Ideal) vy rows k0_pay7 k0_pay8 k0_pay9) (k0_pay12 rows) k0_pay13 k0_pay14 1#32) (k0_pay27 vc vg) y
    = ((∑ p : Fin 512, dA (Y p) (G p) (C p) (y 1) : ℝ) : EReal) := by
  pointwise [k0_pay40]
  simp only [pay27 vg vc G C hg hc, pay18 vy Y hy, ← EReal.coe_mul]
  rw [Gdg.sum_real]
  rfl

include hg hc ha in
theorem pay41 (y : S512x512.Idx) : k0_pay41 (F := Ideal) (k0_pay4 va) (k0_pay27 vc vg) y
    = ((into W (G (y 0)) (C (y 0)) (y 1) : ℝ) : EReal) := by
  pointwise [k0_pay41, k0_pay4]
  rw [pay27 vg vc G C hg hc y]
  have e : va (ix2 0 (y 1)) = ((W (y 1) : ℝ) : EReal) := ha _
  rw [e, ← EReal.coe_mul]
  rfl

include hy hg hc ha in
theorem pay42 (y : S512x512.Idx) : (k0_pay42 (F := Ideal) (k0_pay4 va) (k0_pay16 (k0_pay11 (F := Ideal) vy rows k0_pay7 k0_pay8 k0_pay9) (k0_pay12 rows) k0_pay13 k0_pay14 1#32) (k0_pay27 vc vg)) y = ((into W (G (y 0)) (C (y 0)) (y 1) * inv (Y (y 0)) (y 1) : ℝ) : EReal) := by
  pointwise [k0_pay42]
  rw [pay41 vg vc va G C W hg hc ha y, pay16 vy Y hy y, ← EReal.coe_mul]

include hy hg hc ha in
theorem pay43 (y : S512x512.Idx) : (k0_pay43 (F := Ideal) (k0_pay4 va) (k0_pay10 (F := Ideal) vy rows k0_pay7 k0_pay8 k0_pay9) (k0_pay17 (k0_pay11 (F := Ideal) vy rows k0_pay7 k0_pay8 k0_pay9) (k0_pay12 rows) k0_pay13 k0_pay14 1#32) (k0_pay27 vc vg)) y
    = ((cen (Y (y 0)) (y 1) * into W (G (y 0)) (C (y 0)) (y 1) * slope (Y (y 0)) (y 1) * (1 / 64) : ℝ) : EReal) := by
  pointwise [k0_pay43]
  rw [pay41 vg vc va G C W hg hc ha y, pay10 vy Y hy y, pay17 vy Y hy y, part_word, ← EReal.coe_mul, ← EReal.coe_mul, ← EReal.coe_mul]

include hy hg hc ha in
theorem pay46 (y : S512x512.Idx) : (k0_pay46 (F := Ideal) (k0_pay10 (F := Ideal) vy rows k0_pay7 k0_pay8 k0_pay9) (k0_pay42 (F := Ideal) (k0_pay4 va) (k0_pay16 (k0_pay11 (F := Ideal) vy rows k0_pay7 k0_pay8 k0_pay9) (k0_pay12 rows) k0_pay13 k0_pay14 1#32) (k0_pay27 vc vg)) (k0_pay43 (F := Ideal) (k0_pay4 va) (k0_pay10 (F := Ideal) vy rows k0_pay7 k0_pay8 k0_pay9) (k0_pay17 (k0_pay11 (F := Ideal) vy rows k0_pay7 k0_pay8 k0_pay9) (k0_pay12 rows) k0_pay13 k0_pay14 1#32) (k0_pay27 vc vg)) rows 64#32 k0_pay44 k0_pay45) y = ((dC (Y (y 0)) W (G (y 0)) (C (y 0)) (y 1) : ℝ) : EReal) := by
  rw [pay46_eq]
  pointwise
  rw [split_at (k0_pay43 (F := Ideal) (k0_pay4 va) (k0_pay10 (F := Ideal) vy rows k0_pay7 k0_pay8 k0_pay9) (k0_pay17 (k0_pay11 (F := Ideal) vy rows k0_pay7 k0_pay8 k0_pay9) (k0_pay12 rows) k0_pay13 k0_pay14 1#32) (k0_pay27 vc vg)) (fun p j => cen (Y p) j * into W (G p) (C p) j * slope (Y p) j * (1 / 64)) (pay43 vy vg vc va Y G C W hy hg hc ha) y,
    pay42 vy vg vc va Y G C W hy hg hc ha y, pay10 vy Y hy y]
  have h := seg_drag (Y (y 0)) W (G (y 0)) (C (y 0)) (y 1)
  rw [h, ← EReal.coe_mul, ← EReal.coe_mul, ← EReal.coe_add, ← EReal.coe_add]
  rfl

include hy hg hc ha in
theorem pay52 (y : S512x512.Idx) :
    k0_pay52 (F := Ideal) (k0_pay46 (F := Ideal) (k0_pay10 (F := Ideal) vy rows k0_pay7 k0_pay8 k0_pay9) (k0_pay42 (F := Ideal) (k0_pay4 va) (k0_pay16 (k0_pay11 (F := Ideal) vy rows k0_pay7 k0_pay8 k0_pay9) (k0_pay12 rows) k0_pay13 k0_pay14 1#32) (k0_pay27 vc vg)) (k0_pay43 (F := Ideal) (k0_pay4 va) (k0_pay10 (F := Ideal) vy rows k0_pay7 k0_pay8 k0_pay9) (k0_pay17 (k0_pay11 (F := Ideal) vy rows k0_pay7 k0_pay8 k0_pay9) (k0_pay12 rows) k0_pay13 k0_pay14 1#32) (k0_pay27 vc vg)) rows 64#32 k0_pay44 k0_pay45) (k0_pay47 (k0_pay46 (F := Ideal) (k0_pay10 (F := Ideal) vy rows k0_pay7 k0_pay8 k0_pay9) (k0_pay42 (F := Ideal) (k0_pay4 va) (k0_pay16 (k0_pay11 (F := Ideal) vy rows k0_pay7 k0_pay8 k0_pay9) (k0_pay12 rows) k0_pay13 k0_pay14 1#32) (k0_pay27 vc vg)) (k0_pay43 (F := Ideal) (k0_pay4 va) (k0_pay10 (F := Ideal) vy rows k0_pay7 k0_pay8 k0_pay9) (k0_pay17 (k0_pay11 (F := Ideal) vy rows k0_pay7 k0_pay8 k0_pay9) (k0_pay12 rows) k0_pay13 k0_pay14 1#32) (k0_pay27 vc vg)) rows 64#32 k0_pay44 k0_pay45) (FloatOps.ofBits FTy.f32 0#32)) k0_pay48 cols k0_pay49 k0_pay50 k0_pay51 y
      = ((dY (Y (y 0)) W (G (y 0)) (C (y 0)) (y 1) : ℝ) : EReal) := by
  rw [pay52_eq]
  pointwise
  rw [split_at _ (fun p j => (0 - dC (Y p) W (G p) (C p) j) * (1 / 64)) (fun y => by
      pointwise [k0_pay47]
      rw [pay46 vy vg vc va Y G C W hy hg hc ha y, part_word, ← EReal.coe_zero, ← EReal.coe_sub, ← EReal.coe_mul]) y,
    pay46 vy vg vc va Y G C W hy hg hc ha y, ← EReal.coe_add]
  rfl

theorem pay53 (y : S1x512.Idx) : k0_pay53 (F := Ideal) y = (0 : EReal) := by
  pointwise [k0_pay53]

theorem pay54 (y : S1x512.Idx) : k0_pay54 (F := Ideal) y = (0 : EReal) := by
  pointwise [k0_pay54]

theorem pay55 (y : S1x512.Idx) : k0_pay55 (F := Ideal) y = (0 : EReal) := by
  pointwise [k0_pay55]

end Block

end Cert.Proof.Dya

end
-- ==== Proof.DyaRun.lean ====
/-
  The gradient of the RWKV-7 output norm, bonus and gate: the run of its blocks.  Five results are written a block of rows
  at a time; three are summed over the blocks.
-/
module

public import proofs.«01_k».proof.Proof.DyaBlock
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Dots
public import proofs.«01_k».proof.Proof.Rows

@[expose] public section

set_option maxRecDepth 16384

noncomputable section

namespace Cert.Proof.Dya

open Cert.DyaKIdeal Cert.DyaKIdeal.Gen Idealize.ShloMosaic Idealize.ShloMosaic.TcCoe Idealize.SL.Sem

variable (m : (ℓ : Loc nD τ sig) → Buf (Elt Ideal) ℓ) (ρ : Dev nD → PrngReg)

/-- The transposed weight the host prepares. -/
theorem host_w (c : Dev nD) : V m c main_v3
    = transpose S1024x512 [1, 0] (m ((c : Thread nD τ).loc main_arg1)) transposes_S512x1024_S1024x512_1_0 := by
  show StableHlo.after hostOps0 (fun b => m (c, b)) main_v3 = _
  unfold hostOps0
  after_results

theorem host_0 (c : Dev nD) : V m c main_v0 = shapeCast S1x512 (m ((c : Thread nD τ).loc main_arg7)) shapeCasts_S512_S1x512 := by
  show StableHlo.after hostOps0 (fun b => m (c, b)) main_v0 = _
  unfold hostOps0
  after_results
  rfl

theorem host_1 (c : Dev nD) : V m c main_v1 = shapeCast S1x512 (m ((c : Thread nD τ).loc main_arg8)) shapeCasts_S512_S1x512 := by
  show StableHlo.after hostOps0 (fun b => m (c, b)) main_v1 = _
  unfold hostOps0
  after_results
  rfl

theorem host_2 (c : Dev nD) : V m c main_v2 = shapeCast S1x512 (m ((c : Thread nD τ).loc main_arg9)) shapeCasts_S8x64_S1x512 := by
  show StableHlo.after hostOps0 (fun b => m (c, b)) main_v2 = _
  unfold hostOps0
  after_results
  rfl

/-- A vector as one row. -/
theorem flat_at (v : Vec Ideal S512 .f32) (W : Fin 512 → ℝ) (hv : ∀ i, v i = ((W (i 0) : ℝ) : EReal)) (y : S1x512.Idx) :
    (shapeCast S1x512 v shapeCasts_S512_S1x512 : Vec Ideal S1x512 .f32) y = ((W (y 1) : ℝ) : EReal) := by
  pointwise []
  exact hv _

/-- The heads of a weight side by side in one row. -/
theorem heads_at (v : Vec Ideal S8x64 .f32) (Q : Fin 512 → ℝ) (hv : ∀ i, v i = ((Q (at3 (i 0) (i 1)) : ℝ) : EReal)) (y : S1x512.Idx) :
    (shapeCast S1x512 v shapeCasts_S8x64_S1x512 : Vec Ideal S1x512 .f32) y = ((Q (y 1) : ℝ) : EReal) := by
  pointwise []
  refine (hv _).trans ?_
  exact congrArg (fun j : Fin 512 => ((Q j : ℝ) : EReal)) (at3_eq (y 1) _ _)

/-- The blocks each point of the grid reads and writes. -/
theorem idx : ∀ t : Fin grid0.N, (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = t.val ∧ win0_10.index t 1 = 0)
    ∧ (win0_11.index t 0 = t.val ∧ win0_11.index t 1 = 0)
    ∧ (win0_12.index t 0 = t.val ∧ win0_12.index t 1 = 0)
    ∧ (win0_13.index t 0 = t.val ∧ win0_13.index t 1 = 0)
    ∧ (win0_14.index t 0 = t.val ∧ win0_14.index t 1 = 0)
    ∧ (win0_15.index t 0 = 0 ∧ win0_15.index t 1 = 0)
    ∧ (win0_16.index t 0 = 0 ∧ win0_16.index t 1 = 0)
    ∧ (win0_17.index t 0 = 0 ∧ win0_17.index t 1 = 0) := by decide +kernel

/-- The row of the array that a block's row is. -/
def at_ (t : Fin cfg0.N) (p : Fin 512) : Fin 4096 :=
  ⟨t.val * 512 + p.val, by have h : t.val < 8 := t.isLt; have := p.isLt; omega⟩

/-- Eight blocks of 512 rows are all the rows. -/
theorem all_rows (f : Fin 4096 → ℝ) (t : Fin cfg0.N) (hr : t.val % 8 = 7) :
    ∑ s : Fin 8, ∑ r : Fin 512, f (at_ ⟨8 * (t.val / 8) + s.val, Pipeline.run_point_lt_of_flush t hr s⟩ r) = ∑ r, f r := by
  refine Fin.sum_mul_add_congr (M := ℝ) fun s k hl => congrArg f (Fin.ext ?_)
  have hs := s.isLt
  have ht : t.val < 8 := t.isLt
  show (8 * (t.val / 8) + s.val) * 512 + k.val = s.val * 512 + k.val
  omega

section Run

variable (c : Dev nD) (A : Fin 4096 → Fin 1024 → ℝ) (B : Fin 512 → Fin 1024 → ℝ) (Y R K U G : Fin 4096 → Fin 512 → ℝ)
  (W O Q : Fin 512 → ℝ)
  (h0 : ∀ i, m ((c : Thread nD τ).loc main_arg0) i = ((A (i 0) (i 1) : ℝ) : EReal))
  (h1 : ∀ i, m ((c : Thread nD τ).loc main_arg1) i = ((B (i 0) (i 1) : ℝ) : EReal))
  (h2 : ∀ i, m ((c : Thread nD τ).loc main_arg2) i = ((Y (i 0) (i 1) : ℝ) : EReal))
  (h3 : ∀ i, m ((c : Thread nD τ).loc main_arg3) i = ((R (i 0) (i 1) : ℝ) : EReal))
  (h4 : ∀ i, m ((c : Thread nD τ).loc main_arg4) i = ((K (i 0) (i 1) : ℝ) : EReal))
  (h5 : ∀ i, m ((c : Thread nD τ).loc main_arg5) i = ((U (i 0) (i 1) : ℝ) : EReal))
  (h6 : ∀ i, m ((c : Thread nD τ).loc main_arg6) i = ((G (i 0) (i 1) : ℝ) : EReal))
  (h7 : ∀ i, m ((c : Thread nD τ).loc main_arg7) i = ((W (i 0) : ℝ) : EReal))
  (h8 : ∀ i, m ((c : Thread nD τ).loc main_arg8) i = ((O (i 0) : ℝ) : EReal))
  (h9 : ∀ i, m ((c : Thread nD τ).loc main_arg9) i = ((Q (at3 (i 0) (i 1)) : ℝ) : EReal))

include h0 in
theorem blk_a (t : Fin cfg0.N) (y : S512x1024.Idx) : iblk m c 0 t y = ((A (at_ t (y 0)) (y 1) : ℝ) : EReal) := by
  have e := idx t
  show V m c main_arg0 _ = _
  rw [V_main_arg0, h0]
  refine congrArg (fun z : ℝ => (z : EReal)) (congrArg₂ A (Fin.ext ?_) (Fin.ext ?_))
  · show _ = t.val * 512 + (y 0).val
    blk_simp [e]
  · blk_simp [e]

include h1 in
theorem blk_b (t : Fin cfg0.N) (y : S1024x512.Idx) : iblk m c 1 t y = ((B (y 1) (y 0) : ℝ) : EReal) := by
  have e := idx t
  show V m c main_v3 _ = _
  rw [host_w]
  refine (transpose_apply _ _ _ _ (ix2 (y 1) (y 0) : S512x1024.Idx) fun b => ?_).trans (h1 _)
  match b with
  | ⟨0, _⟩ => blk_simp [e]; rfl
  | ⟨1, _⟩ => blk_simp [e]; rfl

include h2 in
theorem blk_2 (t : Fin cfg0.N) (y : S512x512.Idx) : iblk m c 2 t y = ((Y (at_ t (y 0)) (y 1) : ℝ) : EReal) := by
  have e := idx t
  show V m c main_arg2 _ = _
  rw [V_main_arg2, h2]
  refine congrArg (fun z : ℝ => (z : EReal)) (congrArg₂ Y (Fin.ext ?_) (Fin.ext ?_))
  · show _ = t.val * 512 + (y 0).val
    blk_simp [e]
  · blk_simp [e]

include h3 in
theorem blk_3 (t : Fin cfg0.N) (y : S512x512.Idx) : iblk m c 3 t y = ((R (at_ t (y 0)) (y 1) : ℝ) : EReal) := by
  have e := idx t
  show V m c main_arg3 _ = _
  rw [V_main_arg3, h3]
  refine congrArg (fun z : ℝ => (z : EReal)) (congrArg₂ R (Fin.ext ?_) (Fin.ext ?_))
  · show _ = t.val * 512 + (y 0).val
    blk_simp [e]
  · blk_simp [e]

include h4 in
theorem blk_4 (t : Fin cfg0.N) (y : S512x512.Idx) : iblk m c 4 t y = ((K (at_ t (y 0)) (y 1) : ℝ) : EReal) := by
  have e := idx t
  show V m c main_arg4 _ = _
  rw [V_main_arg4, h4]
  refine congrArg (fun z : ℝ => (z : EReal)) (congrArg₂ K (Fin.ext ?_) (Fin.ext ?_))
  · show _ = t.val * 512 + (y 0).val
    blk_simp [e]
  · blk_simp [e]

include h5 in
theorem blk_5 (t : Fin cfg0.N) (y : S512x512.Idx) : iblk m c 5 t y = ((U (at_ t (y 0)) (y 1) : ℝ) : EReal) := by
  have e := idx t
  show V m c main_arg5 _ = _
  rw [V_main_arg5, h5]
  refine congrArg (fun z : ℝ => (z : EReal)) (congrArg₂ U (Fin.ext ?_) (Fin.ext ?_))
  · show _ = t.val * 512 + (y 0).val
    blk_simp [e]
  · blk_simp [e]

include h6 in
theorem blk_6 (t : Fin cfg0.N) (y : S512x512.Idx) : iblk m c 6 t y = ((G (at_ t (y 0)) (y 1) : ℝ) : EReal) := by
  have e := idx t
  show V m c main_arg6 _ = _
  rw [V_main_arg6, h6]
  refine congrArg (fun z : ℝ => (z : EReal)) (congrArg₂ G (Fin.ext ?_) (Fin.ext ?_))
  · show _ = t.val * 512 + (y 0).val
    blk_simp [e]
  · blk_simp [e]

include h7 in
theorem blk_7 (t : Fin cfg0.N) (y : S1x512.Idx) : iblk m c 7 t y = ((W (y 1) : ℝ) : EReal) := by
  have e := idx t
  show V m c main_v0 _ = _
  rw [host_0, flat_at _ W h7]
  exact congrArg (fun z : Fin 512 => ((W z : ℝ) : EReal)) (Fin.ext (by blk_simp [e]))

include h8 in
theorem blk_8 (t : Fin cfg0.N) (y : S1x512.Idx) : iblk m c 8 t y = ((O (y 1) : ℝ) : EReal) := by
  have e := idx t
  show V m c main_v1 _ = _
  rw [host_1, flat_at _ O h8]
  exact congrArg (fun z : Fin 512 => ((O z : ℝ) : EReal)) (Fin.ext (by blk_simp [e]))

include h9 in
theorem blk_9 (t : Fin cfg0.N) (y : S1x512.Idx) : iblk m c 9 t y = ((Q (y 1) : ℝ) : EReal) := by
  have e := idx t
  show V m c main_v2 _ = _
  rw [host_2, heads_at _ Q h9]
  exact congrArg (fun z : Fin 512 => ((Q z : ℝ) : EReal)) (Fin.ext (by blk_simp [e]))

include h0 h1 in
theorem blk_c (t : Fin cfg0.N) (y : S512x512.Idx) :
    k0_pay3 (F := Ideal) (iblk m c 0 t) (iblk m c 1 t) y = ((Dyb.back A B (at_ t (y 0)) (y 1) : ℝ) : EReal) := by
  pointwise [k0_pay3]
  unfold Dyb.back
  rw [← Gdg.sum_real]
  refine Finset.sum_congr (M := EReal) rfl fun k _ => ?_
  rw [EReal.coe_mul]
  exact congrArg₂ (fun a b : EReal => a * b) (blk_a m c A h0 t (ix2 (y 0) k)) (blk_b m c B h1 t (ix2 k (y 1)))

include h0 h1 h2 h6 h7 in
theorem out_y (t : Fin cfg0.N) (y : S512x512.Idx) : (outsAt0 m c t.val t.isLt).1 y
    = ((dY (Y (at_ t (y 0))) W (G (at_ t (y 0))) (Dyb.back A B (at_ t (y 0))) (y 1) : ℝ) : EReal) := by
  have q := pay52 (iblk m c 2 t) (iblk m c 6 t) (k0_pay3 (F := Ideal) (iblk m c 0 t) (iblk m c 1 t)) (iblk m c 7 t)
    (fun p => Y (at_ t p)) (fun p => G (at_ t p)) (fun p => Dyb.back A B (at_ t p)) W
    (blk_2 m c Y h2 t) (blk_6 m c G h6 t) (blk_c m c A B h0 h1 t) (blk_7 m c W h7 t) y
  by_cases h : t.val % 8 = 0
  · rw [outsAt0_A m c t h]
    frame_out
    exact q
  · rw [outsAt0_B m c t h]
    frame_out
    exact q

include h0 h1 h2 h6 h7 in
theorem final_y : (dats m 0 c).arrAt 10 cfg0.N = TY A B Y G W := by
  refine (dats m 0 c).arrAt_eq_of_covers 10 _ (by decide +kernel) fun t hf y => ?_
  have e := idx t
  blk_simp
  rw [after0_10, out_y m c A B Y G W h0 h1 h2 h6 h7 t y]
  unfold TY
  have e0 : at_ t (y 0) = (((cfg0.win 10).blk t).view.emb y) 0 := by
    apply Fin.ext
    show t.val * 512 + (y 0).val = ((win0_10.blk t).view.emb y 0).val
    blk_simp [e]
  have e1 : (y 1 : Fin 512) = (((cfg0.win 10).blk t).view.emb y) 1 := by
    apply Fin.ext
    show (y 1).val = ((win0_10.blk t).view.emb y 1).val
    blk_simp [e]
  rw [e0, e1]

include h0 h1 h4 h5 h6 h9 in
theorem out_r (t : Fin cfg0.N) (y : S512x512.Idx) : (outsAt0 m c t.val t.isLt).2.1 y
    = ((dR (K (at_ t (y 0))) (U (at_ t (y 0))) Q (G (at_ t (y 0))) (Dyb.back A B (at_ t (y 0))) (y 1) : ℝ) : EReal) := by
  have q := pay38 (iblk m c 4 t) (iblk m c 5 t) (iblk m c 6 t) (k0_pay3 (F := Ideal) (iblk m c 0 t) (iblk m c 1 t)) (iblk m c 9 t)
    (fun p => K (at_ t p)) (fun p => U (at_ t p)) (fun p => G (at_ t p)) (fun p => Dyb.back A B (at_ t p)) Q
    (blk_4 m c K h4 t) (blk_5 m c U h5 t) (blk_6 m c G h6 t) (blk_c m c A B h0 h1 t) (blk_9 m c Q h9 t) y
  by_cases h : t.val % 8 = 0
  · rw [outsAt0_A m c t h]
    frame_out
    exact q
  · rw [outsAt0_B m c t h]
    frame_out
    exact q

include h0 h1 h4 h5 h6 h9 in
theorem final_r : (dats m 0 c).arrAt 11 cfg0.N = TR A B K U G Q := by
  refine (dats m 0 c).arrAt_eq_of_covers 11 _ (by decide +kernel) fun t hf y => ?_
  have e := idx t
  blk_simp
  rw [after0_11, out_r m c A B K U G Q h0 h1 h4 h5 h6 h9 t y]
  unfold TR
  have e0 : at_ t (y 0) = (((cfg0.win 11).blk t).view.emb y) 0 := by
    apply Fin.ext
    show t.val * 512 + (y 0).val = ((win0_11.blk t).view.emb y 0).val
    blk_simp [e]
  have e1 : (y 1 : Fin 512) = (((cfg0.win 11).blk t).view.emb y) 1 := by
    apply Fin.ext
    show (y 1).val = ((win0_11.blk t).view.emb y 1).val
    blk_simp [e]
  rw [e0, e1]

include h0 h1 h3 h5 h6 h9 in
theorem out_k (t : Fin cfg0.N) (y : S512x512.Idx) : (outsAt0 m c t.val t.isLt).2.2.1 y
    = ((dK (R (at_ t (y 0))) (U (at_ t (y 0))) Q (G (at_ t (y 0))) (Dyb.back A B (at_ t (y 0))) (y 1) : ℝ) : EReal) := by
  have q := pay37 (iblk m c 3 t) (iblk m c 5 t) (iblk m c 6 t) (k0_pay3 (F := Ideal) (iblk m c 0 t) (iblk m c 1 t)) (iblk m c 9 t)
    (fun p => R (at_ t p)) (fun p => U (at_ t p)) (fun p => G (at_ t p)) (fun p => Dyb.back A B (at_ t p)) Q
    (blk_3 m c R h3 t) (blk_5 m c U h5 t) (blk_6 m c G h6 t) (blk_c m c A B h0 h1 t) (blk_9 m c Q h9 t) y
  by_cases h : t.val % 8 = 0
  · rw [outsAt0_A m c t h]
    frame_out
    exact q
  · rw [outsAt0_B m c t h]
    frame_out
    exact q

include h0 h1 h3 h5 h6 h9 in
theorem final_k : (dats m 0 c).arrAt 12 cfg0.N = TK A B R U G Q := by
  refine (dats m 0 c).arrAt_eq_of_covers 12 _ (by decide +kernel) fun t hf y => ?_
  have e := idx t
  blk_simp
  rw [after0_12, out_k m c A B R U G Q h0 h1 h3 h5 h6 h9 t y]
  unfold TK
  have e0 : at_ t (y 0) = (((cfg0.win 12).blk t).view.emb y) 0 := by
    apply Fin.ext
    show t.val * 512 + (y 0).val = ((win0_12.blk t).view.emb y 0).val
    blk_simp [e]
  have e1 : (y 1 : Fin 512) = (((cfg0.win 12).blk t).view.emb y) 1 := by
    apply Fin.ext
    show (y 1).val = ((win0_12.blk t).view.emb y 1).val
    blk_simp [e]
  rw [e0, e1]

include h0 h1 h3 h4 h6 h9 in
theorem out_v (t : Fin cfg0.N) (y : S512x512.Idx) : (outsAt0 m c t.val t.isLt).2.2.2.1 y
    = ((dV (R (at_ t (y 0))) (K (at_ t (y 0))) Q (G (at_ t (y 0))) (Dyb.back A B (at_ t (y 0))) (y 1) : ℝ) : EReal) := by
  have q := pay28 (iblk m c 3 t) (iblk m c 4 t) (iblk m c 6 t) (k0_pay3 (F := Ideal) (iblk m c 0 t) (iblk m c 1 t)) (iblk m c 9 t)
    (fun p => R (at_ t p)) (fun p => K (at_ t p)) (fun p => G (at_ t p)) (fun p => Dyb.back A B (at_ t p)) Q
    (blk_3 m c R h3 t) (blk_4 m c K h4 t) (blk_6 m c G h6 t) (blk_c m c A B h0 h1 t) (blk_9 m c Q h9 t) y
  by_cases h : t.val % 8 = 0
  · rw [outsAt0_A m c t h]
    frame_out
    exact q
  · rw [outsAt0_B m c t h]
    frame_out
    exact q

include h0 h1 h3 h4 h6 h9 in
theorem final_v : (dats m 0 c).arrAt 13 cfg0.N = TV A B R K G Q := by
  refine (dats m 0 c).arrAt_eq_of_covers 13 _ (by decide +kernel) fun t hf y => ?_
  have e := idx t
  blk_simp
  rw [after0_13, out_v m c A B R K G Q h0 h1 h3 h4 h6 h9 t y]
  unfold TV
  have e0 : at_ t (y 0) = (((cfg0.win 13).blk t).view.emb y) 0 := by
    apply Fin.ext
    show t.val * 512 + (y 0).val = ((win0_13.blk t).view.emb y 0).val
    blk_simp [e]
  have e1 : (y 1 : Fin 512) = (((cfg0.win 13).blk t).view.emb y) 1 := by
    apply Fin.ext
    show (y 1).val = ((win0_13.blk t).view.emb y 1).val
    blk_simp [e]
  rw [e0, e1]

include h0 h1 h2 h3 h4 h5 h7 h8 h9 in
theorem out_g (t : Fin cfg0.N) (y : S512x512.Idx) : (outsAt0 m c t.val t.isLt).2.2.2.2.1 y
    = ((dG (Y (at_ t (y 0))) (R (at_ t (y 0))) (K (at_ t (y 0))) (U (at_ t (y 0))) W O Q (Dyb.back A B (at_ t (y 0))) (y 1) : ℝ) : EReal) := by
  have q := pay26 (iblk m c 2 t) (iblk m c 3 t) (iblk m c 4 t) (iblk m c 5 t) (k0_pay3 (F := Ideal) (iblk m c 0 t) (iblk m c 1 t)) (iblk m c 7 t) (iblk m c 8 t) (iblk m c 9 t)
    (fun p => Y (at_ t p)) (fun p => R (at_ t p)) (fun p => K (at_ t p)) (fun p => U (at_ t p)) (fun p => Dyb.back A B (at_ t p)) W O Q
    (blk_2 m c Y h2 t) (blk_3 m c R h3 t) (blk_4 m c K h4 t) (blk_5 m c U h5 t) (blk_c m c A B h0 h1 t) (blk_7 m c W h7 t) (blk_8 m c O h8 t) (blk_9 m c Q h9 t) y
  by_cases h : t.val % 8 = 0
  · rw [outsAt0_A m c t h]
    frame_out
    exact q
  · rw [outsAt0_B m c t h]
    frame_out
    exact q

include h0 h1 h2 h3 h4 h5 h7 h8 h9 in
theorem final_g : (dats m 0 c).arrAt 14 cfg0.N = TG A B Y R K U W O Q := by
  refine (dats m 0 c).arrAt_eq_of_covers 14 _ (by decide +kernel) fun t hf y => ?_
  have e := idx t
  blk_simp
  rw [after0_14, out_g m c A B Y R K U W O Q h0 h1 h2 h3 h4 h5 h7 h8 h9 t y]
  unfold TG
  have e0 : at_ t (y 0) = (((cfg0.win 14).blk t).view.emb y) 0 := by
    apply Fin.ext
    show t.val * 512 + (y 0).val = ((win0_14.blk t).view.emb y 0).val
    blk_simp [e]
  have e1 : (y 1 : Fin 512) = (((cfg0.win 14).blk t).view.emb y) 1 := by
    apply Fin.ext
    show (y 1).val = ((win0_14.blk t).view.emb y 1).val
    blk_simp [e]
  rw [e0, e1]

/-- A block's part of that gradient. -/
def part_a (A : Fin 4096 → Fin 1024 → ℝ) (B : Fin 512 → Fin 1024 → ℝ) (Y : Fin 4096 → Fin 512 → ℝ) (G : Fin 4096 → Fin 512 → ℝ)
    (t : Fin cfg0.N) (y : S1x512.Idx) : ℝ :=
  ∑ p : Fin 512, dA (Y (at_ t p)) (G (at_ t p)) (Dyb.back A B (at_ t p)) (y 1)

include h0 h1 h2 h6 in
theorem add_a (t : Fin cfg0.N) (v : Vec Ideal S1x512 .f32) (y : S1x512.Idx) :
    k0_pay56 (F := Ideal) (k0_pay40 (k0_pay18 (k0_pay10 (iblk m c 2 t) rows k0_pay7 k0_pay8 k0_pay9) (k0_pay11 (iblk m c 2 t) rows k0_pay7 k0_pay8 k0_pay9) (k0_pay12 rows) k0_pay13 k0_pay14 1#32) (k0_pay27 (k0_pay3 (iblk m c 0 t) (iblk m c 1 t)) (iblk m c 6 t))) v y
      = (v y + ((part_a A B Y G t y : ℝ) : EReal) : EReal) := by
  have q := pay40 (iblk m c 2 t) (iblk m c 6 t) (k0_pay3 (F := Ideal) (iblk m c 0 t) (iblk m c 1 t))
    (fun p => Y (at_ t p)) (fun p => G (at_ t p)) (fun p => Dyb.back A B (at_ t p))
    (blk_2 m c Y h2 t) (blk_6 m c G h6 t) (blk_c m c A B h0 h1 t) y
  pointwise [k0_pay56]
  exact congrArg (fun z : EReal => v y + z) q

include h0 h1 h2 h6 in
theorem run_a (t : Fin cfg0.N) (hr : t.val % 8 = 7) (y : S1x512.Idx) :
    (outsAt0 m c t.val t.isLt).2.2.2.2.2.1 y
      = (0 + ∑ s : Fin 8, ((part_a A B Y G ⟨8 * (t.val / 8) + s.val, Pipeline.run_point_lt_of_flush t hr s⟩ y : ℝ) : EReal) : EReal) := by
  refine Pipeline.eq_sum_fin_of_reset_step_apply_of_flush (M := EReal) (fun n h => (outsAt0 m c n h).2.2.2.2.2.1) 8 (fun _ => 0)
    (fun t y => ((part_a A B Y G t y : ℝ) : EReal)) (fun t h j => ?_) (fun t h j => ?_) t hr y
  · rw [outsAt0_A m c t h]
    frame_out
    refine (add_a m c A B Y G h0 h1 h2 h6 t _ j).trans ?_
    exact congrArg (fun z : EReal => z + _) (pay53 j)
  · rw [outsAt0_B m c t h]
    frame_out
    exact add_a m c A B Y G h0 h1 h2 h6 t _ j

include h0 h1 h2 h6 in
theorem final_a : (dats m 0 c).arrAt 15 cfg0.N = TA A B Y G := by
  refine (dats m 0 c).arrAt_eq_of_covers 15 _ (by decide +kernel) fun t hf y => ?_
  have hr : t.val % 8 = 7 := (flush0_15 t).mp hf
  have e := idx t
  blk_simp
  rw [after0_15, run_a m c A B Y G h0 h1 h2 h6 t hr, zero_add, Gdg.sum_real]
  unfold TA part_a
  have e1 : (y 1 : Fin 512) = (((cfg0.win 15).blk t).view.emb y) 1 := by
    apply Fin.ext
    show (y 1).val = ((win0_15.blk t).view.emb y 1).val
    blk_simp [e]
  rw [← e1]
  exact congrArg (fun z : ℝ => (z : EReal)) (all_rows (fun p => dA (Y p) (G p) (Dyb.back A B p) (y 1)) t hr)

/-- A block's part of that gradient. -/
def part_b (A : Fin 4096 → Fin 1024 → ℝ) (B : Fin 512 → Fin 1024 → ℝ) (G : Fin 4096 → Fin 512 → ℝ)
    (t : Fin cfg0.N) (y : S1x512.Idx) : ℝ :=
  ∑ p : Fin 512, dB (G (at_ t p)) (Dyb.back A B (at_ t p)) (y 1)

include h0 h1 h6 in
theorem add_b (t : Fin cfg0.N) (v : Vec Ideal S1x512 .f32) (y : S1x512.Idx) :
    k0_pay1 (F := Ideal) (k0_pay39 (k0_pay27 (k0_pay3 (iblk m c 0 t) (iblk m c 1 t)) (iblk m c 6 t))) v y
      = (v y + ((part_b A B G t y : ℝ) : EReal) : EReal) := by
  have q := pay39 (iblk m c 6 t) (k0_pay3 (F := Ideal) (iblk m c 0 t) (iblk m c 1 t))
    (fun p => G (at_ t p)) (fun p => Dyb.back A B (at_ t p))
    (blk_6 m c G h6 t) (blk_c m c A B h0 h1 t) y
  pointwise [k0_pay1]
  exact congrArg (fun z : EReal => v y + z) q

include h0 h1 h6 in
theorem run_b (t : Fin cfg0.N) (hr : t.val % 8 = 7) (y : S1x512.Idx) :
    (outsAt0 m c t.val t.isLt).2.2.2.2.2.2.1 y
      = (0 + ∑ s : Fin 8, ((part_b A B G ⟨8 * (t.val / 8) + s.val, Pipeline.run_point_lt_of_flush t hr s⟩ y : ℝ) : EReal) : EReal) := by
  refine Pipeline.eq_sum_fin_of_reset_step_apply_of_flush (M := EReal) (fun n h => (outsAt0 m c n h).2.2.2.2.2.2.1) 8 (fun _ => 0)
    (fun t y => ((part_b A B G t y : ℝ) : EReal)) (fun t h j => ?_) (fun t h j => ?_) t hr y
  · rw [outsAt0_A m c t h]
    frame_out
    refine (add_b m c A B G h0 h1 h6 t _ j).trans ?_
    exact congrArg (fun z : EReal => z + _) (pay54 j)
  · rw [outsAt0_B m c t h]
    frame_out
    exact add_b m c A B G h0 h1 h6 t _ j

include h0 h1 h6 in
theorem final_b : (dats m 0 c).arrAt 16 cfg0.N = TB A B G := by
  refine (dats m 0 c).arrAt_eq_of_covers 16 _ (by decide +kernel) fun t hf y => ?_
  have hr : t.val % 8 = 7 := (flush0_16 t).mp hf
  have e := idx t
  blk_simp
  rw [after0_16, run_b m c A B G h0 h1 h6 t hr, zero_add, Gdg.sum_real]
  unfold TB part_b
  have e1 : (y 1 : Fin 512) = (((cfg0.win 16).blk t).view.emb y) 1 := by
    apply Fin.ext
    show (y 1).val = ((win0_16.blk t).view.emb y 1).val
    blk_simp [e]
  rw [← e1]
  exact congrArg (fun z : ℝ => (z : EReal)) (all_rows (fun p => dB (G p) (Dyb.back A B p) (y 1)) t hr)

/-- A block's part of that gradient. -/
def part_q (A : Fin 4096 → Fin 1024 → ℝ) (B : Fin 512 → Fin 1024 → ℝ) (R : Fin 4096 → Fin 512 → ℝ) (K : Fin 4096 → Fin 512 → ℝ) (U : Fin 4096 → Fin 512 → ℝ) (G : Fin 4096 → Fin 512 → ℝ)
    (t : Fin cfg0.N) (y : S1x512.Idx) : ℝ :=
  ∑ p : Fin 512, dQ (R (at_ t p)) (K (at_ t p)) (U (at_ t p)) (G (at_ t p)) (Dyb.back A B (at_ t p)) (y 1)

include h0 h1 h3 h4 h5 h6 in
theorem add_q (t : Fin cfg0.N) (v : Vec Ideal S1x512 .f32) (y : S1x512.Idx) :
    k0_pay2 (F := Ideal) (k0_pay35 (k0_pay20 (iblk m c 3 t) (iblk m c 4 t)) (k0_pay29 (k0_pay3 (iblk m c 0 t) (iblk m c 1 t)) (iblk m c 5 t) (iblk m c 6 t)) (k0_pay30 rows 64#32) k0_pay31 k0_pay32 k0_pay33) v y
      = (v y + ((part_q A B R K U G t y : ℝ) : EReal) : EReal) := by
  have q := pay35 (iblk m c 3 t) (iblk m c 4 t) (iblk m c 5 t) (iblk m c 6 t) (k0_pay3 (F := Ideal) (iblk m c 0 t) (iblk m c 1 t))
    (fun p => R (at_ t p)) (fun p => K (at_ t p)) (fun p => U (at_ t p)) (fun p => G (at_ t p)) (fun p => Dyb.back A B (at_ t p))
    (blk_3 m c R h3 t) (blk_4 m c K h4 t) (blk_5 m c U h5 t) (blk_6 m c G h6 t) (blk_c m c A B h0 h1 t) y
  pointwise [k0_pay2]
  exact congrArg (fun z : EReal => v y + z) q

include h0 h1 h3 h4 h5 h6 in
theorem run_q (t : Fin cfg0.N) (hr : t.val % 8 = 7) (y : S1x512.Idx) :
    (outsAt0 m c t.val t.isLt).2.2.2.2.2.2.2 y
      = (0 + ∑ s : Fin 8, ((part_q A B R K U G ⟨8 * (t.val / 8) + s.val, Pipeline.run_point_lt_of_flush t hr s⟩ y : ℝ) : EReal) : EReal) := by
  refine Pipeline.eq_sum_fin_of_reset_step_apply_of_flush (M := EReal) (fun n h => (outsAt0 m c n h).2.2.2.2.2.2.2) 8 (fun _ => 0)
    (fun t y => ((part_q A B R K U G t y : ℝ) : EReal)) (fun t h j => ?_) (fun t h j => ?_) t hr y
  · rw [outsAt0_A m c t h]
    frame_out
    refine (add_q m c A B R K U G h0 h1 h3 h4 h5 h6 t _ j).trans ?_
    exact congrArg (fun z : EReal => z + _) (pay55 j)
  · rw [outsAt0_B m c t h]
    frame_out
    exact add_q m c A B R K U G h0 h1 h3 h4 h5 h6 t _ j

include h0 h1 h3 h4 h5 h6 in
theorem final_q : (dats m 0 c).arrAt 17 cfg0.N = TQ A B R K U G := by
  refine (dats m 0 c).arrAt_eq_of_covers 17 _ (by decide +kernel) fun t hf y => ?_
  have hr : t.val % 8 = 7 := (flush0_17 t).mp hf
  have e := idx t
  blk_simp
  rw [after0_17, run_q m c A B R K U G h0 h1 h3 h4 h5 h6 t hr, zero_add, Gdg.sum_real]
  unfold TQ part_q
  have e1 : (y 1 : Fin 512) = (((cfg0.win 17).blk t).view.emb y) 1 := by
    apply Fin.ext
    show (y 1).val = ((win0_17.blk t).view.emb y 1).val
    blk_simp [e]
  rw [← e1]
  exact congrArg (fun z : ℝ => (z : EReal)) (all_rows (fun p => dQ (R p) (K p) (U p) (G p) (Dyb.back A B p) (y 1)) t hr)

end Run

end Cert.Proof.Dya

end
-- ==== Proof.DyaRef.lean ====
/-
  The gradient of the RWKV-7 output norm, bonus and gate: the textbook's stages, each at an index.
-/
module

public import proofs.«01_k».proof.Proof.Gen.DyaRIdeal.Read
public import proofs.«01_k».proof.Proof.DyaSpec
public import Idealize.ShloMosaic.Lib.Pointwise

@[expose] public section

set_option maxRecDepth 16384

noncomputable section

namespace Cert.Proof.Dya

open Cert.DyaRIdeal Cert.DyaRIdeal.Gen Cert.DyaRIdeal.Read Idealize.ShloMosaic Idealize.ShloMosaic.TcCoe Idealize.SL.Sem

/-! ## A head's sums, over the reals -/

theorem mean_at3 (u : Fin 512 → ℝ) (h : Fin 8) (k : Fin 64) : (∑ l : Fin 64, u (at3 h l)) / 64 = seg u (at3 h k) * (1 / 64) := by
  rw [seg_at3, div_eq_mul_one_div]

theorem vr_at3 (u : Fin 512 → ℝ) (h : Fin 8) (k : Fin 64) :
    (∑ l : Fin 64, cen u (at3 h l) * cen u (at3 h l)) / 64 + eps = vr u (at3 h k) := by
  unfold vr
  rw [seg_at3, div_eq_mul_one_div]

theorem bonus_at3 (r k q : Fin 512 → ℝ) (h : Fin 8) (x : Fin 64) :
    (∑ l : Fin 64, r (at3 h l) * k (at3 h l) * q (at3 h l)) = bonus r k q (at3 h x) := by
  unfold bonus
  rw [seg_at3]

theorem tie_at3 (v g c : Fin 512 → ℝ) (h : Fin 8) (x : Fin 64) :
    (∑ l : Fin 64, c (at3 h l) * g (at3 h l) * v (at3 h l)) = tie v g c (at3 h x) := by
  unfold tie
  rw [seg_at3]

theorem drag_at3 (y a g c : Fin 512 → ℝ) (h : Fin 8) (x : Fin 64) :
    (∑ l : Fin 64, cen y (at3 h l) * into a g c (at3 h l)) * slope y (at3 h x) / 64 = drag y a g c (at3 h x) := by
  unfold drag
  rw [seg_at3, div_eq_mul_one_div]

theorem rest_at3 (y a g c : Fin 512 → ℝ) (h : Fin 8) (x : Fin 64) :
    (into a g c (at3 h x) * inv y (at3 h x) + drag y a g c (at3 h x) * (2 * cen y (at3 h x)))
        + ((∑ l : Fin 64, -(into a g c (at3 h l) * inv y (at3 h l)))
            + ∑ l : Fin 64, -(drag y a g c (at3 h l) * (2 * cen y (at3 h l)))) / 64
      = dY y a g c (at3 h x) := by
  unfold dY
  rw [seg_at3, ← Finset.sum_mul, ← Finset.sum_add_distrib, div_eq_mul_one_div]
  refine congrArg₂ (fun s t : ℝ => s + t * (1 / 64)) ?_ (Finset.sum_congr rfl fun l _ => ?_)
  · unfold dC
    ring
  · unfold dC
    ring

section Reference

variable (x0 : Vec Ideal S4096x1024 .bf16) (x1 : Vec Ideal S512x1024 .bf16) (x2 x3 x4 x5 x6 : Vec Ideal S4096x512 .f32)
  (x7 x8 : Vec Ideal S512 .f32) (x9 : Vec Ideal S8x64 .f32)
  (A : Fin 4096 → Fin 1024 → ℝ) (B : Fin 512 → Fin 1024 → ℝ) (Y R K U G : Fin 4096 → Fin 512 → ℝ) (W O Q : Fin 512 → ℝ)
  (h0 : ∀ i, x0 i = ((A (i 0) (i 1) : ℝ) : EReal)) (h1 : ∀ i, x1 i = ((B (i 0) (i 1) : ℝ) : EReal))
  (h2 : ∀ i, x2 i = ((Y (i 0) (i 1) : ℝ) : EReal)) (h3 : ∀ i, x3 i = ((R (i 0) (i 1) : ℝ) : EReal))
  (h4 : ∀ i, x4 i = ((K (i 0) (i 1) : ℝ) : EReal)) (h5 : ∀ i, x5 i = ((U (i 0) (i 1) : ℝ) : EReal))
  (h6 : ∀ i, x6 i = ((G (i 0) (i 1) : ℝ) : EReal)) (h7 : ∀ i, x7 i = ((W (i 0) : ℝ) : EReal))
  (h8 : ∀ i, x8 i = ((O (i 0) : ℝ) : EReal)) (h9 : ∀ i, x9 i = ((Q (at3 (i 0) (i 1)) : ℝ) : EReal))

include h2 in
theorem s4 (i : S4096x8x64.Idx) : val_main_v4 (F := Ideal) x2 i = ((Y (i 0) (at3 (i 1) (i 2)) : ℝ) : EReal) := by
  pointwise [val_main_v4]
  exact h2 _

include h3 in
theorem s5 (i : S4096x8x64.Idx) : val_main_v5 (F := Ideal) x3 i = ((R (i 0) (at3 (i 1) (i 2)) : ℝ) : EReal) := by
  pointwise [val_main_v5]
  exact h3 _

include h4 in
theorem s6 (i : S4096x8x64.Idx) : val_main_v6 (F := Ideal) x4 i = ((K (i 0) (at3 (i 1) (i 2)) : ℝ) : EReal) := by
  pointwise [val_main_v6]
  exact h4 _

include h5 in
theorem s7 (i : S4096x8x64.Idx) : val_main_v7 (F := Ideal) x5 i = ((U (i 0) (at3 (i 1) (i 2)) : ℝ) : EReal) := by
  pointwise [val_main_v7]
  exact h5 _

include h7 in
theorem s33 (i : S4096x8x64.Idx) : val_main_v33 (F := Ideal) x7 i = ((W (at3 (i 1) (i 2)) : ℝ) : EReal) := by
  pointwise [val_main_v33, val_main_v32, val_main_v31]
  exact h7 _

include h7 in
theorem s75 (i : S4096x8x64.Idx) : val_main_v75 (F := Ideal) x7 i = ((W (at3 (i 1) (i 2)) : ℝ) : EReal) := by
  pointwise [val_main_v75, val_main_v32, val_main_v31]
  exact h7 _

include h8 in
theorem s37 (i : S4096x8x64.Idx) : val_main_v37 (F := Ideal) x8 i = ((O (at3 (i 1) (i 2)) : ℝ) : EReal) := by
  pointwise [val_main_v37, val_main_v36, val_main_v35]
  exact h8 _

include h9 in
theorem s41 (i : S4096x8x64.Idx) : val_main_v41 (F := Ideal) x9 i = ((Q (at3 (i 1) (i 2)) : ℝ) : EReal) := by
  pointwise [val_main_v41, val_main_v40]
  exact h9 _

include h9 in
theorem s63 (i : S4096x8x64.Idx) : val_main_v63 (F := Ideal) x9 i = ((Q (at3 (i 1) (i 2)) : ℝ) : EReal) := by
  pointwise [val_main_v63, val_main_v40]
  exact h9 _

include h2 in
theorem s11 (i : S4096x8x1.Idx) (k : Fin 64) : val_main_v11 (F := Ideal) x2 i = ((seg (Y (i 0)) (at3 (i 1) k) * (1 / 64) : ℝ) : EReal) := by
  pointwise [val_main_v11, val_main_v10, val_main_cst_0, val_main_v9, val_main_v8, val_main_cst]
  refine (congrArg (fun s : EReal => Ideal.div s _)
    ((Finset.sum_congr (M := EReal) rfl fun l _ => s4 x2 Y h2 (ix3 (i 0) (i 1) l)).trans (Gdg.sum_real _))).trans ?_
  rw [width_word, Dyb.div_real _ _ (by norm_num)]
  exact congrArg (fun x : ℝ => (x : EReal)) (mean_at3 (Y (i 0)) (i 1) k)

include h2 in
theorem s13 (i : S4096x8x64.Idx) : val_main_v13 (F := Ideal) x2 i = ((cen (Y (i 0)) (at3 (i 1) (i 2)) : ℝ) : EReal) := by
  pointwise [val_main_v13, val_main_v12]
  refine (congrArg₂ (fun a b : EReal => a - b) (s4 x2 Y h2 i) (s11 x2 Y h2 (ix3 (i 0) (i 1) 0) (i 2))).trans ?_
  exact (EReal.coe_sub _ _).symm

include h2 in
theorem s22 (i : S4096x8x64.Idx) : val_main_v22 (F := Ideal) x2 i = ((cen (Y (i 0)) (at3 (i 1) (i 2)) : ℝ) : EReal) := by
  pointwise [val_main_v22, val_main_v21]
  refine (congrArg₂ (fun a b : EReal => a - b) (s4 x2 Y h2 i) (s11 x2 Y h2 (ix3 (i 0) (i 1) 0) (i 2))).trans ?_
  exact (EReal.coe_sub _ _).symm

include h2 in
theorem s24 (i : S4096x8x1.Idx) (k : Fin 64) : val_main_v24 (F := Ideal) x2 i = ((vr (Y (i 0)) (at3 (i 1) k) : ℝ) : EReal) := by
  pointwise [val_main_v24, val_main_v23, val_main_cst_4, val_main_v20, val_main_v19, val_main_cst_3, val_main_v18, val_main_v17, val_main_cst_2, val_main_v14]
  have h : ∀ l : Fin 64, (val_main_v13 (F := Ideal) x2 (ix3 (i 0) (i 1) l) * val_main_v13 (F := Ideal) x2 (ix3 (i 0) (i 1) l) : EReal)
      = ((cen (Y (i 0)) (at3 (i 1) l) * cen (Y (i 0)) (at3 (i 1) l) : ℝ) : EReal) := by
    intro l
    rw [EReal.coe_mul]
    exact congrArg₂ (fun a b : EReal => a * b) (s13 x2 Y h2 _) (s13 x2 Y h2 _)
  refine (congrArg (fun s : EReal => Ideal.div s _ + _)
    ((Finset.sum_congr (M := EReal) rfl fun l _ => h l).trans (Gdg.sum_real _))).trans ?_
  rw [width_word, eps_word, Dyb.div_real _ _ (by norm_num), ← EReal.coe_add]
  exact congrArg (fun x : ℝ => (x : EReal)) (vr_at3 (Y (i 0)) (i 1) k)

include h2 in
theorem s25 (i : S4096x8x1.Idx) (k : Fin 64) : val_main_v25 (F := Ideal) x2 i = ((inv (Y (i 0)) (at3 (i 1) k) : ℝ) : EReal) := by
  pointwise [val_main_v25]
  rw [s24 x2 Y h2 i k]
  exact Dyb.rsqrt_real _ (vr_pos _ _)

include h2 in
theorem s28 (i : S4096x8x1.Idx) (k : Fin 64) : val_main_v28 (F := Ideal) x2 i = ((slope (Y (i 0)) (at3 (i 1) k) : ℝ) : EReal) := by
  pointwise [val_main_v28, val_main_v27, val_main_v26, val_main_cst_5]
  rw [s24 x2 Y h2 i k, s25 x2 Y h2 i k]
  exact (congrArg₂ (fun a b : EReal => a * b) Dyb.half_neg_word (Dyb.div_real _ _ (vr_pos _ _))).trans (EReal.coe_mul _ _).symm

include h2 in
theorem s30 (i : S4096x8x64.Idx) : val_main_v30 (F := Ideal) x2 i
    = ((cen (Y (i 0)) (at3 (i 1) (i 2)) * inv (Y (i 0)) (at3 (i 1) (i 2)) : ℝ) : EReal) := by
  pointwise [val_main_v30, val_main_v29]
  refine (congrArg₂ (fun a b : EReal => a * b) (s22 x2 Y h2 i) (s25 x2 Y h2 (ix3 (i 0) (i 1) 0) (i 2))).trans ?_
  exact (EReal.coe_mul _ _).symm

include h2 h7 h8 in
theorem s38 (i : S4096x8x64.Idx) : val_main_v38 (F := Ideal) x2 x7 x8 i
    = ((cen (Y (i 0)) (at3 (i 1) (i 2)) * inv (Y (i 0)) (at3 (i 1) (i 2)) * W (at3 (i 1) (i 2)) + O (at3 (i 1) (i 2)) : ℝ) : EReal) := by
  pointwise [val_main_v38, val_main_v34]
  rw [s30 x2 Y h2 i, s33 x7 W h7 i, s37 x8 O h8 i, ← EReal.coe_mul, ← EReal.coe_add]

include h3 h4 in
theorem s39 (i : S4096x8x64.Idx) : val_main_v39 (F := Ideal) x3 x4 i
    = ((R (i 0) (at3 (i 1) (i 2)) * K (i 0) (at3 (i 1) (i 2)) : ℝ) : EReal) := by
  pointwise [val_main_v39]
  rw [s5 x3 R h3 i, s6 x4 K h4 i, ← EReal.coe_mul]

include h3 h4 h9 in
theorem s42 (i : S4096x8x64.Idx) : val_main_v42 (F := Ideal) x3 x4 x9 i
    = ((R (i 0) (at3 (i 1) (i 2)) * K (i 0) (at3 (i 1) (i 2)) * Q (at3 (i 1) (i 2)) : ℝ) : EReal) := by
  pointwise [val_main_v42]
  rw [s39 x3 x4 R K h3 h4 i, s41 x9 Q h9 i, ← EReal.coe_mul]

include h3 h4 h9 in
theorem s44 (i : S4096x8x1.Idx) (k : Fin 64) : val_main_v44 (F := Ideal) x3 x4 x9 i
    = ((bonus (R (i 0)) (K (i 0)) Q (at3 (i 1) k) : ℝ) : EReal) := by
  pointwise [val_main_v44, val_main_v43, val_main_cst_6]
  refine ((Finset.sum_congr (M := EReal) rfl fun l _ => s42 x3 x4 x9 R K Q h3 h4 h9 (ix3 (i 0) (i 1) l)).trans (Gdg.sum_real _)).trans ?_
  exact congrArg (fun x : ℝ => (x : EReal)) (bonus_at3 (R (i 0)) (K (i 0)) Q (i 1) k)

include h2 h3 h4 h5 h7 h8 h9 in
theorem s47 (i : S4096x8x64.Idx) : val_main_v47 (F := Ideal) x2 x3 x4 x5 x7 x8 x9 i
    = ((cen (Y (i 0)) (at3 (i 1) (i 2)) * inv (Y (i 0)) (at3 (i 1) (i 2)) * W (at3 (i 1) (i 2)) + O (at3 (i 1) (i 2))
        + bonus (R (i 0)) (K (i 0)) Q (at3 (i 1) (i 2)) * U (i 0) (at3 (i 1) (i 2)) : ℝ) : EReal) := by
  pointwise [val_main_v47, val_main_v46, val_main_v45]
  refine (congrArg₂ (fun a b : EReal => a + b) (s38 x2 x7 x8 Y W O h2 h7 h8 i)
    (congrArg₂ (fun a b : EReal => a * b) (s44 x3 x4 x9 R K Q h3 h4 h9 (ix3 (i 0) (i 1) 0) (i 2)) (s7 x5 U h5 i))).trans ?_
  rw [← EReal.coe_mul, ← EReal.coe_add]
  rfl

include h0 h1 in
theorem s3 (i : S4096x512.Idx) : val_main_v3 (F := Ideal) x0 x1 i = ((Dyb.back A B (i 0) (i 1) : ℝ) : EReal) := by
  pointwise [val_main_v3, val_main_v2, val_main_v1, val_main_v0]
  unfold Dyb.back
  rw [← Gdg.sum_real]
  refine Finset.sum_congr (M := EReal) rfl fun k _ => ?_
  rw [EReal.coe_mul]
  exact congrArg₂ (fun a b : EReal => a * b) (h0 _) (h1 (ix2 (i 1) k))

include h0 h1 h6 in
theorem s52 (i : S4096x8x64.Idx) : val_main_v52 (F := Ideal) x0 x1 x6 i
    = ((Dyb.back A B (i 0) (at3 (i 1) (i 2)) * G (i 0) (at3 (i 1) (i 2)) : ℝ) : EReal) := by
  pointwise [val_main_v52, val_main_v51]
  refine (congrArg₂ (fun a b : EReal => a * b) (s3 x0 x1 A B h0 h1 (ix2 (i 0) (at3 (i 1) (i 2)))) (h6 (ix2 (i 0) (at3 (i 1) (i 2))))).trans ?_
  exact (EReal.coe_mul _ _).symm

include h0 h1 h3 h4 h6 h9 in
theorem s54 (i : S4096x8x64.Idx) : val_main_v54 (F := Ideal) x0 x1 x3 x4 x6 x9 i
    = ((dV (R (i 0)) (K (i 0)) Q (G (i 0)) (Dyb.back A B (i 0)) (at3 (i 1) (i 2)) : ℝ) : EReal) := by
  pointwise [val_main_v54, val_main_v53]
  refine (congrArg₂ (fun a b : EReal => a * b) (s44 x3 x4 x9 R K Q h3 h4 h9 (ix3 (i 0) (i 1) 0) (i 2)) (s52 x0 x1 x6 A B G h0 h1 h6 i)).trans ?_
  exact (EReal.coe_mul _ _).symm

include h0 h1 h5 h6 in
theorem s55 (i : S4096x8x64.Idx) : val_main_v55 (F := Ideal) x0 x1 x5 x6 i
    = ((Dyb.back A B (i 0) (at3 (i 1) (i 2)) * G (i 0) (at3 (i 1) (i 2)) * U (i 0) (at3 (i 1) (i 2)) : ℝ) : EReal) := by
  pointwise [val_main_v55]
  rw [s52 x0 x1 x6 A B G h0 h1 h6 i, s7 x5 U h5 i, ← EReal.coe_mul]

include h0 h1 h5 h6 in
theorem s59 (i : S4096x8x64.Idx) : val_main_v59 (F := Ideal) x0 x1 x5 x6 i
    = ((tie (U (i 0)) (G (i 0)) (Dyb.back A B (i 0)) (at3 (i 1) (i 2)) : ℝ) : EReal) := by
  pointwise [val_main_v59, val_main_v58, val_main_cst_8, val_main_v57, val_main_v56, val_main_cst_7]
  rw [Fin.sum_univ_one]
  refine ((Finset.sum_congr (M := EReal) rfl fun l _ => s55 x0 x1 x5 x6 A B U G h0 h1 h5 h6 (ix3 (i 0) (i 1) l)).trans (Gdg.sum_real _)).trans ?_
  exact congrArg (fun x : ℝ => (x : EReal)) (tie_at3 (U (i 0)) (G (i 0)) (Dyb.back A B (i 0)) (i 1) (i 2))

include h0 h1 h3 h4 h5 h6 in
theorem s60 (i : S4096x8x64.Idx) : val_main_v60 (F := Ideal) x0 x1 x3 x4 x5 x6 i
    = ((dQ (R (i 0)) (K (i 0)) (U (i 0)) (G (i 0)) (Dyb.back A B (i 0)) (at3 (i 1) (i 2)) : ℝ) : EReal) := by
  pointwise [val_main_v60]
  rw [s39 x3 x4 R K h3 h4 i, s59 x0 x1 x5 x6 A B U G h0 h1 h5 h6 i, ← EReal.coe_mul]
  rfl

include h0 h1 h5 h6 h9 in
theorem s64 (i : S4096x8x64.Idx) : val_main_v64 (F := Ideal) x0 x1 x5 x6 x9 i
    = ((tie (U (i 0)) (G (i 0)) (Dyb.back A B (i 0)) (at3 (i 1) (i 2)) * Q (at3 (i 1) (i 2)) : ℝ) : EReal) := by
  pointwise [val_main_v64]
  rw [s59 x0 x1 x5 x6 A B U G h0 h1 h5 h6 i, s63 x9 Q h9 i, ← EReal.coe_mul]

include h0 h1 h3 h5 h6 h9 in
theorem s66 (i : S4096x8x64.Idx) : val_main_v66 (F := Ideal) x0 x1 x3 x5 x6 x9 i
    = ((dK (R (i 0)) (U (i 0)) Q (G (i 0)) (Dyb.back A B (i 0)) (at3 (i 1) (i 2)) : ℝ) : EReal) := by
  pointwise [val_main_v66]
  rw [s5 x3 R h3 i, s64 x0 x1 x5 x6 x9 A B U G Q h0 h1 h5 h6 h9 i, ← EReal.coe_mul]
  rfl

include h0 h1 h4 h5 h6 h9 in
theorem s67 (i : S4096x8x64.Idx) : val_main_v67 (F := Ideal) x0 x1 x4 x5 x6 x9 i
    = ((dR (K (i 0)) (U (i 0)) Q (G (i 0)) (Dyb.back A B (i 0)) (at3 (i 1) (i 2)) : ℝ) : EReal) := by
  pointwise [val_main_v67]
  rw [s6 x4 K h4 i, s64 x0 x1 x5 x6 x9 A B U G Q h0 h1 h5 h6 h9 i, ← EReal.coe_mul]
  rfl

include h0 h1 h2 h6 in
theorem s72 (i : S4096x8x64.Idx) : val_main_v72 (F := Ideal) x0 x1 x2 x6 i
    = ((dA (Y (i 0)) (G (i 0)) (Dyb.back A B (i 0)) (at3 (i 1) (i 2)) : ℝ) : EReal) := by
  pointwise [val_main_v72]
  rw [s30 x2 Y h2 i, s52 x0 x1 x6 A B G h0 h1 h6 i, ← EReal.coe_mul]
  rfl

include h0 h1 h6 h7 in
theorem s76 (i : S4096x8x64.Idx) : val_main_v76 (F := Ideal) x0 x1 x6 x7 i
    = ((into W (G (i 0)) (Dyb.back A B (i 0)) (at3 (i 1) (i 2)) : ℝ) : EReal) := by
  pointwise [val_main_v76]
  rw [s52 x0 x1 x6 A B G h0 h1 h6 i, s75 x7 W h7 i, ← EReal.coe_mul]
  rfl

include h0 h1 h2 h6 h7 in
theorem s79 (i : S4096x8x64.Idx) : val_main_v79 (F := Ideal) x0 x1 x2 x6 x7 i
    = ((cen (Y (i 0)) (at3 (i 1) (i 2)) * into W (G (i 0)) (Dyb.back A B (i 0)) (at3 (i 1) (i 2)) : ℝ) : EReal) := by
  pointwise [val_main_v79]
  rw [s22 x2 Y h2 i, s76 x0 x1 x6 x7 A B G W h0 h1 h6 h7 i, ← EReal.coe_mul]

include h0 h1 h2 h6 h7 in
theorem s83 (i : S4096x8x64.Idx) : val_main_v83 (F := Ideal) x0 x1 x2 x6 x7 i
    = ((into W (G (i 0)) (Dyb.back A B (i 0)) (at3 (i 1) (i 2)) * inv (Y (i 0)) (at3 (i 1) (i 2)) : ℝ) : EReal) := by
  pointwise [val_main_v83, val_main_v82]
  refine (congrArg₂ (fun a b : EReal => a * b) (s76 x0 x1 x6 x7 A B G W h0 h1 h6 h7 i) (s25 x2 Y h2 (ix3 (i 0) (i 1) 0) (i 2))).trans ?_
  exact (EReal.coe_mul _ _).symm

include h0 h1 h2 h6 h7 in
theorem s91 (i : S4096x8x64.Idx) : val_main_v91 (F := Ideal) x0 x1 x2 x6 x7 i
    = ((drag (Y (i 0)) W (G (i 0)) (Dyb.back A B (i 0)) (at3 (i 1) (i 2)) : ℝ) : EReal) := by
  pointwise [val_main_v91, val_main_v90, val_main_cst_18, val_main_v89, val_main_v88, val_main_cst_17, val_main_v84, val_main_v81, val_main_v80, val_main_cst_15]
  rw [Fin.sum_univ_one]
  have hs := (Finset.sum_congr (M := EReal) rfl fun l _ => s79 x0 x1 x2 x6 x7 A B Y G W h0 h1 h2 h6 h7 (ix3 (i 0) (i 1) l)).trans (Gdg.sum_real _)
  refine (congrArg₂ (fun s x : EReal => Ideal.div (s * x) _) hs (s28 x2 Y h2 (ix3 (i 0) (i 1) 0) (i 2))).trans ?_
  rw [width_word, ← EReal.coe_mul, Dyb.div_real _ _ (by norm_num)]
  exact congrArg (fun x : ℝ => (x : EReal)) (drag_at3 (Y (i 0)) W (G (i 0)) (Dyb.back A B (i 0)) (i 1) (i 2))

include h0 h1 h2 h6 h7 in
theorem s92 (i : S4096x8x64.Idx) : val_main_v92 (F := Ideal) x0 x1 x2 x6 x7 i
    = ((drag (Y (i 0)) W (G (i 0)) (Dyb.back A B (i 0)) (at3 (i 1) (i 2)) * (2 * cen (Y (i 0)) (at3 (i 1) (i 2))) : ℝ) : EReal) := by
  pointwise [val_main_v92, val_main_v16, val_main_v15, val_main_cst_1]
  rw [s91 x0 x1 x2 x6 x7 A B Y G W h0 h1 h2 h6 h7 i, s13 x2 Y h2 i, two_word, ← EReal.coe_mul, ← EReal.coe_mul]

include h0 h1 h2 h6 h7 in
theorem s101 (i : S4096x8x64.Idx) : val_main_v101 (F := Ideal) x0 x1 x2 x6 x7 i
    = ((((∑ l : Fin 64, -(into W (G (i 0)) (Dyb.back A B (i 0)) (at3 (i 1) l) * inv (Y (i 0)) (at3 (i 1) l)))
        + ∑ l : Fin 64, -(drag (Y (i 0)) W (G (i 0)) (Dyb.back A B (i 0)) (at3 (i 1) l) * (2 * cen (Y (i 0)) (at3 (i 1) l)))) / 64
        : ℝ) : EReal) := by
  pointwise [val_main_v101, val_main_v100, val_main_cst_21, val_main_v99, val_main_v98, val_main_cst_20, val_main_v97, val_main_v95, val_main_v94, val_main_cst_19, val_main_v93, val_main_v87, val_main_v86, val_main_cst_16, val_main_v85]
  rw [Fin.sum_univ_one]
  have n1 := (Finset.sum_congr (M := EReal) rfl fun l _ => (congrArg (fun x : EReal => -x)
    (s83 x0 x1 x2 x6 x7 A B Y G W h0 h1 h2 h6 h7 (ix3 (i 0) (i 1) l))).trans (EReal.coe_neg _).symm).trans (Gdg.sum_real _)
  have n2 := (Finset.sum_congr (M := EReal) rfl fun l _ => (congrArg (fun x : EReal => -x)
    (s92 x0 x1 x2 x6 x7 A B Y G W h0 h1 h2 h6 h7 (ix3 (i 0) (i 1) l))).trans (EReal.coe_neg _).symm).trans (Gdg.sum_real _)
  refine (congrArg₂ (fun s x : EReal => Ideal.div (s + x) _) n1 n2).trans ?_
  rw [width_word, ← EReal.coe_add, Dyb.div_real _ _ (by norm_num)]
  rfl

include h0 h1 h2 h6 h7 in
theorem s102 (i : S4096x8x64.Idx) : val_main_v102 (F := Ideal) x0 x1 x2 x6 x7 i
    = ((dY (Y (i 0)) W (G (i 0)) (Dyb.back A B (i 0)) (at3 (i 1) (i 2)) : ℝ) : EReal) := by
  pointwise [val_main_v102, val_main_v96]
  rw [s101 x0 x1 x2 x6 x7 A B Y G W h0 h1 h2 h6 h7 i, s92 x0 x1 x2 x6 x7 A B Y G W h0 h1 h2 h6 h7 i,
    s83 x0 x1 x2 x6 x7 A B Y G W h0 h1 h2 h6 h7 i, ← EReal.coe_add, ← EReal.coe_add]
  exact congrArg (fun x : ℝ => (x : EReal)) (rest_at3 (Y (i 0)) W (G (i 0)) (Dyb.back A B (i 0)) (i 1) (i 2))

/-! ## The results -/

include h0 h1 h2 h6 h7 in
theorem ref_y : val_main_v106 (F := Ideal) x0 x1 x2 x6 x7 = TY A B Y G W := by
  funext i
  pointwise [val_main_v106]
  rw [s102 x0 x1 x2 x6 x7 A B Y G W h0 h1 h2 h6 h7]
  unfold TY
  exact congrArg (fun j : Fin 512 => ((dY (Y (i 0)) W (G (i 0)) (Dyb.back A B (i 0)) j : ℝ) : EReal)) (at3_eq (i 1) _ _)

include h0 h1 h4 h5 h6 h9 in
theorem ref_r : val_main_v105 (F := Ideal) x0 x1 x4 x5 x6 x9 = TR A B K U G Q := by
  funext i
  pointwise [val_main_v105]
  rw [s67 x0 x1 x4 x5 x6 x9 A B K U G Q h0 h1 h4 h5 h6 h9]
  unfold TR
  exact congrArg (fun j : Fin 512 => ((dR (K (i 0)) (U (i 0)) Q (G (i 0)) (Dyb.back A B (i 0)) j : ℝ) : EReal)) (at3_eq (i 1) _ _)

include h0 h1 h3 h5 h6 h9 in
theorem ref_k : val_main_v104 (F := Ideal) x0 x1 x3 x5 x6 x9 = TK A B R U G Q := by
  funext i
  pointwise [val_main_v104]
  rw [s66 x0 x1 x3 x5 x6 x9 A B R U G Q h0 h1 h3 h5 h6 h9]
  unfold TK
  exact congrArg (fun j : Fin 512 => ((dK (R (i 0)) (U (i 0)) Q (G (i 0)) (Dyb.back A B (i 0)) j : ℝ) : EReal)) (at3_eq (i 1) _ _)

include h0 h1 h3 h4 h6 h9 in
theorem ref_v : val_main_v103 (F := Ideal) x0 x1 x3 x4 x6 x9 = TV A B R K G Q := by
  funext i
  pointwise [val_main_v103]
  rw [s54 x0 x1 x3 x4 x6 x9 A B R K G Q h0 h1 h3 h4 h6 h9]
  unfold TV
  exact congrArg (fun j : Fin 512 => ((dV (R (i 0)) (K (i 0)) Q (G (i 0)) (Dyb.back A B (i 0)) j : ℝ) : EReal)) (at3_eq (i 1) _ _)

include h0 h1 h2 h3 h4 h5 h7 h8 h9 in
theorem ref_g : val_main_v50 (F := Ideal) x0 x1 x2 x3 x4 x5 x7 x8 x9 = TG A B Y R K U W O Q := by
  funext i
  pointwise [val_main_v50, val_main_v48]
  rw [s47 x2 x3 x4 x5 x7 x8 x9 Y R K U W O Q h2 h3 h4 h5 h7 h8 h9, s3 x0 x1 A B h0 h1, ← EReal.coe_mul]
  unfold TG
  exact congrArg (fun j : Fin 512 => (((cen (Y (i 0)) j * inv (Y (i 0)) j * W j + O j + bonus (R (i 0)) (K (i 0)) Q j * U (i 0) j)
    * Dyb.back A B (i 0) (i 1) : ℝ) : EReal)) (at3_eq (i 1) _ _)

include h0 h1 h2 h6 in
theorem ref_a : val_main_v107 (F := Ideal) x0 x1 x2 x6 = TA A B Y G := by
  funext i
  pointwise [val_main_v107, val_main_v78, val_main_v77, val_main_cst_14, val_main_v74, val_main_v73, val_main_cst_13]
  unfold TA
  rw [Fin.sum_univ_one, ← Gdg.sum_real]
  refine Finset.sum_congr (M := EReal) rfl fun r _ => ?_
  rw [s72 x0 x1 x2 x6 A B Y G h0 h1 h2 h6]
  exact congrArg (fun j : Fin 512 => ((dA (Y r) (G r) (Dyb.back A B r) j : ℝ) : EReal)) (at3_eq (i 1) _ _)

include h0 h1 h6 in
theorem ref_b : val_main_v108 (F := Ideal) x0 x1 x6 = TB A B G := by
  funext i
  pointwise [val_main_v108, val_main_v71, val_main_v70, val_main_cst_12, val_main_v69, val_main_v68, val_main_cst_11]
  unfold TB
  rw [Fin.sum_univ_one, ← Gdg.sum_real]
  refine Finset.sum_congr (M := EReal) rfl fun r _ => ?_
  rw [s52 x0 x1 x6 A B G h0 h1 h6]
  exact congrArg (fun j : Fin 512 => ((dB (G r) (Dyb.back A B r) j : ℝ) : EReal)) (at3_eq (i 1) _ _)

include h0 h1 h3 h4 h5 h6 in
theorem ref_q : val_main_v109 (F := Ideal) x0 x1 x3 x4 x5 x6 = TQ A B R K U G := by
  funext i
  pointwise [val_main_v109, val_main_v65, val_main_cst_10, val_main_v62, val_main_v61, val_main_cst_9]
  unfold TQ
  rw [Fin.sum_univ_one, ← Gdg.sum_real]
  refine Finset.sum_congr (M := EReal) rfl fun r _ => ?_
  rw [s60 x0 x1 x3 x4 x5 x6 A B R K U G h0 h1 h3 h4 h5 h6]
  exact congrArg (fun j : Fin 512 => ((dQ (R r) (K r) (U r) (G r) (Dyb.back A B r) j : ℝ) : EReal)) (at3_eq (i 1) _ _)

end Reference

end Cert.Proof.Dya

end
-- ==== Proof.Dya.lean ====
/-
  The gradient of the RWKV-7 output norm, bonus and gate: the kernel's results are the textbook's, at finite arguments.
-/
module

public import proofs.«01_k».proof.Defs
public import proofs.«01_k».proof.Proof.Gen.Pre_finite_dyain
public import proofs.«01_k».proof.Proof.Gen.DyaRIdeal.Run
public import proofs.«01_k».proof.Proof.DyaRun
public import proofs.«01_k».proof.Proof.DyaRef

@[expose] public section

set_option maxRecDepth 16384

noncomputable section

namespace Cert.Proof.Dya

open Cert.DyaKIdeal Cert.DyaKIdeal.Gen Idealize.ShloMosaic Idealize.ShloMosaic.TcCoe Idealize.SL.Sem

/-- A head's lane among all the lanes, and back. -/
theorem back_at3 (f : Fin 8 → Fin 64 → ℝ) (h : Fin 8) (l : Fin 64) :
    f ⟨(at3 h l).val / 64, by have := (at3 h l).isLt; omega⟩ ⟨(at3 h l).val % 64, Nat.mod_lt _ (by decide)⟩ = f h l := by
  have := l.isLt
  refine congrArg₂ f (Fin.ext ?_) (Fin.ext ?_)
  · show (h.val * 64 + l.val) / 64 = h.val
    omega
  · show (h.val * 64 + l.val) % 64 = l.val
    omega

/-- The kernel and the reference agree over the extended reals, at finite arguments. -/
theorem algebraic : Cert.algebraic_DyaKIdeal_DyaRIdeal_pre_finite_dyain := by
  intro m ρ m' ρ' hpre hag
  have f0 : ∀ (c : Dev nD) i, m ((c : Thread nD τ).loc main_arg0) i
      = (((m ((c : Thread nD τ).loc main_arg0) (ix2 (i 0) (i 1)) : EReal).toReal : ℝ) : EReal) := fun c i => by
    rw [Gdg.eta2 i]
    exact (Gdg.bit_finite _ (congrFun (hpre c).1 i)).symm
  have f1 : ∀ (c : Dev nD) i, m ((c : Thread nD τ).loc main_arg1) i
      = (((m ((c : Thread nD τ).loc main_arg1) (ix2 (i 0) (i 1)) : EReal).toReal : ℝ) : EReal) := fun c i => by
    rw [Gdg.eta2 i]
    exact (Gdg.bit_finite _ (congrFun (hpre c).2.1 i)).symm
  have f2 : ∀ (c : Dev nD) i, m ((c : Thread nD τ).loc main_arg2) i
      = (((m ((c : Thread nD τ).loc main_arg2) (ix2 (i 0) (i 1)) : EReal).toReal : ℝ) : EReal) := fun c i => by
    rw [Gdg.eta2 i]
    exact (Gdg.bit_finite _ (congrFun (hpre c).2.2.1 i)).symm
  have f3 : ∀ (c : Dev nD) i, m ((c : Thread nD τ).loc main_arg3) i
      = (((m ((c : Thread nD τ).loc main_arg3) (ix2 (i 0) (i 1)) : EReal).toReal : ℝ) : EReal) := fun c i => by
    rw [Gdg.eta2 i]
    exact (Gdg.bit_finite _ (congrFun (hpre c).2.2.2.1 i)).symm
  have f4 : ∀ (c : Dev nD) i, m ((c : Thread nD τ).loc main_arg4) i
      = (((m ((c : Thread nD τ).loc main_arg4) (ix2 (i 0) (i 1)) : EReal).toReal : ℝ) : EReal) := fun c i => by
    rw [Gdg.eta2 i]
    exact (Gdg.bit_finite _ (congrFun (hpre c).2.2.2.2.1 i)).symm
  have f5 : ∀ (c : Dev nD) i, m ((c : Thread nD τ).loc main_arg5) i
      = (((m ((c : Thread nD τ).loc main_arg5) (ix2 (i 0) (i 1)) : EReal).toReal : ℝ) : EReal) := fun c i => by
    rw [Gdg.eta2 i]
    exact (Gdg.bit_finite _ (congrFun (hpre c).2.2.2.2.2.1 i)).symm
  have f6 : ∀ (c : Dev nD) i, m ((c : Thread nD τ).loc main_arg6) i
      = (((m ((c : Thread nD τ).loc main_arg6) (ix2 (i 0) (i 1)) : EReal).toReal : ℝ) : EReal) := fun c i => by
    rw [Gdg.eta2 i]
    exact (Gdg.bit_finite _ (congrFun (hpre c).2.2.2.2.2.2.1 i)).symm
  have f7 : ∀ (c : Dev nD) i, m ((c : Thread nD τ).loc main_arg7) i
      = (((m ((c : Thread nD τ).loc main_arg7) (ix1 (i 0)) : EReal).toReal : ℝ) : EReal) := fun c i => by
    rw [Gdg.eta1 i]
    exact (Gdg.bit_finite _ (congrFun (hpre c).2.2.2.2.2.2.2.1 i)).symm
  have f8 : ∀ (c : Dev nD) i, m ((c : Thread nD τ).loc main_arg8) i
      = (((m ((c : Thread nD τ).loc main_arg8) (ix1 (i 0)) : EReal).toReal : ℝ) : EReal) := fun c i => by
    rw [Gdg.eta1 i]
    exact (Gdg.bit_finite _ (congrFun (hpre c).2.2.2.2.2.2.2.2.1 i)).symm
  have f9 : ∀ (c : Dev nD) i, m ((c : Thread nD τ).loc main_arg9) i
      = (((m ((c : Thread nD τ).loc main_arg9) (ix2 (i 0) (i 1)) : EReal).toReal : ℝ) : EReal) := fun c i => by
    rw [Gdg.eta2 i]
    exact (Gdg.bit_finite _ (congrFun (hpre c).2.2.2.2.2.2.2.2.2 i)).symm
  let A (c : Dev nD) (p : Fin 4096) (j : Fin 1024) : ℝ := (m ((c : Thread nD τ).loc main_arg0) (ix2 p j) : EReal).toReal
  let B (c : Dev nD) (p : Fin 512) (j : Fin 1024) : ℝ := (m ((c : Thread nD τ).loc main_arg1) (ix2 p j) : EReal).toReal
  let Y (c : Dev nD) (p : Fin 4096) (j : Fin 512) : ℝ := (m ((c : Thread nD τ).loc main_arg2) (ix2 p j) : EReal).toReal
  let R (c : Dev nD) (p : Fin 4096) (j : Fin 512) : ℝ := (m ((c : Thread nD τ).loc main_arg3) (ix2 p j) : EReal).toReal
  let K (c : Dev nD) (p : Fin 4096) (j : Fin 512) : ℝ := (m ((c : Thread nD τ).loc main_arg4) (ix2 p j) : EReal).toReal
  let U (c : Dev nD) (p : Fin 4096) (j : Fin 512) : ℝ := (m ((c : Thread nD τ).loc main_arg5) (ix2 p j) : EReal).toReal
  let G (c : Dev nD) (p : Fin 4096) (j : Fin 512) : ℝ := (m ((c : Thread nD τ).loc main_arg6) (ix2 p j) : EReal).toReal
  let W (c : Dev nD) (j : Fin 512) : ℝ := (m ((c : Thread nD τ).loc main_arg7) (ix1 j) : EReal).toReal
  let O (c : Dev nD) (j : Fin 512) : ℝ := (m ((c : Thread nD τ).loc main_arg8) (ix1 j) : EReal).toReal
  let P (c : Dev nD) (h : Fin 8) (l : Fin 64) : ℝ := (m ((c : Thread nD τ).loc main_arg9) (ix2 h l) : EReal).toReal
  let Q (c : Dev nD) (j : Fin 512) : ℝ := P c ⟨j.val / 64, by have := j.isLt; omega⟩ ⟨j.val % 64, Nat.mod_lt _ (by decide)⟩
  have g9 : ∀ (c : Dev nD) i, m ((c : Thread nD τ).loc main_arg9) i = ((Q c (at3 (i 0) (i 1)) : ℝ) : EReal) := fun c i =>
    (f9 c i).trans (congrArg (fun x : ℝ => (x : EReal)) (back_at3 (P c) (i 0) (i 1)).symm)
  refine ⟨fun c => TY (A c) (B c) (Y c) (G c) (W c),
    fun c => TR (A c) (B c) (K c) (U c) (G c) (Q c),
    fun c => TK (A c) (B c) (R c) (U c) (G c) (Q c),
    fun c => TV (A c) (B c) (R c) (K c) (G c) (Q c),
    fun c => TG (A c) (B c) (Y c) (R c) (K c) (U c) (W c) (O c) (Q c),
    fun c => TA (A c) (B c) (Y c) (G c),
    fun c => TB (A c) (B c) (G c),
    fun c => TQ (A c) (B c) (R c) (K c) (U c) (G c), ?_, ?_⟩
  · exact (θ_run _ _ _).mono (fun r h c => ⟨(h c).1.trans (final_y m c _ _ _ _ _ (f0 c) (f1 c) (f2 c) (f6 c) (f7 c)),
      (h c).2.1.trans (final_r m c _ _ _ _ _ _ (f0 c) (f1 c) (f4 c) (f5 c) (f6 c) (g9 c)),
      (h c).2.2.1.trans (final_k m c _ _ _ _ _ _ (f0 c) (f1 c) (f3 c) (f5 c) (f6 c) (g9 c)),
      (h c).2.2.2.1.trans (final_v m c _ _ _ _ _ _ (f0 c) (f1 c) (f3 c) (f4 c) (f6 c) (g9 c)),
      (h c).2.2.2.2.1.trans (final_g m c _ _ _ _ _ _ _ _ _ (f0 c) (f1 c) (f2 c) (f3 c) (f4 c) (f5 c) (f7 c) (f8 c) (g9 c)),
      (h c).2.2.2.2.2.1.trans (final_a m c _ _ _ _ (f0 c) (f1 c) (f2 c) (f6 c)),
      (h c).2.2.2.2.2.2.1.trans (final_b m c _ _ _ (f0 c) (f1 c) (f6 c)),
      (h c).2.2.2.2.2.2.2.1.trans (final_q m c _ _ _ _ _ _ (f0 c) (f1 c) (f3 c) (f4 c) (f5 c) (f6 c)),
      (h c).2.2.2.2.2.2.2.2⟩) (Value.run_blocks m ρ)
  · refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_,
      (h c).2.2.2.2.2.2.2.2⟩) (Cert.DyaRIdeal.Value.run m' ρ')
    · rw [Cert.DyaRIdeal.Read.val_main_v106_eq, (hag c).1, (hag c).2.1, (hag c).2.2.1, (hag c).2.2.2.2.2.2.1, (hag c).2.2.2.2.2.2.2.1]
      exact ref_y _ _ _ _ _ _ _ _ _ _ (f0 c) (f1 c) (f2 c) (f6 c) (f7 c)
    · rw [Cert.DyaRIdeal.Read.val_main_v105_eq, (hag c).1, (hag c).2.1, (hag c).2.2.2.2.1, (hag c).2.2.2.2.2.1, (hag c).2.2.2.2.2.2.1, (hag c).2.2.2.2.2.2.2.2.2]
      exact ref_r _ _ _ _ _ _ _ _ _ _ _ _ (f0 c) (f1 c) (f4 c) (f5 c) (f6 c) (g9 c)
    · rw [Cert.DyaRIdeal.Read.val_main_v104_eq, (hag c).1, (hag c).2.1, (hag c).2.2.2.1, (hag c).2.2.2.2.2.1, (hag c).2.2.2.2.2.2.1, (hag c).2.2.2.2.2.2.2.2.2]
      exact ref_k _ _ _ _ _ _ _ _ _ _ _ _ (f0 c) (f1 c) (f3 c) (f5 c) (f6 c) (g9 c)
    · rw [Cert.DyaRIdeal.Read.val_main_v103_eq, (hag c).1, (hag c).2.1, (hag c).2.2.2.1, (hag c).2.2.2.2.1, (hag c).2.2.2.2.2.2.1, (hag c).2.2.2.2.2.2.2.2.2]
      exact ref_v _ _ _ _ _ _ _ _ _ _ _ _ (f0 c) (f1 c) (f3 c) (f4 c) (f6 c) (g9 c)
    · rw [Cert.DyaRIdeal.Read.val_main_v50_eq, (hag c).1, (hag c).2.1, (hag c).2.2.1, (hag c).2.2.2.1, (hag c).2.2.2.2.1, (hag c).2.2.2.2.2.1, (hag c).2.2.2.2.2.2.2.1, (hag c).2.2.2.2.2.2.2.2.1, (hag c).2.2.2.2.2.2.2.2.2]
      exact ref_g _ _ _ _ _ _ _ _ _ _ _ _ _ _ _ _ _ _ (f0 c) (f1 c) (f2 c) (f3 c) (f4 c) (f5 c) (f7 c) (f8 c) (g9 c)
    · rw [Cert.DyaRIdeal.Read.val_main_v107_eq, (hag c).1, (hag c).2.1, (hag c).2.2.1, (hag c).2.2.2.2.2.2.1]
      exact ref_a _ _ _ _ _ _ _ _ (f0 c) (f1 c) (f2 c) (f6 c)
    · rw [Cert.DyaRIdeal.Read.val_main_v108_eq, (hag c).1, (hag c).2.1, (hag c).2.2.2.2.2.2.1]
      exact ref_b _ _ _ _ _ _ (f0 c) (f1 c) (f6 c)
    · rw [Cert.DyaRIdeal.Read.val_main_v109_eq, (hag c).1, (hag c).2.1, (hag c).2.2.2.1, (hag c).2.2.2.2.1, (hag c).2.2.2.2.2.1, (hag c).2.2.2.2.2.2.1]
      exact ref_q _ _ _ _ _ _ _ _ _ _ _ _ (f0 c) (f1 c) (f3 c) (f4 c) (f5 c) (f6 c)

end Cert.Proof.Dya

end
-- ==== Proof.Rproj.lean ====
/-
  The RWKV-7 output: norm of every head, bonus, gate and output product.  The kernel sums over a head by a product with the
  matrix of ones, once for the rounded number and once for what the rounding left; at finite arguments that is the sum.
-/
module

public import proofs.«01_k».proof.Defs
public import proofs.«01_k».proof.Proof.Gen.Pre_finite_rproj
public import proofs.«01_k».proof.Proof.Gen.RprojKIdeal.Value
public import proofs.«01_k».proof.Proof.Gen.RprojRIdeal.Run
public import proofs.«01_k».proof.Proof.Gen.RprojRIdeal.Read
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Dya
public import Idealize.ShloMosaic.Lib.Pointwise

@[expose] public section

set_option maxRecDepth 16384

noncomputable section

namespace Cert.Proof.Rproj

open Cert.RprojKIdeal Cert.RprojKIdeal.Gen Idealize.ShloMosaic Idealize.ShloMosaic.TcCoe Idealize.SL.Sem

variable (m : (ℓ : Loc nD τ sig) → Buf (Elt Ideal) ℓ) (ρ : Dev nD → PrngReg)

/-- A row of the gated output: the norm of the head, its weight and offset, the bonus, the gate. -/
def row (y r k q : Fin 512 → ℝ) (v g a b : Fin 512 → EReal) (j : Fin 512) : EReal :=
  (((Dya.cen y j * Dya.inv y j : ℝ) : EReal) * a j + b j + ((Dya.bonus r k q j : ℝ) : EReal) * v j) * g j

section Spec

variable (Y R K : Fin 4096 → Fin 512 → ℝ) (Q : Fin 512 → ℝ) (xv xg : Vec Ideal S4096x512 .f32) (xa xb : Vec Ideal S512 .f32)
  (xw : Vec Ideal S512x1024 .bf16)

/-- The gated output at a row. -/
def rowAt (p : Fin 4096) : Fin 512 → EReal :=
  row (Y p) (R p) (K p) Q (fun j => xv (ix2 p j)) (fun j => xg (ix2 p j)) (fun j => xa (ix1 j)) (fun j => xb (ix1 j))

/-- The gated output. -/
def U : Vec Ideal S4096x512 .bf16 := fun i => rowAt Y R K Q xv xg xa xb (i 0) (i 1)

/-- Its product with the weight. -/
def Z : Vec Ideal S4096x1024 .f32 := fun i => ∑ k : Fin 512, rowAt Y R K Q xv xg xa xb (i 0) k * xw (ix2 k (i 1))

end Spec

/-! ## What a block gives -/

theorem pay5_eq (v : Vec Ideal S512x512 .f32) : k0_pay5 (F := Ideal) v k0_pay4
    = subf v (mulf (Dya.split v) (broadcast S512x512 (Scalar.ofBits .f32 0x3C800000#32))) := rfl

/-- The norm of a block, from the centred heads and their squares. -/
abbrev norm (a b : Vec Ideal S1x512 .f32) (u v : FVec Ideal S512x512 .f32) : FVec Ideal S512x512 .f32 :=
  k0_pay13 (F := Ideal) (k0_pay1 a) (k0_pay2 b) u v
    (k0_pay10 (F := Ideal) (iota .tc S512x512 32 [0] iota_S512x512_d0_w32) 64#32 k0_pay7 k0_pay8 k0_pay9) (k0_pay11 v) (k0_pay12 v)

theorem norm_eq (a b : Vec Ideal S1x512 .f32) (u v : FVec Ideal S512x512 .f32) : norm a b u v
    = addf (mulf (mulf u (rsqrt (addf (mulf (Dya.split v) (broadcast S512x512 (Scalar.ofBits .f32 0x3C800000#32)))
        (broadcast S512x512 (Scalar.ofBits .f32 0x3A27C5AC#32))))) (broadcastTo S512x512 (k0_pay1 a) broadcasts_S1x512_S512x512))
        (broadcastTo S512x512 (k0_pay2 b) broadcasts_S1x512_S512x512) := rfl

/-- The gated output of a block, from the norm and the products under the bonus. -/
abbrev gated (v g p q : FVec Ideal S512x512 .f32) : FVec Ideal S512x512 .bf16 :=
  k0_pay18 (F := Ideal) v g p q k0_pay15 (iota .tc S512x512 32 [1] iota_S512x512_d1_w32) 64#32 k0_pay16 k0_pay17

theorem gated_eq (v g p q : FVec Ideal S512x512 .f32) : gated v g p q
    = truncf .bf16 (mulf (addf p (mulf (Dya.split q) v)) g) bitsLt_bf16_f32 := rfl

section Block

variable (vy vr_ vk vv vg : Vec Ideal S512x512 .f32) (va vb vq : Vec Ideal S1x512 .f32)
  (Y R K : Fin 512 → Fin 512 → ℝ) (Q : Fin 512 → ℝ)
  (hy : ∀ y, vy y = ((Y (y 0) (y 1) : ℝ) : EReal)) (hr : ∀ y, vr_ y = ((R (y 0) (y 1) : ℝ) : EReal))
  (hk : ∀ y, vk y = ((K (y 0) (y 1) : ℝ) : EReal)) (hq : ∀ y, vq y = ((Q (y 1) : ℝ) : EReal))

include hy in
theorem pay5 (y : S512x512.Idx) : k0_pay5 (F := Ideal) vy k0_pay4 y = ((Dya.cen (Y (y 0)) (y 1) : ℝ) : EReal) := by
  rw [pay5_eq]
  pointwise
  rw [Dya.split_at vy Y hy y, hy, Dya.part_word, ← EReal.coe_mul, ← EReal.coe_sub]
  rfl

include hy in
theorem pay6 (y : S512x512.Idx) : k0_pay6 (F := Ideal) vy k0_pay4 y
    = ((Dya.cen (Y (y 0)) (y 1) * Dya.cen (Y (y 0)) (y 1) : ℝ) : EReal) := by
  pointwise [k0_pay6]
  rw [pay5 vy Y hy y, ← EReal.coe_mul]

include hy in
theorem norm_at (y : S512x512.Idx) : norm va vb (k0_pay5 vy k0_pay4) (k0_pay6 vy k0_pay4) y
    = (((Dya.cen (Y (y 0)) (y 1) * Dya.inv (Y (y 0)) (y 1) : ℝ) : EReal) * va (ix2 0 (y 1)) + vb (ix2 0 (y 1)) : EReal) := by
  rw [norm_eq]
  pointwise [k0_pay1, k0_pay2]
  rw [Dya.split_at (k0_pay6 (F := Ideal) vy k0_pay4) (fun p j => Dya.cen (Y p) j * Dya.cen (Y p) j) (pay6 vy Y hy) y,
    pay5 vy Y hy y, Dya.part_word, Dya.eps_word, ← EReal.coe_mul, ← EReal.coe_add, EReal.coe_mul]
  refine congrArg (fun s : EReal => (((Dya.cen (Y (y 0)) (y 1) : ℝ) : EReal)) * s * va (ix2 0 (y 1)) + vb (ix2 0 (y 1))) ?_
  exact Dyb.rsqrt_real _ (Dya.vr_pos _ _)

include hr hk hq in
theorem pay14 (y : S512x512.Idx) : k0_pay14 (F := Ideal) vr_ vk (k0_pay3 vq) y
    = ((R (y 0) (y 1) * K (y 0) (y 1) * Q (y 1) : ℝ) : EReal) := by
  pointwise [k0_pay14, k0_pay3]
  have e : vq (ix2 0 (y 1)) = ((Q (y 1) : ℝ) : EReal) := hq _
  rw [hr, hk, e, ← EReal.coe_mul, ← EReal.coe_mul]

include hy hr hk hq in
theorem gated_at (y : S512x512.Idx) :
    gated vv vg (norm va vb (k0_pay5 vy k0_pay4) (k0_pay6 vy k0_pay4)) (k0_pay14 vr_ vk (k0_pay3 vq)) y
      = row (Y (y 0)) (R (y 0)) (K (y 0)) Q (fun j => vv (ix2 (y 0) j)) (fun j => vg (ix2 (y 0) j)) (fun j => va (ix2 0 j))
          (fun j => vb (ix2 0 j)) (y 1) := by
  rw [gated_eq]
  pointwise
  rw [Dya.split_at (k0_pay14 (F := Ideal) vr_ vk (k0_pay3 vq)) (fun p j => R p j * K p j * Q j) (pay14 vr_ vk vq R K Q hr hk hq) y,
    norm_at vy va vb Y hy y]
  have e1 : vv y = vv (ix2 (y 0) (y 1)) := congrArg vv (Dots.ext2 rfl rfl)
  have e2 : vg y = vg (ix2 (y 0) (y 1)) := congrArg vg (Dots.ext2 rfl rfl)
  rw [e1, e2]
  rfl

end Block

/-! ## The run -/

theorem host_0 (c : Dev nD) : V m c main_v0 = shapeCast S1x512 (m ((c : Thread nD τ).loc main_arg5)) shapeCasts_S512_S1x512 := by
  show StableHlo.after hostOps0 (fun b => m (c, b)) main_v0 = _
  unfold hostOps0
  after_results
  rfl

theorem host_1 (c : Dev nD) : V m c main_v1 = shapeCast S1x512 (m ((c : Thread nD τ).loc main_arg6)) shapeCasts_S512_S1x512 := by
  show StableHlo.after hostOps0 (fun b => m (c, b)) main_v1 = _
  unfold hostOps0
  after_results
  rfl

theorem host_2 (c : Dev nD) : V m c main_v2 = shapeCast S1x512 (m ((c : Thread nD τ).loc main_arg7)) shapeCasts_S8x64_S1x512 := by
  show StableHlo.after hostOps0 (fun b => m (c, b)) main_v2 = _
  unfold hostOps0
  after_results
  rfl

/-- The blocks each point of the grid reads and writes. -/
theorem idx : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = t.val ∧ win0_9.index t 1 = 0)
    ∧ (win0_10.index t 0 = t.val ∧ win0_10.index t 1 = 0) := by decide +kernel

/-- The row of the array that a block's row is. -/
def at_ (t : Fin cfg0.N) (p : Fin 512) : Fin 4096 :=
  ⟨t.val * 512 + p.val, by have h : t.val < 8 := t.isLt; have := p.isLt; omega⟩

theorem blk_0 (c : Dev nD) (t : Fin cfg0.N) (y : S512x512.Idx) :
    iblk m c 0 t y = m ((c : Thread nD τ).loc main_arg0) (ix2 (at_ t (y 0)) (y 1)) := by
  have e := idx t
  show V m c main_arg0 _ = V m c main_arg0 _
  refine congrArg (V m c main_arg0) (Dots.ext2 ?_ ?_)
  · show _ = t.val * 512 + (y 0).val
    blk_simp [e]
  · show _ = (y 1).val
    blk_simp [e]

theorem blk_1 (c : Dev nD) (t : Fin cfg0.N) (y : S512x512.Idx) :
    iblk m c 1 t y = m ((c : Thread nD τ).loc main_arg1) (ix2 (at_ t (y 0)) (y 1)) := by
  have e := idx t
  show V m c main_arg1 _ = V m c main_arg1 _
  refine congrArg (V m c main_arg1) (Dots.ext2 ?_ ?_)
  · show _ = t.val * 512 + (y 0).val
    blk_simp [e]
  · show _ = (y 1).val
    blk_simp [e]

theorem blk_2 (c : Dev nD) (t : Fin cfg0.N) (y : S512x512.Idx) :
    iblk m c 2 t y = m ((c : Thread nD τ).loc main_arg2) (ix2 (at_ t (y 0)) (y 1)) := by
  have e := idx t
  show V m c main_arg2 _ = V m c main_arg2 _
  refine congrArg (V m c main_arg2) (Dots.ext2 ?_ ?_)
  · show _ = t.val * 512 + (y 0).val
    blk_simp [e]
  · show _ = (y 1).val
    blk_simp [e]

theorem blk_3 (c : Dev nD) (t : Fin cfg0.N) (y : S512x512.Idx) :
    iblk m c 3 t y = m ((c : Thread nD τ).loc main_arg3) (ix2 (at_ t (y 0)) (y 1)) := by
  have e := idx t
  show V m c main_arg3 _ = V m c main_arg3 _
  refine congrArg (V m c main_arg3) (Dots.ext2 ?_ ?_)
  · show _ = t.val * 512 + (y 0).val
    blk_simp [e]
  · show _ = (y 1).val
    blk_simp [e]

theorem blk_4 (c : Dev nD) (t : Fin cfg0.N) (y : S512x512.Idx) :
    iblk m c 4 t y = m ((c : Thread nD τ).loc main_arg4) (ix2 (at_ t (y 0)) (y 1)) := by
  have e := idx t
  show V m c main_arg4 _ = V m c main_arg4 _
  refine congrArg (V m c main_arg4) (Dots.ext2 ?_ ?_)
  · show _ = t.val * 512 + (y 0).val
    blk_simp [e]
  · show _ = (y 1).val
    blk_simp [e]

theorem blk_5 (c : Dev nD) (t : Fin cfg0.N) (y : S1x512.Idx) :
    iblk m c 5 t y = m ((c : Thread nD τ).loc main_arg5) (ix1 (y 1)) := by
  have e := idx t
  show V m c main_v0 _ = _
  rw [host_0]
  exact (Rows.row (N := 512) _ _ _).trans (congrArg (fun z : Fin 512 => m ((c : Thread nD τ).loc main_arg5) (ix1 z)) (Fin.ext (by blk_simp [e])))

theorem blk_6 (c : Dev nD) (t : Fin cfg0.N) (y : S1x512.Idx) :
    iblk m c 6 t y = m ((c : Thread nD τ).loc main_arg6) (ix1 (y 1)) := by
  have e := idx t
  show V m c main_v1 _ = _
  rw [host_1]
  exact (Rows.row (N := 512) _ _ _).trans (congrArg (fun z : Fin 512 => m ((c : Thread nD τ).loc main_arg6) (ix1 z)) (Fin.ext (by blk_simp [e])))

theorem blk_8 (c : Dev nD) (t : Fin cfg0.N) (y : S512x1024.Idx) :
    iblk m c 8 t y = m ((c : Thread nD τ).loc main_arg8) (ix2 (y 0) (y 1)) := by
  have e := idx t
  show V m c main_arg8 _ = V m c main_arg8 _
  refine congrArg (V m c main_arg8) (Dots.ext2 ?_ ?_)
  · show _ = (y 0).val
    blk_simp [e]
  · show _ = (y 1).val
    blk_simp [e]

section Run

variable (c : Dev nD) (Y R K : Fin 4096 → Fin 512 → ℝ) (Q : Fin 512 → ℝ)
  (h0 : ∀ i, m ((c : Thread nD τ).loc main_arg0) i = ((Y (i 0) (i 1) : ℝ) : EReal))
  (h1 : ∀ i, m ((c : Thread nD τ).loc main_arg1) i = ((R (i 0) (i 1) : ℝ) : EReal))
  (h2 : ∀ i, m ((c : Thread nD τ).loc main_arg2) i = ((K (i 0) (i 1) : ℝ) : EReal))
  (h7 : ∀ i, m ((c : Thread nD τ).loc main_arg7) i = ((Q (Dya.at3 (i 0) (i 1)) : ℝ) : EReal))

include h7 in
theorem blk_7 (t : Fin cfg0.N) (y : S1x512.Idx) : iblk m c 7 t y = ((Q (y 1) : ℝ) : EReal) := by
  have e := idx t
  show V m c main_v2 _ = _
  rw [host_2]
  refine (Dya.heads_at _ Q h7 _).trans ?_
  exact congrArg (fun z : Fin 512 => ((Q z : ℝ) : EReal)) (Fin.ext (by blk_simp [e]))

/-- The gated output of a block. -/
abbrev blk (t : Fin cfg0.N) : FVec Ideal S512x512 .bf16 :=
  gated (iblk m c 3 t) (iblk m c 4 t) (norm (iblk m c 5 t) (iblk m c 6 t) (k0_pay5 (iblk m c 0 t) k0_pay4) (k0_pay6 (iblk m c 0 t) k0_pay4))
    (k0_pay14 (iblk m c 1 t) (iblk m c 2 t) (k0_pay3 (iblk m c 7 t)))

include h0 h1 h2 h7 in
theorem blk_at (t : Fin cfg0.N) (y : S512x512.Idx) : blk m c t y
    = rowAt Y R K Q (m ((c : Thread nD τ).loc main_arg3)) (m ((c : Thread nD τ).loc main_arg4))
        (m ((c : Thread nD τ).loc main_arg5)) (m ((c : Thread nD τ).loc main_arg6)) (at_ t (y 0)) (y 1) := by
  refine (gated_at _ _ _ _ _ _ _ _ (fun p => Y (at_ t p)) (fun p => R (at_ t p)) (fun p => K (at_ t p)) Q
    (fun y => (blk_0 m c t y).trans (h0 _)) (fun y => (blk_1 m c t y).trans (h1 _)) (fun y => (blk_2 m c t y).trans (h2 _))
    (blk_7 m c Q h7 t) y).trans ?_
  unfold rowAt row
  beta_reduce
  rw [blk_3, blk_4, blk_5, blk_6]
  rfl

/-- The product of a block with the weight. -/
theorem prod_at (u : FVec Ideal S512x512 .bf16) (w : FVec Ideal S512x1024 .bf16) (y : S512x1024.Idx) :
    matmul dot_S512x512_S512x1024_S512x1024_1_0_0_1_n_n none u w (constant S512x1024 .f32 0x00000000#32) y
      = ∑ k : Fin 512, (u (ix2 (y 0) k) * w (ix2 k (y 1)) : EReal) := by
  refine (Dots.nn (M := 512) (K := 512) (N := 1024) (φ₁ := .bf16) (φ₂ := .bf16) none _ _ _ y).trans ?_
  pointwise

theorem pay18_eq (x0 x1 x2 x3 x4 : Vec Ideal S512x512 .f32) (x5 x6 x7 : Vec Ideal S1x512 .f32) (x8 : Vec Ideal S512x1024 .bf16) :
    k0_pay18 (F := Ideal) x3 x4 (k0_pay23 x0 x1 x2 x3 x4 x5 x6 x7 x8) (k0_pay24 x0 x1 x2 x3 x4 x5 x6 x7 x8)
        (k0_pay25 x0 x1 x2 x3 x4 x5 x6 x7 x8) (k0_pay22 x0 x1 x2 x3 x4 x5 x6 x7 x8) 64#32
        (k0_pay26 x0 x1 x2 x3 x4 x5 x6 x7 x8) (k0_pay27 x0 x1 x2 x3 x4 x5 x6 x7 x8)
      = gated x3 x4 (norm x5 x6 (k0_pay5 x0 k0_pay4) (k0_pay6 x0 k0_pay4)) (k0_pay14 x1 x2 (k0_pay3 x7)) := by
  unfold k0_pay22 k0_pay23 k0_pay24 k0_pay25 k0_pay26 k0_pay27 k0_pay21 k0_pay20
  simp (disch := decide) only [View.ld_unit_lit']

include h0 h1 h2 h7 in
/-- The gated output after the run. -/
theorem final_u : (dats m 0 c).arrAt 9 cfg0.N
    = U Y R K Q (m ((c : Thread nD τ).loc main_arg3)) (m ((c : Thread nD τ).loc main_arg4))
        (m ((c : Thread nD τ).loc main_arg5)) (m ((c : Thread nD τ).loc main_arg6)) := by
  refine (dats m 0 c).arrAt_eq_of_covers 9 _ (by decide +kernel) fun t hf y => ?_
  have e := idx t
  blk_simp
  rw [after0_9]
  frame_out
  rw [pay18_eq]
  refine (blk_at m c Y R K Q h0 h1 h2 h7 t y).trans ?_
  unfold U
  refine congrArg₂ (rowAt Y R K Q _ _ _ _) (Fin.ext ?_) (Fin.ext ?_)
  · show t.val * 512 + (y 0).val = ((win0_9.blk t).view.emb y 0).val
    blk_simp [e]
  · show (y 1).val = ((win0_9.blk t).view.emb y 1).val
    blk_simp [e]

include h0 h1 h2 h7 in
/-- The product after the run. -/
theorem final_z : (dats m 0 c).arrAt 10 cfg0.N
    = Z Y R K Q (m ((c : Thread nD τ).loc main_arg3)) (m ((c : Thread nD τ).loc main_arg4))
        (m ((c : Thread nD τ).loc main_arg5)) (m ((c : Thread nD τ).loc main_arg6)) (m ((c : Thread nD τ).loc main_arg8)) := by
  refine (dats m 0 c).arrAt_eq_of_covers 10 _ (by decide +kernel) fun t hf y => ?_
  have e := idx t
  blk_simp
  rw [after0_10]
  frame_out
  unfold k0_pay19
  rw [pay18_eq]
  refine (prod_at (blk m c t) (iblk m c 8 t) y).trans ?_
  unfold Z
  refine Finset.sum_congr (M := EReal) rfl fun k _ => congrArg₂ (fun a b : EReal => a * b)
    ((blk_at m c Y R K Q h0 h1 h2 h7 t _).trans ?_) ((blk_8 m c t _).trans ?_)
  · refine congrArg₂ (rowAt Y R K Q _ _ _ _) (Fin.ext ?_) rfl
    show t.val * 512 + (y 0).val = ((win0_10.blk t).view.emb y 0).val
    blk_simp [e]
  · refine congrArg _ (Dots.ext2 rfl ?_)
    show (y 1).val = ((win0_10.blk t).view.emb y 1).val
    blk_simp [e]

end Run

/-! ## The textbook -/

section Reference

open Cert.RprojRIdeal.Read

variable (x0 x1 x2 x3 x4 : Vec Ideal S4096x512 .f32) (x5 x6 : Vec Ideal S512 .f32) (x7 : Vec Ideal S8x64 .f32)
  (x8 : Vec Ideal S512x1024 .bf16) (Y R K : Fin 4096 → Fin 512 → ℝ) (Q : Fin 512 → ℝ)
  (h0 : ∀ i, x0 i = ((Y (i 0) (i 1) : ℝ) : EReal)) (h1 : ∀ i, x1 i = ((R (i 0) (i 1) : ℝ) : EReal))
  (h2 : ∀ i, x2 i = ((K (i 0) (i 1) : ℝ) : EReal)) (h7 : ∀ i, x7 i = ((Q (Dya.at3 (i 0) (i 1)) : ℝ) : EReal))

theorem v21_eq : val_main_v21 (F := Ideal) x0 = Cert.DyaRIdeal.Read.val_main_v30 (F := Ideal) x0 := rfl

theorem v35_eq : val_main_v35 (F := Ideal) x1 x2 x7 = Cert.DyaRIdeal.Read.val_main_v44 (F := Ideal) x1 x2 x7 := rfl

include h0 h1 h2 h7 in
theorem v38_at (i : Cert.RprojRIdeal.S4096x8x64.Idx) : val_main_v38 (F := Ideal) x0 x1 x2 x3 x5 x6 x7 i
    = (((Dya.cen (Y (i 0)) (Dya.at3 (i 1) (i 2)) * Dya.inv (Y (i 0)) (Dya.at3 (i 1) (i 2)) : ℝ) : EReal) * x5 (ix1 (Dya.at3 (i 1) (i 2)))
        + x6 (ix1 (Dya.at3 (i 1) (i 2)))
        + ((Dya.bonus (R (i 0)) (K (i 0)) Q (Dya.at3 (i 1) (i 2)) : ℝ) : EReal) * x3 (ix2 (i 0) (Dya.at3 (i 1) (i 2))) : EReal) := by
  pointwise [val_main_v38, val_main_v37, val_main_v36, val_main_v29, val_main_v28, val_main_v27, val_main_v26, val_main_v25,
    val_main_v24, val_main_v23, val_main_v22, val_main_v3]
  rw [v21_eq, v35_eq, Dya.s30 x0 Y h0 i]
  refine congrArg₂ (fun a b : EReal => a + b) (congrArg₂ (fun a b : EReal => a + b) (congrArg (fun b : EReal => _ * b) ?_) ?_)
    (congrArg₂ (fun a b : EReal => a * b) (Dya.s44 x1 x2 x7 R K Q h1 h2 h7 (ix3 (i 0) (i 1) 0) (i 2)) ?_)
  · exact congrArg x5 (congrArg ix1 (Fin.ext rfl))
  · exact congrArg x6 (congrArg ix1 (Fin.ext rfl))
  · exact congrArg x3 (Dots.ext2 rfl rfl)

include h0 h1 h2 h7 in
theorem ref_u : val_main_v41 (F := Ideal) x0 x1 x2 x3 x4 x5 x6 x7 = U Y R K Q x3 x4 x5 x6 := by
  funext i
  pointwise [val_main_v41, val_main_v40, val_main_v39]
  rw [v38_at x0 x1 x2 x3 x5 x6 x7 Y R K Q h0 h1 h2 h7]
  have e4 : x4 i = x4 (ix2 (i 0) (i 1)) := congrArg x4 (Dots.ext2 rfl rfl)
  rw [e4]
  unfold U rowAt row
  exact congrArg (fun j : Fin 512 => ((((Dya.cen (Y (i 0)) j * Dya.inv (Y (i 0)) j : ℝ) : EReal) * x5 (ix1 j) + x6 (ix1 j)
    + ((Dya.bonus (R (i 0)) (K (i 0)) Q j : ℝ) : EReal) * x3 (ix2 (i 0) j)) * x4 (ix2 (i 0) (i 1)) : EReal)) (Dya.at3_eq (i 1) _ _)

include h0 h1 h2 h7 in
theorem ref_z : val_main_v43 (F := Ideal) x0 x1 x2 x3 x4 x5 x6 x7 x8 = Z Y R K Q x3 x4 x5 x6 x8 := by
  have hu := ref_u x0 x1 x2 x3 x4 x5 x6 x7 Y R K Q h0 h1 h2 h7
  funext i
  unfold Z
  rw [val_main_v43_apply]
  refine Finset.sum_congr (M := EReal) rfl fun k _ => congrArg₂ (fun a b : EReal => a * b) ?_ ?_
  · have el : lidx_main_v43 i k = ix2 (i 0) k := Dots.ext2 rfl rfl
    rw [el]
    exact congrFun hu (ix2 (i 0) k)
  · rw [val_main_v42_apply]
    exact congrArg x8 (Dots.ext2 rfl rfl)

end Reference

/-- The kernel and the reference agree over the extended reals, where what the kernel rounds in two parts is finite. -/
theorem algebraic : Cert.algebraic_RprojKIdeal_RprojRIdeal_pre_finite_rproj := by
  intro m ρ m' ρ' hpre hag
  have f0 : ∀ (c : Dev nD) i, m ((c : Thread nD τ).loc main_arg0) i
      = (((m ((c : Thread nD τ).loc main_arg0) (ix2 (i 0) (i 1)) : EReal).toReal : ℝ) : EReal) := fun c i => by
    rw [Gdg.eta2 i]
    exact (Gdg.bit_finite _ (congrFun (hpre c).1 i)).symm
  have f1 : ∀ (c : Dev nD) i, m ((c : Thread nD τ).loc main_arg1) i
      = (((m ((c : Thread nD τ).loc main_arg1) (ix2 (i 0) (i 1)) : EReal).toReal : ℝ) : EReal) := fun c i => by
    rw [Gdg.eta2 i]
    exact (Gdg.bit_finite _ (congrFun (hpre c).2.1 i)).symm
  have f2 : ∀ (c : Dev nD) i, m ((c : Thread nD τ).loc main_arg2) i
      = (((m ((c : Thread nD τ).loc main_arg2) (ix2 (i 0) (i 1)) : EReal).toReal : ℝ) : EReal) := fun c i => by
    rw [Gdg.eta2 i]
    exact (Gdg.bit_finite _ (congrFun (hpre c).2.2.1 i)).symm
  have f7 : ∀ (c : Dev nD) i, m ((c : Thread nD τ).loc main_arg7) i
      = (((m ((c : Thread nD τ).loc main_arg7) (ix2 (i 0) (i 1)) : EReal).toReal : ℝ) : EReal) := fun c i => by
    rw [Gdg.eta2 i]
    exact (Gdg.bit_finite _ (congrFun (hpre c).2.2.2 i)).symm
  let Y (n : Fin 3) (c : Dev nD) (p : Fin 4096) (j : Fin 512) : ℝ := match n with
    | 0 => (m ((c : Thread nD τ).loc main_arg0) (ix2 p j) : EReal).toReal
    | 1 => (m ((c : Thread nD τ).loc main_arg1) (ix2 p j) : EReal).toReal
    | 2 => (m ((c : Thread nD τ).loc main_arg2) (ix2 p j) : EReal).toReal
  let P (c : Dev nD) (h : Fin 8) (l : Fin 64) : ℝ := (m ((c : Thread nD τ).loc main_arg7) (ix2 h l) : EReal).toReal
  let Q (c : Dev nD) (j : Fin 512) : ℝ := P c ⟨j.val / 64, by have := j.isLt; omega⟩ ⟨j.val % 64, Nat.mod_lt _ (by decide)⟩
  have g7 : ∀ (c : Dev nD) i, m ((c : Thread nD τ).loc main_arg7) i = ((Q c (Dya.at3 (i 0) (i 1)) : ℝ) : EReal) := fun c i =>
    (f7 c i).trans (congrArg (fun x : ℝ => (x : EReal)) (Dya.back_at3 (P c) (i 0) (i 1)).symm)
  refine ⟨fun c => U (Y 0 c) (Y 1 c) (Y 2 c) (Q c) (m ((c : Thread nD τ).loc main_arg3)) (m ((c : Thread nD τ).loc main_arg4)) (m ((c : Thread nD τ).loc main_arg5))
      (m ((c : Thread nD τ).loc main_arg6)),
    fun c => Z (Y 0 c) (Y 1 c) (Y 2 c) (Q c) (m ((c : Thread nD τ).loc main_arg3)) (m ((c : Thread nD τ).loc main_arg4)) (m ((c : Thread nD τ).loc main_arg5))
      (m ((c : Thread nD τ).loc main_arg6)) (m ((c : Thread nD τ).loc main_arg8)), ?_, ?_⟩
  · exact (θ_run _ _ _).mono (fun r h c => ⟨(h c).1.trans (final_u m c _ _ _ _ (f0 c) (f1 c) (f2 c) (g7 c)),
      (h c).2.1.trans (final_z m c _ _ _ _ (f0 c) (f1 c) (f2 c) (g7 c)), (h c).2.2⟩) (Value.run_blocks m ρ)
  · refine (θ_run _ _ _).mono (fun r h c => ⟨(h c).1.trans ?_, (h c).2.1.trans ?_, (h c).2.2⟩)
      (Cert.RprojRIdeal.Value.run m' ρ')
    · rw [(hag c).1, (hag c).2.1, (hag c).2.2.1, (hag c).2.2.2.1, (hag c).2.2.2.2.1, (hag c).2.2.2.2.2.1, (hag c).2.2.2.2.2.2.1, (hag c).2.2.2.2.2.2.2.1]
      exact ref_u _ _ _ _ _ _ _ _ _ _ _ _ (f0 c) (f1 c) (f2 c) (g7 c)
    · rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2]
      exact ref_z _ _ _ _ _ _ _ _ _ _ _ _ _ (f0 c) (f1 c) (f2 c) (g7 c)

end Cert.Proof.Rproj

end
-- ==== Proof.Dproj.lean ====
/-
  The delta rule's output: norm of every head, gate and output product, and the gated mixture of the two branches.  The kernel
  sums over a head by a product with the matrix of ones, in two parts; at finite arguments that is the sum.  It writes the
  gates with the hyperbolic tangent.
-/
module

public import proofs.«01_k».proof.Defs
public import proofs.«01_k».proof.Proof.Gen.Pre_finite_dproj
public import proofs.«01_k».proof.Proof.Gen.DprojKIdeal.Value
public import proofs.«01_k».proof.Proof.Gen.DprojRIdeal.Run
public import proofs.«01_k».proof.Proof.Gen.DprojRIdeal.Read
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Dyb
public import Idealize.ShloMosaic.Lib.Pointwise

@[expose] public section

set_option maxRecDepth 16384

noncomputable section

namespace Cert.Proof.Dproj

open Cert.DprojKIdeal Cert.DprojKIdeal.Gen Idealize.ShloMosaic Idealize.ShloMosaic.TcCoe Idealize.SL.Sem

variable (m : (ℓ : Loc nD τ sig) → Buf (Elt Ideal) ℓ) (ρ : Dev nD → PrngReg)

/-- A row of the gated output: the norm of the head, its weight, the gate. -/
def row (o : Fin 512 → ℝ) (z n : Fin 512 → EReal) (j : Fin 512) : EReal :=
  ((o j * Dyb.inv o j : ℝ) : EReal) * n j * (z j * Gate.sig (z j))

section Spec

variable (O : Fin 4096 → Fin 512 → ℝ) (xz : Vec Ideal S4096x512 .f32) (xn : Vec Ideal S128 .f32) (xw : Vec Ideal S512x1024 .bf16)
  (xg : Vec Ideal S4096x2048 .f32) (xa : Vec Ideal S4096x1024 .f32)

/-- The norm's weight on every lane: the same on every head. -/
def tile (j : Fin 512) : EReal := xn (ix1 ⟨j.val % 128, Nat.mod_lt _ (by decide)⟩)

/-- The gated output at a row. -/
def rowAt (p : Fin 4096) : Fin 512 → EReal := row (O p) (fun j => xz (ix2 p j)) (tile xn)

/-- The gated output. -/
def U : Vec Ideal S4096x512 .bf16 := fun i => rowAt O xz xn (i 0) (i 1)

/-- Its product with the weight. -/
def Z : Vec Ideal S4096x1024 .f32 := fun i => ∑ k : Fin 512, rowAt O xz xn (i 0) k * xw (ix2 k (i 1))

/-- Gate `o` of an element: the first gate's columns begin at 0, the second's at 1024. -/
def gateAt (o : ℕ) (ho : o + 1024 ≤ 2048) (i : S4096x1024.Idx) : EReal :=
  xg (ix2 (i 0) ⟨o + (i 1).val, by have h : (i 1).val < 1024 := (i 1).isLt; omega⟩)

/-- The mixture of the branches. -/
def M : Vec Ideal S4096x1024 .bf16 := fun i =>
  Gate.sig (gateAt xg 0 (by decide) i) * xa i + Gate.sig (gateAt xg 1024 (by decide) i) * Z O xz xn xw i

end Spec

/-! ## What a block gives -/

/-- The gated output of a block. -/
abbrev gated (o z : Vec Ideal S512x512 .f32) (n : Vec Ideal S1x512 .f32) : FVec Ideal S512x512 .bf16 :=
  k0_pay8 (F := Ideal) o z (k0_pay3 n) (k0_pay4 o) k0_pay5 (iota .tc S512x512 32 [1] iota_S512x512_d1_w32) 128#32 k0_pay6 k0_pay7
    (Scalar.extui (Scalar.cmpi .sgt 128#32 0#32))

theorem gated_eq (o z : Vec Ideal S512x512 .f32) (n : Vec Ideal S1x512 .f32) : gated o z n
    = truncf .bf16 (mulf (mulf (mulf o (rsqrt (addf (mulf (Dyb.split (k0_pay4 o)) (broadcast S512x512 (Scalar.ofBits .f32 0x3C000000#32)))
          (broadcast S512x512 (Scalar.ofBits .f32 0x358637BD#32))))) (broadcastTo S512x512 (k0_pay3 n) broadcasts_S1x512_S512x512))
        (mulf z (addf (mulf (broadcast S512x512 (Scalar.ofBits .f32 0x3F000000#32))
            (tanh (mulf (broadcast S512x512 (Scalar.ofBits .f32 0x3F000000#32)) z)))
          (broadcast S512x512 (Scalar.ofBits .f32 0x3F000000#32))))) bitsLt_bf16_f32 := rfl

theorem gated_at (vo vz : Vec Ideal S512x512 .f32) (vn : Vec Ideal S1x512 .f32) (O : Fin 512 → Fin 512 → ℝ)
    (ho : ∀ y, vo y = ((O (y 0) (y 1) : ℝ) : EReal)) (y : S512x512.Idx) : gated vo vz vn y
      = row (O (y 0)) (fun j => vz (ix2 (y 0) j)) (fun j => vn (ix2 0 j)) (y 1) := by
  rw [gated_eq]
  pointwise [k0_pay3]
  rw [Dyb.split_at (k0_pay4 vo) (fun p j => O p j * O p j) (fun y => by pointwise [k0_pay4]; rw [ho, ← EReal.coe_mul]) y, ho,
    Dyb.part_word, Dyb.eps_word, ← EReal.coe_mul, ← EReal.coe_add, Gate.half_word, Gate.gate]
  have e1 : vz y = vz (ix2 (y 0) (y 1)) := congrArg vz (Dots.ext2 rfl rfl)
  rw [e1]
  unfold row
  rw [EReal.coe_mul]
  refine congrArg (fun s : EReal => (((O (y 0) (y 1) : ℝ) : EReal)) * s * vn (ix2 0 (y 1))
    * (vz (ix2 (y 0) (y 1)) * Gate.sig (vz (ix2 (y 0) (y 1))))) ?_
  exact Dyb.rsqrt_real _ (Dyb.ms_pos _ _)

/-- The product of a block with the weight. -/
theorem prod_at (u : FVec Ideal S512x512 .bf16) (w : FVec Ideal S512x1024 .bf16) (y : S512x1024.Idx) :
    k0_pay1 (F := Ideal) u w (constant S512x1024 .f32 0x00000000#32) y
      = ∑ k : Fin 512, (u (ix2 (y 0) k) * w (ix2 k (y 1)) : EReal) := by
  refine (Dots.nn (M := 512) (K := 512) (N := 1024) (φ₁ := .bf16) (φ₂ := .bf16) none _ _ _ y).trans ?_
  pointwise

theorem mix_at (u : FVec Ideal S512x512 .bf16) (w : FVec Ideal S512x1024 .bf16) (a b x : FVec Ideal S512x1024 .f32) (y : S512x1024.Idx) :
    k0_pay2 (F := Ideal) u w (constant S512x1024 .f32 0x00000000#32) a b x y
      = (Gate.sig (a y) * x y + Gate.sig (b y) * ∑ k : Fin 512, (u (ix2 (y 0) k) * w (ix2 k (y 1)) : EReal) : EReal) := by
  pointwise [k0_pay2]
  rw [prod_at, Gate.half_word, Gate.gate, Gate.gate]

theorem pay8_eq (x0 x1 : Vec Ideal S512x512 .f32) (x2 : Vec Ideal S1x512 .f32) (x3 : Vec Ideal S512x1024 .bf16)
    (x4 x5 x6 : Vec Ideal S512x1024 .f32) :
    k0_pay8 (F := Ideal) x0 x1 (k0_pay10 x0 x1 x2 x3 x4 x5 x6) (k0_pay11 x0 x1 x2 x3 x4 x5 x6) (k0_pay12 x0 x1 x2 x3 x4 x5 x6)
        (k0_pay9 x0 x1 x2 x3 x4 x5 x6) 128#32 (k0_pay13 x0 x1 x2 x3 x4 x5 x6) (k0_pay14 x0 x1 x2 x3 x4 x5 x6)
        (Scalar.extui (Scalar.cmpi .sgt 128#32 0#32)) = gated x0 x1 x2 := by
  unfold k0_pay9 k0_pay10 k0_pay11 k0_pay12 k0_pay13 k0_pay14
  simp (disch := decide) only [View.ld_unit_lit']

theorem pay16_eq (x0 x1 : Vec Ideal S512x512 .f32) (x2 : Vec Ideal S1x512 .f32) (x3 : Vec Ideal S512x1024 .bf16)
    (x4 x5 x6 : Vec Ideal S512x1024 .f32) : k0_pay16 (F := Ideal) x0 x1 x2 x3 x4 x5 x6 = gated x0 x1 x2 := by
  rw [← pay8_eq x0 x1 x2 x3 x4 x5 x6]
  unfold k0_pay16
  simp (disch := decide) only [View.ld_unit_lit']

/-! ## The run -/

theorem host_n (c : Dev nD) : V m c main_v3
    = shapeCast S1x512 (broadcastInDim S1x1x4x128 ![0, 1, 2, 3] bcast_S1x1x1x128_S1x1x4x128_0_1_2_3
        (shapeCast S1x1x1x128 (shapeCast S1x128 (m ((c : Thread nD τ).loc main_arg2)) shapeCasts_S128_S1x128)
          shapeCasts_S1x128_S1x1x1x128)) shapeCasts_S1x1x4x128_S1x512 := by
  show StableHlo.after hostOps0 (fun b => m (c, b)) main_v3 = _
  unfold hostOps0
  after_results
  rfl

theorem tiled (v : Vec Ideal S128 .f32) (y : S1x512.Idx) :
    (shapeCast S1x512 (broadcastInDim S1x1x4x128 ![0, 1, 2, 3] bcast_S1x1x1x128_S1x1x4x128_0_1_2_3
        (shapeCast S1x1x1x128 (shapeCast S1x128 v shapeCasts_S128_S1x128)
          shapeCasts_S1x128_S1x1x1x128)) shapeCasts_S1x1x4x128_S1x512 : Vec Ideal S1x512 .f32) y = tile v (y 1) := by
  pointwise []
  rfl

/-- The blocks each point of the grid reads and writes. -/
theorem idx : ∀ t : Fin grid0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 1)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0) := by decide +kernel

/-- The row of the array that a block's row is. -/
def at_ (t : Fin cfg0.N) (p : Fin 512) : Fin 4096 :=
  ⟨t.val * 512 + p.val, by have h : t.val < 8 := t.isLt; have := p.isLt; omega⟩

theorem blk_0 (c : Dev nD) (t : Fin cfg0.N) (y : S512x512.Idx) :
    iblk m c 0 t y = m ((c : Thread nD τ).loc main_arg0) (ix2 (at_ t (y 0)) (y 1)) := by
  have e := idx t
  show V m c main_arg0 _ = V m c main_arg0 _
  refine congrArg (V m c main_arg0) (Dots.ext2 ?_ ?_)
  · show _ = t.val * 512 + (y 0).val
    blk_simp [e]
  · show _ = (y 1).val
    blk_simp [e]

theorem blk_1 (c : Dev nD) (t : Fin cfg0.N) (y : S512x512.Idx) :
    iblk m c 1 t y = m ((c : Thread nD τ).loc main_arg1) (ix2 (at_ t (y 0)) (y 1)) := by
  have e := idx t
  show V m c main_arg1 _ = V m c main_arg1 _
  refine congrArg (V m c main_arg1) (Dots.ext2 ?_ ?_)
  · show _ = t.val * 512 + (y 0).val
    blk_simp [e]
  · show _ = (y 1).val
    blk_simp [e]

theorem blk_3 (c : Dev nD) (t : Fin cfg0.N) (y : S512x1024.Idx) :
    iblk m c 3 t y = m ((c : Thread nD τ).loc main_arg3) (ix2 (y 0) (y 1)) := by
  have e := idx t
  show V m c main_arg3 _ = V m c main_arg3 _
  refine congrArg (V m c main_arg3) (Dots.ext2 ?_ ?_)
  · show _ = (y 0).val
    blk_simp [e]
  · show _ = (y 1).val
    blk_simp [e]

theorem blk_6 (c : Dev nD) (t : Fin cfg0.N) (y : S512x1024.Idx) :
    iblk m c 6 t y = m ((c : Thread nD τ).loc main_arg5) (ix2 (at_ t (y 0)) (y 1)) := by
  have e := idx t
  show V m c main_arg5 _ = V m c main_arg5 _
  refine congrArg (V m c main_arg5) (Dots.ext2 ?_ ?_)
  · show _ = t.val * 512 + (y 0).val
    blk_simp [e]
  · show _ = (y 1).val
    blk_simp [e]

theorem blk_4 (c : Dev nD) (t : Fin cfg0.N) (y : S512x1024.Idx) :
    iblk m c 4 t y = gateAt (m ((c : Thread nD τ).loc main_arg4)) 0 (by decide) (ix2 (at_ t (y 0)) (y 1)) := by
  have e := idx t
  show V m c main_arg4 _ = V m c main_arg4 _
  refine congrArg (V m c main_arg4) (Dots.ext2 ?_ ?_)
  · show _ = t.val * 512 + (y 0).val
    blk_simp [e]
  · show _ = 0 + (y 1).val
    blk_simp [e]

theorem blk_5 (c : Dev nD) (t : Fin cfg0.N) (y : S512x1024.Idx) :
    iblk m c 5 t y = gateAt (m ((c : Thread nD τ).loc main_arg4)) 1024 (by decide) (ix2 (at_ t (y 0)) (y 1)) := by
  have e := idx t
  show V m c main_arg4 _ = V m c main_arg4 _
  refine congrArg (V m c main_arg4) (Dots.ext2 ?_ ?_)
  · show _ = t.val * 512 + (y 0).val
    blk_simp [e]
  · show _ = 1024 + (y 1).val
    blk_simp [e]

theorem blk_n (c : Dev nD) (t : Fin cfg0.N) (y : S1x512.Idx) : iblk m c 2 t y = tile (m ((c : Thread nD τ).loc main_arg2)) (y 1) := by
  have e := idx t
  show V m c main_v3 _ = _
  rw [host_n]
  exact (tiled _ _).trans (congrArg (tile _) (Fin.ext (by blk_simp [e])))

section Run

variable (c : Dev nD) (O : Fin 4096 → Fin 512 → ℝ)
  (h0 : ∀ i, m ((c : Thread nD τ).loc main_arg0) i = ((O (i 0) (i 1) : ℝ) : EReal))

include h0 in
theorem blk_at (t : Fin cfg0.N) (y : S512x512.Idx) : gated (iblk m c 0 t) (iblk m c 1 t) (iblk m c 2 t) y
    = rowAt O (m ((c : Thread nD τ).loc main_arg1)) (m ((c : Thread nD τ).loc main_arg2)) (at_ t (y 0)) (y 1) := by
  refine (gated_at _ _ _ (fun p => O (at_ t p)) (fun y => (blk_0 m c t y).trans (h0 _)) y).trans ?_
  unfold rowAt row
  beta_reduce
  rw [blk_1, blk_n]
  rfl

include h0 in
theorem sum_at (t : Fin cfg0.N) (y : S512x1024.Idx) :
    (∑ k : Fin 512, (gated (iblk m c 0 t) (iblk m c 1 t) (iblk m c 2 t) (ix2 (y 0) k) * iblk m c 3 t (ix2 k (y 1)) : EReal))
      = Z O (m ((c : Thread nD τ).loc main_arg1)) (m ((c : Thread nD τ).loc main_arg2)) (m ((c : Thread nD τ).loc main_arg3)) (ix2 (at_ t (y 0)) (y 1)) := by
  unfold Z
  exact Finset.sum_congr (M := EReal) rfl fun k _ => congrArg₂ (fun a b : EReal => a * b)
    (blk_at m c O h0 t (ix2 (y 0) k)) (blk_3 m c t (ix2 k (y 1)))

include h0 in
/-- The gated output after the run. -/
theorem final_u : (dats m 0 c).arrAt 7 cfg0.N
    = U O (m ((c : Thread nD τ).loc main_arg1)) (m ((c : Thread nD τ).loc main_arg2)) := by
  refine (dats m 0 c).arrAt_eq_of_covers 7 _ (by decide +kernel) fun t hf y => ?_
  have e := idx t
  blk_simp
  rw [after0_7]
  frame_out
  rw [pay8_eq]
  refine (blk_at m c O h0 t y).trans ?_
  refine congrArg (U O (m ((c : Thread nD τ).loc main_arg1)) (m ((c : Thread nD τ).loc main_arg2))) (Dots.ext2 (i := ix2 (at_ t (y 0)) (y 1)) ?_ ?_)
  · show t.val * 512 + (y 0).val = ((win0_7.blk t).view.emb y 0).val
    blk_simp [e]
  · show (y 1).val = ((win0_7.blk t).view.emb y 1).val
    blk_simp [e]

include h0 in
/-- The product after the run. -/
theorem final_z : (dats m 0 c).arrAt 8 cfg0.N
    = Z O (m ((c : Thread nD τ).loc main_arg1)) (m ((c : Thread nD τ).loc main_arg2)) (m ((c : Thread nD τ).loc main_arg3)) := by
  refine (dats m 0 c).arrAt_eq_of_covers 8 _ (by decide +kernel) fun t hf y => ?_
  have e := idx t
  blk_simp
  rw [after0_8]
  frame_out
  rw [pay16_eq]
  refine ((prod_at _ (iblk m c 3 t) y).trans (sum_at m c O h0 t y)).trans ?_
  refine congrArg (Z O (m ((c : Thread nD τ).loc main_arg1)) (m ((c : Thread nD τ).loc main_arg2)) (m ((c : Thread nD τ).loc main_arg3))) (Dots.ext2 (i := ix2 (at_ t (y 0)) (y 1)) ?_ ?_)
  · show t.val * 512 + (y 0).val = ((win0_8.blk t).view.emb y 0).val
    blk_simp [e]
  · show (y 1).val = ((win0_8.blk t).view.emb y 1).val
    blk_simp [e]

include h0 in
/-- The mixture after the run. -/
theorem final_m : (dats m 0 c).arrAt 9 cfg0.N
    = M O (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 9 _ (by decide +kernel) fun t hf y => ?_
  have e := idx t
  blk_simp
  rw [after0_9]
  frame_out
  rw [pay16_eq]
  refine (mix_at _ (iblk m c 3 t) (iblk m c 4 t) (iblk m c 5 t) (iblk m c 6 t) y).trans ?_
  rw [sum_at m c O h0 t y, blk_4, blk_5, blk_6]
  refine congrArg (M O (m ((c : Thread nD τ).loc main_arg1)) (m ((c : Thread nD τ).loc main_arg2)) (m ((c : Thread nD τ).loc main_arg3)) (m ((c : Thread nD τ).loc main_arg4)) (m ((c : Thread nD τ).loc main_arg5))) (Dots.ext2 (i := ix2 (at_ t (y 0)) (y 1)) ?_ ?_)
  · show t.val * 512 + (y 0).val = ((win0_9.blk t).view.emb y 0).val
    blk_simp [e]
  · show (y 1).val = ((win0_9.blk t).view.emb y 1).val
    blk_simp [e]

end Run

/-! ## The textbook -/

section Reference

open Cert.DprojRIdeal.Read

variable (x0 x1 : Vec Ideal S4096x512 .f32) (x2 : Vec Ideal S128 .f32) (x3 : Vec Ideal S512x1024 .bf16)
  (x4 : Vec Ideal S4096x2048 .f32) (x5 : Vec Ideal S4096x1024 .f32) (O : Fin 4096 → Fin 512 → ℝ)
  (h0 : ∀ i, x0 i = ((O (i 0) (i 1) : ℝ) : EReal))

theorem v11_eq : val_main_v11 (F := Ideal) x0 = Cert.DybRIdeal.Read.val_main_v21 (F := Ideal) x0 := rfl

include h0 in
theorem v16_at (i : Cert.DprojRIdeal.S4096x4x128.Idx) : val_main_v16 (F := Ideal) x0 x1 x2 i
    = (((O (i 0) (Dyb.at3 (i 1) (i 2)) * Dyb.inv (O (i 0)) (Dyb.at3 (i 1) (i 2)) : ℝ) : EReal) * x2 (ix1 (i 2))
        * (x1 (ix2 (i 0) (Dyb.at3 (i 1) (i 2))) * Gate.sig (x1 (ix2 (i 0) (Dyb.at3 (i 1) (i 2))))) : EReal) := by
  pointwise [val_main_v16, val_main_v15, val_main_v14, val_main_v13, val_main_v12, val_main_v1, val_main_call0_v5, val_main_call0_v4,
    val_main_call0_v3, val_main_call0_v2, val_main_call0_v1, val_main_call0_v0, val_main_call0_cst, val_main_call0_cst_0]
  rw [v11_eq, Dyb.ref_unit x0 O h0 i]
  exact congrArg₂ (fun a b : EReal => _ * a * (b * Ideal.div 1 (1 + Ideal.exp (-b)))) (congrArg x2 (congrArg ix1 (Fin.ext rfl)))
    (congrArg x1 (Dots.ext2 rfl rfl))

include h0 in
theorem ref_u : val_main_v37 (F := Ideal) x0 x1 x2 = U O x1 x2 := by
  funext i
  pointwise [val_main_v37, val_main_v17]
  rw [v16_at x0 x1 x2 O h0]
  unfold U rowAt row tile
  exact congrArg (fun j : Fin 512 => (((O (i 0) j * Dyb.inv (O (i 0)) j : ℝ) : EReal)
    * x2 (ix1 ⟨(i 1).val % 128, Nat.mod_lt _ (by decide)⟩) * (x1 (ix2 (i 0) j) * Gate.sig (x1 (ix2 (i 0) j))) : EReal))
    (Dyb.at3_eq (i 1) _ _)

include h0 in
theorem ref_z : val_main_v19 (F := Ideal) x0 x1 x2 x3 = Z O x1 x2 x3 := by
  have hu := ref_u x0 x1 x2 O h0
  funext i
  unfold Z
  rw [val_main_v19_apply]
  refine Finset.sum_congr (M := EReal) rfl fun k _ => congrArg₂ (fun a b : EReal => a * b) ?_ ?_
  · have el : lidx_main_v19 i k = ix2 (i 0) k := Dots.ext2 rfl rfl
    rw [el]
    exact congrFun hu (ix2 (i 0) k)
  · rw [val_main_v18_apply]
    exact congrArg x3 (Dots.ext2 rfl rfl)

theorem gate0 (i : S4096x1024.Idx) : val_main_v27 (F := Ideal) x4 i = Gate.sig (gateAt x4 0 (by decide) i) := by
  rw [val_main_v27_apply, val_main_v26_apply, val_main_v25_apply, val_main_v24_apply, val_main_v23_apply, val_main_v22_apply, val_main_v20_apply]
  have e : x4 (idx_main_v20 i) = gateAt x4 0 (by decide) i := congrArg x4 (Dots.ext2 (by simp) (by simp))
  rw [e]
  unfold Gate.sig
  rw [← Ideal.ofBits_one_f32]
  rfl

theorem gate1 (i : S4096x1024.Idx) : val_main_v34 (F := Ideal) x4 i = Gate.sig (gateAt x4 1024 (by decide) i) := by
  rw [val_main_v34_apply, val_main_v33_apply, val_main_v32_apply, val_main_v31_apply, val_main_v30_apply, val_main_v29_apply, val_main_v21_apply]
  have e : x4 (idx_main_v21 i) = gateAt x4 1024 (by decide) i := congrArg x4 (Dots.ext2 (by simp) (by simp))
  rw [e]
  unfold Gate.sig
  rw [← Ideal.ofBits_one_f32]
  rfl

include h0 in
theorem ref_m : val_main_v38 (F := Ideal) x0 x1 x2 x3 x4 x5 = M O x1 x2 x3 x4 x5 := by
  funext i
  pointwise [val_main_v38, val_main_v36, val_main_v35, val_main_v28]
  rw [gate0, gate1, ref_z x0 x1 x2 x3 O h0]
  rfl

end Reference

/-- The kernel and the reference agree over the extended reals, where what the kernel rounds in two parts is finite. -/
theorem algebraic : Cert.algebraic_DprojKIdeal_DprojRIdeal_pre_finite_dproj := by
  intro m ρ m' ρ' hpre hag
  have f0 : ∀ (c : Dev nD) i, m ((c : Thread nD τ).loc main_arg0) i
      = (((m ((c : Thread nD τ).loc main_arg0) (ix2 (i 0) (i 1)) : EReal).toReal : ℝ) : EReal) := fun c i => by
    rw [Gdg.eta2 i]
    exact (Gdg.bit_finite _ (congrFun (hpre c) i)).symm
  let O (c : Dev nD) (p : Fin 4096) (j : Fin 512) : ℝ := (m ((c : Thread nD τ).loc main_arg0) (ix2 p j) : EReal).toReal
  refine ⟨fun c => U (O c) (m ((c : Thread nD τ).loc main_arg1)) (m ((c : Thread nD τ).loc main_arg2)),
    fun c => Z (O c) (m ((c : Thread nD τ).loc main_arg1)) (m ((c : Thread nD τ).loc main_arg2)) (m ((c : Thread nD τ).loc main_arg3)),
    fun c => M (O c) (m ((c : Thread nD τ).loc main_arg1)) (m ((c : Thread nD τ).loc main_arg2)) (m ((c : Thread nD τ).loc main_arg3))
      (m ((c : Thread nD τ).loc main_arg4)) (m ((c : Thread nD τ).loc main_arg5)), ?_, ?_⟩
  · exact (θ_run _ _ _).mono (fun r h c => ⟨(h c).1.trans (final_u m c _ (f0 c)), (h c).2.1.trans (final_z m c _ (f0 c)),
      (h c).2.2.1.trans (final_m m c _ (f0 c)), (h c).2.2.2⟩) (Value.run_blocks m ρ)
  · refine (θ_run _ _ _).mono (fun r h c => ⟨(h c).1.trans ?_, (h c).2.1.trans ?_, (h c).2.2.1.trans ?_, (h c).2.2.2⟩)
      (Cert.DprojRIdeal.Value.run m' ρ')
    · rw [(hag c).1, (hag c).2.1, (hag c).2.2.1]
      exact ref_u _ _ _ _ (f0 c)
    · rw [(hag c).1, (hag c).2.1, (hag c).2.2.1, (hag c).2.2.2.1]
      exact ref_z _ _ _ _ _ (f0 c)
    · rw [(hag c).1, (hag c).2.1, (hag c).2.2.1, (hag c).2.2.2.1, (hag c).2.2.2.2.1, (hag c).2.2.2.2.2]
      exact ref_m _ _ _ _ _ _ _ (f0 c)

end Cert.Proof.Dproj

end
-- ==== Proof.Rms.lean ====
module

public import proofs.«01_k».proof.Defs
public import proofs.«01_k».proof.Proof.Gen.RmsKIdeal.Value
public import proofs.«01_k».proof.Proof.Gen.RmsRIdeal.Run
public import proofs.«01_k».proof.Proof.Gen.RmsRIdeal.Read
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Dots
public import proofs.«01_k».proof.Proof.Rows
public import Idealize.ShloMosaic.Lib.Pointwise

@[expose] public section

set_option maxRecDepth 16384

noncomputable section

namespace Cert.Proof.Rms

open Cert.RmsKIdeal Cert.RmsKIdeal.Gen Idealize.ShloMosaic Idealize.ShloMosaic.TcCoe Idealize.SL.Sem

variable (m : (ℓ : Loc nD τ sig) → Buf (Elt Ideal) ℓ) (ρ : Dev nD → PrngReg)

/-- The norm of the rows. -/
def U (x : Vec Ideal S4096x1024 .f32) (g : Vec Ideal S1024 .f32) : Vec Ideal S4096x1024 .bf16 :=
  fun i => x (ix2 (i 0) (i 1)) * Rows.scale (fun k => x (ix2 (i 0) k)) * g (ix1 (i 1))

theorem pay (x : Vec Ideal S512x1024 .f32) (g : Vec Ideal S1x1024 .f32) (y : S512x1024.Idx) : k0_pay1 (F := Ideal) x g y
    = (x (ix2 (y 0) (y 1)) * Rows.scale (fun k => x (ix2 (y 0) k)) * g (ix2 0 (y 1)) : EReal) := by
  unfold Rows.scale Rows.square
  have e : x y = x (ix2 (y 0) (y 1)) := congrArg x (Dots.ext2 rfl rfl)
  rw [← e]
  pointwise [k0_pay1]

/-- The gain as the kernel reads it: one row. -/
theorem host (c : Dev nD) (y : S1x1024.Idx) :
    V m c main_v0 y = m ((c : Thread nD τ).loc main_arg1) (ix1 (y 1)) := by
  have e : V m c main_v0 = shapeCast S1x1024 (m ((c : Thread nD τ).loc main_arg1)) shapeCasts_S1024_S1x1024 := by
    show StableHlo.after hostOps0 (fun b => m (c, b)) main_v0 = _
    unfold hostOps0
    after_results
    rfl
  rw [e]
  exact Rows.row (N := 1024) _ _ y

/-- The blocks each point of the grid reads and writes. -/
theorem idx : ∀ t : Fin grid0.N, (win0_0.index t 0 = t.val ∧ win0_0.index t 1 = 0)
    ∧ (win0_1.index t 0 = 0 ∧ win0_1.index t 1 = 0) ∧ (win0_2.index t 0 = t.val ∧ win0_2.index t 1 = 0) := by decide +kernel

/-- The row of the array that a block's row is. -/
def at_ (t : Fin cfg0.N) (p : Fin 512) : Fin 4096 :=
  ⟨t.val * 512 + p.val, by have h : t.val < 8 := t.isLt; have := p.isLt; omega⟩

theorem blk_x (c : Dev nD) (t : Fin cfg0.N) (y : S512x1024.Idx) :
    iblk m c 0 t y = m ((c : Thread nD τ).loc main_arg0) (ix2 (at_ t (y 0)) (y 1)) := by
  have e := idx t
  show V m c main_arg0 _ = V m c main_arg0 _
  refine congrArg (V m c main_arg0) (Dots.ext2 ?_ ?_)
  · show _ = t.val * 512 + (y 0).val
    blk_simp [e]
  · show _ = (y 1).val
    blk_simp [e]

theorem blk_g (c : Dev nD) (t : Fin cfg0.N) (y : S1x1024.Idx) :
    iblk m c 1 t y = m ((c : Thread nD τ).loc main_arg1) (ix1 (y 1)) := by
  have e := idx t
  show V m c main_v0 _ = _
  rw [host]
  exact congrArg _ (congrArg ix1 (Fin.ext (by blk_simp [e])))

/-- The norm after the run. -/
theorem final (c : Dev nD) : (dats m 0 c).arrAt 2 cfg0.N = U (m ((c : Thread nD τ).loc main_arg0)) (m ((c : Thread nD τ).loc main_arg1)) := by
  refine (dats m 0 c).arrAt_eq_of_covers 2 _ (by decide +kernel) fun t hf y => ?_
  have e := idx t
  blk_simp
  rw [after0_2]
  frame_out
  refine (pay (iblk m c 0 t) (iblk m c 1 t) y).trans ?_
  have er : (fun k => iblk m c 0 t (ix2 (y 0) k)) = fun k => (m ((c : Thread nD τ).loc main_arg0)) (ix2 (at_ t (y 0)) k) :=
    funext fun k => blk_x m c t (ix2 (y 0) k)
  rw [er, blk_x, blk_g]
  refine congrArg (U (m ((c : Thread nD τ).loc main_arg0)) (m ((c : Thread nD τ).loc main_arg1))) (Dots.ext2 (i := ix2 (at_ t (y 0)) (y 1)) ?_ ?_)
  · show t.val * 512 + (y 0).val = ((win0_2.blk t).view.emb y 0).val
    blk_simp [e]
  · show (y 1).val = ((win0_2.blk t).view.emb y 1).val
    blk_simp [e]

theorem ref (x : Vec Ideal S4096x1024 .f32) (g : Vec Ideal S1024 .f32) :
    Cert.RmsRIdeal.Read.val_main_v13 (F := Ideal) x g = U x g := by
  funext i
  unfold U Rows.scale Rows.square
  have e : x i = x (ix2 (i 0) (i 1)) := congrArg x (Dots.ext2 rfl rfl)
  rw [← e]
  pointwise [
    Cert.RmsRIdeal.Read.val_main_v0, Cert.RmsRIdeal.Read.val_main_cst, Cert.RmsRIdeal.Read.val_main_v1,
    Cert.RmsRIdeal.Read.val_main_v2, Cert.RmsRIdeal.Read.val_main_cst_0, Cert.RmsRIdeal.Read.val_main_v3,
    Cert.RmsRIdeal.Read.val_main_v4, Cert.RmsRIdeal.Read.val_main_cst_1, Cert.RmsRIdeal.Read.val_main_v5,
    Cert.RmsRIdeal.Read.val_main_v6, Cert.RmsRIdeal.Read.val_main_v7, Cert.RmsRIdeal.Read.val_main_v8,
    Cert.RmsRIdeal.Read.val_main_v9, Cert.RmsRIdeal.Read.val_main_v10, Cert.RmsRIdeal.Read.val_main_v11,
    Cert.RmsRIdeal.Read.val_main_v12, Cert.RmsRIdeal.Read.val_main_v13]

/-- The kernel and the reference agree over the extended reals. -/
theorem algebraic : Cert.algebraic_RmsKIdeal_RmsRIdeal := by
  intro m ρ m' ρ' _ hag
  refine ⟨fun c => U (m ((c : Thread nD τ).loc main_arg0)) (m ((c : Thread nD τ).loc main_arg1)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.RmsRIdeal.Value.run m' ρ')
    rw [(hag c).1, (hag c).2]
    exact ref _ _

end Cert.Proof.Rms

end
-- ==== Proof.Beta.lean ====
module

public import proofs.«01_k».proof.Defs
public import proofs.«01_k».proof.Proof.Gen.BetaKIdeal.Value
public import proofs.«01_k».proof.Proof.Gen.BetaRIdeal.Run
public import proofs.«01_k».proof.Proof.Gen.BetaRIdeal.Read
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Dots
public import proofs.«01_k».proof.Proof.Gate
public import proofs.«01_k».proof.Proof.Soft
public import proofs.«01_k».proof.Proof.Gdg
public import Idealize.ShloMosaic.Lib.Pointwise

@[expose] public section

set_option maxRecDepth 16384

noncomputable section

namespace Cert.Proof.Beta

open Cert.BetaKIdeal Cert.BetaKIdeal.Gen Idealize.ShloMosaic Idealize.ShloMosaic.TcCoe Idealize.SL.Sem

variable (m : (ℓ : Loc nD τ sig) → Buf (Elt Ideal) ℓ) (ρ : Dev nD → PrngReg)

/-- A number per head, on the lanes of a row. -/
def lanes (v : Vec Ideal S4 .f32) (j : Fin 256) : EReal := if h : j.val < 4 then v (ix1 ⟨j.val, h⟩) else 0

/-- One lane: the log-decays on the first four, the strengths on the next four. -/
def lane (j : Fin 256) (a l s : EReal) : EReal :=
  if j.val < 4 then -Ideal.exp l * Soft.wide (a + s) else if j.val < 8 then Gate.sig a else 0

/-- The decays and the strengths. -/
def G (a : Vec Ideal S4096x256 .f32) (l s : Vec Ideal S4 .f32) : Vec Ideal S4096x256 .f32 :=
  fun i => lane (i 1) (a (ix2 (i 0) (i 1))) (lanes l (i 1)) (lanes s (i 1))

theorem pay (a : Vec Ideal S512x256 .f32) (l s : Vec Ideal S1x256 .f32) (y : S512x256.Idx) : k0_pay1 (F := Ideal) a l s y
    = lane (y 1) (a (ix2 (y 0) (y 1))) (l (ix2 0 (y 1))) (s (ix2 0 (y 1))) := by
  have e : a y = a (ix2 (y 0) (y 1)) := congrArg a (Dots.ext2 rfl rfl)
  rw [← e]
  pointwise [k0_pay1]
  rw [Gdg.mask4 (y 1).val (y 1).isLt, Gdg.mask8 (y 1).val (y 1).isLt, Gate.half_word, Gate.gate]
  unfold lane
  refine congrArg (fun z : EReal => if (y 1).val < 4 then z else _) ?_
  refine (congrArg₂ (fun z w : EReal => z * w) (zero_sub _) (Soft.kernel_wide _))

theorem host_l (c : Dev nD) : V m c main_v1 = pad S1x256 ![0, 0] ![0, 252] ![0, 0]
    (shapeCast S1x4 (m ((c : Thread nD τ).loc main_arg1)) shapeCasts_S4_S1x4)
    (sitofp (F := Ideal) .f32 (constantI S_ 32 0#32)) pads_S1x4_S1x256_000_02520 h_S_ := by
  show StableHlo.after (List.flatten [hostOps0, hostOps0_1, hostOps0_2, hostOps0_3]) (fun b => m (c, b)) main_v1 = _
  simp only [hostOps0, hostOps0_1, hostOps0_2, hostOps0_3, List.flatten_cons, List.flatten_nil, List.append_nil,
    List.cons_append, List.nil_append, StableHlo.TRef.binary, StableHlo.TRef.unary, StableHlo.TRef.toBuf,
    StableHlo.TRef.ofBuf, cast_eq]
  after_results_simp
  all_goals try rfl

theorem host_s (c : Dev nD) : V m c main_v3 = pad S1x256 ![0, 0] ![0, 252] ![0, 0]
    (shapeCast S1x4 (m ((c : Thread nD τ).loc main_arg2)) shapeCasts_S4_S1x4)
    (sitofp (F := Ideal) .f32 (constantI S_ 32 0#32)) pads_S1x4_S1x256_000_02520 h_S_ := by
  show StableHlo.after (List.flatten [hostOps0, hostOps0_1, hostOps0_2, hostOps0_3]) (fun b => m (c, b)) main_v3 = _
  simp only [hostOps0, hostOps0_1, hostOps0_2, hostOps0_3, List.flatten_cons, List.flatten_nil, List.append_nil,
    List.cons_append, List.nil_append, StableHlo.TRef.binary, StableHlo.TRef.unary, StableHlo.TRef.toBuf,
    StableHlo.TRef.ofBuf, cast_eq]
  after_results_simp
  all_goals try rfl

/-- A row of four numbers, padded. -/
theorem padded (v : Vec Ideal S4 .f32) (y : S1x256.Idx) :
    (pad S1x256 ![0, 0] ![0, 252] ![0, 0] (shapeCast S1x4 v shapeCasts_S4_S1x4)
      (sitofp (F := Ideal) .f32 (constantI S_ 32 0#32)) pads_S1x4_S1x256_000_02520 h_S_ : Vec Ideal S1x256 .f32) y = lanes v (y 1) := by
  pointwise []
  unfold lanes
  split_ifs with h
  · rfl
  · exact Gdg.zero_word

/-- The blocks each point of the grid reads and writes. -/
theorem idx : ∀ t : Fin grid0.N, (win0_0.index t 0 = t.val ∧ win0_0.index t 1 = 0)
    ∧ (win0_1.index t 0 = 0 ∧ win0_1.index t 1 = 0) ∧ (win0_2.index t 0 = 0 ∧ win0_2.index t 1 = 0)
    ∧ (win0_3.index t 0 = t.val ∧ win0_3.index t 1 = 0) := by decide +kernel

/-- The row of the array that a block's row is. -/
def at_ (t : Fin cfg0.N) (p : Fin 512) : Fin 4096 :=
  ⟨t.val * 512 + p.val, by have h : t.val < 8 := t.isLt; have := p.isLt; omega⟩

theorem blk_a (c : Dev nD) (t : Fin cfg0.N) (y : S512x256.Idx) :
    iblk m c 0 t y = (m ((c : Thread nD τ).loc main_arg0)) (ix2 (at_ t (y 0)) (y 1)) := by
  have e := idx t
  show V m c main_arg0 _ = V m c main_arg0 _
  refine congrArg (V m c main_arg0) (Dots.ext2 ?_ ?_)
  · show _ = t.val * 512 + (y 0).val
    blk_simp [e]
  · show _ = (y 1).val
    blk_simp [e]

theorem blk_l (c : Dev nD) (t : Fin cfg0.N) (y : S1x256.Idx) : iblk m c 1 t y = lanes (m ((c : Thread nD τ).loc main_arg1)) (y 1) := by
  have e := idx t
  show V m c main_v1 _ = _
  rw [host_l, padded]
  exact congrArg (lanes _) (Fin.ext (by blk_simp [e]))

theorem blk_s (c : Dev nD) (t : Fin cfg0.N) (y : S1x256.Idx) : iblk m c 2 t y = lanes (m ((c : Thread nD τ).loc main_arg2)) (y 1) := by
  have e := idx t
  show V m c main_v3 _ = _
  rw [host_s, padded]
  exact congrArg (lanes _) (Fin.ext (by blk_simp [e]))

/-- The lanes after the run. -/
theorem final (c : Dev nD) : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  have e := idx t
  blk_simp
  rw [after0_3]
  frame_out
  refine (pay (iblk m c 0 t) (iblk m c 1 t) (iblk m c 2 t) y).trans ?_
  rw [blk_a, blk_l, blk_s]
  refine congrArg (G (m ((c : Thread nD τ).loc main_arg0)) (m ((c : Thread nD τ).loc main_arg1)) (m ((c : Thread nD τ).loc main_arg2))) (Dots.ext2 (i := ix2 (at_ t (y 0)) (y 1)) ?_ ?_)
  · show t.val * 512 + (y 0).val = ((win0_3.blk t).view.emb y 0).val
    blk_simp [e]
  · show (y 1).val = ((win0_3.blk t).view.emb y 1).val
    blk_simp [e]

section Reference

variable (a : Vec Ideal S4096x256 .f32) (l s : Vec Ideal S4 .f32)

open Cert.BetaRIdeal.Read

theorem ref_decay (i : Cert.BetaRIdeal.S4096x4.Idx) : val_main_v10 (F := Ideal) a l s i
    = (-Ideal.exp (l (ix1 (i 1))) * Soft.wide (a (ix2 (i 0) (Gdg.low (i 1))) + s (ix1 (i 1))) : EReal) := by
  pointwise [val_main_v0, val_main_v2, val_main_v3, val_main_v4, val_main_v5, val_main_v6, val_main_call0_cst, val_main_call0_v0,
    val_main_call0_v1, val_main_call0_v2, val_main_call0_v3, val_main_call0_v4, val_main_call0_v5, val_main_call0_v6,
    val_main_call0_v7, val_main_call0_v8, val_main_call0_v9, val_main_call0_v10, val_main_call0_v11, val_main_v7, val_main_v8,
    val_main_v9, val_main_v10]
  exact congrArg (fun z : EReal => -Ideal.exp (l (ix1 (i 1))) * z) (Soft.book_wide (a (ix2 (i 0) (Gdg.low (i 1))) + s (ix1 (i 1))))

theorem ref_strength (i : Cert.BetaRIdeal.S4096x4.Idx) : val_main_v16 (F := Ideal) a i
    = Gate.sig (a (ix2 (i 0) ⟨4 + (i 1).val, by have : (i 1).val < 4 := (i 1).isLt; omega⟩)) := by
  pointwise [val_main_v1, val_main_v11, val_main_v12, val_main_cst, val_main_v13, val_main_v14, val_main_cst_0, val_main_v15, val_main_v16]
  rfl

theorem ref : val_main_v18 (F := Ideal) a l s = G a l s := by
  funext i
  pointwise [val_main_v18, val_main_cst_1, val_main_v17]
  unfold G lane lanes
  by_cases h4 : (i 1).val < 4
  · rw [dif_pos h4, if_pos h4, dif_pos h4, dif_pos h4, ref_decay]
    rfl
  · rw [dif_neg h4, if_neg h4]
    by_cases h8 : (i 1).val < 8
    · rw [dif_pos (by omega), if_pos h8, ref_strength]
      refine congrArg Gate.sig (congrArg a (Dots.ext2 rfl ?_))
      show 4 + ((i 1).val - 4) = (i 1).val
      omega
    · rw [dif_neg (by omega), if_neg h8]

end Reference

/-- The kernel and the reference agree over the extended reals. -/
theorem algebraic : Cert.algebraic_BetaKIdeal_BetaRIdeal := by
  intro m ρ m' ρ' _ hag
  refine ⟨fun c => G (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (Value.run_blocks m ρ)
  · refine (θ_run _ _ _).mono (fun r h c => ⟨(h c).1.trans ?_, (h c).2⟩) (Cert.BetaRIdeal.Value.run m' ρ')
    rw [(hag c).1, (hag c).2.1, (hag c).2.2]
    exact ref _ _ _

end Cert.Proof.Beta

end
-- ==== Proof.Prep.lean ====
/-
  RWKV-7's preparation: every row mixed with the row before it, then the decay, the strength, the gate and the key's two
  forms.  The kernel takes 256 rows with the eight before them, pads the low-rank weights with rows of zeros, and sums over
  a head by a product with the matrix of ones; at finite arguments that is the sum.
-/
module

public import proofs.«01_k».proof.Defs
public import proofs.«01_k».proof.Proof.Gen.Pre_finite_prep
public import proofs.«01_k».proof.Proof.Gen.PrepKIdeal.Value
public import proofs.«01_k».proof.Proof.Gen.PrepRIdeal.Run
public import proofs.«01_k».proof.Proof.Gen.PrepRIdeal.Read
public import Idealize.ShloMosaic.Lib.Pipeline.ValueKit.Geometry
public import Idealize.ShloMosaic.Lib.Pipeline.ValueKit.Tiles
public import proofs.«01_k».proof.Proof.Dya
public import proofs.«01_k».proof.Proof.Fact
public import proofs.«01_k».proof.Proof.Soft
public import Idealize.ShloMosaic.Lib.Pointwise

@[expose] public section

set_option maxRecDepth 16384

noncomputable section

namespace Cert.Proof.Prep

open Cert.PrepKIdeal Cert.PrepKIdeal.Gen Idealize.ShloMosaic Idealize.ShloMosaic.TcCoe Idealize.SL.Sem

variable (m : (ℓ : Loc nD τ sig) → Buf (Elt Ideal) ℓ) (ρ : Dev nD → PrngReg)

/-! ## A row -/

/-- A lane of a mixed row: the lane `j` of the part that starts at `o`. -/
def col (o : ℕ) {n : ℕ} (h : o + n ≤ 1792) (j : Fin n) : Fin 1792 := ⟨o + j.val, by have := j.isLt; omega⟩

abbrev cr (j : Fin 512) : Fin 1792 := col 0 (by decide) j
abbrev ck (j : Fin 512) : Fin 1792 := col 512 (by decide) j
abbrev cv (j : Fin 512) : Fin 1792 := col 1024 (by decide) j
abbrev cw (k : Fin 64) : Fin 1792 := col 1536 (by decide) k
abbrev ca (k : Fin 64) : Fin 1792 := col 1600 (by decide) k
abbrev cg (k : Fin 128) : Fin 1792 := col 1664 (by decide) k

section Spec

variable (q : Fin 1792 → ℝ) (b : Vec Ideal S512 .f32) (w : Vec Ideal S64x512 .f32) (g : Vec Ideal S128x512 .f32) (K : Fin 512 → ℝ)
  (s : Vec Ideal S512 .f32) (j : Fin 512)

/-- The decay's exponent. -/
def decay : EReal :=
  -Ideal.exp (-Soft.wide (-(b (ix1 j) + ∑ k : Fin 64, Ideal.tanh ((q (cw k) : ℝ) : EReal) * w (ix2 k j))) - Ideal.ofBits .f32 0x3F000000#32)

/-- The strength. -/
def strength : EReal := Gate.sig (b (ix1 j) + ∑ k : Fin 64, ((q (ca k) : ℝ) : EReal) * w (ix2 k j))

/-- The gate. -/
def gate : EReal := ∑ k : Fin 128, Gate.sig ((q (cg k) : ℝ) : EReal) * g (ix2 k j)

/-- The key, scaled, and of norm one in its head. -/
def kx : ℝ := q (ck j) * K j
def kk : ℝ := kx q K j * (Real.sqrt (Dya.seg (fun l => kx q K l * kx q K l) j + Dyb.eps))⁻¹

/-- The key that is written. -/
def key : EReal := ((q (ck j) : ℝ) : EReal) * (1 + (strength q b w j - 1) * s (ix1 j))

end Spec

/-- The row before, or zero before the first. -/
def before (P : Fin 4096 → Fin 1792 → ℝ) (p : Fin 4096) (j : Fin 1792) : ℝ :=
  if 1 ≤ p.val then P ⟨p.val - 1, by have := p.isLt; omega⟩ j else 0

/-- A row mixed with the row before. -/
def mixed (P : Fin 4096 → Fin 1792 → ℝ) (MU : Fin 1792 → ℝ) (p : Fin 4096) (j : Fin 1792) : ℝ :=
  P p j + (before P p j - P p j) * MU j

/-! ## What a block gives -/

/-- The row of the array that a block's row is. -/
def at_ (t : Fin cfg0.N) (p : Fin 256) : Fin 4096 :=
  ⟨t.val * 256 + p.val, by have h : t.val < 16 := t.isLt; have := p.isLt; omega⟩

/-- Whether a block is not the first. -/
abbrev later (i : grid0.Coords) : BitVec 1 := Scalar.cmpi .sgt (BitVec.ofNat 32 (i 0).val) 0#32

theorem later_eq (t : Fin cfg0.N) : later (grid0.coords t) = if t.val = 0 then 0#1 else 1#1 := by
  have h : ∀ t : Fin grid0.N, later (grid0.coords t) = if t.val = 0 then 0#1 else 1#1 := by decide +kernel
  exact h t

section Mix

variable (P : Fin 4096 → Fin 1792 → ℝ) (MU : Fin 1792 → ℝ) (t : Fin cfg0.N)
  (x : Vec Ideal S256x1792 .f32) (p : Vec Ideal S8x1792 .f32) (w0 w1 : Vec Ideal S1x1792 .f32)
  (hx : ∀ y, x y = ((P (at_ t (y 0)) (y 1) : ℝ) : EReal))
  (hp : ∀ y, t.val ≠ 0 → p y = ((P ⟨t.val * 256 - 8 + (y 0).val, by
    have h : t.val < 16 := t.isLt; have h' : (y 0).val < 8 := (y 0).isLt; omega⟩ (y 1) : ℝ) : EReal))
  (h0 : ∀ y, w0 y = ((MU (y 1) : ℝ) : EReal)) (h1 : ∀ y, w1 y = ((1 - MU (y 1) : ℝ) : EReal))

include hx hp in
theorem pick (y : S256x1792.Idx) (k : ℕ) (hk : k = 8 + (y 0).val - 1) (k8 : k < 8 → k < 8) (k256 : ¬ k < 8 → k - 8 < 256) :
    (if h : k < 8 then Scalar.select (later (grid0.coords t)) (p (ix2 ⟨k, k8 h⟩ (y 1))) (0 : EReal)
      else x (ix2 ⟨k - 8, k256 h⟩ (y 1)) : EReal) = ((before P (at_ t (y 0)) (y 1) : ℝ) : EReal) := by
  have ht : t.val < 16 := t.isLt
  have hy : (y 0).val < 256 := (y 0).isLt
  unfold before
  have ev : (at_ t (y 0)).val = t.val * 256 + (y 0).val := rfl
  by_cases h : k < 8
  · rw [dif_pos h, later_eq]
    by_cases hz : t.val = 0
    · rw [if_pos hz, if_neg (by omega)]
      exact EReal.coe_zero.symm
    · rw [if_neg hz, if_pos (by omega)]
      refine (hp (ix2 ⟨k, k8 h⟩ (y 1)) hz).trans (congrArg (fun r => ((P r (y 1) : ℝ) : EReal)) (Fin.ext ?_))
      show t.val * 256 - 8 + k = t.val * 256 + (y 0).val - 1
      omega
  · rw [dif_neg h, if_pos (by omega)]
    refine (hx (ix2 ⟨k - 8, k256 h⟩ (y 1))).trans (congrArg (fun r => ((P r (y 1) : ℝ) : EReal)) (Fin.ext ?_))
    show t.val * 256 + (k - 8) = t.val * 256 + (y 0).val - 1
    omega

include hx hp h0 h1 in
theorem mix_at (y : S256x1792.Idx) :
    k0_pay1 (F := Ideal) (grid0.coords t) x p w0 w1 y = ((mixed P MU (at_ t (y 0)) (y 1) : ℝ) : EReal) := by
  have hy : (y 0).val < 256 := (y 0).isLt
  pointwise [k0_pay1]
  rw [hx, h0, h1]
  refine (congrArg (fun z : EReal => z * _ + _)
    (pick P t x p hx hp y ((8 + (y 0).val + 264 - 1) % 264) (by omega) id (by omega))).trans ?_
  rw [← EReal.coe_mul, ← EReal.coe_mul, ← EReal.coe_add]
  refine congrArg (fun z : ℝ => (z : EReal)) ?_
  unfold mixed
  show before P (at_ t (y 0)) (y 1) * MU (y 1) + P (at_ t (y 0)) (y 1) * (1 - MU (y 1)) = _
  ring

end Mix

/-- The kernel's sum over a head. -/
def split (v : FVec Ideal S256x512 .f32) : FVec Ideal S256x512 .f32 :=
  addf (matmul dot_S256x512_S512x512_S256x512_1_0_0_1_n_n none (truncf .bf16 v bitsLt_bf16_f32) Dya.ones (constant S256x512 .f32 0x00000000#32))
    (matmul dot_S256x512_S512x512_S256x512_1_0_0_1_n_n none
      (truncf .bf16 (subf v (extf .f32 (truncf .bf16 v bitsLt_bf16_f32 : FVec Ideal S256x512 .bf16) bitsLt_bf16_f32)) bitsLt_bf16_f32) Dya.ones
      (constant S256x512 .f32 0x00000000#32))

theorem split_at (v : FVec Ideal S256x512 .f32) (f : Fin 256 → Fin 512 → ℝ)
    (hv : ∀ y, v y = ((f (y 0) (y 1) : ℝ) : EReal)) (y : S256x512.Idx) : split v y = ((Dya.seg (f (y 0)) (y 1) : ℝ) : EReal) := by
  unfold split
  pointwise
  have h1 : ∀ x : Fin 512, (v (ix2 (y 0) x) * Dya.ones (ix2 x (y 1)) : EReal)
      = ((f (y 0) x : ℝ) : EReal) * (if x.val / 64 = (y 1).val / 64 then (1 : EReal) else 0) := by
    intro x
    exact congrArg₂ (fun a b : EReal => a * b) (hv (ix2 (y 0) x)) (Dya.ones_at (ix2 x (y 1)))
  have h2 : ∀ x : Fin 512, ((v (ix2 (y 0) x) - v (ix2 (y 0) x)) * Dya.ones (ix2 x (y 1)) : EReal) = 0 := by
    intro x
    have e : v (ix2 (y 0) x) = ((f (y 0) x : ℝ) : EReal) := hv (ix2 (y 0) x)
    rw [e, ← EReal.coe_sub, sub_self, EReal.coe_zero, zero_mul]
  rw [Finset.sum_congr (M := EReal) rfl fun x _ => h1 x, Finset.sum_congr (M := EReal) rfl fun x _ => h2 x,
    Finset.sum_const_zero, add_zero]
  exact Dya.sum_head _ _

/-- The product with a low-rank weight. -/
def low (a : FVec Ideal S256x128 .f32) (b : FVec Ideal S128x512 .f32) : FVec Ideal S256x512 .f32 :=
  matmul dot_S256x128_S128x512_S256x512_1_0_0_1_n_n none (truncf .bf16 a bitsLt_bf16_f32 : FVec Ideal S256x128 .bf16)
    (truncf .bf16 b bitsLt_bf16_f32 : FVec Ideal S128x512 .bf16) (constant S256x512 .f32 0x00000000#32)

theorem low_at (a : FVec Ideal S256x128 .f32) (b : FVec Ideal S128x512 .f32) (y : S256x512.Idx) :
    low a b y = ∑ k : Fin 128, (a (ix2 (y 0) k) * b (ix2 k (y 1)) : EReal) := by
  refine (Dots.nn (M := 256) (K := 128) (N := 512) (φ₁ := .bf16) (φ₂ := .bf16) none _ _ _ y).trans ?_
  pointwise

/-- A weight over rows of zeros, and under them. -/
def under (w : Vec Ideal S64x512 .f32) : Vec Ideal S128x512 .f32 := fun y =>
  if h : (y 0).val < 64 then w (ix2 ⟨(y 0).val, h⟩ (y 1)) else 0
def over (w : Vec Ideal S64x512 .f32) : Vec Ideal S128x512 .f32 := fun y =>
  if h : (y 0).val < 64 then 0 else w (ix2 ⟨(y 0).val - 64, by have : (y 0).val < 128 := (y 0).isLt; omega⟩ (y 1))

theorem sum_under (f : Fin 128 → EReal) (w : Vec Ideal S64x512 .f32) (j : Fin 512) :
    ∑ k : Fin 128, f k * under w (ix2 k j) = ∑ k : Fin 64, f ⟨k.val, by have := k.isLt; omega⟩ * w (ix2 k j) := by
  refine (Fin.sum_univ_add (a := 64) (b := 64) (fun k => f k * under w (ix2 k j))).trans ?_
  have h2 : ∀ k : Fin 64, f (Fin.natAdd 64 k) * under w (ix2 (Fin.natAdd 64 k) j) = 0 := by
    intro k
    have e : under w (ix2 (Fin.natAdd 64 k) j) = 0 := dif_neg (by show ¬ 64 + k.val < 64; omega)
    rw [e, mul_zero]
  rw [Finset.sum_congr (M := EReal) rfl fun k _ => h2 k, Finset.sum_const_zero, add_zero]
  refine Finset.sum_congr (M := EReal) rfl fun k _ => congrArg (fun z : EReal => f _ * z) ?_
  exact dif_pos k.isLt

theorem sum_over (f : Fin 128 → EReal) (w : Vec Ideal S64x512 .f32) (j : Fin 512) :
    ∑ k : Fin 128, f k * over w (ix2 k j) = ∑ k : Fin 64, f ⟨64 + k.val, by have := k.isLt; omega⟩ * w (ix2 k j) := by
  refine (Fin.sum_univ_add (a := 64) (b := 64) (fun k => f k * over w (ix2 k j))).trans ?_
  have h2 : ∀ k : Fin 64, f (Fin.castAdd 64 k) * over w (ix2 (Fin.castAdd 64 k) j) = 0 := by
    intro k
    have e : over w (ix2 (Fin.castAdd 64 k) j) = 0 := dif_pos k.isLt
    rw [e, mul_zero]
  rw [Finset.sum_congr (M := EReal) rfl fun k _ => h2 k, Finset.sum_const_zero, zero_add]
  refine Finset.sum_congr (M := EReal) rfl fun k _ => congrArg (fun z : EReal => f _ * z) ?_
  refine (dif_neg (by show ¬ 64 + k.val < 64; omega)).trans ?_
  refine congrArg w (congrArg (fun r => ix2 r j) (Fin.ext ?_))
  show 64 + k.val - 64 = k.val
  omega

section Block

variable (i : grid0.Coords) (x : Vec Ideal S256x1792 .f32) (p : Vec Ideal S8x1792 .f32) (w0 w1 : Vec Ideal S1x1792 .f32)
  (Q : Fin 256 → Fin 1792 → ℝ) (hq : ∀ y, k0_pay1 (F := Ideal) i x p w0 w1 y = ((Q (y 0) (y 1) : ℝ) : EReal))
  (b r s : Vec Ideal S1x512 .f32) (c d : Vec Ideal S512 .f32) (K : Fin 512 → ℝ) (w : Vec Ideal S64x512 .f32) (g : Vec Ideal S128x512 .f32)
  (hb : ∀ y, b y = c (ix1 (y 1))) (hr : ∀ y, r y = ((K (y 1) : ℝ) : EReal)) (hs : ∀ y, s y = d (ix1 (y 1)))

/-- Columns of the mixed block. -/
theorem cols_at (o : ℕ) (N : ℕ) (ho : o + N ≤ 1792) (u : FVec Ideal S256x1792 .f32) (hu : ∀ y, u y = ((Q (y 0) (y 1) : ℝ) : EReal))
    (h : S256x1792.Slices ![0, o] ⟨2, ![256, N]⟩) (y : (⟨2, ![256, N]⟩ : Shape).Idx) :
    extractStridedSlice ⟨2, ![256, N]⟩ ![0, o] u h y = ((Q (y 0) (col o ho (y 1)) : ℝ) : EReal) :=
  (Dots.cols (M := 256) (N := N) (W := 1792) o u h y).trans (hu _)

include hq in
theorem pay8 (y : S256x512.Idx) : k0_pay8 (F := Ideal) i x p w0 w1 y = ((Q (y 0) (cr (y 1)) : ℝ) : EReal) := cols_at Q 0 512 _ _ hq slices_S256x1792_o0_0_S256x512 y

include hq in
theorem pay9 (y : S256x512.Idx) : k0_pay9 (F := Ideal) i x p w0 w1 y = ((Q (y 0) (ck (y 1)) : ℝ) : EReal) := cols_at Q 512 512 _ _ hq slices_S256x1792_o0_512_S256x512 y

include hq in
theorem pay10 (y : S256x512.Idx) : k0_pay10 (F := Ideal) i x p w0 w1 y = ((Q (y 0) (cv (y 1)) : ℝ) : EReal) := cols_at Q 1024 512 _ _ hq slices_S256x1792_o0_1024_S256x512 y

include hq in
theorem pay11 (y : S256x128.Idx) : k0_pay11 (F := Ideal) i x p w0 w1 y = ((Q (y 0) (col 1536 (by decide) (y 1)) : ℝ) : EReal) :=
  cols_at Q 1536 128 _ _ hq slices_S256x1792_o0_1536_S256x128 y

/-- The exponent before its softplus. -/
def zed (b : FVec Ideal S1x512 .f32) (v : FVec Ideal S128x512 .f32) (a : FVec Ideal S256x128 .f32) : FVec Ideal S256x512 .f32 :=
  subf (broadcast S256x512 (Scalar.ofBits .f32 0x00000000#32)) (addf (broadcastTo S256x512 b broadcasts_S1x512_S256x512) (low (tanh a) v))

theorem pay12_eq (b : FVec Ideal S1x512 .f32) (v : FVec Ideal S128x512 .f32) (a : FVec Ideal S256x128 .f32) :
    k0_pay12 (F := Ideal) b v a
      = subf (broadcast S256x512 (Scalar.ofBits .f32 0x00000000#32)) (exp (subf (subf (broadcast S256x512 (Scalar.ofBits .f32 0x00000000#32))
          (addf (maximumf (zed b v a) (broadcast S256x512 (Scalar.ofBits .f32 0x00000000#32)))
            (log (addf (broadcast S256x512 (Scalar.ofBits .f32 0x3F800000#32))
              (exp (minimumf (zed b v a) (subf (broadcast S256x512 (Scalar.ofBits .f32 0x00000000#32)) (zed b v a))))))))
          (broadcast S256x512 (Scalar.ofBits .f32 0x3F000000#32)))) := rfl

include hq hb in
theorem zed_at (y : S256x512.Idx) : zed (k0_pay2 b) (k0_pay3 (under w)) (k0_pay11 i x p w0 w1) y
    = -(c (ix1 (y 1)) + ∑ k : Fin 64, Ideal.tanh ((Q (y 0) (cw k) : ℝ) : EReal) * w (ix2 k (y 1)) : EReal) := by
  pointwise [zed, k0_pay2]
  rw [low_at, hb, zero_sub]
  refine congrArg (fun z : EReal => -(_ + z)) ?_
  refine (Finset.sum_congr (M := EReal) rfl fun k _ => ?_).trans
    (sum_under (fun k => Ideal.tanh ((Q (y 0) (col 1536 (by decide) k) : ℝ) : EReal)) w (y 1))
  refine congrArg₂ (fun a b : EReal => a * b) ?_ ?_
  · exact congrArg Ideal.tanh (pay11 i x p w0 w1 Q hq (ix2 (y 0) k))
  · pointwise [k0_pay3]

include hq hb in
theorem pay12 (y : S256x512.Idx) : k0_pay12 (F := Ideal) (k0_pay2 b) (k0_pay3 (under w)) (k0_pay11 i x p w0 w1) y
    = decay (Q (y 0)) c w (y 1) := by
  rw [pay12_eq]
  pointwise
  rw [zed_at i x p w0 w1 Q hq b c w hb y, Soft.kernel_wide, zero_sub, zero_sub]
  rfl

theorem pay13_eq (b : FVec Ideal S1x512 .f32) (v : FVec Ideal S128x512 .f32) (a : FVec Ideal S256x128 .f32) :
    k0_pay13 (F := Ideal) b v a
      = addf (mulf (broadcast S256x512 (Scalar.ofBits .f32 0x3F000000#32)) (tanh (mulf (broadcast S256x512 (Scalar.ofBits .f32 0x3F000000#32))
          (addf (broadcastTo S256x512 b broadcasts_S1x512_S256x512) (low a v))))) (broadcast S256x512 (Scalar.ofBits .f32 0x3F000000#32)) := rfl

include hq hb in
theorem pay13 (y : S256x512.Idx) : k0_pay13 (F := Ideal) (k0_pay4 b) (k0_pay5 (over w)) (k0_pay11 i x p w0 w1) y
    = strength (Q (y 0)) c w (y 1) := by
  rw [pay13_eq]
  pointwise [k0_pay4]
  rw [Gate.half_word, Gate.gate, low_at, hb]
  refine congrArg (fun z : EReal => Gate.sig (_ + z)) ?_
  refine (Finset.sum_congr (M := EReal) rfl fun k _ => ?_).trans
    ((sum_over (fun k => ((Q (y 0) (col 1536 (by decide) k) : ℝ) : EReal)) w (y 1)).trans ?_)
  · refine congrArg₂ (fun a b : EReal => a * b) (pay11 i x p w0 w1 Q hq (ix2 (y 0) k)) ?_
    pointwise [k0_pay5]
  · refine Finset.sum_congr (M := EReal) rfl fun k _ => congrArg (fun z => ((Q (y 0) z : ℝ) : EReal) * _) (Fin.ext ?_)
    show 1536 + (64 + k.val) = 1600 + k.val
    omega

theorem pay15_eq (v : FVec Ideal S128x512 .f32) (a : FVec Ideal S256x128 .f32) : k0_pay15 (F := Ideal) v a = low a v := rfl

include hq in
theorem pay14 (y : S256x128.Idx) : k0_pay14 (F := Ideal) (k0_pay1 i x p w0 w1) y = Gate.sig ((Q (y 0) (cg (y 1)) : ℝ) : EReal) := by
  have e : extractStridedSlice S256x128 ![0, 1664] (k0_pay1 (F := Ideal) i x p w0 w1) slices_S256x1792_o0_1664_S256x128 y
    = ((Q (y 0) (cg (y 1)) : ℝ) : EReal) := cols_at Q 1664 128 _ _ hq _ y
  unfold k0_pay14
  generalize extractStridedSlice S256x128 ![0, 1664] (k0_pay1 (F := Ideal) i x p w0 w1) slices_S256x1792_o0_1664_S256x128 = u at *
  pointwise
  rw [Gate.half_word, Gate.gate, e]

include hq in
theorem pay15 (y : S256x512.Idx) : k0_pay15 (F := Ideal) g (k0_pay14 (k0_pay1 i x p w0 w1)) y = gate (Q (y 0)) g (y 1) := by
  rw [pay15_eq, low_at]
  exact Finset.sum_congr (M := EReal) rfl fun k _ => congrArg (fun z : EReal => z * _) (pay14 i x p w0 w1 Q hq (ix2 (y 0) k))

include hq hr in
theorem pay16 (y : S256x512.Idx) : k0_pay16 (F := Ideal) (k0_pay6 r) (k0_pay9 i x p w0 w1) y = ((kx (Q (y 0)) K (y 1) : ℝ) : EReal) := by
  pointwise [k0_pay16, k0_pay6]
  rw [hr, pay9 i x p w0 w1 Q hq, ← EReal.coe_mul]
  rfl

include hq hr in
theorem pay17 (y : S256x512.Idx) : k0_pay17 (F := Ideal) (k0_pay6 r) (k0_pay9 i x p w0 w1) y
    = ((kx (Q (y 0)) K (y 1) * kx (Q (y 0)) K (y 1) : ℝ) : EReal) := by
  pointwise [k0_pay17]
  rw [pay16 i x p w0 w1 Q hq r K hr, ← EReal.coe_mul]

theorem pay22_eq (u v : FVec Ideal S256x512 .f32) : k0_pay22 (F := Ideal) u v k0_pay18 Dya.cols 64#32 k0_pay19 k0_pay20 k0_pay21
    = mulf u (rsqrt (addf (split v) (broadcast S256x512 (Scalar.ofBits .f32 0x358637BD#32)))) := rfl

/-- A head's sum of squares, and the small number. -/
theorem sq_pos (q : Fin 1792 → ℝ) (j : Fin 512) : 0 < Dya.seg (fun l => kx q K l * kx q K l) j + Dyb.eps := by
  have h : 0 ≤ Dya.seg (fun l => kx q K l * kx q K l) j := Finset.sum_nonneg fun l _ => mul_self_nonneg _
  have := Dyb.eps_pos
  linarith

include hq hr in
theorem pay22 (y : S256x512.Idx) : k0_pay22 (F := Ideal) (k0_pay16 (k0_pay6 r) (k0_pay9 i x p w0 w1))
    (k0_pay17 (k0_pay6 r) (k0_pay9 i x p w0 w1)) k0_pay18 Dya.cols 64#32 k0_pay19 k0_pay20 k0_pay21 y
    = ((kk (Q (y 0)) K (y 1) : ℝ) : EReal) := by
  rw [pay22_eq]
  pointwise
  rw [pay16 i x p w0 w1 Q hq r K hr, split_at _ (fun a l => kx (Q a) K l * kx (Q a) K l) (pay17 i x p w0 w1 Q hq r K hr) y,
    Dyb.eps_word, ← EReal.coe_add]
  exact (congrArg (fun z : EReal => _ * z) (Dyb.rsqrt_real _ (sq_pos K (Q (y 0)) (y 1)))).trans (EReal.coe_mul _ _).symm

include hq hb hs in
theorem pay23 (y : S256x512.Idx) : k0_pay23 (F := Ideal) (k0_pay7 s) (k0_pay9 i x p w0 w1)
    (k0_pay13 (k0_pay4 b) (k0_pay5 (over w)) (k0_pay11 i x p w0 w1)) y = key (Q (y 0)) c w d (y 1) := by
  pointwise [k0_pay23, k0_pay7]
  rw [pay13 i x p w0 w1 Q hq b c w hb, pay9 i x p w0 w1 Q hq, hs]
  rfl

include hq hr in
theorem pay24 (y : S256x512.Idx) : k0_pay24 (F := Ideal) (k0_pay16 (k0_pay6 r) (k0_pay9 i x p w0 w1))
    (k0_pay17 (k0_pay6 r) (k0_pay9 i x p w0 w1)) k0_pay18 Dya.cols 64#32 k0_pay19 k0_pay20 k0_pay21 y
    = -((kk (Q (y 0)) K (y 1) : ℝ) : EReal) := by
  pointwise [k0_pay24]
  rw [pay22 i x p w0 w1 Q hq r K hr, zero_sub]

include hq hb hr in
theorem pay25 (y : S256x512.Idx) : k0_pay25 (F := Ideal) (k0_pay13 (k0_pay4 b) (k0_pay5 (over w)) (k0_pay11 i x p w0 w1))
    (k0_pay16 (k0_pay6 r) (k0_pay9 i x p w0 w1))
    (k0_pay17 (k0_pay6 r) (k0_pay9 i x p w0 w1)) k0_pay18 Dya.cols 64#32 k0_pay19 k0_pay20 k0_pay21 y
    = ((kk (Q (y 0)) K (y 1) : ℝ) : EReal) * strength (Q (y 0)) c w (y 1) := by
  pointwise [k0_pay25]
  rw [pay22 i x p w0 w1 Q hq r K hr, pay13 i x p w0 w1 Q hq b c w hb]

end Block

/-! ## The run -/

/-- The blocks each point of the grid reads and writes. -/
theorem idx : ∀ t : Fin grid0.N, (win0_0.index t 0 = t.val ∧ win0_0.index t 1 = 0)
    ∧ ((t.val ≠ 0 → win0_1.index t 0 = t.val * 32 - 1) ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = t.val ∧ win0_10.index t 1 = 0)
    ∧ (win0_11.index t 0 = t.val ∧ win0_11.index t 1 = 0)
    ∧ (win0_12.index t 0 = t.val ∧ win0_12.index t 1 = 0)
    ∧ (win0_13.index t 0 = t.val ∧ win0_13.index t 1 = 0)
    ∧ (win0_14.index t 0 = t.val ∧ win0_14.index t 1 = 0)
    ∧ (win0_15.index t 0 = t.val ∧ win0_15.index t 1 = 0)
    ∧ (win0_16.index t 0 = t.val ∧ win0_16.index t 1 = 0) := by decide +kernel

/-- A vector over another, as rows. -/
theorem stack_at (a b : Vec Ideal S1x1792 .f32) (y : S2x1792.Idx) :
    concatenate S2x1792 0 [⟨S1x1792, a⟩, ⟨S1x1792, b⟩] concatenates_S1x1792_S1x1792_S2x1792_d0 y
      = if (y 0).val < 1 then a (ix2 0 (y 1)) else b (ix2 0 (y 1)) := by
  have h2 : (y 0).val < 2 := (y 0).isLt
  pointwise
  by_cases h : (y 0).val < 1
  · rw [dif_pos h, if_pos h]
    exact congrArg a (Dots.ext2 (by show (y 0).val = 0; omega) rfl)
  · rw [dif_neg h, if_neg h]
    exact congrArg b (Dots.ext2 (by show (y 0).val - 1 = 0; omega) rfl)

theorem under_eq (w : Vec Ideal S64x512 .f32) : concatenate S128x512 0 [⟨S64x512, w⟩, ⟨S64x512,
    broadcastInDim S64x512 ![] bcast_S_S64x512 (constant (F := Ideal) S_ .f32 0x00000000#32)⟩] concatenates_S64x512_S64x512_S128x512_d0
      = under w := by
  funext y
  pointwise
  rfl

theorem over_eq (w : Vec Ideal S64x512 .f32) : concatenate S128x512 0 [⟨S64x512,
    broadcastInDim S64x512 ![] bcast_S_S64x512 (constant (F := Ideal) S_ .f32 0x00000000#32)⟩, ⟨S64x512, w⟩] concatenates_S64x512_S64x512_S128x512_d0
      = over w := by
  funext y
  pointwise
  rfl

section Run

variable (c : Dev nD)

theorem host_mu : V m c main_v4 = concatenate S2x1792 0 [⟨S1x1792, shapeCast S1x1792 (m ((c : Thread nD τ).loc main_arg1)) shapeCasts_S1792_S1x1792⟩,
    ⟨S1x1792, subf (broadcastInDim S1x1792 ![] bcast_S_S1x1792 (constant (F := Ideal) S_ .f32 0x3F800000#32))
      (shapeCast S1x1792 (m ((c : Thread nD τ).loc main_arg1)) shapeCasts_S1792_S1x1792)⟩] concatenates_S1x1792_S1x1792_S2x1792_d0 := by
  show StableHlo.after hostOps0 (fun b => m (c, b)) main_v4 = _
  simp only [hostOps0, List.flatten_cons, List.flatten_nil, List.append_nil,
    List.cons_append, List.nil_append, StableHlo.TRef.binary, StableHlo.TRef.unary, StableHlo.TRef.toBuf,
    StableHlo.TRef.ofBuf, cast_eq]
  after_results_simp
  all_goals try rfl

theorem host_under : V m c main_v6 = under (m ((c : Thread nD τ).loc main_arg3)) := by
  show StableHlo.after hostOps0 (fun b => m (c, b)) main_v6 = _
  simp only [hostOps0, List.flatten_cons, List.flatten_nil, List.append_nil,
    List.cons_append, List.nil_append, StableHlo.TRef.binary, StableHlo.TRef.unary, StableHlo.TRef.toBuf,
    StableHlo.TRef.ofBuf, cast_eq]
  after_results_simp
  exact under_eq _

theorem host_over : V m c main_v7 = over (m ((c : Thread nD τ).loc main_arg5)) := by
  show StableHlo.after hostOps0 (fun b => m (c, b)) main_v7 = _
  simp only [hostOps0, List.flatten_cons, List.flatten_nil, List.append_nil,
    List.cons_append, List.nil_append, StableHlo.TRef.binary, StableHlo.TRef.unary, StableHlo.TRef.toBuf,
    StableHlo.TRef.ofBuf, cast_eq]
  after_results_simp
  exact over_eq _

theorem host_3 : V m c main_v8 = shapeCast S1x512 (m ((c : Thread nD τ).loc main_arg2)) shapeCasts_S512_S1x512 := by
  show StableHlo.after hostOps0 (fun b => m (c, b)) main_v8 = _
  simp only [hostOps0, List.flatten_cons, List.flatten_nil, List.append_nil,
    List.cons_append, List.nil_append, StableHlo.TRef.binary, StableHlo.TRef.unary, StableHlo.TRef.toBuf,
    StableHlo.TRef.ofBuf, cast_eq]
  after_results_simp
  all_goals try rfl

theorem host_5 : V m c main_v9 = shapeCast S1x512 (m ((c : Thread nD τ).loc main_arg4)) shapeCasts_S512_S1x512 := by
  show StableHlo.after hostOps0 (fun b => m (c, b)) main_v9 = _
  simp only [hostOps0, List.flatten_cons, List.flatten_nil, List.append_nil,
    List.cons_append, List.nil_append, StableHlo.TRef.binary, StableHlo.TRef.unary, StableHlo.TRef.toBuf,
    StableHlo.TRef.ofBuf, cast_eq]
  after_results_simp
  all_goals try rfl

theorem host_8 : V m c main_v10 = shapeCast S1x512 (m ((c : Thread nD τ).loc main_arg7)) shapeCasts_S512_S1x512 := by
  show StableHlo.after hostOps0 (fun b => m (c, b)) main_v10 = _
  simp only [hostOps0, List.flatten_cons, List.flatten_nil, List.append_nil,
    List.cons_append, List.nil_append, StableHlo.TRef.binary, StableHlo.TRef.unary, StableHlo.TRef.toBuf,
    StableHlo.TRef.ofBuf, cast_eq]
  after_results_simp
  all_goals try rfl

theorem host_9 : V m c main_v11 = shapeCast S1x512 (m ((c : Thread nD τ).loc main_arg8)) shapeCasts_S512_S1x512 := by
  show StableHlo.after hostOps0 (fun b => m (c, b)) main_v11 = _
  simp only [hostOps0, List.flatten_cons, List.flatten_nil, List.append_nil,
    List.cons_append, List.nil_append, StableHlo.TRef.binary, StableHlo.TRef.unary, StableHlo.TRef.toBuf,
    StableHlo.TRef.ofBuf, cast_eq]
  after_results_simp
  all_goals try rfl

theorem blk_3 (t : Fin cfg0.N) (y : S1x512.Idx) : iblk m c 3 t y = m ((c : Thread nD τ).loc main_arg2) (ix1 (y 1)) := by
  have e := idx t
  show V m c main_v8 _ = _
  rw [host_3]
  exact (Rows.row (N := 512) _ _ _).trans (congrArg (fun z : Fin 512 => m ((c : Thread nD τ).loc main_arg2) (ix1 z)) (Fin.ext (by blk_simp [e])))

theorem blk_5 (t : Fin cfg0.N) (y : S1x512.Idx) : iblk m c 5 t y = m ((c : Thread nD τ).loc main_arg4) (ix1 (y 1)) := by
  have e := idx t
  show V m c main_v9 _ = _
  rw [host_5]
  exact (Rows.row (N := 512) _ _ _).trans (congrArg (fun z : Fin 512 => m ((c : Thread nD τ).loc main_arg4) (ix1 z)) (Fin.ext (by blk_simp [e])))

theorem blk_8 (t : Fin cfg0.N) (y : S1x512.Idx) : iblk m c 8 t y = m ((c : Thread nD τ).loc main_arg7) (ix1 (y 1)) := by
  have e := idx t
  show V m c main_v10 _ = _
  rw [host_8]
  exact (Rows.row (N := 512) _ _ _).trans (congrArg (fun z : Fin 512 => m ((c : Thread nD τ).loc main_arg7) (ix1 z)) (Fin.ext (by blk_simp [e])))

theorem blk_9 (t : Fin cfg0.N) (y : S1x512.Idx) : iblk m c 9 t y = m ((c : Thread nD τ).loc main_arg8) (ix1 (y 1)) := by
  have e := idx t
  show V m c main_v11 _ = _
  rw [host_9]
  exact (Rows.row (N := 512) _ _ _).trans (congrArg (fun z : Fin 512 => m ((c : Thread nD τ).loc main_arg8) (ix1 z)) (Fin.ext (by blk_simp [e])))

theorem blk_4 (t : Fin cfg0.N) : iblk m c 4 t = under (m ((c : Thread nD τ).loc main_arg3)) := by
  funext y
  have e := idx t
  show V m c main_v6 _ = _
  rw [host_under]
  refine congrArg (under (m ((c : Thread nD τ).loc main_arg3))) (Dots.ext2 ?_ ?_)
  · show _ = (y 0).val
    blk_simp [e]
  · show _ = (y 1).val
    blk_simp [e]

theorem blk_6 (t : Fin cfg0.N) : iblk m c 6 t = over (m ((c : Thread nD τ).loc main_arg5)) := by
  funext y
  have e := idx t
  show V m c main_v7 _ = _
  rw [host_over]
  refine congrArg (over (m ((c : Thread nD τ).loc main_arg5))) (Dots.ext2 ?_ ?_)
  · show _ = (y 0).val
    blk_simp [e]
  · show _ = (y 1).val
    blk_simp [e]

theorem blk_7 (t : Fin cfg0.N) : iblk m c 7 t = m ((c : Thread nD τ).loc main_arg6) := by
  funext y
  have e := idx t
  show V m c main_arg6 _ = _
  refine congrArg (V m c main_arg6) (Dots.ext2 ?_ ?_)
  · show _ = (y 0).val
    blk_simp [e]
  · show _ = (y 1).val
    blk_simp [e]

variable (P : Fin 4096 → Fin 1792 → ℝ) (MU : Fin 1792 → ℝ) (K : Fin 512 → ℝ)
  (h0 : ∀ i, m ((c : Thread nD τ).loc main_arg0) i = ((P (i 0) (i 1) : ℝ) : EReal))
  (h1 : ∀ i, m ((c : Thread nD τ).loc main_arg1) i = ((MU (i 0) : ℝ) : EReal))
  (h7 : ∀ i, m ((c : Thread nD τ).loc main_arg7) i = ((K (i 0) : ℝ) : EReal))

include h0 in
theorem blk_0 (t : Fin cfg0.N) (y : S256x1792.Idx) : iblk m c 0 t y = ((P (at_ t (y 0)) (y 1) : ℝ) : EReal) := by
  have e := idx t
  refine Eq.trans (congrArg (m ((c : Thread nD τ).loc main_arg0)) (Dots.ext2 (j := ix2 (at_ t (y 0)) (y 1)) ?_ ?_)) (h0 _)
  · show _ = t.val * 256 + (y 0).val
    blk_simp [e]
  · blk_simp [e]

include h0 in
theorem blk_1 (t : Fin cfg0.N) (ht : t.val ≠ 0) (y : S8x1792.Idx) : iblk m c 1 t y = ((P ⟨t.val * 256 - 8 + (y 0).val, by
    have h : t.val < 16 := t.isLt; have h' : (y 0).val < 8 := (y 0).isLt; omega⟩ (y 1) : ℝ) : EReal) := by
  have e := idx t
  have e1 := e.2.1.1 ht
  refine Eq.trans (congrArg (m ((c : Thread nD τ).loc main_arg0)) (Dots.ext2 (j := ix2 ⟨t.val * 256 - 8 + (y 0).val, by
    have h : t.val < 16 := t.isLt; have h' : (y 0).val < 8 := (y 0).isLt; omega⟩ (y 1)) ?_ ?_)) (h0 _)
  · show _ = t.val * 256 - 8 + (y 0).val
    blk_simp [e, e1]
    omega
  · blk_simp [e]

include h1 in
theorem blk_2 (t : Fin cfg0.N) (y : S2x1792.Idx) : iblk m c 2 t y
    = if (y 0).val < 1 then ((MU (y 1) : ℝ) : EReal) else ((1 - MU (y 1) : ℝ) : EReal) := by
  have e := idx t
  have ey : iblk m c 2 t y = V m c main_v4 y := by
    show V m c main_v4 _ = _
    refine congrArg (V m c main_v4) (Dots.ext2 ?_ ?_)
    · show _ = (y 0).val
      blk_simp [e]
    · show _ = (y 1).val
      blk_simp [e]
  rw [ey, host_mu, stack_at]
  have er : ∀ z : S1x1792.Idx, shapeCast S1x1792 (m ((c : Thread nD τ).loc main_arg1)) shapeCasts_S1792_S1x1792 z = ((MU (z 1) : ℝ) : EReal) :=
    fun z => (Rows.row (N := 1792) _ _ _).trans (h1 _)
  split_ifs
  · exact er _
  · pointwise
    refine (congrArg (fun b : EReal => 1 - b) (h1 (ix1 (y 1)))).trans ?_
    rw [← EReal.coe_one, ← EReal.coe_sub]
    rfl

include h0 h1 in
theorem mix_blk (t : Fin cfg0.N) (y : S256x1792.Idx) : k0_pay1 (F := Ideal) (grid0.coords t) (iblk m c 0 t) (iblk m c 1 t)
    (View.ld (iblk m c 2 t) r0_2) (View.ld (iblk m c 2 t) r0_3) y = ((mixed P MU (at_ t (y 0)) (y 1) : ℝ) : EReal) := by
  refine mix_at P MU t _ _ _ _ (blk_0 m c P h0 t) (fun y ht => blk_1 m c P h0 t ht y) (fun y => ?_) (fun y => ?_) y
  · refine (Fact.ld 0 0 (iblk m c 2 t) inb_S2x1792_S1x1792_0_0 y (ix2 0 (y 1))
      (by have h : (y 0).val < 1 := (y 0).isLt; show 0 = 0 + (y 0).val; omega) (Nat.zero_add _).symm).trans ?_
    exact blk_2 m c MU h1 t _
  · refine (Fact.ld 1 0 (iblk m c 2 t) inb_S2x1792_S1x1792_1_0 y (ix2 1 (y 1))
      (by have h : (y 0).val < 1 := (y 0).isLt; show 1 = 1 + (y 0).val; omega) (Nat.zero_add _).symm).trans ?_
    exact blk_2 m c MU h1 t _

include h7 in
theorem blk_k (t : Fin cfg0.N) (y : S1x512.Idx) : iblk m c 8 t y = ((K (y 1) : ℝ) : EReal) := (blk_8 m c t y).trans (h7 _)

include h0 h1 in
theorem final_r : (dats m 0 c).arrAt 10 cfg0.N = fun i => ((mixed P MU (i 0) (cr (i 1)) : ℝ) : EReal) := by
  refine (dats m 0 c).arrAt_eq_of_covers 10 _ (by decide +kernel) fun t hf y => ?_
  have e := idx t
  have hq := mix_blk m c P MU h0 h1 t
  let Q (p : Fin 256) : Fin 1792 → ℝ := mixed P MU (at_ t p)
  blk_simp
  rw [after0_10]
  frame_out
  refine (pay8 _ _ _ _ _ Q hq y).trans ?_
  refine congrArg₂ (fun (p : Fin 4096) (j : Fin 512) => (((mixed P MU p (cr j) : ℝ) : EReal) : EReal)) (Fin.ext ?_) (Fin.ext ?_)
  · show t.val * 256 + (y 0).val = ((win0_10.blk t).view.emb y 0).val
    blk_simp [e]
  · show (y 1).val = ((win0_10.blk t).view.emb y 1).val
    blk_simp [e]

include h0 h1 in
theorem final_lw : (dats m 0 c).arrAt 11 cfg0.N = fun i => decay (mixed P MU (i 0)) (m ((c : Thread nD τ).loc main_arg2)) (m ((c : Thread nD τ).loc main_arg3)) (i 1) := by
  refine (dats m 0 c).arrAt_eq_of_covers 11 _ (by decide +kernel) fun t hf y => ?_
  have e := idx t
  have hq := mix_blk m c P MU h0 h1 t
  let Q (p : Fin 256) : Fin 1792 → ℝ := mixed P MU (at_ t p)
  blk_simp
  rw [after0_11]
  frame_out
  unfold k0_pay28
  simp (disch := decide) only [View.ld_unit_lit']
  rw [blk_4 m c t]
  refine (pay12 _ _ _ _ _ Q hq _ _ _ (blk_3 m c t) y).trans ?_
  refine congrArg₂ (fun (p : Fin 4096) (j : Fin 512) => (decay (mixed P MU p) (m ((c : Thread nD τ).loc main_arg2)) (m ((c : Thread nD τ).loc main_arg3)) j : EReal)) (Fin.ext ?_) (Fin.ext ?_)
  · show t.val * 256 + (y 0).val = ((win0_11.blk t).view.emb y 0).val
    blk_simp [e]
  · show (y 1).val = ((win0_11.blk t).view.emb y 1).val
    blk_simp [e]

include h0 h1 in
theorem final_k : (dats m 0 c).arrAt 12 cfg0.N = fun i => key (mixed P MU (i 0)) (m ((c : Thread nD τ).loc main_arg4)) (m ((c : Thread nD τ).loc main_arg5)) (m ((c : Thread nD τ).loc main_arg8)) (i 1) := by
  refine (dats m 0 c).arrAt_eq_of_covers 12 _ (by decide +kernel) fun t hf y => ?_
  have e := idx t
  have hq := mix_blk m c P MU h0 h1 t
  let Q (p : Fin 256) : Fin 1792 → ℝ := mixed P MU (at_ t p)
  blk_simp
  rw [after0_12]
  frame_out
  unfold k0_pay29 k0_pay27 k0_pay28
  simp (disch := decide) only [View.ld_unit_lit']
  rw [blk_6 m c t]
  refine (pay23 _ _ _ _ _ Q hq _ _ _ _ _ (blk_5 m c t) (blk_9 m c t) y).trans ?_
  refine congrArg₂ (fun (p : Fin 4096) (j : Fin 512) => (key (mixed P MU p) (m ((c : Thread nD τ).loc main_arg4)) (m ((c : Thread nD τ).loc main_arg5)) (m ((c : Thread nD τ).loc main_arg8)) j : EReal)) (Fin.ext ?_) (Fin.ext ?_)
  · show t.val * 256 + (y 0).val = ((win0_12.blk t).view.emb y 0).val
    blk_simp [e]
  · show (y 1).val = ((win0_12.blk t).view.emb y 1).val
    blk_simp [e]

include h0 h1 in
theorem final_v : (dats m 0 c).arrAt 13 cfg0.N = fun i => ((mixed P MU (i 0) (cv (i 1)) : ℝ) : EReal) := by
  refine (dats m 0 c).arrAt_eq_of_covers 13 _ (by decide +kernel) fun t hf y => ?_
  have e := idx t
  have hq := mix_blk m c P MU h0 h1 t
  let Q (p : Fin 256) : Fin 1792 → ℝ := mixed P MU (at_ t p)
  blk_simp
  rw [after0_13]
  frame_out
  refine (pay10 _ _ _ _ _ Q hq y).trans ?_
  refine congrArg₂ (fun (p : Fin 4096) (j : Fin 512) => (((mixed P MU p (cv j) : ℝ) : EReal) : EReal)) (Fin.ext ?_) (Fin.ext ?_)
  · show t.val * 256 + (y 0).val = ((win0_13.blk t).view.emb y 0).val
    blk_simp [e]
  · show (y 1).val = ((win0_13.blk t).view.emb y 1).val
    blk_simp [e]

include h0 h1 h7 in
theorem final_kk : (dats m 0 c).arrAt 14 cfg0.N = fun i => -((kk (mixed P MU (i 0)) K (i 1) : ℝ) : EReal) := by
  refine (dats m 0 c).arrAt_eq_of_covers 14 _ (by decide +kernel) fun t hf y => ?_
  have e := idx t
  have hq := mix_blk m c P MU h0 h1 t
  let Q (p : Fin 256) : Fin 1792 → ℝ := mixed P MU (at_ t p)
  blk_simp
  rw [after0_14]
  frame_out
  unfold k0_pay31 k0_pay32 k0_pay33 k0_pay34 k0_pay35 k0_pay36 k0_pay30 k0_pay26 k0_pay27
  simp (disch := decide) only [View.ld_unit_lit']
  refine (pay24 _ _ _ _ _ Q hq _ K (blk_k m c K h7 t) y).trans ?_
  refine congrArg₂ (fun (p : Fin 4096) (j : Fin 512) => (-((kk (mixed P MU p) K j : ℝ) : EReal) : EReal)) (Fin.ext ?_) (Fin.ext ?_)
  · show t.val * 256 + (y 0).val = ((win0_14.blk t).view.emb y 0).val
    blk_simp [e]
  · show (y 1).val = ((win0_14.blk t).view.emb y 1).val
    blk_simp [e]

include h0 h1 h7 in
theorem final_b : (dats m 0 c).arrAt 15 cfg0.N = fun i => ((kk (mixed P MU (i 0)) K (i 1) : ℝ) : EReal) * strength (mixed P MU (i 0)) (m ((c : Thread nD τ).loc main_arg4)) (m ((c : Thread nD τ).loc main_arg5)) (i 1) := by
  refine (dats m 0 c).arrAt_eq_of_covers 15 _ (by decide +kernel) fun t hf y => ?_
  have e := idx t
  have hq := mix_blk m c P MU h0 h1 t
  let Q (p : Fin 256) : Fin 1792 → ℝ := mixed P MU (at_ t p)
  blk_simp
  rw [after0_15]
  frame_out
  unfold k0_pay29 k0_pay31 k0_pay32 k0_pay33 k0_pay34 k0_pay35 k0_pay36 k0_pay30 k0_pay26 k0_pay27 k0_pay28
  simp (disch := decide) only [View.ld_unit_lit']
  rw [blk_6 m c t]
  refine (pay25 _ _ _ _ _ Q hq _ _ _ K _ (blk_5 m c t) (blk_k m c K h7 t) y).trans ?_
  refine congrArg₂ (fun (p : Fin 4096) (j : Fin 512) => (((kk (mixed P MU p) K j : ℝ) : EReal) * strength (mixed P MU p) (m ((c : Thread nD τ).loc main_arg4)) (m ((c : Thread nD τ).loc main_arg5)) j : EReal)) (Fin.ext ?_) (Fin.ext ?_)
  · show t.val * 256 + (y 0).val = ((win0_15.blk t).view.emb y 0).val
    blk_simp [e]
  · show (y 1).val = ((win0_15.blk t).view.emb y 1).val
    blk_simp [e]

include h0 h1 in
theorem final_g : (dats m 0 c).arrAt 16 cfg0.N = fun i => gate (mixed P MU (i 0)) (m ((c : Thread nD τ).loc main_arg6)) (i 1) := by
  refine (dats m 0 c).arrAt_eq_of_covers 16 _ (by decide +kernel) fun t hf y => ?_
  have e := idx t
  have hq := mix_blk m c P MU h0 h1 t
  let Q (p : Fin 256) : Fin 1792 → ℝ := mixed P MU (at_ t p)
  blk_simp
  rw [after0_16]
  frame_out
  rw [blk_7 m c t]
  refine (pay15 _ _ _ _ _ Q hq _ y).trans ?_
  refine congrArg₂ (fun (p : Fin 4096) (j : Fin 512) => (gate (mixed P MU p) (m ((c : Thread nD τ).loc main_arg6)) j : EReal)) (Fin.ext ?_) (Fin.ext ?_)
  · show t.val * 256 + (y 0).val = ((win0_16.blk t).view.emb y 0).val
    blk_simp [e]
  · show (y 1).val = ((win0_16.blk t).view.emb y 1).val
    blk_simp [e]

end Run

/-! ## The textbook -/

section Reference

open Cert.PrepRIdeal.Read

variable (x0 : Vec Ideal S4096x1792 .f32) (x1 : Vec Ideal S1792 .f32) (x2 x4 x7 x8 : Vec Ideal S512 .f32) (x3 x5 : Vec Ideal S64x512 .f32)
  (x6 : Vec Ideal S128x512 .f32) (P : Fin 4096 → Fin 1792 → ℝ) (MU : Fin 1792 → ℝ) (K : Fin 512 → ℝ)
  (h0 : ∀ i, x0 i = ((P (i 0) (i 1) : ℝ) : EReal)) (h1 : ∀ i, x1 i = ((MU (i 0) : ℝ) : EReal))
  (h7 : ∀ i, x7 i = ((K (i 0) : ℝ) : EReal))

include h0 in
theorem pad_before (r : Fin 4096) (j : Fin 1792) (k : ℕ) (hk : k = r.val) (h : 1 ≤ k ∧ k - 1 < 4096 → k - 1 < 4096) :
    (if h' : 1 ≤ k ∧ k - 1 < 4096 then x0 (ix2 ⟨k - 1, h h'⟩ j) else FloatOps.sitofp (F := Ideal) FTy.f32 0#32 : EReal)
      = ((before P r j : ℝ) : EReal) := by
  have hr := r.isLt
  unfold before
  by_cases hn : 1 ≤ r.val
  · rw [dif_pos (by omega), if_pos hn]
    refine (h0 _).trans (congrArg (fun q => ((P q j : ℝ) : EReal)) (Fin.ext ?_))
    show k - 1 = r.val - 1
    omega
  · rw [dif_neg (by omega), if_neg hn]
    exact Fact.zero_word.trans EReal.coe_zero.symm

include h0 h1 in
theorem ref_mix (i : Cert.PrepRIdeal.S4096x1792.Idx) : val_main_v6 (F := Ideal) x0 x1 i = ((mixed P MU (i 0) (i 1) : ℝ) : EReal) := by
  pointwise [val_main_c, val_main_call0_v0, val_main_v0, val_main_v1, val_main_v2, val_main_v3, val_main_v4, val_main_v5, val_main_v6]
  rw [pad_before x0 P h0 (i 0) (i 1) (i 0).val rfl, h1, h0 i, ← EReal.coe_sub, ← EReal.coe_mul, ← EReal.coe_add]
  rfl

include h0 h1 in
theorem ref_cols (o N : ℕ) (ho : o + N ≤ 1792) (h : S4096x1792.Slices ![0, o] ⟨2, ![4096, N]⟩) (y : (⟨2, ![4096, N]⟩ : Shape).Idx) :
    extractStridedSlice ⟨2, ![4096, N]⟩ ![0, o] (val_main_v6 (F := Ideal) x0 x1) h y = ((mixed P MU (y 0) (col o ho (y 1)) : ℝ) : EReal) :=
  (Dots.cols (M := 4096) (N := N) (W := 1792) o _ h y).trans (ref_mix x0 x1 P MU h0 h1 _)

include h0 h1 in
theorem ref_r : val_main_v7 (F := Ideal) x0 x1 = fun i => ((mixed P MU (i 0) (cr (i 1)) : ℝ) : EReal) :=
  funext fun i => ref_cols x0 x1 P MU h0 h1 0 512 _ Cert.PrepRIdeal.Facts₀.slices_S4096x1792_S4096x512_0_0 i

include h0 h1 in
theorem ref_k (i : S4096x512.Idx) : val_main_v8 (F := Ideal) x0 x1 i = ((mixed P MU (i 0) (ck (i 1)) : ℝ) : EReal) :=
  ref_cols x0 x1 P MU h0 h1 512 512 _ Cert.PrepRIdeal.Facts₀.slices_S4096x1792_S4096x512_0_512 i

include h0 h1 in
theorem ref_v : val_main_v9 (F := Ideal) x0 x1 = fun i => ((mixed P MU (i 0) (cv (i 1)) : ℝ) : EReal) :=
  funext fun i => ref_cols x0 x1 P MU h0 h1 1024 512 _ Cert.PrepRIdeal.Facts₀.slices_S4096x1792_S4096x512_0_1024 i

include h0 h1 in
theorem ref_zed (i : S4096x512.Idx) : val_main_v17 (F := Ideal) x0 x1 x2 x3 i
    = x2 (ix1 (i 1)) + ∑ k : Fin 64, Ideal.tanh ((mixed P MU (i 0) (cw k) : ℝ) : EReal) * x3 (ix2 k (i 1)) := by
  pointwise [val_main_v17, val_main_v16, val_main_v15]
  rw [val_main_v14_apply]
  refine congrArg (fun z : EReal => _ + z) ?_
  refine Finset.sum_congr (M := EReal) rfl fun k _ => congrArg₂ (fun a b : EReal => a * b) ?_ ?_
  · exact congrArg Ideal.tanh (ref_cols x0 x1 P MU h0 h1 1536 64 (by decide) Cert.PrepRIdeal.Facts₀.slices_S4096x1792_S4096x64_0_1536 (lidx_main_v14 i k))
  · exact congrArg x3 (Dots.ext2 rfl rfl)

include h0 h1 in
theorem ref_decay : val_main_v62 (F := Ideal) x0 x1 x2 x3 = fun i => decay (mixed P MU (i 0)) x2 x3 (i 1) := by
  funext i
  pointwise [val_main_v62, val_main_v61, val_main_v22, val_main_v21, val_main_cst, val_main_v20, val_main_v19, val_main_call1_v11,
    val_main_call1_v10, val_main_call1_v9, val_main_call1_v8, val_main_call1_v7, val_main_call1_v6, val_main_call1_v5,
    val_main_call1_v4, val_main_call1_v3, val_main_call1_v2, val_main_call1_v1, val_main_call1_v0, val_main_call1_cst, val_main_v18]
  rw [ref_zed x0 x1 x2 x3 P MU h0 h1 i]
  exact congrArg (fun z : EReal => -Ideal.exp (-z - Ideal.ofBits .f32 0x3F000000#32)) (Soft.book_wide _)

include h0 h1 in
theorem ref_strength (i : S4096x512.Idx) : val_main_v32 (F := Ideal) x0 x1 x4 x5 i = strength (mixed P MU (i 0)) x4 x5 (i 1) := by
  pointwise [val_main_v32, val_main_v31, val_main_cst_1, val_main_v30, val_main_v29, val_main_cst_0, val_main_v28, val_main_v27,
    val_main_v26, val_main_v25, val_main_v24]
  rw [val_main_v23_apply]
  refine congrArg (fun z : EReal => Gate.sig (x4 (ix1 (i 1)) + z)) ?_
  refine Finset.sum_congr (M := EReal) rfl fun k _ => congrArg₂ (fun a b : EReal => a * b) ?_ ?_
  · exact ref_cols x0 x1 P MU h0 h1 1600 64 (by decide) Cert.PrepRIdeal.Facts₀.slices_S4096x1792_S4096x64_0_1600 (lidx_main_v23 i k)
  · exact congrArg x5 (Dots.ext2 rfl rfl)

include h0 h1 in
theorem ref_sig (i : Cert.PrepRIdeal.S4096x128.Idx) : val_main_v38 (F := Ideal) x0 x1 i = Gate.sig ((mixed P MU (i 0) (cg (i 1)) : ℝ) : EReal) := by
  pointwise [val_main_v38, val_main_v37, val_main_cst_3, val_main_v36, val_main_v35, val_main_cst_2, val_main_v34, val_main_v33]
  exact congrArg Gate.sig (ref_cols x0 x1 P MU h0 h1 1664 128 (by decide) Cert.PrepRIdeal.Facts₀.slices_S4096x1792_S4096x128_0_1664 i)

include h0 h1 in
theorem ref_gate : val_main_v39 (F := Ideal) x0 x1 x6 = fun i => gate (mixed P MU (i 0)) x6 (i 1) := by
  funext i
  rw [val_main_v39_apply]
  refine Finset.sum_congr (M := EReal) rfl fun k _ => congrArg₂ (fun a b : EReal => a * b) ?_ ?_
  · exact ref_sig x0 x1 P MU h0 h1 (lidx_main_v39 i k)
  · exact congrArg x6 (Dots.ext2 rfl rfl)

include h0 h1 in
theorem ref_key : val_main_v60 (F := Ideal) x0 x1 x4 x5 x8 = fun i => key (mixed P MU (i 0)) x4 x5 x8 (i 1) := by
  funext i
  pointwise [val_main_v60, val_main_v59, val_main_v58, val_main_cst_7, val_main_v57, val_main_v56, val_main_v55, val_main_v54,
    val_main_v53, val_main_cst_6]
  rw [ref_k x0 x1 P MU h0 h1 i, ref_strength x0 x1 x4 x5 P MU h0 h1 i]
  rfl

include h0 h1 h7 in
theorem ref_kx (i : S4096x512.Idx) : val_main_v42 (F := Ideal) x0 x1 x7 i = ((kx (mixed P MU (i 0)) K (i 1) : ℝ) : EReal) := by
  pointwise [val_main_v42, val_main_v41, val_main_v40]
  rw [ref_k x0 x1 P MU h0 h1 i, h7, ← EReal.coe_mul]
  rfl

include h0 h1 h7 in
theorem ref_heads (i : Cert.PrepRIdeal.S4096x8x64.Idx) : val_main_v43 (F := Ideal) x0 x1 x7 i
    = ((kx (mixed P MU (i 0)) K (Dya.at3 (i 1) (i 2)) : ℝ) : EReal) := by
  rw [val_main_v43_apply]
  refine (ref_kx x0 x1 x7 P MU K h0 h1 h7 _).trans ?_
  refine congrArg₂ (fun (p : Fin 4096) (j : Fin 512) => ((kx (mixed P MU p) K j : ℝ) : EReal)) (Fin.ext ?_) (Fin.ext ?_)
  · have a1 : (i 1).val < 8 := (i 1).isLt
    have a2 : (i 2).val < 64 := (i 2).isLt
    show (((i 0).val * 8 + (i 1).val) * 64 + (i 2).val) / 512 = (i 0).val
    omega
  · have a1 : (i 1).val < 8 := (i 1).isLt
    have a2 : (i 2).val < 64 := (i 2).isLt
    show (((i 0).val * 8 + (i 1).val) * 64 + (i 2).val) % 512 = (i 1).val * 64 + (i 2).val
    omega

include h0 h1 h7 in
theorem ref_sq (i : Cert.PrepRIdeal.S4096x8x1.Idx) (l : Fin 64) : val_main_v48 (F := Ideal) x0 x1 x7 i
    = ((Dya.seg (fun l => kx (mixed P MU (i 0)) K l * kx (mixed P MU (i 0)) K l) (Dya.at3 (i 1) l) + Dyb.eps : ℝ) : EReal) := by
  pointwise [val_main_v48, val_main_v47, val_main_cst_5, val_main_v46, val_main_v45, val_main_cst_4]
  have h : ∀ k : Fin 64, val_main_v44 (F := Ideal) x0 x1 x7 (ix3 (i 0) (i 1) k)
      = ((kx (mixed P MU (i 0)) K (Dya.at3 (i 1) k) * kx (mixed P MU (i 0)) K (Dya.at3 (i 1) k) : ℝ) : EReal) := fun k => by
    pointwise [val_main_v44]
    rw [ref_heads x0 x1 x7 P MU K h0 h1 h7, ← EReal.coe_mul]
    rfl
  refine (congrArg (fun z : EReal => z + _) ((Finset.sum_congr (M := EReal) rfl fun k _ => h k).trans (Gdg.sum_real _))).trans ?_
  rw [Dyb.eps_word, ← EReal.coe_add]
  exact congrArg (fun z : ℝ => ((z + Dyb.eps : ℝ) : EReal))
    (Dya.seg_at3 (fun l => kx (mixed P MU (i 0)) K l * kx (mixed P MU (i 0)) K l) (i 1) l).symm

include h0 h1 h7 in
theorem ref_norm (i : Cert.PrepRIdeal.S4096x8x64.Idx) : val_main_v51 (F := Ideal) x0 x1 x7 i
    = ((kk (mixed P MU (i 0)) K (Dya.at3 (i 1) (i 2)) : ℝ) : EReal) := by
  pointwise [val_main_v51, val_main_v50, val_main_v49]
  refine (congrArg₂ (fun a b : EReal => a * b) (ref_heads x0 x1 x7 P MU K h0 h1 h7 i)
    ((congrArg Ideal.rsqrt (ref_sq x0 x1 x7 P MU K h0 h1 h7 (ix3 (i 0) (i 1) 0) (i 2))).trans
      (Dyb.rsqrt_real _ (sq_pos K (mixed P MU (i 0)) (Dya.at3 (i 1) (i 2)))))).trans ?_
  exact (EReal.coe_mul _ _).symm

include h0 h1 h7 in
theorem ref_52 (i : S4096x512.Idx) : val_main_v52 (F := Ideal) x0 x1 x7 i = ((kk (mixed P MU (i 0)) K (i 1) : ℝ) : EReal) := by
  rw [val_main_v52_apply]
  refine (ref_norm x0 x1 x7 P MU K h0 h1 h7 _).trans ?_
  have a1 : (i 1).val < 512 := (i 1).isLt
  refine congrArg₂ (fun (p : Fin 4096) (j : Fin 512) => ((kk (mixed P MU p) K j : ℝ) : EReal)) (Fin.ext ?_) (Fin.ext ?_)
  · show ((i 0).val * 512 + (i 1).val) / 512 = (i 0).val
    omega
  · show ((i 0).val * 512 + (i 1).val) / 64 % 8 * 64 + ((i 0).val * 512 + (i 1).val) % 64 = (i 1).val
    omega

include h0 h1 h7 in
theorem ref_kk : val_main_v63 (F := Ideal) x0 x1 x7 = fun i => -((kk (mixed P MU (i 0)) K (i 1) : ℝ) : EReal) := by
  funext i
  pointwise [val_main_v63]
  rw [ref_52 x0 x1 x7 P MU K h0 h1 h7 i]

include h0 h1 h7 in
theorem ref_b : val_main_v64 (F := Ideal) x0 x1 x4 x5 x7
    = fun i => ((kk (mixed P MU (i 0)) K (i 1) : ℝ) : EReal) * strength (mixed P MU (i 0)) x4 x5 (i 1) := by
  funext i
  pointwise [val_main_v64]
  rw [ref_52 x0 x1 x7 P MU K h0 h1 h7 i, ref_strength x0 x1 x4 x5 P MU h0 h1 i]

end Reference

/-- The kernel and the reference agree over the extended reals, where what is mixed and what is summed over a head is finite. -/
theorem algebraic : Cert.algebraic_PrepKIdeal_PrepRIdeal_pre_finite_prep := by
  intro m ρ m' ρ' hpre hag
  let P (c : Dev nD) (p : Fin 4096) (j : Fin 1792) : ℝ := (m ((c : Thread nD τ).loc main_arg0) (ix2 p j) : EReal).toReal
  let MU (c : Dev nD) (j : Fin 1792) : ℝ := (m ((c : Thread nD τ).loc main_arg1) (ix1 j) : EReal).toReal
  let K (c : Dev nD) (j : Fin 512) : ℝ := (m ((c : Thread nD τ).loc main_arg7) (ix1 j) : EReal).toReal
  have f0 : ∀ (c : Dev nD) i, m ((c : Thread nD τ).loc main_arg0) i = ((P c (i 0) (i 1) : ℝ) : EReal) := fun c i =>
    (congrArg (m ((c : Thread nD τ).loc main_arg0)) (Gdg.eta2 i).symm).trans (Gdg.bit_finite _ (congrFun (hpre c).1 (ix2 (i 0) (i 1)))).symm
  have f1 : ∀ (c : Dev nD) i, m ((c : Thread nD τ).loc main_arg1) i = ((MU c (i 0) : ℝ) : EReal) := fun c i =>
    (congrArg (m ((c : Thread nD τ).loc main_arg1)) (Gdg.eta1 i).symm).trans (Gdg.bit_finite _ (congrFun (hpre c).2.1 (ix1 (i 0)))).symm
  have f7 : ∀ (c : Dev nD) i, m ((c : Thread nD τ).loc main_arg7) i = ((K c (i 0) : ℝ) : EReal) := fun c i =>
    (congrArg (m ((c : Thread nD τ).loc main_arg7)) (Gdg.eta1 i).symm).trans (Gdg.bit_finite _ (congrFun (hpre c).2.2 (ix1 (i 0)))).symm
  refine ⟨fun c i => ((mixed (P c) (MU c) (i 0) (cr (i 1)) : ℝ) : EReal),
    fun c i => decay (mixed (P c) (MU c) (i 0)) (m ((c : Thread nD τ).loc main_arg2)) (m ((c : Thread nD τ).loc main_arg3)) (i 1),
    fun c i => key (mixed (P c) (MU c) (i 0)) (m ((c : Thread nD τ).loc main_arg4)) (m ((c : Thread nD τ).loc main_arg5))
      (m ((c : Thread nD τ).loc main_arg8)) (i 1),
    fun c i => ((mixed (P c) (MU c) (i 0) (cv (i 1)) : ℝ) : EReal),
    fun c i => -((kk (mixed (P c) (MU c) (i 0)) (K c) (i 1) : ℝ) : EReal),
    fun c i => ((kk (mixed (P c) (MU c) (i 0)) (K c) (i 1) : ℝ) : EReal)
      * strength (mixed (P c) (MU c) (i 0)) (m ((c : Thread nD τ).loc main_arg4)) (m ((c : Thread nD τ).loc main_arg5)) (i 1),
    fun c i => gate (mixed (P c) (MU c) (i 0)) (m ((c : Thread nD τ).loc main_arg6)) (i 1), ?_, ?_⟩
  · exact (θ_run _ _ _).mono (fun r h c => ⟨(h c).1.trans (final_r m c _ _ (f0 c) (f1 c)),
      (h c).2.1.trans (final_lw m c _ _ (f0 c) (f1 c)), (h c).2.2.1.trans (final_k m c _ _ (f0 c) (f1 c)),
      (h c).2.2.2.1.trans (final_v m c _ _ (f0 c) (f1 c)), (h c).2.2.2.2.1.trans (final_kk m c _ _ _ (f0 c) (f1 c) (f7 c)),
      (h c).2.2.2.2.2.1.trans (final_b m c _ _ _ (f0 c) (f1 c) (f7 c)), (h c).2.2.2.2.2.2.1.trans (final_g m c _ _ (f0 c) (f1 c)),
      (h c).2.2.2.2.2.2.2⟩) (Value.run_blocks m ρ)
  · refine (θ_run _ _ _).mono (fun r h c => ?_) (Cert.PrepRIdeal.Value.run m' ρ')
    obtain ⟨e0, e1, e2, e3, e4, e5, e6, e7, e8⟩ := hag c
    refine ⟨(h c).1.trans ?_, (h c).2.1.trans ?_, (h c).2.2.1.trans ?_, (h c).2.2.2.1.trans ?_, (h c).2.2.2.2.1.trans ?_,
      (h c).2.2.2.2.2.1.trans ?_, (h c).2.2.2.2.2.2.1.trans ?_, (h c).2.2.2.2.2.2.2⟩
    · refine (Cert.PrepRIdeal.Read.val_main_v7_eq _ _).trans ?_
      rw [e0, e1]
      exact ref_r _ _ _ _ (f0 c) (f1 c)
    · rw [Cert.PrepRIdeal.Read.val_main_v62_eq, e0, e1, e2, e3]
      exact ref_decay _ _ _ _ _ _ (f0 c) (f1 c)
    · refine (Cert.PrepRIdeal.Read.val_main_v60_eq _ _ _ _ _).trans ?_
      rw [e0, e1, e4, e5, e8]
      exact ref_key _ _ _ _ _ _ _ (f0 c) (f1 c)
    · refine (Cert.PrepRIdeal.Read.val_main_v9_eq _ _).trans ?_
      rw [e0, e1]
      exact ref_v _ _ _ _ (f0 c) (f1 c)
    · refine (Cert.PrepRIdeal.Read.val_main_v63_eq _ _ _).trans ?_
      rw [e0, e1, e7]
      exact ref_kk _ _ _ _ _ _ (f0 c) (f1 c) (f7 c)
    · refine (Cert.PrepRIdeal.Read.val_main_v64_eq _ _ _ _ _).trans ?_
      rw [e0, e1, e4, e5, e7]
      exact ref_b _ _ _ _ _ _ _ _ (f0 c) (f1 c) (f7 c)
    · refine (Cert.PrepRIdeal.Read.val_main_v39_eq _ _ _).trans ?_
      rw [e0, e1, e6]
      exact ref_gate _ _ _ _ _ (f0 c) (f1 c)

end Cert.Proof.Prep

end
-- ==== Proof.lean ====
/-
  The certificate: every call's frame for the printed program, for its reading over the extended reals and for its
  reference, that reading's sanction, and the equality of the two over the extended reals.
-/
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.DactK
public import proofs.«01_k».proof.Proof.Gen.DactK.Frame
public import proofs.«01_k».proof.Proof.Gen.DactKIdeal.Frame
public import proofs.«01_k».proof.Proof.Gen.GupK
public import proofs.«01_k».proof.Proof.Gen.GupK.Frame
public import proofs.«01_k».proof.Proof.Gen.GupKIdeal.Frame
public import proofs.«01_k».proof.Proof.Gen.DuTwoK
public import proofs.«01_k».proof.Proof.Gen.DuTwoK.Frame
public import proofs.«01_k».proof.Proof.Gen.DuTwoKIdeal.Frame
public import proofs.«01_k».proof.Proof.Gen.GdownK
public import proofs.«01_k».proof.Proof.Gen.GdownK.Frame
public import proofs.«01_k».proof.Proof.Gen.GdownKIdeal.Frame
public import proofs.«01_k».proof.Proof.Gen.GoutK
public import proofs.«01_k».proof.Proof.Gen.GoutK.Frame
public import proofs.«01_k».proof.Proof.Gen.GoutKIdeal.Frame
public import proofs.«01_k».proof.Proof.Gen.GraK
public import proofs.«01_k».proof.Proof.Gen.GraK.Frame
public import proofs.«01_k».proof.Proof.Gen.GraKIdeal.Frame
public import proofs.«01_k».proof.Proof.Gen.UpK
public import proofs.«01_k».proof.Proof.Gen.UpK.Frame
public import proofs.«01_k».proof.Proof.Gen.UpKIdeal.Frame
public import proofs.«01_k».proof.Proof.Gen.InRwkvK
public import proofs.«01_k».proof.Proof.Gen.InRwkvK.Frame
public import proofs.«01_k».proof.Proof.Gen.InRwkvKIdeal.Frame
public import proofs.«01_k».proof.Proof.Gen.InQkvK
public import proofs.«01_k».proof.Proof.Gen.InQkvK.Frame
public import proofs.«01_k».proof.Proof.Gen.InQkvKIdeal.Frame
public import proofs.«01_k».proof.Proof.Gen.InZzK
public import proofs.«01_k».proof.Proof.Gen.InZzK.Frame
public import proofs.«01_k».proof.Proof.Gen.InZzKIdeal.Frame
public import proofs.«01_k».proof.Proof.Gen.InGatesK
public import proofs.«01_k».proof.Proof.Gen.InGatesK.Frame
public import proofs.«01_k».proof.Proof.Gen.InGatesKIdeal.Frame
public import proofs.«01_k».proof.Proof.Gen.InAbK
public import proofs.«01_k».proof.Proof.Gen.InAbK.Frame
public import proofs.«01_k».proof.Proof.Gen.InAbKIdeal.Frame
public import proofs.«01_k».proof.Proof.Gen.DuK
public import proofs.«01_k».proof.Proof.Gen.DuK.Frame
public import proofs.«01_k».proof.Proof.Gen.DuKIdeal.Frame
public import proofs.«01_k».proof.Proof.Gen.GwaK
public import proofs.«01_k».proof.Proof.Gen.GwaK.Frame
public import proofs.«01_k».proof.Proof.Gen.GwaKIdeal.Frame
public import proofs.«01_k».proof.Proof.Gen.GwbK
public import proofs.«01_k».proof.Proof.Gen.GwbK.Frame
public import proofs.«01_k».proof.Proof.Gen.GwbKIdeal.Frame
public import proofs.«01_k».proof.Proof.Gen.Norm1K
public import proofs.«01_k».proof.Proof.Gen.Norm1K.Frame
public import proofs.«01_k».proof.Proof.Gen.Norm1KIdeal.Frame
public import proofs.«01_k».proof.Proof.Gen.AdWinK
public import proofs.«01_k».proof.Proof.Gen.AdWinK.Frame
public import proofs.«01_k».proof.Proof.Gen.AdWinKIdeal.Frame
public import proofs.«01_k».proof.Proof.Gen.AdProjK
public import proofs.«01_k».proof.Proof.Gen.AdProjK.Frame
public import proofs.«01_k».proof.Proof.Gen.AdProjKIdeal.Frame
public import proofs.«01_k».proof.Proof.Gen.AdOutK
public import proofs.«01_k».proof.Proof.Gen.AdOutK.Frame
public import proofs.«01_k».proof.Proof.Gen.AdOutKIdeal.Frame
public import proofs.«01_k».proof.Proof.Gen.AdUpK
public import proofs.«01_k».proof.Proof.Gen.AdUpK.Frame
public import proofs.«01_k».proof.Proof.Gen.AdUpKIdeal.Frame
public import proofs.«01_k».proof.Proof.Gen.AdDownK
public import proofs.«01_k».proof.Proof.Gen.AdDownK.Frame
public import proofs.«01_k».proof.Proof.Gen.AdDownKIdeal.Frame
public import proofs.«01_k».proof.Proof.Gen.AdSmallK
public import proofs.«01_k».proof.Proof.Gen.AdSmallK.Frame
public import proofs.«01_k».proof.Proof.Gen.AdSmallKIdeal.Frame
public import proofs.«01_k».proof.Proof.Gen.FdownK
public import proofs.«01_k».proof.Proof.Gen.FdownK.Frame
public import proofs.«01_k».proof.Proof.Gen.FdownKIdeal.Frame
public import proofs.«01_k».proof.Proof.Gen.WoutK
public import proofs.«01_k».proof.Proof.Gen.WoutK.Frame
public import proofs.«01_k».proof.Proof.Gen.WoutKIdeal.Frame
public import proofs.«01_k».proof.Proof.Gen.GdgK
public import proofs.«01_k».proof.Proof.Gen.GdgK.Frame
public import proofs.«01_k».proof.Proof.Gen.GdgKIdeal.Frame
public import proofs.«01_k».proof.Proof.Gen.GprepK
public import proofs.«01_k».proof.Proof.Gen.GprepK.Frame
public import proofs.«01_k».proof.Proof.Gen.GprepKIdeal.Frame
public import proofs.«01_k».proof.Proof.Gen.FactK
public import proofs.«01_k».proof.Proof.Gen.FactK.Frame
public import proofs.«01_k».proof.Proof.Gen.FactKIdeal.Frame
public import proofs.«01_k».proof.Proof.Gen.GdnK
public import proofs.«01_k».proof.Proof.Gen.GdnK.Frame
public import proofs.«01_k».proof.Proof.Gen.GdnKIdeal.Frame
public import proofs.«01_k».proof.Proof.Gen.DybK
public import proofs.«01_k».proof.Proof.Gen.DybK.Frame
public import proofs.«01_k».proof.Proof.Gen.DybKIdeal.Frame
public import proofs.«01_k».proof.Proof.Gen.DyaK
public import proofs.«01_k».proof.Proof.Gen.DyaK.Frame
public import proofs.«01_k».proof.Proof.Gen.DyaKIdeal.Frame
public import proofs.«01_k».proof.Proof.Gen.RprojK
public import proofs.«01_k».proof.Proof.Gen.RprojK.Frame
public import proofs.«01_k».proof.Proof.Gen.RprojKIdeal.Frame
public import proofs.«01_k».proof.Proof.Gen.DprojK
public import proofs.«01_k».proof.Proof.Gen.DprojK.Frame
public import proofs.«01_k».proof.Proof.Gen.DprojKIdeal.Frame
public import proofs.«01_k».proof.Proof.Gen.RmsK
public import proofs.«01_k».proof.Proof.Gen.RmsK.Frame
public import proofs.«01_k».proof.Proof.Gen.RmsKIdeal.Frame
public import proofs.«01_k».proof.Proof.Gen.BetaK
public import proofs.«01_k».proof.Proof.Gen.BetaK.Frame
public import proofs.«01_k».proof.Proof.Gen.BetaKIdeal.Frame
public import proofs.«01_k».proof.Proof.Gen.PrepK
public import proofs.«01_k».proof.Proof.Gen.PrepK.Frame
public import proofs.«01_k».proof.Proof.Gen.PrepKIdeal.Frame
public import proofs.«01_k».proof.Proof.Mixed
public import proofs.«01_k».proof.Proof.Dact
public import proofs.«01_k».proof.Proof.Gup
public import proofs.«01_k».proof.Proof.DuTwo
public import proofs.«01_k».proof.Proof.Gdown
public import proofs.«01_k».proof.Proof.Gout
public import proofs.«01_k».proof.Proof.Gra
public import proofs.«01_k».proof.Proof.Up
public import proofs.«01_k».proof.Proof.InRwkv
public import proofs.«01_k».proof.Proof.InQkv
public import proofs.«01_k».proof.Proof.InZz
public import proofs.«01_k».proof.Proof.InGates
public import proofs.«01_k».proof.Proof.InAb
public import proofs.«01_k».proof.Proof.Du
public import proofs.«01_k».proof.Proof.Gwa
public import proofs.«01_k».proof.Proof.Gwb
public import proofs.«01_k».proof.Proof.Norm1
public import proofs.«01_k».proof.Proof.AdWin
public import proofs.«01_k».proof.Proof.AdProj
public import proofs.«01_k».proof.Proof.AdOut
public import proofs.«01_k».proof.Proof.AdUp
public import proofs.«01_k».proof.Proof.AdDown
public import proofs.«01_k».proof.Proof.AdSmall
public import proofs.«01_k».proof.Proof.Fdown
public import proofs.«01_k».proof.Proof.Wout
public import proofs.«01_k».proof.Proof.Gdg
public import proofs.«01_k».proof.Proof.Gprep
public import proofs.«01_k».proof.Proof.Fact
public import proofs.«01_k».proof.Proof.Dyb
public import proofs.«01_k».proof.Proof.Dya
public import proofs.«01_k».proof.Proof.Rproj
public import proofs.«01_k».proof.Proof.Dproj
public import proofs.«01_k».proof.Proof.Rms
public import proofs.«01_k».proof.Proof.Beta
public import proofs.«01_k».proof.Proof.Prep
public import proofs.«01_k».proof.Proof.Gen.Pre_finite_gate
public import proofs.«01_k».proof.Proof.Gen.Pre_finite_dybin
public import proofs.«01_k».proof.Proof.Gen.Pre_finite_dyain
public import proofs.«01_k».proof.Proof.Gen.Pre_finite_rproj
public import proofs.«01_k».proof.Proof.Gen.Pre_finite_dproj
public import proofs.«01_k».proof.Proof.Gen.Pre_finite_prep
public import Idealize.ShloMosaic.Adequacy
public import Idealize.ShloMosaic.Init

@[expose] public section

noncomputable section

namespace Cert.Proof

open Idealize.ShloMosaic Idealize.SL.Sem

theorem frame_Kernel : quiescent_Kernel := fun m ρ _ => Kernel.Gen.frame m ρ

theorem frame_KernelIdeal : quiescent_KernelIdeal := fun m ρ _ => KernelIdeal.Gen.frame m ρ

theorem frame_ReferenceIdeal : quiescent_ReferenceIdeal := fun m ρ _ =>
  (θ_run _ _ _).mono (fun r h => ⟨fun c => (h c).2.2.2.2, sem_eq_zero_of_no_sems (by decide) r.2⟩)
    (ReferenceIdeal.Value.run (F := Ideal) m ρ)

theorem frame_DactK : quiescent_DactK := fun m ρ _ => DactK.Gen.frame m ρ

theorem frame_DactKIdeal : quiescent_DactKIdeal := fun m ρ _ => DactKIdeal.Gen.frame m ρ

theorem frame_DactRIdeal : quiescent_DactRIdeal := fun m ρ _ =>
  (θ_run _ _ _).mono (fun r h => ⟨fun c => (h c).2, sem_eq_zero_of_no_sems (by decide) r.2⟩)
    (DactRIdeal.Value.run (F := Ideal) m ρ)

theorem frame_GupK : quiescent_GupK := fun m ρ _ => GupK.Gen.frame m ρ

theorem frame_GupKIdeal : quiescent_GupKIdeal := fun m ρ _ => GupKIdeal.Gen.frame m ρ

theorem frame_GupRIdeal : quiescent_GupRIdeal := fun m ρ _ =>
  (θ_run _ _ _).mono (fun r h => ⟨fun c => (h c).2, sem_eq_zero_of_no_sems (by decide) r.2⟩)
    (GupRIdeal.Value.run (F := Ideal) m ρ)

theorem frame_DuTwoK : quiescent_DuTwoK := fun m ρ _ => DuTwoK.Gen.frame m ρ

theorem frame_DuTwoKIdeal : quiescent_DuTwoKIdeal := fun m ρ _ => DuTwoKIdeal.Gen.frame m ρ

theorem frame_DuTwoRIdeal : quiescent_DuTwoRIdeal := fun m ρ _ =>
  (θ_run _ _ _).mono (fun r h => ⟨fun c => (h c).2, sem_eq_zero_of_no_sems (by decide) r.2⟩)
    (DuTwoRIdeal.Value.run (F := Ideal) m ρ)

theorem frame_GdownK : quiescent_GdownK := fun m ρ _ => GdownK.Gen.frame m ρ

theorem frame_GdownKIdeal : quiescent_GdownKIdeal := fun m ρ _ => GdownKIdeal.Gen.frame m ρ

theorem frame_GdownRIdeal : quiescent_GdownRIdeal := fun m ρ _ =>
  (θ_run _ _ _).mono (fun r h => ⟨fun c => (h c).2, sem_eq_zero_of_no_sems (by decide) r.2⟩)
    (GdownRIdeal.Value.run (F := Ideal) m ρ)

theorem frame_GoutK : quiescent_GoutK := fun m ρ _ => GoutK.Gen.frame m ρ

theorem frame_GoutKIdeal : quiescent_GoutKIdeal := fun m ρ _ => GoutKIdeal.Gen.frame m ρ

theorem frame_GoutRIdeal : quiescent_GoutRIdeal := fun m ρ _ =>
  (θ_run _ _ _).mono (fun r h => ⟨fun c => (h c).2, sem_eq_zero_of_no_sems (by decide) r.2⟩)
    (GoutRIdeal.Value.run (F := Ideal) m ρ)

theorem frame_GraK : quiescent_GraK := fun m ρ _ => GraK.Gen.frame m ρ

theorem frame_GraKIdeal : quiescent_GraKIdeal := fun m ρ _ => GraKIdeal.Gen.frame m ρ

theorem frame_GraRIdeal : quiescent_GraRIdeal := fun m ρ _ =>
  (θ_run _ _ _).mono (fun r h => ⟨fun c => (h c).2, sem_eq_zero_of_no_sems (by decide) r.2⟩)
    (GraRIdeal.Value.run (F := Ideal) m ρ)

theorem frame_UpK : quiescent_UpK := fun m ρ _ => UpK.Gen.frame m ρ

theorem frame_UpKIdeal : quiescent_UpKIdeal := fun m ρ _ => UpKIdeal.Gen.frame m ρ

theorem frame_UpRIdeal : quiescent_UpRIdeal := fun m ρ _ =>
  (θ_run _ _ _).mono (fun r h => ⟨fun c => (h c).2, sem_eq_zero_of_no_sems (by decide) r.2⟩)
    (UpRIdeal.Value.run (F := Ideal) m ρ)

theorem frame_InRwkvK : quiescent_InRwkvK := fun m ρ _ => InRwkvK.Gen.frame m ρ

theorem frame_InRwkvKIdeal : quiescent_InRwkvKIdeal := fun m ρ _ => InRwkvKIdeal.Gen.frame m ρ

theorem frame_InRwkvRIdeal : quiescent_InRwkvRIdeal := fun m ρ _ =>
  (θ_run _ _ _).mono (fun r h => ⟨fun c => (h c).2, sem_eq_zero_of_no_sems (by decide) r.2⟩)
    (InRwkvRIdeal.Value.run (F := Ideal) m ρ)

theorem frame_InQkvK : quiescent_InQkvK := fun m ρ _ => InQkvK.Gen.frame m ρ

theorem frame_InQkvKIdeal : quiescent_InQkvKIdeal := fun m ρ _ => InQkvKIdeal.Gen.frame m ρ

theorem frame_InQkvRIdeal : quiescent_InQkvRIdeal := fun m ρ _ =>
  (θ_run _ _ _).mono (fun r h => ⟨fun c => (h c).2, sem_eq_zero_of_no_sems (by decide) r.2⟩)
    (InQkvRIdeal.Value.run (F := Ideal) m ρ)

theorem frame_InZzK : quiescent_InZzK := fun m ρ _ => InZzK.Gen.frame m ρ

theorem frame_InZzKIdeal : quiescent_InZzKIdeal := fun m ρ _ => InZzKIdeal.Gen.frame m ρ

theorem frame_InZzRIdeal : quiescent_InZzRIdeal := fun m ρ _ =>
  (θ_run _ _ _).mono (fun r h => ⟨fun c => (h c).2, sem_eq_zero_of_no_sems (by decide) r.2⟩)
    (InZzRIdeal.Value.run (F := Ideal) m ρ)

theorem frame_InGatesK : quiescent_InGatesK := fun m ρ _ => InGatesK.Gen.frame m ρ

theorem frame_InGatesKIdeal : quiescent_InGatesKIdeal := fun m ρ _ => InGatesKIdeal.Gen.frame m ρ

theorem frame_InGatesRIdeal : quiescent_InGatesRIdeal := fun m ρ _ =>
  (θ_run _ _ _).mono (fun r h => ⟨fun c => (h c).2, sem_eq_zero_of_no_sems (by decide) r.2⟩)
    (InGatesRIdeal.Value.run (F := Ideal) m ρ)

theorem frame_InAbK : quiescent_InAbK := fun m ρ _ => InAbK.Gen.frame m ρ

theorem frame_InAbKIdeal : quiescent_InAbKIdeal := fun m ρ _ => InAbKIdeal.Gen.frame m ρ

theorem frame_InAbRIdeal : quiescent_InAbRIdeal := fun m ρ _ =>
  (θ_run _ _ _).mono (fun r h => ⟨fun c => (h c).2, sem_eq_zero_of_no_sems (by decide) r.2⟩)
    (InAbRIdeal.Value.run (F := Ideal) m ρ)

theorem frame_DuK : quiescent_DuK := fun m ρ _ => DuK.Gen.frame m ρ

theorem frame_DuKIdeal : quiescent_DuKIdeal := fun m ρ _ => DuKIdeal.Gen.frame m ρ

theorem frame_DuRIdeal : quiescent_DuRIdeal := fun m ρ _ =>
  (θ_run _ _ _).mono (fun r h => ⟨fun c => (h c).2, sem_eq_zero_of_no_sems (by decide) r.2⟩)
    (DuRIdeal.Value.run (F := Ideal) m ρ)

theorem frame_GwaK : quiescent_GwaK := fun m ρ _ => GwaK.Gen.frame m ρ

theorem frame_GwaKIdeal : quiescent_GwaKIdeal := fun m ρ _ => GwaKIdeal.Gen.frame m ρ

theorem frame_GwaRIdeal : quiescent_GwaRIdeal := fun m ρ _ =>
  (θ_run _ _ _).mono (fun r h => ⟨fun c => (h c).2.2, sem_eq_zero_of_no_sems (by decide) r.2⟩)
    (GwaRIdeal.Value.run (F := Ideal) m ρ)

theorem frame_GwbK : quiescent_GwbK := fun m ρ _ => GwbK.Gen.frame m ρ

theorem frame_GwbKIdeal : quiescent_GwbKIdeal := fun m ρ _ => GwbKIdeal.Gen.frame m ρ

theorem frame_GwbRIdeal : quiescent_GwbRIdeal := fun m ρ _ =>
  (θ_run _ _ _).mono (fun r h => ⟨fun c => (h c).2.2.2.2, sem_eq_zero_of_no_sems (by decide) r.2⟩)
    (GwbRIdeal.Value.run (F := Ideal) m ρ)

theorem frame_Norm1K : quiescent_Norm1K := fun m ρ _ => Norm1K.Gen.frame m ρ

theorem frame_Norm1KIdeal : quiescent_Norm1KIdeal := fun m ρ _ => Norm1KIdeal.Gen.frame m ρ

theorem frame_Norm1RIdeal : quiescent_Norm1RIdeal := fun m ρ _ =>
  (θ_run _ _ _).mono (fun r h => ⟨fun c => (h c).2.2, sem_eq_zero_of_no_sems (by decide) r.2⟩)
    (Norm1RIdeal.Value.run (F := Ideal) m ρ)

theorem frame_AdWinK : quiescent_AdWinK := fun m ρ _ => AdWinK.Gen.frame m ρ

theorem frame_AdWinKIdeal : quiescent_AdWinKIdeal := fun m ρ _ => AdWinKIdeal.Gen.frame m ρ

theorem frame_AdWinRIdeal : quiescent_AdWinRIdeal := fun m ρ _ =>
  (θ_run _ _ _).mono (fun r h => ⟨fun c => (h c).2.2.2.2, sem_eq_zero_of_no_sems (by decide) r.2⟩)
    (AdWinRIdeal.Value.run (F := Ideal) m ρ)

theorem frame_AdProjK : quiescent_AdProjK := fun m ρ _ => AdProjK.Gen.frame m ρ

theorem frame_AdProjKIdeal : quiescent_AdProjKIdeal := fun m ρ _ => AdProjKIdeal.Gen.frame m ρ

theorem frame_AdProjRIdeal : quiescent_AdProjRIdeal := fun m ρ _ =>
  (θ_run _ _ _).mono (fun r h => ⟨fun c => (h c).2.2.2.2, sem_eq_zero_of_no_sems (by decide) r.2⟩)
    (AdProjRIdeal.Value.run (F := Ideal) m ρ)

theorem frame_AdOutK : quiescent_AdOutK := fun m ρ _ => AdOutK.Gen.frame m ρ

theorem frame_AdOutKIdeal : quiescent_AdOutKIdeal := fun m ρ _ => AdOutKIdeal.Gen.frame m ρ

theorem frame_AdOutRIdeal : quiescent_AdOutRIdeal := fun m ρ _ =>
  (θ_run _ _ _).mono (fun r h => ⟨fun c => (h c).2.2.2.2, sem_eq_zero_of_no_sems (by decide) r.2⟩)
    (AdOutRIdeal.Value.run (F := Ideal) m ρ)

theorem frame_AdUpK : quiescent_AdUpK := fun m ρ _ => AdUpK.Gen.frame m ρ

theorem frame_AdUpKIdeal : quiescent_AdUpKIdeal := fun m ρ _ => AdUpKIdeal.Gen.frame m ρ

theorem frame_AdUpRIdeal : quiescent_AdUpRIdeal := fun m ρ _ =>
  (θ_run _ _ _).mono (fun r h => ⟨fun c => (h c).2.2.2.2, sem_eq_zero_of_no_sems (by decide) r.2⟩)
    (AdUpRIdeal.Value.run (F := Ideal) m ρ)

theorem frame_AdDownK : quiescent_AdDownK := fun m ρ _ => AdDownK.Gen.frame m ρ

theorem frame_AdDownKIdeal : quiescent_AdDownKIdeal := fun m ρ _ => AdDownKIdeal.Gen.frame m ρ

theorem frame_AdDownRIdeal : quiescent_AdDownRIdeal := fun m ρ _ =>
  (θ_run _ _ _).mono (fun r h => ⟨fun c => (h c).2.2.2.2, sem_eq_zero_of_no_sems (by decide) r.2⟩)
    (AdDownRIdeal.Value.run (F := Ideal) m ρ)

theorem frame_AdSmallK : quiescent_AdSmallK := fun m ρ _ => AdSmallK.Gen.frame m ρ

theorem frame_AdSmallKIdeal : quiescent_AdSmallKIdeal := fun m ρ _ => AdSmallKIdeal.Gen.frame m ρ

theorem frame_AdSmallRIdeal : quiescent_AdSmallRIdeal := fun m ρ _ =>
  (θ_run _ _ _).mono (fun r h => ⟨fun c => (h c).2.2.2.2, sem_eq_zero_of_no_sems (by decide) r.2⟩)
    (AdSmallRIdeal.Value.run (F := Ideal) m ρ)

theorem frame_FdownK : quiescent_FdownK := fun m ρ _ => FdownK.Gen.frame m ρ

theorem frame_FdownKIdeal : quiescent_FdownKIdeal := fun m ρ _ => FdownKIdeal.Gen.frame m ρ

theorem frame_FdownRIdeal : quiescent_FdownRIdeal := fun m ρ _ =>
  (θ_run _ _ _).mono (fun r h => ⟨fun c => (h c).2.2.2, sem_eq_zero_of_no_sems (by decide) r.2⟩)
    (FdownRIdeal.Value.run (F := Ideal) m ρ)

theorem frame_WoutK : quiescent_WoutK := fun m ρ _ => WoutK.Gen.frame m ρ

theorem frame_WoutKIdeal : quiescent_WoutKIdeal := fun m ρ _ => WoutKIdeal.Gen.frame m ρ

theorem frame_WoutRIdeal : quiescent_WoutRIdeal := fun m ρ _ =>
  (θ_run _ _ _).mono (fun r h => ⟨fun c => (h c).2.2, sem_eq_zero_of_no_sems (by decide) r.2⟩)
    (WoutRIdeal.Value.run (F := Ideal) m ρ)

theorem frame_GdgK : quiescent_GdgK := fun m ρ _ => GdgK.Gen.frame m ρ

theorem frame_GdgKIdeal : quiescent_GdgKIdeal := fun m ρ _ => GdgKIdeal.Gen.frame m ρ

theorem frame_GdgKIdeal_finite_gate : quiescent_GdgKIdeal_pre_finite_gate := fun m ρ _ => GdgKIdeal.Gen.frame m ρ

theorem frame_GdgRIdeal : quiescent_GdgRIdeal := fun m ρ _ =>
  (θ_run _ _ _).mono (fun r h => ⟨fun c => (h c).2.2.2, sem_eq_zero_of_no_sems (by decide) r.2⟩)
    (GdgRIdeal.Value.run (F := Ideal) m ρ)

theorem frame_GdgRIdeal_finite_gate : quiescent_GdgRIdeal_pre_finite_gate := fun m ρ _ => frame_GdgRIdeal m ρ trivial

theorem frame_GprepK : quiescent_GprepK := fun m ρ _ => GprepK.Gen.frame m ρ

theorem frame_GprepKIdeal : quiescent_GprepKIdeal := fun m ρ _ => GprepKIdeal.Gen.frame m ρ

theorem frame_GprepRIdeal : quiescent_GprepRIdeal := fun m ρ _ =>
  (θ_run _ _ _).mono (fun r h => ⟨fun c => (h c).2.2.2, sem_eq_zero_of_no_sems (by decide) r.2⟩)
    (GprepRIdeal.Value.run (F := Ideal) m ρ)

theorem frame_FactK : quiescent_FactK := fun m ρ _ => FactK.Gen.frame m ρ

theorem frame_FactKIdeal : quiescent_FactKIdeal := fun m ρ _ => FactKIdeal.Gen.frame m ρ

theorem frame_FactRIdeal : quiescent_FactRIdeal := fun m ρ _ =>
  (θ_run _ _ _).mono (fun r h => ⟨fun c => (h c).2, sem_eq_zero_of_no_sems (by decide) r.2⟩)
    (FactRIdeal.Value.run (F := Ideal) m ρ)

theorem frame_GdnK : quiescent_GdnK := fun m ρ _ => GdnK.Gen.frame m ρ

theorem frame_GdnKIdeal : quiescent_GdnKIdeal := fun m ρ _ => GdnKIdeal.Gen.frame m ρ

theorem frame_DybK : quiescent_DybK := fun m ρ _ => DybK.Gen.frame m ρ

theorem frame_DybKIdeal : quiescent_DybKIdeal := fun m ρ _ => DybKIdeal.Gen.frame m ρ

theorem frame_DybKIdeal_finite_dybin : quiescent_DybKIdeal_pre_finite_dybin := fun m ρ _ => DybKIdeal.Gen.frame m ρ

theorem frame_DybRIdeal : quiescent_DybRIdeal := fun m ρ _ =>
  (θ_run _ _ _).mono (fun r h => ⟨fun c => (h c).2.2.2, sem_eq_zero_of_no_sems (by decide) r.2⟩)
    (DybRIdeal.Value.run (F := Ideal) m ρ)

theorem frame_DybRIdeal_finite_dybin : quiescent_DybRIdeal_pre_finite_dybin := fun m ρ _ => frame_DybRIdeal m ρ trivial

theorem frame_DyaK : quiescent_DyaK := fun m ρ _ => DyaK.Gen.frame m ρ

theorem frame_DyaKIdeal : quiescent_DyaKIdeal := fun m ρ _ => DyaKIdeal.Gen.frame m ρ

theorem frame_DyaKIdeal_finite_dyain : quiescent_DyaKIdeal_pre_finite_dyain := fun m ρ _ => DyaKIdeal.Gen.frame m ρ

theorem frame_DyaRIdeal : quiescent_DyaRIdeal := fun m ρ _ =>
  (θ_run _ _ _).mono (fun r h => ⟨fun c => (h c).2.2.2.2.2.2.2.2, sem_eq_zero_of_no_sems (by decide) r.2⟩)
    (DyaRIdeal.Value.run (F := Ideal) m ρ)

theorem frame_DyaRIdeal_finite_dyain : quiescent_DyaRIdeal_pre_finite_dyain := fun m ρ _ => frame_DyaRIdeal m ρ trivial

theorem frame_RprojK : quiescent_RprojK := fun m ρ _ => RprojK.Gen.frame m ρ

theorem frame_RprojKIdeal : quiescent_RprojKIdeal := fun m ρ _ => RprojKIdeal.Gen.frame m ρ

theorem frame_RprojKIdeal_finite_rproj : quiescent_RprojKIdeal_pre_finite_rproj := fun m ρ _ => RprojKIdeal.Gen.frame m ρ

theorem frame_RprojRIdeal : quiescent_RprojRIdeal := fun m ρ _ =>
  (θ_run _ _ _).mono (fun r h => ⟨fun c => (h c).2.2, sem_eq_zero_of_no_sems (by decide) r.2⟩)
    (RprojRIdeal.Value.run (F := Ideal) m ρ)

theorem frame_RprojRIdeal_finite_rproj : quiescent_RprojRIdeal_pre_finite_rproj := fun m ρ _ => frame_RprojRIdeal m ρ trivial

theorem frame_DprojK : quiescent_DprojK := fun m ρ _ => DprojK.Gen.frame m ρ

theorem frame_DprojKIdeal : quiescent_DprojKIdeal := fun m ρ _ => DprojKIdeal.Gen.frame m ρ

theorem frame_DprojKIdeal_finite_dproj : quiescent_DprojKIdeal_pre_finite_dproj := fun m ρ _ => DprojKIdeal.Gen.frame m ρ

theorem frame_DprojRIdeal : quiescent_DprojRIdeal := fun m ρ _ =>
  (θ_run _ _ _).mono (fun r h => ⟨fun c => (h c).2.2.2, sem_eq_zero_of_no_sems (by decide) r.2⟩)
    (DprojRIdeal.Value.run (F := Ideal) m ρ)

theorem frame_DprojRIdeal_finite_dproj : quiescent_DprojRIdeal_pre_finite_dproj := fun m ρ _ => frame_DprojRIdeal m ρ trivial

theorem frame_RmsK : quiescent_RmsK := fun m ρ _ => RmsK.Gen.frame m ρ

theorem frame_RmsKIdeal : quiescent_RmsKIdeal := fun m ρ _ => RmsKIdeal.Gen.frame m ρ

theorem frame_RmsRIdeal : quiescent_RmsRIdeal := fun m ρ _ =>
  (θ_run _ _ _).mono (fun r h => ⟨fun c => (h c).2, sem_eq_zero_of_no_sems (by decide) r.2⟩)
    (RmsRIdeal.Value.run (F := Ideal) m ρ)

theorem frame_BetaK : quiescent_BetaK := fun m ρ _ => BetaK.Gen.frame m ρ

theorem frame_BetaKIdeal : quiescent_BetaKIdeal := fun m ρ _ => BetaKIdeal.Gen.frame m ρ

theorem frame_BetaRIdeal : quiescent_BetaRIdeal := fun m ρ _ =>
  (θ_run _ _ _).mono (fun r h => ⟨fun c => (h c).2, sem_eq_zero_of_no_sems (by decide) r.2⟩)
    (BetaRIdeal.Value.run (F := Ideal) m ρ)

theorem frame_PrepK : quiescent_PrepK := fun m ρ _ => PrepK.Gen.frame m ρ

theorem frame_PrepKIdeal : quiescent_PrepKIdeal := fun m ρ _ => PrepKIdeal.Gen.frame m ρ

theorem frame_PrepKIdeal_finite_prep : quiescent_PrepKIdeal_pre_finite_prep := fun m ρ _ => PrepKIdeal.Gen.frame m ρ

theorem frame_PrepRIdeal : quiescent_PrepRIdeal := fun m ρ _ =>
  (θ_run _ _ _).mono (fun r h => ⟨fun c => (h c).2.2.2.2.2.2.2, sem_eq_zero_of_no_sems (by decide) r.2⟩)
    (PrepRIdeal.Value.run (F := Ideal) m ρ)

theorem frame_PrepRIdeal_finite_prep : quiescent_PrepRIdeal_pre_finite_prep := fun m ρ _ => frame_PrepRIdeal m ρ trivial

theorem claim : Claim :=
  ⟨Kernel.Gen.facts, KernelIdeal.Gen.facts, ReferenceIdeal.Gen.facts, DactK.Gen.facts, DactKIdeal.Gen.facts, DactRIdeal.Gen.facts, GupK.Gen.facts, GupKIdeal.Gen.facts, GupRIdeal.Gen.facts, DuTwoK.Gen.facts, DuTwoKIdeal.Gen.facts, DuTwoRIdeal.Gen.facts, GdownK.Gen.facts, GdownKIdeal.Gen.facts, GdownRIdeal.Gen.facts, GoutK.Gen.facts, GoutKIdeal.Gen.facts, GoutRIdeal.Gen.facts, GraK.Gen.facts, GraKIdeal.Gen.facts, GraRIdeal.Gen.facts, UpK.Gen.facts, UpKIdeal.Gen.facts, UpRIdeal.Gen.facts, InRwkvK.Gen.facts, InRwkvKIdeal.Gen.facts, InRwkvRIdeal.Gen.facts, InQkvK.Gen.facts, InQkvKIdeal.Gen.facts, InQkvRIdeal.Gen.facts, InZzK.Gen.facts, InZzKIdeal.Gen.facts, InZzRIdeal.Gen.facts, InGatesK.Gen.facts, InGatesKIdeal.Gen.facts, InGatesRIdeal.Gen.facts, InAbK.Gen.facts, InAbKIdeal.Gen.facts, InAbRIdeal.Gen.facts, DuK.Gen.facts, DuKIdeal.Gen.facts, DuRIdeal.Gen.facts, GwaK.Gen.facts, GwaKIdeal.Gen.facts, GwaRIdeal.Gen.facts, GwbK.Gen.facts, GwbKIdeal.Gen.facts, GwbRIdeal.Gen.facts, Norm1K.Gen.facts, Norm1KIdeal.Gen.facts, Norm1RIdeal.Gen.facts, AdWinK.Gen.facts, AdWinKIdeal.Gen.facts, AdWinRIdeal.Gen.facts, AdProjK.Gen.facts, AdProjKIdeal.Gen.facts, AdProjRIdeal.Gen.facts, AdOutK.Gen.facts, AdOutKIdeal.Gen.facts, AdOutRIdeal.Gen.facts, AdUpK.Gen.facts, AdUpKIdeal.Gen.facts, AdUpRIdeal.Gen.facts, AdDownK.Gen.facts, AdDownKIdeal.Gen.facts, AdDownRIdeal.Gen.facts, AdSmallK.Gen.facts, AdSmallKIdeal.Gen.facts, AdSmallRIdeal.Gen.facts, FdownK.Gen.facts, FdownKIdeal.Gen.facts, FdownRIdeal.Gen.facts, WoutK.Gen.facts, WoutKIdeal.Gen.facts, WoutRIdeal.Gen.facts, GdgK.Gen.facts, GdgKIdeal.Gen.facts, GdgRIdeal.Gen.facts, GprepK.Gen.facts, GprepKIdeal.Gen.facts, GprepRIdeal.Gen.facts, FactK.Gen.facts, FactKIdeal.Gen.facts, FactRIdeal.Gen.facts, GdnK.Gen.facts, GdnKIdeal.Gen.facts, DybK.Gen.facts, DybKIdeal.Gen.facts, DybRIdeal.Gen.facts, DyaK.Gen.facts, DyaKIdeal.Gen.facts, DyaRIdeal.Gen.facts, RprojK.Gen.facts, RprojKIdeal.Gen.facts, RprojRIdeal.Gen.facts, DprojK.Gen.facts, DprojKIdeal.Gen.facts, DprojRIdeal.Gen.facts, RmsK.Gen.facts, RmsKIdeal.Gen.facts, RmsRIdeal.Gen.facts, BetaK.Gen.facts, BetaKIdeal.Gen.facts, BetaRIdeal.Gen.facts, PrepK.Gen.facts, PrepKIdeal.Gen.facts, PrepRIdeal.Gen.facts, Pre_finite_gate.Gen.facts, Pre_finite_dybin.Gen.facts, Pre_finite_dyain.Gen.facts, Pre_finite_rproj.Gen.facts, Pre_finite_dproj.Gen.facts, Pre_finite_prep.Gen.facts,
   frame_Kernel, frame_KernelIdeal, frame_ReferenceIdeal, frame_DactK, frame_DactKIdeal, frame_DactRIdeal, frame_GupK, frame_GupKIdeal, frame_GupRIdeal, frame_DuTwoK, frame_DuTwoKIdeal, frame_DuTwoRIdeal, frame_GdownK, frame_GdownKIdeal, frame_GdownRIdeal, frame_GoutK, frame_GoutKIdeal, frame_GoutRIdeal, frame_GraK, frame_GraKIdeal, frame_GraRIdeal, frame_UpK, frame_UpKIdeal, frame_UpRIdeal, frame_InRwkvK, frame_InRwkvKIdeal, frame_InRwkvRIdeal, frame_InQkvK, frame_InQkvKIdeal, frame_InQkvRIdeal, frame_InZzK, frame_InZzKIdeal, frame_InZzRIdeal, frame_InGatesK, frame_InGatesKIdeal, frame_InGatesRIdeal, frame_InAbK, frame_InAbKIdeal, frame_InAbRIdeal, frame_DuK, frame_DuKIdeal, frame_DuRIdeal, frame_GwaK, frame_GwaKIdeal, frame_GwaRIdeal, frame_GwbK, frame_GwbKIdeal, frame_GwbRIdeal, frame_Norm1K, frame_Norm1KIdeal, frame_Norm1RIdeal, frame_AdWinK, frame_AdWinKIdeal, frame_AdWinRIdeal, frame_AdProjK, frame_AdProjKIdeal, frame_AdProjRIdeal, frame_AdOutK, frame_AdOutKIdeal, frame_AdOutRIdeal, frame_AdUpK, frame_AdUpKIdeal, frame_AdUpRIdeal, frame_AdDownK, frame_AdDownKIdeal, frame_AdDownRIdeal, frame_AdSmallK, frame_AdSmallKIdeal, frame_AdSmallRIdeal, frame_FdownK, frame_FdownKIdeal, frame_FdownRIdeal, frame_WoutK, frame_WoutKIdeal, frame_WoutRIdeal, frame_GdgK, frame_GdgKIdeal, frame_GdgKIdeal_finite_gate, frame_GdgRIdeal, frame_GdgRIdeal_finite_gate, frame_GprepK, frame_GprepKIdeal, frame_GprepRIdeal, frame_FactK, frame_FactKIdeal, frame_FactRIdeal, frame_GdnK, frame_GdnKIdeal, frame_DybK, frame_DybKIdeal, frame_DybKIdeal_finite_dybin, frame_DybRIdeal, frame_DybRIdeal_finite_dybin, frame_DyaK, frame_DyaKIdeal, frame_DyaKIdeal_finite_dyain, frame_DyaRIdeal, frame_DyaRIdeal_finite_dyain, frame_RprojK, frame_RprojKIdeal, frame_RprojKIdeal_finite_rproj, frame_RprojRIdeal, frame_RprojRIdeal_finite_rproj, frame_DprojK, frame_DprojKIdeal, frame_DprojKIdeal_finite_dproj, frame_DprojRIdeal, frame_DprojRIdeal_finite_dproj, frame_RmsK, frame_RmsKIdeal, frame_RmsRIdeal, frame_BetaK, frame_BetaKIdeal, frame_BetaRIdeal, frame_PrepK, frame_PrepKIdeal, frame_PrepKIdeal_finite_prep, frame_PrepRIdeal, frame_PrepRIdeal_finite_prep,
   trivial, Mixed.algebraic, trivial, Dact.algebraic, trivial, Gup.algebraic, trivial, DuTwo.algebraic, trivial, Gdown.algebraic, trivial, Gout.algebraic, trivial, Gra.algebraic, trivial, Up.algebraic, trivial, InRwkv.algebraic, trivial, InQkv.algebraic, trivial, InZz.algebraic, trivial, InGates.algebraic, trivial, InAb.algebraic, trivial, Du.algebraic, trivial, Gwa.algebraic, trivial, Gwb.algebraic, trivial, Norm1.algebraic, ⟨IdealRules.named_const.statement _ _ _ _ _ rfl, IdealRules.named_const.statement _ _ _ _ _ rfl⟩, AdWin.algebraic, ⟨IdealRules.named_const.statement _ _ _ _ _ rfl, IdealRules.named_const.statement _ _ _ _ _ rfl⟩, AdProj.algebraic, ⟨IdealRules.named_const.statement _ _ _ _ _ rfl, IdealRules.named_const.statement _ _ _ _ _ rfl⟩, AdOut.algebraic, ⟨IdealRules.named_const.statement _ _ _ _ _ rfl, IdealRules.named_const.statement _ _ _ _ _ rfl⟩, AdUp.algebraic, ⟨IdealRules.named_const.statement _ _ _ _ _ rfl, IdealRules.named_const.statement _ _ _ _ _ rfl⟩, AdDown.algebraic, ⟨IdealRules.named_const.statement _ _ _ _ _ rfl, IdealRules.named_const.statement _ _ _ _ _ rfl⟩, AdSmall.algebraic, trivial, Fdown.algebraic, trivial, Wout.algebraic, trivial, Gdg.algebraic, trivial, Gprep.algebraic, trivial, Fact.algebraic, trivial, trivial, Dyb.algebraic, trivial, Dya.algebraic, trivial, Rproj.algebraic, trivial, Dproj.algebraic, trivial, Rms.algebraic, trivial, Beta.algebraic, trivial, Prep.algebraic⟩

end Cert.Proof

end
